-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_ffn_finite [hPre_ffn_finite : Cert.Pre_ffn_finite.Facts] (m : (ℓ : Loc Cert.DactIdeal.nD Cert.DactIdeal.τ Cert.DactIdeal.sig) → Buf (Elt Ideal) ℓ) : Prop :=
  ∀ c : Dev Cert.DactIdeal.nD,
    (Cert.Pre_ffn_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_ffn_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_ffn_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.1 = (fun _ => 1#1)
    ∧ (Cert.Pre_ffn_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_ffn_finite [hPre_ffn_finite : Cert.Pre_ffn_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_ffn_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_ffn_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_ffn_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.1 = (fun _ => 1#1)
    ∧ (Cert.Pre_ffn_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.2 = (fun _ => 1#1)

def Pre_Du2 (m : (ℓ : Loc Cert.Du2.nD Cert.Du2.τ Cert.Du2.sig) → Buf (Elt Bits) ℓ) : Prop :=
  True

def Pre_Du2Ideal (m : (ℓ : Loc Cert.Du2Ideal.nD Cert.Du2Ideal.τ Cert.Du2Ideal.sig) → Buf (Elt Ideal) ℓ) : Prop :=
  True

def Pre_Du2Ideal_du2_finite [hPre_du2_finite : Cert.Pre_du2_finite.Facts] (m : (ℓ : Loc Cert.Du2Ideal.nD Cert.Du2Ideal.τ Cert.Du2Ideal.sig) → Buf (Elt Ideal) ℓ) : Prop :=
  ∀ c : Dev Cert.Du2Ideal.nD,
    (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).1 = (fun _ => 1#1)
    ∧ (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).2.1 = (fun _ => 1#1)
    ∧ (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).2.2.1 = (fun _ => 1#1)
    ∧ (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).2.2.2.1 = (fun _ => 1#1)
    ∧ (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).2.2.2.2.1 = (fun _ => 1#1)
    ∧ (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).2.2.2.2.2.1 = (fun _ => 1#1)
    ∧ (Cert.Pre_du2_finite.fn (F := Ideal) (m ((c.tc : Thread Cert.Du2Ideal.nD Cert.Du2Ideal.τ).loc Cert.Du2Ideal.main_arg0)) (m ((c.tc : Thread Cert.Du2Ideal.nD Cert.Du2Ideal.τ).loc Cert.Du2Ideal.main_arg1)) (m ((c.tc : Thread Cert.Du2Ideal.nD Cert.Du2Ideal.τ).loc Cert.Du2Ideal.main_arg2)) (m ((c.tc : Thread Cert.Du2Ideal.nD Cert.Du2Ideal.τ).loc Cert.Du2Ideal.main_arg3)) (m ((c.tc : Thread Cert.Du2Ideal.nD Cert.Du2Ideal.τ).loc Cert.Du2Ideal.main_arg4)) (m ((c.tc : Thread Cert.Du2Ideal.nD Cert.Du2Ideal.τ).loc Cert.Du2Ideal.main_arg5)) (m ((c.tc : Thread Cert.Du2Ideal.nD Cert.Du2Ideal.τ).loc Cert.Du2Ideal.main_arg6))).2.2.2.2.2.2 = (fun _ => 1#1)

def Pre_Du2RefIdeal (m : (ℓ : Loc Cert.Du2RefIdeal.nD Cert.Du2RefIdeal.τ Cert.Du2RefIdeal.sig) → Buf (Elt Ideal) ℓ) : Prop :=
  True

def Pre_Du2RefIdeal_du2_finite [hPre_du2_finite : Cert.Pre_du2_finite.Facts] (m : (ℓ : Loc Cert.Du2RefIdeal.nD Cert.Du2RefIdeal.τ Cert.Du2RefIdeal.sig) → Buf (Elt Ideal) ℓ) : Prop :=
  ∀ c : Dev Cert.Du2RefIdeal.nD,
    (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).1 = (fun _ => 1#1)
    ∧ (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).2.1 = (fun _ => 1#1)
    ∧ (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).2.2.1 = (fun _ => 1#1)
    ∧ (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).2.2.2.1 = (fun _ => 1#1)
    ∧ (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).2.2.2.2.1 = (fun _ => 1#1)
    ∧ (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).2.2.2.2.2.1 = (fun _ => 1#1)
    ∧ (Cert.Pre_du2_finite.fn (F := Ideal) (m ((c.tc : Thread Cert.Du2RefIdeal.nD Cert.Du2RefIdeal.τ).loc Cert.Du2RefIdeal.main_arg0)) (m ((c.tc : Thread Cert.Du2RefIdeal.nD Cert.Du2RefIdeal.τ).loc Cert.Du2RefIdeal.main_arg1)) (m ((c.tc : Thread Cert.Du2RefIdeal.nD Cert.Du2RefIdeal.τ).loc Cert.Du2RefIdeal.main_arg2)) (m ((c.tc : Thread Cert.Du2RefIdeal.nD Cert.Du2RefIdeal.τ).loc Cert.Du2RefIdeal.main_arg3)) (m ((c.tc : Thread Cert.Du2RefIdeal.nD Cert.Du2RefIdeal.τ).loc Cert.Du2RefIdeal.main_arg4)) (m ((c.tc : Thread Cert.Du2RefIdeal.nD Cert.Du2RefIdeal.τ).loc Cert.Du2RefIdeal.main_arg5)) (m ((c.tc : Thread Cert.Du2RefIdeal.nD Cert.Du2RefIdeal.τ).loc Cert.Du2RefIdeal.main_arg6))).2.2.2.2.2.2 = (fun _ => 1#1)

def Pre_Du1 (m : (ℓ : Loc Cert.Du1.nD Cert.Du1.τ Cert.Du1.sig) → Buf (Elt Bits) ℓ) : Prop :=
  True

def Pre_Du1Ideal (m : (ℓ : Loc Cert.Du1Ideal.nD Cert.Du1Ideal.τ Cert.Du1Ideal.sig) → Buf (Elt Ideal) ℓ) : Prop :=
  True

def Pre_Du1Ideal_du1_finite [hPre_du1_finite : Cert.Pre_du1_finite.Facts] (m : (ℓ : Loc Cert.Du1Ideal.nD Cert.Du1Ideal.τ Cert.Du1Ideal.sig) → Buf (Elt Ideal) ℓ) : Prop :=
  ∀ c : Dev Cert.Du1Ideal.nD,
    (Cert.Pre_du1_finite.fn (F := Ideal) (m ((c.tc : Thread Cert.Du1Ideal.nD Cert.Du1Ideal.τ).loc Cert.Du1Ideal.main_arg0)) (m ((c.tc : Thread Cert.Du1Ideal.nD Cert.Du1Ideal.τ).loc Cert.Du1Ideal.main_arg1)) (m ((c.tc : Thread Cert.Du1Ideal.nD Cert.Du1Ideal.τ).loc Cert.Du1Ideal.main_arg2)) (m ((c.tc : Thread Cert.Du1Ideal.nD Cert.Du1Ideal.τ).loc Cert.Du1Ideal.main_arg3)) (m ((c.tc : Thread Cert.Du1Ideal.nD Cert.Du1Ideal.τ).loc Cert.Du1Ideal.main_arg4))).1 = (fun _ => 1#1)
    ∧ (Cert.Pre_du1_finite.fn (F := Ideal) (m ((c.tc : Thread Cert.Du1Ideal.nD Cert.Du1Ideal.τ).loc Cert.Du1Ideal.main_arg0)) (m ((c.tc : Thread Cert.Du1Ideal.nD Cert.Du1Ideal.τ).loc Cert.Du1Ideal.main_arg1)) (m ((c.tc : Thread Cert.Du1Ideal.nD Cert.Du1Ideal.τ).loc Cert.Du1Ideal.main_arg2)) (m ((c.tc : Thread Cert.Du1Ideal.nD Cert.Du1Ideal.τ).loc Cert.Du1Ideal.main_arg3)) (m ((c.tc : Thread Cert.Du1Ideal.nD Cert.Du1Ideal.τ).loc Cert.Du1Ideal.main_arg4))).2.1 = (fun _ => 1#1)
    ∧ (Cert.Pre_du1_finite.fn (F := Ideal) (m ((c.tc : Thread Cert.Du1Ideal.nD Cert.Du1Ideal.τ).loc Cert.Du1Ideal.main_arg0)) (m ((c.tc : Thread Cert.Du1Ideal.nD Cert.Du1Ideal.τ).loc Cert.Du1Ideal.main_arg1)) (m ((c.tc : Thread Cert.Du1Ideal.nD Cert.Du1Ideal.τ).loc Cert.Du1Ideal.main_arg2)) (m ((c.tc : Thread Cert.Du1Ideal.nD Cert.Du1Ideal.τ).loc Cert.Du1Ideal.main_arg3)) (m ((c.tc : Thread Cert.Du1Ideal.nD Cert.Du1Ideal.τ).loc Cert.Du1Ideal.main_arg4))).2.2.1 = (fun _ => 1#1)
    ∧ (Cert.Pre_du1_finite.fn (F := Ideal) (m ((c.tc : Thread Cert.Du1Ideal.nD Cert.Du1Ideal.τ).loc Cert.Du1Ideal.main_arg0)) (m ((c.tc : Thread Cert.Du1Ideal.nD Cert.Du1Ideal.τ).loc Cert.Du1Ideal.main_arg1)) (m ((c.tc : Thread Cert.Du1Ideal.nD Cert.Du1Ideal.τ).loc Cert.Du1Ideal.main_arg2)) (m ((c.tc : Thread Cert.Du1Ideal.nD Cert.Du1Ideal.τ).loc Cert.Du1Ideal.main_arg3)) (m ((c.tc : Thread Cert.Du1Ideal.nD Cert.Du1Ideal.τ).loc Cert.Du1Ideal.main_arg4))).2.2.2.1 = (fun _ => 1#1)
    ∧ (Cert.Pre_du1_finite.fn (F := Ideal) (m ((c.tc : Thread Cert.Du1Ideal.nD Cert.Du1Ideal.τ).loc Cert.Du1Ideal.main_arg0)) (m ((c.tc : Thread Cert.Du1Ideal.nD Cert.Du1Ideal.τ).loc Cert.Du1Ideal.main_arg1)) (m ((c.tc : Thread Cert.Du1Ideal.nD Cert.Du1Ideal.τ).loc Cert.Du1Ideal.main_arg2)) (m ((c.tc : Thread Cert.Du1Ideal.nD Cert.Du1Ideal.τ).loc Cert.Du1Ideal.main_arg3)) (m ((c.tc : Thread Cert.Du1Ideal.nD Cert.Du1Ideal.τ).loc Cert.Du1Ideal.main_arg4))).2.2.2.2 = (fun _ => 1#1)

def Pre_Du1RefIdeal (m : (ℓ : Loc Cert.Du1RefIdeal.nD Cert.Du1RefIdeal.τ Cert.Du1RefIdeal.sig) → Buf (Elt Ideal) ℓ) : Prop :=
  True

def Pre_Du1RefIdeal_du1_finite [hPre_du1_finite : Cert.Pre_du1_finite.Facts] (m : (ℓ : Loc Cert.Du1RefIdeal.nD Cert.Du1RefIdeal.τ Cert.Du1RefIdeal.sig) → Buf (Elt Ideal) ℓ) : Prop :=
  ∀ c : Dev Cert.Du1RefIdeal.nD,
    (Cert.Pre_du1_finite.fn (F := Ideal) (m ((c.tc : Thread Cert.Du1RefIdeal.nD Cert.Du1RefIdeal.τ).loc Cert.Du1RefIdeal.main_arg0)) (m ((c.tc : Thread Cert.Du1RefIdeal.nD Cert.Du1RefIdeal.τ).loc Cert.Du1RefIdeal.main_arg1)) (m ((c.tc : Thread Cert.Du1RefIdeal.nD Cert.Du1RefIdeal.τ).loc Cert.Du1RefIdeal.main_arg2)) (m ((c.tc : Thread Cert.Du1RefIdeal.nD Cert.Du1RefIdeal.τ).loc Cert.Du1RefIdeal.main_arg3)) (m ((c.tc : Thread Cert.Du1RefIdeal.nD Cert.Du1RefIdeal.τ).loc Cert.Du1RefIdeal.main_arg4))).1 = (fun _ => 1#1)
    ∧ (Cert.Pre_du1_finite.fn (F := Ideal) (m ((c.tc : Thread Cert.Du1RefIdeal.nD Cert.Du1RefIdeal.τ).loc Cert.Du1RefIdeal.main_arg0)) (m ((c.tc : Thread Cert.Du1RefIdeal.nD Cert.Du1RefIdeal.τ).loc Cert.Du1RefIdeal.main_arg1)) (m ((c.tc : Thread Cert.Du1RefIdeal.nD Cert.Du1RefIdeal.τ).loc Cert.Du1RefIdeal.main_arg2)) (m ((c.tc : Thread Cert.Du1RefIdeal.nD Cert.Du1RefIdeal.τ).loc Cert.Du1RefIdeal.main_arg3)) (m ((c.tc : Thread Cert.Du1RefIdeal.nD Cert.Du1RefIdeal.τ).loc Cert.Du1RefIdeal.main_arg4))).2.1 = (fun _ => 1#1)
    ∧ (Cert.Pre_du1_finite.fn (F := Ideal) (m ((c.tc : Thread Cert.Du1RefIdeal.nD Cert.Du1RefIdeal.τ).loc Cert.Du1RefIdeal.main_arg0)) (m ((c.tc : Thread Cert.Du1RefIdeal.nD Cert.Du1RefIdeal.τ).loc Cert.Du1RefIdeal.main_arg1)) (m ((c.tc : Thread Cert.Du1RefIdeal.nD Cert.Du1RefIdeal.τ).loc Cert.Du1RefIdeal.main_arg2)) (m ((c.tc : Thread Cert.Du1RefIdeal.nD Cert.Du1RefIdeal.τ).loc Cert.Du1RefIdeal.main_arg3)) (m ((c.tc : Thread Cert.Du1RefIdeal.nD Cert.Du1RefIdeal.τ).loc Cert.Du1RefIdeal.main_arg4))).2.2.1 = (fun _ => 1#1)
    ∧ (Cert.Pre_du1_finite.fn (F := Ideal) (m ((c.tc : Thread Cert.Du1RefIdeal.nD Cert.Du1RefIdeal.τ).loc Cert.Du1RefIdeal.main_arg0)) (m ((c.tc : Thread Cert.Du1RefIdeal.nD Cert.Du1RefIdeal.τ).loc Cert.Du1RefIdeal.main_arg1)) (m ((c.tc : Thread Cert.Du1RefIdeal.nD Cert.Du1RefIdeal.τ).loc Cert.Du1RefIdeal.main_arg2)) (m ((c.tc : Thread Cert.Du1RefIdeal.nD Cert.Du1RefIdeal.τ).loc Cert.Du1RefIdeal.main_arg3)) (m ((c.tc : Thread Cert.Du1RefIdeal.nD Cert.Du1RefIdeal.τ).loc Cert.Du1RefIdeal.main_arg4))).2.2.2.1 = (fun _ => 1#1)
    ∧ (Cert.Pre_du1_finite.fn (F := Ideal) (m ((c.tc : Thread Cert.Du1RefIdeal.nD Cert.Du1RefIdeal.τ).loc Cert.Du1RefIdeal.main_arg0)) (m ((c.tc : Thread Cert.Du1RefIdeal.nD Cert.Du1RefIdeal.τ).loc Cert.Du1RefIdeal.main_arg1)) (m ((c.tc : Thread Cert.Du1RefIdeal.nD Cert.Du1RefIdeal.τ).loc Cert.Du1RefIdeal.main_arg2)) (m ((c.tc : Thread Cert.Du1RefIdeal.nD Cert.Du1RefIdeal.τ).loc Cert.Du1RefIdeal.main_arg3)) (m ((c.tc : Thread Cert.Du1RefIdeal.nD Cert.Du1RefIdeal.τ).loc Cert.Du1RefIdeal.main_arg4))).2.2.2.2 = (fun _ => 1#1)

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgRefIdeal (m : (ℓ : Loc Cert.DwgRefIdeal.nD Cert.DwgRefIdeal.τ Cert.DwgRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwpg (m : (ℓ : Loc Cert.Dwpg.nD Cert.Dwpg.τ Cert.Dwpg.sig) → Buf (Elt Bits) ℓ) : Prop :=
  True

def Pre_DwpgIdeal (m : (ℓ : Loc Cert.DwpgIdeal.nD Cert.DwpgIdeal.τ Cert.DwpgIdeal.sig) → Buf (Elt Ideal) ℓ) : Prop :=
  True

def Pre_DwpgRefIdeal (m : (ℓ : Loc Cert.DwpgRefIdeal.nD Cert.DwpgRefIdeal.τ Cert.DwpgRefIdeal.sig) → Buf (Elt Ideal) ℓ) : Prop :=
  True

def Pre_Du3 (m : (ℓ : Loc Cert.Du3.nD Cert.Du3.τ Cert.Du3.sig) → Buf (Elt Bits) ℓ) : Prop :=
  True

def Pre_Du3Ideal (m : (ℓ : Loc Cert.Du3Ideal.nD Cert.Du3Ideal.τ Cert.Du3Ideal.sig) → Buf (Elt Ideal) ℓ) : Prop :=
  True

def Pre_Du3Ideal_du3_finite [hPre_du3_finite : Cert.Pre_du3_finite.Facts] (m : (ℓ : Loc Cert.Du3Ideal.nD Cert.Du3Ideal.τ Cert.Du3Ideal.sig) → Buf (Elt Ideal) ℓ) : Prop :=
  ∀ c : Dev Cert.Du3Ideal.nD,
    (Cert.Pre_du3_finite.fn (F := Ideal) (m ((c.tc : Thread Cert.Du3Ideal.nD Cert.Du3Ideal.τ).loc Cert.Du3Ideal.main_arg0)) (m ((c.tc : Thread Cert.Du3Ideal.nD Cert.Du3Ideal.τ).loc Cert.Du3Ideal.main_arg1)) (m ((c.tc : Thread Cert.Du3Ideal.nD Cert.Du3Ideal.τ).loc Cert.Du3Ideal.main_arg2)) (m ((c.tc : Thread Cert.Du3Ideal.nD Cert.Du3Ideal.τ).loc Cert.Du3Ideal.main_arg3)) (m ((c.tc : Thread Cert.Du3Ideal.nD Cert.Du3Ideal.τ).loc Cert.Du3Ideal.main_arg4))).1 = (fun _ => 1#1)
    ∧ (Cert.Pre_du3_finite.fn (F := Ideal) (m ((c.tc : Thread Cert.Du3Ideal.nD Cert.Du3Ideal.τ).loc Cert.Du3Ideal.main_arg0)) (m ((c.tc : Thread Cert.Du3Ideal.nD Cert.Du3Ideal.τ).loc Cert.Du3Ideal.main_arg1)) (m ((c.tc : Thread Cert.Du3Ideal.nD Cert.Du3Ideal.τ).loc Cert.Du3Ideal.main_arg2)) (m ((c.tc : Thread Cert.Du3Ideal.nD Cert.Du3Ideal.τ).loc Cert.Du3Ideal.main_arg3)) (m ((c.tc : Thread Cert.Du3Ideal.nD Cert.Du3Ideal.τ).loc Cert.Du3Ideal.main_arg4))).2.1 = (fun _ => 1#1)
    ∧ (Cert.Pre_du3_finite.fn (F := Ideal) (m ((c.tc : Thread Cert.Du3Ideal.nD Cert.Du3Ideal.τ).loc Cert.Du3Ideal.main_arg0)) (m ((c.tc : Thread Cert.Du3Ideal.nD Cert.Du3Ideal.τ).loc Cert.Du3Ideal.main_arg1)) (m ((c.tc : Thread Cert.Du3Ideal.nD Cert.Du3Ideal.τ).loc Cert.Du3Ideal.main_arg2)) (m ((c.tc : Thread Cert.Du3Ideal.nD Cert.Du3Ideal.τ).loc Cert.Du3Ideal.main_arg3)) (m ((c.tc : Thread Cert.Du3Ideal.nD Cert.Du3Ideal.τ).loc Cert.Du3Ideal.main_arg4))).2.2.1 = (fun _ => 1#1)
    ∧ (Cert.Pre_du3_finite.fn (F := Ideal) (m ((c.tc : Thread Cert.Du3Ideal.nD Cert.Du3Ideal.τ).loc Cert.Du3Ideal.main_arg0)) (m ((c.tc : Thread Cert.Du3Ideal.nD Cert.Du3Ideal.τ).loc Cert.Du3Ideal.main_arg1)) (m ((c.tc : Thread Cert.Du3Ideal.nD Cert.Du3Ideal.τ).loc Cert.Du3Ideal.main_arg2)) (m ((c.tc : Thread Cert.Du3Ideal.nD Cert.Du3Ideal.τ).loc Cert.Du3Ideal.main_arg3)) (m ((c.tc : Thread Cert.Du3Ideal.nD Cert.Du3Ideal.τ).loc Cert.Du3Ideal.main_arg4))).2.2.2.1 = (fun _ => 1#1)
    ∧ (Cert.Pre_du3_finite.fn (F := Ideal) (m ((c.tc : Thread Cert.Du3Ideal.nD Cert.Du3Ideal.τ).loc Cert.Du3Ideal.main_arg0)) (m ((c.tc : Thread Cert.Du3Ideal.nD Cert.Du3Ideal.τ).loc Cert.Du3Ideal.main_arg1)) (m ((c.tc : Thread Cert.Du3Ideal.nD Cert.Du3Ideal.τ).loc Cert.Du3Ideal.main_arg2)) (m ((c.tc : Thread Cert.Du3Ideal.nD Cert.Du3Ideal.τ).loc Cert.Du3Ideal.main_arg3)) (m ((c.tc : Thread Cert.Du3Ideal.nD Cert.Du3Ideal.τ).loc Cert.Du3Ideal.main_arg4))).2.2.2.2 = (fun _ => 1#1)

def Pre_Du3RefIdeal (m : (ℓ : Loc Cert.Du3RefIdeal.nD Cert.Du3RefIdeal.τ Cert.Du3RefIdeal.sig) → Buf (Elt Ideal) ℓ) : Prop :=
  True

def Pre_Du3RefIdeal_du3_finite [hPre_du3_finite : Cert.Pre_du3_finite.Facts] (m : (ℓ : Loc Cert.Du3RefIdeal.nD Cert.Du3RefIdeal.τ Cert.Du3RefIdeal.sig) → Buf (Elt Ideal) ℓ) : Prop :=
  ∀ c : Dev Cert.Du3RefIdeal.nD,
    (Cert.Pre_du3_finite.fn (F := Ideal) (m ((c.tc : Thread Cert.Du3RefIdeal.nD Cert.Du3RefIdeal.τ).loc Cert.Du3RefIdeal.main_arg0)) (m ((c.tc : Thread Cert.Du3RefIdeal.nD Cert.Du3RefIdeal.τ).loc Cert.Du3RefIdeal.main_arg1)) (m ((c.tc : Thread Cert.Du3RefIdeal.nD Cert.Du3RefIdeal.τ).loc Cert.Du3RefIdeal.main_arg2)) (m ((c.tc : Thread Cert.Du3RefIdeal.nD Cert.Du3RefIdeal.τ).loc Cert.Du3RefIdeal.main_arg3)) (m ((c.tc : Thread Cert.Du3RefIdeal.nD Cert.Du3RefIdeal.τ).loc Cert.Du3RefIdeal.main_arg4))).1 = (fun _ => 1#1)
    ∧ (Cert.Pre_du3_finite.fn (F := Ideal) (m ((c.tc : Thread Cert.Du3RefIdeal.nD Cert.Du3RefIdeal.τ).loc Cert.Du3RefIdeal.main_arg0)) (m ((c.tc : Thread Cert.Du3RefIdeal.nD Cert.Du3RefIdeal.τ).loc Cert.Du3RefIdeal.main_arg1)) (m ((c.tc : Thread Cert.Du3RefIdeal.nD Cert.Du3RefIdeal.τ).loc Cert.Du3RefIdeal.main_arg2)) (m ((c.tc : Thread Cert.Du3RefIdeal.nD Cert.Du3RefIdeal.τ).loc Cert.Du3RefIdeal.main_arg3)) (m ((c.tc : Thread Cert.Du3RefIdeal.nD Cert.Du3RefIdeal.τ).loc Cert.Du3RefIdeal.main_arg4))).2.1 = (fun _ => 1#1)
    ∧ (Cert.Pre_du3_finite.fn (F := Ideal) (m ((c.tc : Thread Cert.Du3RefIdeal.nD Cert.Du3RefIdeal.τ).loc Cert.Du3RefIdeal.main_arg0)) (m ((c.tc : Thread Cert.Du3RefIdeal.nD Cert.Du3RefIdeal.τ).loc Cert.Du3RefIdeal.main_arg1)) (m ((c.tc : Thread Cert.Du3RefIdeal.nD Cert.Du3RefIdeal.τ).loc Cert.Du3RefIdeal.main_arg2)) (m ((c.tc : Thread Cert.Du3RefIdeal.nD Cert.Du3RefIdeal.τ).loc Cert.Du3RefIdeal.main_arg3)) (m ((c.tc : Thread Cert.Du3RefIdeal.nD Cert.Du3RefIdeal.τ).loc Cert.Du3RefIdeal.main_arg4))).2.2.1 = (fun _ => 1#1)
    ∧ (Cert.Pre_du3_finite.fn (F := Ideal) (m ((c.tc : Thread Cert.Du3RefIdeal.nD Cert.Du3RefIdeal.τ).loc Cert.Du3RefIdeal.main_arg0)) (m ((c.tc : Thread Cert.Du3RefIdeal.nD Cert.Du3RefIdeal.τ).loc Cert.Du3RefIdeal.main_arg1)) (m ((c.tc : Thread Cert.Du3RefIdeal.nD Cert.Du3RefIdeal.τ).loc Cert.Du3RefIdeal.main_arg2)) (m ((c.tc : Thread Cert.Du3RefIdeal.nD Cert.Du3RefIdeal.τ).loc Cert.Du3RefIdeal.main_arg3)) (m ((c.tc : Thread Cert.Du3RefIdeal.nD Cert.Du3RefIdeal.τ).loc Cert.Du3RefIdeal.main_arg4))).2.2.2.1 = (fun _ => 1#1)
    ∧ (Cert.Pre_du3_finite.fn (F := Ideal) (m ((c.tc : Thread Cert.Du3RefIdeal.nD Cert.Du3RefIdeal.τ).loc Cert.Du3RefIdeal.main_arg0)) (m ((c.tc : Thread Cert.Du3RefIdeal.nD Cert.Du3RefIdeal.τ).loc Cert.Du3RefIdeal.main_arg1)) (m ((c.tc : Thread Cert.Du3RefIdeal.nD Cert.Du3RefIdeal.τ).loc Cert.Du3RefIdeal.main_arg2)) (m ((c.tc : Thread Cert.Du3RefIdeal.nD Cert.Du3RefIdeal.τ).loc Cert.Du3RefIdeal.main_arg3)) (m ((c.tc : Thread Cert.Du3RefIdeal.nD Cert.Du3RefIdeal.τ).loc Cert.Du3RefIdeal.main_arg4))).2.2.2.2 = (fun _ => 1#1)

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_DycatRefIdeal (m : (ℓ : Loc Cert.DycatRefIdeal.nD Cert.DycatRefIdeal.τ Cert.DycatRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pg (m : (ℓ : Loc Cert.Pg.nD Cert.Pg.τ Cert.Pg.sig) → Buf (Elt Bits) ℓ) : Prop :=
  True

def Pre_PgIdeal (m : (ℓ : Loc Cert.PgIdeal.nD Cert.PgIdeal.τ Cert.PgIdeal.sig) → Buf (Elt Ideal) ℓ) : Prop :=
  True

def Pre_PgRefIdeal (m : (ℓ : Loc Cert.PgRefIdeal.nD Cert.PgRefIdeal.τ Cert.PgRefIdeal.sig) → Buf (Elt Ideal) ℓ) : Prop :=
  True

def Pre_Dwpp (m : (ℓ : Loc Cert.Dwpp.nD Cert.Dwpp.τ Cert.Dwpp.sig) → Buf (Elt Bits) ℓ) : Prop :=
  True

def Pre_DwppIdeal (m : (ℓ : Loc Cert.DwppIdeal.nD Cert.DwppIdeal.τ Cert.DwppIdeal.sig) → Buf (Elt Ideal) ℓ) : Prop :=
  True

def Pre_DwppRefIdeal (m : (ℓ : Loc Cert.DwppRefIdeal.nD Cert.DwppRefIdeal.τ Cert.DwppRefIdeal.sig) → Buf (Elt Ideal) ℓ) : Prop :=
  True

def Pre_Pp (m : (ℓ : Loc Cert.Pp.nD Cert.Pp.τ Cert.Pp.sig) → Buf (Elt Bits) ℓ) : Prop :=
  True

def Pre_PpIdeal (m : (ℓ : Loc Cert.PpIdeal.nD Cert.PpIdeal.τ Cert.PpIdeal.sig) → Buf (Elt Ideal) ℓ) : Prop :=
  True

def Pre_PpRefIdeal (m : (ℓ : Loc Cert.PpRefIdeal.nD Cert.PpRefIdeal.τ Cert.PpRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Dconv (m : (ℓ : Loc Cert.Dconv.nD Cert.Dconv.τ Cert.Dconv.sig) → Buf (Elt Bits) ℓ) : Prop :=
  True

def Pre_DconvIdeal (m : (ℓ : Loc Cert.DconvIdeal.nD Cert.DconvIdeal.τ Cert.DconvIdeal.sig) → Buf (Elt Ideal) ℓ) : Prop :=
  True

def Pre_DconvRefIdeal (m : (ℓ : Loc Cert.DconvRefIdeal.nD Cert.DconvRefIdeal.τ Cert.DconvRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_ffn_finite [hDactIdeal : Cert.DactIdeal.Facts] [hPre_ffn_finite : Cert.Pre_ffn_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_ffn_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_ffn_finite [hDactRefIdeal : Cert.DactRefIdeal.Facts] [hPre_ffn_finite : Cert.Pre_ffn_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_ffn_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Du2 [hDu2 : Cert.Du2.Facts] : Prop :=
  ∀ (m : (ℓ : Loc Cert.Du2.nD Cert.Du2.τ Cert.Du2.sig) → Buf (Elt Bits) ℓ) (g : Dev Cert.Du2.nD → PrngReg), Pre_Du2 m →
    θ_run (Cert.Du2.defs (F := Bits)) (onTc (τ := Cert.Du2.τ) (Cert.Du2.main (F := Bits))) ⟨m, fun _ => 0, g⟩ (fun r => (∀ c : Dev Cert.Du2.nD,
      r.2.mem ((c.tc : Thread Cert.Du2.nD Cert.Du2.τ).loc Cert.Du2.main_arg0) = m ((c.tc : Thread Cert.Du2.nD Cert.Du2.τ).loc Cert.Du2.main_arg0)
      ∧ r.2.mem ((c.tc : Thread Cert.Du2.nD Cert.Du2.τ).loc Cert.Du2.main_arg1) = m ((c.tc : Thread Cert.Du2.nD Cert.Du2.τ).loc Cert.Du2.main_arg1)
      ∧ r.2.mem ((c.tc : Thread Cert.Du2.nD Cert.Du2.τ).loc Cert.Du2.main_arg2) = m ((c.tc : Thread Cert.Du2.nD Cert.Du2.τ).loc Cert.Du2.main_arg2)
      ∧ r.2.mem ((c.tc : Thread Cert.Du2.nD Cert.Du2.τ).loc Cert.Du2.main_arg3) = m ((c.tc : Thread Cert.Du2.nD Cert.Du2.τ).loc Cert.Du2.main_arg3)
      ∧ r.2.mem ((c.tc : Thread Cert.Du2.nD Cert.Du2.τ).loc Cert.Du2.main_arg4) = m ((c.tc : Thread Cert.Du2.nD Cert.Du2.τ).loc Cert.Du2.main_arg4)
      ∧ r.2.mem ((c.tc : Thread Cert.Du2.nD Cert.Du2.τ).loc Cert.Du2.main_arg5) = m ((c.tc : Thread Cert.Du2.nD Cert.Du2.τ).loc Cert.Du2.main_arg5)
      ∧ r.2.mem ((c.tc : Thread Cert.Du2.nD Cert.Du2.τ).loc Cert.Du2.main_arg6) = m ((c.tc : Thread Cert.Du2.nD Cert.Du2.τ).loc Cert.Du2.main_arg6))
      ∧ r.2.sem = fun _ => 0)

def quiescent_Du2Ideal [hDu2Ideal : Cert.Du2Ideal.Facts] : Prop :=
  ∀ (m : (ℓ : Loc Cert.Du2Ideal.nD Cert.Du2Ideal.τ Cert.Du2Ideal.sig) → Buf (Elt Ideal) ℓ) (g : Dev Cert.Du2Ideal.nD → PrngReg), Pre_Du2Ideal m →
    θ_run (Cert.Du2Ideal.defs (F := Ideal)) (onTc (τ := Cert.Du2Ideal.τ) (Cert.Du2Ideal.main (F := Ideal))) ⟨m, fun _ => 0, g⟩ (fun r => (∀ c : Dev Cert.Du2Ideal.nD,
      r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
      ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
      ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2)
      ∧ r.2.mem ((c.tc : Thread Cert.Du2Ideal.nD Cert.Du2Ideal.τ).loc Cert.Du2Ideal.main_arg3) = m ((c.tc : Thread Cert.Du2Ideal.nD Cert.Du2Ideal.τ).loc Cert.Du2Ideal.main_arg3)
      ∧ r.2.mem ((c.tc : Thread Cert.Du2Ideal.nD Cert.Du2Ideal.τ).loc Cert.Du2Ideal.main_arg4) = m ((c.tc : Thread Cert.Du2Ideal.nD Cert.Du2Ideal.τ).loc Cert.Du2Ideal.main_arg4)
      ∧ r.2.mem ((c.tc : Thread Cert.Du2Ideal.nD Cert.Du2Ideal.τ).loc Cert.Du2Ideal.main_arg5) = m ((c.tc : Thread Cert.Du2Ideal.nD Cert.Du2Ideal.τ).loc Cert.Du2Ideal.main_arg5)
      ∧ r.2.mem ((c.tc : Thread Cert.Du2Ideal.nD Cert.Du2Ideal.τ).loc Cert.Du2Ideal.main_arg6) = m ((c.tc : Thread Cert.Du2Ideal.nD Cert.Du2Ideal.τ).loc Cert.Du2Ideal.main_arg6))
      ∧ r.2.sem = fun _ => 0)

def quiescent_Du2Ideal_pre_du2_finite [hDu2Ideal : Cert.Du2Ideal.Facts] [hPre_du2_finite : Cert.Pre_du2_finite.Facts] : Prop :=
  ∀ (m : (ℓ : Loc Cert.Du2Ideal.nD Cert.Du2Ideal.τ Cert.Du2Ideal.sig) → Buf (Elt Ideal) ℓ) (g : Dev Cert.Du2Ideal.nD → PrngReg), Pre_Du2Ideal_du2_finite m →
    θ_run (Cert.Du2Ideal.defs (F := Ideal)) (onTc (τ := Cert.Du2Ideal.τ) (Cert.Du2Ideal.main (F := Ideal))) ⟨m, fun _ => 0, g⟩ (fun r => (∀ c : Dev Cert.Du2Ideal.nD,
      r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
      ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
      ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2)
      ∧ r.2.mem ((c.tc : Thread Cert.Du2Ideal.nD Cert.Du2Ideal.τ).loc Cert.Du2Ideal.main_arg3) = m ((c.tc : Thread Cert.Du2Ideal.nD Cert.Du2Ideal.τ).loc Cert.Du2Ideal.main_arg3)
      ∧ r.2.mem ((c.tc : Thread Cert.Du2Ideal.nD Cert.Du2Ideal.τ).loc Cert.Du2Ideal.main_arg4) = m ((c.tc : Thread Cert.Du2Ideal.nD Cert.Du2Ideal.τ).loc Cert.Du2Ideal.main_arg4)
      ∧ r.2.mem ((c.tc : Thread Cert.Du2Ideal.nD Cert.Du2Ideal.τ).loc Cert.Du2Ideal.main_arg5) = m ((c.tc : Thread Cert.Du2Ideal.nD Cert.Du2Ideal.τ).loc Cert.Du2Ideal.main_arg5)
      ∧ r.2.mem ((c.tc : Thread Cert.Du2Ideal.nD Cert.Du2Ideal.τ).loc Cert.Du2Ideal.main_arg6) = m ((c.tc : Thread Cert.Du2Ideal.nD Cert.Du2Ideal.τ).loc Cert.Du2Ideal.main_arg6))
      ∧ r.2.sem = fun _ => 0)

def quiescent_Du2RefIdeal [hDu2RefIdeal : Cert.Du2RefIdeal.Facts] : Prop :=
  ∀ (m : (ℓ : Loc Cert.Du2RefIdeal.nD Cert.Du2RefIdeal.τ Cert.Du2RefIdeal.sig) → Buf (Elt Ideal) ℓ) (g : Dev Cert.Du2RefIdeal.nD → PrngReg), Pre_Du2RefIdeal m →
    θ_run (Cert.Du2RefIdeal.defs (F := Ideal)) (onTc (τ := Cert.Du2RefIdeal.τ) (Cert.Du2RefIdeal.main (F := Ideal))) ⟨m, fun _ => 0, g⟩ (fun r => (∀ c : Dev Cert.Du2RefIdeal.nD,
      r.2.mem ((c.tc : Thread Cert.Du2RefIdeal.nD Cert.Du2RefIdeal.τ).loc Cert.Du2RefIdeal.main_arg0) = m ((c.tc : Thread Cert.Du2RefIdeal.nD Cert.Du2RefIdeal.τ).loc Cert.Du2RefIdeal.main_arg0)
      ∧ r.2.mem ((c.tc : Thread Cert.Du2RefIdeal.nD Cert.Du2RefIdeal.τ).loc Cert.Du2RefIdeal.main_arg1) = m ((c.tc : Thread Cert.Du2RefIdeal.nD Cert.Du2RefIdeal.τ).loc Cert.Du2RefIdeal.main_arg1)
      ∧ r.2.mem ((c.tc : Thread Cert.Du2RefIdeal.nD Cert.Du2RefIdeal.τ).loc Cert.Du2RefIdeal.main_arg2) = m ((c.tc : Thread Cert.Du2RefIdeal.nD Cert.Du2RefIdeal.τ).loc Cert.Du2RefIdeal.main_arg2)
      ∧ r.2.mem ((c.tc : Thread Cert.Du2RefIdeal.nD Cert.Du2RefIdeal.τ).loc Cert.Du2RefIdeal.main_arg3) = m ((c.tc : Thread Cert.Du2RefIdeal.nD Cert.Du2RefIdeal.τ).loc Cert.Du2RefIdeal.main_arg3)
      ∧ r.2.mem ((c.tc : Thread Cert.Du2RefIdeal.nD Cert.Du2RefIdeal.τ).loc Cert.Du2RefIdeal.main_arg4) = m ((c.tc : Thread Cert.Du2RefIdeal.nD Cert.Du2RefIdeal.τ).loc Cert.Du2RefIdeal.main_arg4)
      ∧ r.2.mem ((c.tc : Thread Cert.Du2RefIdeal.nD Cert.Du2RefIdeal.τ).loc Cert.Du2RefIdeal.main_arg5) = m ((c.tc : Thread Cert.Du2RefIdeal.nD Cert.Du2RefIdeal.τ).loc Cert.Du2RefIdeal.main_arg5)
      ∧ r.2.mem ((c.tc : Thread Cert.Du2RefIdeal.nD Cert.Du2RefIdeal.τ).loc Cert.Du2RefIdeal.main_arg6) = m ((c.tc : Thread Cert.Du2RefIdeal.nD Cert.Du2RefIdeal.τ).loc Cert.Du2RefIdeal.main_arg6))
      ∧ r.2.sem = fun _ => 0)

def quiescent_Du2RefIdeal_pre_du2_finite [hDu2RefIdeal : Cert.Du2RefIdeal.Facts] [hPre_du2_finite : Cert.Pre_du2_finite.Facts] : Prop :=
  ∀ (m : (ℓ : Loc Cert.Du2RefIdeal.nD Cert.Du2RefIdeal.τ Cert.Du2RefIdeal.sig) → Buf (Elt Ideal) ℓ) (g : Dev Cert.Du2RefIdeal.nD → PrngReg), Pre_Du2RefIdeal_du2_finite m →
    θ_run (Cert.Du2RefIdeal.defs (F := Ideal)) (onTc (τ := Cert.Du2RefIdeal.τ) (Cert.Du2RefIdeal.main (F := Ideal))) ⟨m, fun _ => 0, g⟩ (fun r => (∀ c : Dev Cert.Du2RefIdeal.nD,
      r.2.mem ((c.tc : Thread Cert.Du2RefIdeal.nD Cert.Du2RefIdeal.τ).loc Cert.Du2RefIdeal.main_arg0) = m ((c.tc : Thread Cert.Du2RefIdeal.nD Cert.Du2RefIdeal.τ).loc Cert.Du2RefIdeal.main_arg0)
      ∧ r.2.mem ((c.tc : Thread Cert.Du2RefIdeal.nD Cert.Du2RefIdeal.τ).loc Cert.Du2RefIdeal.main_arg1) = m ((c.tc : Thread Cert.Du2RefIdeal.nD Cert.Du2RefIdeal.τ).loc Cert.Du2RefIdeal.main_arg1)
      ∧ r.2.mem ((c.tc : Thread Cert.Du2RefIdeal.nD Cert.Du2RefIdeal.τ).loc Cert.Du2RefIdeal.main_arg2) = m ((c.tc : Thread Cert.Du2RefIdeal.nD Cert.Du2RefIdeal.τ).loc Cert.Du2RefIdeal.main_arg2)
      ∧ r.2.mem ((c.tc : Thread Cert.Du2RefIdeal.nD Cert.Du2RefIdeal.τ).loc Cert.Du2RefIdeal.main_arg3) = m ((c.tc : Thread Cert.Du2RefIdeal.nD Cert.Du2RefIdeal.τ).loc Cert.Du2RefIdeal.main_arg3)
      ∧ r.2.mem ((c.tc : Thread Cert.Du2RefIdeal.nD Cert.Du2RefIdeal.τ).loc Cert.Du2RefIdeal.main_arg4) = m ((c.tc : Thread Cert.Du2RefIdeal.nD Cert.Du2RefIdeal.τ).loc Cert.Du2RefIdeal.main_arg4)
      ∧ r.2.mem ((c.tc : Thread Cert.Du2RefIdeal.nD Cert.Du2RefIdeal.τ).loc Cert.Du2RefIdeal.main_arg5) = m ((c.tc : Thread Cert.Du2RefIdeal.nD Cert.Du2RefIdeal.τ).loc Cert.Du2RefIdeal.main_arg5)
      ∧ r.2.mem ((c.tc : Thread Cert.Du2RefIdeal.nD Cert.Du2RefIdeal.τ).loc Cert.Du2RefIdeal.main_arg6) = m ((c.tc : Thread Cert.Du2RefIdeal.nD Cert.Du2RefIdeal.τ).loc Cert.Du2RefIdeal.main_arg6))
      ∧ r.2.sem = fun _ => 0)

def quiescent_Du1 [hDu1 : Cert.Du1.Facts] : Prop :=
  ∀ (m : (ℓ : Loc Cert.Du1.nD Cert.Du1.τ Cert.Du1.sig) → Buf (Elt Bits) ℓ) (g : Dev Cert.Du1.nD → PrngReg), Pre_Du1 m →
    θ_run (Cert.Du1.defs (F := Bits)) (onTc (τ := Cert.Du1.τ) (Cert.Du1.main (F := Bits))) ⟨m, fun _ => 0, g⟩ (fun r => (∀ c : Dev Cert.Du1.nD,
      r.2.mem ((c.tc : Thread Cert.Du1.nD Cert.Du1.τ).loc Cert.Du1.main_arg0) = m ((c.tc : Thread Cert.Du1.nD Cert.Du1.τ).loc Cert.Du1.main_arg0)
      ∧ r.2.mem ((c.tc : Thread Cert.Du1.nD Cert.Du1.τ).loc Cert.Du1.main_arg1) = m ((c.tc : Thread Cert.Du1.nD Cert.Du1.τ).loc Cert.Du1.main_arg1)
      ∧ r.2.mem ((c.tc : Thread Cert.Du1.nD Cert.Du1.τ).loc Cert.Du1.main_arg2) = m ((c.tc : Thread Cert.Du1.nD Cert.Du1.τ).loc Cert.Du1.main_arg2)
      ∧ r.2.mem ((c.tc : Thread Cert.Du1.nD Cert.Du1.τ).loc Cert.Du1.main_arg3) = m ((c.tc : Thread Cert.Du1.nD Cert.Du1.τ).loc Cert.Du1.main_arg3)
      ∧ r.2.mem ((c.tc : Thread Cert.Du1.nD Cert.Du1.τ).loc Cert.Du1.main_arg4) = m ((c.tc : Thread Cert.Du1.nD Cert.Du1.τ).loc Cert.Du1.main_arg4))
      ∧ r.2.sem = fun _ => 0)

def quiescent_Du1Ideal [hDu1Ideal : Cert.Du1Ideal.Facts] : Prop :=
  ∀ (m : (ℓ : Loc Cert.Du1Ideal.nD Cert.Du1Ideal.τ Cert.Du1Ideal.sig) → Buf (Elt Ideal) ℓ) (g : Dev Cert.Du1Ideal.nD → PrngReg), Pre_Du1Ideal m →
    θ_run (Cert.Du1Ideal.defs (F := Ideal)) (onTc (τ := Cert.Du1Ideal.τ) (Cert.Du1Ideal.main (F := Ideal))) ⟨m, fun _ => 0, g⟩ (fun r => (∀ c : Dev Cert.Du1Ideal.nD,
      r.2.mem ((c.tc : Thread Cert.Du1Ideal.nD Cert.Du1Ideal.τ).loc Cert.Du1Ideal.main_arg0) = m ((c.tc : Thread Cert.Du1Ideal.nD Cert.Du1Ideal.τ).loc Cert.Du1Ideal.main_arg0)
      ∧ r.2.mem ((c.tc : Thread Cert.Du1Ideal.nD Cert.Du1Ideal.τ).loc Cert.Du1Ideal.main_arg1) = m ((c.tc : Thread Cert.Du1Ideal.nD Cert.Du1Ideal.τ).loc Cert.Du1Ideal.main_arg1)
      ∧ r.2.mem ((c.tc : Thread Cert.Du1Ideal.nD Cert.Du1Ideal.τ).loc Cert.Du1Ideal.main_arg2) = m ((c.tc : Thread Cert.Du1Ideal.nD Cert.Du1Ideal.τ).loc Cert.Du1Ideal.main_arg2)
      ∧ r.2.mem ((c.tc : Thread Cert.Du1Ideal.nD Cert.Du1Ideal.τ).loc Cert.Du1Ideal.main_arg3) = m ((c.tc : Thread Cert.Du1Ideal.nD Cert.Du1Ideal.τ).loc Cert.Du1Ideal.main_arg3)
      ∧ r.2.mem ((c.tc : Thread Cert.Du1Ideal.nD Cert.Du1Ideal.τ).loc Cert.Du1Ideal.main_arg4) = m ((c.tc : Thread Cert.Du1Ideal.nD Cert.Du1Ideal.τ).loc Cert.Du1Ideal.main_arg4))
      ∧ r.2.sem = fun _ => 0)

def quiescent_Du1Ideal_pre_du1_finite [hDu1Ideal : Cert.Du1Ideal.Facts] [hPre_du1_finite : Cert.Pre_du1_finite.Facts] : Prop :=
  ∀ (m : (ℓ : Loc Cert.Du1Ideal.nD Cert.Du1Ideal.τ Cert.Du1Ideal.sig) → Buf (Elt Ideal) ℓ) (g : Dev Cert.Du1Ideal.nD → PrngReg), Pre_Du1Ideal_du1_finite m →
    θ_run (Cert.Du1Ideal.defs (F := Ideal)) (onTc (τ := Cert.Du1Ideal.τ) (Cert.Du1Ideal.main (F := Ideal))) ⟨m, fun _ => 0, g⟩ (fun r => (∀ c : Dev Cert.Du1Ideal.nD,
      r.2.mem ((c.tc : Thread Cert.Du1Ideal.nD Cert.Du1Ideal.τ).loc Cert.Du1Ideal.main_arg0) = m ((c.tc : Thread Cert.Du1Ideal.nD Cert.Du1Ideal.τ).loc Cert.Du1Ideal.main_arg0)
      ∧ r.2.mem ((c.tc : Thread Cert.Du1Ideal.nD Cert.Du1Ideal.τ).loc Cert.Du1Ideal.main_arg1) = m ((c.tc : Thread Cert.Du1Ideal.nD Cert.Du1Ideal.τ).loc Cert.Du1Ideal.main_arg1)
      ∧ r.2.mem ((c.tc : Thread Cert.Du1Ideal.nD Cert.Du1Ideal.τ).loc Cert.Du1Ideal.main_arg2) = m ((c.tc : Thread Cert.Du1Ideal.nD Cert.Du1Ideal.τ).loc Cert.Du1Ideal.main_arg2)
      ∧ r.2.mem ((c.tc : Thread Cert.Du1Ideal.nD Cert.Du1Ideal.τ).loc Cert.Du1Ideal.main_arg3) = m ((c.tc : Thread Cert.Du1Ideal.nD Cert.Du1Ideal.τ).loc Cert.Du1Ideal.main_arg3)
      ∧ r.2.mem ((c.tc : Thread Cert.Du1Ideal.nD Cert.Du1Ideal.τ).loc Cert.Du1Ideal.main_arg4) = m ((c.tc : Thread Cert.Du1Ideal.nD Cert.Du1Ideal.τ).loc Cert.Du1Ideal.main_arg4))
      ∧ r.2.sem = fun _ => 0)

def quiescent_Du1RefIdeal [hDu1RefIdeal : Cert.Du1RefIdeal.Facts] : Prop :=
  ∀ (m : (ℓ : Loc Cert.Du1RefIdeal.nD Cert.Du1RefIdeal.τ Cert.Du1RefIdeal.sig) → Buf (Elt Ideal) ℓ) (g : Dev Cert.Du1RefIdeal.nD → PrngReg), Pre_Du1RefIdeal m →
    θ_run (Cert.Du1RefIdeal.defs (F := Ideal)) (onTc (τ := Cert.Du1RefIdeal.τ) (Cert.Du1RefIdeal.main (F := Ideal))) ⟨m, fun _ => 0, g⟩ (fun r => (∀ c : Dev Cert.Du1RefIdeal.nD,
      r.2.mem ((c.tc : Thread Cert.Du1RefIdeal.nD Cert.Du1RefIdeal.τ).loc Cert.Du1RefIdeal.main_arg0) = m ((c.tc : Thread Cert.Du1RefIdeal.nD Cert.Du1RefIdeal.τ).loc Cert.Du1RefIdeal.main_arg0)
      ∧ r.2.mem ((c.tc : Thread Cert.Du1RefIdeal.nD Cert.Du1RefIdeal.τ).loc Cert.Du1RefIdeal.main_arg1) = m ((c.tc : Thread Cert.Du1RefIdeal.nD Cert.Du1RefIdeal.τ).loc Cert.Du1RefIdeal.main_arg1)
      ∧ r.2.mem ((c.tc : Thread Cert.Du1RefIdeal.nD Cert.Du1RefIdeal.τ).loc Cert.Du1RefIdeal.main_arg2) = m ((c.tc : Thread Cert.Du1RefIdeal.nD Cert.Du1RefIdeal.τ).loc Cert.Du1RefIdeal.main_arg2)
      ∧ r.2.mem ((c.tc : Thread Cert.Du1RefIdeal.nD Cert.Du1RefIdeal.τ).loc Cert.Du1RefIdeal.main_arg3) = m ((c.tc : Thread Cert.Du1RefIdeal.nD Cert.Du1RefIdeal.τ).loc Cert.Du1RefIdeal.main_arg3)
      ∧ r.2.mem ((c.tc : Thread Cert.Du1RefIdeal.nD Cert.Du1RefIdeal.τ).loc Cert.Du1RefIdeal.main_arg4) = m ((c.tc : Thread Cert.Du1RefIdeal.nD Cert.Du1RefIdeal.τ).loc Cert.Du1RefIdeal.main_arg4))
      ∧ r.2.sem = fun _ => 0)

def quiescent_Du1RefIdeal_pre_du1_finite [hDu1RefIdeal : Cert.Du1RefIdeal.Facts] [hPre_du1_finite : Cert.Pre_du1_finite.Facts] : Prop :=
  ∀ (m : (ℓ : Loc Cert.Du1RefIdeal.nD Cert.Du1RefIdeal.τ Cert.Du1RefIdeal.sig) → Buf (Elt Ideal) ℓ) (g : Dev Cert.Du1RefIdeal.nD → PrngReg), Pre_Du1RefIdeal_du1_finite m →
    θ_run (Cert.Du1RefIdeal.defs (F := Ideal)) (onTc (τ := Cert.Du1RefIdeal.τ) (Cert.Du1RefIdeal.main (F := Ideal))) ⟨m, fun _ => 0, g⟩ (fun r => (∀ c : Dev Cert.Du1RefIdeal.nD,
      r.2.mem ((c.tc : Thread Cert.Du1RefIdeal.nD Cert.Du1RefIdeal.τ).loc Cert.Du1RefIdeal.main_arg0) = m ((c.tc : Thread Cert.Du1RefIdeal.nD Cert.Du1RefIdeal.τ).loc Cert.Du1RefIdeal.main_arg0)
      ∧ r.2.mem ((c.tc : Thread Cert.Du1RefIdeal.nD Cert.Du1RefIdeal.τ).loc Cert.Du1RefIdeal.main_arg1) = m ((c.tc : Thread Cert.Du1RefIdeal.nD Cert.Du1RefIdeal.τ).loc Cert.Du1RefIdeal.main_arg1)
      ∧ r.2.mem ((c.tc : Thread Cert.Du1RefIdeal.nD Cert.Du1RefIdeal.τ).loc Cert.Du1RefIdeal.main_arg2) = m ((c.tc : Thread Cert.Du1RefIdeal.nD Cert.Du1RefIdeal.τ).loc Cert.Du1RefIdeal.main_arg2)
      ∧ r.2.mem ((c.tc : Thread Cert.Du1RefIdeal.nD Cert.Du1RefIdeal.τ).loc Cert.Du1RefIdeal.main_arg3) = m ((c.tc : Thread Cert.Du1RefIdeal.nD Cert.Du1RefIdeal.τ).loc Cert.Du1RefIdeal.main_arg3)
      ∧ r.2.mem ((c.tc : Thread Cert.Du1RefIdeal.nD Cert.Du1RefIdeal.τ).loc Cert.Du1RefIdeal.main_arg4) = m ((c.tc : Thread Cert.Du1RefIdeal.nD Cert.Du1RefIdeal.τ).loc Cert.Du1RefIdeal.main_arg4))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ r.2.sem = fun _ => 0)

def quiescent_DwgRefIdeal [hDwgRefIdeal : Cert.DwgRefIdeal.Facts] : Prop :=
  ∀ (m : (ℓ : Loc Cert.DwgRefIdeal.nD Cert.DwgRefIdeal.τ Cert.DwgRefIdeal.sig) → Buf (Elt Ideal) ℓ) (g : Dev Cert.DwgRefIdeal.nD → PrngReg), Pre_DwgRefIdeal m →
    θ_run (Cert.DwgRefIdeal.defs (F := Ideal)) (onTc (τ := Cert.DwgRefIdeal.τ) (Cert.DwgRefIdeal.main (F := Ideal))) ⟨m, fun _ => 0, g⟩ (fun r => (∀ c : Dev Cert.DwgRefIdeal.nD,
      r.2.mem ((c.tc : Thread Cert.DwgRefIdeal.nD Cert.DwgRefIdeal.τ).loc Cert.DwgRefIdeal.main_arg0) = m ((c.tc : Thread Cert.DwgRefIdeal.nD Cert.DwgRefIdeal.τ).loc Cert.DwgRefIdeal.main_arg0)
      ∧ r.2.mem ((c.tc : Thread Cert.DwgRefIdeal.nD Cert.DwgRefIdeal.τ).loc Cert.DwgRefIdeal.main_arg1) = m ((c.tc : Thread Cert.DwgRefIdeal.nD Cert.DwgRefIdeal.τ).loc Cert.DwgRefIdeal.main_arg1))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dwpg [hDwpg : Cert.Dwpg.Facts] : Prop :=
  ∀ (m : (ℓ : Loc Cert.Dwpg.nD Cert.Dwpg.τ Cert.Dwpg.sig) → Buf (Elt Bits) ℓ) (g : Dev Cert.Dwpg.nD → PrngReg), Pre_Dwpg m →
    θ_run (Cert.Dwpg.defs (F := Bits)) (onTc (τ := Cert.Dwpg.τ) (Cert.Dwpg.main (F := Bits))) ⟨m, fun _ => 0, g⟩ (fun r => (∀ c : Dev Cert.Dwpg.nD,
      r.2.mem ((c.tc : Thread Cert.Dwpg.nD Cert.Dwpg.τ).loc Cert.Dwpg.main_arg0) = m ((c.tc : Thread Cert.Dwpg.nD Cert.Dwpg.τ).loc Cert.Dwpg.main_arg0)
      ∧ r.2.mem ((c.tc : Thread Cert.Dwpg.nD Cert.Dwpg.τ).loc Cert.Dwpg.main_arg1) = m ((c.tc : Thread Cert.Dwpg.nD Cert.Dwpg.τ).loc Cert.Dwpg.main_arg1))
      ∧ r.2.sem = fun _ => 0)

def quiescent_DwpgIdeal [hDwpgIdeal : Cert.DwpgIdeal.Facts] : Prop :=
  ∀ (m : (ℓ : Loc Cert.DwpgIdeal.nD Cert.DwpgIdeal.τ Cert.DwpgIdeal.sig) → Buf (Elt Ideal) ℓ) (g : Dev Cert.DwpgIdeal.nD → PrngReg), Pre_DwpgIdeal m →
    θ_run (Cert.DwpgIdeal.defs (F := Ideal)) (onTc (τ := Cert.DwpgIdeal.τ) (Cert.DwpgIdeal.main (F := Ideal))) ⟨m, fun _ => 0, g⟩ (fun r => (∀ c : Dev Cert.DwpgIdeal.nD,
      r.2.mem ((c.tc : Thread Cert.DwpgIdeal.nD Cert.DwpgIdeal.τ).loc Cert.DwpgIdeal.main_arg0) = m ((c.tc : Thread Cert.DwpgIdeal.nD Cert.DwpgIdeal.τ).loc Cert.DwpgIdeal.main_arg0)
      ∧ r.2.mem ((c.tc : Thread Cert.DwpgIdeal.nD Cert.DwpgIdeal.τ).loc Cert.DwpgIdeal.main_arg1) = m ((c.tc : Thread Cert.DwpgIdeal.nD Cert.DwpgIdeal.τ).loc Cert.DwpgIdeal.main_arg1))
      ∧ r.2.sem = fun _ => 0)

def quiescent_DwpgRefIdeal [hDwpgRefIdeal : Cert.DwpgRefIdeal.Facts] : Prop :=
  ∀ (m : (ℓ : Loc Cert.DwpgRefIdeal.nD Cert.DwpgRefIdeal.τ Cert.DwpgRefIdeal.sig) → Buf (Elt Ideal) ℓ) (g : Dev Cert.DwpgRefIdeal.nD → PrngReg), Pre_DwpgRefIdeal m →
    θ_run (Cert.DwpgRefIdeal.defs (F := Ideal)) (onTc (τ := Cert.DwpgRefIdeal.τ) (Cert.DwpgRefIdeal.main (F := Ideal))) ⟨m, fun _ => 0, g⟩ (fun r => (∀ c : Dev Cert.DwpgRefIdeal.nD,
      r.2.mem ((c.tc : Thread Cert.DwpgRefIdeal.nD Cert.DwpgRefIdeal.τ).loc Cert.DwpgRefIdeal.main_arg0) = m ((c.tc : Thread Cert.DwpgRefIdeal.nD Cert.DwpgRefIdeal.τ).loc Cert.DwpgRefIdeal.main_arg0)
      ∧ r.2.mem ((c.tc : Thread Cert.DwpgRefIdeal.nD Cert.DwpgRefIdeal.τ).loc Cert.DwpgRefIdeal.main_arg1) = m ((c.tc : Thread Cert.DwpgRefIdeal.nD Cert.DwpgRefIdeal.τ).loc Cert.DwpgRefIdeal.main_arg1))
      ∧ r.2.sem = fun _ => 0)

def quiescent_Du3 [hDu3 : Cert.Du3.Facts] : Prop :=
  ∀ (m : (ℓ : Loc Cert.Du3.nD Cert.Du3.τ Cert.Du3.sig) → Buf (Elt Bits) ℓ) (g : Dev Cert.Du3.nD → PrngReg), Pre_Du3 m →
    θ_run (Cert.Du3.defs (F := Bits)) (onTc (τ := Cert.Du3.τ) (Cert.Du3.main (F := Bits))) ⟨m, fun _ => 0, g⟩ (fun r => (∀ c : Dev Cert.Du3.nD,
      r.2.mem ((c.tc : Thread Cert.Du3.nD Cert.Du3.τ).loc Cert.Du3.main_arg0) = m ((c.tc : Thread Cert.Du3.nD Cert.Du3.τ).loc Cert.Du3.main_arg0)
      ∧ r.2.mem ((c.tc : Thread Cert.Du3.nD Cert.Du3.τ).loc Cert.Du3.main_arg1) = m ((c.tc : Thread Cert.Du3.nD Cert.Du3.τ).loc Cert.Du3.main_arg1)
      ∧ r.2.mem ((c.tc : Thread Cert.Du3.nD Cert.Du3.τ).loc Cert.Du3.main_arg2) = m ((c.tc : Thread Cert.Du3.nD Cert.Du3.τ).loc Cert.Du3.main_arg2)
      ∧ r.2.mem ((c.tc : Thread Cert.Du3.nD Cert.Du3.τ).loc Cert.Du3.main_arg3) = m ((c.tc : Thread Cert.Du3.nD Cert.Du3.τ).loc Cert.Du3.main_arg3)
      ∧ r.2.mem ((c.tc : Thread Cert.Du3.nD Cert.Du3.τ).loc Cert.Du3.main_arg4) = m ((c.tc : Thread Cert.Du3.nD Cert.Du3.τ).loc Cert.Du3.main_arg4))
      ∧ r.2.sem = fun _ => 0)

def quiescent_Du3Ideal [hDu3Ideal : Cert.Du3Ideal.Facts] : Prop :=
  ∀ (m : (ℓ : Loc Cert.Du3Ideal.nD Cert.Du3Ideal.τ Cert.Du3Ideal.sig) → Buf (Elt Ideal) ℓ) (g : Dev Cert.Du3Ideal.nD → PrngReg), Pre_Du3Ideal m →
    θ_run (Cert.Du3Ideal.defs (F := Ideal)) (onTc (τ := Cert.Du3Ideal.τ) (Cert.Du3Ideal.main (F := Ideal))) ⟨m, fun _ => 0, g⟩ (fun r => (∀ c : Dev Cert.Du3Ideal.nD,
      r.2.mem ((c.tc : Thread Cert.Du3Ideal.nD Cert.Du3Ideal.τ).loc Cert.Du3Ideal.main_arg0) = m ((c.tc : Thread Cert.Du3Ideal.nD Cert.Du3Ideal.τ).loc Cert.Du3Ideal.main_arg0)
      ∧ r.2.mem ((c.tc : Thread Cert.Du3Ideal.nD Cert.Du3Ideal.τ).loc Cert.Du3Ideal.main_arg1) = m ((c.tc : Thread Cert.Du3Ideal.nD Cert.Du3Ideal.τ).loc Cert.Du3Ideal.main_arg1)
      ∧ r.2.mem ((c.tc : Thread Cert.Du3Ideal.nD Cert.Du3Ideal.τ).loc Cert.Du3Ideal.main_arg2) = m ((c.tc : Thread Cert.Du3Ideal.nD Cert.Du3Ideal.τ).loc Cert.Du3Ideal.main_arg2)
      ∧ r.2.mem ((c.tc : Thread Cert.Du3Ideal.nD Cert.Du3Ideal.τ).loc Cert.Du3Ideal.main_arg3) = m ((c.tc : Thread Cert.Du3Ideal.nD Cert.Du3Ideal.τ).loc Cert.Du3Ideal.main_arg3)
      ∧ r.2.mem ((c.tc : Thread Cert.Du3Ideal.nD Cert.Du3Ideal.τ).loc Cert.Du3Ideal.main_arg4) = m ((c.tc : Thread Cert.Du3Ideal.nD Cert.Du3Ideal.τ).loc Cert.Du3Ideal.main_arg4))
      ∧ r.2.sem = fun _ => 0)

def quiescent_Du3Ideal_pre_du3_finite [hDu3Ideal : Cert.Du3Ideal.Facts] [hPre_du3_finite : Cert.Pre_du3_finite.Facts] : Prop :=
  ∀ (m : (ℓ : Loc Cert.Du3Ideal.nD Cert.Du3Ideal.τ Cert.Du3Ideal.sig) → Buf (Elt Ideal) ℓ) (g : Dev Cert.Du3Ideal.nD → PrngReg), Pre_Du3Ideal_du3_finite m →
    θ_run (Cert.Du3Ideal.defs (F := Ideal)) (onTc (τ := Cert.Du3Ideal.τ) (Cert.Du3Ideal.main (F := Ideal))) ⟨m, fun _ => 0, g⟩ (fun r => (∀ c : Dev Cert.Du3Ideal.nD,
      r.2.mem ((c.tc : Thread Cert.Du3Ideal.nD Cert.Du3Ideal.τ).loc Cert.Du3Ideal.main_arg0) = m ((c.tc : Thread Cert.Du3Ideal.nD Cert.Du3Ideal.τ).loc Cert.Du3Ideal.main_arg0)
      ∧ r.2.mem ((c.tc : Thread Cert.Du3Ideal.nD Cert.Du3Ideal.τ).loc Cert.Du3Ideal.main_arg1) = m ((c.tc : Thread Cert.Du3Ideal.nD Cert.Du3Ideal.τ).loc Cert.Du3Ideal.main_arg1)
      ∧ r.2.mem ((c.tc : Thread Cert.Du3Ideal.nD Cert.Du3Ideal.τ).loc Cert.Du3Ideal.main_arg2) = m ((c.tc : Thread Cert.Du3Ideal.nD Cert.Du3Ideal.τ).loc Cert.Du3Ideal.main_arg2)
      ∧ r.2.mem ((c.tc : Thread Cert.Du3Ideal.nD Cert.Du3Ideal.τ).loc Cert.Du3Ideal.main_arg3) = m ((c.tc : Thread Cert.Du3Ideal.nD Cert.Du3Ideal.τ).loc Cert.Du3Ideal.main_arg3)
      ∧ r.2.mem ((c.tc : Thread Cert.Du3Ideal.nD Cert.Du3Ideal.τ).loc Cert.Du3Ideal.main_arg4) = m ((c.tc : Thread Cert.Du3Ideal.nD Cert.Du3Ideal.τ).loc Cert.Du3Ideal.main_arg4))
      ∧ r.2.sem = fun _ => 0)

def quiescent_Du3RefIdeal [hDu3RefIdeal : Cert.Du3RefIdeal.Facts] : Prop :=
  ∀ (m : (ℓ : Loc Cert.Du3RefIdeal.nD Cert.Du3RefIdeal.τ Cert.Du3RefIdeal.sig) → Buf (Elt Ideal) ℓ) (g : Dev Cert.Du3RefIdeal.nD → PrngReg), Pre_Du3RefIdeal m →
    θ_run (Cert.Du3RefIdeal.defs (F := Ideal)) (onTc (τ := Cert.Du3RefIdeal.τ) (Cert.Du3RefIdeal.main (F := Ideal))) ⟨m, fun _ => 0, g⟩ (fun r => (∀ c : Dev Cert.Du3RefIdeal.nD,
      r.2.mem ((c.tc : Thread Cert.Du3RefIdeal.nD Cert.Du3RefIdeal.τ).loc Cert.Du3RefIdeal.main_arg0) = m ((c.tc : Thread Cert.Du3RefIdeal.nD Cert.Du3RefIdeal.τ).loc Cert.Du3RefIdeal.main_arg0)
      ∧ r.2.mem ((c.tc : Thread Cert.Du3RefIdeal.nD Cert.Du3RefIdeal.τ).loc Cert.Du3RefIdeal.main_arg1) = m ((c.tc : Thread Cert.Du3RefIdeal.nD Cert.Du3RefIdeal.τ).loc Cert.Du3RefIdeal.main_arg1)
      ∧ r.2.mem ((c.tc : Thread Cert.Du3RefIdeal.nD Cert.Du3RefIdeal.τ).loc Cert.Du3RefIdeal.main_arg2) = m ((c.tc : Thread Cert.Du3RefIdeal.nD Cert.Du3RefIdeal.τ).loc Cert.Du3RefIdeal.main_arg2)
      ∧ r.2.mem ((c.tc : Thread Cert.Du3RefIdeal.nD Cert.Du3RefIdeal.τ).loc Cert.Du3RefIdeal.main_arg3) = m ((c.tc : Thread Cert.Du3RefIdeal.nD Cert.Du3RefIdeal.τ).loc Cert.Du3RefIdeal.main_arg3)
      ∧ r.2.mem ((c.tc : Thread Cert.Du3RefIdeal.nD Cert.Du3RefIdeal.τ).loc Cert.Du3RefIdeal.main_arg4) = m ((c.tc : Thread Cert.Du3RefIdeal.nD Cert.Du3RefIdeal.τ).loc Cert.Du3RefIdeal.main_arg4))
      ∧ r.2.sem = fun _ => 0)

def quiescent_Du3RefIdeal_pre_du3_finite [hDu3RefIdeal : Cert.Du3RefIdeal.Facts] [hPre_du3_finite : Cert.Pre_du3_finite.Facts] : Prop :=
  ∀ (m : (ℓ : Loc Cert.Du3RefIdeal.nD Cert.Du3RefIdeal.τ Cert.Du3RefIdeal.sig) → Buf (Elt Ideal) ℓ) (g : Dev Cert.Du3RefIdeal.nD → PrngReg), Pre_Du3RefIdeal_du3_finite m →
    θ_run (Cert.Du3RefIdeal.defs (F := Ideal)) (onTc (τ := Cert.Du3RefIdeal.τ) (Cert.Du3RefIdeal.main (F := Ideal))) ⟨m, fun _ => 0, g⟩ (fun r => (∀ c : Dev Cert.Du3RefIdeal.nD,
      r.2.mem ((c.tc : Thread Cert.Du3RefIdeal.nD Cert.Du3RefIdeal.τ).loc Cert.Du3RefIdeal.main_arg0) = m ((c.tc : Thread Cert.Du3RefIdeal.nD Cert.Du3RefIdeal.τ).loc Cert.Du3RefIdeal.main_arg0)
      ∧ r.2.mem ((c.tc : Thread Cert.Du3RefIdeal.nD Cert.Du3RefIdeal.τ).loc Cert.Du3RefIdeal.main_arg1) = m ((c.tc : Thread Cert.Du3RefIdeal.nD Cert.Du3RefIdeal.τ).loc Cert.Du3RefIdeal.main_arg1)
      ∧ r.2.mem ((c.tc : Thread Cert.Du3RefIdeal.nD Cert.Du3RefIdeal.τ).loc Cert.Du3RefIdeal.main_arg2) = m ((c.tc : Thread Cert.Du3RefIdeal.nD Cert.Du3RefIdeal.τ).loc Cert.Du3RefIdeal.main_arg2)
      ∧ r.2.mem ((c.tc : Thread Cert.Du3RefIdeal.nD Cert.Du3RefIdeal.τ).loc Cert.Du3RefIdeal.main_arg3) = m ((c.tc : Thread Cert.Du3RefIdeal.nD Cert.Du3RefIdeal.τ).loc Cert.Du3RefIdeal.main_arg3)
      ∧ r.2.mem ((c.tc : Thread Cert.Du3RefIdeal.nD Cert.Du3RefIdeal.τ).loc Cert.Du3RefIdeal.main_arg4) = m ((c.tc : Thread Cert.Du3RefIdeal.nD Cert.Du3RefIdeal.τ).loc Cert.Du3RefIdeal.main_arg4))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ r.2.sem = fun _ => 0)

def quiescent_DycatRefIdeal [hDycatRefIdeal : Cert.DycatRefIdeal.Facts] : Prop :=
  ∀ (m : (ℓ : Loc Cert.DycatRefIdeal.nD Cert.DycatRefIdeal.τ Cert.DycatRefIdeal.sig) → Buf (Elt Ideal) ℓ) (g : Dev Cert.DycatRefIdeal.nD → PrngReg), Pre_DycatRefIdeal m →
    θ_run (Cert.DycatRefIdeal.defs (F := Ideal)) (onTc (τ := Cert.DycatRefIdeal.τ) (Cert.DycatRefIdeal.main (F := Ideal))) ⟨m, fun _ => 0, g⟩ (fun r => (∀ c : Dev Cert.DycatRefIdeal.nD,
      r.2.mem ((c.tc : Thread Cert.DycatRefIdeal.nD Cert.DycatRefIdeal.τ).loc Cert.DycatRefIdeal.main_arg0) = m ((c.tc : Thread Cert.DycatRefIdeal.nD Cert.DycatRefIdeal.τ).loc Cert.DycatRefIdeal.main_arg0)
      ∧ r.2.mem ((c.tc : Thread Cert.DycatRefIdeal.nD Cert.DycatRefIdeal.τ).loc Cert.DycatRefIdeal.main_arg1) = m ((c.tc : Thread Cert.DycatRefIdeal.nD Cert.DycatRefIdeal.τ).loc Cert.DycatRefIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Pg [hPg : Cert.Pg.Facts] : Prop :=
  ∀ (m : (ℓ : Loc Cert.Pg.nD Cert.Pg.τ Cert.Pg.sig) → Buf (Elt Bits) ℓ) (g : Dev Cert.Pg.nD → PrngReg), Pre_Pg m →
    θ_run (Cert.Pg.defs (F := Bits)) (onTc (τ := Cert.Pg.τ) (Cert.Pg.main (F := Bits))) ⟨m, fun _ => 0, g⟩ (fun r => (∀ c : Dev Cert.Pg.nD,
      r.2.mem ((c.tc : Thread Cert.Pg.nD Cert.Pg.τ).loc Cert.Pg.main_arg0) = m ((c.tc : Thread Cert.Pg.nD Cert.Pg.τ).loc Cert.Pg.main_arg0)
      ∧ r.2.mem ((c.tc : Thread Cert.Pg.nD Cert.Pg.τ).loc Cert.Pg.main_arg1) = m ((c.tc : Thread Cert.Pg.nD Cert.Pg.τ).loc Cert.Pg.main_arg1)
      ∧ r.2.mem ((c.tc : Thread Cert.Pg.nD Cert.Pg.τ).loc Cert.Pg.main_arg2) = m ((c.tc : Thread Cert.Pg.nD Cert.Pg.τ).loc Cert.Pg.main_arg2)
      ∧ r.2.mem ((c.tc : Thread Cert.Pg.nD Cert.Pg.τ).loc Cert.Pg.main_arg3) = m ((c.tc : Thread Cert.Pg.nD Cert.Pg.τ).loc Cert.Pg.main_arg3)
      ∧ r.2.mem ((c.tc : Thread Cert.Pg.nD Cert.Pg.τ).loc Cert.Pg.main_arg4) = m ((c.tc : Thread Cert.Pg.nD Cert.Pg.τ).loc Cert.Pg.main_arg4))
      ∧ r.2.sem = fun _ => 0)

def quiescent_PgIdeal [hPgIdeal : Cert.PgIdeal.Facts] : Prop :=
  ∀ (m : (ℓ : Loc Cert.PgIdeal.nD Cert.PgIdeal.τ Cert.PgIdeal.sig) → Buf (Elt Ideal) ℓ) (g : Dev Cert.PgIdeal.nD → PrngReg), Pre_PgIdeal m →
    θ_run (Cert.PgIdeal.defs (F := Ideal)) (onTc (τ := Cert.PgIdeal.τ) (Cert.PgIdeal.main (F := Ideal))) ⟨m, fun _ => 0, g⟩ (fun r => (∀ c : Dev Cert.PgIdeal.nD,
      r.2.mem ((c.tc : Thread Cert.PgIdeal.nD Cert.PgIdeal.τ).loc Cert.PgIdeal.main_arg0) = m ((c.tc : Thread Cert.PgIdeal.nD Cert.PgIdeal.τ).loc Cert.PgIdeal.main_arg0)
      ∧ r.2.mem ((c.tc : Thread Cert.PgIdeal.nD Cert.PgIdeal.τ).loc Cert.PgIdeal.main_arg1) = m ((c.tc : Thread Cert.PgIdeal.nD Cert.PgIdeal.τ).loc Cert.PgIdeal.main_arg1)
      ∧ r.2.mem ((c.tc : Thread Cert.PgIdeal.nD Cert.PgIdeal.τ).loc Cert.PgIdeal.main_arg2) = m ((c.tc : Thread Cert.PgIdeal.nD Cert.PgIdeal.τ).loc Cert.PgIdeal.main_arg2)
      ∧ r.2.mem ((c.tc : Thread Cert.PgIdeal.nD Cert.PgIdeal.τ).loc Cert.PgIdeal.main_arg3) = m ((c.tc : Thread Cert.PgIdeal.nD Cert.PgIdeal.τ).loc Cert.PgIdeal.main_arg3)
      ∧ r.2.mem ((c.tc : Thread Cert.PgIdeal.nD Cert.PgIdeal.τ).loc Cert.PgIdeal.main_arg4) = m ((c.tc : Thread Cert.PgIdeal.nD Cert.PgIdeal.τ).loc Cert.PgIdeal.main_arg4))
      ∧ r.2.sem = fun _ => 0)

def quiescent_PgRefIdeal [hPgRefIdeal : Cert.PgRefIdeal.Facts] : Prop :=
  ∀ (m : (ℓ : Loc Cert.PgRefIdeal.nD Cert.PgRefIdeal.τ Cert.PgRefIdeal.sig) → Buf (Elt Ideal) ℓ) (g : Dev Cert.PgRefIdeal.nD → PrngReg), Pre_PgRefIdeal m →
    θ_run (Cert.PgRefIdeal.defs (F := Ideal)) (onTc (τ := Cert.PgRefIdeal.τ) (Cert.PgRefIdeal.main (F := Ideal))) ⟨m, fun _ => 0, g⟩ (fun r => (∀ c : Dev Cert.PgRefIdeal.nD,
      r.2.mem ((c.tc : Thread Cert.PgRefIdeal.nD Cert.PgRefIdeal.τ).loc Cert.PgRefIdeal.main_arg0) = m ((c.tc : Thread Cert.PgRefIdeal.nD Cert.PgRefIdeal.τ).loc Cert.PgRefIdeal.main_arg0)
      ∧ r.2.mem ((c.tc : Thread Cert.PgRefIdeal.nD Cert.PgRefIdeal.τ).loc Cert.PgRefIdeal.main_arg1) = m ((c.tc : Thread Cert.PgRefIdeal.nD Cert.PgRefIdeal.τ).loc Cert.PgRefIdeal.main_arg1)
      ∧ r.2.mem ((c.tc : Thread Cert.PgRefIdeal.nD Cert.PgRefIdeal.τ).loc Cert.PgRefIdeal.main_arg2) = m ((c.tc : Thread Cert.PgRefIdeal.nD Cert.PgRefIdeal.τ).loc Cert.PgRefIdeal.main_arg2)
      ∧ r.2.mem ((c.tc : Thread Cert.PgRefIdeal.nD Cert.PgRefIdeal.τ).loc Cert.PgRefIdeal.main_arg3) = m ((c.tc : Thread Cert.PgRefIdeal.nD Cert.PgRefIdeal.τ).loc Cert.PgRefIdeal.main_arg3)
      ∧ r.2.mem ((c.tc : Thread Cert.PgRefIdeal.nD Cert.PgRefIdeal.τ).loc Cert.PgRefIdeal.main_arg4) = m ((c.tc : Thread Cert.PgRefIdeal.nD Cert.PgRefIdeal.τ).loc Cert.PgRefIdeal.main_arg4))
      ∧ r.2.sem = fun _ => 0)

def quiescent_Dwpp [hDwpp : Cert.Dwpp.Facts] : Prop :=
  ∀ (m : (ℓ : Loc Cert.Dwpp.nD Cert.Dwpp.τ Cert.Dwpp.sig) → Buf (Elt Bits) ℓ) (g : Dev Cert.Dwpp.nD → PrngReg), Pre_Dwpp m →
    θ_run (Cert.Dwpp.defs (F := Bits)) (onTc (τ := Cert.Dwpp.τ) (Cert.Dwpp.main (F := Bits))) ⟨m, fun _ => 0, g⟩ (fun r => (∀ c : Dev Cert.Dwpp.nD,
      r.2.mem ((c.tc : Thread Cert.Dwpp.nD Cert.Dwpp.τ).loc Cert.Dwpp.main_arg0) = m ((c.tc : Thread Cert.Dwpp.nD Cert.Dwpp.τ).loc Cert.Dwpp.main_arg0)
      ∧ r.2.mem ((c.tc : Thread Cert.Dwpp.nD Cert.Dwpp.τ).loc Cert.Dwpp.main_arg1) = m ((c.tc : Thread Cert.Dwpp.nD Cert.Dwpp.τ).loc Cert.Dwpp.main_arg1))
      ∧ r.2.sem = fun _ => 0)

def quiescent_DwppIdeal [hDwppIdeal : Cert.DwppIdeal.Facts] : Prop :=
  ∀ (m : (ℓ : Loc Cert.DwppIdeal.nD Cert.DwppIdeal.τ Cert.DwppIdeal.sig) → Buf (Elt Ideal) ℓ) (g : Dev Cert.DwppIdeal.nD → PrngReg), Pre_DwppIdeal m →
    θ_run (Cert.DwppIdeal.defs (F := Ideal)) (onTc (τ := Cert.DwppIdeal.τ) (Cert.DwppIdeal.main (F := Ideal))) ⟨m, fun _ => 0, g⟩ (fun r => (∀ c : Dev Cert.DwppIdeal.nD,
      r.2.mem ((c.tc : Thread Cert.DwppIdeal.nD Cert.DwppIdeal.τ).loc Cert.DwppIdeal.main_arg0) = m ((c.tc : Thread Cert.DwppIdeal.nD Cert.DwppIdeal.τ).loc Cert.DwppIdeal.main_arg0)
      ∧ r.2.mem ((c.tc : Thread Cert.DwppIdeal.nD Cert.DwppIdeal.τ).loc Cert.DwppIdeal.main_arg1) = m ((c.tc : Thread Cert.DwppIdeal.nD Cert.DwppIdeal.τ).loc Cert.DwppIdeal.main_arg1))
      ∧ r.2.sem = fun _ => 0)

def quiescent_DwppRefIdeal [hDwppRefIdeal : Cert.DwppRefIdeal.Facts] : Prop :=
  ∀ (m : (ℓ : Loc Cert.DwppRefIdeal.nD Cert.DwppRefIdeal.τ Cert.DwppRefIdeal.sig) → Buf (Elt Ideal) ℓ) (g : Dev Cert.DwppRefIdeal.nD → PrngReg), Pre_DwppRefIdeal m →
    θ_run (Cert.DwppRefIdeal.defs (F := Ideal)) (onTc (τ := Cert.DwppRefIdeal.τ) (Cert.DwppRefIdeal.main (F := Ideal))) ⟨m, fun _ => 0, g⟩ (fun r => (∀ c : Dev Cert.DwppRefIdeal.nD,
      r.2.mem ((c.tc : Thread Cert.DwppRefIdeal.nD Cert.DwppRefIdeal.τ).loc Cert.DwppRefIdeal.main_arg0) = m ((c.tc : Thread Cert.DwppRefIdeal.nD Cert.DwppRefIdeal.τ).loc Cert.DwppRefIdeal.main_arg0)
      ∧ r.2.mem ((c.tc : Thread Cert.DwppRefIdeal.nD Cert.DwppRefIdeal.τ).loc Cert.DwppRefIdeal.main_arg1) = m ((c.tc : Thread Cert.DwppRefIdeal.nD Cert.DwppRefIdeal.τ).loc Cert.DwppRefIdeal.main_arg1))
      ∧ r.2.sem = fun _ => 0)

def quiescent_Pp [hPp : Cert.Pp.Facts] : Prop :=
  ∀ (m : (ℓ : Loc Cert.Pp.nD Cert.Pp.τ Cert.Pp.sig) → Buf (Elt Bits) ℓ) (g : Dev Cert.Pp.nD → PrngReg), Pre_Pp m →
    θ_run (Cert.Pp.defs (F := Bits)) (onTc (τ := Cert.Pp.τ) (Cert.Pp.main (F := Bits))) ⟨m, fun _ => 0, g⟩ (fun r => (∀ c : Dev Cert.Pp.nD,
      r.2.mem ((c.tc : Thread Cert.Pp.nD Cert.Pp.τ).loc Cert.Pp.main_arg0) = m ((c.tc : Thread Cert.Pp.nD Cert.Pp.τ).loc Cert.Pp.main_arg0)
      ∧ r.2.mem ((c.tc : Thread Cert.Pp.nD Cert.Pp.τ).loc Cert.Pp.main_arg1) = m ((c.tc : Thread Cert.Pp.nD Cert.Pp.τ).loc Cert.Pp.main_arg1))
      ∧ r.2.sem = fun _ => 0)

def quiescent_PpIdeal [hPpIdeal : Cert.PpIdeal.Facts] : Prop :=
  ∀ (m : (ℓ : Loc Cert.PpIdeal.nD Cert.PpIdeal.τ Cert.PpIdeal.sig) → Buf (Elt Ideal) ℓ) (g : Dev Cert.PpIdeal.nD → PrngReg), Pre_PpIdeal m →
    θ_run (Cert.PpIdeal.defs (F := Ideal)) (onTc (τ := Cert.PpIdeal.τ) (Cert.PpIdeal.main (F := Ideal))) ⟨m, fun _ => 0, g⟩ (fun r => (∀ c : Dev Cert.PpIdeal.nD,
      r.2.mem ((c.tc : Thread Cert.PpIdeal.nD Cert.PpIdeal.τ).loc Cert.PpIdeal.main_arg0) = m ((c.tc : Thread Cert.PpIdeal.nD Cert.PpIdeal.τ).loc Cert.PpIdeal.main_arg0)
      ∧ r.2.mem ((c.tc : Thread Cert.PpIdeal.nD Cert.PpIdeal.τ).loc Cert.PpIdeal.main_arg1) = m ((c.tc : Thread Cert.PpIdeal.nD Cert.PpIdeal.τ).loc Cert.PpIdeal.main_arg1))
      ∧ r.2.sem = fun _ => 0)

def quiescent_PpRefIdeal [hPpRefIdeal : Cert.PpRefIdeal.Facts] : Prop :=
  ∀ (m : (ℓ : Loc Cert.PpRefIdeal.nD Cert.PpRefIdeal.τ Cert.PpRefIdeal.sig) → Buf (Elt Ideal) ℓ) (g : Dev Cert.PpRefIdeal.nD → PrngReg), Pre_PpRefIdeal m →
    θ_run (Cert.PpRefIdeal.defs (F := Ideal)) (onTc (τ := Cert.PpRefIdeal.τ) (Cert.PpRefIdeal.main (F := Ideal))) ⟨m, fun _ => 0, g⟩ (fun r => (∀ c : Dev Cert.PpRefIdeal.nD,
      r.2.mem ((c.tc : Thread Cert.PpRefIdeal.nD Cert.PpRefIdeal.τ).loc Cert.PpRefIdeal.main_arg0) = m ((c.tc : Thread Cert.PpRefIdeal.nD Cert.PpRefIdeal.τ).loc Cert.PpRefIdeal.main_arg0)
      ∧ r.2.mem ((c.tc : Thread Cert.PpRefIdeal.nD Cert.PpRefIdeal.τ).loc Cert.PpRefIdeal.main_arg1) = m ((c.tc : Thread Cert.PpRefIdeal.nD Cert.PpRefIdeal.τ).loc Cert.PpRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Dconv [hDconv : Cert.Dconv.Facts] : Prop :=
  ∀ (m : (ℓ : Loc Cert.Dconv.nD Cert.Dconv.τ Cert.Dconv.sig) → Buf (Elt Bits) ℓ) (g : Dev Cert.Dconv.nD → PrngReg), Pre_Dconv m →
    θ_run (Cert.Dconv.defs (F := Bits)) (onTc (τ := Cert.Dconv.τ) (Cert.Dconv.main (F := Bits))) ⟨m, fun _ => 0, g⟩ (fun r => (∀ c : Dev Cert.Dconv.nD,
      r.2.mem ((c.tc : Thread Cert.Dconv.nD Cert.Dconv.τ).loc Cert.Dconv.main_arg0) = m ((c.tc : Thread Cert.Dconv.nD Cert.Dconv.τ).loc Cert.Dconv.main_arg0)
      ∧ r.2.mem ((c.tc : Thread Cert.Dconv.nD Cert.Dconv.τ).loc Cert.Dconv.main_arg1) = m ((c.tc : Thread Cert.Dconv.nD Cert.Dconv.τ).loc Cert.Dconv.main_arg1)
      ∧ r.2.mem ((c.tc : Thread Cert.Dconv.nD Cert.Dconv.τ).loc Cert.Dconv.main_arg2) = m ((c.tc : Thread Cert.Dconv.nD Cert.Dconv.τ).loc Cert.Dconv.main_arg2)
      ∧ r.2.mem ((c.tc : Thread Cert.Dconv.nD Cert.Dconv.τ).loc Cert.Dconv.main_arg3) = m ((c.tc : Thread Cert.Dconv.nD Cert.Dconv.τ).loc Cert.Dconv.main_arg3))
      ∧ r.2.sem = fun _ => 0)

def quiescent_DconvIdeal [hDconvIdeal : Cert.DconvIdeal.Facts] : Prop :=
  ∀ (m : (ℓ : Loc Cert.DconvIdeal.nD Cert.DconvIdeal.τ Cert.DconvIdeal.sig) → Buf (Elt Ideal) ℓ) (g : Dev Cert.DconvIdeal.nD → PrngReg), Pre_DconvIdeal m →
    θ_run (Cert.DconvIdeal.defs (F := Ideal)) (onTc (τ := Cert.DconvIdeal.τ) (Cert.DconvIdeal.main (F := Ideal))) ⟨m, fun _ => 0, g⟩ (fun r => (∀ c : Dev Cert.DconvIdeal.nD,
      r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
      ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
      ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2)
      ∧ r.2.mem ((c.tc : Thread Cert.DconvIdeal.nD Cert.DconvIdeal.τ).loc Cert.DconvIdeal.main_arg3) = m ((c.tc : Thread Cert.DconvIdeal.nD Cert.DconvIdeal.τ).loc Cert.DconvIdeal.main_arg3))
      ∧ r.2.sem = fun _ => 0)

def quiescent_DconvRefIdeal [hDconvRefIdeal : Cert.DconvRefIdeal.Facts] : Prop :=
  ∀ (m : (ℓ : Loc Cert.DconvRefIdeal.nD Cert.DconvRefIdeal.τ Cert.DconvRefIdeal.sig) → Buf (Elt Ideal) ℓ) (g : Dev Cert.DconvRefIdeal.nD → PrngReg), Pre_DconvRefIdeal m →
    θ_run (Cert.DconvRefIdeal.defs (F := Ideal)) (onTc (τ := Cert.DconvRefIdeal.τ) (Cert.DconvRefIdeal.main (F := Ideal))) ⟨m, fun _ => 0, g⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2)
      ∧ r.2.mem ((c.tc : Thread Cert.DconvRefIdeal.nD Cert.DconvRefIdeal.τ).loc Cert.DconvRefIdeal.main_arg3) = m ((c.tc : Thread Cert.DconvRefIdeal.nD Cert.DconvRefIdeal.τ).loc Cert.DconvRefIdeal.main_arg3))
      ∧ r.2.sem = fun _ => 0)

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v48_0)) (v1 : (c : Dev Cert.FoxIdeal.nD) → Buf (Elt Ideal) ((c.tc : Thread Cert.FoxIdeal.nD Cert.FoxIdeal.τ).loc Cert.FoxIdeal.main_v48_1)) (v2 : (c : Dev Cert.FoxIdeal.nD) → Buf (Elt Ideal) ((c.tc : Thread Cert.FoxIdeal.nD Cert.FoxIdeal.τ).loc Cert.FoxIdeal.main_v48_2)) (v3 : (c : Dev Cert.FoxIdeal.nD) → Buf (Elt Ideal) ((c.tc : Thread Cert.FoxIdeal.nD Cert.FoxIdeal.τ).loc Cert.FoxIdeal.main_v51)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v48_0) = v0 c
          ∧ r.2.mem ((c.tc : Thread Cert.FoxIdeal.nD Cert.FoxIdeal.τ).loc Cert.FoxIdeal.main_v48_1) = v1 c
          ∧ r.2.mem ((c.tc : Thread Cert.FoxIdeal.nD Cert.FoxIdeal.τ).loc Cert.FoxIdeal.main_v48_2) = v2 c
          ∧ r.2.mem ((c.tc : Thread Cert.FoxIdeal.nD Cert.FoxIdeal.τ).loc Cert.FoxIdeal.main_v51) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v87) = v0 c
          ∧ r.2.mem ((c.tc : Thread Cert.FoxRefIdeal.nD Cert.FoxRefIdeal.τ).loc Cert.FoxRefIdeal.main_v88) = v1 c
          ∧ r.2.mem ((c.tc : Thread Cert.FoxRefIdeal.nD Cert.FoxRefIdeal.τ).loc Cert.FoxRefIdeal.main_v89) = v2 c
          ∧ r.2.mem ((c.tc : Thread Cert.FoxRefIdeal.nD Cert.FoxRefIdeal.τ).loc Cert.FoxRefIdeal.main_v91) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Dact_DactIdeal : Prop :=
  True

def algebraic_DactIdeal_DactRefIdeal_pre_ffn_finite [hDactIdeal : Cert.DactIdeal.Facts] [hDactRefIdeal : Cert.DactRefIdeal.Facts] [hPre_ffn_finite : Cert.Pre_ffn_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_ffn_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v11) = v0 c
          ∧ r.2.mem ((c.tc : Thread Cert.DactRefIdeal.nD Cert.DactRefIdeal.τ).loc Cert.DactRefIdeal.main_v10) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Du2_Du2Ideal : Prop :=
  True

def algebraic_Du2Ideal_Du2RefIdeal_pre_du2_finite [hDu2Ideal : Cert.Du2Ideal.Facts] [hDu2RefIdeal : Cert.Du2RefIdeal.Facts] [hPre_du2_finite : Cert.Pre_du2_finite.Facts] : Prop :=
  ∀ (m : (ℓ : Loc Cert.Du2Ideal.nD Cert.Du2Ideal.τ Cert.Du2Ideal.sig) → Buf (Elt Ideal) ℓ) (g : Dev Cert.Du2Ideal.nD → PrngReg)
    (m' : (ℓ : Loc Cert.Du2RefIdeal.nD Cert.Du2RefIdeal.τ Cert.Du2RefIdeal.sig) → Buf (Elt Ideal) ℓ) (g' : Dev Cert.Du2RefIdeal.nD → PrngReg), Pre_Du2Ideal_du2_finite m →
    (∀ c : Dev Cert.Du2Ideal.nD,
      m' ((c.tc : Thread Cert.Du2RefIdeal.nD Cert.Du2RefIdeal.τ).loc Cert.Du2RefIdeal.main_arg0) = m ((c.tc : Thread Cert.Du2Ideal.nD Cert.Du2Ideal.τ).loc Cert.Du2Ideal.main_arg0)
      ∧ m' ((c.tc : Thread Cert.Du2RefIdeal.nD Cert.Du2RefIdeal.τ).loc Cert.Du2RefIdeal.main_arg1) = m ((c.tc : Thread Cert.Du2Ideal.nD Cert.Du2Ideal.τ).loc Cert.Du2Ideal.main_arg1)
      ∧ m' ((c.tc : Thread Cert.Du2RefIdeal.nD Cert.Du2RefIdeal.τ).loc Cert.Du2RefIdeal.main_arg2) = m ((c.tc : Thread Cert.Du2Ideal.nD Cert.Du2Ideal.τ).loc Cert.Du2Ideal.main_arg2)
      ∧ m' ((c.tc : Thread Cert.Du2RefIdeal.nD Cert.Du2RefIdeal.τ).loc Cert.Du2RefIdeal.main_arg3) = m ((c.tc : Thread Cert.Du2Ideal.nD Cert.Du2Ideal.τ).loc Cert.Du2Ideal.main_arg3)
      ∧ m' ((c.tc : Thread Cert.Du2RefIdeal.nD Cert.Du2RefIdeal.τ).loc Cert.Du2RefIdeal.main_arg4) = m ((c.tc : Thread Cert.Du2Ideal.nD Cert.Du2Ideal.τ).loc Cert.Du2Ideal.main_arg4)
      ∧ m' ((c.tc : Thread Cert.Du2RefIdeal.nD Cert.Du2RefIdeal.τ).loc Cert.Du2RefIdeal.main_arg5) = m ((c.tc : Thread Cert.Du2Ideal.nD Cert.Du2Ideal.τ).loc Cert.Du2Ideal.main_arg5)
      ∧ m' ((c.tc : Thread Cert.Du2RefIdeal.nD Cert.Du2RefIdeal.τ).loc Cert.Du2RefIdeal.main_arg6) = m ((c.tc : Thread Cert.Du2Ideal.nD Cert.Du2Ideal.τ).loc Cert.Du2Ideal.main_arg6)) →
    ∃ (v0 : (c : Dev Cert.Du2Ideal.nD) → Buf (Elt Ideal) ((c.tc : Thread Cert.Du2Ideal.nD Cert.Du2Ideal.τ).loc Cert.Du2Ideal.main_v1_0)) (v1 : (c : Dev Cert.Du2Ideal.nD) → Buf (Elt Ideal) ((c.tc : Thread Cert.Du2Ideal.nD Cert.Du2Ideal.τ).loc Cert.Du2Ideal.main_v2)),
      θ_run (Cert.Du2Ideal.defs (F := Ideal)) (onTc (τ := Cert.Du2Ideal.τ) (Cert.Du2Ideal.main (F := Ideal))) ⟨m, fun _ => 0, g⟩ (fun r => ∀ c : Dev Cert.Du2Ideal.nD,
          r.2.mem ((c.tc : Thread Cert.Du2Ideal.nD Cert.Du2Ideal.τ).loc Cert.Du2Ideal.main_v1_0) = v0 c
          ∧ r.2.mem ((c.tc : Thread Cert.Du2Ideal.nD Cert.Du2Ideal.τ).loc Cert.Du2Ideal.main_v2) = v1 c
          ∧ r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
          ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
          ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2)
          ∧ r.2.mem ((c.tc : Thread Cert.Du2Ideal.nD Cert.Du2Ideal.τ).loc Cert.Du2Ideal.main_arg3) = m ((c.tc : Thread Cert.Du2Ideal.nD Cert.Du2Ideal.τ).loc Cert.Du2Ideal.main_arg3)
          ∧ r.2.mem ((c.tc : Thread Cert.Du2Ideal.nD Cert.Du2Ideal.τ).loc Cert.Du2Ideal.main_arg4) = m ((c.tc : Thread Cert.Du2Ideal.nD Cert.Du2Ideal.τ).loc Cert.Du2Ideal.main_arg4)
          ∧ r.2.mem ((c.tc : Thread Cert.Du2Ideal.nD Cert.Du2Ideal.τ).loc Cert.Du2Ideal.main_arg5) = m ((c.tc : Thread Cert.Du2Ideal.nD Cert.Du2Ideal.τ).loc Cert.Du2Ideal.main_arg5)
          ∧ r.2.mem ((c.tc : Thread Cert.Du2Ideal.nD Cert.Du2Ideal.τ).loc Cert.Du2Ideal.main_arg6) = m ((c.tc : Thread Cert.Du2Ideal.nD Cert.Du2Ideal.τ).loc Cert.Du2Ideal.main_arg6))
      ∧ θ_run (Cert.Du2RefIdeal.defs (F := Ideal)) (onTc (τ := Cert.Du2RefIdeal.τ) (Cert.Du2RefIdeal.main (F := Ideal))) ⟨m', fun _ => 0, g'⟩ (fun r => ∀ c : Dev Cert.Du2RefIdeal.nD,
          r.2.mem ((c.tc : Thread Cert.Du2RefIdeal.nD Cert.Du2RefIdeal.τ).loc Cert.Du2RefIdeal.main_v47) = v0 c
          ∧ r.2.mem ((c.tc : Thread Cert.Du2RefIdeal.nD Cert.Du2RefIdeal.τ).loc Cert.Du2RefIdeal.main_v32) = v1 c
          ∧ r.2.mem ((c.tc : Thread Cert.Du2RefIdeal.nD Cert.Du2RefIdeal.τ).loc Cert.Du2RefIdeal.main_arg0) = m' ((c.tc : Thread Cert.Du2RefIdeal.nD Cert.Du2RefIdeal.τ).loc Cert.Du2RefIdeal.main_arg0)
          ∧ r.2.mem ((c.tc : Thread Cert.Du2RefIdeal.nD Cert.Du2RefIdeal.τ).loc Cert.Du2RefIdeal.main_arg1) = m' ((c.tc : Thread Cert.Du2RefIdeal.nD Cert.Du2RefIdeal.τ).loc Cert.Du2RefIdeal.main_arg1)
          ∧ r.2.mem ((c.tc : Thread Cert.Du2RefIdeal.nD Cert.Du2RefIdeal.τ).loc Cert.Du2RefIdeal.main_arg2) = m' ((c.tc : Thread Cert.Du2RefIdeal.nD Cert.Du2RefIdeal.τ).loc Cert.Du2RefIdeal.main_arg2)
          ∧ r.2.mem ((c.tc : Thread Cert.Du2RefIdeal.nD Cert.Du2RefIdeal.τ).loc Cert.Du2RefIdeal.main_arg3) = m' ((c.tc : Thread Cert.Du2RefIdeal.nD Cert.Du2RefIdeal.τ).loc Cert.Du2RefIdeal.main_arg3)
          ∧ r.2.mem ((c.tc : Thread Cert.Du2RefIdeal.nD Cert.Du2RefIdeal.τ).loc Cert.Du2RefIdeal.main_arg4) = m' ((c.tc : Thread Cert.Du2RefIdeal.nD Cert.Du2RefIdeal.τ).loc Cert.Du2RefIdeal.main_arg4)
          ∧ r.2.mem ((c.tc : Thread Cert.Du2RefIdeal.nD Cert.Du2RefIdeal.τ).loc Cert.Du2RefIdeal.main_arg5) = m' ((c.tc : Thread Cert.Du2RefIdeal.nD Cert.Du2RefIdeal.τ).loc Cert.Du2RefIdeal.main_arg5)
          ∧ r.2.mem ((c.tc : Thread Cert.Du2RefIdeal.nD Cert.Du2RefIdeal.τ).loc Cert.Du2RefIdeal.main_arg6) = m' ((c.tc : Thread Cert.Du2RefIdeal.nD Cert.Du2RefIdeal.τ).loc Cert.Du2RefIdeal.main_arg6))

def preserves_Du1_Du1Ideal : Prop :=
  True

def algebraic_Du1Ideal_Du1RefIdeal_pre_du1_finite [hDu1Ideal : Cert.Du1Ideal.Facts] [hDu1RefIdeal : Cert.Du1RefIdeal.Facts] [hPre_du1_finite : Cert.Pre_du1_finite.Facts] : Prop :=
  ∀ (m : (ℓ : Loc Cert.Du1Ideal.nD Cert.Du1Ideal.τ Cert.Du1Ideal.sig) → Buf (Elt Ideal) ℓ) (g : Dev Cert.Du1Ideal.nD → PrngReg)
    (m' : (ℓ : Loc Cert.Du1RefIdeal.nD Cert.Du1RefIdeal.τ Cert.Du1RefIdeal.sig) → Buf (Elt Ideal) ℓ) (g' : Dev Cert.Du1RefIdeal.nD → PrngReg), Pre_Du1Ideal_du1_finite m →
    (∀ c : Dev Cert.Du1Ideal.nD,
      m' ((c.tc : Thread Cert.Du1RefIdeal.nD Cert.Du1RefIdeal.τ).loc Cert.Du1RefIdeal.main_arg0) = m ((c.tc : Thread Cert.Du1Ideal.nD Cert.Du1Ideal.τ).loc Cert.Du1Ideal.main_arg0)
      ∧ m' ((c.tc : Thread Cert.Du1RefIdeal.nD Cert.Du1RefIdeal.τ).loc Cert.Du1RefIdeal.main_arg1) = m ((c.tc : Thread Cert.Du1Ideal.nD Cert.Du1Ideal.τ).loc Cert.Du1Ideal.main_arg1)
      ∧ m' ((c.tc : Thread Cert.Du1RefIdeal.nD Cert.Du1RefIdeal.τ).loc Cert.Du1RefIdeal.main_arg2) = m ((c.tc : Thread Cert.Du1Ideal.nD Cert.Du1Ideal.τ).loc Cert.Du1Ideal.main_arg2)
      ∧ m' ((c.tc : Thread Cert.Du1RefIdeal.nD Cert.Du1RefIdeal.τ).loc Cert.Du1RefIdeal.main_arg3) = m ((c.tc : Thread Cert.Du1Ideal.nD Cert.Du1Ideal.τ).loc Cert.Du1Ideal.main_arg3)
      ∧ m' ((c.tc : Thread Cert.Du1RefIdeal.nD Cert.Du1RefIdeal.τ).loc Cert.Du1RefIdeal.main_arg4) = m ((c.tc : Thread Cert.Du1Ideal.nD Cert.Du1Ideal.τ).loc Cert.Du1Ideal.main_arg4)) →
    ∃ (v0 : (c : Dev Cert.Du1Ideal.nD) → Buf (Elt Ideal) ((c.tc : Thread Cert.Du1Ideal.nD Cert.Du1Ideal.τ).loc Cert.Du1Ideal.main_v1_0)) (v1 : (c : Dev Cert.Du1Ideal.nD) → Buf (Elt Ideal) ((c.tc : Thread Cert.Du1Ideal.nD Cert.Du1Ideal.τ).loc Cert.Du1Ideal.main_v2)),
      θ_run (Cert.Du1Ideal.defs (F := Ideal)) (onTc (τ := Cert.Du1Ideal.τ) (Cert.Du1Ideal.main (F := Ideal))) ⟨m, fun _ => 0, g⟩ (fun r => ∀ c : Dev Cert.Du1Ideal.nD,
          r.2.mem ((c.tc : Thread Cert.Du1Ideal.nD Cert.Du1Ideal.τ).loc Cert.Du1Ideal.main_v1_0) = v0 c
          ∧ r.2.mem ((c.tc : Thread Cert.Du1Ideal.nD Cert.Du1Ideal.τ).loc Cert.Du1Ideal.main_v2) = v1 c
          ∧ r.2.mem ((c.tc : Thread Cert.Du1Ideal.nD Cert.Du1Ideal.τ).loc Cert.Du1Ideal.main_arg0) = m ((c.tc : Thread Cert.Du1Ideal.nD Cert.Du1Ideal.τ).loc Cert.Du1Ideal.main_arg0)
          ∧ r.2.mem ((c.tc : Thread Cert.Du1Ideal.nD Cert.Du1Ideal.τ).loc Cert.Du1Ideal.main_arg1) = m ((c.tc : Thread Cert.Du1Ideal.nD Cert.Du1Ideal.τ).loc Cert.Du1Ideal.main_arg1)
          ∧ r.2.mem ((c.tc : Thread Cert.Du1Ideal.nD Cert.Du1Ideal.τ).loc Cert.Du1Ideal.main_arg2) = m ((c.tc : Thread Cert.Du1Ideal.nD Cert.Du1Ideal.τ).loc Cert.Du1Ideal.main_arg2)
          ∧ r.2.mem ((c.tc : Thread Cert.Du1Ideal.nD Cert.Du1Ideal.τ).loc Cert.Du1Ideal.main_arg3) = m ((c.tc : Thread Cert.Du1Ideal.nD Cert.Du1Ideal.τ).loc Cert.Du1Ideal.main_arg3)
          ∧ r.2.mem ((c.tc : Thread Cert.Du1Ideal.nD Cert.Du1Ideal.τ).loc Cert.Du1Ideal.main_arg4) = m ((c.tc : Thread Cert.Du1Ideal.nD Cert.Du1Ideal.τ).loc Cert.Du1Ideal.main_arg4))
      ∧ θ_run (Cert.Du1RefIdeal.defs (F := Ideal)) (onTc (τ := Cert.Du1RefIdeal.τ) (Cert.Du1RefIdeal.main (F := Ideal))) ⟨m', fun _ => 0, g'⟩ (fun r => ∀ c : Dev Cert.Du1RefIdeal.nD,
          r.2.mem ((c.tc : Thread Cert.Du1RefIdeal.nD Cert.Du1RefIdeal.τ).loc Cert.Du1RefIdeal.main_v40) = v0 c
          ∧ r.2.mem ((c.tc : Thread Cert.Du1RefIdeal.nD Cert.Du1RefIdeal.τ).loc Cert.Du1RefIdeal.main_v25) = v1 c
          ∧ r.2.mem ((c.tc : Thread Cert.Du1RefIdeal.nD Cert.Du1RefIdeal.τ).loc Cert.Du1RefIdeal.main_arg0) = m' ((c.tc : Thread Cert.Du1RefIdeal.nD Cert.Du1RefIdeal.τ).loc Cert.Du1RefIdeal.main_arg0)
          ∧ r.2.mem ((c.tc : Thread Cert.Du1RefIdeal.nD Cert.Du1RefIdeal.τ).loc Cert.Du1RefIdeal.main_arg1) = m' ((c.tc : Thread Cert.Du1RefIdeal.nD Cert.Du1RefIdeal.τ).loc Cert.Du1RefIdeal.main_arg1)
          ∧ r.2.mem ((c.tc : Thread Cert.Du1RefIdeal.nD Cert.Du1RefIdeal.τ).loc Cert.Du1RefIdeal.main_arg2) = m' ((c.tc : Thread Cert.Du1RefIdeal.nD Cert.Du1RefIdeal.τ).loc Cert.Du1RefIdeal.main_arg2)
          ∧ r.2.mem ((c.tc : Thread Cert.Du1RefIdeal.nD Cert.Du1RefIdeal.τ).loc Cert.Du1RefIdeal.main_arg3) = m' ((c.tc : Thread Cert.Du1RefIdeal.nD Cert.Du1RefIdeal.τ).loc Cert.Du1RefIdeal.main_arg3)
          ∧ r.2.mem ((c.tc : Thread Cert.Du1RefIdeal.nD Cert.Du1RefIdeal.τ).loc Cert.Du1RefIdeal.main_arg4) = m' ((c.tc : Thread Cert.Du1RefIdeal.nD Cert.Du1RefIdeal.τ).loc Cert.Du1RefIdeal.main_arg4))

def preserves_Dwg_DwgIdeal : Prop :=
  True

def algebraic_DwgIdeal_DwgRefIdeal [hDwgIdeal : Cert.DwgIdeal.Facts] [hDwgRefIdeal : Cert.DwgRefIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgRefIdeal.nD Cert.DwgRefIdeal.τ Cert.DwgRefIdeal.sig) → Buf (Elt Ideal) ℓ) (g' : Dev Cert.DwgRefIdeal.nD → PrngReg), Pre_DwgIdeal m →
    (∀ c : Dev Cert.DwgIdeal.nD,
      m' ((c.tc : Thread Cert.DwgRefIdeal.nD Cert.DwgRefIdeal.τ).loc Cert.DwgRefIdeal.main_arg0) = m ((c.tc : Thread Cert.DwgIdeal.nD Cert.DwgIdeal.τ).loc Cert.DwgIdeal.main_arg0)
      ∧ m' ((c.tc : Thread Cert.DwgRefIdeal.nD Cert.DwgRefIdeal.τ).loc Cert.DwgRefIdeal.main_arg1) = m ((c.tc : Thread Cert.DwgIdeal.nD Cert.DwgIdeal.τ).loc Cert.DwgIdeal.main_arg1)) →
    ∃ (v0 : (c : Dev Cert.DwgIdeal.nD) → Buf (Elt Ideal) ((c.tc : Thread Cert.DwgIdeal.nD Cert.DwgIdeal.τ).loc Cert.DwgIdeal.main_v0)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v0) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ θ_run (Cert.DwgRefIdeal.defs (F := Ideal)) (onTc (τ := Cert.DwgRefIdeal.τ) (Cert.DwgRefIdeal.main (F := Ideal))) ⟨m', fun _ => 0, g'⟩ (fun r => ∀ c : Dev Cert.DwgRefIdeal.nD,
          r.2.mem ((c.tc : Thread Cert.DwgRefIdeal.nD Cert.DwgRefIdeal.τ).loc Cert.DwgRefIdeal.main_v7) = v0 c
          ∧ r.2.mem ((c.tc : Thread Cert.DwgRefIdeal.nD Cert.DwgRefIdeal.τ).loc Cert.DwgRefIdeal.main_arg0) = m' ((c.tc : Thread Cert.DwgRefIdeal.nD Cert.DwgRefIdeal.τ).loc Cert.DwgRefIdeal.main_arg0)
          ∧ r.2.mem ((c.tc : Thread Cert.DwgRefIdeal.nD Cert.DwgRefIdeal.τ).loc Cert.DwgRefIdeal.main_arg1) = m' ((c.tc : Thread Cert.DwgRefIdeal.nD Cert.DwgRefIdeal.τ).loc Cert.DwgRefIdeal.main_arg1))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v4) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v4) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dwpg_DwpgIdeal : Prop :=
  True

def algebraic_DwpgIdeal_DwpgRefIdeal [hDwpgIdeal : Cert.DwpgIdeal.Facts] [hDwpgRefIdeal : Cert.DwpgRefIdeal.Facts] : Prop :=
  ∀ (m : (ℓ : Loc Cert.DwpgIdeal.nD Cert.DwpgIdeal.τ Cert.DwpgIdeal.sig) → Buf (Elt Ideal) ℓ) (g : Dev Cert.DwpgIdeal.nD → PrngReg)
    (m' : (ℓ : Loc Cert.DwpgRefIdeal.nD Cert.DwpgRefIdeal.τ Cert.DwpgRefIdeal.sig) → Buf (Elt Ideal) ℓ) (g' : Dev Cert.DwpgRefIdeal.nD → PrngReg), Pre_DwpgIdeal m →
    (∀ c : Dev Cert.DwpgIdeal.nD,
      m' ((c.tc : Thread Cert.DwpgRefIdeal.nD Cert.DwpgRefIdeal.τ).loc Cert.DwpgRefIdeal.main_arg0) = m ((c.tc : Thread Cert.DwpgIdeal.nD Cert.DwpgIdeal.τ).loc Cert.DwpgIdeal.main_arg0)
      ∧ m' ((c.tc : Thread Cert.DwpgRefIdeal.nD Cert.DwpgRefIdeal.τ).loc Cert.DwpgRefIdeal.main_arg1) = m ((c.tc : Thread Cert.DwpgIdeal.nD Cert.DwpgIdeal.τ).loc Cert.DwpgIdeal.main_arg1)) →
    ∃ (v0 : (c : Dev Cert.DwpgIdeal.nD) → Buf (Elt Ideal) ((c.tc : Thread Cert.DwpgIdeal.nD Cert.DwpgIdeal.τ).loc Cert.DwpgIdeal.main_v0)),
      θ_run (Cert.DwpgIdeal.defs (F := Ideal)) (onTc (τ := Cert.DwpgIdeal.τ) (Cert.DwpgIdeal.main (F := Ideal))) ⟨m, fun _ => 0, g⟩ (fun r => ∀ c : Dev Cert.DwpgIdeal.nD,
          r.2.mem ((c.tc : Thread Cert.DwpgIdeal.nD Cert.DwpgIdeal.τ).loc Cert.DwpgIdeal.main_v0) = v0 c
          ∧ r.2.mem ((c.tc : Thread Cert.DwpgIdeal.nD Cert.DwpgIdeal.τ).loc Cert.DwpgIdeal.main_arg0) = m ((c.tc : Thread Cert.DwpgIdeal.nD Cert.DwpgIdeal.τ).loc Cert.DwpgIdeal.main_arg0)
          ∧ r.2.mem ((c.tc : Thread Cert.DwpgIdeal.nD Cert.DwpgIdeal.τ).loc Cert.DwpgIdeal.main_arg1) = m ((c.tc : Thread Cert.DwpgIdeal.nD Cert.DwpgIdeal.τ).loc Cert.DwpgIdeal.main_arg1))
      ∧ θ_run (Cert.DwpgRefIdeal.defs (F := Ideal)) (onTc (τ := Cert.DwpgRefIdeal.τ) (Cert.DwpgRefIdeal.main (F := Ideal))) ⟨m', fun _ => 0, g'⟩ (fun r => ∀ c : Dev Cert.DwpgRefIdeal.nD,
          r.2.mem ((c.tc : Thread Cert.DwpgRefIdeal.nD Cert.DwpgRefIdeal.τ).loc Cert.DwpgRefIdeal.main_v5) = v0 c
          ∧ r.2.mem ((c.tc : Thread Cert.DwpgRefIdeal.nD Cert.DwpgRefIdeal.τ).loc Cert.DwpgRefIdeal.main_arg0) = m' ((c.tc : Thread Cert.DwpgRefIdeal.nD Cert.DwpgRefIdeal.τ).loc Cert.DwpgRefIdeal.main_arg0)
          ∧ r.2.mem ((c.tc : Thread Cert.DwpgRefIdeal.nD Cert.DwpgRefIdeal.τ).loc Cert.DwpgRefIdeal.main_arg1) = m' ((c.tc : Thread Cert.DwpgRefIdeal.nD Cert.DwpgRefIdeal.τ).loc Cert.DwpgRefIdeal.main_arg1))

def preserves_Du3_Du3Ideal : Prop :=
  True

def algebraic_Du3Ideal_Du3RefIdeal_pre_du3_finite [hDu3Ideal : Cert.Du3Ideal.Facts] [hDu3RefIdeal : Cert.Du3RefIdeal.Facts] [hPre_du3_finite : Cert.Pre_du3_finite.Facts] : Prop :=
  ∀ (m : (ℓ : Loc Cert.Du3Ideal.nD Cert.Du3Ideal.τ Cert.Du3Ideal.sig) → Buf (Elt Ideal) ℓ) (g : Dev Cert.Du3Ideal.nD → PrngReg)
    (m' : (ℓ : Loc Cert.Du3RefIdeal.nD Cert.Du3RefIdeal.τ Cert.Du3RefIdeal.sig) → Buf (Elt Ideal) ℓ) (g' : Dev Cert.Du3RefIdeal.nD → PrngReg), Pre_Du3Ideal_du3_finite m →
    (∀ c : Dev Cert.Du3Ideal.nD,
      m' ((c.tc : Thread Cert.Du3RefIdeal.nD Cert.Du3RefIdeal.τ).loc Cert.Du3RefIdeal.main_arg0) = m ((c.tc : Thread Cert.Du3Ideal.nD Cert.Du3Ideal.τ).loc Cert.Du3Ideal.main_arg0)
      ∧ m' ((c.tc : Thread Cert.Du3RefIdeal.nD Cert.Du3RefIdeal.τ).loc Cert.Du3RefIdeal.main_arg1) = m ((c.tc : Thread Cert.Du3Ideal.nD Cert.Du3Ideal.τ).loc Cert.Du3Ideal.main_arg1)
      ∧ m' ((c.tc : Thread Cert.Du3RefIdeal.nD Cert.Du3RefIdeal.τ).loc Cert.Du3RefIdeal.main_arg2) = m ((c.tc : Thread Cert.Du3Ideal.nD Cert.Du3Ideal.τ).loc Cert.Du3Ideal.main_arg2)
      ∧ m' ((c.tc : Thread Cert.Du3RefIdeal.nD Cert.Du3RefIdeal.τ).loc Cert.Du3RefIdeal.main_arg3) = m ((c.tc : Thread Cert.Du3Ideal.nD Cert.Du3Ideal.τ).loc Cert.Du3Ideal.main_arg3)
      ∧ m' ((c.tc : Thread Cert.Du3RefIdeal.nD Cert.Du3RefIdeal.τ).loc Cert.Du3RefIdeal.main_arg4) = m ((c.tc : Thread Cert.Du3Ideal.nD Cert.Du3Ideal.τ).loc Cert.Du3Ideal.main_arg4)) →
    ∃ (v0 : (c : Dev Cert.Du3Ideal.nD) → Buf (Elt Ideal) ((c.tc : Thread Cert.Du3Ideal.nD Cert.Du3Ideal.τ).loc Cert.Du3Ideal.main_v1_0)) (v1 : (c : Dev Cert.Du3Ideal.nD) → Buf (Elt Ideal) ((c.tc : Thread Cert.Du3Ideal.nD Cert.Du3Ideal.τ).loc Cert.Du3Ideal.main_v2)),
      θ_run (Cert.Du3Ideal.defs (F := Ideal)) (onTc (τ := Cert.Du3Ideal.τ) (Cert.Du3Ideal.main (F := Ideal))) ⟨m, fun _ => 0, g⟩ (fun r => ∀ c : Dev Cert.Du3Ideal.nD,
          r.2.mem ((c.tc : Thread Cert.Du3Ideal.nD Cert.Du3Ideal.τ).loc Cert.Du3Ideal.main_v1_0) = v0 c
          ∧ r.2.mem ((c.tc : Thread Cert.Du3Ideal.nD Cert.Du3Ideal.τ).loc Cert.Du3Ideal.main_v2) = v1 c
          ∧ r.2.mem ((c.tc : Thread Cert.Du3Ideal.nD Cert.Du3Ideal.τ).loc Cert.Du3Ideal.main_arg0) = m ((c.tc : Thread Cert.Du3Ideal.nD Cert.Du3Ideal.τ).loc Cert.Du3Ideal.main_arg0)
          ∧ r.2.mem ((c.tc : Thread Cert.Du3Ideal.nD Cert.Du3Ideal.τ).loc Cert.Du3Ideal.main_arg1) = m ((c.tc : Thread Cert.Du3Ideal.nD Cert.Du3Ideal.τ).loc Cert.Du3Ideal.main_arg1)
          ∧ r.2.mem ((c.tc : Thread Cert.Du3Ideal.nD Cert.Du3Ideal.τ).loc Cert.Du3Ideal.main_arg2) = m ((c.tc : Thread Cert.Du3Ideal.nD Cert.Du3Ideal.τ).loc Cert.Du3Ideal.main_arg2)
          ∧ r.2.mem ((c.tc : Thread Cert.Du3Ideal.nD Cert.Du3Ideal.τ).loc Cert.Du3Ideal.main_arg3) = m ((c.tc : Thread Cert.Du3Ideal.nD Cert.Du3Ideal.τ).loc Cert.Du3Ideal.main_arg3)
          ∧ r.2.mem ((c.tc : Thread Cert.Du3Ideal.nD Cert.Du3Ideal.τ).loc Cert.Du3Ideal.main_arg4) = m ((c.tc : Thread Cert.Du3Ideal.nD Cert.Du3Ideal.τ).loc Cert.Du3Ideal.main_arg4))
      ∧ θ_run (Cert.Du3RefIdeal.defs (F := Ideal)) (onTc (τ := Cert.Du3RefIdeal.τ) (Cert.Du3RefIdeal.main (F := Ideal))) ⟨m', fun _ => 0, g'⟩ (fun r => ∀ c : Dev Cert.Du3RefIdeal.nD,
          r.2.mem ((c.tc : Thread Cert.Du3RefIdeal.nD Cert.Du3RefIdeal.τ).loc Cert.Du3RefIdeal.main_v40) = v0 c
          ∧ r.2.mem ((c.tc : Thread Cert.Du3RefIdeal.nD Cert.Du3RefIdeal.τ).loc Cert.Du3RefIdeal.main_v25) = v1 c
          ∧ r.2.mem ((c.tc : Thread Cert.Du3RefIdeal.nD Cert.Du3RefIdeal.τ).loc Cert.Du3RefIdeal.main_arg0) = m' ((c.tc : Thread Cert.Du3RefIdeal.nD Cert.Du3RefIdeal.τ).loc Cert.Du3RefIdeal.main_arg0)
          ∧ r.2.mem ((c.tc : Thread Cert.Du3RefIdeal.nD Cert.Du3RefIdeal.τ).loc Cert.Du3RefIdeal.main_arg1) = m' ((c.tc : Thread Cert.Du3RefIdeal.nD Cert.Du3RefIdeal.τ).loc Cert.Du3RefIdeal.main_arg1)
          ∧ r.2.mem ((c.tc : Thread Cert.Du3RefIdeal.nD Cert.Du3RefIdeal.τ).loc Cert.Du3RefIdeal.main_arg2) = m' ((c.tc : Thread Cert.Du3RefIdeal.nD Cert.Du3RefIdeal.τ).loc Cert.Du3RefIdeal.main_arg2)
          ∧ r.2.mem ((c.tc : Thread Cert.Du3RefIdeal.nD Cert.Du3RefIdeal.τ).loc Cert.Du3RefIdeal.main_arg3) = m' ((c.tc : Thread Cert.Du3RefIdeal.nD Cert.Du3RefIdeal.τ).loc Cert.Du3RefIdeal.main_arg3)
          ∧ r.2.mem ((c.tc : Thread Cert.Du3RefIdeal.nD Cert.Du3RefIdeal.τ).loc Cert.Du3RefIdeal.main_arg4) = m' ((c.tc : Thread Cert.Du3RefIdeal.nD Cert.Du3RefIdeal.τ).loc Cert.Du3RefIdeal.main_arg4))

def preserves_Dycat_DycatIdeal : Prop :=
  True

def algebraic_DycatIdeal_DycatRefIdeal [hDycatIdeal : Cert.DycatIdeal.Facts] [hDycatRefIdeal : Cert.DycatRefIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.DycatRefIdeal.nD Cert.DycatRefIdeal.τ Cert.DycatRefIdeal.sig) → Buf (Elt Ideal) ℓ) (g' : Dev Cert.DycatRefIdeal.nD → PrngReg), Pre_DycatIdeal m →
    (∀ c : Dev Cert.DycatIdeal.nD,
      m' ((c.tc : Thread Cert.DycatRefIdeal.nD Cert.DycatRefIdeal.τ).loc Cert.DycatRefIdeal.main_arg0) = m ((c.tc : Thread Cert.DycatIdeal.nD Cert.DycatIdeal.τ).loc Cert.DycatIdeal.main_arg0)
      ∧ m' ((c.tc : Thread Cert.DycatRefIdeal.nD Cert.DycatRefIdeal.τ).loc Cert.DycatRefIdeal.main_arg1) = m ((c.tc : Thread Cert.DycatIdeal.nD Cert.DycatIdeal.τ).loc Cert.DycatIdeal.main_arg1)) →
    ∃ (v0 : (c : Dev Cert.DycatIdeal.nD) → Buf (Elt Ideal) ((c.tc : Thread Cert.DycatIdeal.nD Cert.DycatIdeal.τ).loc Cert.DycatIdeal.main_v0)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v0) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ θ_run (Cert.DycatRefIdeal.defs (F := Ideal)) (onTc (τ := Cert.DycatRefIdeal.τ) (Cert.DycatRefIdeal.main (F := Ideal))) ⟨m', fun _ => 0, g'⟩ (fun r => ∀ c : Dev Cert.DycatRefIdeal.nD,
          r.2.mem ((c.tc : Thread Cert.DycatRefIdeal.nD Cert.DycatRefIdeal.τ).loc Cert.DycatRefIdeal.main_v3) = v0 c
          ∧ r.2.mem ((c.tc : Thread Cert.DycatRefIdeal.nD Cert.DycatRefIdeal.τ).loc Cert.DycatRefIdeal.main_arg0) = m' ((c.tc : Thread Cert.DycatRefIdeal.nD Cert.DycatRefIdeal.τ).loc Cert.DycatRefIdeal.main_arg0)
          ∧ r.2.mem ((c.tc : Thread Cert.DycatRefIdeal.nD Cert.DycatRefIdeal.τ).loc Cert.DycatRefIdeal.main_arg1) = m' ((c.tc : Thread Cert.DycatRefIdeal.nD Cert.DycatRefIdeal.τ).loc Cert.DycatRefIdeal.main_arg1))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)) (v2 : (c : Dev Cert.GuIdeal.nD) → Buf (Elt Ideal) ((c.tc : Thread Cert.GuIdeal.nD Cert.GuIdeal.τ).loc Cert.GuIdeal.main_v0_2)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_v0_2) = v2 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v7) = v0 c
          ∧ r.2.mem ((c.tc : Thread Cert.GuRefIdeal.nD Cert.GuRefIdeal.τ).loc Cert.GuRefIdeal.main_v8) = v1 c
          ∧ r.2.mem ((c.tc : Thread Cert.GuRefIdeal.nD Cert.GuRefIdeal.τ).loc Cert.GuRefIdeal.main_v11) = v2 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v17) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v0)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v2) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Pg_PgIdeal : Prop :=
  True

def algebraic_PgIdeal_PgRefIdeal [hPgIdeal : Cert.PgIdeal.Facts] [hPgRefIdeal : Cert.PgRefIdeal.Facts] : Prop :=
  ∀ (m : (ℓ : Loc Cert.PgIdeal.nD Cert.PgIdeal.τ Cert.PgIdeal.sig) → Buf (Elt Ideal) ℓ) (g : Dev Cert.PgIdeal.nD → PrngReg)
    (m' : (ℓ : Loc Cert.PgRefIdeal.nD Cert.PgRefIdeal.τ Cert.PgRefIdeal.sig) → Buf (Elt Ideal) ℓ) (g' : Dev Cert.PgRefIdeal.nD → PrngReg), Pre_PgIdeal m →
    (∀ c : Dev Cert.PgIdeal.nD,
      m' ((c.tc : Thread Cert.PgRefIdeal.nD Cert.PgRefIdeal.τ).loc Cert.PgRefIdeal.main_arg0) = m ((c.tc : Thread Cert.PgIdeal.nD Cert.PgIdeal.τ).loc Cert.PgIdeal.main_arg0)
      ∧ m' ((c.tc : Thread Cert.PgRefIdeal.nD Cert.PgRefIdeal.τ).loc Cert.PgRefIdeal.main_arg1) = m ((c.tc : Thread Cert.PgIdeal.nD Cert.PgIdeal.τ).loc Cert.PgIdeal.main_arg1)
      ∧ m' ((c.tc : Thread Cert.PgRefIdeal.nD Cert.PgRefIdeal.τ).loc Cert.PgRefIdeal.main_arg2) = m ((c.tc : Thread Cert.PgIdeal.nD Cert.PgIdeal.τ).loc Cert.PgIdeal.main_arg2)
      ∧ m' ((c.tc : Thread Cert.PgRefIdeal.nD Cert.PgRefIdeal.τ).loc Cert.PgRefIdeal.main_arg3) = m ((c.tc : Thread Cert.PgIdeal.nD Cert.PgIdeal.τ).loc Cert.PgIdeal.main_arg3)
      ∧ m' ((c.tc : Thread Cert.PgRefIdeal.nD Cert.PgRefIdeal.τ).loc Cert.PgRefIdeal.main_arg4) = m ((c.tc : Thread Cert.PgIdeal.nD Cert.PgIdeal.τ).loc Cert.PgIdeal.main_arg4)) →
    ∃ (v0 : (c : Dev Cert.PgIdeal.nD) → Buf (Elt Ideal) ((c.tc : Thread Cert.PgIdeal.nD Cert.PgIdeal.τ).loc Cert.PgIdeal.main_v1_0)) (v1 : (c : Dev Cert.PgIdeal.nD) → Buf (Elt Ideal) ((c.tc : Thread Cert.PgIdeal.nD Cert.PgIdeal.τ).loc Cert.PgIdeal.main_v1_1)),
      θ_run (Cert.PgIdeal.defs (F := Ideal)) (onTc (τ := Cert.PgIdeal.τ) (Cert.PgIdeal.main (F := Ideal))) ⟨m, fun _ => 0, g⟩ (fun r => ∀ c : Dev Cert.PgIdeal.nD,
          r.2.mem ((c.tc : Thread Cert.PgIdeal.nD Cert.PgIdeal.τ).loc Cert.PgIdeal.main_v1_0) = v0 c
          ∧ r.2.mem ((c.tc : Thread Cert.PgIdeal.nD Cert.PgIdeal.τ).loc Cert.PgIdeal.main_v1_1) = v1 c
          ∧ r.2.mem ((c.tc : Thread Cert.PgIdeal.nD Cert.PgIdeal.τ).loc Cert.PgIdeal.main_arg0) = m ((c.tc : Thread Cert.PgIdeal.nD Cert.PgIdeal.τ).loc Cert.PgIdeal.main_arg0)
          ∧ r.2.mem ((c.tc : Thread Cert.PgIdeal.nD Cert.PgIdeal.τ).loc Cert.PgIdeal.main_arg1) = m ((c.tc : Thread Cert.PgIdeal.nD Cert.PgIdeal.τ).loc Cert.PgIdeal.main_arg1)
          ∧ r.2.mem ((c.tc : Thread Cert.PgIdeal.nD Cert.PgIdeal.τ).loc Cert.PgIdeal.main_arg2) = m ((c.tc : Thread Cert.PgIdeal.nD Cert.PgIdeal.τ).loc Cert.PgIdeal.main_arg2)
          ∧ r.2.mem ((c.tc : Thread Cert.PgIdeal.nD Cert.PgIdeal.τ).loc Cert.PgIdeal.main_arg3) = m ((c.tc : Thread Cert.PgIdeal.nD Cert.PgIdeal.τ).loc Cert.PgIdeal.main_arg3)
          ∧ r.2.mem ((c.tc : Thread Cert.PgIdeal.nD Cert.PgIdeal.τ).loc Cert.PgIdeal.main_arg4) = m ((c.tc : Thread Cert.PgIdeal.nD Cert.PgIdeal.τ).loc Cert.PgIdeal.main_arg4))
      ∧ θ_run (Cert.PgRefIdeal.defs (F := Ideal)) (onTc (τ := Cert.PgRefIdeal.τ) (Cert.PgRefIdeal.main (F := Ideal))) ⟨m', fun _ => 0, g'⟩ (fun r => ∀ c : Dev Cert.PgRefIdeal.nD,
          r.2.mem ((c.tc : Thread Cert.PgRefIdeal.nD Cert.PgRefIdeal.τ).loc Cert.PgRefIdeal.main_v13) = v0 c
          ∧ r.2.mem ((c.tc : Thread Cert.PgRefIdeal.nD Cert.PgRefIdeal.τ).loc Cert.PgRefIdeal.main_v2) = v1 c
          ∧ r.2.mem ((c.tc : Thread Cert.PgRefIdeal.nD Cert.PgRefIdeal.τ).loc Cert.PgRefIdeal.main_arg0) = m' ((c.tc : Thread Cert.PgRefIdeal.nD Cert.PgRefIdeal.τ).loc Cert.PgRefIdeal.main_arg0)
          ∧ r.2.mem ((c.tc : Thread Cert.PgRefIdeal.nD Cert.PgRefIdeal.τ).loc Cert.PgRefIdeal.main_arg1) = m' ((c.tc : Thread Cert.PgRefIdeal.nD Cert.PgRefIdeal.τ).loc Cert.PgRefIdeal.main_arg1)
          ∧ r.2.mem ((c.tc : Thread Cert.PgRefIdeal.nD Cert.PgRefIdeal.τ).loc Cert.PgRefIdeal.main_arg2) = m' ((c.tc : Thread Cert.PgRefIdeal.nD Cert.PgRefIdeal.τ).loc Cert.PgRefIdeal.main_arg2)
          ∧ r.2.mem ((c.tc : Thread Cert.PgRefIdeal.nD Cert.PgRefIdeal.τ).loc Cert.PgRefIdeal.main_arg3) = m' ((c.tc : Thread Cert.PgRefIdeal.nD Cert.PgRefIdeal.τ).loc Cert.PgRefIdeal.main_arg3)
          ∧ r.2.mem ((c.tc : Thread Cert.PgRefIdeal.nD Cert.PgRefIdeal.τ).loc Cert.PgRefIdeal.main_arg4) = m' ((c.tc : Thread Cert.PgRefIdeal.nD Cert.PgRefIdeal.τ).loc Cert.PgRefIdeal.main_arg4))

def preserves_Dwpp_DwppIdeal : Prop :=
  True

def algebraic_DwppIdeal_DwppRefIdeal [hDwppIdeal : Cert.DwppIdeal.Facts] [hDwppRefIdeal : Cert.DwppRefIdeal.Facts] : Prop :=
  ∀ (m : (ℓ : Loc Cert.DwppIdeal.nD Cert.DwppIdeal.τ Cert.DwppIdeal.sig) → Buf (Elt Ideal) ℓ) (g : Dev Cert.DwppIdeal.nD → PrngReg)
    (m' : (ℓ : Loc Cert.DwppRefIdeal.nD Cert.DwppRefIdeal.τ Cert.DwppRefIdeal.sig) → Buf (Elt Ideal) ℓ) (g' : Dev Cert.DwppRefIdeal.nD → PrngReg), Pre_DwppIdeal m →
    (∀ c : Dev Cert.DwppIdeal.nD,
      m' ((c.tc : Thread Cert.DwppRefIdeal.nD Cert.DwppRefIdeal.τ).loc Cert.DwppRefIdeal.main_arg0) = m ((c.tc : Thread Cert.DwppIdeal.nD Cert.DwppIdeal.τ).loc Cert.DwppIdeal.main_arg0)
      ∧ m' ((c.tc : Thread Cert.DwppRefIdeal.nD Cert.DwppRefIdeal.τ).loc Cert.DwppRefIdeal.main_arg1) = m ((c.tc : Thread Cert.DwppIdeal.nD Cert.DwppIdeal.τ).loc Cert.DwppIdeal.main_arg1)) →
    ∃ (v0 : (c : Dev Cert.DwppIdeal.nD) → Buf (Elt Ideal) ((c.tc : Thread Cert.DwppIdeal.nD Cert.DwppIdeal.τ).loc Cert.DwppIdeal.main_v0)),
      θ_run (Cert.DwppIdeal.defs (F := Ideal)) (onTc (τ := Cert.DwppIdeal.τ) (Cert.DwppIdeal.main (F := Ideal))) ⟨m, fun _ => 0, g⟩ (fun r => ∀ c : Dev Cert.DwppIdeal.nD,
          r.2.mem ((c.tc : Thread Cert.DwppIdeal.nD Cert.DwppIdeal.τ).loc Cert.DwppIdeal.main_v0) = v0 c
          ∧ r.2.mem ((c.tc : Thread Cert.DwppIdeal.nD Cert.DwppIdeal.τ).loc Cert.DwppIdeal.main_arg0) = m ((c.tc : Thread Cert.DwppIdeal.nD Cert.DwppIdeal.τ).loc Cert.DwppIdeal.main_arg0)
          ∧ r.2.mem ((c.tc : Thread Cert.DwppIdeal.nD Cert.DwppIdeal.τ).loc Cert.DwppIdeal.main_arg1) = m ((c.tc : Thread Cert.DwppIdeal.nD Cert.DwppIdeal.τ).loc Cert.DwppIdeal.main_arg1))
      ∧ θ_run (Cert.DwppRefIdeal.defs (F := Ideal)) (onTc (τ := Cert.DwppRefIdeal.τ) (Cert.DwppRefIdeal.main (F := Ideal))) ⟨m', fun _ => 0, g'⟩ (fun r => ∀ c : Dev Cert.DwppRefIdeal.nD,
          r.2.mem ((c.tc : Thread Cert.DwppRefIdeal.nD Cert.DwppRefIdeal.τ).loc Cert.DwppRefIdeal.main_v4) = v0 c
          ∧ r.2.mem ((c.tc : Thread Cert.DwppRefIdeal.nD Cert.DwppRefIdeal.τ).loc Cert.DwppRefIdeal.main_arg0) = m' ((c.tc : Thread Cert.DwppRefIdeal.nD Cert.DwppRefIdeal.τ).loc Cert.DwppRefIdeal.main_arg0)
          ∧ r.2.mem ((c.tc : Thread Cert.DwppRefIdeal.nD Cert.DwppRefIdeal.τ).loc Cert.DwppRefIdeal.main_arg1) = m' ((c.tc : Thread Cert.DwppRefIdeal.nD Cert.DwppRefIdeal.τ).loc Cert.DwppRefIdeal.main_arg1))

def preserves_Pp_PpIdeal : Prop :=
  True

def algebraic_PpIdeal_PpRefIdeal [hPpIdeal : Cert.PpIdeal.Facts] [hPpRefIdeal : Cert.PpRefIdeal.Facts] : Prop :=
  ∀ (m : (ℓ : Loc Cert.PpIdeal.nD Cert.PpIdeal.τ Cert.PpIdeal.sig) → Buf (Elt Ideal) ℓ) (g : Dev Cert.PpIdeal.nD → PrngReg)
    (m' : (ℓ : Loc Cert.PpRefIdeal.nD Cert.PpRefIdeal.τ Cert.PpRefIdeal.sig) → Buf (Elt Ideal) ℓ) (g' : Dev Cert.PpRefIdeal.nD → PrngReg), Pre_PpIdeal m →
    (∀ c : Dev Cert.PpIdeal.nD,
      m' ((c.tc : Thread Cert.PpRefIdeal.nD Cert.PpRefIdeal.τ).loc Cert.PpRefIdeal.main_arg0) = m ((c.tc : Thread Cert.PpIdeal.nD Cert.PpIdeal.τ).loc Cert.PpIdeal.main_arg0)
      ∧ m' ((c.tc : Thread Cert.PpRefIdeal.nD Cert.PpRefIdeal.τ).loc Cert.PpRefIdeal.main_arg1) = m ((c.tc : Thread Cert.PpIdeal.nD Cert.PpIdeal.τ).loc Cert.PpIdeal.main_arg1)) →
    ∃ (v0 : (c : Dev Cert.PpIdeal.nD) → Buf (Elt Ideal) ((c.tc : Thread Cert.PpIdeal.nD Cert.PpIdeal.τ).loc Cert.PpIdeal.main_v0)),
      θ_run (Cert.PpIdeal.defs (F := Ideal)) (onTc (τ := Cert.PpIdeal.τ) (Cert.PpIdeal.main (F := Ideal))) ⟨m, fun _ => 0, g⟩ (fun r => ∀ c : Dev Cert.PpIdeal.nD,
          r.2.mem ((c.tc : Thread Cert.PpIdeal.nD Cert.PpIdeal.τ).loc Cert.PpIdeal.main_v0) = v0 c
          ∧ r.2.mem ((c.tc : Thread Cert.PpIdeal.nD Cert.PpIdeal.τ).loc Cert.PpIdeal.main_arg0) = m ((c.tc : Thread Cert.PpIdeal.nD Cert.PpIdeal.τ).loc Cert.PpIdeal.main_arg0)
          ∧ r.2.mem ((c.tc : Thread Cert.PpIdeal.nD Cert.PpIdeal.τ).loc Cert.PpIdeal.main_arg1) = m ((c.tc : Thread Cert.PpIdeal.nD Cert.PpIdeal.τ).loc Cert.PpIdeal.main_arg1))
      ∧ θ_run (Cert.PpRefIdeal.defs (F := Ideal)) (onTc (τ := Cert.PpRefIdeal.τ) (Cert.PpRefIdeal.main (F := Ideal))) ⟨m', fun _ => 0, g'⟩ (fun r => ∀ c : Dev Cert.PpRefIdeal.nD,
          r.2.mem ((c.tc : Thread Cert.PpRefIdeal.nD Cert.PpRefIdeal.τ).loc Cert.PpRefIdeal.main_v1) = v0 c
          ∧ r.2.mem ((c.tc : Thread Cert.PpRefIdeal.nD Cert.PpRefIdeal.τ).loc Cert.PpRefIdeal.main_arg0) = m' ((c.tc : Thread Cert.PpRefIdeal.nD Cert.PpRefIdeal.τ).loc Cert.PpRefIdeal.main_arg0)
          ∧ r.2.mem ((c.tc : Thread Cert.PpRefIdeal.nD Cert.PpRefIdeal.τ).loc Cert.PpRefIdeal.main_arg1) = m' ((c.tc : Thread Cert.PpRefIdeal.nD Cert.PpRefIdeal.τ).loc Cert.PpRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v28) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Dconv_DconvIdeal : Prop :=
  True

def algebraic_DconvIdeal_DconvRefIdeal [hDconvIdeal : Cert.DconvIdeal.Facts] [hDconvRefIdeal : Cert.DconvRefIdeal.Facts] : Prop :=
  ∀ (m : (ℓ : Loc Cert.DconvIdeal.nD Cert.DconvIdeal.τ Cert.DconvIdeal.sig) → Buf (Elt Ideal) ℓ) (g : Dev Cert.DconvIdeal.nD → PrngReg)
    (m' : (ℓ : Loc Cert.DconvRefIdeal.nD Cert.DconvRefIdeal.τ Cert.DconvRefIdeal.sig) → Buf (Elt Ideal) ℓ) (g' : Dev Cert.DconvRefIdeal.nD → PrngReg), Pre_DconvIdeal m →
    (∀ c : Dev Cert.DconvIdeal.nD,
      m' ((c.tc : Thread Cert.DconvRefIdeal.nD Cert.DconvRefIdeal.τ).loc Cert.DconvRefIdeal.main_arg0) = m ((c.tc : Thread Cert.DconvIdeal.nD Cert.DconvIdeal.τ).loc Cert.DconvIdeal.main_arg0)
      ∧ m' ((c.tc : Thread Cert.DconvRefIdeal.nD Cert.DconvRefIdeal.τ).loc Cert.DconvRefIdeal.main_arg1) = m ((c.tc : Thread Cert.DconvIdeal.nD Cert.DconvIdeal.τ).loc Cert.DconvIdeal.main_arg1)
      ∧ m' ((c.tc : Thread Cert.DconvRefIdeal.nD Cert.DconvRefIdeal.τ).loc Cert.DconvRefIdeal.main_arg2) = m ((c.tc : Thread Cert.DconvIdeal.nD Cert.DconvIdeal.τ).loc Cert.DconvIdeal.main_arg2)
      ∧ m' ((c.tc : Thread Cert.DconvRefIdeal.nD Cert.DconvRefIdeal.τ).loc Cert.DconvRefIdeal.main_arg3) = m ((c.tc : Thread Cert.DconvIdeal.nD Cert.DconvIdeal.τ).loc Cert.DconvIdeal.main_arg3)) →
    ∃ (v0 : (c : Dev Cert.DconvIdeal.nD) → Buf (Elt Ideal) ((c.tc : Thread Cert.DconvIdeal.nD Cert.DconvIdeal.τ).loc Cert.DconvIdeal.main_v0_0)) (v1 : (c : Dev Cert.DconvIdeal.nD) → Buf (Elt Ideal) ((c.tc : Thread Cert.DconvIdeal.nD Cert.DconvIdeal.τ).loc Cert.DconvIdeal.main_v0_1)) (v2 : (c : Dev Cert.DconvIdeal.nD) → Buf (Elt Ideal) ((c.tc : Thread Cert.DconvIdeal.nD Cert.DconvIdeal.τ).loc Cert.DconvIdeal.main_v0_2)),
      θ_run (Cert.DconvIdeal.defs (F := Ideal)) (onTc (τ := Cert.DconvIdeal.τ) (Cert.DconvIdeal.main (F := Ideal))) ⟨m, fun _ => 0, g⟩ (fun r => ∀ c : Dev Cert.DconvIdeal.nD,
          r.2.mem ((c.tc : Thread Cert.DconvIdeal.nD Cert.DconvIdeal.τ).loc Cert.DconvIdeal.main_v0_0) = v0 c
          ∧ r.2.mem ((c.tc : Thread Cert.DconvIdeal.nD Cert.DconvIdeal.τ).loc Cert.DconvIdeal.main_v0_1) = v1 c
          ∧ r.2.mem ((c.tc : Thread Cert.DconvIdeal.nD Cert.DconvIdeal.τ).loc Cert.DconvIdeal.main_v0_2) = v2 c
          ∧ r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
          ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
          ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2)
          ∧ r.2.mem ((c.tc : Thread Cert.DconvIdeal.nD Cert.DconvIdeal.τ).loc Cert.DconvIdeal.main_arg3) = m ((c.tc : Thread Cert.DconvIdeal.nD Cert.DconvIdeal.τ).loc Cert.DconvIdeal.main_arg3))
      ∧ θ_run (Cert.DconvRefIdeal.defs (F := Ideal)) (onTc (τ := Cert.DconvRefIdeal.τ) (Cert.DconvRefIdeal.main (F := Ideal))) ⟨m', fun _ => 0, g'⟩ (fun r => ∀ c : Dev Cert.DconvRefIdeal.nD,
          r.2.mem ((c.tc : Thread Cert.DconvRefIdeal.nD Cert.DconvRefIdeal.τ).loc Cert.DconvRefIdeal.main_v75) = v0 c
          ∧ r.2.mem ((c.tc : Thread Cert.DconvRefIdeal.nD Cert.DconvRefIdeal.τ).loc Cert.DconvRefIdeal.main_v71) = v1 c
          ∧ r.2.mem ((c.tc : Thread Cert.DconvRefIdeal.nD Cert.DconvRefIdeal.τ).loc Cert.DconvRefIdeal.main_v61) = v2 c
          ∧ r.2.mem ((c.tc : Thread Cert.DconvRefIdeal.nD Cert.DconvRefIdeal.τ).loc Cert.DconvRefIdeal.main_arg0) = m' ((c.tc : Thread Cert.DconvRefIdeal.nD Cert.DconvRefIdeal.τ).loc Cert.DconvRefIdeal.main_arg0)
          ∧ r.2.mem ((c.tc : Thread Cert.DconvRefIdeal.nD Cert.DconvRefIdeal.τ).loc Cert.DconvRefIdeal.main_arg1) = m' ((c.tc : Thread Cert.DconvRefIdeal.nD Cert.DconvRefIdeal.τ).loc Cert.DconvRefIdeal.main_arg1)
          ∧ r.2.mem ((c.tc : Thread Cert.DconvRefIdeal.nD Cert.DconvRefIdeal.τ).loc Cert.DconvRefIdeal.main_arg2) = m' ((c.tc : Thread Cert.DconvRefIdeal.nD Cert.DconvRefIdeal.τ).loc Cert.DconvRefIdeal.main_arg2)
          ∧ r.2.mem ((c.tc : Thread Cert.DconvRefIdeal.nD Cert.DconvRefIdeal.τ).loc Cert.DconvRefIdeal.main_arg3) = m' ((c.tc : Thread Cert.DconvRefIdeal.nD Cert.DconvRefIdeal.τ).loc Cert.DconvRefIdeal.main_arg3))

def Claim : Prop :=
  ∃ (hFox : Cert.Fox.Facts) (hFoxIdeal : Cert.FoxIdeal.Facts) (hFoxRefIdeal : Cert.FoxRefIdeal.Facts) (hDact : Cert.Dact.Facts) (hDactIdeal : Cert.DactIdeal.Facts) (hDactRefIdeal : Cert.DactRefIdeal.Facts) (hDu2 : Cert.Du2.Facts) (hDu2Ideal : Cert.Du2Ideal.Facts) (hDu2RefIdeal : Cert.Du2RefIdeal.Facts) (hDu1 : Cert.Du1.Facts) (hDu1Ideal : Cert.Du1Ideal.Facts) (hDu1RefIdeal : Cert.Du1RefIdeal.Facts) (hDwg : Cert.Dwg.Facts) (hDwgIdeal : Cert.DwgIdeal.Facts) (hDwgRefIdeal : Cert.DwgRefIdeal.Facts) (hDwd : Cert.Dwd.Facts) (hDwdIdeal : Cert.DwdIdeal.Facts) (hDwdRefIdeal : Cert.DwdRefIdeal.Facts) (hDwin : Cert.Dwin.Facts) (hDwinIdeal : Cert.DwinIdeal.Facts) (hDwinRefIdeal : Cert.DwinRefIdeal.Facts) (hDwout : Cert.Dwout.Facts) (hDwoutIdeal : Cert.DwoutIdeal.Facts) (hDwoutRefIdeal : Cert.DwoutRefIdeal.Facts) (hDwpg : Cert.Dwpg.Facts) (hDwpgIdeal : Cert.DwpgIdeal.Facts) (hDwpgRefIdeal : Cert.DwpgRefIdeal.Facts) (hDu3 : Cert.Du3.Facts) (hDu3Ideal : Cert.Du3Ideal.Facts) (hDu3RefIdeal : Cert.Du3RefIdeal.Facts) (hDycat : Cert.Dycat.Facts) (hDycatIdeal : Cert.DycatIdeal.Facts) (hDycatRefIdeal : Cert.DycatRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hInp : Cert.Inp.Facts) (hInpIdeal : Cert.InpIdeal.Facts) (hInpRefIdeal : Cert.InpRefIdeal.Facts) (hOut : Cert.Out.Facts) (hOutIdeal : Cert.OutIdeal.Facts) (hOutRefIdeal : Cert.OutRefIdeal.Facts) (hPg : Cert.Pg.Facts) (hPgIdeal : Cert.PgIdeal.Facts) (hPgRefIdeal : Cert.PgRefIdeal.Facts) (hDwpp : Cert.Dwpp.Facts) (hDwppIdeal : Cert.DwppIdeal.Facts) (hDwppRefIdeal : Cert.DwppRefIdeal.Facts) (hPp : Cert.Pp.Facts) (hPpIdeal : Cert.PpIdeal.Facts) (hPpRefIdeal : Cert.PpRefIdeal.Facts) (hConv : Cert.Conv.Facts) (hConvIdeal : Cert.ConvIdeal.Facts) (hConvRefIdeal : Cert.ConvRefIdeal.Facts) (hDconv : Cert.Dconv.Facts) (hDconvIdeal : Cert.DconvIdeal.Facts) (hDconvRefIdeal : Cert.DconvRefIdeal.Facts) (hPre_fox_finite : Cert.Pre_fox_finite.Facts) (hPre_ffn_finite : Cert.Pre_ffn_finite.Facts) (hPre_du2_finite : Cert.Pre_du2_finite.Facts) (hPre_du1_finite : Cert.Pre_du1_finite.Facts) (hPre_du3_finite : Cert.Pre_du3_finite.Facts),
    quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Dact (hDact := hDact)
    ∧ quiescent_DactIdeal (hDactIdeal := hDactIdeal)
    ∧ quiescent_DactIdeal_pre_ffn_finite (hDactIdeal := hDactIdeal) (hPre_ffn_finite := hPre_ffn_finite)
    ∧ quiescent_DactRefIdeal (hDactRefIdeal := hDactRefIdeal)
    ∧ quiescent_DactRefIdeal_pre_ffn_finite (hDactRefIdeal := hDactRefIdeal) (hPre_ffn_finite := hPre_ffn_finite)
    ∧ quiescent_Du2 (hDu2 := hDu2)
    ∧ quiescent_Du2Ideal (hDu2Ideal := hDu2Ideal)
    ∧ quiescent_Du2Ideal_pre_du2_finite (hDu2Ideal := hDu2Ideal) (hPre_du2_finite := hPre_du2_finite)
    ∧ quiescent_Du2RefIdeal (hDu2RefIdeal := hDu2RefIdeal)
    ∧ quiescent_Du2RefIdeal_pre_du2_finite (hDu2RefIdeal := hDu2RefIdeal) (hPre_du2_finite := hPre_du2_finite)
    ∧ quiescent_Du1 (hDu1 := hDu1)
    ∧ quiescent_Du1Ideal (hDu1Ideal := hDu1Ideal)
    ∧ quiescent_Du1Ideal_pre_du1_finite (hDu1Ideal := hDu1Ideal) (hPre_du1_finite := hPre_du1_finite)
    ∧ quiescent_Du1RefIdeal (hDu1RefIdeal := hDu1RefIdeal)
    ∧ quiescent_Du1RefIdeal_pre_du1_finite (hDu1RefIdeal := hDu1RefIdeal) (hPre_du1_finite := hPre_du1_finite)
    ∧ quiescent_Dwg (hDwg := hDwg)
    ∧ quiescent_DwgIdeal (hDwgIdeal := hDwgIdeal)
    ∧ quiescent_DwgRefIdeal (hDwgRefIdeal := hDwgRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwpg (hDwpg := hDwpg)
    ∧ quiescent_DwpgIdeal (hDwpgIdeal := hDwpgIdeal)
    ∧ quiescent_DwpgRefIdeal (hDwpgRefIdeal := hDwpgRefIdeal)
    ∧ quiescent_Du3 (hDu3 := hDu3)
    ∧ quiescent_Du3Ideal (hDu3Ideal := hDu3Ideal)
    ∧ quiescent_Du3Ideal_pre_du3_finite (hDu3Ideal := hDu3Ideal) (hPre_du3_finite := hPre_du3_finite)
    ∧ quiescent_Du3RefIdeal (hDu3RefIdeal := hDu3RefIdeal)
    ∧ quiescent_Du3RefIdeal_pre_du3_finite (hDu3RefIdeal := hDu3RefIdeal) (hPre_du3_finite := hPre_du3_finite)
    ∧ quiescent_Dycat (hDycat := hDycat)
    ∧ quiescent_DycatIdeal (hDycatIdeal := hDycatIdeal)
    ∧ quiescent_DycatRefIdeal (hDycatRefIdeal := hDycatRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_Inp (hInp := hInp)
    ∧ quiescent_InpIdeal (hInpIdeal := hInpIdeal)
    ∧ quiescent_InpRefIdeal (hInpRefIdeal := hInpRefIdeal)
    ∧ quiescent_Out (hOut := hOut)
    ∧ quiescent_OutIdeal (hOutIdeal := hOutIdeal)
    ∧ quiescent_OutRefIdeal (hOutRefIdeal := hOutRefIdeal)
    ∧ quiescent_Pg (hPg := hPg)
    ∧ quiescent_PgIdeal (hPgIdeal := hPgIdeal)
    ∧ quiescent_PgRefIdeal (hPgRefIdeal := hPgRefIdeal)
    ∧ quiescent_Dwpp (hDwpp := hDwpp)
    ∧ quiescent_DwppIdeal (hDwppIdeal := hDwppIdeal)
    ∧ quiescent_DwppRefIdeal (hDwppRefIdeal := hDwppRefIdeal)
    ∧ quiescent_Pp (hPp := hPp)
    ∧ quiescent_PpIdeal (hPpIdeal := hPpIdeal)
    ∧ quiescent_PpRefIdeal (hPpRefIdeal := hPpRefIdeal)
    ∧ quiescent_Conv (hConv := hConv)
    ∧ quiescent_ConvIdeal (hConvIdeal := hConvIdeal)
    ∧ quiescent_ConvRefIdeal (hConvRefIdeal := hConvRefIdeal)
    ∧ quiescent_Dconv (hDconv := hDconv)
    ∧ quiescent_DconvIdeal (hDconvIdeal := hDconvIdeal)
    ∧ quiescent_DconvRefIdeal (hDconvRefIdeal := hDconvRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Dact_DactIdeal
    ∧ algebraic_DactIdeal_DactRefIdeal_pre_ffn_finite (hDactIdeal := hDactIdeal) (hDactRefIdeal := hDactRefIdeal) (hPre_ffn_finite := hPre_ffn_finite)
    ∧ preserves_Du2_Du2Ideal
    ∧ algebraic_Du2Ideal_Du2RefIdeal_pre_du2_finite (hDu2Ideal := hDu2Ideal) (hDu2RefIdeal := hDu2RefIdeal) (hPre_du2_finite := hPre_du2_finite)
    ∧ preserves_Du1_Du1Ideal
    ∧ algebraic_Du1Ideal_Du1RefIdeal_pre_du1_finite (hDu1Ideal := hDu1Ideal) (hDu1RefIdeal := hDu1RefIdeal) (hPre_du1_finite := hPre_du1_finite)
    ∧ preserves_Dwg_DwgIdeal
    ∧ algebraic_DwgIdeal_DwgRefIdeal (hDwgIdeal := hDwgIdeal) (hDwgRefIdeal := hDwgRefIdeal)
    ∧ preserves_Dwd_DwdIdeal
    ∧ algebraic_DwdIdeal_DwdRefIdeal (hDwdIdeal := hDwdIdeal) (hDwdRefIdeal := hDwdRefIdeal)
    ∧ preserves_Dwin_DwinIdeal
    ∧ algebraic_DwinIdeal_DwinRefIdeal (hDwinIdeal := hDwinIdeal) (hDwinRefIdeal := hDwinRefIdeal)
    ∧ preserves_Dwout_DwoutIdeal
    ∧ algebraic_DwoutIdeal_DwoutRefIdeal (hDwoutIdeal := hDwoutIdeal) (hDwoutRefIdeal := hDwoutRefIdeal)
    ∧ preserves_Dwpg_DwpgIdeal
    ∧ algebraic_DwpgIdeal_DwpgRefIdeal (hDwpgIdeal := hDwpgIdeal) (hDwpgRefIdeal := hDwpgRefIdeal)
    ∧ preserves_Du3_Du3Ideal
    ∧ algebraic_Du3Ideal_Du3RefIdeal_pre_du3_finite (hDu3Ideal := hDu3Ideal) (hDu3RefIdeal := hDu3RefIdeal) (hPre_du3_finite := hPre_du3_finite)
    ∧ preserves_Dycat_DycatIdeal
    ∧ algebraic_DycatIdeal_DycatRefIdeal (hDycatIdeal := hDycatIdeal) (hDycatRefIdeal := hDycatRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_Inp_InpIdeal
    ∧ algebraic_InpIdeal_InpRefIdeal (hInpIdeal := hInpIdeal) (hInpRefIdeal := hInpRefIdeal)
    ∧ preserves_Out_OutIdeal
    ∧ algebraic_OutIdeal_OutRefIdeal (hOutIdeal := hOutIdeal) (hOutRefIdeal := hOutRefIdeal)
    ∧ preserves_Pg_PgIdeal
    ∧ algebraic_PgIdeal_PgRefIdeal (hPgIdeal := hPgIdeal) (hPgRefIdeal := hPgRefIdeal)
    ∧ preserves_Dwpp_DwppIdeal
    ∧ algebraic_DwppIdeal_DwppRefIdeal (hDwppIdeal := hDwppIdeal) (hDwppRefIdeal := hDwppRefIdeal)
    ∧ preserves_Pp_PpIdeal
    ∧ algebraic_PpIdeal_PpRefIdeal (hPpIdeal := hPpIdeal) (hPpRefIdeal := hPpRefIdeal)
    ∧ preserves_Conv_ConvIdeal
    ∧ algebraic_ConvIdeal_ConvRefIdeal (hConvIdeal := hConvIdeal) (hConvRefIdeal := hConvRefIdeal)
    ∧ preserves_Dconv_DconvIdeal
    ∧ algebraic_DconvIdeal_DconvRefIdeal (hDconvIdeal := hDconvIdeal) (hDconvRefIdeal := hDconvRefIdeal)
-- ==== Pre_du1_finite.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S1024x3072 : S_.BroadcastsInDim S1024x3072 (![] : Fin 0 → Fin S1024x3072.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x3072 .bf16) (main_arg1 : FVec F S1024x3072 .bf16) (main_arg2 : FVec F S8192x1024 .f32) (main_arg3 : FVec F S8192x1024 .f32) (main_arg4 : FVec F S1024 .f32) : IVec S8192x3072 1 × IVec S1024x3072 1 × IVec S8192x1024 1 × IVec S8192x1024 1 × IVec S1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S1024x3072 .f32 := (extf .f32 · bitsLt_bf16_f32) main_arg1
  let main_v5 : FVec F S1024x3072 .f32 := Host.absf main_v4
  let main_cst_0 : FVec F S_ .f32 := constant S_ .f32 0x7F800000#32
  let main_v6 : FVec F S1024x3072 .f32 := broadcastInDim S1024x3072 ![] bcast_S_S1024x3072 main_cst_0
  let main_v7 : IVec S1024x3072 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v3, main_v7, main_v10, main_v13, main_v16)
-- ==== Pre_du2_finite.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg5 : FVec F S8192x1024 .f32) (main_arg6 : FVec F S1024 .f32) (main_v3 : IVec S8192x2816 1) (main_v7 : IVec S8192x2816 1) (main_v11 : IVec S2816x1024 1) (main_v15 : IVec S2816x1024 1) (main_v18 : IVec S8192x1024 1) : IVec S8192x2816 1 × IVec S8192x2816 1 × IVec S2816x1024 1 × IVec S2816x1024 1 × IVec S8192x1024 1 × IVec S8192x1024 1 × IVec S1024 1 :=
  let main_v19 : FVec F S8192x1024 .f32 := Host.absf main_arg5
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  let main_v22 : FVec F S1024 .f32 := Host.absf main_arg6
  let main_cst_5 : FVec F S_ .f32 := constant S_ .f32 0x7F800000#32
  let main_v23 : FVec F S1024 .f32 := broadcastInDim S1024 ![] bcast_S_S1024 main_cst_5
  let main_v24 : IVec S1024 1 := cmpf .olt main_v22 main_v23
  (main_v3, main_v7, main_v11, main_v15, main_v18, main_v21, main_v24)

def fn {F : FTy → Type} [FloatOps F] (main_arg0 : FVec F S8192x2816 .bf16) (main_arg1 : FVec F S8192x2816 .bf16) (main_arg2 : FVec F S2816x1024 .bf16) (main_arg3 : FVec F S2816x1024 .bf16) (main_arg4 : FVec F S8192x1024 .f32) (main_arg5 : FVec F S8192x1024 .f32) (main_arg6 : FVec F S1024 .f32) : IVec S8192x2816 1 × IVec S8192x2816 1 × IVec S2816x1024 1 × IVec S2816x1024 1 × IVec S8192x1024 1 × IVec S8192x1024 1 × IVec S1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  let main_v16 : FVec F S8192x1024 .f32 := Host.absf main_arg4
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg5 main_arg6 main_v3 main_v7 main_v11 main_v15 main_v18
-- ==== Pre_du3_finite.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S8192x1024 .bf16) (main_arg1 : FVec F S1024x1024 .bf16) (main_arg2 : FVec F S8192x1024 .f32) (main_arg3 : FVec F S8192x1024 .f32) (main_arg4 : FVec F S1024 .f32) : IVec S8192x1024 1 × IVec S1024x1024 1 × IVec S8192x1024 1 × IVec S8192x1024 1 × IVec S1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v3, main_v7, main_v10, main_v13, main_v16)
-- ==== Pre_ffn_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg2
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  (main_v2, main_v6, main_v10, main_v14)
-- ==== Pre_fox_finite.lean ====
abbrev S8192x384 : Shape := ⟨2, ![8192, 384]⟩
abbrev S4x6x2048 : Shape := ⟨3, ![4, 6, 2048]⟩
abbrev S_ : Shape := ⟨0, ![]⟩

class Facts : Prop where
  bcast_S_S8192x384 : S_.BroadcastsInDim S8192x384 (![] : Fin 0 → Fin S8192x384.rank)
  bcast_S_S4x6x2048 : S_.BroadcastsInDim S4x6x2048 (![] : Fin 0 → Fin S4x6x2048.rank)

variable [Facts]

def fn {F : FTy → Type} [FloatOps F] (main_arg0 : FVec F S8192x384 .f32) (main_arg1 : FVec F S8192x384 .f32) (main_arg2 : FVec F S8192x384 .f32) (main_arg3 : FVec F S4x6x2048 .f32) (main_arg4 : FVec F S8192x384 .f32) : IVec S8192x384 1 × IVec S8192x384 1 × IVec S8192x384 1 × IVec S4x6x2048 1 × IVec S8192x384 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S8192x384 .f32 := Host.absf main_arg1
  let main_cst_0 : FVec F S_ .f32 := constant S_ .f32 0x7F800000#32
  let main_v4 : FVec F S8192x384 .f32 := broadcastInDim S8192x384 ![] bcast_S_S8192x384 main_cst_0
  let main_v5 : IVec S8192x384 1 := cmpf .olt main_v3 main_v4
  let main_v6 : FVec F S8192x384 .f32 := Host.absf main_arg2
  let main_cst_1 : FVec F S_ .f32 := constant S_ .f32 0x7F800000#32
  let main_v7 : FVec F S8192x384 .f32 := broadcastInDim S8192x384 ![] bcast_S_S8192x384 main_cst_1
  let main_v8 : IVec S8192x384 1 := cmpf .olt main_v6 main_v7
  let main_v9 : FVec F S4x6x2048 .f32 := Host.absf main_arg3
  let main_cst_2 : FVec F S_ .f32 := constant S_ .f32 0x7F800000#32
  let main_v10 : FVec F S4x6x2048 .f32 := broadcastInDim S4x6x2048 ![] bcast_S_S4x6x2048 main_cst_2
  let main_v11 : IVec S4x6x2048 1 := cmpf .olt main_v9 main_v10
  let main_v12 : FVec F S8192x384 .f32 := Host.absf main_arg4
  let main_cst_3 : FVec F S_ .f32 := constant S_ .f32 0x7F800000#32
  let main_v13 : FVec F S8192x384 .f32 := broadcastInDim S8192x384 ![] bcast_S_S8192x384 main_cst_3
  let main_v14 : IVec S8192x384 1 := cmpf .olt main_v12 main_v13
  (main_v2, main_v5, main_v8, main_v11, main_v14)
-- ==== Fox.lean ====
abbrev S8192x384 : Shape := ⟨2, ![8192, 384]⟩
abbrev S4x6x2048 : Shape := ⟨3, ![4, 6, 2048]⟩
abbrev S4x2048x6x64 : Shape := ⟨4, ![4, 2048, 6, 64]⟩
abbrev S4x6x2048x2048 : Shape := ⟨4, ![4, 6, 2048, 2048]⟩
abbrev S_ : Shape := ⟨0, ![]⟩
abbrev S4x6x2048x1 : Shape := ⟨4, ![4, 6, 2048, 1]⟩
abbrev S4x6x1x2048 : Shape := ⟨4, ![4, 6, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x6x64x2048 : Shape := ⟨4, ![4, 6, 64, 2048]⟩
abbrev S8192x1920 : Shape := ⟨2, ![8192, 1920]⟩
abbrev S8192x3072 : Shape := ⟨2, ![8192, 3072]⟩
abbrev S4x2048x6 : Shape := ⟨3, ![4, 2048, 6]⟩
abbrev S8192x6 : Shape := ⟨2, ![8192, 6]⟩
abbrev S8192x128 : Shape := ⟨2, ![8192, 128]⟩
abbrev S4x8x2048 : Shape := ⟨3, ![4, 8, 2048]⟩
abbrev S32x2048 : Shape := ⟨2, ![32, 2048]⟩
abbrev S8192x3x2 : Shape := ⟨3, ![8192, 3, 2]⟩
abbrev S8192x3x128 : Shape := ⟨3, ![8192, 3, 128]⟩
abbrev S2048x128 : Shape := ⟨2, ![2048, 128]⟩
abbrev S8x2048 : Shape := ⟨2, ![8, 2048]⟩
abbrev S128x2048 : Shape := ⟨2, ![128, 2048]⟩
abbrev S512x128 : Shape := ⟨2, ![512, 128]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S1x512 : Shape := ⟨2, ![1, 512]⟩
abbrev S512x1024 : Shape := ⟨2, ![512, 1024]⟩
abbrev S1024x128 : Shape := ⟨2, ![1024, 128]⟩
abbrev S1024x512 : Shape := ⟨2, ![1024, 512]⟩

abbrev nBuf : Space → Nat
  | .hbm => 75
  | .vmem => 27
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S4x6x2048, .f32⟩
  | .hbm, ⟨4, _⟩ => ⟨S8192x384, .f32⟩
  | .hbm, ⟨5, _⟩ => ⟨S4x2048x6x64, .f32⟩
  | .hbm, ⟨6, _⟩ => ⟨S4x2048x6x64, .f32⟩
  | .hbm, ⟨7, _⟩ => ⟨S4x6x2048x2048, .f32⟩
  | .hbm, ⟨8, _⟩ => ⟨S_, .f32⟩
  | .hbm, ⟨9, _⟩ => ⟨S4x6x2048x2048, .f32⟩
  | .hbm, ⟨10, _⟩ => ⟨S4x6x2048x2048, .f32⟩
  | .hbm, ⟨11, _⟩ => ⟨S4x6x2048x1, .f32⟩
  | .hbm, ⟨12, _⟩ => ⟨S4x6x2048x2048, .f32⟩
  | .hbm, ⟨13, _⟩ => ⟨S4x6x2048x2048, .f32⟩
  | .hbm, ⟨14, _⟩ => ⟨S4x6x1x2048, .f32⟩
  | .hbm, ⟨15, _⟩ => ⟨S4x6x2048x2048, .f32⟩
  | .hbm, ⟨16, _⟩ => ⟨S4x6x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S4x6x2048x2048, .i1⟩
  | .hbm, ⟨28, _⟩ => ⟨S4x6x2048x2048, .f32⟩
  | .hbm, ⟨29, _⟩ => ⟨S4x6x2048x2048, .f32⟩
  | .hbm, ⟨30, _⟩ => ⟨S_, .f32⟩
  | .hbm, ⟨31, _⟩ => ⟨S4x6x2048, .f32⟩
  | .hbm, ⟨32, _⟩ => ⟨S4x6x2048x1, .f32⟩
  | .hbm, ⟨33, _⟩ => ⟨S4x6x2048x2048, .f32⟩
  | .hbm, ⟨34, _⟩ => ⟨S4x6x2048x2048, .f32⟩
  | .hbm, ⟨35, _⟩ => ⟨S4x6x2048x2048, .f32⟩
  | .hbm, ⟨36, _⟩ => ⟨S_, .f32⟩
  | .hbm, ⟨37, _⟩ => ⟨S4x6x2048, .f32⟩
  | .hbm, ⟨38, _⟩ => ⟨S4x6x2048x1, .f32⟩
  | .hbm, ⟨39, _⟩ => ⟨S4x6x2048x2048, .f32⟩
  | .hbm, ⟨40, _⟩ => ⟨S4x6x2048x2048, .f32⟩
  | .hbm, ⟨41, _⟩ => ⟨S4x2048x6x64, .f32⟩
  | .hbm, ⟨42, _⟩ => ⟨S4x6x64x2048, .f32⟩
  | .hbm, ⟨43, _⟩ => ⟨S4x2048x6x64, .f32⟩
  | .hbm, ⟨44, _⟩ => ⟨S8192x384, .f32⟩
  | .hbm, ⟨45, _⟩ => ⟨S4x6x2048x1, .f32⟩
  | .hbm, ⟨46, _⟩ => ⟨S4x6x2048x1, .f32⟩
  | .hbm, ⟨47, _⟩ => ⟨S4x6x2048, .f32⟩
  | .hbm, ⟨48, _⟩ => ⟨S_, .f32⟩
  | .hbm, ⟨49, _⟩ => ⟨S8192x1920, .f32⟩
  | .hbm, ⟨50, _⟩ => ⟨S8192x3072, .f32⟩
  | .hbm, ⟨51, _⟩ => ⟨S4x2048x6, .f32⟩
  | .hbm, ⟨52, _⟩ => ⟨S8192x6, .f32⟩
  | .hbm, ⟨53, _⟩ => ⟨S_, .i32⟩
  | .hbm, ⟨54, _⟩ => ⟨S_, .f32⟩
  | .hbm, ⟨55, _⟩ => ⟨S8192x128, .f32⟩
  | .hbm, ⟨56, _⟩ => ⟨S_, .i32⟩
  | .hbm, ⟨57, _⟩ => ⟨S_, .f32⟩
  | .hbm, ⟨58, _⟩ => ⟨S4x8x2048, .f32⟩
  | .hbm, ⟨59, _⟩ => ⟨S32x2048, .f32⟩
  | .hbm, ⟨60, _⟩ => ⟨S4x2048x6, .f32⟩
  | .hbm, ⟨61, _⟩ => ⟨S8192x6, .f32⟩
  | .hbm, ⟨62, _⟩ => ⟨S8192x3x2, .f32⟩
  | .hbm, ⟨63, _⟩ => ⟨S_, .i32⟩
  | .hbm, ⟨64, _⟩ => ⟨S_, .f32⟩
  | .hbm, ⟨65, _⟩ => ⟨S8192x3x128, .f32⟩
  | .hbm, ⟨66, _⟩ => ⟨S8192x384, .f32⟩
  | .hbm, ⟨67, _⟩ => ⟨S8192x384, .bf16⟩
  | .hbm, ⟨68, _⟩ => ⟨S8192x384, .bf16⟩
  | .hbm, ⟨69, _⟩ => ⟨S8192x384, .bf16⟩
  | .hbm, ⟨70, _⟩ => ⟨S8192x384, .f32⟩
  | .hbm, ⟨71, _⟩ => ⟨S8192x3x128, .f32⟩
  | .hbm, ⟨72, _⟩ => ⟨S_, .f32⟩
  | .hbm, ⟨73, _⟩ => ⟨S8192x128, .f32⟩
  | .hbm, ⟨74, _⟩ => ⟨S8192x6, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8x2048, .f32⟩
  | .local _ .vmem, ⟨15, _⟩ => ⟨S8x2048, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S128x2048, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call1_v0 : Ref sig .tc := ⟨.hbm, 54, rfl⟩
abbrev main_v40 : Ref sig .tc := ⟨.hbm, 55, rfl⟩
abbrev main_c_4 : Ref sig .tc := ⟨.hbm, 56, rfl⟩
abbrev main_call2_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_call3_v0 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_v48_2 : Ref sig .tc := ⟨.hbm, 69, rfl⟩
abbrev main_v48_3 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 3], ![false, false]⟩

@[reducible] def k0_t1_loop : Scf.Loop 32 :=
  let c0_i32_21 : BitVec 32 := 0#32
  let c4_i32 : BitVec 32 := 4#32
  let v67 : BitVec 32 := Scalar.addi c0_i32_21 c4_i32
  let c1_i32_22 : BitVec 32 := 1#32
  ⟨c0_i32_21, v67, c1_i32_22⟩
def k0_mult1 (k0_t1 : Fin k0_t1_loop.trips) : BitVec 32 :=
  let c0_i32_21 : BitVec 32 := 0#32
  let c1_i32_22 : BitVec 32 := 1#32
  let arg17 : BitVec 32 := Scf.iv c0_i32_21 c1_i32_22 k0_t1
  let c512_i32 : BitVec 32 := 512#32
  let v81 : BitVec 32 := Scalar.muli arg17 c512_i32
  v81
def k0_off1 (k0_t1 : Fin k0_t1_loop.trips) : Fin 2 → Nat :=
  let c0_i32_21 : BitVec 32 := 0#32
  let c1_i32_22 : BitVec 32 := 1#32
  let arg17 : BitVec 32 := Scf.iv c0_i32_21 c1_i32_22 k0_t1
  let c512_i32 : BitVec 32 := 512#32
  let v81 : BitVec 32 := Scalar.muli arg17 c512_i32
  let v82 : BitVec 32 := v81
  let v83 : Index := Scalar.indexCast v82
  let c0_38 : Index := 0#32
  ![v83.toNat, 0]
@[reducible] def k0_t2_loop (k0_t1 : Fin k0_t1_loop.trips) : Scf.Loop 32 :=
  let c0_i32_75 : BitVec 32 := 0#32
  let c0_i32_21 : BitVec 32 := 0#32
  let c1_i32_22 : BitVec 32 := 1#32
  let arg17 : BitVec 32 := Scf.iv c0_i32_21 c1_i32_22 k0_t1
  let v164 : BitVec 32 := Scalar.subi arg17 c0_i32_75
  let c1_i32_76 : BitVec 32 := 1#32
  let v166 : BitVec 32 := Scalar.divsi v164 c1_i32_76
  let v167 : BitVec 32 := Scalar.muli v166 c1_i32_76
  let v168 : BitVec 32 := Scalar.addi c0_i32_75 v167
  let c1_i32_77 : BitVec 32 := 1#32
  ⟨c0_i32_75, v168, c1_i32_77⟩
def k0_mult2 (k0_t1 : Fin k0_t1_loop.trips) (k0_t2 : Fin (k0_t2_loop k0_t1).trips) : BitVec 32 :=
  let c0_i32_75 : BitVec 32 := 0#32
  let c1_i32_77 : BitVec 32 := 1#32
  let arg18 : BitVec 32 := Scf.iv c0_i32_75 c1_i32_77 k0_t2
  let c512_i32_134 : BitVec 32 := 512#32
  let v333 : BitVec 32 := Scalar.muli arg18 c512_i32_134
  v333
def k0_off2 (k0_t1 : Fin k0_t1_loop.trips) (k0_t2 : Fin (k0_t2_loop k0_t1).trips) : Fin 2 → Nat :=
  let c0_i32_75 : BitVec 32 := 0#32
  let c1_i32_77 : BitVec 32 := 1#32
  let arg18 : BitVec 32 := Scf.iv c0_i32_75 c1_i32_77 k0_t2
  let c512_i32_134 : BitVec 32 := 512#32
  let v333 : BitVec 32 := Scalar.muli arg18 c512_i32_134
  let v334 : BitVec 32 := v333
  let v335 : Index := Scalar.indexCast v334
  let c0_135 : Index := 0#32
  ![v335.toNat, 0]
def k0_off3 (k0_t1 : Fin k0_t1_loop.trips) (k0_t2 : Fin (k0_t2_loop k0_t1).trips) : Fin 2 → Nat :=
  let c0_137 : Index := 0#32
  let c0_i32_75 : BitVec 32 := 0#32
  let c1_i32_77 : BitVec 32 := 1#32
  let arg18 : BitVec 32 := Scf.iv c0_i32_75 c1_i32_77 k0_t2
  let c512_i32_134 : BitVec 32 := 512#32
  let v333 : BitVec 32 := Scalar.muli arg18 c512_i32_134
  let v334 : BitVec 32 := v333
  let v343 : Index := Scalar.indexCast v334
  ![0, v343.toNat]
def k0_off4 (k0_t1 : Fin k0_t1_loop.trips) (k0_t2 : Fin (k0_t2_loop k0_t1).trips) : Fin 2 → Nat :=
  let c0_150 : Index := 0#32
  let c0_i32_75 : BitVec 32 := 0#32
  let c1_i32_77 : BitVec 32 := 1#32
  let arg18 : BitVec 32 := Scf.iv c0_i32_75 c1_i32_77 k0_t2
  let c512_i32_134 : BitVec 32 := 512#32
  let v333 : BitVec 32 := Scalar.muli arg18 c512_i32_134
  let v334 : BitVec 32 := v333
  let v379 : Index := Scalar.indexCast v334
  ![0, v379.toNat]
@[reducible] def k0_t3_loop (k0_t1 : Fin k0_t1_loop.trips) : Scf.Loop 32 :=
  let c0_i32_75 : BitVec 32 := 0#32
  let c0_i32_21 : BitVec 32 := 0#32
  let c1_i32_22 : BitVec 32 := 1#32
  let arg17 : BitVec 32 := Scf.iv c0_i32_21 c1_i32_22 k0_t1
  let v164 : BitVec 32 := Scalar.subi arg17 c0_i32_75
  let c1_i32_76 : BitVec 32 := 1#32
  let v166 : BitVec 32 := Scalar.divsi v164 c1_i32_76
  let v167 : BitVec 32 := Scalar.muli v166 c1_i32_76
  let v168 : BitVec 32 := Scalar.addi c0_i32_75 v167
  let v165 : BitVec 32 := Scalar.addi c0_i32_75 v164
  let c1_i32_78 : BitVec 32 := 1#32
  ⟨v168, v165, c1_i32_78⟩
def k0_mult3 (k0_t1 : Fin k0_t1_loop.trips) (k0_t3 : Fin (k0_t3_loop k0_t1).trips) : BitVec 32 :=
  let c0_i32_75 : BitVec 32 := 0#32
  let c0_i32_21 : BitVec 32 := 0#32
  let c1_i32_22 : BitVec 32 := 1#32
  let arg17 : BitVec 32 := Scf.iv c0_i32_21 c1_i32_22 k0_t1
  let v164 : BitVec 32 := Scalar.subi arg17 c0_i32_75
  let c1_i32_76 : BitVec 32 := 1#32
  let v166 : BitVec 32 := Scalar.divsi v164 c1_i32_76
  let v167 : BitVec 32 := Scalar.muli v166 c1_i32_76
  let v168 : BitVec 32 := Scalar.addi c0_i32_75 v167
  let c1_i32_78 : BitVec 32 := 1#32
  let arg18 : BitVec 32 := Scf.iv v168 c1_i32_78 k0_t3
  let c512_i32_134 : BitVec 32 := 512#32
  let v333 : BitVec 32 := Scalar.muli arg18 c512_i32_134
  v333
def k0_off5 (k0_t1 : Fin k0_t1_loop.trips) (k0_t3 : Fin (k0_t3_loop k0_t1).trips) : Fin 2 → Nat :=
  let c0_i32_75 : BitVec 32 := 0#32
  let c0_i32_21 : BitVec 32 := 0#32
  let c1_i32_22 : BitVec 32 := 1#32
  let arg17 : BitVec 32 := Scf.iv c0_i32_21 c1_i32_22 k0_t1
  let v164 : BitVec 32 := Scalar.subi arg17 c0_i32_75
  let c1_i32_76 : BitVec 32 := 1#32
  let v166 : BitVec 32 := Scalar.divsi v164 c1_i32_76
  let v167 : BitVec 32 := Scalar.muli v166 c1_i32_76
  let v168 : BitVec 32 := Scalar.addi c0_i32_75 v167
  let c1_i32_78 : BitVec 32 := 1#32
  let arg18 : BitVec 32 := Scf.iv v168 c1_i32_78 k0_t3
  let c512_i32_134 : BitVec 32 := 512#32
  let v333 : BitVec 32 := Scalar.muli arg18 c512_i32_134
  let v334 : BitVec 32 := v333
  let v335 : Index := Scalar.indexCast v334
  let c0_135 : Index := 0#32
  ![v335.toNat, 0]
def k0_off6 (k0_t1 : Fin k0_t1_loop.trips) (k0_t3 : Fin (k0_t3_loop k0_t1).trips) : Fin 2 → Nat :=
  let c0_137 : Index := 0#32
  let c0_i32_75 : BitVec 32 := 0#32
  let c0_i32_21 : BitVec 32 := 0#32
  let c1_i32_22 : BitVec 32 := 1#32
  let arg17 : BitVec 32 := Scf.iv c0_i32_21 c1_i32_22 k0_t1
  let v164 : BitVec 32 := Scalar.subi arg17 c0_i32_75
  let c1_i32_76 : BitVec 32 := 1#32
  let v166 : BitVec 32 := Scalar.divsi v164 c1_i32_76
  let v167 : BitVec 32 := Scalar.muli v166 c1_i32_76
  let v168 : BitVec 32 := Scalar.addi c0_i32_75 v167
  let c1_i32_78 : BitVec 32 := 1#32
  let arg18 : BitVec 32 := Scf.iv v168 c1_i32_78 k0_t3
  let c512_i32_134 : BitVec 32 := 512#32
  let v333 : BitVec 32 := Scalar.muli arg18 c512_i32_134
  let v334 : BitVec 32 := v333
  let v343 : Index := Scalar.indexCast v334
  ![0, v343.toNat]
def k0_off7 (k0_t1 : Fin k0_t1_loop.trips) (k0_t3 : Fin (k0_t3_loop k0_t1).trips) : Fin 2 → Nat :=
  let c0_150 : Index := 0#32
  let c0_i32_75 : BitVec 32 := 0#32
  let c0_i32_21 : BitVec 32 := 0#32
  let c1_i32_22 : BitVec 32 := 1#32
  let arg17 : BitVec 32 := Scf.iv c0_i32_21 c1_i32_22 k0_t1
  let v164 : BitVec 32 := Scalar.subi arg17 c0_i32_75
  let c1_i32_76 : BitVec 32 := 1#32
  let v166 : BitVec 32 := Scalar.divsi v164 c1_i32_76
  let v167 : BitVec 32 := Scalar.muli v166 c1_i32_76
  let v168 : BitVec 32 := Scalar.addi c0_i32_75 v167
  let c1_i32_78 : BitVec 32 := 1#32
  let arg18 : BitVec 32 := Scf.iv v168 c1_i32_78 k0_t3
  let c512_i32_134 : BitVec 32 := 512#32
  let v333 : BitVec 32 := Scalar.muli arg18 c512_i32_134
  let v334 : BitVec 32 := v333
  let v379 : Index := Scalar.indexCast v334
  ![0, v379.toNat]
def k0_mult4 (k0_t1 : Fin k0_t1_loop.trips) : BitVec 32 :=
  let c0_i32_21 : BitVec 32 := 0#32
  let c1_i32_22 : BitVec 32 := 1#32
  let arg17 : BitVec 32 := Scf.iv c0_i32_21 c1_i32_22 k0_t1
  let c512_i32_79 : BitVec 32 := 512#32
  let v171 : BitVec 32 := Scalar.muli arg17 c512_i32_79
  v171
def k0_off8 (k0_t1 : Fin k0_t1_loop.trips) : Fin 2 → Nat :=
  let c0_82 : Index := 0#32
  let c0_i32_21 : BitVec 32 := 0#32
  let c1_i32_22 : BitVec 32 := 1#32
  let arg17 : BitVec 32 := Scf.iv c0_i32_21 c1_i32_22 k0_t1
  let c512_i32_79 : BitVec 32 := 512#32
  let v171 : BitVec 32 := Scalar.muli arg17 c512_i32_79
  let v172 : BitVec 32 := v171
  let v181 : Index := Scalar.indexCast v172
  ![0, v181.toNat]
def k0_off9 (k0_t1 : Fin k0_t1_loop.trips) : Fin 2 → Nat :=
  let c0_96 : Index := 0#32
  let c0_i32_21 : BitVec 32 := 0#32
  let c1_i32_22 : BitVec 32 := 1#32
  let arg17 : BitVec 32 := Scf.iv c0_i32_21 c1_i32_22 k0_t1
  let c512_i32_79 : BitVec 32 := 512#32
  let v171 : BitVec 32 := Scalar.muli arg17 c512_i32_79
  let v172 : BitVec 32 := v171
  let v220 : Index := Scalar.indexCast v172
  ![0, v220.toNat]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FoxRefIdeal.lean ====
abbrev S8192x384 : Shape := ⟨2, ![8192, 384]⟩
abbrev S4x6x2048 : Shape := ⟨3, ![4, 6, 2048]⟩
abbrev S4x2048x6x64 : Shape := ⟨4, ![4, 2048, 6, 64]⟩
abbrev S4x6x2048x2048 : Shape := ⟨4, ![4, 6, 2048, 2048]⟩
abbrev S_ : Shape := ⟨0, ![]⟩
abbrev S4x6x2048x1 : Shape := ⟨4, ![4, 6, 2048, 1]⟩
abbrev S4x6x1x2048 : Shape := ⟨4, ![4, 6, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x6x64x2048 : Shape := ⟨4, ![4, 6, 64, 2048]⟩
abbrev S4x6x2048x64 : Shape := ⟨4, ![4, 6, 2048, 64]⟩
abbrev S4x2048x6 : Shape := ⟨3, ![4, 2048, 6]⟩
abbrev S8192x6 : Shape := ⟨2, ![8192, 6]⟩

abbrev nBuf : Space → Nat
  | .hbm => 123
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S4x6x2048, .f32⟩
  | .hbm, ⟨4, _⟩ => ⟨S8192x384, .f32⟩
  | .hbm, ⟨5, _⟩ => ⟨S4x2048x6x64, .f32⟩
  | .hbm, ⟨6, _⟩ => ⟨S4x2048x6x64, .f32⟩
  | .hbm, ⟨7, _⟩ => ⟨S4x2048x6x64, .f32⟩
  | .hbm, ⟨8, _⟩ => ⟨S4x6x2048x2048, .f32⟩
  | .hbm, ⟨9, _⟩ => ⟨S_, .f32⟩
  | .hbm, ⟨10, _⟩ => ⟨S4x6x2048x2048, .f32⟩
  | .hbm, ⟨11, _⟩ => ⟨S4x6x2048x2048, .f32⟩
  | .hbm, ⟨12, _⟩ => ⟨S4x6x2048x1, .f32⟩
  | .hbm, ⟨13, _⟩ => ⟨S4x6x2048x2048, .f32⟩
  | .hbm, ⟨14, _⟩ => ⟨S4x6x2048x2048, .f32⟩
  | .hbm, ⟨15, _⟩ => ⟨S4x6x1x2048, .f32⟩
  | .hbm, ⟨16, _⟩ => ⟨S4x6x2048x2048, .f32⟩
  | .hbm, ⟨17, _⟩ => ⟨S4x6x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x1x2048x2048, .i1⟩
  | .hbm, ⟨26, _⟩ => ⟨S_, .f32⟩
  | .hbm, ⟨27, _⟩ => ⟨S_, .f32⟩
  | .hbm, ⟨28, _⟩ => ⟨S4x6x2048x2048, .i1⟩
  | .hbm, ⟨29, _⟩ => ⟨S4x6x2048x2048, .f32⟩
  | .hbm, ⟨30, _⟩ => ⟨S4x6x2048x2048, .f32⟩
  | .hbm, ⟨31, _⟩ => ⟨S_, .f32⟩
  | .hbm, ⟨32, _⟩ => ⟨S4x6x2048x2048, .f32⟩
  | .hbm, ⟨33, _⟩ => ⟨S_, .f32⟩
  | .hbm, ⟨34, _⟩ => ⟨S4x6x2048, .f32⟩
  | .hbm, ⟨35, _⟩ => ⟨S4x6x2048x1, .f32⟩
  | .hbm, ⟨36, _⟩ => ⟨S4x6x2048x2048, .f32⟩
  | .hbm, ⟨37, _⟩ => ⟨S4x6x2048x2048, .i1⟩
  | .hbm, ⟨38, _⟩ => ⟨S4x6x2048x2048, .f32⟩
  | .hbm, ⟨39, _⟩ => ⟨S_, .f32⟩
  | .hbm, ⟨40, _⟩ => ⟨S4x6x2048, .f32⟩
  | .hbm, ⟨41, _⟩ => ⟨S_, .f32⟩
  | .hbm, ⟨42, _⟩ => ⟨S4x6x2048, .f32⟩
  | .hbm, ⟨43, _⟩ => ⟨S4x6x2048, .f32⟩
  | .hbm, ⟨44, _⟩ => ⟨S_, .f32⟩
  | .hbm, ⟨45, _⟩ => ⟨S4x6x2048, .f32⟩
  | .hbm, ⟨46, _⟩ => ⟨S4x6x2048, .i1⟩
  | .hbm, ⟨47, _⟩ => ⟨S_, .f32⟩
  | .hbm, ⟨48, _⟩ => ⟨S4x6x2048, .f32⟩
  | .hbm, ⟨49, _⟩ => ⟨S4x6x2048, .i1⟩
  | .hbm, ⟨50, _⟩ => ⟨S_, .f32⟩
  | .hbm, ⟨51, _⟩ => ⟨S4x6x2048, .f32⟩
  | .hbm, ⟨52, _⟩ => ⟨S_, .f32⟩
  | .hbm, ⟨53, _⟩ => ⟨S4x6x2048, .f32⟩
  | .hbm, ⟨54, _⟩ => ⟨S_, .f32⟩
  | .hbm, ⟨55, _⟩ => ⟨S4x6x2048, .f32⟩
  | .hbm, ⟨56, _⟩ => ⟨S4x6x2048, .f32⟩
  | .hbm, ⟨57, _⟩ => ⟨S4x6x2048, .f32⟩
  | .hbm, ⟨58, _⟩ => ⟨S4x6x2048x1, .f32⟩
  | .hbm, ⟨59, _⟩ => ⟨S4x6x2048x2048, .f32⟩
  | .hbm, ⟨60, _⟩ => ⟨S4x6x2048x2048, .f32⟩
  | .hbm, ⟨61, _⟩ => ⟨S4x6x2048x2048, .f32⟩
  | .hbm, ⟨62, _⟩ => ⟨S_, .f32⟩
  | .hbm, ⟨63, _⟩ => ⟨S4x6x2048, .f32⟩
  | .hbm, ⟨64, _⟩ => ⟨S4x6x2048x1, .f32⟩
  | .hbm, ⟨65, _⟩ => ⟨S4x6x2048x2048, .f32⟩
  | .hbm, ⟨66, _⟩ => ⟨S4x6x2048x2048, .f32⟩
  | .hbm, ⟨67, _⟩ => ⟨S4x6x2048x1, .f32⟩
  | .hbm, ⟨68, _⟩ => ⟨S_, .f32⟩
  | .hbm, ⟨69, _⟩ => ⟨S4x6x2048x1, .f32⟩
  | .hbm, ⟨70, _⟩ => ⟨S4x6x2048x1, .f32⟩
  | .hbm, ⟨71, _⟩ => ⟨S4x6x64x2048, .f32⟩
  | .hbm, ⟨72, _⟩ => ⟨S4x2048x6x64, .f32⟩
  | .hbm, ⟨73, _⟩ => ⟨S8192x384, .f32⟩
  | .hbm, ⟨74, _⟩ => ⟨S4x2048x6x64, .f32⟩
  | .hbm, ⟨75, _⟩ => ⟨S4x6x64x2048, .f32⟩
  | .hbm, ⟨76, _⟩ => ⟨S4x6x2048x2048, .f32⟩
  | .hbm, ⟨77, _⟩ => ⟨S4x6x64x2048, .f32⟩
  | .hbm, ⟨78, _⟩ => ⟨S4x2048x6x64, .f32⟩
  | .hbm, ⟨79, _⟩ => ⟨S4x6x2048x2048, .f32⟩
  | .hbm, ⟨80, _⟩ => ⟨S4x6x2048x2048, .f32⟩
  | .hbm, ⟨81, _⟩ => ⟨S4x6x2048x2048, .f32⟩
  | .hbm, ⟨82, _⟩ => ⟨S_, .f32⟩
  | .hbm, ⟨83, _⟩ => ⟨S4x6x2048, .f32⟩
  | .hbm, ⟨84, _⟩ => ⟨S4x6x2048x1, .f32⟩
  | .hbm, ⟨85, _⟩ => ⟨S4x6x2048x1, .f32⟩
  | .hbm, ⟨86, _⟩ => ⟨S4x6x2048x2048, .f32⟩
  | .hbm, ⟨87, _⟩ => ⟨S4x6x2048x2048, .f32⟩
  | .hbm, ⟨88, _⟩ => ⟨S_, .f32⟩
  | .hbm, ⟨89, _⟩ => ⟨S4x6x2048, .f32⟩
  | .hbm, ⟨90, _⟩ => ⟨S4x6x2048x2048, .f32⟩
  | .hbm, ⟨91, _⟩ => ⟨S4x6x2048x2048, .f32⟩
  | .hbm, ⟨92, _⟩ => ⟨S4x6x2048x2048, .f32⟩
  | .hbm, ⟨93, _⟩ => ⟨S_, .f32⟩
  | .hbm, ⟨94, _⟩ => ⟨S4x6x2048x2048, .f32⟩
  | .hbm, ⟨95, _⟩ => ⟨S4x6x2048x2048, .f32⟩
  | .hbm, ⟨96, _⟩ => ⟨S4x6x2048x2048, .f32⟩
  | .hbm, ⟨97, _⟩ => ⟨S_, .f32⟩
  | .hbm, ⟨98, _⟩ => ⟨S4x6x2048, .f32⟩
  | .hbm, ⟨99, _⟩ => ⟨S4x6x1x2048, .f32⟩
  | .hbm, ⟨100, _⟩ => ⟨S_, .f32⟩
  | .hbm, ⟨101, _⟩ => ⟨S4x6x2048, .f32⟩
  | .hbm, ⟨102, _⟩ => ⟨S_, .f32⟩
  | .hbm, ⟨103, _⟩ => ⟨S4x6x2048, .f32⟩
  | .hbm, ⟨104, _⟩ => ⟨S4x6x2048x1, .f32⟩
  | .hbm, ⟨105, _⟩ => ⟨S_, .f32⟩
  | .hbm, ⟨106, _⟩ => ⟨S4x6x2048, .f32⟩
  | .hbm, ⟨107, _⟩ => ⟨S4x6x2048, .f32⟩
  | .hbm, ⟨108, _⟩ => ⟨S_, .f32⟩
  | .hbm, ⟨109, _⟩ => ⟨S4x6x2048x2048, .f32⟩
  | .hbm, ⟨110, _⟩ => ⟨S4x6x2048x2048, .f32⟩
  | .hbm, ⟨111, _⟩ => ⟨S4x6x2048x64, .f32⟩
  | .hbm, ⟨112, _⟩ => ⟨S4x2048x6x64, .f32⟩
  | .hbm, ⟨113, _⟩ => ⟨S4x6x2048x64, .f32⟩
  | .hbm, ⟨114, _⟩ => ⟨S4x2048x6x64, .f32⟩
  | .hbm, ⟨115, _⟩ => ⟨S8192x384, .f32⟩
  | .hbm, ⟨116, _⟩ => ⟨S8192x384, .f32⟩
  | .hbm, ⟨117, _⟩ => ⟨S8192x384, .f32⟩
  | .hbm, ⟨118, _⟩ => ⟨S8192x384, .bf16⟩
  | .hbm, ⟨119, _⟩ => ⟨S8192x384, .bf16⟩
  | .hbm, ⟨120, _⟩ => ⟨S8192x384, .bf16⟩
  | .hbm, ⟨121, _⟩ => ⟨S4x2048x6, .f32⟩
  | .hbm, ⟨122, _⟩ => ⟨S8192x6, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DactRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Du2.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S32x1x1024 : Shape := ⟨3, ![32, 1, 1024]⟩
abbrev S256x2816 : Shape := ⟨2, ![256, 2816]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S32x1x1024, .f32⟩
  | .hbm, ⟨10, _⟩ => ⟨S_, .f32⟩
  | .hbm, ⟨11, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1x1024, .f32⟩
  | .local _ .vmem, ⟨14, _⟩ => ⟨S1x1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Du2RefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x2816, .f32⟩
  | .hbm, ⟨8, _⟩ => ⟨S8192x2816, .f32⟩
  | .hbm, ⟨9, _⟩ => ⟨S2816x1024, .f32⟩
  | .hbm, ⟨10, _⟩ => ⟨S2816x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x2816, .f32⟩
  | .hbm, ⟨32, _⟩ => ⟨S8192x2816, .f32⟩
  | .hbm, ⟨33, _⟩ => ⟨S1024x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Du1.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024 : Shape := ⟨2, ![1, 1024]⟩
abbrev S16x1x1024 : Shape := ⟨3, ![16, 1, 1024]⟩
abbrev S512x3072 : Shape := ⟨2, ![512, 3072]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S16x1x1024, .f32⟩
  | .hbm, ⟨8, _⟩ => ⟨S_, .f32⟩
  | .hbm, ⟨9, _⟩ => ⟨S1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Du1RefIdeal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x3072, .f32⟩
  | .hbm, ⟨6, _⟩ => ⟨S1024x3072, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Dwg.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwd.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwin.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwpg.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpgRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Du3.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S16x1x1024 : Shape := ⟨3, ![16, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S16x1x1024, .f32⟩
  | .hbm, ⟨8, _⟩ => ⟨S_, .f32⟩
  | .hbm, ⟨9, _⟩ => ⟨S1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Du3RefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Dycat.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycatRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gu.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GuRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Inp.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Pg.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== PgRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Dwpp.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwppRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pp.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PpRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Conv.lean ====
abbrev S8192x3072 : Shape := ⟨2, ![8192, 3072]⟩
abbrev S8x256 : Shape := ⟨2, ![8, 256]⟩
abbrev S1x256 : Shape := ⟨2, ![1, 256]⟩
abbrev S8192x256 : Shape := ⟨2, ![8192, 256]⟩
abbrev S2048x128 : Shape := ⟨2, ![2048, 128]⟩
abbrev S8x128 : Shape := ⟨2, ![8, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S8x256, .f32⟩
  | .hbm, ⟨2, _⟩ => ⟨S1x256, .f32⟩
  | .hbm, ⟨3, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S8192x3072 : Shape := ⟨2, ![8192, 3072]⟩
abbrev S8x256 : Shape := ⟨2, ![8, 256]⟩
abbrev S1x256 : Shape := ⟨2, ![1, 256]⟩
abbrev S8192x256 : Shape := ⟨2, ![8192, 256]⟩
abbrev S_ : Shape := ⟨0, ![]⟩
abbrev S4x3x256 : Shape := ⟨3, ![4, 3, 256]⟩
abbrev S4x2048x256 : Shape := ⟨3, ![4, 2048, 256]⟩
abbrev S4x2051x256 : Shape := ⟨3, ![4, 2051, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8x256, .f32⟩
  | .hbm, ⟨2, _⟩ => ⟨S1x256, .f32⟩
  | .hbm, ⟨3, _⟩ => ⟨S8192x256, .f32⟩
  | .hbm, ⟨4, _⟩ => ⟨S_, .f32⟩
  | .hbm, ⟨5, _⟩ => ⟨S4x3x256, .f32⟩
  | .hbm, ⟨6, _⟩ => ⟨S4x2048x256, .f32⟩
  | .hbm, ⟨7, _⟩ => ⟨S4x2051x256, .f32⟩
  | .hbm, ⟨8, _⟩ => ⟨S1x256, .f32⟩
  | .hbm, ⟨9, _⟩ => ⟨S4x2048x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S1x256, .f32⟩
  | .hbm, ⟨16, _⟩ => ⟨S4x2048x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S1x256, .f32⟩
  | .hbm, ⟨22, _⟩ => ⟨S4x2048x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S1x256, .f32⟩
  | .hbm, ⟨28, _⟩ => ⟨S4x2048x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Dconv.lean ====
abbrev S8192x3072 : Shape := ⟨2, ![8192, 3072]⟩
abbrev S8x256 : Shape := ⟨2, ![8, 256]⟩
abbrev S1x256 : Shape := ⟨2, ![1, 256]⟩
abbrev S8192x256 : Shape := ⟨2, ![8192, 256]⟩
abbrev S2048x128 : Shape := ⟨2, ![2048, 128]⟩
abbrev S8x128 : Shape := ⟨2, ![8, 128]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8x256, .f32⟩
  | .hbm, ⟨2, _⟩ => ⟨S1x256, .f32⟩
  | .hbm, ⟨3, _⟩ => ⟨S8192x256, .f32⟩
  | .hbm, ⟨4, _⟩ => ⟨S8192x256, .bf16⟩
  | .hbm, ⟨5, _⟩ => ⟨S8x256, .f32⟩
  | .hbm, ⟨6, _⟩ => ⟨S1x256, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S8x128, .f32⟩
  | .local _ .vmem, ⟨11, _⟩ => ⟨S8x128, .f32⟩
  | .local _ .vmem, ⟨12, _⟩ => ⟨S1x128, .f32⟩
  | .local _ .vmem, ⟨13, _⟩ => ⟨S1x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_31 : BitVec 32 := 0#32
  let v100 : BitVec 1 := Scalar.cmpi .eq arg1 c0_i32_31
  let v101 : BitVec 32 := Scalar.extui v100
  let c0_i32_32 : BitVec 32 := 0#32
  let v102 : BitVec 1 := Scalar.cmpi .ne v101 c0_i32_32
  v102

def k0_cond2 (i : grid0.Coords) : BitVec 1 :=
  let arg1 : BitVec 32 := BitVec.ofNat 32 (i 1).val
  let c0_i32_33 : BitVec 32 := 0#32
  let v103 : BitVec 1 := Scalar.cmpi .sgt arg1 c0_i32_33
  let v104 : BitVec 32 := Scalar.extui v103
  let c0_i32_34 : BitVec 32 := 0#32
  let v105 : BitVec 1 := Scalar.cmpi .ne v104 c0_i32_34
  v105

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DconvRefIdeal.lean ====
abbrev S8192x3072 : Shape := ⟨2, ![8192, 3072]⟩
abbrev S8x256 : Shape := ⟨2, ![8, 256]⟩
abbrev S1x256 : Shape := ⟨2, ![1, 256]⟩
abbrev S8192x256 : Shape := ⟨2, ![8192, 256]⟩
abbrev S_ : Shape := ⟨0, ![]⟩
abbrev S4x3x256 : Shape := ⟨3, ![4, 3, 256]⟩
abbrev S4x2048x256 : Shape := ⟨3, ![4, 2048, 256]⟩
abbrev S4x2051x256 : Shape := ⟨3, ![4, 2051, 256]⟩
abbrev S256 : Shape := ⟨1, ![256]⟩

abbrev nBuf : Space → Nat
  | .hbm => 95
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8x256, .f32⟩
  | .hbm, ⟨2, _⟩ => ⟨S1x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S4x3x256, .f32⟩
  | .hbm, ⟨7, _⟩ => ⟨S4x2048x256, .f32⟩
  | .hbm, ⟨8, _⟩ => ⟨S4x2051x256, .f32⟩
  | .hbm, ⟨9, _⟩ => ⟨S_, .f32⟩
  | .hbm, ⟨10, _⟩ => ⟨S4x3x256, .f32⟩
  | .hbm, ⟨11, _⟩ => ⟨S1x256, .f32⟩
  | .hbm, ⟨12, _⟩ => ⟨S4x2048x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S1x256, .f32⟩
  | .hbm, ⟨19, _⟩ => ⟨S4x2048x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S1x256, .f32⟩
  | .hbm, ⟨25, _⟩ => ⟨S4x2048x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S1x256, .f32⟩
  | .hbm, ⟨31, _⟩ => ⟨S4x2048x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S4x2048x256, .f32⟩
  | .hbm, ⟨45, _⟩ => ⟨S_, .f32⟩
  | .hbm, ⟨46, _⟩ => ⟨S4x2051x256, .f32⟩
  | .hbm, ⟨47, _⟩ => ⟨S_, .f32⟩
  | .hbm, ⟨48, _⟩ => ⟨S8x256, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S4x2048x256, .f32⟩
  | .hbm, ⟨56, _⟩ => ⟨S_, .f32⟩
  | .hbm, ⟨57, _⟩ => ⟨S4x2051x256, .f32⟩
  | .hbm, ⟨58, _⟩ => ⟨S4x2051x256, .f32⟩
  | .hbm, ⟨59, _⟩ => ⟨S_, .f32⟩
  | .hbm, ⟨60, _⟩ => ⟨S8x256, .f32⟩
  | .hbm, ⟨61, _⟩ => ⟨S8x256, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S_, .f32⟩
  | .hbm, ⟨66, _⟩ => ⟨S256, .f32⟩
  | .hbm, ⟨67, _⟩ => ⟨S1x256, .f32⟩
  | .hbm, ⟨68, _⟩ => ⟨S4x2048x256, .f32⟩
  | .hbm, ⟨69, _⟩ => ⟨S_, .f32⟩
  | .hbm, ⟨70, _⟩ => ⟨S4x2051x256, .f32⟩
  | .hbm, ⟨71, _⟩ => ⟨S4x2051x256, .f32⟩
  | .hbm, ⟨72, _⟩ => ⟨S_, .f32⟩
  | .hbm, ⟨73, _⟩ => ⟨S8x256, .f32⟩
  | .hbm, ⟨74, _⟩ => ⟨S8x256, .f32⟩
  | .hbm, ⟨75, _⟩ => ⟨S_, .f32⟩
  | .hbm, ⟨76, _⟩ => ⟨S256, .f32⟩
  | .hbm, ⟨77, _⟩ => ⟨S1x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S_, .f32⟩
  | .hbm, ⟨82, _⟩ => ⟨S256, .f32⟩
  | .hbm, ⟨83, _⟩ => ⟨S1x256, .f32⟩
  | .hbm, ⟨84, _⟩ => ⟨S4x2048x256, .f32⟩
  | .hbm, ⟨85, _⟩ => ⟨S_, .f32⟩
  | .hbm, ⟨86, _⟩ => ⟨S4x2051x256, .f32⟩
  | .hbm, ⟨87, _⟩ => ⟨S4x2051x256, .f32⟩
  | .hbm, ⟨88, _⟩ => ⟨S_, .f32⟩
  | .hbm, ⟨89, _⟩ => ⟨S8x256, .f32⟩
  | .hbm, ⟨90, _⟩ => ⟨S8x256, .f32⟩
  | .hbm, ⟨91, _⟩ => ⟨S4x3x256, .f32⟩
  | .hbm, ⟨92, _⟩ => ⟨S4x2048x256, .f32⟩
  | .hbm, ⟨93, _⟩ => ⟨S8192x256, .f32⟩
  | .hbm, ⟨94, _⟩ => ⟨S8192x256, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Proof.FoxTile.lean ====
module

public import proofs.«01_k».proof.Proof.Gen.FoxIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 16384
set_option maxHeartbeats 4000000

noncomputable section

/-!
# One step of the inner loop of the attention gradient

A step takes one tile of 512 keys against one tile of 512 queries, for the two heads that a grid point treats. It carries the query tile's
gradient and its rows' sums, and adds to three buffers: the keys' gradient, the values' gradient and the sums down the columns. Here is what
it computes as a plain function of the tiles it loads, and that a run of its program computes just that.
-/

namespace Cert.FoxIdeal.Walk

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄G" => MT nD τ sig Unit (Elt F) ℕ (UR sig nD τ) ℕ

/-- A load of the representative of `x` is a window of `x`. -/
theorem readAt_rep_window {sig : RefSig} {κ : Kind} {sp : Space} {s : Shape} {e : EltTy} (v : View sig κ sp s e) (x : s.Idx → Elt F e)
    {off size : Fin s.rank → ℕ} (inb : ∀ a, off a + size a ≤ s.size a) :
    v.readAt (Elt F) (Rect.unit off size inb).toLoadRect (v.rep x) = window x off size inb :=
  View.readAt_rep_unit v x inb rfl inb

/-- A load through the rectangle last stored reads what was stored. -/
theorem readCov_same {sig : RefSig} {κ : Kind} {sp : Space} {s : Shape} {e : EltTy} (v : View sig κ sp s e)
    {off size : Fin s.rank → ℕ} (inb inb' : ∀ a, off a + size a ≤ s.size a) (x : (Rect.unit off size inb).shape.Idx → Elt F e) (L : List (View.Piece (Elt F) s e)) :
    v.readCov (⟨Rect.unit off size inb, x⟩ :: L) (Rect.unit off size inb').toLoadRect = x := by
  unfold View.readCov
  rw [View.readAt_unit v _ inb' rfl inb', View.read_writes_cons_put _ _ _ _ _ rfl, window_put_same]

/-- What a query tile brings for its two heads: the queries and the incoming gradients with the other head's lanes cleared, and per row the
    running sum of the forget gates, the logarithm of the softmax's total and the product of gradient and output. -/
structure QTile (F : FTy → Type) [FloatOps F] where
  (q0 g0 : FVec F S512x128 .bf16) (c0 l0 d0 : FVec F S512x1 .f32)
  (q1 g1 : FVec F S512x128 .bf16) (c1 l1 d1 : FVec F S512x1 .f32)

/-- What the loops carry and add to: the query tile's gradient, its rows' sums, and the three buffers. -/
structure Acc (F : FTy → Type) [FloatOps F] where
  (dq rs : FVec F S512x128 .f32)
  (dk dv : Vec F S2048x128 .f32)
  (cs : Vec F S128x2048 .f32)

/-- The grid point's and the program's constant words: which pair of heads, the lanes' numbers, the heads' lanes, the rows' numbers. -/
structure Words where
  (p : BitVec 32) (lane : IVec S512x128 32) (half : IVec S512x128 32) (row8 : IVec S8x512 32)

section Below

variable (w : Words) (t : QTile F) (K V : Vec F S512x128 .f32) (C : Vec F S8x512 .f32)

/-- The weights of a tile below the diagonal, first head. -/
def pw0 : FVec F S512x512 .f32 := k0_pay5 w.p w.row8 t.q0 t.c0 t.l0 K C
/-- The logits' gradient of a tile below the diagonal, first head. -/
def ds0 : FVec F S512x512 .f32 := k0_pay6 w.p w.row8 t.q0 t.g0 t.c0 t.l0 t.d0 K V C
/-- The weights of a tile below the diagonal, second head. -/
def pw1 : FVec F S512x512 .f32 := k0_pay12 w.p w.row8 t.q1 t.c1 t.l1 (k0_pay2 K) (k0_pay4 C)
/-- The logits' gradient of a tile below the diagonal, second head. -/
def ds1 : FVec F S512x512 .f32 := k0_pay13 w.p w.row8 t.q1 t.g1 t.c1 t.l1 t.d1 (k0_pay2 K) (k0_pay3 V) (k0_pay4 C)
/-- The query tile's gradient after a tile below the diagonal. -/
def dqStep (a : FVec F S512x128 .f32) : FVec F S512x128 .f32 :=
  k0_pay18 w.half a (k0_pay2 K) (k0_pay9 (ds0 w t K V C)) (k0_pay11 w.half (k0_pay2 K)) (ds1 w t K V C)
/-- The rows' sums after a tile below the diagonal. -/
def rsStep (a : FVec F S512x128 .f32) : FVec F S512x128 .f32 :=
  k0_pay14 w.lane (k0_pay7 w.p w.lane w.row8 t.q0 t.g0 t.c0 t.l0 t.d0 a K V C) (ds1 w t K V C) (Scalar.muli 2#32 w.p) 8#32
/-- The columns' sums after a tile below the diagonal. -/
def csStep (a : Vec F S8x512 .f32) : FVec F S8x512 .f32 :=
  k0_pay15 w.p w.row8 (ds1 w t K V C) (k0_pay8 w.p w.row8 (ds0 w t K V C) a)
/-- The keys' gradient after a tile below the diagonal. -/
def dkStep (a : Vec F S512x128 .f32) : FVec F S512x128 .f32 :=
  k0_pay56 (k0_pay19 t.q0 t.q1 (k0_pay9 (ds0 w t K V C)) (ds1 w t K V C) a)
/-- The values' gradient after a tile below the diagonal. -/
def dvStep (a : Vec F S512x128 .f32) : FVec F S512x128 .f32 :=
  k0_pay57 t.g0 t.g1 (k0_pay10 (pw0 w t K C)) (k0_pay17 (pw1 w t K C)) a

end Below

/-- One trip below the diagonal: key tile `j` against query tile `i`. -/
def below (w : Words) (t : QTile F) (K V : Vec F S2048x128 .f32) (C : Vec F S8x2048 .f32) (i : Fin k0_t1_loop.trips) (j : Fin (k0_t2_loop i).trips)
    (a : Acc F) : Acc F :=
  let Kt := window K (k0_off2 i j) S512x128.size (k0_off2_inb i j)
  let Vt := window V (k0_off2 i j) S512x128.size (k0_off2_inb i j)
  let Ct := window C (k0_off3 i j) S8x512.size (k0_off3_inb i j)
  { dq := dqStep w t Kt Vt Ct a.dq
    rs := rsStep w t Kt Vt Ct a.rs
    dk := put a.dk (k0_off2 i j) S512x128.size (dkStep w t Kt Vt Ct (window a.dk (k0_off2 i j) S512x128.size (k0_off2_inb i j)))
    dv := put a.dv (k0_off2 i j) S512x128.size (dvStep w t Kt Ct (window a.dv (k0_off2 i j) S512x128.size (k0_off2_inb i j)))
    cs := put a.cs (k0_off4 i j) S8x512.size (csStep w t Kt Vt Ct (window a.cs (k0_off4 i j) S8x512.size (k0_off4_inb i j))) }

section Trip

variable (𝒱 : Variants) (c : Dev nD) (bd : Option 𝒱.V) (E : Set ℕ)

/-- What a trip holds: the keys, the values and the gates' sums, and the three buffers it adds to, each by its values. -/
abbrev held (arg3 arg4 : Memref sig .tc .vmem S2048x128 .f32) (arg9 : Memref sig .tc .vmem S8x2048 .f32) (arg14 arg15 : Memref sig .tc .vmem S2048x128 .f32) (arg16 : Memref sig .tc .vmem S128x2048 .f32)
    (K V : Vec F S2048x128 .f32) (C : Vec F S8x2048 .f32) (a : Acc F) : sProp 𝕄G :=
  iprop((arg3.view.loc (c : Thread nD τ) ↦[arg3.view.set]{fullShare} arg3.view.rep K) ∗ (arg4.view.loc (c : Thread nD τ) ↦[arg4.view.set]{fullShare} arg4.view.rep V) ∗ (arg9.view.loc (c : Thread nD τ) ↦[arg9.view.set]{fullShare} arg9.view.rep C) ∗ (arg14.view.loc (c : Thread nD τ) ↦[arg14.view.set]{fullShare} arg14.view.rep a.dk) ∗ (arg15.view.loc (c : Thread nD τ) ↦[arg15.view.set]{fullShare} arg15.view.rep a.dv) ∗ (arg16.view.loc (c : Thread nD τ) ↦[arg16.view.set]{fullShare} arg16.view.rep a.cs))

/-- A run of one trip below the diagonal computes `below`. -/
theorem below_run (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole)
    (w : Words) (v64 v65 : IVec S512x512 32) (t : QTile F) (cst_73 : F .f32)
    (K V : Vec F S2048x128 .f32) (C : Vec F S8x2048 .f32) (k0_t1 : Fin k0_t1_loop.trips) (arg17 : BitVec 32) (j : Fin (k0_t2_loop k0_t1).trips) (a : Acc F) :
    held c arg3 arg4 arg9 arg14 arg15 arg16 K V C a
      ⊢ wp Idealize.ShloMosaic.frame (wpE (defs₀ (F := F)) 𝒱 (c : Thread nD τ) bd) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 w.p w.lane w.half v64 v65 w.row8 k0_t1 arg17 t.q0 t.g0 t.c0 t.l0 t.d0 t.q1 t.g1 t.c1 t.l1 t.d1 cst_73 j (a.dq, a.rs))
          (fun r => iprop(⌜r = ((below w t K V C k0_t1 j a).dq, (below w t K V C k0_t1 j a).rs)⌝ ∗ held c arg3 arg4 arg9 arg14 arg15 arg16 K V C (below w t K V C k0_t1 j a))) := by
  unfold held k0_t2_body
  iintro ⟨H3, H4, H9, H14, H15, H16⟩
  sl_exec
  sl_step
  isplitr
  · ipureintro
    refine Prod.ext ?_ ?_
    · sl_unfold_run_names
      simp only [readAt_rep_window]
      rfl
    · sl_unfold_run_names
      simp only [readAt_rep_window]
      rfl
  isplitl [H3]; · iexact H3
  isplitl [H4]; · iexact H4
  isplitl [H9]; · iexact H9
  isplitl [H14]
  · iapply (pointsTo_rep_of_read (c : Thread nD τ) arg14 _ fullShare _ ?_) $$ H14
    sl_unfold_run_names
    rw [View.read_writes_cons_put _ _ _ _ _ rfl, View.writes_nil, View.read_rep]
    simp only [readAt_rep_window]
    rfl
  isplitl [H15]
  · iapply (pointsTo_rep_of_read (c : Thread nD τ) arg15 _ fullShare _ ?_) $$ H15
    sl_unfold_run_names
    rw [View.read_writes_cons_put _ _ _ _ _ rfl, View.writes_nil, View.read_rep]
    simp only [readAt_rep_window]
    rfl
  · iapply (pointsTo_rep_of_read (c : Thread nD τ) arg16 _ fullShare _ ?_) $$ H16
    sl_unfold_run_names
    rw [View.read_writes_cons_put _ _ _ _ _ rfl, View.read_writes_cons_put _ _ _ _ _ rfl, View.writes_nil, View.read_rep, put_put_same]
    simp only [readCov_same, readAt_rep_window]
    rfl

end Trip

end Cert.FoxIdeal.Walk

end
-- ==== Proof.FoxTrip.lean ====
module

public import proofs.«01_k».proof.Proof.FoxTile

@[expose] public section

set_option maxRecDepth 16384
set_option maxHeartbeats 8000000

noncomputable section

/-!
# One query tile of the attention gradient

The outer loop takes the four query tiles in turn: the key tiles below the diagonal by the inner loop, then the diagonal's own. Here is what one
trip makes of its buffers as a plain function, and that a run of the program computes it.
-/

namespace Cert.FoxIdeal.Walk

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄G" => MT nD τ sig Unit (Elt F) ℕ (UR sig nD τ) ℕ

/-- The first `n` trips below the diagonal. -/
def steps (w : Words) (t : QTile F) (K V : Vec F S2048x128 .f32) (C : Vec F S8x2048 .f32) (i : Fin k0_t1_loop.trips) (a : Acc F) : ℕ → Acc F
  | 0 => a
  | n + 1 => if h : n < (k0_t2_loop i).trips then below w t K V C i ⟨n, h⟩ (steps w t K V C i a n) else steps w t K V C i a n

theorem steps_succ (w : Words) (t : QTile F) (K V : Vec F S2048x128 .f32) (C : Vec F S8x2048 .f32) (i : Fin k0_t1_loop.trips) (a : Acc F)
    (j : Fin (k0_t2_loop i).trips) : steps w t K V C i a (j.val + 1) = below w t K V C i j (steps w t K V C i a j.val) :=
  dif_pos j.isLt

/-- The inner loop by its invariant: before trip `k` the carried pair and the three buffers are those of `steps`. -/
@[sl_loop] def innerInv (𝒱 : Variants) (c : Dev nD) (bd : Option 𝒱.V) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole)
    (arg1 : BitVec 32) (v14 v63 : IVec S512x128 32) (v64 v65 : IVec S512x512 32) (v66 : IVec S8x512 32) (k0_t1 : Fin k0_t1_loop.trips) (arg17 : BitVec 32)
    (v104 v109 : FVec F S512x128 .bf16) (v118 v124 v130 : FVec F S512x1 .f32) (v135 v140 : FVec F S512x128 .bf16) (v149 v155 v161 : FVec F S512x1 .f32) (cst_73 : F .f32) (a1 a2 : FVec F S512x128 .f32)
    (K V : Vec F S2048x128 .f32) (C : Vec F S8x2048 .f32) (dk dv : Vec F S2048x128 .f32) (cs : Vec F S128x2048 .f32) :
    Idealize.ShloMosaic.LoopInv (M := 𝕄G) Idealize.ShloMosaic.frame (wpE (defs₀ (F := F)) 𝒱 (c : Thread nD τ) bd) E
      (k0_t2_loop k0_t1).lb (k0_t2_loop k0_t1).ub (k0_t2_loop k0_t1).st (k0_t2_ok k0_t1) (a1, a2)
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v14 v63 v64 v65 v66 k0_t1 arg17 v104 v109 v118 v124 v130 v135 v140 v149 v155 v161 cst_73) where
  inv k acc := iprop(held c arg3 arg4 arg9 arg14 arg15 arg16 K V C (steps ⟨arg1, v14, v63, v66⟩ ⟨v104, v109, v118, v124, v130, v135, v140, v149, v155, v161⟩ K V C k0_t1 ⟨a1, a2, dk, dv, cs⟩ k)
    ∗ ⌜acc = ((steps ⟨arg1, v14, v63, v66⟩ ⟨v104, v109, v118, v124, v130, v135, v140, v149, v155, v161⟩ K V C k0_t1 ⟨a1, a2, dk, dv, cs⟩ k).dq, (steps ⟨arg1, v14, v63, v66⟩ ⟨v104, v109, v118, v124, v130, v135, v140, v149, v155, v161⟩ K V C k0_t1 ⟨a1, a2, dk, dv, cs⟩ k).rs)⌝)
  step k acc := by
    iintro ⟨H, %h⟩
    subst h
    iapply (wp_wand_r Idealize.ShloMosaic.frame (wpE (defs₀ (F := F)) 𝒱 (c : Thread nD τ) bd) E)
    isplitl [H]
    · iapply (below_run (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 ⟨arg1, v14, v63, v66⟩ v64 v65 ⟨v104, v109, v118, v124, v130, v135, v140, v149, v155, v161⟩ cst_73 K V C k0_t1 arg17 k (steps ⟨arg1, v14, v63, v66⟩ ⟨v104, v109, v118, v124, v130, v135, v140, v149, v155, v161⟩ K V C k0_t1 ⟨a1, a2, dk, dv, cs⟩ k.val)) $$ H
    · iintro %r ⟨%hr, H⟩
      rw [steps_succ]
      isplitl [H]; · iexact H
      ipureintro; exact hr

/-- What a grid point stages: queries, keys, values, outputs, incoming gradients, the softmax's totals, and the gates' sums both ways round. -/
structure Ins (F : FTy → Type) [FloatOps F] where
  (q k v o g l cn : Vec F S2048x128 .f32) (ct : Vec F S8x2048 .f32)

/-- What a grid point fills: the queries' gradient, the gates' gradient, and the three buffers that it adds to. -/
structure Outs (F : FTy → Type) [FloatOps F] where
  (dq : Vec F S2048x128 .bf16) (dc dk dv : Vec F S2048x128 .f32) (cs : Vec F S128x2048 .f32)

/-- What query tile `i` brings. -/
def qtile (w : Words) (half : IVec S512x128 32) (x : Ins F) (i : Fin k0_t1_loop.trips) : QTile F :=
  let Q := window x.q (k0_off1 i) S512x128.size (k0_off1_inb i)
  let G := window x.g (k0_off1 i) S512x128.size (k0_off1_inb i)
  let O := window x.o (k0_off1 i) S512x128.size (k0_off1_inb i)
  let L := window x.l (k0_off1 i) S512x128.size (k0_off1_inb i)
  let Cn := window x.cn (k0_off1 i) S512x128.size (k0_off1_inb i)
  { q0 := k0_pay42 half Q
    g0 := k0_pay43 half G
    c0 := k0_pay44 w.p w.lane Cn
    l0 := k0_pay47 (k0_pay40 L) (k0_pay45 w.lane) k0_pay46
    d0 := k0_pay48 half (k0_pay41 G O)
    q1 := k0_pay49 half (k0_pay39 Q)
    g1 := k0_pay50 half G
    c1 := k0_pay51 w.p w.lane (k0_pay38 Cn)
    l1 := k0_pay52 w.lane (k0_pay40 L)
    d1 := k0_pay53 half (k0_pay41 G O) }

section Diagonal

variable (w : Words) (rows cols : IVec S512x512 32) (t : QTile F) (K V : Vec F S512x128 .f32) (C : Vec F S8x512 .f32)

/-- The weights of the diagonal tile, first head. -/
def pd0 : FVec F S512x512 .f32 := k0_pay63 w.p rows cols w.row8 t.q0 t.c0 t.l0 K C
/-- The logits' gradient of the diagonal tile, first head. -/
def dd0 : FVec F S512x512 .f32 := k0_pay64 w.p rows cols w.row8 t.q0 t.g0 t.c0 t.l0 t.d0 K V C
/-- The weights of the diagonal tile, second head. -/
def pd1 : FVec F S512x512 .f32 := k0_pay71 rows cols t.q1 t.c1 t.l1 (k0_pay60 K) (k0_pay70 w.p w.row8 (k0_pay62 C))
/-- The logits' gradient of the diagonal tile, second head, as its products take it. -/
def dd1 : FVec F S512x512 .bf16 := k0_pay75 rows cols t.q1 t.g1 t.c1 t.l1 t.d1 (k0_pay60 K) (k0_pay61 V) (k0_pay70 w.p w.row8 (k0_pay62 C))
/-- The query tile's gradient after the diagonal tile. -/
def dqDiag (a : FVec F S512x128 .f32) : FVec F S512x128 .bf16 :=
  k0_pay78 w.half a (k0_pay60 K) (k0_pay67 (dd0 w rows cols t K V C)) (k0_pay69 w.half (k0_pay60 K)) (dd1 w rows cols t K V C)
/-- The rows' sums after the diagonal tile. -/
def rsDiag (a : FVec F S512x128 .f32) : FVec F S512x128 .f32 :=
  k0_pay73 w.p w.lane rows cols t.q1 t.g1 t.c1 t.l1 t.d1 (k0_pay60 K) (k0_pay61 V) (k0_pay65 w.p w.lane a (dd0 w rows cols t K V C)) (k0_pay70 w.p w.row8 (k0_pay62 C))
/-- The columns' sums after the diagonal tile. -/
def csDiag (a : Vec F S8x512 .f32) : FVec F S8x512 .f32 :=
  k0_pay74 w.p rows cols w.row8 t.q1 t.g1 t.c1 t.l1 t.d1 (k0_pay60 K) (k0_pay61 V) (k0_pay70 w.p w.row8 (k0_pay62 C)) (k0_pay66 w.p w.row8 (dd0 w rows cols t K V C) a)
/-- The keys' gradient after the diagonal tile. -/
def dkDiag (a : Vec F S512x128 .f32) : FVec F S512x128 .f32 :=
  k0_pay76 t.q0 t.q1 (k0_pay67 (dd0 w rows cols t K V C)) (dd1 w rows cols t K V C) a
/-- The values' gradient after the diagonal tile. -/
def dvDiag (a : Vec F S512x128 .f32) : FVec F S512x128 .f32 :=
  k0_pay77 t.g0 t.g1 (k0_pay68 (pd0 w rows cols t K C)) (pd1 w rows cols t K C) a

end Diagonal

/-- The state after the key tiles below the diagonal of query tile `i`. -/
def tri (w : Words) (half : IVec S512x128 32) (x : Ins F) (i : Fin k0_t1_loop.trips) (s : Outs F) : Acc F :=
  steps w (qtile w half x i) x.k x.v x.ct i ⟨k0_pay54 (Scalar.ofBits .f32 0x00000000#32), k0_pay55, s.dk, s.dv, s.cs⟩ (k0_t2_loop i).trips

/-- One trip of the outer loop: query tile `i`. -/
def trip (w : Words) (half : IVec S512x128 32) (rows cols : IVec S512x512 32) (x : Ins F) (i : Fin k0_t1_loop.trips) (s : Outs F) : Outs F :=
  let t := qtile w half x i
  let a := tri w half x i s
  let Kt := window x.k (k0_off1 i) S512x128.size (k0_off1_inb i)
  let Vt := window x.v (k0_off1 i) S512x128.size (k0_off1_inb i)
  let Ct := window x.ct (k0_off8 i) S8x512.size (k0_off8_inb i)
  { dq := put s.dq (k0_off1 i) S512x128.size (dqDiag w rows cols t Kt Vt Ct a.dq)
    dc := put s.dc (k0_off1 i) S512x128.size (k0_pay79 (rsDiag w rows cols t Kt Vt Ct a.rs) (window s.dc (k0_off1 i) S512x128.size (k0_off1_inb i)))
    dk := put a.dk (k0_off1 i) S512x128.size (dkDiag w rows cols t Kt Vt Ct (window a.dk (k0_off1 i) S512x128.size (k0_off1_inb i)))
    dv := put a.dv (k0_off1 i) S512x128.size (dvDiag w rows cols t Kt Ct (window a.dv (k0_off1 i) S512x128.size (k0_off1_inb i)))
    cs := put a.cs (k0_off9 i) S8x512.size (csDiag w rows cols t Kt Vt Ct (window a.cs (k0_off9 i) S8x512.size (k0_off9_inb i))) }

/-- The loop that the program states for a remainder runs no trip. -/
theorem t3_trips : ∀ i : Fin k0_t1_loop.trips, (k0_t3_loop i).trips = 0 := by decide +kernel

/-- What a trip of the outer loop holds. -/
abbrev heldOut (c : Dev nD) (arg2 : Memref sig .tc .vmem S2048x128 .f32) (arg3 : Memref sig .tc .vmem S2048x128 .f32) (arg4 : Memref sig .tc .vmem S2048x128 .f32) (arg5 : Memref sig .tc .vmem S2048x128 .f32) (arg6 : Memref sig .tc .vmem S2048x128 .f32) (arg7 : Memref sig .tc .vmem S2048x128 .f32) (arg8 : Memref sig .tc .vmem S2048x128 .f32) (arg9 : Memref sig .tc .vmem S8x2048 .f32) (arg10 : Memref sig .tc .vmem S2048x128 .bf16) (arg13 : Memref sig .tc .vmem S2048x128 .f32) (arg14 : Memref sig .tc .vmem S2048x128 .f32) (arg15 : Memref sig .tc .vmem S2048x128 .f32) (arg16 : Memref sig .tc .vmem S128x2048 .f32) (x : Ins F) (s : Outs F) : sProp 𝕄G :=
  iprop((arg2.view.loc (c : Thread nD τ) ↦[arg2.view.set]{fullShare} arg2.view.rep x.q) ∗ (arg3.view.loc (c : Thread nD τ) ↦[arg3.view.set]{fullShare} arg3.view.rep x.k) ∗ (arg4.view.loc (c : Thread nD τ) ↦[arg4.view.set]{fullShare} arg4.view.rep x.v) ∗ (arg5.view.loc (c : Thread nD τ) ↦[arg5.view.set]{fullShare} arg5.view.rep x.o) ∗ (arg6.view.loc (c : Thread nD τ) ↦[arg6.view.set]{fullShare} arg6.view.rep x.g) ∗ (arg7.view.loc (c : Thread nD τ) ↦[arg7.view.set]{fullShare} arg7.view.rep x.l) ∗ (arg8.view.loc (c : Thread nD τ) ↦[arg8.view.set]{fullShare} arg8.view.rep x.cn) ∗ (arg9.view.loc (c : Thread nD τ) ↦[arg9.view.set]{fullShare} arg9.view.rep x.ct) ∗ (arg10.view.loc (c : Thread nD τ) ↦[arg10.view.set]{fullShare} arg10.view.rep s.dq) ∗ (arg13.view.loc (c : Thread nD τ) ↦[arg13.view.set]{fullShare} arg13.view.rep s.dc) ∗ (arg14.view.loc (c : Thread nD τ) ↦[arg14.view.set]{fullShare} arg14.view.rep s.dk) ∗ (arg15.view.loc (c : Thread nD τ) ↦[arg15.view.set]{fullShare} arg15.view.rep s.dv) ∗ (arg16.view.loc (c : Thread nD τ) ↦[arg16.view.set]{fullShare} arg16.view.rep s.cs))

/-- A run of one trip of the outer loop computes `trip`. -/
theorem trip_run (𝒱 : Variants) (c : Dev nD) (bd : Option 𝒱.V) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole)
    (arg1 : BitVec 32) (v14 v16 : IVec S512x128 32) (v35 : IVec S512x128 1) (v64 v65 : IVec S512x512 32) (v66 : IVec S8x512 32)
    (x : Ins F) (k0_t1 : Fin k0_t1_loop.trips) (s : Outs F) :
    heldOut c arg2 arg3 arg4 arg5 arg6 arg7 arg8 arg9 arg10 arg13 arg14 arg15 arg16 x s
      ⊢ wp Idealize.ShloMosaic.frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v14 v16 v35 v64 v65 v66 k0_t1 ())
          (fun _ => heldOut c arg2 arg3 arg4 arg5 arg6 arg7 arg8 arg9 arg10 arg13 arg14 arg15 arg16 x (trip ⟨arg1, v14, k0_pay87, v66⟩ (k0_pay86 v16 v35) v64 v65 x k0_t1 s)) := by
  unfold heldOut k0_t1_body
  have htr := t3_trips k0_t1
  iintro ⟨H2, H3, H4, H5, H6, H7, H8, H9, H10, H13, H14, H15, H16⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pointsTo_rep_of_read (c : Thread nD τ) arg10 _ fullShare _ ?_) $$ H10
    sl_unfold_run_names
    rw [View.read_writes_cons_put _ _ _ _ _ rfl, View.writes_nil, View.read_rep]
    simp only [readAt_rep_window]
    rfl
  isplitl [H13]
  · iapply (pointsTo_rep_of_read (c : Thread nD τ) arg13 _ fullShare _ ?_) $$ H13
    sl_unfold_run_names
    rw [View.read_writes_cons_put _ _ _ _ _ rfl, View.writes_nil, View.read_rep]
    simp only [readAt_rep_window]
    rfl
  isplitl [H14]
  · iapply (pointsTo_rep_of_read (c : Thread nD τ) arg14 _ fullShare _ ?_) $$ H14
    sl_unfold_run_names
    rw [View.read_writes_cons_put _ _ _ _ _ rfl, View.writes_nil, View.read_rep]
    simp only [readAt_rep_window]
    rfl
  isplitl [H15]
  · iapply (pointsTo_rep_of_read (c : Thread nD τ) arg15 _ fullShare _ ?_) $$ H15
    sl_unfold_run_names
    rw [View.read_writes_cons_put _ _ _ _ _ rfl, View.writes_nil, View.read_rep]
    simp only [readAt_rep_window]

    rfl
  · iapply (pointsTo_rep_of_read (c : Thread nD τ) arg16 _ fullShare _ ?_) $$ H16
    sl_unfold_run_names
    rw [View.read_writes_cons_put _ _ _ _ _ rfl, View.read_writes_cons_put _ _ _ _ _ rfl, View.writes_nil, View.read_rep, put_put_same]
    simp only [readCov_same, readAt_rep_window]
    rfl

end Cert.FoxIdeal.Walk

end
-- ==== Proof.FoxBody.lean ====
module

public import proofs.«01_k».proof.Proof.FoxTrip

@[expose] public section

set_option maxRecDepth 16384
set_option maxHeartbeats 8000000

noncomputable section

/-!
# One grid point of the attention gradient

A grid point zeroes its accumulators, takes the four query tiles in turn, and writes what the accumulators hold.
-/

namespace Cert.FoxIdeal.Walk

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄G" => MT nD τ sig Unit (Elt F) ℕ (UR sig nD τ) ℕ

/-- The first `n` query tiles. -/
def trips (w : Words) (half : IVec S512x128 32) (rows cols : IVec S512x512 32) (x : Ins F) (s : Outs F) : ℕ → Outs F
  | 0 => s
  | n + 1 => if h : n < k0_t1_loop.trips then trip w half rows cols x ⟨n, h⟩ (trips w half rows cols x s n) else trips w half rows cols x s n

theorem trips_succ (w : Words) (half : IVec S512x128 32) (rows cols : IVec S512x512 32) (x : Ins F) (s : Outs F) (k : Fin k0_t1_loop.trips) :
    trips w half rows cols x s (k.val + 1) = trip w half rows cols x k (trips w half rows cols x s k.val) :=
  dif_pos k.isLt

/-- The outer loop by its invariant. -/
@[instance_reducible] def outerInv (𝒱 : Variants) (c : Dev nD) (bd : Option 𝒱.V) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole)
    (arg1 : BitVec 32) (v14 v16 : IVec S512x128 32) (v35 : IVec S512x128 1) (v64 v65 : IVec S512x512 32) (v66 : IVec S8x512 32) (x : Ins F) (s : Outs F) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v14 v16 v35 v64 v65 v66) where
  inv k _ := heldOut c arg2 arg3 arg4 arg5 arg6 arg7 arg8 arg9 arg10 arg13 arg14 arg15 arg16 x (trips ⟨arg1, v14, k0_pay87, v66⟩ (k0_pay86 v16 v35) v64 v65 x s k)
  step k _ := by
    rw [trips_succ]
    exact trip_run (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v14 v16 v35 v64 v65 v66 x k _

/-- The outer loop, run. -/
theorem outer_run (𝒱 : Variants) (c : Dev nD) (bd : Option 𝒱.V) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole)
    (arg1 : BitVec 32) (v14 v16 : IVec S512x128 32) (v35 : IVec S512x128 1) (v64 v65 : IVec S512x512 32) (v66 : IVec S8x512 32) (x : Ins F) (s : Outs F)
    {β : Type} {kk : PUnit → Prog (TpuEff nD τ sig (Elt F) Λ₀ .tc) β} {Q : β → sProp 𝕄G} :
    heldOut c arg2 arg3 arg4 arg5 arg6 arg7 arg8 arg9 arg10 arg13 arg14 arg15 arg16 x s ⊢ iprop((∀ acc, heldOut c arg2 arg3 arg4 arg5 arg6 arg7 arg8 arg9 arg10 arg13 arg14 arg15 arg16 x (trips ⟨arg1, v14, k0_pay87, v66⟩ (k0_pay86 v16 v35) v64 v65 x s k0_t1_loop.trips)
          -∗ wp Idealize.ShloMosaic.frame (wpE (defs₀ (F := F)) 𝒱 (c : Thread nD τ) bd) E (kk acc) Q)
        -∗ wp Idealize.ShloMosaic.frame (wpE (defs₀ (F := F)) 𝒱 (c : Thread nD τ) bd) E (Scf.Loop.for k0_t1_loop k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v14 v16 v35 v64 v65 v66) >>= kk) Q) :=
  exec_loop (M := 𝕄G) _ _ _ _ _ _ _ _ _ (outerInv (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v14 v16 v35 v64 v65 v66 x s)

/-- The integers a grid point starts from. -/
def pointWords (i : grid0.Coords) : Words :=
  ⟨BitVec.ofNat 32 (i 1).val, iota .tc S512x128 32 [1] iota_S512x128_d1_w32, k0_pay87, iota .tc S8x512 32 [0] iota_S8x512_d0_w32⟩

/-- The accumulators at their start, over what the queries' gradient held before. -/
def start (d : Vec F S2048x128 .bf16) : Outs F := ⟨d, k0_pay82, k0_pay80, k0_pay81, k0_pay83⟩

/-- What a grid point's buffers hold after its four query tiles. -/
def ended (i : grid0.Coords) (x : Ins F) (d : Vec F S2048x128 .bf16) : Outs F :=
  trips (pointWords i) (k0_pay86 k0_pay84 k0_pay85) (iota .tc S512x512 32 [0] iota_S512x512_d0_w32) (iota .tc S512x512 32 [1] iota_S512x512_d1_w32) x (start d) k0_t1_loop.trips

/-- What a grid point leaves in its four results. -/
def filled (i : grid0.Coords) (x : Ins F) : Vec F S2048x128 .bf16 × Vec F S2048x128 .bf16 × Vec F S2048x128 .bf16 × Vec F S2048x128 .f32 :=
  let s := ended i x (k0_pay88 k0_pay80)
  (s.dq, k0_pay88 s.dk, k0_pay89 s.dv, k0_pay1 s.cs s.dc)

theorem trips_four : k0_t1_loop.trips = 4 := by decide +kernel

/-- What was in the queries' gradient before does not matter: the four tiles cover it. -/
theorem ended_dq (i : grid0.Coords) (x : Ins F) (d e : Vec F S2048x128 .bf16) : ended i x d = ended i x e := by
  have hb : ∀ w half rows cols n, (trips w half rows cols x (start d) n).dc = (trips w half rows cols x (start e) n).dc
      ∧ (trips w half rows cols x (start d) n).dk = (trips w half rows cols x (start e) n).dk
      ∧ (trips w half rows cols x (start d) n).dv = (trips w half rows cols x (start e) n).dv
      ∧ (trips w half rows cols x (start d) n).cs = (trips w half rows cols x (start e) n).cs
      ∧ ∀ y : S2048x128.Idx, (y 0).val < 512 * n → n ≤ 4 → (trips w half rows cols x (start d) n).dq y = (trips w half rows cols x (start e) n).dq y := by
    intro w half rows cols n
    induction n with
    | zero => exact ⟨rfl, rfl, rfl, rfl, fun y h => absurd h (by omega)⟩
    | succ n ih =>
      obtain ⟨h1, h2, h3, h4, h5⟩ := ih
      by_cases hn : n < k0_t1_loop.trips
      · have ht : ∀ s : Outs F, trips w half rows cols x s (n + 1) = trip w half rows cols x ⟨n, hn⟩ (trips w half rows cols x s n) := fun s => dif_pos hn
        have ha : tri w half x ⟨n, hn⟩ (trips w half rows cols x (start d) n) = tri w half x ⟨n, hn⟩ (trips w half rows cols x (start e) n) := by
          unfold tri; rw [h2, h3, h4]
        rw [ht, ht]
        unfold trip
        simp only [ha, h1]
        refine ⟨trivial, trivial, trivial, trivial, fun y hy h4 => ?_⟩
        unfold put
        split
        · rfl
        · next hni =>
          refine h5 y ?_ (by omega)
          by_contra hc
          refine hni fun a => ?_
          rw [k0_off1_eq]
          have := (y 1).isLt
          fin_cases a
          · exact ⟨by simp; omega, by simp; omega⟩
          · exact ⟨by simp, by simpa using this⟩
      · have ht : ∀ s : Outs F, trips w half rows cols x s (n + 1) = trips w half rows cols x s n := fun s => dif_neg hn
        rw [ht, ht]
        exact ⟨h1, h2, h3, h4, fun y hy h4 => absurd (trips_four ▸ hn) (by omega)⟩
  have h := hb (pointWords i) (k0_pay86 k0_pay84 k0_pay85) (iota .tc S512x512 32 [0] iota_S512x512_d0_w32) (iota .tc S512x512 32 [1] iota_S512x512_d1_w32) k0_t1_loop.trips
  unfold ended
  obtain ⟨h1, h2, h3, h4, h5⟩ := h
  generalize trips _ _ _ _ x (start d) _ = s at *
  generalize trips _ _ _ _ x (start e) _ = r at *
  have h5' : s.dq = r.dq := by
    funext y
    exact h5 y (by have := (y 0).isLt; rw [trips_four]; exact lt_of_lt_of_le this (by decide)) (by rw [trips_four])
  cases s; cases r
  simp only [Outs.mk.injEq]
  exact ⟨h5', h1, h2, h3, h4⟩

/-- A run of one grid point leaves `filled` of what it stages. -/
theorem point_run (𝒱 : Variants) (c : Dev nD) (bd : Option 𝒱.V) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole) (x : Ins F) :
    (iprop((arg2.view.loc (c : Thread nD τ) ↦[arg2.view.set]{fullShare} arg2.view.rep x.q) ∗ (arg3.view.loc (c : Thread nD τ) ↦[arg3.view.set]{fullShare} arg3.view.rep x.k) ∗ (arg4.view.loc (c : Thread nD τ) ↦[arg4.view.set]{fullShare} arg4.view.rep x.v) ∗ (arg5.view.loc (c : Thread nD τ) ↦[arg5.view.set]{fullShare} arg5.view.rep x.o) ∗ (arg6.view.loc (c : Thread nD τ) ↦[arg6.view.set]{fullShare} arg6.view.rep x.g) ∗ (arg7.view.loc (c : Thread nD τ) ↦[arg7.view.set]{fullShare} arg7.view.rep x.l) ∗ (arg8.view.loc (c : Thread nD τ) ↦[arg8.view.set]{fullShare} arg8.view.rep x.cn) ∗ (arg9.view.loc (c : Thread nD τ) ↦[arg9.view.set]{fullShare} arg9.view.rep x.ct) ∗ (∃ f : Buf (Elt F) (arg10.view.loc (c : Thread nD τ)), arg10.view.loc (c : Thread nD τ) ↦[arg10.view.set]{fullShare} f) ∗ (∃ f : Buf (Elt F) (arg11.view.loc (c : Thread nD τ)), arg11.view.loc (c : Thread nD τ) ↦[arg11.view.set]{fullShare} f) ∗ (∃ f : Buf (Elt F) (arg12.view.loc (c : Thread nD τ)), arg12.view.loc (c : Thread nD τ) ↦[arg12.view.set]{fullShare} f) ∗ (∃ f : Buf (Elt F) (arg13.view.loc (c : Thread nD τ)), arg13.view.loc (c : Thread nD τ) ↦[arg13.view.set]{fullShare} f) ∗ (∃ f : Buf (Elt F) (arg14.view.loc (c : Thread nD τ)), arg14.view.loc (c : Thread nD τ) ↦[arg14.view.set]{fullShare} f) ∗ (∃ f : Buf (Elt F) (arg15.view.loc (c : Thread nD τ)), arg15.view.loc (c : Thread nD τ) ↦[arg15.view.set]{fullShare} f) ∗ (∃ f : Buf (Elt F) (arg16.view.loc (c : Thread nD τ)), arg16.view.loc (c : Thread nD τ) ↦[arg16.view.set]{fullShare} f)) : sProp 𝕄G)
      ⊢ wp Idealize.ShloMosaic.frame (wpE (defs₀ (F := F)) 𝒱 (c : Thread nD τ) bd) E
          (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg2.view.loc (c : Thread nD τ) ↦[arg2.view.set]{fullShare} arg2.view.rep x.q) ∗ (arg3.view.loc (c : Thread nD τ) ↦[arg3.view.set]{fullShare} arg3.view.rep x.k) ∗ (arg4.view.loc (c : Thread nD τ) ↦[arg4.view.set]{fullShare} arg4.view.rep x.v) ∗ (arg5.view.loc (c : Thread nD τ) ↦[arg5.view.set]{fullShare} arg5.view.rep x.o) ∗ (arg6.view.loc (c : Thread nD τ) ↦[arg6.view.set]{fullShare} arg6.view.rep x.g) ∗ (arg7.view.loc (c : Thread nD τ) ↦[arg7.view.set]{fullShare} arg7.view.rep x.l) ∗ (arg8.view.loc (c : Thread nD τ) ↦[arg8.view.set]{fullShare} arg8.view.rep x.cn) ∗ (arg9.view.loc (c : Thread nD τ) ↦[arg9.view.set]{fullShare} arg9.view.rep x.ct) ∗ (arg10.view.loc (c : Thread nD τ) ↦[arg10.view.set]{fullShare} arg10.view.rep (filled i x).1) ∗ (arg11.view.loc (c : Thread nD τ) ↦[arg11.view.set]{fullShare} arg11.view.rep (filled i x).2.1) ∗ (arg12.view.loc (c : Thread nD τ) ↦[arg12.view.set]{fullShare} arg12.view.rep (filled i x).2.2.1) ∗ (arg13.view.loc (c : Thread nD τ) ↦[arg13.view.set]{fullShare} arg13.view.rep (filled i x).2.2.2) ∗ (∃ f : Buf (Elt F) (arg14.view.loc (c : Thread nD τ)), arg14.view.loc (c : Thread nD τ) ↦[arg14.view.set]{fullShare} f) ∗ (∃ f : Buf (Elt F) (arg15.view.loc (c : Thread nD τ)), arg15.view.loc (c : Thread nD τ) ↦[arg15.view.set]{fullShare} f) ∗ (∃ f : Buf (Elt F) (arg16.view.loc (c : Thread nD τ)), arg16.view.loc (c : Thread nD τ) ↦[arg16.view.set]{fullShare} f))) := by
  simp only [cc0_fox_bwd_eq_skeleton]; unfold cc0_fox_bwd_skel
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩⟩
  sl_exec
  iapply (outer_run (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (iota .tc S512x128 32 [1] iota_S512x128_d1_w32) k0_pay84 k0_pay85 (iota .tc S512x512 32 [0] iota_S512x512_d0_w32) (iota .tc S512x512 32 [1] iota_S512x512_d1_w32) (iota .tc S8x512 32 [0] iota_S8x512_d0_w32) x (start (arg10.view.read (Elt F) f10))) $$ [H2 H3 H4 H5 H6 H7 H8 H9 H10 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (pointsTo_rep_of_read (c : Thread nD τ) arg10 _ fullShare _ rfl) $$ H10
    isplitl [H13]
    · iapply (pointsTo_rep_of_read (c : Thread nD τ) arg13 _ fullShare _ ?_) $$ H13
      sl_unfold_run_names
      rw [View.read_writes_full]; rfl
    isplitl [H14]
    · iapply (pointsTo_rep_of_read (c : Thread nD τ) arg14 _ fullShare _ ?_) $$ H14
      sl_unfold_run_names
      rw [View.read_writes_full]; rfl
    isplitl [H15]
    · iapply (pointsTo_rep_of_read (c : Thread nD τ) arg15 _ fullShare _ ?_) $$ H15
      sl_unfold_run_names
      rw [View.read_writes_full]; rfl
    · iapply (pointsTo_rep_of_read (c : Thread nD τ) arg16 _ fullShare _ ?_) $$ H16
      sl_unfold_run_names
      rw [View.read_writes_full]; rfl
  iintro %acc ⟨H2, H3, H4, H5, H6, H7, H8, H9, H10, H13, H14, H15, H16⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · have e : (ended i x (arg10.view.read (Elt F) f10)).dq = (filled i x).1 := by rw [ended_dq i x _ (k0_pay88 k0_pay80)]; rfl
    rw [← e]; iexact H10
  isplitl [H11]
  · iapply (pointsTo_rep_of_read (c : Thread nD τ) arg11 _ fullShare _ ?_) $$ H11
    sl_unfold_run_names
    rw [View.read_writes_full]
    have e : k0_pay88 (ended i x (arg10.view.read (Elt F) f10)).dk = (filled i x).2.1 := by rw [ended_dq i x _ (k0_pay88 k0_pay80)]; rfl
    exact Eq.trans (congrArg k0_pay88 (View.readAt_rep_full arg14.view _ _)) e
  isplitl [H12]
  · iapply (pointsTo_rep_of_read (c : Thread nD τ) arg12 _ fullShare _ ?_) $$ H12
    sl_unfold_run_names
    rw [View.read_writes_full]
    have e : k0_pay89 (ended i x (arg10.view.read (Elt F) f10)).dv = (filled i x).2.2.1 := by rw [ended_dq i x _ (k0_pay88 k0_pay80)]; rfl
    exact Eq.trans (congrArg k0_pay89 (View.readAt_rep_full arg15.view _ _)) e
  isplitl [H13]
  · iapply (pointsTo_rep_of_read (c : Thread nD τ) arg13 _ fullShare _ ?_) $$ H13
    sl_unfold_run_names
    rw [View.read_writes_full]
    have e : k0_pay1 (ended i x (arg10.view.read (Elt F) f10)).cs (ended i x (arg10.view.read (Elt F) f10)).dc = (filled i x).2.2.2 := by rw [ended_dq i x _ (k0_pay88 k0_pay80)]; rfl
    exact Eq.trans (congrArg₂ k0_pay1 (View.readAt_rep_full arg16.view _ _) (View.readAt_rep_full arg13.view _ _)) e
  isplitl [H14]; · iexists _; iexact H14
  isplitl [H15]; · iexists _; iexact H15
  iexists _; iexact H16

end Cert.FoxIdeal.Walk

end
-- ==== Proof.FoxRun.lean ====
module

public import proofs.«01_k».proof.Proof.FoxBody
public import Idealize.ShloMosaic.Lib.Pipeline.TableIdle
public import Idealize.ShloMosaic.Lib.Claim
public import proofs.«01_k».proof.Proof.Gen.FoxIdeal.Frame

@[expose] public section

set_option maxRecDepth 16384
set_option maxHeartbeats 4000000

noncomputable section

/-!
# The run of the attention gradient

The grid's points one after another: each finds its blocks of the eight operands and leaves `filled` of them in its blocks of the four results.
-/

namespace Cert.FoxIdeal.Walk

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- A whole buffer held is its memref owned, -/
theorem whole_owns (c : Dev nD) (b : Ref sig .tc) (f : Buf (Elt F) ((c : Thread nD τ).loc b)) :
    (((c : Thread nD τ).loc b) ↦{fullShare} f : sProp 𝕄G) ⊢ owns (c : Thread nD τ) (Memref.whole b) fullShare f := by
  rw [owns_whole (c : Thread nD τ) b fullShare f]

/-- and back. -/
theorem owns_to_whole (c : Dev nD) (b : Ref sig .tc) (f : Buf (Elt F) ((c : Thread nD τ).loc b)) :
    (owns (c : Thread nD τ) (Memref.whole b) fullShare f : sProp 𝕄G) ⊢ ((c : Thread nD τ).loc b) ↦{fullShare} f := by
  rw [owns_whole (c : Thread nD τ) b fullShare f]

/-- `point_run`, each buffer stated by what it reads. -/
theorem point_owned (c : Dev nD) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S128x2048 .f32) (harg16 : arg16.IsWhole) (x : Ins F) :
    (iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.g ∗ owns (c : Thread nD τ) arg7 fullShare x.l ∗ owns (c : Thread nD τ) arg8 fullShare x.cn ∗ owns (c : Thread nD τ) arg9 fullShare x.ct ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) : sProp 𝕄G)
      ⊢ wp Idealize.ShloMosaic.frame (wpE (defs₀ (F := F)) Variants.none (c : Thread nD τ) none) E
          (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.g ∗ owns (c : Thread nD τ) arg7 fullShare x.l ∗ owns (c : Thread nD τ) arg8 fullShare x.cn ∗ owns (c : Thread nD τ) arg9 fullShare x.ct ∗ owns (c : Thread nD τ) arg10 fullShare (filled i x).1 ∗ owns (c : Thread nD τ) arg11 fullShare (filled i x).2.1 ∗ owns (c : Thread nD τ) arg12 fullShare (filled i x).2.2.1 ∗ owns (c : Thread nD τ) arg13 fullShare (filled i x).2.2.2 ∗ (∃ d, owns (c : Thread nD τ) arg14 fullShare d) ∗ (∃ d, owns (c : Thread nD τ) arg15 fullShare d) ∗ (∃ d, owns (c : Thread nD τ) arg16 fullShare d))) := by
  simp only [owns_eq_rep]
  refine (show _ ⊢ _ from ?_).trans ((point_run (F := F) Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 x).trans (wp_mono _ _ _ (fun _ => ?_)))
  · iintro ⟨H2, H3, H4, H5, H6, H7, H8, H9, ⟨%d10, H10⟩, ⟨%d11, H11⟩, ⟨%d12, H12⟩, ⟨%d13, H13⟩, ⟨%d14, H14⟩, ⟨%d15, H15⟩, ⟨%d16, H16⟩⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  · iintro ⟨H2, H3, H4, H5, H6, H7, H8, H9, H10, H11, H12, H13, ⟨%d14, H14⟩, ⟨%d15, H15⟩, ⟨%d16, H16⟩⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; iapply (pointsTo_rep_of_read (c : Thread nD τ) arg14 _ fullShare _ rfl) $$ H14
    isplitl [H15]
    · iexists _; iapply (pointsTo_rep_of_read (c : Thread nD τ) arg15 _ fullShare _ rfl) $$ H15
    iexists _; iapply (pointsTo_rep_of_read (c : Thread nD τ) arg16 _ fullShare _ rfl) $$ H16

variable (m : (ℓ : Loc nD τ sig) → Buf (Elt F) ℓ) (ρ : Dev nD → PrngReg)

/-- What point `t` finds staged. -/
def staged (c : Dev nD) (t : Fin cfg0.N) : Ins F :=
  ⟨iblk m c 0 t, iblk m c 1 t, iblk m c 2 t, iblk m c 3 t, iblk m c 4 t, iblk m c 5 t, iblk m c 6 t, iblk m c 7 t⟩

/-- The data of the pipeline: each operand's buffer keeps its block, each result's ends at `filled`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (filled (grid0.coords t) (staged m c t)).1
    | ⟨9, _⟩ => (filled (grid0.coords t) (staged m c t)).2.1
    | ⟨10, _⟩ => (filled (grid0.coords t) (staged m c t)).2.2.1
    | ⟨11, _⟩ => (filled (grid0.coords t) (staged m c t)).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (filled (grid0.coords t) (staged m c t)).1 := by dsimp only [dats]
theorem after0_9 (c : Dev nD) (t : Fin cfg0.N) : (dats m 0 c).after 9 t = (filled (grid0.coords t) (staged m c t)).2.1 := by dsimp only [dats]
theorem after0_10 (c : Dev nD) (t : Fin cfg0.N) : (dats m 0 c).after 10 t = (filled (grid0.coords t) (staged m c t)).2.2.1 := by dsimp only [dats]
theorem after0_11 (c : Dev nD) (t : Fin cfg0.N) : (dats m 0 c).after 11 t = (filled (grid0.coords t) (staged m c t)).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What a point starts from, window by window, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it ends with. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The run of a point from what the pipeline hands it. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
    show (dats m 0 c).Φ t.castSucc = Pipeline.ΦA spec0 c from rfl]
  unfold Pipeline.ΦA
  rw [scopedRest0_eq]
  iintro ⟨⟨⟨⟨%g0, G0⟩, ⟨%g1, G1⟩, ⟨%g2, G2⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r Idealize.ShloMosaic.frame (wpE (defs₀ (F := F)) Variants.none (c : Thread nD τ) none) Set.univ)
  isplitl [H0 H1 H2 H3 H4 H5 H6 H7 H8 H9 H10 H11 G0 G1 G2]
  · iapply (point_owned c Set.univ (grid0.coords t) _ _ _ _ _ _ _ _ _ _ _ _ _ _ _ _ _ _ _ _ _ _ _ _ _ _ _ _ _ _ (staged m c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [G0]; · iexists g0; iapply (whole_owns c cc0_scratch0 g0) $$ G0
    isplitl [G1]; · iexists g1; iapply (whole_owns c cc0_scratch1 g1) $$ G1
    iexists g2; iapply (whole_owns c cc0_scratch2 g2) $$ G2
  iintro %r ⟨H0, H1, H2, H3, H4, H5, H6, H7, H8, H9, H10, H11, ⟨%e0, G0⟩, ⟨%e1, G1⟩, ⟨%e2, G2⟩⟩
  isplitl [G0 G1 G2 HP]
  · isplitr [HP]
    · isplitl [G0]; · iexists e0; iapply (owns_to_whole c cc0_scratch0 e0) $$ G0
      isplitl [G1]; · iexists e1; iapply (owns_to_whole c cc0_scratch1 e1) $$ G1
      iexists e2; iapply (owns_to_whole c cc0_scratch2 e2) $$ G2
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- Every point does what the data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to its end: the arrays hold what the data say, and every counter is at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame, for any interpretation of the floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_quiescent m ρ))

end Cert.FoxIdeal.Walk

end
-- ==== Proof.Frames.lean ====
module

public import proofs.«01_k».proof.Defs
public import proofs.«01_k».proof.Proof.FoxRun
public import proofs.«01_k».proof.Proof.Gen.Fox
public import proofs.«01_k».proof.Proof.Gen.FoxRefIdeal.Run
public import proofs.«01_k».proof.Proof.Gen.DactRefIdeal.Run
public import Idealize.ShloMosaic.Lib.Tactic
public import Idealize.ShloMosaic.Lib.Quiescent

@[expose] public section

noncomputable section

/-!
# The frames that are not generated

The attention's gradient runs, and so do the two references, which are host programs without a semaphore.
-/

namespace Cert.Proof

open Idealize.ShloMosaic Idealize.SL.Sem

/-- The frame of the attention's gradient, spelt with the names of the idealized program, at the machine's floats. -/
def FoxFrame : Prop :=
  ∀ (m : (ℓ : Loc Cert.FoxIdeal.nD Cert.FoxIdeal.τ Cert.FoxIdeal.sig) → Buf (Elt Bits) ℓ) (g : Dev Cert.FoxIdeal.nD → PrngReg), True →
    θ_run (Cert.FoxIdeal.defs (F := Bits)) (onTc (τ := Cert.FoxIdeal.τ) (Cert.FoxIdeal.main (F := Bits))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

/-- The program and its idealization are one text, so this is the frame that is claimed. -/
theorem foxFrame_eq : FoxFrame = Cert.quiescent_Fox := by sl_kernel_rfl

/-- The attention's gradient runs at the machine's floats: the same run. -/
theorem frame_fox : Cert.quiescent_Fox := foxFrame_eq ▸ (fun m ρ _ => Cert.FoxIdeal.Walk.frame_any (F := Bits) m ρ : FoxFrame)

/-- The reference of the attention's gradient runs and keeps its arguments. -/
theorem frame_foxRef (m : (ℓ : Loc Cert.FoxRefIdeal.nD Cert.FoxRefIdeal.τ Cert.FoxRefIdeal.sig) → Buf (Elt Ideal) ℓ) (ρ : Dev Cert.FoxRefIdeal.nD → PrngReg) :
    θ_run (Cert.FoxRefIdeal.defs (F := Ideal)) (onTc (τ := Cert.FoxRefIdeal.τ) (Cert.FoxRefIdeal.main (F := Ideal))) ⟨m, fun _ => 0, ρ⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0) :=
  (θ_run Cert.FoxRefIdeal.defs _ _).mono (fun r h => ⟨fun c => (h c).2.2.2.2, sem_eq_zero_of_no_sems rfl r.2⟩) (Cert.FoxRefIdeal.Value.run m ρ)

/-- The reference of the feed-forward's gradient runs and keeps its arguments. -/
theorem frame_dactRef (m : (ℓ : Loc Cert.DactRefIdeal.nD Cert.DactRefIdeal.τ Cert.DactRefIdeal.sig) → Buf (Elt Ideal) ℓ) (ρ : Dev Cert.DactRefIdeal.nD → PrngReg) :
    θ_run (Cert.DactRefIdeal.defs (F := Ideal)) (onTc (τ := Cert.DactRefIdeal.τ) (Cert.DactRefIdeal.main (F := Ideal))) ⟨m, fun _ => 0, ρ⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0) :=
  (θ_run Cert.DactRefIdeal.defs _ _).mono (fun r h => ⟨fun c => (h c).2.2, sem_eq_zero_of_no_sems rfl r.2⟩) (Cert.DactRefIdeal.Value.run m ρ)

end Cert.Proof

end
-- ==== Proof.RefFrames.lean ====
module

public import proofs.«01_k».proof.Defs
public import proofs.«01_k».proof.Proof.Gen.Du2RefIdeal.Run
public import proofs.«01_k».proof.Proof.Gen.Du1RefIdeal.Run
public import proofs.«01_k».proof.Proof.Gen.DwgRefIdeal.Run
public import proofs.«01_k».proof.Proof.Gen.DwdRefIdeal.Run
public import proofs.«01_k».proof.Proof.Gen.DwinRefIdeal.Run
public import proofs.«01_k».proof.Proof.Gen.DwoutRefIdeal.Run
public import proofs.«01_k».proof.Proof.Gen.DwpgRefIdeal.Run
public import proofs.«01_k».proof.Proof.Gen.Du3RefIdeal.Run
public import proofs.«01_k».proof.Proof.Gen.DycatRefIdeal.Run
public import proofs.«01_k».proof.Proof.Gen.GuRefIdeal.Run
public import proofs.«01_k».proof.Proof.Gen.DownRefIdeal.Run
public import proofs.«01_k».proof.Proof.Gen.InpRefIdeal.Run
public import proofs.«01_k».proof.Proof.Gen.OutRefIdeal.Run
public import proofs.«01_k».proof.Proof.Gen.PgRefIdeal.Run
public import proofs.«01_k».proof.Proof.Gen.DwppRefIdeal.Run
public import proofs.«01_k».proof.Proof.Gen.PpRefIdeal.Run
public import proofs.«01_k».proof.Proof.Gen.ConvRefIdeal.Run
public import proofs.«01_k».proof.Proof.Gen.DconvRefIdeal.Run
public import Idealize.ShloMosaic.Lib.Tactic
public import Idealize.ShloMosaic.Lib.Quiescent

@[expose] public section

noncomputable section

/-!
# The frames of the references

Each is a host program without a semaphore; its run keeps its arguments.
-/

namespace Cert.Proof

open Idealize.ShloMosaic Idealize.SL.Sem

/-- The reference of the gradient through the feed-forward's norm runs and keeps its arguments. -/
theorem frame_du2Ref (m : (ℓ : Loc Cert.Du2RefIdeal.nD Cert.Du2RefIdeal.τ Cert.Du2RefIdeal.sig) → Buf (Elt Ideal) ℓ) (ρ : Dev Cert.Du2RefIdeal.nD → PrngReg) :
    θ_run (Cert.Du2RefIdeal.defs (F := Ideal)) (onTc (τ := Cert.Du2RefIdeal.τ) (Cert.Du2RefIdeal.main (F := Ideal))) ⟨m, fun _ => 0, ρ⟩ (fun r => (∀ c : Dev Cert.Du2RefIdeal.nD,
      r.2.mem ((c.tc : Thread Cert.Du2RefIdeal.nD Cert.Du2RefIdeal.τ).loc Cert.Du2RefIdeal.main_arg0) = m ((c.tc : Thread Cert.Du2RefIdeal.nD Cert.Du2RefIdeal.τ).loc Cert.Du2RefIdeal.main_arg0)
      ∧ r.2.mem ((c.tc : Thread Cert.Du2RefIdeal.nD Cert.Du2RefIdeal.τ).loc Cert.Du2RefIdeal.main_arg1) = m ((c.tc : Thread Cert.Du2RefIdeal.nD Cert.Du2RefIdeal.τ).loc Cert.Du2RefIdeal.main_arg1)
      ∧ r.2.mem ((c.tc : Thread Cert.Du2RefIdeal.nD Cert.Du2RefIdeal.τ).loc Cert.Du2RefIdeal.main_arg2) = m ((c.tc : Thread Cert.Du2RefIdeal.nD Cert.Du2RefIdeal.τ).loc Cert.Du2RefIdeal.main_arg2)
      ∧ r.2.mem ((c.tc : Thread Cert.Du2RefIdeal.nD Cert.Du2RefIdeal.τ).loc Cert.Du2RefIdeal.main_arg3) = m ((c.tc : Thread Cert.Du2RefIdeal.nD Cert.Du2RefIdeal.τ).loc Cert.Du2RefIdeal.main_arg3)
      ∧ r.2.mem ((c.tc : Thread Cert.Du2RefIdeal.nD Cert.Du2RefIdeal.τ).loc Cert.Du2RefIdeal.main_arg4) = m ((c.tc : Thread Cert.Du2RefIdeal.nD Cert.Du2RefIdeal.τ).loc Cert.Du2RefIdeal.main_arg4)
      ∧ r.2.mem ((c.tc : Thread Cert.Du2RefIdeal.nD Cert.Du2RefIdeal.τ).loc Cert.Du2RefIdeal.main_arg5) = m ((c.tc : Thread Cert.Du2RefIdeal.nD Cert.Du2RefIdeal.τ).loc Cert.Du2RefIdeal.main_arg5)
      ∧ r.2.mem ((c.tc : Thread Cert.Du2RefIdeal.nD Cert.Du2RefIdeal.τ).loc Cert.Du2RefIdeal.main_arg6) = m ((c.tc : Thread Cert.Du2RefIdeal.nD Cert.Du2RefIdeal.τ).loc Cert.Du2RefIdeal.main_arg6))
      ∧ r.2.sem = fun _ => 0) :=
  (θ_run Cert.Du2RefIdeal.defs _ _).mono (fun r h => ⟨fun c => (h c).2.2, sem_eq_zero_of_no_sems rfl r.2⟩) (Cert.Du2RefIdeal.Value.run m ρ)

/-- The reference of the gradient through the mixer's norm runs and keeps its arguments. -/
theorem frame_du1Ref (m : (ℓ : Loc Cert.Du1RefIdeal.nD Cert.Du1RefIdeal.τ Cert.Du1RefIdeal.sig) → Buf (Elt Ideal) ℓ) (ρ : Dev Cert.Du1RefIdeal.nD → PrngReg) :
    θ_run (Cert.Du1RefIdeal.defs (F := Ideal)) (onTc (τ := Cert.Du1RefIdeal.τ) (Cert.Du1RefIdeal.main (F := Ideal))) ⟨m, fun _ => 0, ρ⟩ (fun r => (∀ c : Dev Cert.Du1RefIdeal.nD,
      r.2.mem ((c.tc : Thread Cert.Du1RefIdeal.nD Cert.Du1RefIdeal.τ).loc Cert.Du1RefIdeal.main_arg0) = m ((c.tc : Thread Cert.Du1RefIdeal.nD Cert.Du1RefIdeal.τ).loc Cert.Du1RefIdeal.main_arg0)
      ∧ r.2.mem ((c.tc : Thread Cert.Du1RefIdeal.nD Cert.Du1RefIdeal.τ).loc Cert.Du1RefIdeal.main_arg1) = m ((c.tc : Thread Cert.Du1RefIdeal.nD Cert.Du1RefIdeal.τ).loc Cert.Du1RefIdeal.main_arg1)
      ∧ r.2.mem ((c.tc : Thread Cert.Du1RefIdeal.nD Cert.Du1RefIdeal.τ).loc Cert.Du1RefIdeal.main_arg2) = m ((c.tc : Thread Cert.Du1RefIdeal.nD Cert.Du1RefIdeal.τ).loc Cert.Du1RefIdeal.main_arg2)
      ∧ r.2.mem ((c.tc : Thread Cert.Du1RefIdeal.nD Cert.Du1RefIdeal.τ).loc Cert.Du1RefIdeal.main_arg3) = m ((c.tc : Thread Cert.Du1RefIdeal.nD Cert.Du1RefIdeal.τ).loc Cert.Du1RefIdeal.main_arg3)
      ∧ r.2.mem ((c.tc : Thread Cert.Du1RefIdeal.nD Cert.Du1RefIdeal.τ).loc Cert.Du1RefIdeal.main_arg4) = m ((c.tc : Thread Cert.Du1RefIdeal.nD Cert.Du1RefIdeal.τ).loc Cert.Du1RefIdeal.main_arg4))
      ∧ r.2.sem = fun _ => 0) :=
  (θ_run Cert.Du1RefIdeal.defs _ _).mono (fun r h => ⟨fun c => (h c).2.2, sem_eq_zero_of_no_sems rfl r.2⟩) (Cert.Du1RefIdeal.Value.run m ρ)

/-- The reference of the gradient of the gate's weight runs and keeps its arguments. -/
theorem frame_dwgRef (m : (ℓ : Loc Cert.DwgRefIdeal.nD Cert.DwgRefIdeal.τ Cert.DwgRefIdeal.sig) → Buf (Elt Ideal) ℓ) (ρ : Dev Cert.DwgRefIdeal.nD → PrngReg) :
    θ_run (Cert.DwgRefIdeal.defs (F := Ideal)) (onTc (τ := Cert.DwgRefIdeal.τ) (Cert.DwgRefIdeal.main (F := Ideal))) ⟨m, fun _ => 0, ρ⟩ (fun r => (∀ c : Dev Cert.DwgRefIdeal.nD,
      r.2.mem ((c.tc : Thread Cert.DwgRefIdeal.nD Cert.DwgRefIdeal.τ).loc Cert.DwgRefIdeal.main_arg0) = m ((c.tc : Thread Cert.DwgRefIdeal.nD Cert.DwgRefIdeal.τ).loc Cert.DwgRefIdeal.main_arg0)
      ∧ r.2.mem ((c.tc : Thread Cert.DwgRefIdeal.nD Cert.DwgRefIdeal.τ).loc Cert.DwgRefIdeal.main_arg1) = m ((c.tc : Thread Cert.DwgRefIdeal.nD Cert.DwgRefIdeal.τ).loc Cert.DwgRefIdeal.main_arg1))
      ∧ r.2.sem = fun _ => 0) :=
  (θ_run Cert.DwgRefIdeal.defs _ _).mono (fun r h => ⟨fun c => (h c).2, sem_eq_zero_of_no_sems rfl r.2⟩) (Cert.DwgRefIdeal.Value.run m ρ)

/-- The reference of the gradient of the down-projection runs and keeps its arguments. -/
theorem frame_dwdRef (m : (ℓ : Loc Cert.DwdRefIdeal.nD Cert.DwdRefIdeal.τ Cert.DwdRefIdeal.sig) → Buf (Elt Ideal) ℓ) (ρ : Dev Cert.DwdRefIdeal.nD → PrngReg) :
    θ_run (Cert.DwdRefIdeal.defs (F := Ideal)) (onTc (τ := Cert.DwdRefIdeal.τ) (Cert.DwdRefIdeal.main (F := Ideal))) ⟨m, fun _ => 0, ρ⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0) :=
  (θ_run Cert.DwdRefIdeal.defs _ _).mono (fun r h => ⟨fun c => (h c).2, sem_eq_zero_of_no_sems rfl r.2⟩) (Cert.DwdRefIdeal.Value.run m ρ)

/-- The reference of the gradient of the mixer's projection runs and keeps its arguments. -/
theorem frame_dwinRef (m : (ℓ : Loc Cert.DwinRefIdeal.nD Cert.DwinRefIdeal.τ Cert.DwinRefIdeal.sig) → Buf (Elt Ideal) ℓ) (ρ : Dev Cert.DwinRefIdeal.nD → PrngReg) :
    θ_run (Cert.DwinRefIdeal.defs (F := Ideal)) (onTc (τ := Cert.DwinRefIdeal.τ) (Cert.DwinRefIdeal.main (F := Ideal))) ⟨m, fun _ => 0, ρ⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0) :=
  (θ_run Cert.DwinRefIdeal.defs _ _).mono (fun r h => ⟨fun c => (h c).2, sem_eq_zero_of_no_sems rfl r.2⟩) (Cert.DwinRefIdeal.Value.run m ρ)

/-- The reference of the gradient of the mixer's output weight runs and keeps its arguments. -/
theorem frame_dwoutRef (m : (ℓ : Loc Cert.DwoutRefIdeal.nD Cert.DwoutRefIdeal.τ Cert.DwoutRefIdeal.sig) → Buf (Elt Ideal) ℓ) (ρ : Dev Cert.DwoutRefIdeal.nD → PrngReg) :
    θ_run (Cert.DwoutRefIdeal.defs (F := Ideal)) (onTc (τ := Cert.DwoutRefIdeal.τ) (Cert.DwoutRefIdeal.main (F := Ideal))) ⟨m, fun _ => 0, ρ⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0) :=
  (θ_run Cert.DwoutRefIdeal.defs _ _).mono (fun r h => ⟨fun c => (h c).2, sem_eq_zero_of_no_sems rfl r.2⟩) (Cert.DwoutRefIdeal.Value.run m ρ)

/-- The reference of the gradient of the last gate's weight runs and keeps its arguments. -/
theorem frame_dwpgRef (m : (ℓ : Loc Cert.DwpgRefIdeal.nD Cert.DwpgRefIdeal.τ Cert.DwpgRefIdeal.sig) → Buf (Elt Ideal) ℓ) (ρ : Dev Cert.DwpgRefIdeal.nD → PrngReg) :
    θ_run (Cert.DwpgRefIdeal.defs (F := Ideal)) (onTc (τ := Cert.DwpgRefIdeal.τ) (Cert.DwpgRefIdeal.main (F := Ideal))) ⟨m, fun _ => 0, ρ⟩ (fun r => (∀ c : Dev Cert.DwpgRefIdeal.nD,
      r.2.mem ((c.tc : Thread Cert.DwpgRefIdeal.nD Cert.DwpgRefIdeal.τ).loc Cert.DwpgRefIdeal.main_arg0) = m ((c.tc : Thread Cert.DwpgRefIdeal.nD Cert.DwpgRefIdeal.τ).loc Cert.DwpgRefIdeal.main_arg0)
      ∧ r.2.mem ((c.tc : Thread Cert.DwpgRefIdeal.nD Cert.DwpgRefIdeal.τ).loc Cert.DwpgRefIdeal.main_arg1) = m ((c.tc : Thread Cert.DwpgRefIdeal.nD Cert.DwpgRefIdeal.τ).loc Cert.DwpgRefIdeal.main_arg1))
      ∧ r.2.sem = fun _ => 0) :=
  (θ_run Cert.DwpgRefIdeal.defs _ _).mono (fun r h => ⟨fun c => (h c).2, sem_eq_zero_of_no_sems rfl r.2⟩) (Cert.DwpgRefIdeal.Value.run m ρ)

/-- The reference of the gradient through the last norm runs and keeps its arguments. -/
theorem frame_du3Ref (m : (ℓ : Loc Cert.Du3RefIdeal.nD Cert.Du3RefIdeal.τ Cert.Du3RefIdeal.sig) → Buf (Elt Ideal) ℓ) (ρ : Dev Cert.Du3RefIdeal.nD → PrngReg) :
    θ_run (Cert.Du3RefIdeal.defs (F := Ideal)) (onTc (τ := Cert.Du3RefIdeal.τ) (Cert.Du3RefIdeal.main (F := Ideal))) ⟨m, fun _ => 0, ρ⟩ (fun r => (∀ c : Dev Cert.Du3RefIdeal.nD,
      r.2.mem ((c.tc : Thread Cert.Du3RefIdeal.nD Cert.Du3RefIdeal.τ).loc Cert.Du3RefIdeal.main_arg0) = m ((c.tc : Thread Cert.Du3RefIdeal.nD Cert.Du3RefIdeal.τ).loc Cert.Du3RefIdeal.main_arg0)
      ∧ r.2.mem ((c.tc : Thread Cert.Du3RefIdeal.nD Cert.Du3RefIdeal.τ).loc Cert.Du3RefIdeal.main_arg1) = m ((c.tc : Thread Cert.Du3RefIdeal.nD Cert.Du3RefIdeal.τ).loc Cert.Du3RefIdeal.main_arg1)
      ∧ r.2.mem ((c.tc : Thread Cert.Du3RefIdeal.nD Cert.Du3RefIdeal.τ).loc Cert.Du3RefIdeal.main_arg2) = m ((c.tc : Thread Cert.Du3RefIdeal.nD Cert.Du3RefIdeal.τ).loc Cert.Du3RefIdeal.main_arg2)
      ∧ r.2.mem ((c.tc : Thread Cert.Du3RefIdeal.nD Cert.Du3RefIdeal.τ).loc Cert.Du3RefIdeal.main_arg3) = m ((c.tc : Thread Cert.Du3RefIdeal.nD Cert.Du3RefIdeal.τ).loc Cert.Du3RefIdeal.main_arg3)
      ∧ r.2.mem ((c.tc : Thread Cert.Du3RefIdeal.nD Cert.Du3RefIdeal.τ).loc Cert.Du3RefIdeal.main_arg4) = m ((c.tc : Thread Cert.Du3RefIdeal.nD Cert.Du3RefIdeal.τ).loc Cert.Du3RefIdeal.main_arg4))
      ∧ r.2.sem = fun _ => 0) :=
  (θ_run Cert.Du3RefIdeal.defs _ _).mono (fun r h => ⟨fun c => (h c).2.2, sem_eq_zero_of_no_sems rfl r.2⟩) (Cert.Du3RefIdeal.Value.run m ρ)

/-- The reference of the gradient of the mixer's output runs and keeps its arguments. -/
theorem frame_dycatRef (m : (ℓ : Loc Cert.DycatRefIdeal.nD Cert.DycatRefIdeal.τ Cert.DycatRefIdeal.sig) → Buf (Elt Ideal) ℓ) (ρ : Dev Cert.DycatRefIdeal.nD → PrngReg) :
    θ_run (Cert.DycatRefIdeal.defs (F := Ideal)) (onTc (τ := Cert.DycatRefIdeal.τ) (Cert.DycatRefIdeal.main (F := Ideal))) ⟨m, fun _ => 0, ρ⟩ (fun r => (∀ c : Dev Cert.DycatRefIdeal.nD,
      r.2.mem ((c.tc : Thread Cert.DycatRefIdeal.nD Cert.DycatRefIdeal.τ).loc Cert.DycatRefIdeal.main_arg0) = m ((c.tc : Thread Cert.DycatRefIdeal.nD Cert.DycatRefIdeal.τ).loc Cert.DycatRefIdeal.main_arg0)
      ∧ r.2.mem ((c.tc : Thread Cert.DycatRefIdeal.nD Cert.DycatRefIdeal.τ).loc Cert.DycatRefIdeal.main_arg1) = m ((c.tc : Thread Cert.DycatRefIdeal.nD Cert.DycatRefIdeal.τ).loc Cert.DycatRefIdeal.main_arg1))
      ∧ r.2.sem = fun _ => 0) :=
  (θ_run Cert.DycatRefIdeal.defs _ _).mono (fun r h => ⟨fun c => (h c).2, sem_eq_zero_of_no_sems rfl r.2⟩) (Cert.DycatRefIdeal.Value.run m ρ)

/-- The reference of the feed-forward's gate and up products runs and keeps its arguments. -/
theorem frame_guRef (m : (ℓ : Loc Cert.GuRefIdeal.nD Cert.GuRefIdeal.τ Cert.GuRefIdeal.sig) → Buf (Elt Ideal) ℓ) (ρ : Dev Cert.GuRefIdeal.nD → PrngReg) :
    θ_run (Cert.GuRefIdeal.defs (F := Ideal)) (onTc (τ := Cert.GuRefIdeal.τ) (Cert.GuRefIdeal.main (F := Ideal))) ⟨m, fun _ => 0, ρ⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0) :=
  (θ_run Cert.GuRefIdeal.defs _ _).mono (fun r h => ⟨fun c => (h c).2.2.2, sem_eq_zero_of_no_sems rfl r.2⟩) (Cert.GuRefIdeal.Value.run m ρ)

/-- The reference of the down-projection runs and keeps its arguments. -/
theorem frame_downRef (m : (ℓ : Loc Cert.DownRefIdeal.nD Cert.DownRefIdeal.τ Cert.DownRefIdeal.sig) → Buf (Elt Ideal) ℓ) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0) :=
  (θ_run Cert.DownRefIdeal.defs _ _).mono (fun r h => ⟨fun c => (h c).2.2, sem_eq_zero_of_no_sems rfl r.2⟩) (Cert.DownRefIdeal.Value.run m ρ)

/-- The reference of the mixer's input projection runs and keeps its arguments. -/
theorem frame_inpRef (m : (ℓ : Loc Cert.InpRefIdeal.nD Cert.InpRefIdeal.τ Cert.InpRefIdeal.sig) → Buf (Elt Ideal) ℓ) (ρ : Dev Cert.InpRefIdeal.nD → PrngReg) :
    θ_run (Cert.InpRefIdeal.defs (F := Ideal)) (onTc (τ := Cert.InpRefIdeal.τ) (Cert.InpRefIdeal.main (F := Ideal))) ⟨m, fun _ => 0, ρ⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0) :=
  (θ_run Cert.InpRefIdeal.defs _ _).mono (fun r h => ⟨fun c => (h c).2, sem_eq_zero_of_no_sems rfl r.2⟩) (Cert.InpRefIdeal.Value.run m ρ)

/-- The reference of the mixer's output projection runs and keeps its arguments. -/
theorem frame_outRef (m : (ℓ : Loc Cert.OutRefIdeal.nD Cert.OutRefIdeal.τ Cert.OutRefIdeal.sig) → Buf (Elt Ideal) ℓ) (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0) :=
  (θ_run Cert.OutRefIdeal.defs _ _).mono (fun r h => ⟨fun c => (h c).2.2, sem_eq_zero_of_no_sems rfl r.2⟩) (Cert.OutRefIdeal.Value.run m ρ)

/-- The reference of the last gate runs and keeps its arguments. -/
theorem frame_pgRef (m : (ℓ : Loc Cert.PgRefIdeal.nD Cert.PgRefIdeal.τ Cert.PgRefIdeal.sig) → Buf (Elt Ideal) ℓ) (ρ : Dev Cert.PgRefIdeal.nD → PrngReg) :
    θ_run (Cert.PgRefIdeal.defs (F := Ideal)) (onTc (τ := Cert.PgRefIdeal.τ) (Cert.PgRefIdeal.main (F := Ideal))) ⟨m, fun _ => 0, ρ⟩ (fun r => (∀ c : Dev Cert.PgRefIdeal.nD,
      r.2.mem ((c.tc : Thread Cert.PgRefIdeal.nD Cert.PgRefIdeal.τ).loc Cert.PgRefIdeal.main_arg0) = m ((c.tc : Thread Cert.PgRefIdeal.nD Cert.PgRefIdeal.τ).loc Cert.PgRefIdeal.main_arg0)
      ∧ r.2.mem ((c.tc : Thread Cert.PgRefIdeal.nD Cert.PgRefIdeal.τ).loc Cert.PgRefIdeal.main_arg1) = m ((c.tc : Thread Cert.PgRefIdeal.nD Cert.PgRefIdeal.τ).loc Cert.PgRefIdeal.main_arg1)
      ∧ r.2.mem ((c.tc : Thread Cert.PgRefIdeal.nD Cert.PgRefIdeal.τ).loc Cert.PgRefIdeal.main_arg2) = m ((c.tc : Thread Cert.PgRefIdeal.nD Cert.PgRefIdeal.τ).loc Cert.PgRefIdeal.main_arg2)
      ∧ r.2.mem ((c.tc : Thread Cert.PgRefIdeal.nD Cert.PgRefIdeal.τ).loc Cert.PgRefIdeal.main_arg3) = m ((c.tc : Thread Cert.PgRefIdeal.nD Cert.PgRefIdeal.τ).loc Cert.PgRefIdeal.main_arg3)
      ∧ r.2.mem ((c.tc : Thread Cert.PgRefIdeal.nD Cert.PgRefIdeal.τ).loc Cert.PgRefIdeal.main_arg4) = m ((c.tc : Thread Cert.PgRefIdeal.nD Cert.PgRefIdeal.τ).loc Cert.PgRefIdeal.main_arg4))
      ∧ r.2.sem = fun _ => 0) :=
  (θ_run Cert.PgRefIdeal.defs _ _).mono (fun r h => ⟨fun c => (h c).2.2, sem_eq_zero_of_no_sems rfl r.2⟩) (Cert.PgRefIdeal.Value.run m ρ)

/-- The reference of the gradient of the input embedding's projection runs and keeps its arguments. -/
theorem frame_dwppRef (m : (ℓ : Loc Cert.DwppRefIdeal.nD Cert.DwppRefIdeal.τ Cert.DwppRefIdeal.sig) → Buf (Elt Ideal) ℓ) (ρ : Dev Cert.DwppRefIdeal.nD → PrngReg) :
    θ_run (Cert.DwppRefIdeal.defs (F := Ideal)) (onTc (τ := Cert.DwppRefIdeal.τ) (Cert.DwppRefIdeal.main (F := Ideal))) ⟨m, fun _ => 0, ρ⟩ (fun r => (∀ c : Dev Cert.DwppRefIdeal.nD,
      r.2.mem ((c.tc : Thread Cert.DwppRefIdeal.nD Cert.DwppRefIdeal.τ).loc Cert.DwppRefIdeal.main_arg0) = m ((c.tc : Thread Cert.DwppRefIdeal.nD Cert.DwppRefIdeal.τ).loc Cert.DwppRefIdeal.main_arg0)
      ∧ r.2.mem ((c.tc : Thread Cert.DwppRefIdeal.nD Cert.DwppRefIdeal.τ).loc Cert.DwppRefIdeal.main_arg1) = m ((c.tc : Thread Cert.DwppRefIdeal.nD Cert.DwppRefIdeal.τ).loc Cert.DwppRefIdeal.main_arg1))
      ∧ r.2.sem = fun _ => 0) :=
  (θ_run Cert.DwppRefIdeal.defs _ _).mono (fun r h => ⟨fun c => (h c).2, sem_eq_zero_of_no_sems rfl r.2⟩) (Cert.DwppRefIdeal.Value.run m ρ)

/-- The reference of the input embedding's projection runs and keeps its arguments. -/
theorem frame_ppRef (m : (ℓ : Loc Cert.PpRefIdeal.nD Cert.PpRefIdeal.τ Cert.PpRefIdeal.sig) → Buf (Elt Ideal) ℓ) (ρ : Dev Cert.PpRefIdeal.nD → PrngReg) :
    θ_run (Cert.PpRefIdeal.defs (F := Ideal)) (onTc (τ := Cert.PpRefIdeal.τ) (Cert.PpRefIdeal.main (F := Ideal))) ⟨m, fun _ => 0, ρ⟩ (fun r => (∀ c : Dev Cert.PpRefIdeal.nD,
      r.2.mem ((c.tc : Thread Cert.PpRefIdeal.nD Cert.PpRefIdeal.τ).loc Cert.PpRefIdeal.main_arg0) = m ((c.tc : Thread Cert.PpRefIdeal.nD Cert.PpRefIdeal.τ).loc Cert.PpRefIdeal.main_arg0)
      ∧ r.2.mem ((c.tc : Thread Cert.PpRefIdeal.nD Cert.PpRefIdeal.τ).loc Cert.PpRefIdeal.main_arg1) = m ((c.tc : Thread Cert.PpRefIdeal.nD Cert.PpRefIdeal.τ).loc Cert.PpRefIdeal.main_arg1))
      ∧ r.2.sem = fun _ => 0) :=
  (θ_run Cert.PpRefIdeal.defs _ _).mono (fun r h => ⟨fun c => (h c).2, sem_eq_zero_of_no_sems rfl r.2⟩) (Cert.PpRefIdeal.Value.run m ρ)

/-- The reference of the convolution before the RG-LRU runs and keeps its arguments. -/
theorem frame_convRef (m : (ℓ : Loc Cert.ConvRefIdeal.nD Cert.ConvRefIdeal.τ Cert.ConvRefIdeal.sig) → Buf (Elt Ideal) ℓ) (ρ : Dev Cert.ConvRefIdeal.nD → PrngReg) :
    θ_run (Cert.ConvRefIdeal.defs (F := Ideal)) (onTc (τ := Cert.ConvRefIdeal.τ) (Cert.ConvRefIdeal.main (F := Ideal))) ⟨m, fun _ => 0, ρ⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0) :=
  (θ_run Cert.ConvRefIdeal.defs _ _).mono (fun r h => ⟨fun c => (h c).2, sem_eq_zero_of_no_sems rfl r.2⟩) (Cert.ConvRefIdeal.Value.run m ρ)

/-- The reference of the gradient of the convolution before the RG-LRU runs and keeps its arguments. -/
theorem frame_dconvRef (m : (ℓ : Loc Cert.DconvRefIdeal.nD Cert.DconvRefIdeal.τ Cert.DconvRefIdeal.sig) → Buf (Elt Ideal) ℓ) (ρ : Dev Cert.DconvRefIdeal.nD → PrngReg) :
    θ_run (Cert.DconvRefIdeal.defs (F := Ideal)) (onTc (τ := Cert.DconvRefIdeal.τ) (Cert.DconvRefIdeal.main (F := Ideal))) ⟨m, fun _ => 0, ρ⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2)
      ∧ r.2.mem ((c.tc : Thread Cert.DconvRefIdeal.nD Cert.DconvRefIdeal.τ).loc Cert.DconvRefIdeal.main_arg3) = m ((c.tc : Thread Cert.DconvRefIdeal.nD Cert.DconvRefIdeal.τ).loc Cert.DconvRefIdeal.main_arg3))
      ∧ r.2.sem = fun _ => 0) :=
  (θ_run Cert.DconvRefIdeal.defs _ _).mono (fun r h => ⟨fun c => (h c).2.2.2, sem_eq_zero_of_no_sems rfl r.2⟩) (Cert.DconvRefIdeal.Value.run m ρ)

end Cert.Proof

end
-- ==== Proof.Reals.lean ====
module

public import Idealize.ShloMosaic.PureOps.Ideal.Laws
public import Idealize.ShloMosaic.Lib.KernelVsHost
public import Idealize.ShloMosaic.Lib.IdealHost

@[expose] public section

noncomputable section

/-!
# Finite extended reals

A number of the idealized programs is an extended real. Where every argument is finite the proofs calculate with real numbers; here are the
few facts that carry a value from the one to the other.
-/

namespace Cert.Reals

open Idealize.ShloMosaic
open scoped BigOperators

/-- A sum of real numbers is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What has an absolute value below the infinity of the format is a real number. -/
theorem real_of_abs_lt {x : Ideal .f32} (h : FloatOps.cmpf .olt (FloatOps.hostAbsf x) (FloatOps.ofBits (F := Ideal) .f32 0x7F800000#32) = 1#1) :
    x = ((EReal.toReal x : ℝ) : EReal) := by
  have ht : FloatOps.ofBits (F := Ideal) .f32 0x7F800000#32 = (⊤ : EReal) := by
    show Ideal.ofBits .f32 0x7F800000#32 = ⊤
    simp [Ideal.ofBits, Ideal.ieee]
  rw [ht] at h
  change Ideal.cmp .olt (max x (-x)) ⊤ = 1#1 at h
  have hl : max x (-x) < ⊤ := by
    by_contra hn
    simp [Ideal.cmp, hn] at h
  have h1 : x ≠ ⊤ := fun e => by rw [e] at hl; simp at hl
  have h2 : x ≠ ⊥ := fun e => by rw [e] at hl; simp at hl
  exact (EReal.coe_toReal h1 h2).symm

/-- The exponential of a real number. -/
theorem exp_coe (r : ℝ) : Ideal.exp (r : EReal) = ((Real.exp r : ℝ) : EReal) := rfl

/-- A quotient of real numbers whose divisor is not zero. -/
theorem div_coe_coe (a b : ℝ) (hb : b ≠ 0) : Ideal.div (a : EReal) (b : EReal) = ((a / b : ℝ) : EReal) := by
  unfold Ideal.div
  rw [if_neg (fun h => hb (by exact_mod_cast h)), div_eq_mul_inv, EReal.coe_mul, EReal.coe_inv]

/-- The logistic function of a real number. -/
def sig (r : ℝ) : ℝ := 1 / (1 + Real.exp (-r))

/-- One over one plus the exponential of the negative is the logistic function. -/
theorem sig_coe (r : ℝ) : Ideal.div 1 (1 + Ideal.exp (-(r : EReal))) = ((sig r : ℝ) : EReal) := by
  have h : (1 : ℝ) + Real.exp (-r) ≠ 0 := by positivity
  have : (1 : EReal) + Ideal.exp (-(r : EReal)) = ((1 + Real.exp (-r) : ℝ) : EReal) := by
    rw [← EReal.coe_neg, exp_coe, EReal.coe_add, EReal.coe_one]
  rw [this, ← EReal.coe_one, div_coe_coe _ _ h]; rfl

end Cert.Reals

end
-- ==== Proof.DactValue.lean ====
module

public import proofs.«01_k».proof.Defs
public import proofs.«01_k».proof.Proof.Reals
public import proofs.«01_k».proof.Proof.Gen.DactIdeal.Value
public import proofs.«01_k».proof.Proof.Gen.DactRefIdeal.Run
public import proofs.«01_k».proof.Proof.Gen.DactRefIdeal.Read
public import proofs.«01_k».proof.Proof.Gen.Pre_ffn_finite
public import Idealize.ShloMosaic.Lib.MatmulPlain
public import Idealize.ShloMosaic.Lib.ValueIdx

@[expose] public section

set_option maxRecDepth 16384

noncomputable section

/-!
# The gradient of the gated feed-forward

The kernel multiplies the incoming gradient by the transposed down-projection and takes the gradient through the gate in the same pass, tile by
tile. At an element its two results are `D·u·(s + g·s·(1 − s))` and `D·(g·s)`, with `D` the product and `s` the logistic function of the gate
`g`; the reference's are `(D·u)·s + (g·(D·u))·(s·(1 − s))` and `(g·s)·D`. These agree over the real numbers.
-/

namespace Cert.DactIdeal.Walk

open Cert.DactIdeal Cert.DactIdeal.Gen
open Idealize.ShloMosaic Idealize.ShloMosaic.TcCoe Idealize.SL.Sem Idealize.ShloMosaic.ValueIdx
open Idealize.ShloMosaic.Pipeline (Dat)
open Cert.DactIdeal.Value
open Cert.DactRefIdeal.Read (val_main_v10 val_main_v11)

/-- The offsets of a whole block. -/
theorem zeros : (![0, 0] : Fin 2 → Nat) = fun _ => 0 := funext fun a => by fin_cases a <;> rfl

/-- The product at an element of the tile. -/
theorem prod_apply (x : Vec Ideal S512x1024 .f32) (w : Vec Ideal S1408x1024 .bf16) (j : S512x1408.Idx) :
    k0_pay1 (F := Ideal) x w j = ∑ k : Fin 1024, x (ix2 (j 0) k) * w (ix2 (j 1) k) := by
  unfold k0_pay1
  have hd : dot_S512x1024_S1408x1024_S512x1408_1_1_0_0_n_n = DotDims.transposedRhs 512 1024 1408 := rfl
  show FloatOps.matmul dot_S512x1024_S1408x1024_S512x1408_1_1_0_0_n_n _ _ _ _ j = _
  obtain ⟨a, b, rfl⟩ : ∃ a b, j = ix2 a b := ⟨j 0, j 1, eq_ix2 j⟩
  rw [hd]
  refine (Ideal.matmul_transposedRhs_apply _ _ _ _ a b).trans ?_
  show Ideal.ofBits .f32 0x00000000#32 + _ = _
  rw [Ideal.ofBits_zero_f32, zero_add]
  rfl

/-- The gradient through the gate, of real numbers: the kernel's form is the reference's. -/
theorem gate_eq (D g u : ℝ) :
    ((D : EReal) * (u : EReal)) * (Ideal.div 1 (1 + Ideal.exp (-(g : EReal))) + (g : EReal) * Ideal.div 1 (1 + Ideal.exp (-(g : EReal))) * (1 - Ideal.div 1 (1 + Ideal.exp (-(g : EReal)))))
      = ((D : EReal) * (u : EReal)) * Ideal.div 1 (1 + Ideal.exp (-(g : EReal)))
        + ((g : EReal) * ((D : EReal) * (u : EReal))) * (Ideal.div 1 (1 + Ideal.exp (-(g : EReal))) * (1 - Ideal.div 1 (1 + Ideal.exp (-(g : EReal))))) := by
  rw [Reals.sig_coe, ← EReal.coe_one]
  simp only [← EReal.coe_mul, ← EReal.coe_add, ← EReal.coe_sub]
  congr 1; ring

/-- Every argument is a family of real numbers. -/
structure Finite (X : FVec Ideal S8192x1024 .f32) (W : FVec Ideal S2816x1024 .bf16) (G U : FVec Ideal S8192x2816 .bf16) : Prop where
  x : ∀ i, (X i : EReal) = ((EReal.toReal (X i) : ℝ) : EReal)
  w : ∀ i, (W i : EReal) = ((EReal.toReal (W i) : ℝ) : EReal)
  g : ∀ i, (G i : EReal) = ((EReal.toReal (G i) : ℝ) : EReal)
  u : ∀ i, (U i : EReal) = ((EReal.toReal (U i) : ℝ) : EReal)

variable {X : FVec Ideal S8192x1024 .f32} {W : FVec Ideal S2816x1024 .bf16} {G U : FVec Ideal S8192x2816 .bf16}

/-- The stated precondition says this. -/
theorem finite_of_pre (h : (Cert.Pre_ffn_finite.fn (F := Ideal) X W G U).1 = (fun _ => 1#1)
      ∧ (Cert.Pre_ffn_finite.fn (F := Ideal) X W G U).2.1 = (fun _ => 1#1)
      ∧ (Cert.Pre_ffn_finite.fn (F := Ideal) X W G U).2.2.1 = (fun _ => 1#1)
      ∧ (Cert.Pre_ffn_finite.fn (F := Ideal) X W G U).2.2.2 = (fun _ => 1#1)) : Finite X W G U :=
  ⟨fun i => Reals.real_of_abs_lt (congrFun h.1 i), fun i => Reals.real_of_abs_lt (congrFun h.2.1 i),
   fun i => Reals.real_of_abs_lt (congrFun h.2.2.1 i), fun i => Reals.real_of_abs_lt (congrFun h.2.2.2 i)⟩

/-- The reference's product at an element is a real number. -/
theorem ref_prod (hf : Finite X W G U) (i : S8192x2816.Idx) :
    ∃ D : ℝ, Cert.DactRefIdeal.Read.val_main_v6 (F := Ideal) X W i = (D : EReal) := by
  refine ⟨∑ k : Fin 1024, EReal.toReal (X (Cert.DactRefIdeal.Read.lidx_main_v6 i k)) * EReal.toReal (W (Cert.DactRefIdeal.Read.ridx_main_v6 i k)), ?_⟩
  rw [Cert.DactRefIdeal.Read.val_main_v6_apply, Reals.coe_sum]
  refine Finset.sum_congr rfl fun k _ => ?_
  rw [EReal.coe_mul, ← hf.x, ← hf.w]; rfl

/-- The constant one. -/
theorem one_f32 : Ideal.ofBits .f32 0x3F800000#32 = 1 := Ideal.ofBits_one_f32

/-- The tile of the gate's gradient at an element is the reference's gate gradient, given that the product and the two factors are. -/
theorem gate_tile (hf : Finite X W G U) (x : Vec Ideal S512x1024 .f32) (w : Vec Ideal S1408x1024 .bf16) (g u : Vec Ideal S512x1408 .bf16)
    (j : S512x1408.Idx) (i : S8192x2816.Idx) (hx : ∀ k : Fin 1024, x (ix2 (j 0) k) = X (Cert.DactRefIdeal.Read.lidx_main_v6 i k))
    (hw : ∀ k : Fin 1024, w (ix2 (j 1) k) = W (Cert.DactRefIdeal.Read.ridx_main_v6 i k)) (hg : g j = G i) (hu : u j = U i) :
    k0_pay5 (F := Ideal) x w g u j = val_main_v11 (F := Ideal) X W G U i := by
  have hp : k0_pay1 (F := Ideal) x w j = Cert.DactRefIdeal.Read.val_main_v6 (F := Ideal) X W i := by
    rw [prod_apply, Cert.DactRefIdeal.Read.val_main_v6_apply]
    exact Finset.sum_congr rfl fun k _ => by rw [hx, hw]; rfl
  obtain ⟨D, hD⟩ := ref_prod hf i
  have e1 : k0_pay5 (F := Ideal) x w g u j
      = (k0_pay1 (F := Ideal) x w j * u j) * (Ideal.div 1 (1 + Ideal.exp (-(g j : EReal))) + (g j : EReal) * Ideal.div 1 (1 + Ideal.exp (-(g j : EReal))) * (Ideal.ofBits .f32 0x3F800000#32 - Ideal.div 1 (1 + Ideal.exp (-(g j : EReal))))) := rfl
  have e2 : val_main_v11 (F := Ideal) X W G U i
      = (Cert.DactRefIdeal.Read.val_main_v6 (F := Ideal) X W i * U i) * Ideal.div (Ideal.ofBits .f32 0x3F800000#32) (Ideal.ofBits .f32 0x3F800000#32 + Ideal.exp (-(G i : EReal)))
        + ((G i : EReal) * (Cert.DactRefIdeal.Read.val_main_v6 (F := Ideal) X W i * U i)) * (Ideal.div (Ideal.ofBits .f32 0x3F800000#32) (Ideal.ofBits .f32 0x3F800000#32 + Ideal.exp (-(G i : EReal)))
          * (Ideal.ofBits .f32 0x3F800000#32 - Ideal.div (Ideal.ofBits .f32 0x3F800000#32) (Ideal.ofBits .f32 0x3F800000#32 + Ideal.exp (-(G i : EReal))))) := rfl
  rw [e1, e2, hp, hD, hg, hu, one_f32, hf.g i, hf.u i]
  exact gate_eq D _ _

/-- The tile of the other factor's gradient at an element is the reference's. -/
theorem up_tile (x : Vec Ideal S512x1024 .f32) (w : Vec Ideal S1408x1024 .bf16) (g : Vec Ideal S512x1408 .bf16)
    (j : S512x1408.Idx) (i : S8192x2816.Idx) (hx : ∀ k : Fin 1024, x (ix2 (j 0) k) = X (Cert.DactRefIdeal.Read.lidx_main_v6 i k))
    (hw : ∀ k : Fin 1024, w (ix2 (j 1) k) = W (Cert.DactRefIdeal.Read.ridx_main_v6 i k)) (hg : g j = G i) :
    k0_pay6 (F := Ideal) x w g j = val_main_v10 (F := Ideal) X W G i := by
  have hp : k0_pay1 (F := Ideal) x w j = Cert.DactRefIdeal.Read.val_main_v6 (F := Ideal) X W i := by
    rw [prod_apply, Cert.DactRefIdeal.Read.val_main_v6_apply]
    exact Finset.sum_congr rfl fun k _ => by rw [hx, hw]; rfl
  have e1 : k0_pay6 (F := Ideal) x w g j = k0_pay1 (F := Ideal) x w j * ((g j : EReal) * Ideal.div 1 (1 + Ideal.exp (-(g j : EReal)))) := rfl
  have e2 : val_main_v10 (F := Ideal) X W G i
      = ((G i : EReal) * Ideal.div (Ideal.ofBits .f32 0x3F800000#32) (Ideal.ofBits .f32 0x3F800000#32 + Ideal.exp (-(G i : EReal)))) * Cert.DactRefIdeal.Read.val_main_v6 (F := Ideal) X W i := rfl
  rw [e1, e2, hp, hg, one_f32, mul_comm]

/-- The block that each window takes at a point, in terms of the block of the first result. -/
theorem maps : ∀ t : Fin cfg0.N, (win0_0.index t 0 = win0_4.index t 0 ∧ win0_0.index t 1 = 0) ∧ (win0_1.index t 0 = win0_4.index t 1 ∧ win0_1.index t 1 = 0)
    ∧ (win0_2.index t 0 = win0_4.index t 0 ∧ win0_2.index t 1 = win0_4.index t 1) ∧ (win0_3.index t 0 = win0_4.index t 0 ∧ win0_3.index t 1 = win0_4.index t 1)
    ∧ (win0_5.index t 0 = win0_4.index t 0 ∧ win0_5.index t 1 = win0_4.index t 1) :=
  (by decide +kernel : ∀ t : Fin grid0.N, (win0_0.index t 0 = win0_4.index t 0 ∧ win0_0.index t 1 = 0) ∧ (win0_1.index t 0 = win0_4.index t 1 ∧ win0_1.index t 1 = 0)
    ∧ (win0_2.index t 0 = win0_4.index t 0 ∧ win0_2.index t 1 = win0_4.index t 1) ∧ (win0_3.index t 0 = win0_4.index t 0 ∧ win0_3.index t 1 = win0_4.index t 1)
    ∧ (win0_5.index t 0 = win0_4.index t 0 ∧ win0_5.index t 1 = win0_4.index t 1))

/-- Every block of the results is written back, and every pair of coordinates is some point's. -/
theorem onto : ∀ a < 16, ∀ b < 2, ∃ t : Fin cfg0.N, (cfg0.win 4).flush t = true ∧ (cfg0.win 5).flush t = true ∧ win0_4.index t 0 = a ∧ win0_4.index t 1 = b :=
  (by decide +kernel : ∀ a < 16, ∀ b < 2, ∃ t : Fin grid0.N, win0_4.flush t = true ∧ win0_5.flush t = true ∧ win0_4.index t 0 = a ∧ win0_4.index t 1 = b)

variable (m : (ℓ : Loc nD τ sig) → Buf (Elt Ideal) ℓ) (c : Dev nD)

/-- The four arguments on a device. -/
abbrev argX : FVec Ideal S8192x1024 .f32 := m ((c : Thread nD τ).loc main_arg0)
abbrev argW : FVec Ideal S2816x1024 .bf16 := m ((c : Thread nD τ).loc main_arg1)
abbrev argG : FVec Ideal S8192x2816 .bf16 := m ((c : Thread nD τ).loc main_arg2)
abbrev argU : FVec Ideal S8192x2816 .bf16 := m ((c : Thread nD τ).loc main_arg3)

/-- Where an element of the first result's block lies in the array. -/
abbrev place (t : Fin cfg0.N) (j : S512x1408.Idx) : S8192x2816.Idx := ((cfg0.win 4).blk t).view.emb j

theorem row (t : Fin cfg0.N) (j : S512x1408.Idx) : (place t j 0).val = win0_4.index t 0 * 512 + 1 * (j 0).val := rfl
theorem col (t : Fin cfg0.N) (j : S512x1408.Idx) : (place t j 1).val = win0_4.index t 1 * 1408 + 1 * (j 1).val := rfl

theorem read_x (t : Fin cfg0.N) (j : S512x1408.Idx) (k : Fin 1024) :
    (iblk m c 0 t : Vec Ideal S512x1024 .f32) (ix2 (j 0) k) = argX m c (Cert.DactRefIdeal.Read.lidx_main_v6 (place t j) k) := by
  unfold iblk
  rw [View.read_apply]
  show V m c main_arg0 _ = m (c.tc.loc main_arg0) _
  unfold V
  congr 1
  funext a
  apply Fin.ext
  match a with
  | ⟨0, _⟩ => show win0_0.index t 0 * 512 + 1 * (j 0).val = (place t j 0).val; rw [(maps t).1.1, row]
  | ⟨1, _⟩ => show win0_0.index t 1 * 1024 + 1 * k.val = k.val; rw [(maps t).1.2]; omega

theorem read_w (t : Fin cfg0.N) (j : S512x1408.Idx) (k : Fin 1024) :
    (iblk m c 1 t : Vec Ideal S1408x1024 .bf16) (ix2 (j 1) k) = argW m c (Cert.DactRefIdeal.Read.ridx_main_v6 (place t j) k) := by
  unfold iblk
  rw [View.read_apply]
  show V m c main_arg1 _ = m (c.tc.loc main_arg1) _
  unfold V
  congr 1
  funext a
  apply Fin.ext
  match a with
  | ⟨0, _⟩ => show win0_1.index t 0 * 1408 + 1 * (j 1).val = (place t j 1).val; rw [(maps t).2.1.1, col]
  | ⟨1, _⟩ => show win0_1.index t 1 * 1024 + 1 * k.val = k.val; rw [(maps t).2.1.2]; omega

theorem read_g (t : Fin cfg0.N) (j : S512x1408.Idx) : (iblk m c 2 t : Vec Ideal S512x1408 .bf16) j = argG m c (place t j) := by
  unfold iblk
  rw [View.read_apply]
  show V m c main_arg2 _ = m (c.tc.loc main_arg2) _
  unfold V
  congr 1

theorem read_u (t : Fin cfg0.N) (j : S512x1408.Idx) : (iblk m c 3 t : Vec Ideal S512x1408 .bf16) j = argU m c (place t j) := by
  unfold iblk
  rw [View.read_apply]
  show V m c main_arg3 _ = m (c.tc.loc main_arg3) _
  unfold V
  congr 1

/-- Each point writes its block of the reference's gate gradient. -/
theorem flushed_gate (hf : Finite (argX m c) (argW m c) (argG m c) (argU m c)) (t : Fin cfg0.N) :
    (dats m 0 c).flushed 4 t = ((cfg0.win 4).blk t).view.read (Elt Ideal) (val_main_v11 (F := Ideal) (argX m c) (argW m c) (argG m c) (argU m c)) := by
  rw [flushed4]
  funext j
  rw [View.read_apply]
  unfold out0_4
  rw [View.canon_unit_zero zeros]
  simp only [View.ld_unit_zero (S := S512x1024) zeros, View.ld_unit_zero (S := S1408x1024) zeros, View.ld_unit_zero (S := S512x1408) zeros]
  refine Eq.trans ?_ (Eq.trans (gate_tile hf (iblk m c 0 t) (iblk m c 1 t) (iblk m c 2 t) (iblk m c 3 t) j (place t j) (read_x m c t j) (read_w m c t j) (read_g m c t j) (read_u m c t j)) ?_) <;> rfl

/-- Each point writes its block of the reference's gradient of the other factor. -/
theorem flushed_up (t : Fin cfg0.N) :
    (dats m 0 c).flushed 5 t = ((cfg0.win 5).blk t).view.read (Elt Ideal) (val_main_v10 (F := Ideal) (argX m c) (argW m c) (argG m c)) := by
  rw [flushed5]
  funext j
  rw [View.read_apply]
  have hp : ((cfg0.win 5).blk t).view.emb j = place t j := by
    funext a
    apply Fin.ext
    match a with
    | ⟨0, _⟩ => show win0_5.index t 0 * 512 + 1 * (j 0).val = (place t j 0).val; rw [(maps t).2.2.2.2.1, row]
    | ⟨1, _⟩ => show win0_5.index t 1 * 1408 + 1 * (j 1).val = (place t j 1).val; rw [(maps t).2.2.2.2.2, col]
  unfold out0_5
  rw [View.canon_unit_zero zeros]
  simp only [View.ld_unit_zero (S := S512x1024) zeros, View.ld_unit_zero (S := S1408x1024) zeros, View.ld_unit_zero (S := S512x1408) zeros]
  rw [hp]
  refine Eq.trans ?_ (Eq.trans (up_tile (iblk m c 0 t) (iblk m c 1 t) (iblk m c 2 t) j (place t j) (read_x m c t j) (read_w m c t j) (read_g m c t j)) ?_) <;> rfl

/-- The gate's gradient is the reference's. -/
theorem final_gate (hf : Finite (argX m c) (argW m c) (argG m c) (argU m c)) :
    (dats m 0 c).arrAt 4 cfg0.N = val_main_v11 (F := Ideal) (argX m c) (argW m c) (argG m c) (argU m c) :=
  (dats m 0 c).arrAt_eq_of_cover 4 _ (fun t _ => flushed_gate m c hf t) fun i => by
    have h0 : (i 0 : Nat) < 8192 := (i 0).isLt
    have h1 : (i 1 : Nat) < 2816 := (i 1).isLt
    obtain ⟨t, hf4, -, ha, hb⟩ := onto ((i 0 : Nat) / 512) (by omega) ((i 1 : Nat) / 1408) (by omega)
    refine ⟨t, hf4, ?_⟩
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; rw [ha]; omega
    | ⟨1, _⟩ => show win0_4.index t 1 * 1408 ≤ (i 1 : Nat) ∧ (i 1 : Nat) < win0_4.index t 1 * 1408 + 1408; rw [hb]; omega

/-- The other factor's gradient is the reference's. -/
theorem final_up : (dats m 0 c).arrAt 5 cfg0.N = val_main_v10 (F := Ideal) (argX m c) (argW m c) (argG m c) :=
  (dats m 0 c).arrAt_eq_of_cover 5 _ (fun t _ => flushed_up m c t) fun i => by
    have h0 : (i 0 : Nat) < 8192 := (i 0).isLt
    have h1 : (i 1 : Nat) < 2816 := (i 1).isLt
    obtain ⟨t, -, hf5, ha, hb⟩ := onto ((i 0 : Nat) / 512) (by omega) ((i 1 : Nat) / 1408) (by omega)
    refine ⟨t, hf5, ?_⟩
    show i ∈ ((View.whole main_v0_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(maps t).2.2.2.2.1, ha]; omega
    | ⟨1, _⟩ => show win0_5.index t 1 * 1408 ≤ (i 1 : Nat) ∧ (i 1 : Nat) < win0_5.index t 1 * 1408 + 1408; rw [(maps t).2.2.2.2.2, hb]; omega

/-- The two programs agree: the kernel's two results are the reference's. -/
theorem agree : Cert.algebraic_DactIdeal_DactRefIdeal_pre_ffn_finite := by
  intro m g m' g' hpre hargs
  refine ⟨fun c => val_main_v11 (F := Ideal) (argX m c) (argW m c) (argG m c) (argU m c), fun c => val_main_v10 (F := Ideal) (argX m c) (argW m c) (argG m c), ?_, ?_⟩
  · refine (θ_run defs _ _).mono (fun r h c => ?_) (run_blocks m g)
    obtain ⟨h4, h5, k0, k1, k2, k3⟩ := h c
    exact ⟨h4.trans (final_gate m c (finite_of_pre (hpre c))), h5.trans (final_up m c), k0, k1, k2, k3⟩
  · refine (θ_run Cert.DactRefIdeal.defs _ _).mono (fun r h c => ?_) (Cert.DactRefIdeal.Value.run m' g')
    obtain ⟨h11, h10, k0, k1, k2, k3⟩ := h c
    obtain ⟨a0, a1, a2, a3⟩ := hargs c
    refine ⟨h11.trans ?_, h10.trans ?_, k0, k1, k2, k3⟩
    · rw [a0, a1, a2, a3]; rfl
    · rw [a0, a1, a2]; rfl

end Cert.DactIdeal.Walk

end
-- ==== Proof.FoxPoint.lean ====
module

public import proofs.«01_k».proof.Proof.FoxBody
public import Idealize.ShloMosaic.Lib.Pointwise

@[expose] public section

set_option maxRecDepth 16384

noncomputable section

/-!
# The attention gradient's tile functions, entry by entry

Each function that the program applies to a tile is read at one entry, over the extended reals: sums over the lanes or over the tile's queries or
keys, with a case distinction on the lane's head, on the row or on the diagonal.
-/

namespace Cert.FoxIdeal.Walk

open Cert.FoxIdeal Cert.FoxIdeal.Gen
open Idealize.ShloMosaic Idealize.ShloMosaic.TcCoe

/-! ## The program's integers -/

/-- Which head a lane belongs to, as the program divides. -/
theorem half_dec : ∀ l : Fin 128, (Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32)) = BitVec.ofNat 32 (l.val / 64) := by
  decide +kernel

theorem pay87_apply (r : Fin 512) (l : Fin 128) : k0_pay87 (ix2 r l) = BitVec.ofNat 32 (l.val / 64) := by
  pointwise [k0_pay87]
  exact half_dec l

theorem pay86_apply (r : Fin 512) (l : Fin 128) : k0_pay86 k0_pay84 k0_pay85 (ix2 r l) = BitVec.ofNat 32 (l.val / 64) := by
  pointwise [k0_pay86, k0_pay84, k0_pay85]
  exact half_dec l

theorem row_dec0 : ∀ (p : Fin 3) (x : Fin 8), IntOp.cmpi .eq (BitVec.ofNat 32 x.val) (Scalar.addi (Scalar.muli 2#32 (BitVec.ofNat 32 p.val)) 0#32)
    = BitVec.ofBool (decide (x.val = 2 * p.val)) := by decide +kernel
theorem row_dec1 : ∀ (p : Fin 3) (x : Fin 8), IntOp.cmpi .eq (BitVec.ofNat 32 x.val) (Scalar.addi (Scalar.muli 2#32 (BitVec.ofNat 32 p.val)) 1#32)
    = BitVec.ofBool (decide (x.val = 2 * p.val + 1)) := by decide +kernel
theorem lane_dec0 : ∀ (p : Fin 3) (x : Fin 128),
    IntOp.cmpi .eq (BitVec.ofNat 32 x.val) (Scalar.addi (Scalar.addi 8#32 (Scalar.muli 2#32 (BitVec.ofNat 32 p.val))) 0#32)
      = BitVec.ofBool (decide (x.val = 2 * p.val + 8)) := by decide +kernel
theorem lane_dec1 : ∀ (p : Fin 3) (x : Fin 128),
    IntOp.cmpi .eq (BitVec.ofNat 32 x.val) (Scalar.addi (Scalar.addi 8#32 (Scalar.muli 2#32 (BitVec.ofNat 32 p.val))) 1#32)
      = BitVec.ofBool (decide (x.val = 2 * p.val + 9)) := by decide +kernel
theorem half_dec0 : ∀ (x : Fin 128), IntOp.cmpi .eq (BitVec.ofNat 32 (x.val / 64)) 0#32 = BitVec.ofBool (decide (x.val / 64 = 0)) := by decide +kernel
theorem half_dec1 : ∀ (x : Fin 128), IntOp.cmpi .eq (BitVec.ofNat 32 (x.val / 64)) 1#32 = BitVec.ofBool (decide (x.val / 64 = 1)) := by decide +kernel
theorem zero_dec : ∀ (x : Fin 128), IntOp.cmpi .eq (BitVec.ofNat 32 x.val) 0#32 = BitVec.ofBool (decide (x.val = 0)) := by decide +kernel
theorem one_dec : ∀ (x : Fin 128), IntOp.cmpi .eq (BitVec.ofNat 32 x.val) 1#32 = BitVec.ofBool (decide (x.val = 1)) := by decide +kernel

theorem below_dec (x y : Fin 512) : IntOp.cmpi .sge (BitVec.ofNat 32 x.val) (BitVec.ofNat 32 y.val) = BitVec.ofBool (decide (y.val ≤ x.val)) := by
  have hx := x.isLt
  have hy := y.isLt
  have e1 : (BitVec.ofNat 32 x.val).toInt = x.val := by
    rw [BitVec.toInt_eq_toNat_of_lt] <;> rw [BitVec.toNat_ofNat, Nat.mod_eq_of_lt (by omega)] <;> omega
  have e2 : (BitVec.ofNat 32 y.val).toInt = y.val := by
    rw [BitVec.toInt_eq_toNat_of_lt] <;> rw [BitVec.toNat_ofNat, Nat.mod_eq_of_lt (by omega)] <;> omega
  show BitVec.ofBool ((BitVec.ofNat 32 y.val).sle (BitVec.ofNat 32 x.val)) = _
  congr 1
  rw [BitVec.sle, e1, e2]
  congr 1
  simp

theorem select_ofBool {α : Type} (q : Prop) [Decidable q] (a b : α) : Scalar.select (BitVec.ofBool (decide q)) a b = if q then a else b := by
  by_cases h : q <;> simp [h, Scalar.select]

/-! ## Sums that pick one entry -/

theorem sum_pick {n : ℕ} (k : Fin n) (m : ℕ) (hm : m = k.val) (f : Fin n → EReal) : (∑ x, if x.val = m then f x else 0) = f k := by
  subst hm
  rw [Finset.sum_eq_single k]
  · simp
  · intro b _ hb
    rw [if_neg (fun h => hb (Fin.ext h))]
  · intro h; exact absurd (Finset.mem_univ _) h

variable (p : Fin 3)

/-- The row of the gates' sums that belongs to head `h` of the pair. -/
def hrow (h : Fin 2) : Fin 8 := ⟨2 * p.val + h.val, by have := p.isLt; have := h.isLt; omega⟩
/-- The lane of the gates' sums that belongs to head `h` of the pair. -/
def hlane (h : Fin 2) : Fin 128 := ⟨2 * p.val + 8 + h.val, by have := p.isLt; have := h.isLt; omega⟩

theorem sum_row0 (f : Fin 8 → EReal) : (∑ x, if x.val = 2 * p.val then f x else 0) = f (hrow p 0) := sum_pick (hrow p 0) _ rfl f
theorem sum_row1 (f : Fin 8 → EReal) : (∑ x, if x.val = 2 * p.val + 1 then f x else 0) = f (hrow p 1) := sum_pick (hrow p 1) _ rfl f
theorem sum_lane0 (f : Fin 128 → EReal) : (∑ x, if x.val = 2 * p.val + 8 then f x else 0) = f (hlane p 0) := sum_pick (hlane p 0) _ rfl f
theorem sum_lane1 (f : Fin 128 → EReal) : (∑ x, if x.val = 2 * p.val + 9 then f x else 0) = f (hlane p 1) := sum_pick (hlane p 1) _ rfl f

theorem half_cases (l : Fin 128) : l.val / 64 = 0 ∨ l.val / 64 = 1 := by
  have := l.isLt
  omega

/-- A sum over the first head's lanes and one over the second's, at a lane. -/
theorem sum_halves {n : ℕ} (l : Fin 128) (f g : Fin n → EReal) :
    (∑ x, if l.val / 64 = 0 then f x else 0) + (∑ x, if l.val / 64 = 1 then g x else 0) = ∑ x, if l.val / 64 = 0 then f x else g x := by
  rcases half_cases l with h | h <;> simp [h]

/-- The words of the grid points that treat heads `2p` and `2p + 1`. -/
def words : Words := ⟨BitVec.ofNat 32 p.val, iota .tc S512x128 32 [1] iota_S512x128_d1_w32, k0_pay87, iota .tc S8x512 32 [0] iota_S8x512_d0_w32⟩

/-- The numbers of a square tile's rows. -/
abbrev rowsN : IVec S512x512 32 := iota .tc S512x512 32 [0] iota_S512x512_d0_w32
/-- The numbers of a square tile's columns. -/
abbrev colsN : IVec S512x512 32 := iota .tc S512x512 32 [1] iota_S512x512_d1_w32

/-! ## The weights and the logits' gradient of a tile -/

section Tile

variable (t : QTile Ideal) (K V : Vec Ideal S512x128 .f32) (C : Vec Ideal S8x512 .f32) (r s : Fin 512)

/-- The logit less the softmax's total, from what a tile holds for one head. -/
def tileLogit (q : FVec Ideal S512x128 .bf16) (c l : FVec Ideal S512x1 .f32) (h : Fin 2) : EReal :=
  ∑ x, q (ix2 r x) * K (ix2 s x) + (c (ix2 r 0) - l (ix2 r 0) - C (ix2 (hrow p h) s))

/-- The gradient of a softmax weight, from what a tile holds for one head. -/
def tileGrad (g : FVec Ideal S512x128 .bf16) (d : FVec Ideal S512x1 .f32) : EReal :=
  ∑ x, g (ix2 r x) * V (ix2 s x) - d (ix2 r 0)

theorem pw0_apply : pw0 (words p) t K C (ix2 r s) = Ideal.exp (tileLogit p K C r s t.q0 t.c0 t.l0 0) := by
  unfold pw0 words tileLogit
  pointwise [k0_pay5, k0_pay2, k0_pay4]
  simp only [row_dec0, select_ofBool, sum_row0]

theorem pw1_apply : pw1 (words p) t K C (ix2 r s) = Ideal.exp (tileLogit p K C r s t.q1 t.c1 t.l1 1) := by
  unfold pw1 words tileLogit
  pointwise [k0_pay12, k0_pay2, k0_pay4]
  simp only [row_dec1, select_ofBool, sum_row1]

theorem ds0_apply : ds0 (words p) t K V C (ix2 r s) = Ideal.exp (tileLogit p K C r s t.q0 t.c0 t.l0 0) * tileGrad V r s t.g0 t.d0 := by
  unfold ds0 words tileLogit tileGrad
  pointwise [k0_pay6, k0_pay5, k0_pay2, k0_pay3, k0_pay4]
  simp only [row_dec0, select_ofBool, sum_row0]

theorem ds1_apply : ds1 (words p) t K V C (ix2 r s) = Ideal.exp (tileLogit p K C r s t.q1 t.c1 t.l1 1) * tileGrad V r s t.g1 t.d1 := by
  unfold ds1 words tileLogit tileGrad
  pointwise [k0_pay13, k0_pay12, k0_pay2, k0_pay3, k0_pay4]
  simp only [row_dec1, select_ofBool, sum_row1]

/-- The exponential of a masked logit. -/
theorem exp_masked (q : Prop) [Decidable q] (a : EReal) :
    Ideal.exp (if q then a else Ideal.ofBits FTy.f32 4286578688#32) = if q then Ideal.exp a else 0 := by
  by_cases h : q
  · rw [if_pos h, if_pos h]
  · rw [if_neg h, if_neg h]
    have e : Ideal.ofBits FTy.f32 4286578688#32 = (⊥ : EReal) := by simp [Ideal.ofBits, Ideal.ieee]
    rw [e]
    rfl

theorem pd0_apply : pd0 (words p) rowsN colsN t K C (ix2 r s) = if s.val ≤ r.val then Ideal.exp (tileLogit p K C r s t.q0 t.c0 t.l0 0) else 0 := by
  unfold pd0 words tileLogit
  pointwise [k0_pay63, k0_pay60, k0_pay62]
  simp only [row_dec0, select_ofBool, below_dec, exp_masked, sum_row0]

theorem pd1_apply : pd1 (words p) rowsN colsN t K C (ix2 r s) = if s.val ≤ r.val then Ideal.exp (tileLogit p K C r s t.q1 t.c1 t.l1 1) else 0 := by
  unfold pd1 words tileLogit
  pointwise [k0_pay71, k0_pay70, k0_pay60, k0_pay62]
  simp only [row_dec1, select_ofBool, below_dec, exp_masked, sum_row1]

theorem dd0_apply : dd0 (words p) rowsN colsN t K V C (ix2 r s)
    = (if s.val ≤ r.val then Ideal.exp (tileLogit p K C r s t.q0 t.c0 t.l0 0) else 0) * tileGrad V r s t.g0 t.d0 := by
  unfold dd0 words tileLogit tileGrad
  pointwise [k0_pay64, k0_pay63, k0_pay60, k0_pay62, k0_pay61]
  simp only [row_dec0, select_ofBool, below_dec, exp_masked, sum_row0]

theorem dd1_apply : dd1 (words p) rowsN colsN t K V C (ix2 r s)
    = (if s.val ≤ r.val then Ideal.exp (tileLogit p K C r s t.q1 t.c1 t.l1 1) else 0) * tileGrad V r s t.g1 t.d1 := by
  unfold dd1 words tileLogit tileGrad
  pointwise [k0_pay75, k0_pay72, k0_pay71, k0_pay70, k0_pay61, k0_pay60, k0_pay62]
  simp only [row_dec1, select_ofBool, below_dec, exp_masked, sum_row1]

end Tile

/-! ## What a tile adds -/

section Adds

variable (t : QTile Ideal) (K V : Vec Ideal S512x128 .f32) (C : Vec Ideal S8x512 .f32) (a : Vec Ideal S512x128 .f32) (b : Vec Ideal S8x512 .f32)
  (r s : Fin 512) (l : Fin 128) (h : Fin 8)

/-- At the rows' lanes of the two heads, two values; elsewhere nothing. -/
def onLanes (l : Fin 128) (x y : EReal) : EReal := (if l.val = 2 * p.val + 8 then x else 0) + (if l.val = 2 * p.val + 9 then y else 0)
/-- At the columns' rows of the two heads, two values; elsewhere nothing. -/
def onRows (h : Fin 8) (x y : EReal) : EReal := (if h.val = 2 * p.val then x else 0) + (if h.val = 2 * p.val + 1 then y else 0)

theorem dqStep_apply : dqStep (words p) t K V C a (ix2 r l)
    = a (ix2 r l) + ∑ s, if l.val / 64 = 0 then ds0 (words p) t K V C (ix2 r s) * K (ix2 s l) else ds1 (words p) t K V C (ix2 r s) * K (ix2 s l) := by
  rw [← sum_halves]
  unfold dqStep
  pointwise [k0_pay18, k0_pay11, k0_pay9, k0_pay16, k0_pay2, words]
  simp only [pay87_apply, half_dec0, half_dec1, select_ofBool]

theorem dqDiag_apply : dqDiag (words p) rowsN colsN t K V C a (ix2 r l)
    = (a (ix2 r l) + ∑ s, if l.val / 64 = 0 then dd0 (words p) rowsN colsN t K V C (ix2 r s) * K (ix2 s l)
        else dd1 (words p) rowsN colsN t K V C (ix2 r s) * K (ix2 s l)) * Ideal.ofBits FTy.f32 1040187392#32 := by
  rw [← sum_halves]
  unfold dqDiag
  pointwise [k0_pay78, k0_pay67, k0_pay69, k0_pay60, words]
  simp only [pay87_apply, half_dec0, half_dec1, select_ofBool]

theorem rsStep_apply : rsStep (words p) t K V C a (ix2 r l)
    = a (ix2 r l) + onLanes p l (∑ s, ds0 (words p) t K V C (ix2 r s)) (∑ s, ds1 (words p) t K V C (ix2 r s)) := by
  unfold rsStep onLanes
  simp only [ds0_apply]
  rw [← add_assoc]
  pointwise [k0_pay14, k0_pay7, k0_pay6, k0_pay5, k0_pay2, k0_pay3, k0_pay4, words]
  simp only [lane_dec0, lane_dec1, row_dec0, select_ofBool, sum_row0]
  rfl

theorem rsDiag_apply : rsDiag (words p) rowsN colsN t K V C a (ix2 r l)
    = a (ix2 r l) + onLanes p l (∑ s, dd0 (words p) rowsN colsN t K V C (ix2 r s)) (∑ s, dd1 (words p) rowsN colsN t K V C (ix2 r s)) := by
  unfold rsDiag onLanes
  simp only [dd1_apply, ← pd1_apply]
  unfold pd1
  rw [← add_assoc]
  pointwise [k0_pay73, k0_pay65, k0_pay72, k0_pay61, words]
  simp only [lane_dec0, lane_dec1, select_ofBool]
  rfl

theorem csStep_apply : csStep (words p) t K V C b (ix2 h s)
    = b (ix2 h s) + onRows p h (∑ r, ds0 (words p) t K V C (ix2 r s)) (∑ r, ds1 (words p) t K V C (ix2 r s)) := by
  unfold csStep onRows
  rw [← add_assoc]
  pointwise [k0_pay15, k0_pay8, words]
  simp only [row_dec0, row_dec1, select_ofBool]

theorem csDiag_apply : csDiag (words p) rowsN colsN t K V C b (ix2 h s)
    = b (ix2 h s) + onRows p h (∑ r, dd0 (words p) rowsN colsN t K V C (ix2 r s)) (∑ r, dd1 (words p) rowsN colsN t K V C (ix2 r s)) := by
  unfold csDiag onRows
  simp only [dd1_apply, ← pd1_apply]
  unfold pd1
  rw [← add_assoc]
  pointwise [k0_pay74, k0_pay66, k0_pay72, k0_pay61, words]
  simp only [row_dec0, row_dec1, select_ofBool]
  rfl

theorem dkStep_apply : dkStep (words p) t K V C a (ix2 s l)
    = a (ix2 s l) + (∑ r, ds0 (words p) t K V C (ix2 r s) * t.q0 (ix2 r l) + ∑ r, ds1 (words p) t K V C (ix2 r s) * t.q1 (ix2 r l)) := by
  unfold dkStep
  pointwise [k0_pay56, k0_pay19, k0_pay9, k0_pay16]

theorem dkDiag_apply : dkDiag (words p) rowsN colsN t K V C a (ix2 s l)
    = a (ix2 s l) + (∑ r, dd0 (words p) rowsN colsN t K V C (ix2 r s) * t.q0 (ix2 r l) + ∑ r, dd1 (words p) rowsN colsN t K V C (ix2 r s) * t.q1 (ix2 r l)) := by
  unfold dkDiag
  pointwise [k0_pay76, k0_pay67]

theorem dvStep_apply : dvStep (words p) t K C a (ix2 s l)
    = a (ix2 s l) + (∑ r, pw0 (words p) t K C (ix2 r s) * t.g0 (ix2 r l) + ∑ r, pw1 (words p) t K C (ix2 r s) * t.g1 (ix2 r l)) := by
  unfold dvStep
  pointwise [k0_pay57, k0_pay10, k0_pay17]

theorem dvDiag_apply : dvDiag (words p) rowsN colsN t K C a (ix2 s l)
    = a (ix2 s l) + (∑ r, pd0 (words p) rowsN colsN t K C (ix2 r s) * t.g0 (ix2 r l) + ∑ r, pd1 (words p) rowsN colsN t K C (ix2 r s) * t.g1 (ix2 r l)) := by
  unfold dvDiag
  pointwise [k0_pay77, k0_pay68]

theorem pay79_apply : k0_pay79 a K (ix2 r l) = K (ix2 r l) + a (ix2 r l) := by
  pointwise [k0_pay79]

end Adds

end Cert.FoxIdeal.Walk

end
-- ==== Proof.FoxSpec.lean ====
module

public import proofs.«01_k».proof.Proof.FoxPoint

@[expose] public section

set_option maxRecDepth 16384

noncomputable section

/-!
# What a grid point of the attention gradient adds up

For the pair of heads of a grid point: the weight of a query and a key, and the gradient of their logit, from the staged arrays; the part of each
sum that one pair of tiles contributes; and that the tile functions add just these parts.
-/

namespace Cert.FoxIdeal.Walk

open Cert.FoxIdeal Cert.FoxIdeal.Gen
open Idealize.ShloMosaic Idealize.ShloMosaic.TcCoe Idealize.ShloMosaic.VecWindow

/-! ## Windows of 512 rows or columns -/

/-- Row `r` of tile `n`. -/
def row (n : ℕ) (r : Fin 512) : Fin 2048 := ⟨(512 * n + r.val) % 2048, Nat.mod_lt _ (by norm_num)⟩

theorem row_val {n : ℕ} (hn : n < 4) (r : Fin 512) : (row n r).val = 512 * n + r.val := by
  have := r.isLt
  show (512 * n + r.val) % 2048 = _
  omega

/-- The `h`-th of the columns' sums' rows. -/
def up (h : Fin 8) : Fin 128 := ⟨h.val, by omega⟩

theorem off1_eq : ∀ i : Fin k0_t1_loop.trips, k0_off1 i = ![512 * i.val, 0] := by decide +kernel
theorem off8_eq : ∀ i : Fin k0_t1_loop.trips, k0_off8 i = ![0, 512 * i.val] := by decide +kernel
theorem off9_eq : ∀ i : Fin k0_t1_loop.trips, k0_off9 i = ![0, 512 * i.val] := by decide +kernel
theorem off2_eq : ∀ (i : Fin k0_t1_loop.trips) (j : Fin (k0_t2_loop i).trips), k0_off2 i j = ![512 * j.val, 0] := by decide +kernel
theorem off3_eq : ∀ (i : Fin k0_t1_loop.trips) (j : Fin (k0_t2_loop i).trips), k0_off3 i j = ![0, 512 * j.val] := by decide +kernel
theorem off4_eq : ∀ (i : Fin k0_t1_loop.trips) (j : Fin (k0_t2_loop i).trips), k0_off4 i j = ![0, 512 * j.val] := by decide +kernel
theorem t2_trips : ∀ i : Fin k0_t1_loop.trips, (k0_t2_loop i).trips = i.val := by decide +kernel

section Windows

variable {α : Type} {n m : ℕ} (hn : n < 4) (hm : m < 4)

include hn in
theorem window_rows (x : S2048x128.Idx → α) {off : Fin 2 → ℕ} (h : off = ![512 * n, 0]) (inb : ∀ a, off a + S512x128.size a ≤ S2048x128.size a)
    (r : Fin 512) (l : Fin 128) : window x off S512x128.size inb (ix2 r l) = x (ix2 (row n r) l) := by
  subst h
  unfold window
  congr 1
  funext a
  apply Fin.ext
  match a with
  | ⟨0, _⟩ =>
    show 512 * n + 1 * r.val = (row n r).val
    rw [row_val hn, one_mul]
  | ⟨1, _⟩ =>
    show 0 + 1 * l.val = l.val
    omega

include hn in
theorem window_cols (x : S8x2048.Idx → α) {off : Fin 2 → ℕ} (h : off = ![0, 512 * n]) (inb : ∀ a, off a + S8x512.size a ≤ S8x2048.size a)
    (k : Fin 8) (r : Fin 512) : window x off S8x512.size inb (ix2 k r) = x (ix2 k (row n r)) := by
  subst h
  unfold window
  congr 1
  funext a
  apply Fin.ext
  match a with
  | ⟨0, _⟩ =>
    show 0 + 1 * k.val = k.val
    omega
  | ⟨1, _⟩ =>
    show 512 * n + 1 * r.val = (row n r).val
    rw [row_val hn, one_mul]

include hn in
theorem window_cs (x : S128x2048.Idx → α) {off : Fin 2 → ℕ} (h : off = ![0, 512 * n]) (inb : ∀ a, off a + S8x512.size a ≤ S128x2048.size a)
    (k : Fin 8) (r : Fin 512) : window x off S8x512.size inb (ix2 k r) = x (ix2 (up k) (row n r)) := by
  subst h
  unfold window
  congr 1
  funext a
  apply Fin.ext
  match a with
  | ⟨0, _⟩ =>
    show 0 + 1 * k.val = k.val
    omega
  | ⟨1, _⟩ =>
    show 512 * n + 1 * r.val = (row n r).val
    rw [row_val hn, one_mul]

include hn hm in
theorem put_rows (x : S2048x128.Idx → α) {off : Fin 2 → ℕ} (h : off = ![512 * n, 0]) (w : S512x128.Idx → α) (r : Fin 512) (l : Fin 128) :
    put x off S512x128.size w (ix2 (row m r) l) = if m = n then w (ix2 r l) else x (ix2 (row m r) l) := by
  subst h
  unfold put
  have hr := r.isLt
  have hl := l.isLt
  have e := row_val hm r
  by_cases hmn : m = n
  · subst hmn
    rw [if_pos rfl, dif_pos]
    · congr 1
      funext a
      apply Fin.ext
      match a with
      | ⟨0, _⟩ =>
        show (row m r).val - 512 * m = r.val
        omega
      | ⟨1, _⟩ =>
        show l.val - 0 = l.val
        omega
    · intro a
      match a with
      | ⟨0, _⟩ =>
        show 512 * m ≤ (row m r).val ∧ (row m r).val < 512 * m + 512
        omega
      | ⟨1, _⟩ =>
        show 0 ≤ l.val ∧ l.val < 0 + 128
        omega
  · rw [if_neg hmn, dif_neg]
    intro hc
    have h0 : 512 * n ≤ (row m r).val ∧ (row m r).val < 512 * n + 512 := hc 0
    omega

include hn hm in
theorem put_cs (x : S128x2048.Idx → α) {off : Fin 2 → ℕ} (h : off = ![0, 512 * n]) (w : S8x512.Idx → α) (k : Fin 8) (r : Fin 512) :
    put x off S8x512.size w (ix2 (up k) (row m r)) = if m = n then w (ix2 k r) else x (ix2 (up k) (row m r)) := by
  subst h
  unfold put
  have hr := r.isLt
  have hk := k.isLt
  have e := row_val hm r
  by_cases hmn : m = n
  · subst hmn
    rw [if_pos rfl, dif_pos]
    · congr 1
      funext a
      apply Fin.ext
      match a with
      | ⟨0, _⟩ =>
        show k.val - 0 = k.val
        omega
      | ⟨1, _⟩ =>
        show (row m r).val - 512 * m = r.val
        omega
    · intro a
      match a with
      | ⟨0, _⟩ =>
        show 0 ≤ k.val ∧ k.val < 0 + 8
        omega
      | ⟨1, _⟩ =>
        show 512 * m ≤ (row m r).val ∧ (row m r).val < 512 * m + 512
        omega
  · rw [if_neg hmn, dif_neg]
    intro hc
    have h0 : 512 * n ≤ (row m r).val ∧ (row m r).val < 512 * n + 512 := hc 1
    omega

end Windows

/-! ## The sums' terms -/

variable (p : Fin 3) (x : Ins Ideal)

/-- The factor of the queries. -/
abbrev scale : EReal := Ideal.ofBits FTy.f32 1040187392#32

/-- Which of the pair's heads a lane belongs to. -/
def hd (l : Fin 128) : Fin 2 := ⟨l.val / 64, by have := l.isLt; omega⟩

/-- The logit of query `t` and key `s`, less the softmax's total. -/
def logit (h : Fin 2) (t s : Fin 2048) : EReal :=
  ∑ l : Fin 128, (if l.val / 64 = h.val then x.q (ix2 t l) * scale else 0) * x.k (ix2 s l)
    + (x.cn (ix2 t (hlane p h)) - x.l (ix2 t ⟨h.val, by omega⟩) - x.ct (ix2 (hrow p h) s))

/-- The weight of query `t` and key `s`. -/
def wt (h : Fin 2) (t s : Fin 2048) : EReal := if s ≤ t then Ideal.exp (logit p x h t s) else 0

/-- The product of the incoming gradient and the output, per query and head. -/
def del (h : Fin 2) (t : Fin 2048) : EReal := ∑ l : Fin 128, if l.val / 64 = h.val then x.g (ix2 t l) * x.o (ix2 t l) else 0

/-- The gradient of a weight. -/
def gr (h : Fin 2) (t s : Fin 2048) : EReal := ∑ l : Fin 128, (if l.val / 64 = h.val then x.g (ix2 t l) else 0) * x.v (ix2 s l) - del x h t

/-- The gradient of the logit of query `t` and key `s`. -/
def sg (h : Fin 2) (t s : Fin 2048) : EReal := wt p x h t s * gr x h t s

/-- What key tile `j` adds to the queries' gradient, before the factor. -/
def cq (i j : ℕ) (r : Fin 512) (l : Fin 128) : EReal := ∑ s, sg p x (hd l) (row i r) (row j s) * x.k (ix2 (row j s) l)
/-- What key tile `j` adds to the rows' sums. -/
def cr (i j : ℕ) (r : Fin 512) (l : Fin 128) : EReal :=
  onLanes p l (∑ s, sg p x 0 (row i r) (row j s)) (∑ s, sg p x 1 (row i r) (row j s))
/-- What query tile `i` adds to the columns' sums. -/
def cc (i j : ℕ) (h : Fin 8) (s : Fin 512) : EReal :=
  onRows p h (∑ r, sg p x 0 (row i r) (row j s)) (∑ r, sg p x 1 (row i r) (row j s))
/-- What query tile `i` adds to the keys' gradient. -/
def ck (i j : ℕ) (s : Fin 512) (l : Fin 128) : EReal := ∑ r, sg p x (hd l) (row i r) (row j s) * (x.q (ix2 (row i r) l) * scale)
/-- What query tile `i` adds to the values' gradient. -/
def cv (i j : ℕ) (s : Fin 512) (l : Fin 128) : EReal := ∑ r, wt p x (hd l) (row i r) (row j s) * x.g (ix2 (row i r) l)

theorem ite_hd (l : Fin 128) (f : Fin 2 → EReal) : (if l.val / 64 = 0 then f 0 else f 1) = f (hd l) := by
  rcases half_cases l with h | h
  · rw [if_pos h]; congr 1; exact Fin.ext h.symm
  · rw [if_neg (by omega)]; congr 1; exact Fin.ext h.symm

/-! ## What a query tile brings -/

section QTileRead

variable (i : Fin k0_t1_loop.trips) (r : Fin 512) (l : Fin 128)

theorem lt4 : i.val < 4 := lt_of_lt_of_eq i.isLt trips_four

/-- The query tile of a grid point. -/
abbrev qt : QTile Ideal := qtile (words p) (k0_pay86 k0_pay84 k0_pay85) x i

theorem q0_apply : (qt p x i).q0 (ix2 r l) = if l.val / 64 = 0 then x.q (ix2 (row i r) l) * scale else 0 := by
  rw [← window_rows (lt4 i) x.q (off1_eq i) (k0_off1_inb i)]
  unfold qt qtile
  dsimp only
  pointwise [k0_pay42, k0_pay39]
  rw [pay86_apply, half_dec0, select_ofBool]

theorem q1_apply : (qt p x i).q1 (ix2 r l) = if l.val / 64 = 1 then x.q (ix2 (row i r) l) * scale else 0 := by
  rw [← window_rows (lt4 i) x.q (off1_eq i) (k0_off1_inb i)]
  unfold qt qtile
  dsimp only
  pointwise [k0_pay49, k0_pay39]
  rw [pay86_apply, half_dec1, select_ofBool]

theorem g0_apply : (qt p x i).g0 (ix2 r l) = if l.val / 64 = 0 then x.g (ix2 (row i r) l) else 0 := by
  rw [← window_rows (lt4 i) x.g (off1_eq i) (k0_off1_inb i)]
  unfold qt qtile
  dsimp only
  pointwise [k0_pay43]
  rw [pay86_apply, half_dec0, select_ofBool]

theorem g1_apply : (qt p x i).g1 (ix2 r l) = if l.val / 64 = 1 then x.g (ix2 (row i r) l) else 0 := by
  rw [← window_rows (lt4 i) x.g (off1_eq i) (k0_off1_inb i)]
  unfold qt qtile
  dsimp only
  pointwise [k0_pay50]
  rw [pay86_apply, half_dec1, select_ofBool]

theorem c0_apply : (qt p x i).c0 (ix2 r 0) = x.cn (ix2 (row i r) (hlane p 0)) := by
  rw [← window_rows (lt4 i) x.cn (off1_eq i) (k0_off1_inb i), ← sum_lane0 p fun z => window x.cn (k0_off1 i) S512x128.size (k0_off1_inb i) (ix2 r z)]
  unfold qt qtile
  dsimp only
  pointwise [k0_pay44, k0_pay38, words]
  simp only [lane_dec0, select_ofBool]

theorem c1_apply : (qt p x i).c1 (ix2 r 0) = x.cn (ix2 (row i r) (hlane p 1)) := by
  rw [← window_rows (lt4 i) x.cn (off1_eq i) (k0_off1_inb i), ← sum_lane1 p fun z => window x.cn (k0_off1 i) S512x128.size (k0_off1_inb i) (ix2 r z)]
  unfold qt qtile
  dsimp only
  pointwise [k0_pay51, k0_pay38, words]
  simp only [lane_dec1, select_ofBool]

theorem l0_apply : (qt p x i).l0 (ix2 r 0) = x.l (ix2 (row i r) 0) := by
  rw [← window_rows (lt4 i) x.l (off1_eq i) (k0_off1_inb i), ← sum_pick (0 : Fin 128) 0 rfl fun z => window x.l (k0_off1 i) S512x128.size (k0_off1_inb i) (ix2 r z)]
  unfold qt qtile
  dsimp only
  pointwise [k0_pay47, k0_pay40, k0_pay45, k0_pay46, words]
  simp only [zero_dec, select_ofBool]

theorem l1_apply : (qt p x i).l1 (ix2 r 0) = x.l (ix2 (row i r) 1) := by
  rw [← window_rows (lt4 i) x.l (off1_eq i) (k0_off1_inb i), ← sum_pick (1 : Fin 128) 1 rfl fun z => window x.l (k0_off1 i) S512x128.size (k0_off1_inb i) (ix2 r z)]
  unfold qt qtile
  dsimp only
  pointwise [k0_pay52, k0_pay40, words]
  simp only [one_dec, select_ofBool]

theorem d0_apply : (qt p x i).d0 (ix2 r 0) = del x 0 (row i r) := by
  unfold del
  simp only [← window_rows (lt4 i) x.g (off1_eq i) (k0_off1_inb i), ← window_rows (lt4 i) x.o (off1_eq i) (k0_off1_inb i)]
  unfold qt qtile
  dsimp only
  pointwise [k0_pay48, k0_pay41, words]
  simp only [pay86_apply, half_dec0, select_ofBool]

theorem d1_apply : (qt p x i).d1 (ix2 r 0) = del x 1 (row i r) := by
  unfold del
  simp only [← window_rows (lt4 i) x.g (off1_eq i) (k0_off1_inb i), ← window_rows (lt4 i) x.o (off1_eq i) (k0_off1_inb i)]
  unfold qt qtile
  dsimp only
  pointwise [k0_pay53, k0_pay41, words]
  simp only [pay86_apply, half_dec1, select_ofBool]

end QTileRead

/-! ## A tile's weights and logits' gradients -/

section TileValues

variable (i : Fin k0_t1_loop.trips) {j : ℕ} (hj : j < 4) {K V : Vec Ideal S512x128 .f32} {C : Vec Ideal S8x512 .f32}
  (hK : ∀ r l, K (ix2 r l) = x.k (ix2 (row j r) l)) (hV : ∀ r l, V (ix2 r l) = x.v (ix2 (row j r) l)) (hC : ∀ h r, C (ix2 h r) = x.ct (ix2 h (row j r)))
  (r s : Fin 512)

include hK hC in
theorem tileLogit0 : tileLogit p K C r s (qt p x i).q0 (qt p x i).c0 (qt p x i).l0 0 = logit p x 0 (row i r) (row j s) := by
  unfold tileLogit logit
  simp only [q0_apply, c0_apply, l0_apply, hK, hC]
  rfl

include hK hC in
theorem tileLogit1 : tileLogit p K C r s (qt p x i).q1 (qt p x i).c1 (qt p x i).l1 1 = logit p x 1 (row i r) (row j s) := by
  unfold tileLogit logit
  simp only [q1_apply, c1_apply, l1_apply, hK, hC]
  rfl

include hV in
theorem tileGrad0 : tileGrad V r s (qt p x i).g0 (qt p x i).d0 = gr x 0 (row i r) (row j s) := by
  unfold tileGrad gr
  simp only [g0_apply, d0_apply, hV]
  rfl

include hV in
theorem tileGrad1 : tileGrad V r s (qt p x i).g1 (qt p x i).d1 = gr x 1 (row i r) (row j s) := by
  unfold tileGrad gr
  simp only [g1_apply, d1_apply, hV]
  rfl

theorem wt_below (h : Fin 2) (hji : j < i.val) : wt p x h (row i r) (row j s) = Ideal.exp (logit p x h (row i r) (row j s)) := by
  unfold wt
  rw [if_pos]
  have := lt4 i
  have := s.isLt
  show (row j s).val ≤ (row i r).val
  rw [row_val (by omega), row_val (by omega)]
  omega

theorem wt_diag (h : Fin 2) : wt p x h (row i r) (row i s) = if s.val ≤ r.val then Ideal.exp (logit p x h (row i r) (row i s)) else 0 := by
  unfold wt
  refine if_congr ?_ rfl rfl
  show (row i s).val ≤ (row i r).val ↔ _
  rw [row_val (lt4 i), row_val (lt4 i)]
  omega

theorem wt_above {i j : ℕ} (hi : i < 4) (hj : j < 4) (hij : i < j) (h : Fin 2) : wt p x h (row i r) (row j s) = 0 := by
  unfold wt
  rw [if_neg]
  have := r.isLt
  show ¬ (row j s).val ≤ (row i r).val
  rw [row_val (by omega), row_val (by omega)]
  omega

theorem sg_above {i j : ℕ} (hi : i < 4) (hj : j < 4) (hij : i < j) (h : Fin 2) : sg p x h (row i r) (row j s) = 0 := by
  unfold sg
  rw [wt_above p x r s hi hj hij, zero_mul]

section Below

variable (hji : j < i.val)
include hK hC hji

theorem pw0_tile : pw0 (words p) (qt p x i) K C (ix2 r s) = wt p x 0 (row i r) (row j s) := by
  rw [pw0_apply, tileLogit0 p x i hK hC, wt_below p x i r s 0 hji]
theorem pw1_tile : pw1 (words p) (qt p x i) K C (ix2 r s) = wt p x 1 (row i r) (row j s) := by
  rw [pw1_apply, tileLogit1 p x i hK hC, wt_below p x i r s 1 hji]
include hV in
theorem ds0_tile : ds0 (words p) (qt p x i) K V C (ix2 r s) = sg p x 0 (row i r) (row j s) := by
  rw [ds0_apply, tileLogit0 p x i hK hC, tileGrad0 p x i hV, ← wt_below p x i r s 0 hji]; rfl
include hV in
theorem ds1_tile : ds1 (words p) (qt p x i) K V C (ix2 r s) = sg p x 1 (row i r) (row j s) := by
  rw [ds1_apply, tileLogit1 p x i hK hC, tileGrad1 p x i hV, ← wt_below p x i r s 1 hji]; rfl

include hV in
theorem dqStep_tile (a : Vec Ideal S512x128 .f32) (l : Fin 128) : dqStep (words p) (qt p x i) K V C a (ix2 r l) = a (ix2 r l) + cq p x i j r l := by
  rw [dqStep_apply]
  simp only [ds0_tile p x i hK hV hC _ _ hji, ds1_tile p x i hK hV hC _ _ hji, hK]
  unfold cq
  congr 1
  refine Finset.sum_congr rfl fun s _ => ?_
  rw [ite_hd l fun h => sg p x h (row i r) (row j s) * x.k (ix2 (row j s) l)]

include hV in
theorem rsStep_tile (a : Vec Ideal S512x128 .f32) (l : Fin 128) : rsStep (words p) (qt p x i) K V C a (ix2 r l) = a (ix2 r l) + cr p x i j r l := by
  rw [rsStep_apply]
  simp only [ds0_tile p x i hK hV hC _ _ hji, ds1_tile p x i hK hV hC _ _ hji]
  rfl

include hV in
theorem csStep_tile (b : Vec Ideal S8x512 .f32) (h : Fin 8) : csStep (words p) (qt p x i) K V C b (ix2 h s) = b (ix2 h s) + cc p x i j h s := by
  rw [csStep_apply]
  simp only [ds0_tile p x i hK hV hC _ _ hji, ds1_tile p x i hK hV hC _ _ hji]
  rfl

include hV in
theorem dkStep_tile (a : Vec Ideal S512x128 .f32) (l : Fin 128) : dkStep (words p) (qt p x i) K V C a (ix2 s l) = a (ix2 s l) + ck p x i j s l := by
  rw [dkStep_apply]
  simp only [ds0_tile p x i hK hV hC _ _ hji, ds1_tile p x i hK hV hC _ _ hji, q0_apply, q1_apply, mul_ite, mul_zero]
  rw [sum_halves]
  unfold ck
  congr 1
  refine Finset.sum_congr rfl fun r _ => ?_
  rw [ite_hd l fun h => sg p x h (row i r) (row j s) * (x.q (ix2 (row i r) l) * scale)]

theorem dvStep_tile (a : Vec Ideal S512x128 .f32) (l : Fin 128) : dvStep (words p) (qt p x i) K C a (ix2 s l) = a (ix2 s l) + cv p x i j s l := by
  rw [dvStep_apply]
  simp only [pw0_tile p x i hK hC _ _ hji, pw1_tile p x i hK hC _ _ hji, g0_apply, g1_apply, mul_ite, mul_zero]
  rw [sum_halves]
  unfold cv
  congr 1
  refine Finset.sum_congr rfl fun r _ => ?_
  rw [ite_hd l fun h => wt p x h (row i r) (row j s) * x.g (ix2 (row i r) l)]

end Below

end TileValues

section Diagonal

variable (i : Fin k0_t1_loop.trips) {K V : Vec Ideal S512x128 .f32} {C : Vec Ideal S8x512 .f32}
  (hK : ∀ r l, K (ix2 r l) = x.k (ix2 (row i r) l)) (hV : ∀ r l, V (ix2 r l) = x.v (ix2 (row i r) l)) (hC : ∀ h r, C (ix2 h r) = x.ct (ix2 h (row i r)))
  (r s : Fin 512)
include hK hC

theorem pd0_tile : pd0 (words p) rowsN colsN (qt p x i) K C (ix2 r s) = wt p x 0 (row i r) (row i s) := by
  rw [pd0_apply, tileLogit0 p x i hK hC, wt_diag p x i r s 0]
theorem pd1_tile : pd1 (words p) rowsN colsN (qt p x i) K C (ix2 r s) = wt p x 1 (row i r) (row i s) := by
  rw [pd1_apply, tileLogit1 p x i hK hC, wt_diag p x i r s 1]
include hV in
theorem dd0_tile : dd0 (words p) rowsN colsN (qt p x i) K V C (ix2 r s) = sg p x 0 (row i r) (row i s) := by
  rw [dd0_apply, tileLogit0 p x i hK hC, tileGrad0 p x i hV, ← wt_diag p x i r s 0]; rfl
include hV in
theorem dd1_tile : dd1 (words p) rowsN colsN (qt p x i) K V C (ix2 r s) = sg p x 1 (row i r) (row i s) := by
  rw [dd1_apply, tileLogit1 p x i hK hC, tileGrad1 p x i hV, ← wt_diag p x i r s 1]; rfl

include hV in
theorem dqDiag_tile (a : Vec Ideal S512x128 .f32) (l : Fin 128) :
    dqDiag (words p) rowsN colsN (qt p x i) K V C a (ix2 r l) = (a (ix2 r l) + cq p x i i r l) * scale := by
  rw [dqDiag_apply]
  simp only [dd0_tile p x i hK hV hC, dd1_tile p x i hK hV hC, hK]
  unfold cq
  congr 2
  refine Finset.sum_congr rfl fun s _ => ?_
  rw [ite_hd l fun h => sg p x h (row i r) (row i s) * x.k (ix2 (row i s) l)]

include hV in
theorem rsDiag_tile (a : Vec Ideal S512x128 .f32) (l : Fin 128) :
    rsDiag (words p) rowsN colsN (qt p x i) K V C a (ix2 r l) = a (ix2 r l) + cr p x i i r l := by
  rw [rsDiag_apply]
  simp only [dd0_tile p x i hK hV hC, dd1_tile p x i hK hV hC]
  rfl

include hV in
theorem csDiag_tile (b : Vec Ideal S8x512 .f32) (h : Fin 8) :
    csDiag (words p) rowsN colsN (qt p x i) K V C b (ix2 h s) = b (ix2 h s) + cc p x i i h s := by
  rw [csDiag_apply]
  simp only [dd0_tile p x i hK hV hC, dd1_tile p x i hK hV hC]
  rfl

include hV in
theorem dkDiag_tile (a : Vec Ideal S512x128 .f32) (l : Fin 128) :
    dkDiag (words p) rowsN colsN (qt p x i) K V C a (ix2 s l) = a (ix2 s l) + ck p x i i s l := by
  rw [dkDiag_apply]
  simp only [dd0_tile p x i hK hV hC, dd1_tile p x i hK hV hC, q0_apply, q1_apply, mul_ite, mul_zero]
  rw [sum_halves]
  unfold ck
  congr 1
  refine Finset.sum_congr rfl fun r _ => ?_
  rw [ite_hd l fun h => sg p x h (row i r) (row i s) * (x.q (ix2 (row i r) l) * scale)]

theorem dvDiag_tile (a : Vec Ideal S512x128 .f32) (l : Fin 128) :
    dvDiag (words p) rowsN colsN (qt p x i) K C a (ix2 s l) = a (ix2 s l) + cv p x i i s l := by
  rw [dvDiag_apply]
  simp only [pd0_tile p x i hK hC, pd1_tile p x i hK hC, g0_apply, g1_apply, mul_ite, mul_zero]
  rw [sum_halves]
  unfold cv
  congr 1
  refine Finset.sum_congr rfl fun r _ => ?_
  rw [ite_hd l fun h => wt p x h (row i r) (row i s) * x.g (ix2 (row i r) l)]

end Diagonal

end Cert.FoxIdeal.Walk

end
-- ==== Proof.FoxLoops.lean ====
module

public import proofs.«01_k».proof.Proof.FoxSpec

@[expose] public section

set_option maxRecDepth 16384

noncomputable section

/-!
# The loops of the attention gradient in closed form

By induction over the inner loop's trips and then the outer loop's: what the buffers hold after each trip, as sums over the tiles passed so far;
and at the end, as sums over all queries or all keys.
-/

namespace Cert.FoxIdeal.Walk

open Cert.FoxIdeal Cert.FoxIdeal.Gen
open Idealize.ShloMosaic Idealize.ShloMosaic.TcCoe Idealize.ShloMosaic.VecWindow

variable (p : Fin 3) (x : Ins Ideal)

/-! ## Tiles above the diagonal add nothing -/

section Above

variable {i j : ℕ} (hi : i < 4) (hj : j < 4) (hij : i < j)
include hi hj hij

theorem cq_above (r : Fin 512) (l : Fin 128) : cq p x i j r l = 0 := by
  unfold cq
  simp only [sg_above p x _ _ hi hj hij, zero_mul, Finset.sum_const_zero]
theorem cr_above (r : Fin 512) (l : Fin 128) : cr p x i j r l = 0 := by
  unfold cr onLanes
  simp only [sg_above p x _ _ hi hj hij, Finset.sum_const_zero, ite_self, add_zero]
theorem cc_above (h : Fin 8) (s : Fin 512) : cc p x i j h s = 0 := by
  unfold cc onRows
  simp only [sg_above p x _ _ hi hj hij, Finset.sum_const_zero, ite_self, add_zero]
theorem ck_above (s : Fin 512) (l : Fin 128) : ck p x i j s l = 0 := by
  unfold ck
  simp only [sg_above p x _ _ hi hj hij, zero_mul, Finset.sum_const_zero]
theorem cv_above (s : Fin 512) (l : Fin 128) : cv p x i j s l = 0 := by
  unfold cv
  simp only [wt_above p x _ _ hi hj hij, zero_mul, Finset.sum_const_zero]

end Above

/-- A sum over the tiles up to the diagonal is one over all. -/
theorem sum_to_four {i : ℕ} (hi : i < 4) (f : ℕ → EReal) (h : ∀ j, j < 4 → i < j → f j = 0) : ∑ j ∈ Finset.range (i + 1), f j = ∑ j ∈ Finset.range 4, f j := by
  refine Finset.sum_subset (Finset.range_subset_range.2 (by omega)) fun j h4 hj => ?_
  rw [Finset.mem_range] at h4 hj
  exact h j h4 (by omega)

/-! ## The inner loop -/

/-- What the first `m` trips of the inner loop make of the carried pair and the buffers. -/
structure StepsTo (i : ℕ) (a : Acc Ideal) (m : ℕ) (b : Acc Ideal) : Prop where
  dq : ∀ r l, b.dq (ix2 r l) = a.dq (ix2 r l) + ∑ j ∈ Finset.range m, cq p x i j r l
  rs : ∀ r l, b.rs (ix2 r l) = a.rs (ix2 r l) + ∑ j ∈ Finset.range m, cr p x i j r l
  dk : ∀ j, j < 4 → ∀ s l, b.dk (ix2 (row j s) l) = a.dk (ix2 (row j s) l) + if j < m then ck p x i j s l else 0
  dv : ∀ j, j < 4 → ∀ s l, b.dv (ix2 (row j s) l) = a.dv (ix2 (row j s) l) + if j < m then cv p x i j s l else 0
  cs : ∀ j, j < 4 → ∀ h s, b.cs (ix2 (up h) (row j s)) = a.cs (ix2 (up h) (row j s)) + if j < m then cc p x i j h s else 0

/-- One more tile of a buffer: the tile put, or what was there. -/
theorem put_add {j m : ℕ} (a b c : EReal) (h : b = a + if j < m then c else 0) :
    (if j = m then b + c else b) = a + if j < m + 1 then c else 0 := by
  by_cases hjm : j = m
  · subst hjm
    rw [if_pos rfl, if_pos (Nat.lt_succ_self _), h, if_neg (lt_irrefl _), add_zero]
  · rw [if_neg hjm, h]
    congr 1
    exact if_congr (by omega) rfl rfl

theorem steps_to (i : Fin k0_t1_loop.trips) (a : Acc Ideal) : ∀ m, m ≤ i.val → StepsTo p x i.val a m (steps (words p) (qt p x i) x.k x.v x.ct i a m)
  | 0, _ => by
    constructor
    · intro r l; simp [steps]
    · intro r l; simp [steps]
    · intro j hj s l; simp [steps]
    · intro j hj s l; simp [steps]
    · intro j hj h s; simp [steps]
  | m + 1, hm => by
    have ih := steps_to i a m (by omega)
    have hi4 := lt4 i
    have hm4 : m < 4 := by omega
    have htr : m < (k0_t2_loop i).trips := by rw [t2_trips i]; omega
    have hji : m < i.val := by omega
    have o2 := off2_eq i ⟨m, htr⟩
    have o3 := off3_eq i ⟨m, htr⟩
    have o4 := off4_eq i ⟨m, htr⟩
    have hK : ∀ r l, window x.k (k0_off2 i ⟨m, htr⟩) S512x128.size (k0_off2_inb i ⟨m, htr⟩) (ix2 r l) = x.k (ix2 (row m r) l) :=
      fun r l => window_rows hm4 x.k o2 _ r l
    have hV : ∀ r l, window x.v (k0_off2 i ⟨m, htr⟩) S512x128.size (k0_off2_inb i ⟨m, htr⟩) (ix2 r l) = x.v (ix2 (row m r) l) :=
      fun r l => window_rows hm4 x.v o2 _ r l
    have hC : ∀ h r, window x.ct (k0_off3 i ⟨m, htr⟩) S8x512.size (k0_off3_inb i ⟨m, htr⟩) (ix2 h r) = x.ct (ix2 h (row m r)) :=
      fun h r => window_cols hm4 x.ct o3 _ h r
    have e := steps_succ (words p) (qt p x i) x.k x.v x.ct i a ⟨m, htr⟩
    rw [show (steps (words p) (qt p x i) x.k x.v x.ct i a (m + 1)) = _ from e]
    generalize steps (words p) (qt p x i) x.k x.v x.ct i a m = b at ih ⊢
    unfold below
    constructor
    · intro r l
      show dqStep _ _ _ _ _ _ _ = _
      rw [dqStep_tile p x i hK hV hC r hji, ih.dq, Finset.sum_range_succ, add_assoc]
    · intro r l
      show rsStep _ _ _ _ _ _ _ = _
      rw [rsStep_tile p x i hK hV hC r hji, ih.rs, Finset.sum_range_succ, add_assoc]
    · intro j hj s l
      show put _ _ _ _ _ = _
      rw [put_rows hm4 hj b.dk o2, dkStep_tile p x i hK hV hC s hji, window_rows hm4 b.dk o2]
      rw [← put_add _ _ _ (ih.dk j hj s l)]
      by_cases hjm : j = m
      · subst hjm; simp only [if_true]
      · rw [if_neg hjm, if_neg hjm]
    · intro j hj s l
      show put _ _ _ _ _ = _
      rw [put_rows hm4 hj b.dv o2, dvStep_tile p x i hK hC s hji, window_rows hm4 b.dv o2]
      rw [← put_add _ _ _ (ih.dv j hj s l)]
      by_cases hjm : j = m
      · subst hjm; simp only [if_true]
      · rw [if_neg hjm, if_neg hjm]
    · intro j hj h s
      show put _ _ _ _ _ = _
      rw [put_cs hm4 hj b.cs o4, csStep_tile p x i hK hV hC s hji, window_cs hm4 b.cs o4]
      rw [← put_add _ _ _ (ih.cs j hj h s)]
      by_cases hjm : j = m
      · subst hjm; simp only [if_true]
      · rw [if_neg hjm, if_neg hjm]

/-! ## One trip of the outer loop -/

/-- What query tile `i` makes of the buffers. -/
structure TripTo (i : ℕ) (a b : Outs Ideal) : Prop where
  dq : ∀ n, n < 4 → ∀ r l, b.dq (ix2 (row n r) l) = if n = i then (∑ j ∈ Finset.range 4, cq p x n j r l) * scale else a.dq (ix2 (row n r) l)
  dc : ∀ n, n < 4 → ∀ r l, b.dc (ix2 (row n r) l) = a.dc (ix2 (row n r) l) + if n = i then ∑ j ∈ Finset.range 4, cr p x n j r l else 0
  dk : ∀ j, j < 4 → ∀ s l, b.dk (ix2 (row j s) l) = a.dk (ix2 (row j s) l) + ck p x i j s l
  dv : ∀ j, j < 4 → ∀ s l, b.dv (ix2 (row j s) l) = a.dv (ix2 (row j s) l) + cv p x i j s l
  cs : ∀ j, j < 4 → ∀ h s, b.cs (ix2 (up h) (row j s)) = a.cs (ix2 (up h) (row j s)) + cc p x i j h s

theorem pay54_apply (r : Fin 512) (l : Fin 128) : k0_pay54 (F := Ideal) (Scalar.ofBits .f32 0x00000000#32) (ix2 r l) = 0 := by
  pointwise [k0_pay54]
theorem pay55_apply (r : Fin 512) (l : Fin 128) : k0_pay55 (F := Ideal) (ix2 r l) = 0 := by
  pointwise [k0_pay55]

/-- The diagonal's tile on top of those below it. -/
theorem diag_add {i j : ℕ} (a b c : EReal) (hz : i < j → c = 0) (h : b = a + if j < i then c else 0) :
    (if j = i then b + c else b) = a + c := by
  by_cases hji : j = i
  · subst hji
    rw [if_pos rfl, h, if_neg (lt_irrefl _), add_zero]
  · rw [if_neg hji, h]
    congr 1
    by_cases hlt : j < i
    · rw [if_pos hlt]
    · rw [if_neg hlt, hz (by omega)]

theorem trip_to (i : Fin k0_t1_loop.trips) (a : Outs Ideal) :
    TripTo p x i.val a (trip (words p) (k0_pay86 k0_pay84 k0_pay85) rowsN colsN x i a) := by
  have hi4 := lt4 i
  have ih := steps_to p x i ⟨k0_pay54 (Scalar.ofBits .f32 0x00000000#32), k0_pay55, a.dk, a.dv, a.cs⟩ i.val le_rfl
  have o1 := off1_eq i
  have o8 := off8_eq i
  have o9 := off9_eq i
  have hK : ∀ r l, window x.k (k0_off1 i) S512x128.size (k0_off1_inb i) (ix2 r l) = x.k (ix2 (row i r) l) := fun r l => window_rows hi4 x.k o1 _ r l
  have hV : ∀ r l, window x.v (k0_off1 i) S512x128.size (k0_off1_inb i) (ix2 r l) = x.v (ix2 (row i r) l) := fun r l => window_rows hi4 x.v o1 _ r l
  have hC : ∀ h r, window x.ct (k0_off8 i) S8x512.size (k0_off8_inb i) (ix2 h r) = x.ct (ix2 h (row i r)) := fun h r => window_cols hi4 x.ct o8 _ h r
  unfold trip tri
  rw [t2_trips i]
  generalize steps (words p) (qtile (words p) (k0_pay86 k0_pay84 k0_pay85) x i) x.k x.v x.ct i ⟨k0_pay54 (Scalar.ofBits .f32 0x00000000#32), k0_pay55, a.dk, a.dv, a.cs⟩ i.val = b at ih ⊢
  have hdq : ∀ r l, b.dq (ix2 r l) = ∑ j ∈ Finset.range i.val, cq p x i.val j r l := fun r l => by
    rw [ih.dq r l]
    show k0_pay54 (F := Ideal) (Scalar.ofBits .f32 0x00000000#32) (ix2 r l) + _ = _
    rw [pay54_apply, zero_add]
  have hrs : ∀ r l, b.rs (ix2 r l) = ∑ j ∈ Finset.range i.val, cr p x i.val j r l := fun r l => by
    rw [ih.rs r l]
    show k0_pay55 (F := Ideal) (ix2 r l) + _ = _
    rw [pay55_apply, zero_add]
  constructor
  · intro n hn r l
    show put _ _ _ _ _ = _
    rw [put_rows hi4 hn a.dq o1, dqDiag_tile p x i hK hV hC, hdq, ← Finset.sum_range_succ,
      sum_to_four hi4 (fun j => cq p x i j r l) fun j h4 hij => cq_above p x hi4 h4 hij r l]
    by_cases hni : n = i.val
    · rw [if_pos hni, if_pos hni, hni]
    · rw [if_neg hni, if_neg hni]
  · intro n hn r l
    show put _ _ _ _ _ = _
    rw [put_rows hi4 hn a.dc o1, pay79_apply, window_rows hi4 a.dc o1, rsDiag_tile p x i hK hV hC, hrs, ← Finset.sum_range_succ,
      sum_to_four hi4 (fun j => cr p x i j r l) fun j h4 hij => cr_above p x hi4 h4 hij r l]
    by_cases hni : n = i.val
    · rw [if_pos hni, if_pos hni, hni]
    · rw [if_neg hni, if_neg hni, add_zero]
  · intro j hj s l
    show put _ _ _ _ _ = _
    rw [put_rows hi4 hj b.dk o1, dkDiag_tile p x i hK hV hC, window_rows hi4 b.dk o1]
    rw [← diag_add _ _ _ (fun h => ck_above p x hi4 hj h s l) (ih.dk j hj s l)]
    by_cases hji : j = i.val
    · rw [if_pos hji, if_pos hji, hji]
    · rw [if_neg hji, if_neg hji]
  · intro j hj s l
    show put _ _ _ _ _ = _
    rw [put_rows hi4 hj b.dv o1, dvDiag_tile p x i hK hC, window_rows hi4 b.dv o1]
    rw [← diag_add _ _ _ (fun h => cv_above p x hi4 hj h s l) (ih.dv j hj s l)]
    by_cases hji : j = i.val
    · rw [if_pos hji, if_pos hji, hji]
    · rw [if_neg hji, if_neg hji]
  · intro j hj h s
    show put _ _ _ _ _ = _
    rw [put_cs hi4 hj b.cs o9, csDiag_tile p x i hK hV hC, window_cs hi4 b.cs o9]
    rw [← diag_add _ _ _ (fun hh => cc_above p x hi4 hj hh h s) (ih.cs j hj h s)]
    by_cases hji : j = i.val
    · rw [if_pos hji, if_pos hji, hji]
    · rw [if_neg hji, if_neg hji]

/-! ## The outer loop -/

/-- What the first `m` query tiles leave in the buffers. -/
structure TripsTo (m : ℕ) (b : Outs Ideal) : Prop where
  dq : ∀ n, n < m → ∀ r l, b.dq (ix2 (row n r) l) = (∑ j ∈ Finset.range 4, cq p x n j r l) * scale
  dc : ∀ n, n < 4 → ∀ r l, b.dc (ix2 (row n r) l) = if n < m then ∑ j ∈ Finset.range 4, cr p x n j r l else 0
  dk : ∀ j, j < 4 → ∀ s l, b.dk (ix2 (row j s) l) = ∑ i ∈ Finset.range m, ck p x i j s l
  dv : ∀ j, j < 4 → ∀ s l, b.dv (ix2 (row j s) l) = ∑ i ∈ Finset.range m, cv p x i j s l
  cs : ∀ j, j < 4 → ∀ h s, b.cs (ix2 (up h) (row j s)) = ∑ i ∈ Finset.range m, cc p x i j h s

theorem pay80_apply (r : Fin 2048) (l : Fin 128) : k0_pay80 (F := Ideal) (ix2 r l) = 0 := by
  pointwise [k0_pay80]
theorem pay81_apply (r : Fin 2048) (l : Fin 128) : k0_pay81 (F := Ideal) (ix2 r l) = 0 := by
  pointwise [k0_pay81]
theorem pay82_apply (r : Fin 2048) (l : Fin 128) : k0_pay82 (F := Ideal) (ix2 r l) = 0 := by
  pointwise [k0_pay82]
theorem pay83_apply (r : Fin 128) (l : Fin 2048) : k0_pay83 (F := Ideal) (ix2 r l) = 0 := by
  pointwise [k0_pay83]

theorem trips_to (d : Vec Ideal S2048x128 .bf16) : ∀ m, m ≤ 4 →
    TripsTo p x m (trips (words p) (k0_pay86 k0_pay84 k0_pay85) rowsN colsN x (start d) m)
  | 0, _ => by
    constructor
    · intro n hn; exact absurd hn (Nat.not_lt_zero _)
    · intro n hn r l
      rw [if_neg (Nat.not_lt_zero _)]
      exact pay82_apply (row n r) l
    · intro j hj s l
      rw [Finset.range_zero, Finset.sum_empty]
      exact pay80_apply (row j s) l
    · intro j hj s l
      rw [Finset.range_zero, Finset.sum_empty]
      exact pay81_apply (row j s) l
    · intro j hj h s
      rw [Finset.range_zero, Finset.sum_empty]
      exact pay83_apply (up h) (row j s)
  | m + 1, hm => by
    have ih := trips_to d m (by omega)
    have htr : m < k0_t1_loop.trips := by rw [trips_four]; omega
    have e := trips_succ (words p) (k0_pay86 k0_pay84 k0_pay85) rowsN colsN x (start d) ⟨m, htr⟩
    rw [show trips (words p) (k0_pay86 k0_pay84 k0_pay85) rowsN colsN x (start d) (m + 1) = _ from e]
    have tt := trip_to p x ⟨m, htr⟩ (trips (words p) (k0_pay86 k0_pay84 k0_pay85) rowsN colsN x (start d) m)
    constructor
    · intro n hn r l
      rw [tt.dq n (by omega)]
      by_cases hnm : n = m
      · rw [if_pos hnm]
      · rw [if_neg hnm, ih.dq n (by omega)]
    · intro n hn r l
      rw [tt.dc n hn, ih.dc n hn]
      by_cases hnm : n = m
      · rw [if_pos hnm, if_neg (by omega), if_pos (by omega), zero_add]
      · rw [if_neg hnm, add_zero]
        exact if_congr (by omega) rfl rfl
    · intro j hj s l
      rw [tt.dk j hj, ih.dk j hj, Finset.sum_range_succ]
    · intro j hj s l
      rw [tt.dv j hj, ih.dv j hj, Finset.sum_range_succ]
    · intro j hj h s
      rw [tt.cs j hj, ih.cs j hj, Finset.sum_range_succ]

/-! ## The end: sums over all queries and all keys -/

/-- The four tiles together are all rows. -/
theorem sum_rows (f : Fin 2048 → EReal) : ∑ i ∈ Finset.range 4, ∑ r, f (row i r) = ∑ t, f t := by
  rw [Finset.sum_range fun i => ∑ r, f (row i r), ← Fintype.sum_prod_type' fun (i : Fin 4) r => f (row i.val r)]
  refine Fintype.sum_equiv (finProdFinEquiv (m := 4) (n := 512)) _ _ fun y => ?_
  congr 1
  apply Fin.ext
  rw [row_val y.1.isLt]
  show _ = y.2.val + 512 * y.1.val
  omega

/-- Every row is one of a tile's. -/
theorem row_split (t : Fin 2048) : ∃ n, n < 4 ∧ ∃ r, t = row n r := by
  have ht := t.isLt
  refine ⟨t.val / 512, by omega, ⟨t.val % 512, Nat.mod_lt _ (by norm_num)⟩, Fin.ext ?_⟩
  rw [row_val (by omega)]
  show t.val = 512 * (t.val / 512) + t.val % 512
  omega

/-- What a grid point's buffers hold at the end. -/
structure EndsIn (b : Outs Ideal) : Prop where
  dq : ∀ t l, b.dq (ix2 t l) = (∑ s, sg p x (hd l) t s * x.k (ix2 s l)) * scale
  dk : ∀ s l, b.dk (ix2 s l) = ∑ t, sg p x (hd l) t s * (x.q (ix2 t l) * scale)
  dv : ∀ s l, b.dv (ix2 s l) = ∑ t, wt p x (hd l) t s * x.g (ix2 t l)
  dc : ∀ t l, b.dc (ix2 t l) = onLanes p l (∑ s, sg p x 0 t s) (∑ s, sg p x 1 t s)
  cs : ∀ h s, b.cs (ix2 (up h) s) = onRows p h (∑ t, sg p x 0 t s) (∑ t, sg p x 1 t s)

/-- Sums that sit on the heads' lanes, added up. -/
theorem sum_onLanes (n : ℕ) (l : Fin 128) (f g : ℕ → EReal) :
    ∑ i ∈ Finset.range n, onLanes p l (f i) (g i) = onLanes p l (∑ i ∈ Finset.range n, f i) (∑ i ∈ Finset.range n, g i) := by
  unfold onLanes
  rw [Finset.sum_add_distrib]
  congr 1 <;> split_ifs <;> simp

/-- Sums that sit on the heads' rows, added up. -/
theorem sum_onRows (n : ℕ) (h : Fin 8) (f g : ℕ → EReal) :
    ∑ i ∈ Finset.range n, onRows p h (f i) (g i) = onRows p h (∑ i ∈ Finset.range n, f i) (∑ i ∈ Finset.range n, g i) := by
  unfold onRows
  rw [Finset.sum_add_distrib]
  congr 1 <;> split_ifs <;> simp

theorem ends_in (d : Vec Ideal S2048x128 .bf16) : EndsIn p x (trips (words p) (k0_pay86 k0_pay84 k0_pay85) rowsN colsN x (start d) k0_t1_loop.trips) := by
  rw [trips_four]
  have h := trips_to p x d 4 le_rfl
  generalize trips (words p) (k0_pay86 k0_pay84 k0_pay85) rowsN colsN x (start d) 4 = b at h ⊢
  constructor
  · intro t l
    obtain ⟨n, hn, r, rfl⟩ := row_split t
    rw [h.dq n hn]
    unfold cq
    rw [sum_rows fun s => sg p x (hd l) (row n r) s * x.k (ix2 s l)]
  · intro s l
    obtain ⟨n, hn, r, rfl⟩ := row_split s
    rw [h.dk n hn]
    unfold ck
    rw [sum_rows fun t => sg p x (hd l) t (row n r) * (x.q (ix2 t l) * scale)]
  · intro s l
    obtain ⟨n, hn, r, rfl⟩ := row_split s
    rw [h.dv n hn]
    unfold cv
    rw [sum_rows fun t => wt p x (hd l) t (row n r) * x.g (ix2 t l)]
  · intro t l
    obtain ⟨n, hn, r, rfl⟩ := row_split t
    rw [h.dc n hn, if_pos hn]
    unfold cr
    rw [sum_onLanes p 4 l (fun j => ∑ s, sg p x 0 (row n r) (row j s)) fun j => ∑ s, sg p x 1 (row n r) (row j s),
      sum_rows fun s => sg p x 0 (row n r) s, sum_rows fun s => sg p x 1 (row n r) s]
  · intro k s
    obtain ⟨n, hn, r, rfl⟩ := row_split s
    rw [h.cs n hn]
    unfold cc
    rw [sum_onRows p 4 k (fun i => ∑ t, sg p x 0 (row i t) (row n r)) fun i => ∑ t, sg p x 1 (row i t) (row n r),
      sum_rows fun t => sg p x 0 t (row n r), sum_rows fun t => sg p x 1 t (row n r)]

/-! ## What a grid point fills -/

/-- The lane that holds row `h` of the columns' sums. -/
def lane8 (h : Fin 8) : Fin 128 := ⟨h.val + 8, by omega⟩

/-- What a grid point leaves in its four results. -/
structure Fills (y : Vec Ideal S2048x128 .bf16 × Vec Ideal S2048x128 .bf16 × Vec Ideal S2048x128 .bf16 × Vec Ideal S2048x128 .f32) : Prop where
  dq : ∀ t l, y.1 (ix2 t l) = (∑ s, sg p x (hd l) t s * x.k (ix2 s l)) * scale
  dk : ∀ s l, y.2.1 (ix2 s l) = ∑ t, sg p x (hd l) t s * (x.q (ix2 t l) * scale)
  dv : ∀ s l, y.2.2.1 (ix2 s l) = ∑ t, wt p x (hd l) t s * x.g (ix2 t l)
  dc : ∀ t h, y.2.2.2 (ix2 t (lane8 h))
    = onRows p h (∑ s, sg p x 0 t s) (∑ s, sg p x 1 t s) - onRows p h (∑ t', sg p x 0 t' t) (∑ t', sg p x 1 t' t)

theorem onLanes_lane8 (h : Fin 8) (a b : EReal) : onLanes p (lane8 h) a b = onRows p h a b := by
  unfold onLanes onRows
  congr 1
  · refine if_congr ?_ rfl rfl
    show h.val + 8 = 2 * p.val + 8 ↔ _
    omega
  · refine if_congr ?_ rfl rfl
    show h.val + 8 = 2 * p.val + 9 ↔ _
    omega

theorem fills (i : grid0.Coords) (hp : (i 1).val = p.val) : Fills p x (filled i x) := by
  have hw : pointWords i = words p := by
    unfold pointWords words
    rw [hp]
  have h := ends_in p x (k0_pay88 (F := Ideal) (k0_pay80 (F := Ideal)))
  unfold filled ended
  rw [hw]
  generalize trips (words p) (k0_pay86 k0_pay84 k0_pay85) rowsN colsN x (start (k0_pay88 (F := Ideal) (k0_pay80 (F := Ideal)))) k0_t1_loop.trips = b at h ⊢
  constructor
  · exact h.dq
  · intro s l
    rw [← h.dk]
    pointwise [k0_pay88]
  · intro s l
    rw [← h.dv]
    pointwise [k0_pay89]
  · intro t k
    rw [← onLanes_lane8, ← h.dc, ← h.cs]
    show k0_pay1 _ _ _ = _
    pointwise [k0_pay1]
    refine congrArg (fun y => b.dc (ix2 t (lane8 k)) - b.cs (ix2 y t)) (Fin.ext ?_)
    show (k.val + 8 + 128 - 8) % 128 = k.val
    omega

end Cert.FoxIdeal.Walk

end
-- ==== Proof.FoxHost.lean ====
module

public import proofs.«01_k».proof.Proof.FoxRun
public import proofs.«01_k».proof.Proof.Gen.FoxRefIdeal.Read
public import Idealize.ShloMosaic.Lib.Pointwise
public import Idealize.ShloMosaic.Lib.Claim

/-!
  What the gradient of the forgetting attention finds in its operands when it starts.

  The host lines before the call compute the forward's two saved arrays (the attention's output and the logarithm of
  each row's sum of exponentials), place queries, keys and values in one wide projection, and pad the cumulated gates
  to whole lane tiles. Each operand is named here as the composition of those lines, and read at an index.
-/

@[expose] public section

set_option maxRecDepth 65536

noncomputable section

namespace Cert.FoxIdeal.Host

open Cert.FoxIdeal Cert.FoxIdeal.Gen
open Idealize.ShloMosaic Idealize.ShloMosaic.TcCoe
open Cert.FoxRefIdeal.Read (val_main_v20_0 val_main_v21 val_main_v2)

variable (m : (ℓ : Loc nD τ sig) → Buf (Elt Ideal) ℓ) (c : Dev nD)

/-- An array of the extended reals. -/
abbrev Arr (s : Shape) := (⟨s, .f32⟩ : BufTy).Contents (Elt Ideal)

/-- The queries. -/
abbrev aq : Arr S8192x384 := m ((c.tc : Thread nD τ).loc main_arg0)
/-- The keys. -/
abbrev ak : Arr S8192x384 := m ((c.tc : Thread nD τ).loc main_arg1)
/-- The values. -/
abbrev av : Arr S8192x384 := m ((c.tc : Thread nD τ).loc main_arg2)
/-- The cumulated gates. -/
abbrev au : Arr S4x6x2048 := m ((c.tc : Thread nD τ).loc main_arg3)
/-- The output's cotangent. -/
abbrev ag : Arr S8192x384 := m ((c.tc : Thread nD τ).loc main_arg4)

/-- A row's largest logit, spread over the keys' axis of length one. -/
def top (q k : Arr S8192x384) (u : Arr S4x6x2048) : Arr S4x6x2048x1 :=
  broadcastInDim S4x6x2048x1 ![0, 1, 2] bcast_S4x6x2048_S4x6x2048x1_0_1_2 (val_main_v21 (F := Ideal) q k u)
/-- The exponential of a masked logit less its row's largest. -/
def raised (q k : Arr S8192x384) (u : Arr S4x6x2048) : Arr S4x6x2048x2048 :=
  Host.exp (F := Ideal) (φ := .f32) (subf (F := Ideal) (φ := .f32) (val_main_v20_0 (F := Ideal) q k u)
    (broadcastInDim S4x6x2048x2048 ![0, 1, 2, 3] bcast_S4x6x2048x1_S4x6x2048x2048_0_1_2_3 (top q k u)))
/-- The row's sum of those. -/
def total (q k : Arr S8192x384) (u : Arr S4x6x2048) : Arr S4x6x2048x1 :=
  broadcastInDim S4x6x2048x1 ![0, 1, 2] bcast_S4x6x2048_S4x6x2048x1_0_1_2
    (Host.reduceAdd (F := Ideal) (φ := .f32) (raised q k u) (constant S_ .f32 0x00000000#32) reducesTo_S4x6x2048x2048_S4x6x2048_d3 h_S_ : Arr S4x6x2048)
/-- The attention's weights. -/
def weights (q k : Arr S8192x384) (u : Arr S4x6x2048) : Arr S4x6x2048x2048 :=
  Host.divf (F := Ideal) (φ := .f32) (raised q k u)
    (broadcastInDim S4x6x2048x2048 ![0, 1, 2, 3] bcast_S4x6x2048x1_S4x6x2048x2048_0_1_2_3 (total q k u))
/-- The attention's output. -/
def output (q k v : Arr S8192x384) (u : Arr S4x6x2048) : Arr S8192x384 :=
  shapeCast (s := S4x2048x6x64) (α := Elt Ideal .f32) S8192x384
    (transpose S4x2048x6x64 [0, 3, 1, 2]
      (Host.dotGeneral (F := Ideal) (φ₁ := .f32) (φ₂ := .f32) dot_S4x2048x6x64_S4x6x2048x2048_S4x6x64x2048_1_3_3_2_02_01 none
        (val_main_v2 (F := Ideal) v) (weights q k u) : Arr S4x6x64x2048)
      transposes_S4x6x64x2048_S4x2048x6x64_0_3_1_2)
    shapeCasts_S4x2048x6x64_S8192x384
/-- The logarithm of a row's sum of exponentials. -/
def logs (q k : Arr S8192x384) (u : Arr S4x6x2048) : Arr S4x6x2048 :=
  shapeCast (s := S4x6x2048x1) (α := Elt Ideal .f32) S4x6x2048
    (addf (F := Ideal) (φ := .f32) (top q k u) (Host.log (F := Ideal) (φ := .f32) (total q k u))) shapeCasts_S4x6x2048x1_S4x6x2048
/-- The wide projection: zeros, queries, keys, values. -/
def wide (q k v : Arr S8192x384) : Arr S8192x3072 :=
  concatenate S8192x3072 1 [⟨S8192x1920, (broadcastInDim S8192x1920 ![] bcast_S_S8192x1920 (constant S_ .f32 0x00000000#32 : FVec Ideal S_ .f32) : FVec Ideal S8192x1920 .f32)⟩,
    ⟨S8192x384, q⟩, ⟨S8192x384, k⟩, ⟨S8192x384, v⟩] concatenates_S8192x1920_S8192x384_S8192x384_S8192x384_S8192x3072_d1
/-- The zero that pads an array. -/
def blank : Arr S_ := (sitofp .f32 (constantI S_ 32 0#32) : FVec Ideal S_ .f32)
/-- The gates by token, padded to a lane tile from lane 8 on. -/
def byToken (u : Arr S4x6x2048) : Arr S8192x128 :=
  pad S8192x128 ![0, 8] ![0, 114] ![0, 0]
    (shapeCast (s := S4x2048x6) (α := Elt Ideal .f32) S8192x6 (transpose S4x2048x6 [0, 2, 1] u transposes_S4x6x2048_S4x2048x6_0_2_1) shapeCasts_S4x2048x6_S8192x6)
    blank pads_S8192x6_S8192x128_000_81140 h_S_
/-- The gates by head, each sequence's heads padded to a sublane tile. -/
def byHead (u : Arr S4x6x2048) : Arr S32x2048 :=
  shapeCast (s := S4x8x2048) (α := Elt Ideal .f32) S32x2048
    (pad S4x8x2048 ![0, 0, 0] ![0, 2, 0] ![0, 0, 0] u blank pads_S4x6x2048_S4x8x2048_000_020_000 h_S_) shapeCasts_S4x8x2048_S32x2048
/-- An array of rows by token, each pair of heads padded to a lane tile. -/
def pairTiles (y : Arr S4x6x2048) : Arr S8192x384 :=
  shapeCast (s := S8192x3x128) (α := Elt Ideal .f32) S8192x384
    (pad S8192x3x128 ![0, 0, 0] ![0, 0, 126] ![0, 0, 0]
      (shapeCast (s := S8192x6) (α := Elt Ideal .f32) S8192x3x2
        (shapeCast (s := S4x2048x6) (α := Elt Ideal .f32) S8192x6
          (transpose S4x2048x6 [0, 2, 1] y transposes_S4x6x2048_S4x2048x6_0_2_1) shapeCasts_S4x2048x6_S8192x6)
        shapeCasts_S8192x6_S8192x3x2)
      blank pads_S8192x3x2_S8192x3x128_000_000_01260 h_S_)
    shapeCasts_S8192x3x128_S8192x384

/-- The rows' logarithms by token, each pair of heads padded to a lane tile. -/
def logsByToken (q k : Arr S8192x384) (u : Arr S4x6x2048) : Arr S8192x384 := pairTiles (logs q k u)

theorem V_byToken : V m c main_v40 = byToken (au m c) := by
  unfold_abbrev_sides
  simp only [List.flatten_cons, List.flatten_nil, List.append_nil, List.cons_append, List.nil_append, StableHlo.TRef.nullary, StableHlo.TRef.ternary, StableHlo.TRef.unary, StableHlo.TRef.binary, StableHlo.TRef.toBuf, StableHlo.TRef.ofBuf, cast_eq]
  after_results_simp
  unfold byToken blank
  rfl

theorem V_byHead : V m c main_v42 = byHead (au m c) := by
  unfold_abbrev_sides
  simp only [List.flatten_cons, List.flatten_nil, List.append_nil, List.cons_append, List.nil_append, StableHlo.TRef.nullary, StableHlo.TRef.ternary, StableHlo.TRef.unary, StableHlo.TRef.binary, StableHlo.TRef.toBuf, StableHlo.TRef.ofBuf, cast_eq]
  after_results_simp
  unfold byHead blank
  rfl

theorem V_wide : V m c main_v37 = wide (aq m c) (ak m c) (av m c) := by
  unfold_abbrev_sides
  simp only [List.flatten_cons, List.flatten_nil, List.append_nil, List.cons_append, List.nil_append, StableHlo.TRef.nullary, StableHlo.TRef.ternary, StableHlo.TRef.unary, StableHlo.TRef.binary, StableHlo.TRef.toBuf, StableHlo.TRef.ofBuf, cast_eq]
  after_results_simp
  unfold wide
  rfl

theorem V_logs : V m c main_v47 = logsByToken (aq m c) (ak m c) (au m c) := by
  unfold_abbrev_sides
  simp only [List.flatten_cons, List.flatten_nil, List.append_nil, List.cons_append, List.nil_append, StableHlo.TRef.nullary, StableHlo.TRef.ternary, StableHlo.TRef.unary, StableHlo.TRef.binary, StableHlo.TRef.toBuf, StableHlo.TRef.ofBuf, cast_eq]
  after_results_simp
  unfold logsByToken pairTiles blank logs total raised top val_main_v21 val_main_v20_0
  rfl

theorem V_output : V m c main_v32 = output (aq m c) (ak m c) (av m c) (au m c) := by
  unfold_abbrev_sides
  simp only [List.flatten_cons, List.flatten_nil, List.append_nil, List.cons_append, List.nil_append, StableHlo.TRef.nullary, StableHlo.TRef.ternary, StableHlo.TRef.unary, StableHlo.TRef.binary, StableHlo.TRef.toBuf, StableHlo.TRef.ofBuf, cast_eq]
  after_results_simp
  unfold output weights total raised top val_main_v21 val_main_v20_0
  rfl

end Cert.FoxIdeal.Host

end
-- ==== Proof.FoxRead.lean ====
module

public import proofs.«01_k».proof.Proof.FoxHost

/-!
  The operands of the gradient of the forgetting attention read at an index: each is an entry of an argument, or of
  the weights and logarithms the forward saved.
-/

@[expose] public section

set_option maxRecDepth 16384

noncomputable section

namespace Cert.FoxIdeal.Host

open Cert.FoxIdeal Cert.FoxIdeal.Gen
open Idealize.ShloMosaic Idealize.ShloMosaic.TcCoe
open Cert.FoxRefIdeal.Read (val_main_v20_0 val_main_v21 val_main_v2)

/-- Position `s` of sequence `b` among the tokens. -/
def tok (b : Fin 4) (s : Fin 2048) : Fin 8192 := ⟨2048 * b.val + s.val, by omega⟩
/-- Entry `e` of head `h` among the lanes. -/
def lane (h : Fin 6) (e : Fin 64) : Fin 384 := ⟨64 * h.val + e.val, by omega⟩

theorem tok_div (b : Fin 4) (s : Fin 2048) (h) : (⟨(tok b s).val / 2048, h⟩ : Fin 4) = b :=
  Fin.ext (by show (2048 * b.val + s.val) / 2048 = b.val; omega)
theorem tok_mod (b : Fin 4) (s : Fin 2048) (h) : (⟨(tok b s).val % 2048, h⟩ : Fin 2048) = s :=
  Fin.ext (by show (2048 * b.val + s.val) % 2048 = s.val; omega)

variable (q k v : Arr S8192x384) (u : Arr S4x6x2048)

theorem wide_q (r : Fin 8192) (l : Fin 384) (n : Fin 3072) (hn : n.val = 1920 + l.val) : wide q k v (ix2 r n) = q (ix2 r l) := by
  have e : n = ⟨1920 + l.val, by omega⟩ := Fin.ext hn
  rw [e]
  pointwise [wide]

theorem wide_k (r : Fin 8192) (l : Fin 384) (n : Fin 3072) (hn : n.val = 2304 + l.val) : wide q k v (ix2 r n) = k (ix2 r l) := by
  have e : n = ⟨2304 + l.val, by omega⟩ := Fin.ext hn
  rw [e]
  pointwise [wide]
  rw [dif_neg (by omega), dif_neg (by omega), dif_pos (by omega)]
  exact congrArg (fun y => k (ix2 r y)) (Fin.ext (by show 2304 + l.val - 1920 - 384 = l.val; omega))

theorem wide_v (r : Fin 8192) (l : Fin 384) (n : Fin 3072) (hn : n.val = 2688 + l.val) : wide q k v (ix2 r n) = v (ix2 r l) := by
  have e : n = ⟨2688 + l.val, by omega⟩ := Fin.ext hn
  rw [e]
  pointwise [wide]
  rw [dif_neg (by omega), dif_neg (by omega), dif_neg (by omega)]
  exact congrArg (fun y => v (ix2 r y)) (Fin.ext (by show 2688 + l.val - 1920 - 384 - 384 = l.val; omega))

theorem byToken_at (b : Fin 4) (h : Fin 6) (s : Fin 2048) (n : Fin 128) (hn : n.val = 8 + h.val) :
    byToken u (ix2 (tok b s) n) = u (ix3 b h s) := by
  have e : n = ⟨8 + h.val, by omega⟩ := Fin.ext hn
  rw [e]
  pointwise [byToken]
  rw [tok_div, tok_mod]

theorem byHead_at (b : Fin 4) (h : Fin 6) (s : Fin 2048) (n : Fin 32) (hn : n.val = 8 * b.val + h.val) :
    byHead u (ix2 n s) = u (ix3 b h s) := by
  have e : n = ⟨8 * b.val + h.val, by omega⟩ := Fin.ext hn
  rw [e]
  have hm : (8 * b.val + h.val) % 8 = h.val := by omega
  pointwise [byHead]
  rw [dif_pos (by omega)]
  exact congrArg (fun y => u (ix3 b y s)) (Fin.ext hm)

theorem read3 (y : Arr S4x6x2048) {b b' : Fin 4} {h h' : Fin 6} {s s' : Fin 2048} (eb : b = b') (eh : h = h') (es : s = s') :
    y (ix3 b h s) = y (ix3 b' h' s') := by subst eb eh es; rfl

theorem pairTiles_at (y : Arr S4x6x2048) (b : Fin 4) (h : Fin 6) (p : Fin 3) (j : Fin 2) (hh : h.val = 2 * p.val + j.val) (s : Fin 2048) (n : Fin 384)
    (hn : n.val = 128 * p.val + j.val) : pairTiles y (ix2 (tok b s) n) = y (ix3 b h s) := by
  have e : n = ⟨128 * p.val + j.val, by omega⟩ := Fin.ext hn
  rw [e]
  have hm : (128 * p.val + j.val) % 128 = j.val := by omega
  pointwise [pairTiles]
  rw [dif_pos (by omega)]
  exact read3 y (tok_div b s _) (Fin.ext (by show p.val * 2 + (128 * p.val + j.val) % 128 = h.val; omega)) (tok_mod b s _)

theorem logsByToken_at (b : Fin 4) (h : Fin 6) (p : Fin 3) (j : Fin 2) (hh : h.val = 2 * p.val + j.val) (s : Fin 2048) (n : Fin 384)
    (hn : n.val = 128 * p.val + j.val) : logsByToken q k u (ix2 (tok b s) n) = logs q k u (ix3 b h s) :=
  pairTiles_at (logs q k u) b h p j hh s n hn

theorem output_at (b : Fin 4) (h : Fin 6) (e : Fin 64) (s : Fin 2048) :
    output q k v u (ix2 (tok b s) (lane h e)) = ∑ x, v (ix2 (tok b x) (lane h e)) * weights q k u (ix4 b h s x) := by
  unfold lane
  pointwise [output, val_main_v2]
  rw [tok_div, tok_mod]
  refine Finset.sum_congr rfl fun x _ => ?_
  have ht : (⟨(tok b s).val / 2048 * 2048 + x.val, by have := (tok b s).isLt; have := x.isLt; omega⟩ : Fin 8192) = tok b x :=
    Fin.ext (by show (2048 * b.val + s.val) / 2048 * 2048 + x.val = 2048 * b.val + x.val; omega)
  have e' : (⟨h.val * 64 + e.val, by omega⟩ : Fin 384) = ⟨64 * h.val + e.val, by omega⟩ := Fin.ext (by show h.val * 64 + e.val = 64 * h.val + e.val; omega)
  rw [ht, e']

theorem raised_at (b : Fin 4) (h : Fin 6) (t s : Fin 2048) :
    raised q k u (ix4 b h t s) = Ideal.exp (val_main_v20_0 (F := Ideal) q k u (ix4 b h t s) - val_main_v21 (F := Ideal) q k u (ix3 b h t)) := by
  pointwise [raised, top]

theorem weights_at (b : Fin 4) (h : Fin 6) (t s : Fin 2048) :
    weights q k u (ix4 b h t s) = Ideal.div (raised q k u (ix4 b h t s)) (∑ x, raised q k u (ix4 b h t x)) := by
  pointwise [weights, total]

theorem total_at (b : Fin 4) (h : Fin 6) (t : Fin 2048) : total q k u (ix4 b h t 0) = ∑ x, raised q k u (ix4 b h t x) := by
  pointwise [total]

theorem top_at (b : Fin 4) (h : Fin 6) (t : Fin 2048) : top q k u (ix4 b h t 0) = val_main_v21 (F := Ideal) q k u (ix3 b h t) := by
  pointwise [top]

/-- Dropping the keys' axis of length one. -/
theorem drop_unit (y : Arr S4x6x2048x1) (i : S4x6x2048.Idx) :
    shapeCast (s := S4x6x2048x1) (α := Elt Ideal .f32) S4x6x2048 y shapeCasts_S4x6x2048x1_S4x6x2048 i = y (ix4 (i 0) (i 1) (i 2) 0) :=
  shapeCast_apply y shapeCasts_S4x6x2048x1_S4x6x2048 i (ix4 (i 0) (i 1) (i 2) 0) (by
    rewrite [Shape.rowMajor_val_three, Shape.rowMajor_val_four]
    show (((i 0).val * 6 + (i 1).val) * 2048 + (i 2).val) * 1 + 0 = ((i 0).val * 6 + (i 1).val) * 2048 + (i 2).val
    omega)

theorem logs_sum (y z : Arr S4x6x2048x1) (b : Fin 4) (h : Fin 6) (t : Fin 2048) :
    shapeCast (s := S4x6x2048x1) (α := Elt Ideal .f32) S4x6x2048
      (addf (F := Ideal) (φ := .f32) y (Host.log (F := Ideal) (φ := .f32) z)) shapeCasts_S4x6x2048x1_S4x6x2048 (ix3 b h t)
      = y (ix4 b h t 0) + Ideal.log (z (ix4 b h t 0)) :=
  drop_unit _ _

theorem logs_at (b : Fin 4) (h : Fin 6) (t : Fin 2048) :
    logs q k u (ix3 b h t) = val_main_v21 (F := Ideal) q k u (ix3 b h t) + Ideal.log (∑ x, raised q k u (ix4 b h t x)) :=
  (logs_sum (top q k u) (total q k u) b h t).trans (congrArg₂ (fun y z => y + Ideal.log z) (top_at q k u b h t) (total_at q k u b h t))

end Cert.FoxIdeal.Host

end
-- ==== Proof.FoxStages.lean ====
module

public import proofs.«01_k».proof.Proof.FoxRead
public import proofs.«01_k».proof.Proof.Reals

/-!
  The reference's stages read at an index, over the extended reals.
-/

@[expose] public section

set_option maxRecDepth 16384

noncomputable section

namespace Cert.FoxIdeal.Host

open Cert.FoxIdeal.Gen
open Idealize.ShloMosaic Idealize.ShloMosaic.TcCoe
open Cert.FoxRefIdeal Cert.FoxRefIdeal.Read

variable (q k v g : Arr S8192x384) (u : Arr S4x6x2048) (b : Fin 4) (h : Fin 6) (t s : Fin 2048) (e : Fin 64)

theorem negInf : Ideal.ofBits FTy.f32 4286578688#32 = (⊥ : EReal) := by simp [Ideal.ofBits, Ideal.ieee]

theorem tok_alt (h') : (⟨b.val * 2048 + t.val, h'⟩ : Fin 8192) = tok b t := Fin.ext (by show b.val * 2048 + t.val = 2048 * b.val + t.val; omega)
theorem lane_alt (h') : (⟨h.val * 64 + e.val, h'⟩ : Fin 384) = lane h e := Fin.ext (by show h.val * 64 + e.val = 64 * h.val + e.val; omega)

/-- The comparison of two positions. -/
theorem later_dec (x y : Fin 2048) : IntOp.cmpi .sge (BitVec.ofNat 32 x.val) (BitVec.ofNat 32 y.val) = BitVec.ofBool (decide (y ≤ x)) := by
  have hx := x.isLt
  have hy := y.isLt
  have e1 : (BitVec.ofNat 32 x.val).toInt = x.val := by
    rw [BitVec.toInt_eq_toNat_of_lt] <;> rw [BitVec.toNat_ofNat, Nat.mod_eq_of_lt (by omega)] <;> omega
  have e2 : (BitVec.ofNat 32 y.val).toInt = y.val := by
    rw [BitVec.toInt_eq_toNat_of_lt] <;> rw [BitVec.toNat_ofNat, Nat.mod_eq_of_lt (by omega)] <;> omega
  show BitVec.ofBool ((BitVec.ofNat 32 y.val).sle (BitVec.ofNat 32 x.val)) = _
  congr 1
  unfold BitVec.sle
  rw [e1, e2]
  simp only [Nat.cast_le, Fin.le_def]

theorem pick {α : Type} (p : Prop) [Decidable p] (x y : α) : Scalar.select (BitVec.ofBool (decide p)) x y = if p then x else y := by
  by_cases hp : p <;> simp [hp, Scalar.select]

theorem mask_at : val_main_v20_1 (F := Ideal) (ix4 b h t s) = BitVec.ofBool (decide (s ≤ t)) := by
  pointwise [val_main_v20_1, val_main_v19, val_main_v18, val_main_v17, val_main_v16, val_main_v15, val_main_v14, val_main_v13, val_main_v12]
  exact later_dec t s

theorem logit_at : val_main_v11 (F := Ideal) q k u (ix4 b h t s)
    = (∑ e, q (ix2 (tok b t) (lane h e)) * k (ix2 (tok b s) (lane h e))) * Ideal.ofBits FTy.f32 1040187392#32 + u (ix3 b h t) - u (ix3 b h s) := by
  pointwise [val_main_v11, val_main_v10, val_main_v9, val_main_v8, val_main_v7, val_main_v6, val_main_v5, val_main_v4, val_main_v3, val_main_v1, val_main_v0, val_main_cst]
  simp only [tok_alt, lane_alt]

theorem fill_at : val_main_call0_v2 (F := Ideal) (ix4 b h t s) = ⊥ := by
  pointwise [val_main_call0_v2, val_main_call0_v0, val_main_cst_0]
  exact negInf

theorem masked_at : val_main_v20_0 (F := Ideal) q k u (ix4 b h t s) = if s ≤ t then val_main_v11 (F := Ideal) q k u (ix4 b h t s) else ⊥ := by
  rw [val_main_v20_0_apply, mask_at, fill_at]
  exact pick _ _ _

theorem max_at : val_main_v21 (F := Ideal) q k u (ix3 b h t) = Finset.fold max ⊥ (fun x => val_main_v20_0 (F := Ideal) q k u (ix4 b h t x)) Finset.univ := by
  pointwise [val_main_v21, val_main_cst_1]
  rw [negInf]

/-- The row's largest logit is not below the bottom. -/
theorem top_spread (y : Arr S4x6x2048) : broadcastInDim S4x6x2048x2048 ![0, 1, 2, 3] bcast_S4x6x2048x1_S4x6x2048x2048_0_1_2_3
      (broadcastInDim S4x6x2048x1 ![0, 1, 2] bcast_S4x6x2048_S4x6x2048x1_0_1_2 (maximumf (F := Ideal) (φ := .f32) (val_main_v27 (F := Ideal)) y : Arr S4x6x2048) : Arr S4x6x2048x1) (ix4 b h t s)
    = y (ix3 b h t) := by
  pointwise [val_main_v27, val_main_cst_3]
  rw [negInf]
  exact bot_sup_eq _

theorem raise_at : val_main_v41 (F := Ideal) q k u (ix4 b h t s)
    = Ideal.exp (val_main_v20_0 (F := Ideal) q k u (ix4 b h t s) - val_main_v21 (F := Ideal) q k u (ix3 b h t)) := by
  have e := top_spread b h t s (val_main_v21 (F := Ideal) q k u)
  rw [val_main_v41_apply, val_main_v40_apply]
  unfold val_main_v39 val_main_v38 val_main_v28
  rw [e]
  rfl

theorem mass_at (i : Fin 1) : val_main_v43 (F := Ideal) q k u (ix4 b h t i) = ∑ x, val_main_v41 (F := Ideal) q k u (ix4 b h t x) := by
  pointwise [val_main_v43, val_main_v42, val_main_cst_9]

theorem prob_at : val_main_v45 (F := Ideal) q k u (ix4 b h t s)
    = Ideal.div (val_main_v41 (F := Ideal) q k u (ix4 b h t s)) (∑ x, val_main_v41 (F := Ideal) q k u (ix4 b h t x)) := by
  pointwise [val_main_v45, val_main_v44, val_main_v43, val_main_v42, val_main_cst_9]

theorem square_at : val_main_v57 (F := Ideal) q k u (ix4 b h t s)
    = Ideal.div 1 ((∑ x, val_main_v41 (F := Ideal) q k u (ix4 b h t x)) * ∑ x, val_main_v41 (F := Ideal) q k u (ix4 b h t x)) := by
  pointwise [val_main_v57, val_main_v48, val_main_v47, val_main_v46, val_main_v43, val_main_v42, val_main_cst_9, val_main_cst_10]

theorem score_at : val_main_v54 (F := Ideal) v g (ix4 b h t s) = ∑ e, g (ix2 (tok b t) (lane h e)) * v (ix2 (tok b s) (lane h e)) := by
  pointwise [val_main_v54, val_main_v53, val_main_v52, val_main_v2]
  simp only [tok_alt, lane_alt]

theorem dot_at : val_main_v60 (F := Ideal) q k v u g (ix3 b h t) = ∑ x, val_main_v54 (F := Ideal) v g (ix4 b h t x) * val_main_v57 (F := Ideal) q k u (ix4 b h t x) * val_main_v41 (F := Ideal) q k u (ix4 b h t x) := by
  pointwise [val_main_v60, val_main_v59, val_main_v58, val_main_cst_11]

theorem quot_at : val_main_v64 (F := Ideal) q k v u g (ix4 b h t s)
    = Ideal.div (val_main_v54 (F := Ideal) v g (ix4 b h t s)) (∑ x, val_main_v41 (F := Ideal) q k u (ix4 b h t x)) := by
  pointwise [val_main_v64, val_main_v63, val_main_v43, val_main_v42, val_main_cst_9]

end Cert.FoxIdeal.Host

end
-- ==== Proof.FoxResults.lean ====
module

public import proofs.«01_k».proof.Proof.FoxStages

/-!
  The reference's four results read at an index, over the extended reals.
-/

@[expose] public section

set_option maxRecDepth 16384

noncomputable section

namespace Cert.FoxIdeal.Host

open Cert.FoxRefIdeal.Gen
open Idealize.ShloMosaic Idealize.ShloMosaic.TcCoe
open Cert.FoxRefIdeal Cert.FoxRefIdeal.Read

variable (q k v g : Arr S8192x384) (u : Arr S4x6x2048) (b : Fin 4) (h : Fin 6) (t s : Fin 2048) (e : Fin 64)

theorem tok_near (x : Fin 2048) (h') : (⟨(tok b s).val / 2048 * 2048 + x.val, h'⟩ : Fin 8192) = tok b x :=
  Fin.ext (by show (2048 * b.val + s.val) / 2048 * 2048 + x.val = 2048 * b.val + x.val; omega)
theorem lane_def (h') : (⟨64 * h.val + e.val, h'⟩ : Fin 384) = lane h e := rfl

/-- Adding an axis of length one, negating, and summing that axis away negates. -/
theorem neg_unit (y : Arr S4x6x2048) : Host.reduceAdd (F := Ideal) (φ := .f32) (Host.negf (F := Ideal) (φ := .f32) (shapeCast (s := S4x6x2048) (α := Elt Ideal .f32) S4x6x2048x1 y shapeCasts_S4x6x2048_S4x6x2048x1))
    (val_main_cst_12 (F := Ideal)) reducesTo_S4x6x2048x1_S4x6x2048_d3 h_S_ (ix3 b h t) = - y (ix3 b h t) := by
  pointwise [val_main_cst_12]
  exact Fin.sum_univ_one _

theorem mean_at : val_main_v65 (F := Ideal) q k v u g (ix3 b h t) = - val_main_v60 (F := Ideal) q k v u g (ix3 b h t) := by
  unfold val_main_v65 val_main_v62 val_main_v61
  exact neg_unit b h t _

theorem spread_at : val_main_v66 (F := Ideal) q k v u g (ix4 b h t s) = val_main_v65 (F := Ideal) q k v u g (ix3 b h t) := by
  pointwise [val_main_v66]

theorem grad_at : val_main_v69 (F := Ideal) q k v u g (ix4 b h t s)
    = if s ≤ t then (val_main_v64 (F := Ideal) q k v u g (ix4 b h t s) + - val_main_v60 (F := Ideal) q k v u g (ix3 b h t)) * val_main_v41 (F := Ideal) q k u (ix4 b h t s) else 0 := by
  have z : val_main_call1_v0 (F := Ideal) (ix4 b h t s) = 0 := by
    pointwise [val_main_call1_v0, val_main_call1_cst]
  rw [val_main_v69_apply, mask_at, z, pick, val_main_v68_apply, val_main_v67_apply, spread_at, mean_at]
  rfl

theorem cols_at : val_main_v71 (F := Ideal) q k v u g (ix3 b h s) = ∑ t, - val_main_v69 (F := Ideal) q k v u g (ix4 b h t s) := by
  pointwise [val_main_v71, val_main_v70, val_main_cst_13]

/-- Adding an axis of length one before the last and summing it away changes nothing. -/
theorem same_unit (y : Arr S4x6x2048) : Host.reduceAdd (F := Ideal) (φ := .f32) (shapeCast (s := S4x6x2048) (α := Elt Ideal .f32) S4x6x1x2048 y shapeCasts_S4x6x2048_S4x6x1x2048)
    (val_main_cst_14 (F := Ideal)) reducesTo_S4x6x1x2048_S4x6x2048_d2 h_S_ (ix3 b h t) = y (ix3 b h t) := by
  pointwise [val_main_cst_14]
  exact Fin.sum_univ_one _

/-- Adding an axis of length one at the end and summing it away changes nothing. -/
theorem same_unit_last (y : Arr S4x6x2048) : Host.reduceAdd (F := Ideal) (φ := .f32) (shapeCast (s := S4x6x2048) (α := Elt Ideal .f32) S4x6x2048x1 y shapeCasts_S4x6x2048_S4x6x2048x1)
    (val_main_cst_16 (F := Ideal)) reducesTo_S4x6x2048x1_S4x6x2048_d3 h_S_ (ix3 b h t) = y (ix3 b h t) := by
  pointwise [val_main_cst_16]
  exact Fin.sum_univ_one _

theorem rows_at : val_main_v74 (F := Ideal) q k v u g (ix3 b h t) = ∑ s, val_main_v69 (F := Ideal) q k v u g (ix4 b h t s) := by
  pointwise [val_main_v74, val_main_cst_15]

theorem gates_at : val_main_v77 (F := Ideal) q k v u g (ix3 b h t)
    = (∑ t', - val_main_v69 (F := Ideal) q k v u g (ix4 b h t' t)) + ∑ s, val_main_v69 (F := Ideal) q k v u g (ix4 b h t s) := by
  rw [val_main_v77_apply, ← cols_at, ← rows_at]
  unfold val_main_v73 val_main_v76 val_main_v72 val_main_v75
  rw [same_unit, same_unit_last]
  rfl

theorem scaled_at : val_main_v79 (F := Ideal) q k v u g (ix4 b h t s) = val_main_v69 (F := Ideal) q k v u g (ix4 b h t s) * Ideal.ofBits FTy.f32 1040187392#32 := by
  pointwise [val_main_v79, val_main_v78, val_main_cst_17]

theorem result_q : val_main_v87 (F := Ideal) q k v u g (ix2 (tok b t) (lane h e))
    = ∑ s, val_main_v79 (F := Ideal) q k v u g (ix4 b h t s) * k (ix2 (tok b s) (lane h e)) := by
  unfold lane
  pointwise [val_main_v87, val_main_v86, val_main_v83, val_main_v82, val_main_v1]
  simp only [tok_near, tok_div, tok_mod, lane_alt, lane_def]

theorem result_k : val_main_v88 (F := Ideal) q k v u g (ix2 (tok b s) (lane h e))
    = ∑ t, val_main_v79 (F := Ideal) q k v u g (ix4 b h t s) * q (ix2 (tok b t) (lane h e)) := by
  unfold lane
  pointwise [val_main_v88, val_main_v85, val_main_v81, val_main_v80, val_main_v0]
  simp only [tok_near, tok_div, tok_mod, lane_alt, lane_def]

theorem result_v : val_main_v89 (F := Ideal) q k u g (ix2 (tok b s) (lane h e))
    = ∑ t, g (ix2 (tok b t) (lane h e)) * val_main_v45 (F := Ideal) q k u (ix4 b h t s) := by
  unfold lane
  pointwise [val_main_v89, val_main_v84, val_main_v56, val_main_v55, val_main_v53, val_main_v52]
  simp only [tok_near, tok_div, tok_mod, lane_alt, lane_def]

theorem result_u : val_main_v91 (F := Ideal) q k v u g (ix2 (tok b t) h) = val_main_v77 (F := Ideal) q k v u g (ix3 b h t) := by
  pointwise [val_main_v91, val_main_v90]
  exact read3 _ (tok_div b t _) rfl (tok_mod b t _)

end Cert.FoxIdeal.Host

end
-- ==== Proof.FoxReal.lean ====
module

public import proofs.«01_k».proof.Proof.FoxResults

/-!
  The gradient of the forgetting attention over the real numbers, and the reference's results as those numbers.

  Where every argument is finite all logits are real, so each row's largest logit is real, its sum of exponentials is
  a positive real, and the reference's results are real numbers. `M` is the row's largest logit; nothing but its being
  real is used.
-/

@[expose] public section

set_option maxRecDepth 16384

noncomputable section

namespace Cert.FoxIdeal.Host

open Idealize.ShloMosaic
open Cert.FoxRefIdeal Cert.FoxRefIdeal.Read

/-- The real arguments: queries, keys, values and the output's cotangent by token and lane, the gates by sequence, head and position; and a real for each row. -/
structure Reals where
  q : Fin 8192 → Fin 384 → ℝ
  k : Fin 8192 → Fin 384 → ℝ
  v : Fin 8192 → Fin 384 → ℝ
  g : Fin 8192 → Fin 384 → ℝ
  u : Fin 4 → Fin 6 → Fin 2048 → ℝ
  M : Fin 4 → Fin 6 → Fin 2048 → ℝ

namespace Reals

variable (R : Reals) (b : Fin 4) (h : Fin 6) (t s : Fin 2048)

/-- The logit of a query against a key. -/
def logit : ℝ := (∑ e, R.q (tok b t) (lane h e) * R.k (tok b s) (lane h e)) * (1 / 8) + R.u b h t - R.u b h s
/-- Its exponential less the row's real, zero at later keys. -/
def raise : ℝ := if s ≤ t then Real.exp (R.logit b h t s - R.M b h t) else 0
/-- The row's sum of exponentials. -/
def mass : ℝ := ∑ s, R.raise b h t s
/-- The attention's weight. -/
def prob : ℝ := R.raise b h t s / R.mass b h t
/-- The cotangent of a weight. -/
def score : ℝ := ∑ e, R.g (tok b t) (lane h e) * R.v (tok b s) (lane h e)
/-- The cotangent of a logit. -/
def grad : ℝ := R.prob b h t s * (R.score b h t s - ∑ x, R.score b h t x * R.prob b h t x)

theorem raise_nonneg : 0 ≤ R.raise b h t s := by
  unfold raise
  split_ifs
  · exact (Real.exp_pos _).le
  · exact le_rfl

theorem mass_pos : 0 < R.mass b h t := by
  unfold mass
  refine Finset.sum_pos' (fun s _ => R.raise_nonneg b h t s) ⟨t, Finset.mem_univ t, ?_⟩
  unfold raise
  rw [if_pos le_rfl]
  exact Real.exp_pos _

/-- The derivative of a quotient by a sum is the softmax's derivative. -/
theorem grad_eq : (if s ≤ t then (R.score b h t s / R.mass b h t + -∑ x, R.score b h t x * (1 / (R.mass b h t * R.mass b h t)) * R.raise b h t x) * R.raise b h t s else 0)
    = R.grad b h t s := by
  have hz := (R.mass_pos b h t).ne'
  have e : ∑ x, R.score b h t x * (1 / (R.mass b h t * R.mass b h t)) * R.raise b h t x = (∑ x, R.score b h t x * R.prob b h t x) / R.mass b h t := by
    rw [Finset.sum_div]
    refine Finset.sum_congr rfl fun x _ => ?_
    unfold prob
    field_simp
  rw [e]
  by_cases hs : s ≤ t
  · rw [if_pos hs]
    unfold grad
    generalize (∑ x, R.score b h t x * R.prob b h t x) = D
    unfold prob
    field_simp
    ring
  · rw [if_neg hs]
    unfold grad prob raise
    rw [if_neg hs]
    simp

end Reals

theorem eighth : Ideal.ofBits FTy.f32 1040187392#32 = ((1 / 8 : ℝ) : EReal) := by
  simp [Ideal.ofBits, Ideal.ieee, -EReal.coe_mul]
  norm_num

/-- Arrays that hold these reals, `M` being the rows' largest logits. -/
structure Holds (R : Reals) (q k v g : Arr S8192x384) (u : Arr S4x6x2048) : Prop where
  M : ∀ b h t, val_main_v21 (F := Ideal) q k u (ix3 b h t) = ((R.M b h t : ℝ) : EReal)
  q : ∀ r l, q (ix2 r l) = ((R.q r l : ℝ) : EReal)
  k : ∀ r l, k (ix2 r l) = ((R.k r l : ℝ) : EReal)
  v : ∀ r l, v (ix2 r l) = ((R.v r l : ℝ) : EReal)
  g : ∀ r l, g (ix2 r l) = ((R.g r l : ℝ) : EReal)
  u : ∀ b h t, u (ix3 b h t) = ((R.u b h t : ℝ) : EReal)

section

variable {R : Reals} {q k v g : Arr S8192x384} {u : Arr S4x6x2048} (H : Holds R q k v g u) (b : Fin 4) (h : Fin 6) (t s : Fin 2048) (e : Fin 64)
include H

theorem logit_real : val_main_v11 (F := Ideal) q k u (ix4 b h t s) = ((R.logit b h t s : ℝ) : EReal) := by
  rw [logit_at, eighth, H.u, H.u]
  simp only [H.q, H.k, ← EReal.coe_mul, ← Cert.Reals.coe_sum, ← EReal.coe_add, ← EReal.coe_sub]
  rfl

theorem raise_real : val_main_v41 (F := Ideal) q k u (ix4 b h t s) = ((R.raise b h t s : ℝ) : EReal) := by
  rw [raise_at, masked_at, H.M, logit_real H]
  unfold Reals.raise
  by_cases hs : s ≤ t
  · rw [if_pos hs, if_pos hs, ← EReal.coe_sub, Cert.Reals.exp_coe]
  · rw [if_neg hs, if_neg hs, EReal.bot_sub]
    rfl

theorem mass_real : (∑ x, val_main_v41 (F := Ideal) q k u (ix4 b h t x)) = ((R.mass b h t : ℝ) : EReal) := by
  simp only [raise_real H, ← Cert.Reals.coe_sum]
  rfl

theorem prob_real : val_main_v45 (F := Ideal) q k u (ix4 b h t s) = ((R.prob b h t s : ℝ) : EReal) := by
  rw [prob_at, mass_real H, raise_real H, Cert.Reals.div_coe_coe _ _ (R.mass_pos b h t).ne']
  rfl

theorem score_real : val_main_v54 (F := Ideal) v g (ix4 b h t s) = ((R.score b h t s : ℝ) : EReal) := by
  rw [score_at]
  simp only [H.g, H.v, ← EReal.coe_mul, ← Cert.Reals.coe_sum]
  rfl

theorem square_real : val_main_v57 (F := Ideal) q k u (ix4 b h t s) = ((1 / (R.mass b h t * R.mass b h t) : ℝ) : EReal) := by
  have hz := (R.mass_pos b h t).ne'
  rw [square_at, mass_real H, ← EReal.coe_mul, ← EReal.coe_one, Cert.Reals.div_coe_coe _ _ (mul_ne_zero hz hz)]

theorem grad_real : val_main_v69 (F := Ideal) q k v u g (ix4 b h t s) = ((R.grad b h t s : ℝ) : EReal) := by
  rw [grad_at, quot_at, dot_at, mass_real H]
  simp only [square_real H, score_real H, raise_real H]
  rw [Cert.Reals.div_coe_coe _ _ (R.mass_pos b h t).ne', ← R.grad_eq]
  simp only [← EReal.coe_mul, ← Cert.Reals.coe_sum, ← EReal.coe_neg, ← EReal.coe_add]
  split_ifs <;> simp

theorem real_q : val_main_v87 (F := Ideal) q k v u g (ix2 (tok b t) (lane h e))
    = ((∑ s, R.grad b h t s * (1 / 8) * R.k (tok b s) (lane h e) : ℝ) : EReal) := by
  rw [result_q]
  simp only [scaled_at, eighth, grad_real H, H.k, ← EReal.coe_mul, ← Cert.Reals.coe_sum]

theorem real_k : val_main_v88 (F := Ideal) q k v u g (ix2 (tok b s) (lane h e))
    = ((∑ t, R.grad b h t s * (1 / 8) * R.q (tok b t) (lane h e) : ℝ) : EReal) := by
  rw [result_k]
  simp only [scaled_at, eighth, grad_real H, H.q, ← EReal.coe_mul, ← Cert.Reals.coe_sum]

theorem real_v : val_main_v89 (F := Ideal) q k u g (ix2 (tok b s) (lane h e))
    = ((∑ t, R.g (tok b t) (lane h e) * R.prob b h t s : ℝ) : EReal) := by
  rw [result_v]
  simp only [prob_real H, H.g, ← EReal.coe_mul, ← Cert.Reals.coe_sum]

theorem real_u : val_main_v91 (F := Ideal) q k v u g (ix2 (tok b t) h)
    = (((∑ t', - R.grad b h t' t) + ∑ s, R.grad b h t s : ℝ) : EReal) := by
  rw [result_u, gates_at]
  simp only [grad_real H, ← EReal.coe_neg, ← Cert.Reals.coe_sum, ← EReal.coe_add]

end

/-- Where the logits are real so is each row's largest. -/
theorem top_is_real (x : Fin 2048 → EReal) (t : Fin 2048) (hb : x t ≠ ⊥) (ht : ∀ s, x s ≠ ⊤) : ∃ r : ℝ, Finset.fold max ⊥ x Finset.univ = (r : EReal) := by
  have h1 : Finset.fold max ⊥ x Finset.univ ≠ ⊥ := fun e => hb (le_bot_iff.1 (e ▸ (Finset.le_fold_max (x t)).2 (Or.inr ⟨t, Finset.mem_univ t, le_rfl⟩)))
  have h2 : Finset.fold max ⊥ x Finset.univ < ⊤ := (Finset.fold_max_lt ⊤).2 ⟨bot_lt_top, fun s _ => lt_top_iff_ne_top.2 (ht s)⟩
  exact ⟨_, (EReal.coe_toReal h2.ne h1).symm⟩

/-- Arrays of finite entries hold reals. -/
theorem holds_of_real (q k v g : Arr S8192x384) (u : Arr S4x6x2048)
    (hq : ∀ i, q i = ((EReal.toReal (q i) : ℝ) : EReal)) (hk : ∀ i, k i = ((EReal.toReal (k i) : ℝ) : EReal)) (hv : ∀ i, v i = ((EReal.toReal (v i) : ℝ) : EReal))
    (hg : ∀ i, g i = ((EReal.toReal (g i) : ℝ) : EReal)) (hu : ∀ i, u i = ((EReal.toReal (u i) : ℝ) : EReal)) : ∃ R, Holds R q k v g u := by
  have hl : ∀ b h t s, ∃ r : ℝ, val_main_v11 (F := Ideal) q k u (ix4 b h t s) = (r : EReal) := fun b h t s => by
    rw [logit_at, eighth, hu (ix3 b h t), hu (ix3 b h s)]
    refine ⟨(∑ e, EReal.toReal (q (ix2 (tok b t) (lane h e))) * EReal.toReal (k (ix2 (tok b s) (lane h e)))) * (1 / 8) + EReal.toReal (u (ix3 b h t)) - EReal.toReal (u (ix3 b h s)), ?_⟩
    rw [EReal.coe_sub, EReal.coe_add, EReal.coe_mul, Cert.Reals.coe_sum]
    refine congrArg (fun y => y * _ + _ - _) (Finset.sum_congr rfl fun e _ => ?_)
    rw [EReal.coe_mul, ← hq, ← hk]
  have hM : ∀ b h t, ∃ r : ℝ, val_main_v21 (F := Ideal) q k u (ix3 b h t) = (r : EReal) := fun b h t => by
    rw [max_at]
    refine top_is_real _ t ?_ fun s => ?_
    · obtain ⟨r, e⟩ := hl b h t t
      rw [masked_at, if_pos le_rfl, e]
      exact EReal.coe_ne_bot r
    · rw [masked_at]
      split_ifs
      · obtain ⟨r, e⟩ := hl b h t s
        rw [e]
        exact EReal.coe_ne_top r
      · exact bot_ne_top
  choose M hM using hM
  exact ⟨⟨fun r l => EReal.toReal (q (ix2 r l)), fun r l => EReal.toReal (k (ix2 r l)), fun r l => EReal.toReal (v (ix2 r l)), fun r l => EReal.toReal (g (ix2 r l)),
    fun b h t => EReal.toReal (u (ix3 b h t)), M⟩, hM, fun r l => hq _, fun r l => hk _, fun r l => hv _, fun r l => hg _, fun b h t => hu _⟩

end Cert.FoxIdeal.Host

end
-- ==== Proof.FoxKernel.lean ====
module

public import proofs.«01_k».proof.Proof.FoxLoops
public import proofs.«01_k».proof.Proof.FoxReal

/-!
  What a grid point writes, over the real numbers: its blocks of the reference's results.

  A point treats one pair of heads of one sequence. Subtracting the logarithm of the row's sum along with the row's
  largest logit gives the softmax's weight, and the product of the cotangent and the output is the weighted sum of the
  weights' cotangents, so the kernel's logit gradient is the reference's.
-/

@[expose] public section

set_option maxRecDepth 16384

noncomputable section

namespace Cert.FoxIdeal.Walk

open Cert.FoxIdeal Cert.FoxIdeal.Gen Cert.FoxIdeal.Host
open Idealize.ShloMosaic

/-- Lane `l` of pair `p` among all lanes. -/
def wlane (p : Fin 3) (l : Fin 128) : Fin 384 := ⟨128 * p.val + l.val, by omega⟩
/-- Head `h` of pair `p`. -/
def head (p : Fin 3) (h : Fin 2) : Fin 6 := ⟨2 * p.val + h.val, by omega⟩
/-- Entry `e` of head `h` of a pair. -/
def plane (h : Fin 2) (e : Fin 64) : Fin 128 := ⟨64 * h.val + e.val, by omega⟩
/-- The entry of its head that a lane is. -/
def entry (l : Fin 128) : Fin 64 := ⟨l.val % 64, Nat.mod_lt _ (by norm_num)⟩

theorem wlane_plane (p : Fin 3) (h : Fin 2) (e : Fin 64) : wlane p (plane h e) = lane (head p h) e :=
  Fin.ext (by show 128 * p.val + (64 * h.val + e.val) = 64 * (2 * p.val + h.val) + e.val; omega)

theorem wlane_eq (p : Fin 3) (l : Fin 128) : wlane p l = lane (head p (hd l)) (entry l) :=
  Fin.ext (by show 128 * p.val + l.val = 64 * (2 * p.val + l.val / 64) + l.val % 64; omega)

theorem hd_plane (h : Fin 2) (e : Fin 64) : hd (plane h e) = h :=
  Fin.ext (by show (64 * h.val + e.val) / 64 = h.val; omega)

/-- A sum over a pair's lanes of one head's entries. -/
theorem sum_head {A : Type} [AddCommMonoid A] (h : Fin 2) (f : Fin 128 → A) : (∑ l, if l.val / 64 = h.val then f l else 0) = ∑ e, f (plane h e) := by
  have e1 := Fin.sum_univ_add (a := 64) (b := 64) (f := fun l : Fin (64 + 64) => if l.val / 64 = h.val then f l else 0)
  refine Eq.trans e1 ?_
  have lo : ∀ e : Fin 64, (Fin.castAdd 64 e).val / 64 = 0 := fun e => by rw [Fin.val_castAdd]; omega
  have hi : ∀ e : Fin 64, (Fin.natAdd 64 e).val / 64 = 1 := fun e => by rw [Fin.val_natAdd]; omega
  simp only [lo, hi]
  rcases (by omega : h.val = 0 ∨ h.val = 1) with hh | hh
  · simp only [hh, if_true, Nat.one_ne_zero, if_false, Finset.sum_const_zero, add_zero]
    exact Finset.sum_congr rfl fun e _ => congrArg f (Fin.ext (by show e.val = 64 * h.val + e.val; omega))
  · simp only [hh, if_true, Nat.zero_ne_one, if_false, Finset.sum_const_zero, zero_add]
    exact Finset.sum_congr rfl fun e _ => congrArg f (Fin.ext (by show 64 + e.val = 64 * h.val + e.val; omega))

/-- What a point finds staged, as real numbers. -/
structure Stages (R : Host.Reals) (b : Fin 4) (p : Fin 3) (x : Ins Ideal) : Prop where
  q : ∀ s l, x.q (ix2 s l) = ((R.q (tok b s) (wlane p l) : ℝ) : EReal)
  k : ∀ s l, x.k (ix2 s l) = ((R.k (tok b s) (wlane p l) : ℝ) : EReal)
  v : ∀ s l, x.v (ix2 s l) = ((R.v (tok b s) (wlane p l) : ℝ) : EReal)
  g : ∀ s l, x.g (ix2 s l) = ((R.g (tok b s) (wlane p l) : ℝ) : EReal)
  o : ∀ s l, x.o (ix2 s l) = ((∑ y, R.v (tok b y) (wlane p l) * R.prob b (head p (hd l)) s y : ℝ) : EReal)
  l : ∀ s (h : Fin 2), x.l (ix2 s ⟨h.val, by omega⟩) = ((R.M b (head p h) s + Real.log (R.mass b (head p h) s) : ℝ) : EReal)
  cn : ∀ s h, x.cn (ix2 s (hlane p h)) = ((R.u b (head p h) s : ℝ) : EReal)
  ct : ∀ s h, x.ct (ix2 (hrow p h) s) = ((R.u b (head p h) s : ℝ) : EReal)

section

variable {R : Host.Reals} {b : Fin 4} {p : Fin 3} {x : Ins Ideal} (S : Stages R b p x) (h : Fin 2) (t s : Fin 2048) (l : Fin 128)
include S

theorem logit_val : logit p x h t s
    = ((R.logit b (head p h) t s - (R.M b (head p h) t + Real.log (R.mass b (head p h) t)) : ℝ) : EReal) := by
  unfold logit scale
  have e : ∀ l : Fin 128, (if l.val / 64 = h.val then x.q (ix2 t l) * Ideal.ofBits FTy.f32 1040187392#32 else 0) * x.k (ix2 s l)
      = (((if l.val / 64 = h.val then R.q (tok b t) (wlane p l) * (1 / 8) * R.k (tok b s) (wlane p l) else 0) : ℝ) : EReal) := fun l => by
    rw [S.q, S.k, eighth]
    split_ifs
    · rw [← EReal.coe_mul, ← EReal.coe_mul]
    · simp
  simp only [e, S.cn, S.ct, S.l, ← Cert.Reals.coe_sum, sum_head, wlane_plane, ← EReal.coe_sub, ← EReal.coe_add]
  congr 1
  unfold Host.Reals.logit
  rw [Finset.sum_mul]
  have e2 : ∀ e : Fin 64, R.q (tok b t) (lane (head p h) e) * (1 / 8) * R.k (tok b s) (lane (head p h) e)
      = R.q (tok b t) (lane (head p h) e) * R.k (tok b s) (lane (head p h) e) * (1 / 8) := fun e => by ring
  simp only [e2]
  ring

theorem wt_val : wt p x h t s = ((R.prob b (head p h) t s : ℝ) : EReal) := by
  unfold wt
  rw [logit_val S]
  unfold Host.Reals.prob Host.Reals.raise
  by_cases hs : s ≤ t
  · rw [if_pos hs, if_pos hs, Cert.Reals.exp_coe, ← sub_sub, Real.exp_sub, Real.exp_log (R.mass_pos b (head p h) t)]
  · rw [if_neg hs, if_neg hs]
    simp

theorem del_val : del x h t = ((∑ y, R.score b (head p h) t y * R.prob b (head p h) t y : ℝ) : EReal) := by
  unfold del
  rw [sum_head]
  simp only [S.g, S.o, wlane_plane, hd_plane, ← EReal.coe_mul, ← Cert.Reals.coe_sum]
  congr 1
  unfold Host.Reals.score
  simp only [Finset.mul_sum, Finset.sum_mul]
  rw [Finset.sum_comm]
  exact Finset.sum_congr rfl fun y _ => Finset.sum_congr rfl fun e _ => by ring

theorem gr_val : gr x h t s = ((R.score b (head p h) t s - ∑ y, R.score b (head p h) t y * R.prob b (head p h) t y : ℝ) : EReal) := by
  unfold gr
  rw [del_val S]
  have e : ∀ l : Fin 128, (if l.val / 64 = h.val then x.g (ix2 t l) else 0) * x.v (ix2 s l)
      = (((if l.val / 64 = h.val then R.g (tok b t) (wlane p l) * R.v (tok b s) (wlane p l) else 0) : ℝ) : EReal) := fun l => by
    rw [S.g, S.v]
    split_ifs
    · rw [← EReal.coe_mul]
    · simp
  simp only [e, ← Cert.Reals.coe_sum, sum_head, wlane_plane, ← EReal.coe_sub]
  rfl

theorem sg_val : sg p x h t s = ((R.grad b (head p h) t s : ℝ) : EReal) := by
  unfold sg
  rw [wt_val S, gr_val S, ← EReal.coe_mul]
  rfl

/-- Of the two heads' values a row of the pair takes its own. -/
theorem rows_val (j : Fin 6) (f : Fin 6 → ℝ) :
    onRows p ⟨j.val, by omega⟩ ((f (head p 0) : ℝ) : EReal) ((f (head p 1) : ℝ) : EReal) = (((if j.val / 2 = p.val then f j else 0) : ℝ) : EReal) := by
  clear S
  unfold onRows
  dsimp only
  by_cases h0 : j.val = 2 * p.val
  · rw [if_pos h0, if_neg (by omega), if_pos (by omega), add_zero]
    exact congrArg (fun y => ((f y : ℝ) : EReal)) (Fin.ext (by show 2 * p.val + 0 = j.val; omega))
  · by_cases h1 : j.val = 2 * p.val + 1
    · rw [if_neg h0, if_pos h1, if_pos (by omega), zero_add]
      exact congrArg (fun y => ((f y : ℝ) : EReal)) (Fin.ext (by show 2 * p.val + 1 = j.val; omega))
    · rw [if_neg h0, if_neg h1, if_neg (by omega), add_zero]
      rfl

variable {y : Vec Ideal S2048x128 .bf16 × Vec Ideal S2048x128 .bf16 × Vec Ideal S2048x128 .bf16 × Vec Ideal S2048x128 .f32} (Y : Fills p x y)
  {q k v g : Arr S8192x384} {u : Arr S4x6x2048} (H : Holds R q k v g u)
include Y H

open Cert.FoxRefIdeal.Read

theorem point_q : y.1 (ix2 t l) = val_main_v87 (F := Ideal) q k v u g (ix2 (tok b t) (wlane p l)) := by
  rw [Y.dq, wlane_eq, real_q H]
  simp only [sg_val S, S.k, eighth, scale, ← EReal.coe_mul, ← Cert.Reals.coe_sum]
  congr 1
  rw [Finset.sum_mul, wlane_eq]
  exact Finset.sum_congr rfl fun e _ => by ring

theorem point_k : y.2.1 (ix2 s l) = val_main_v88 (F := Ideal) q k v u g (ix2 (tok b s) (wlane p l)) := by
  rw [Y.dk, wlane_eq, real_k H]
  simp only [sg_val S, S.q, eighth, scale, ← EReal.coe_mul, ← Cert.Reals.coe_sum]
  congr 1
  rw [wlane_eq]
  exact Finset.sum_congr rfl fun e _ => by ring

theorem point_v : y.2.2.1 (ix2 s l) = val_main_v89 (F := Ideal) q k u g (ix2 (tok b s) (wlane p l)) := by
  rw [Y.dv, wlane_eq, real_v H]
  simp only [wt_val S, S.g, ← EReal.coe_mul, ← Cert.Reals.coe_sum]
  congr 1
  rw [wlane_eq]
  exact Finset.sum_congr rfl fun e _ => by ring

theorem point_u (j : Fin 6) : y.2.2.2 (ix2 t ⟨j.val + 8, by omega⟩)
    = if j.val / 2 = p.val then val_main_v91 (F := Ideal) q k v u g (ix2 (tok b t) j) else 0 := by
  rw [show (⟨j.val + 8, by omega⟩ : Fin 128) = lane8 ⟨j.val, by omega⟩ from rfl, Y.dc, real_u H]
  simp only [sg_val S, ← Cert.Reals.coe_sum]
  rw [rows_val S j (fun i => ∑ s, R.grad b i t s), rows_val S j (fun i => ∑ t', R.grad b i t' t), ← EReal.coe_sub]
  split_ifs
  · congr 1
    rw [Finset.sum_neg_distrib]
    ring
  · simp

end

end Cert.FoxIdeal.Walk

end
-- ==== Proof.FoxStage.lean ====
module

public import proofs.«01_k».proof.Proof.FoxKernel
public import proofs.«01_k».proof.Proof.FoxRead
public import proofs.«01_k».proof.Proof.FoxRun

/-!
  What each grid point finds staged, over the real numbers.

  Point `3 b + p` treats pair `p` of the heads of sequence `b`. Its blocks of the wide array are the pair's queries,
  keys and values; the other blocks are the pair's outputs, cotangents, logarithms and gates.
-/

@[expose] public section

set_option maxRecDepth 16384

noncomputable section

namespace Cert.FoxIdeal.Walk

open Cert.FoxIdeal Cert.FoxIdeal.Gen Cert.FoxIdeal.Host
open Idealize.ShloMosaic Idealize.ShloMosaic.TcCoe
open Idealize.ShloMosaic.Pipeline (Dat)

/-- The point that treats pair `p` of sequence `b`. -/
def pt (b : Fin 4) (p : Fin 3) : Fin cfg0.N := ⟨3 * b.val + p.val, by show 3 * b.val + p.val < 12; omega⟩

/-- Every point treats some pair of some sequence. -/
theorem pt_onto : ∀ t : Fin cfg0.N, ∃ b p, t = pt b p := fun t => by
  have ht : t.val < 12 := t.isLt
  exact ⟨⟨t.val / 3, by omega⟩, ⟨t.val % 3, Nat.mod_lt _ (by norm_num)⟩, Fin.ext (by show t.val = 3 * (t.val / 3) + t.val % 3; omega)⟩

/-- The pair is the point's second coordinate. -/
theorem pt_pair : ∀ b p, (grid0.coords (pt b p) 1).val = p.val :=
  (by decide +kernel : ∀ (b : Fin 4) (p : Fin 3), (grid0.coords (⟨3 * b.val + p.val, by show 3 * b.val + p.val < 12; omega⟩ : Fin grid0.N) 1).val = p.val)

theorem at0 : ∀ b p, win0_0.index (pt b p) 0 = b.val ∧ win0_0.index (pt b p) 1 = 15 + p.val := by decide +kernel
theorem at1 : ∀ b p, win0_1.index (pt b p) 0 = b.val ∧ win0_1.index (pt b p) 1 = 18 + p.val := by decide +kernel
theorem at2 : ∀ b p, win0_2.index (pt b p) 0 = b.val ∧ win0_2.index (pt b p) 1 = 21 + p.val := by decide +kernel
theorem at3 : ∀ b p, win0_3.index (pt b p) 0 = b.val ∧ win0_3.index (pt b p) 1 = p.val := by decide +kernel
theorem at4 : ∀ b p, win0_4.index (pt b p) 0 = b.val ∧ win0_4.index (pt b p) 1 = p.val := by decide +kernel
theorem at5 : ∀ b p, win0_5.index (pt b p) 0 = b.val ∧ win0_5.index (pt b p) 1 = p.val := by decide +kernel
theorem at6 : ∀ b p, win0_6.index (pt b p) 0 = b.val ∧ win0_6.index (pt b p) 1 = 0 := by decide +kernel
theorem at7 : ∀ b p, win0_7.index (pt b p) 0 = b.val ∧ win0_7.index (pt b p) 1 = 0 := by decide +kernel
theorem at8 : ∀ b p, win0_8.index (pt b p) 0 = b.val ∧ win0_8.index (pt b p) 1 = p.val := by decide +kernel
theorem at9 : ∀ b p, win0_9.index (pt b p) 0 = b.val ∧ win0_9.index (pt b p) 1 = p.val := by decide +kernel
theorem at10 : ∀ b p, win0_10.index (pt b p) 0 = b.val ∧ win0_10.index (pt b p) 1 = p.val := by decide +kernel
theorem at11 : ∀ b p, win0_11.index (pt b p) 0 = b.val ∧ win0_11.index (pt b p) 1 = p.val := by decide +kernel

variable (m : (ℓ : Loc nD τ sig) → Buf (Elt Ideal) ℓ) (c : Dev nD) (b : Fin 4) (p : Fin 3) (s : Fin 2048) (l : Fin 128)

theorem read0 : (staged m c (pt b p)).q (ix2 s l) = (V m c main_v37 : Arr S8192x3072) (ix2 (tok b s) ⟨128 * (15 + p.val) + l.val, by omega⟩) := by
  show (iblk m c 0 (pt b p) : Vec Ideal S2048x128 .f32) (ix2 s l) = _
  unfold iblk
  rw [View.read_apply]
  refine congrArg (V m c main_v37) (funext fun a => Fin.ext ?_)
  match a with
  | ⟨0, _⟩ => show win0_0.index (pt b p) 0 * 2048 + 1 * s.val = 2048 * b.val + s.val; rw [(at0 b p).1]; omega
  | ⟨1, _⟩ => show win0_0.index (pt b p) 1 * 128 + 1 * l.val = 128 * (15 + p.val) + l.val; rw [(at0 b p).2]; omega

theorem read1 : (staged m c (pt b p)).k (ix2 s l) = (V m c main_v37 : Arr S8192x3072) (ix2 (tok b s) ⟨128 * (18 + p.val) + l.val, by omega⟩) := by
  show (iblk m c 1 (pt b p) : Vec Ideal S2048x128 .f32) (ix2 s l) = _
  unfold iblk
  rw [View.read_apply]
  refine congrArg (V m c main_v37) (funext fun a => Fin.ext ?_)
  match a with
  | ⟨0, _⟩ => show win0_1.index (pt b p) 0 * 2048 + 1 * s.val = 2048 * b.val + s.val; rw [(at1 b p).1]; omega
  | ⟨1, _⟩ => show win0_1.index (pt b p) 1 * 128 + 1 * l.val = 128 * (18 + p.val) + l.val; rw [(at1 b p).2]; omega

theorem read2 : (staged m c (pt b p)).v (ix2 s l) = (V m c main_v37 : Arr S8192x3072) (ix2 (tok b s) ⟨128 * (21 + p.val) + l.val, by omega⟩) := by
  show (iblk m c 2 (pt b p) : Vec Ideal S2048x128 .f32) (ix2 s l) = _
  unfold iblk
  rw [View.read_apply]
  refine congrArg (V m c main_v37) (funext fun a => Fin.ext ?_)
  match a with
  | ⟨0, _⟩ => show win0_2.index (pt b p) 0 * 2048 + 1 * s.val = 2048 * b.val + s.val; rw [(at2 b p).1]; omega
  | ⟨1, _⟩ => show win0_2.index (pt b p) 1 * 128 + 1 * l.val = 128 * (21 + p.val) + l.val; rw [(at2 b p).2]; omega

theorem read3_o : (staged m c (pt b p)).o (ix2 s l) = (V m c main_v32 : Arr S8192x384) (ix2 (tok b s) (wlane p l)) := by
  show (iblk m c 3 (pt b p) : Vec Ideal S2048x128 .f32) (ix2 s l) = _
  unfold iblk
  rw [View.read_apply]
  refine congrArg (V m c main_v32) (funext fun a => Fin.ext ?_)
  match a with
  | ⟨0, _⟩ => show win0_3.index (pt b p) 0 * 2048 + 1 * s.val = 2048 * b.val + s.val; rw [(at3 b p).1]; omega
  | ⟨1, _⟩ => show win0_3.index (pt b p) 1 * 128 + 1 * l.val = 128 * p.val + l.val; rw [(at3 b p).2]; omega

theorem read4 : (staged m c (pt b p)).g (ix2 s l) = (V m c main_arg4 : Arr S8192x384) (ix2 (tok b s) (wlane p l)) := by
  show (iblk m c 4 (pt b p) : Vec Ideal S2048x128 .f32) (ix2 s l) = _
  unfold iblk
  rw [View.read_apply]
  refine congrArg (V m c main_arg4) (funext fun a => Fin.ext ?_)
  match a with
  | ⟨0, _⟩ => show win0_4.index (pt b p) 0 * 2048 + 1 * s.val = 2048 * b.val + s.val; rw [(at4 b p).1]; omega
  | ⟨1, _⟩ => show win0_4.index (pt b p) 1 * 128 + 1 * l.val = 128 * p.val + l.val; rw [(at4 b p).2]; omega

theorem read5 : (staged m c (pt b p)).l (ix2 s l) = (V m c main_v47 : Arr S8192x384) (ix2 (tok b s) (wlane p l)) := by
  show (iblk m c 5 (pt b p) : Vec Ideal S2048x128 .f32) (ix2 s l) = _
  unfold iblk
  rw [View.read_apply]
  refine congrArg (V m c main_v47) (funext fun a => Fin.ext ?_)
  match a with
  | ⟨0, _⟩ => show win0_5.index (pt b p) 0 * 2048 + 1 * s.val = 2048 * b.val + s.val; rw [(at5 b p).1]; omega
  | ⟨1, _⟩ => show win0_5.index (pt b p) 1 * 128 + 1 * l.val = 128 * p.val + l.val; rw [(at5 b p).2]; omega

theorem read6 : (staged m c (pt b p)).cn (ix2 s l) = (V m c main_v40 : Arr S8192x128) (ix2 (tok b s) l) := by
  show (iblk m c 6 (pt b p) : Vec Ideal S2048x128 .f32) (ix2 s l) = _
  unfold iblk
  rw [View.read_apply]
  refine congrArg (V m c main_v40) (funext fun a => Fin.ext ?_)
  match a with
  | ⟨0, _⟩ => show win0_6.index (pt b p) 0 * 2048 + 1 * s.val = 2048 * b.val + s.val; rw [(at6 b p).1]; omega
  | ⟨1, _⟩ => show win0_6.index (pt b p) 1 * 128 + 1 * l.val = l.val; rw [(at6 b p).2]; omega

theorem read7 (r : Fin 8) : (staged m c (pt b p)).ct (ix2 r s) = (V m c main_v42 : Arr S32x2048) (ix2 ⟨8 * b.val + r.val, by omega⟩ s) := by
  show (iblk m c 7 (pt b p) : Vec Ideal S8x2048 .f32) (ix2 r s) = _
  unfold iblk
  rw [View.read_apply]
  refine congrArg (V m c main_v42) (funext fun a => Fin.ext ?_)
  match a with
  | ⟨0, _⟩ => show win0_7.index (pt b p) 0 * 8 + 1 * r.val = 8 * b.val + r.val; rw [(at7 b p).1]; omega
  | ⟨1, _⟩ => show win0_7.index (pt b p) 1 * 2048 + 1 * s.val = s.val; rw [(at7 b p).2]; omega

section

variable {R : Host.Reals} {q k v g : Arr S8192x384} {u : Arr S4x6x2048} (H : Holds R q k v g u) (h : Fin 6) (t y : Fin 2048)
include H

/-- The exponential that the host prepares is the reference's. -/
theorem raised_real : raised q k u (ix4 b h t y) = ((R.raise b h t y : ℝ) : EReal) :=
  (raised_at q k u b h t y).trans ((raise_at q k u b h t y).symm.trans (raise_real H b h t y))

theorem raised_sum : (∑ x, raised q k u (ix4 b h t x)) = ((R.mass b h t : ℝ) : EReal) := by
  simp only [raised_real b H, ← Cert.Reals.coe_sum]
  rfl

theorem weights_real : weights q k u (ix4 b h t y) = ((R.prob b h t y : ℝ) : EReal) := by
  rw [weights_at, raised_sum b H, raised_real b H, Cert.Reals.div_coe_coe _ _ (R.mass_pos b h t).ne']
  rfl

theorem logs_real : logs q k u (ix3 b h t) = ((R.M b h t + Real.log (R.mass b h t) : ℝ) : EReal) := by
  rw [logs_at, raised_sum b H, H.M, Ideal.log_coe, if_neg (not_le.mpr (R.mass_pos b h t)), EReal.coe_add]

theorem output_real (e : Fin 64) : output q k v u (ix2 (tok b t) (lane h e)) = ((∑ x, R.v (tok b x) (lane h e) * R.prob b h t x : ℝ) : EReal) := by
  rw [output_at]
  simp only [weights_real b H, H.v, ← EReal.coe_mul, ← Cert.Reals.coe_sum]

end

/-- What a point finds staged. -/
theorem stages {R : Host.Reals} (H : Holds R (aq m c) (ak m c) (av m c) (ag m c) (au m c)) : Stages R b p (staged m c (pt b p)) where
  q s l := by
    rw [read0, V_wide, wide_q (aq m c) (ak m c) (av m c) (tok b s) (wlane p l) _ (by show 128 * (15 + p.val) + l.val = 1920 + (128 * p.val + l.val); omega), H.q]
  k s l := by
    rw [read1, V_wide, wide_k (aq m c) (ak m c) (av m c) (tok b s) (wlane p l) _ (by show 128 * (18 + p.val) + l.val = 2304 + (128 * p.val + l.val); omega), H.k]
  v s l := by
    rw [read2, V_wide, wide_v (aq m c) (ak m c) (av m c) (tok b s) (wlane p l) _ (by show 128 * (21 + p.val) + l.val = 2688 + (128 * p.val + l.val); omega), H.v]
  g s l := by rw [read4, V_main_arg4]; exact H.g _ _
  o s l := by rw [read3_o, V_output, wlane_eq, output_real b H]
  l s h := by
    rw [read5, V_logs, logsByToken_at (aq m c) (ak m c) (au m c) b (head p h) p h rfl s _ rfl, logs_real b H]
  cn s h := by
    rw [read6, V_byToken, byToken_at (au m c) b (head p h) s _ (by show 2 * p.val + 8 + h.val = 8 + (2 * p.val + h.val); omega), H.u]
  ct s h := by
    rw [read7, V_byHead, byHead_at (au m c) b (head p h) s _ (by show 8 * b.val + (2 * p.val + h.val) = 8 * b.val + (2 * p.val + h.val); rfl), H.u]

end Cert.FoxIdeal.Walk

end
-- ==== Proof.FoxValue.lean ====
module

public import proofs.«01_k».proof.Defs
public import proofs.«01_k».proof.Proof.FoxStage
public import proofs.«01_k».proof.Proof.FoxResults
public import proofs.«01_k».proof.Proof.Gen.FoxRefIdeal.Run
public import proofs.«01_k».proof.Proof.Gen.FoxRefIdeal.Read
public import proofs.«01_k».proof.Proof.Gen.Pre_fox_finite
public import Idealize.ShloMosaic.Lib.Pointwise

/-!
  The kernel's four results are the reference's.

  Every point writes its blocks of the gradients of the queries, the keys and the values. The gates' gradient is
  written in lane tiles, one for each pair of heads, with the pair's own lanes filled and the other heads' lanes zero;
  the host adds the tiles and keeps the heads' lanes.
-/

@[expose] public section

set_option maxRecDepth 65536

noncomputable section

namespace Cert.FoxIdeal.Walk

open Cert.FoxIdeal Cert.FoxIdeal.Gen Cert.FoxIdeal.Host
open Idealize.ShloMosaic Idealize.ShloMosaic.TcCoe Idealize.SL.Sem
open Idealize.ShloMosaic.Pipeline (Dat)
open Cert.FoxRefIdeal.Read (val_main_v87 val_main_v88 val_main_v89 val_main_v91)

variable (m : (ℓ : Loc nD τ sig) → Buf (Elt Ideal) ℓ) (c : Dev nD)

/-- What the point of pair `p` of sequence `b` writes. -/
abbrev wrote (b : Fin 4) (p : Fin 3) : Vec Ideal S2048x128 .bf16 × Vec Ideal S2048x128 .bf16 × Vec Ideal S2048x128 .bf16 × Vec Ideal S2048x128 .f32 :=
  filled (grid0.coords (pt b p)) (staged m c (pt b p))

theorem wrote_fills (b : Fin 4) (p : Fin 3) : Fills p (staged m c (pt b p)) (wrote m c b p) := fills p (staged m c (pt b p)) _ (pt_pair b p)

/-- The sequence that a token belongs to, its place there, a lane's pair and its place in the pair. -/
def seqOf (i : S8192x384.Idx) : Fin 4 := ⟨(i 0).val / 2048, by have h : (i 0).val < 8192 := (i 0).isLt; omega⟩
def placeOf (i : S8192x384.Idx) : Fin 2048 := ⟨(i 0).val % 2048, Nat.mod_lt _ (by norm_num)⟩
def pairOf (i : S8192x384.Idx) : Fin 3 := ⟨(i 1).val / 128, by have h : (i 1).val < 384 := (i 1).isLt; omega⟩
def laneOf (i : S8192x384.Idx) : Fin 128 := ⟨(i 1).val % 128, Nat.mod_lt _ (by norm_num)⟩

/-- The tiles of the gates' gradient as one array. -/
def tiles : Arr S8192x384 := fun i => (wrote m c (seqOf i) (pairOf i)).2.2.2 (ix2 (placeOf i) (laneOf i))

theorem tiles_at (b : Fin 4) (p : Fin 3) (s : Fin 2048) (l : Fin 128) : tiles m c (ix2 (tok b s) (wlane p l)) = (wrote m c b p).2.2.2 (ix2 s l) := by
  have e1 : seqOf (ix2 (tok b s) (wlane p l)) = b := Fin.ext (by show (2048 * b.val + s.val) / 2048 = b.val; omega)
  have e2 : placeOf (ix2 (tok b s) (wlane p l)) = s := Fin.ext (by show (2048 * b.val + s.val) % 2048 = s.val; omega)
  have e3 : pairOf (ix2 (tok b s) (wlane p l)) = p := Fin.ext (by show (128 * p.val + l.val) / 128 = p.val; omega)
  have e4 : laneOf (ix2 (tok b s) (wlane p l)) = l := Fin.ext (by show (128 * p.val + l.val) % 128 = l.val; omega)
  unfold tiles
  rw [e1, e2, e3, e4]

/-- Where an element of a point's block of the queries' gradient lies. -/
theorem emb8 (b : Fin 4) (p : Fin 3) (s : Fin 2048) (l : Fin 128) :
    (((cfg0.win 8).blk (pt b p)).view.emb (ix2 s l : S2048x128.Idx) : S8192x384.Idx) = ix2 (tok b s) (wlane p l) := by
  funext a
  apply Fin.ext
  match a with
  | ⟨0, _⟩ => show win0_8.index (pt b p) 0 * 2048 + 1 * s.val = 2048 * b.val + s.val; rw [(at8 b p).1]; omega
  | ⟨1, _⟩ => show win0_8.index (pt b p) 1 * 128 + 1 * l.val = 128 * p.val + l.val; rw [(at8 b p).2]; omega

theorem flushed8 {R : Host.Reals} (H : Holds R (aq m c) (ak m c) (av m c) (ag m c) (au m c)) (t : Fin cfg0.N) :
    (dats m 0 c).flushed 8 t = ((cfg0.win 8).blk t).view.read (Elt Ideal) (val_main_v87 (F := Ideal) (aq m c) (ak m c) (av m c) (au m c) (ag m c)) := by
  obtain ⟨b, p, rfl⟩ := pt_onto t
  show (cfg0.win 8).cut (grid0.coords (pt b p)) ((dats m 0 c).after 8 (pt b p)) = _
  rw [after0_8]
  funext j
  rw [View.read_apply]
  obtain ⟨s, l, rfl⟩ : ∃ (s : Fin 2048) (l : Fin 128), j = (ix2 s l : S2048x128.Idx) := ⟨j 0, j 1, ValueIdx.eq_ix2 j⟩
  rw [emb8]
  show (wrote m c b p).1 (ix2 s l) = _
  exact point_q (stages m c b p H) s l (wrote_fills m c b p) H

theorem final8 {R : Host.Reals} (H : Holds R (aq m c) (ak m c) (av m c) (ag m c) (au m c)) : (dats m 0 c).arrAt 8 cfg0.N = val_main_v87 (F := Ideal) (aq m c) (ak m c) (av m c) (au m c) (ag m c) :=
  (dats m 0 c).arrAt_eq_of_cover 8 _ (fun t _ => flushed8 m c H t) fun i => by
    have h0 : (i 0 : Nat) < 8192 := (i 0).isLt
    have h1 : (i 1 : Nat) < 384 := (i 1).isLt
    obtain ⟨b, hb⟩ : ∃ b : Fin 4, b.val = (i 0 : Nat) / 2048 := ⟨⟨(i 0 : Nat) / 2048, by omega⟩, rfl⟩
    obtain ⟨p, hp⟩ : ∃ p : Fin 3, p.val = (i 1 : Nat) / 128 := ⟨⟨(i 1 : Nat) / 128, by omega⟩, rfl⟩
    refine ⟨pt b p, flush0_8 _, ?_⟩
    show i ∈ ((View.whole main_v48_0).slice (win0_8.rect (pt b p))).set
    rw [View.set_slice_whole, Rect.mem_set_unit]
    intro a
    match a with
    | ⟨0, _⟩ => show win0_8.index (pt b p) 0 * 2048 ≤ (i 0 : Nat) ∧ (i 0 : Nat) < win0_8.index (pt b p) 0 * 2048 + 2048; rw [(at8 b p).1]; omega
    | ⟨1, _⟩ => show win0_8.index (pt b p) 1 * 128 ≤ (i 1 : Nat) ∧ (i 1 : Nat) < win0_8.index (pt b p) 1 * 128 + 128; rw [(at8 b p).2]; omega

/-- Where an element of a point's block of the keys' gradient lies. -/
theorem emb9 (b : Fin 4) (p : Fin 3) (s : Fin 2048) (l : Fin 128) :
    (((cfg0.win 9).blk (pt b p)).view.emb (ix2 s l : S2048x128.Idx) : S8192x384.Idx) = ix2 (tok b s) (wlane p l) := by
  funext a
  apply Fin.ext
  match a with
  | ⟨0, _⟩ => show win0_9.index (pt b p) 0 * 2048 + 1 * s.val = 2048 * b.val + s.val; rw [(at9 b p).1]; omega
  | ⟨1, _⟩ => show win0_9.index (pt b p) 1 * 128 + 1 * l.val = 128 * p.val + l.val; rw [(at9 b p).2]; omega

theorem flushed9 {R : Host.Reals} (H : Holds R (aq m c) (ak m c) (av m c) (ag m c) (au m c)) (t : Fin cfg0.N) :
    (dats m 0 c).flushed 9 t = ((cfg0.win 9).blk t).view.read (Elt Ideal) (val_main_v88 (F := Ideal) (aq m c) (ak m c) (av m c) (au m c) (ag m c)) := by
  obtain ⟨b, p, rfl⟩ := pt_onto t
  show (cfg0.win 9).cut (grid0.coords (pt b p)) ((dats m 0 c).after 9 (pt b p)) = _
  rw [after0_9]
  funext j
  rw [View.read_apply]
  obtain ⟨s, l, rfl⟩ : ∃ (s : Fin 2048) (l : Fin 128), j = (ix2 s l : S2048x128.Idx) := ⟨j 0, j 1, ValueIdx.eq_ix2 j⟩
  rw [emb9]
  show (wrote m c b p).2.1 (ix2 s l) = _
  exact point_k (stages m c b p H) s l (wrote_fills m c b p) H

theorem final9 {R : Host.Reals} (H : Holds R (aq m c) (ak m c) (av m c) (ag m c) (au m c)) : (dats m 0 c).arrAt 9 cfg0.N = val_main_v88 (F := Ideal) (aq m c) (ak m c) (av m c) (au m c) (ag m c) :=
  (dats m 0 c).arrAt_eq_of_cover 9 _ (fun t _ => flushed9 m c H t) fun i => by
    have h0 : (i 0 : Nat) < 8192 := (i 0).isLt
    have h1 : (i 1 : Nat) < 384 := (i 1).isLt
    obtain ⟨b, hb⟩ : ∃ b : Fin 4, b.val = (i 0 : Nat) / 2048 := ⟨⟨(i 0 : Nat) / 2048, by omega⟩, rfl⟩
    obtain ⟨p, hp⟩ : ∃ p : Fin 3, p.val = (i 1 : Nat) / 128 := ⟨⟨(i 1 : Nat) / 128, by omega⟩, rfl⟩
    refine ⟨pt b p, flush0_9 _, ?_⟩
    show i ∈ ((View.whole main_v48_1).slice (win0_9.rect (pt b p))).set
    rw [View.set_slice_whole, Rect.mem_set_unit]
    intro a
    match a with
    | ⟨0, _⟩ => show win0_9.index (pt b p) 0 * 2048 ≤ (i 0 : Nat) ∧ (i 0 : Nat) < win0_9.index (pt b p) 0 * 2048 + 2048; rw [(at9 b p).1]; omega
    | ⟨1, _⟩ => show win0_9.index (pt b p) 1 * 128 ≤ (i 1 : Nat) ∧ (i 1 : Nat) < win0_9.index (pt b p) 1 * 128 + 128; rw [(at9 b p).2]; omega

/-- Where an element of a point's block of the values' gradient lies. -/
theorem emb10 (b : Fin 4) (p : Fin 3) (s : Fin 2048) (l : Fin 128) :
    (((cfg0.win 10).blk (pt b p)).view.emb (ix2 s l : S2048x128.Idx) : S8192x384.Idx) = ix2 (tok b s) (wlane p l) := by
  funext a
  apply Fin.ext
  match a with
  | ⟨0, _⟩ => show win0_10.index (pt b p) 0 * 2048 + 1 * s.val = 2048 * b.val + s.val; rw [(at10 b p).1]; omega
  | ⟨1, _⟩ => show win0_10.index (pt b p) 1 * 128 + 1 * l.val = 128 * p.val + l.val; rw [(at10 b p).2]; omega

theorem flushed10 {R : Host.Reals} (H : Holds R (aq m c) (ak m c) (av m c) (ag m c) (au m c)) (t : Fin cfg0.N) :
    (dats m 0 c).flushed 10 t = ((cfg0.win 10).blk t).view.read (Elt Ideal) (val_main_v89 (F := Ideal) (aq m c) (ak m c) (au m c) (ag m c)) := by
  obtain ⟨b, p, rfl⟩ := pt_onto t
  show (cfg0.win 10).cut (grid0.coords (pt b p)) ((dats m 0 c).after 10 (pt b p)) = _
  rw [after0_10]
  funext j
  rw [View.read_apply]
  obtain ⟨s, l, rfl⟩ : ∃ (s : Fin 2048) (l : Fin 128), j = (ix2 s l : S2048x128.Idx) := ⟨j 0, j 1, ValueIdx.eq_ix2 j⟩
  rw [emb10]
  show (wrote m c b p).2.2.1 (ix2 s l) = _
  exact point_v (stages m c b p H) s l (wrote_fills m c b p) H

theorem final10 {R : Host.Reals} (H : Holds R (aq m c) (ak m c) (av m c) (ag m c) (au m c)) : (dats m 0 c).arrAt 10 cfg0.N = val_main_v89 (F := Ideal) (aq m c) (ak m c) (au m c) (ag m c) :=
  (dats m 0 c).arrAt_eq_of_cover 10 _ (fun t _ => flushed10 m c H t) fun i => by
    have h0 : (i 0 : Nat) < 8192 := (i 0).isLt
    have h1 : (i 1 : Nat) < 384 := (i 1).isLt
    obtain ⟨b, hb⟩ : ∃ b : Fin 4, b.val = (i 0 : Nat) / 2048 := ⟨⟨(i 0 : Nat) / 2048, by omega⟩, rfl⟩
    obtain ⟨p, hp⟩ : ∃ p : Fin 3, p.val = (i 1 : Nat) / 128 := ⟨⟨(i 1 : Nat) / 128, by omega⟩, rfl⟩
    refine ⟨pt b p, flush0_10 _, ?_⟩
    show i ∈ ((View.whole main_v48_2).slice (win0_10.rect (pt b p))).set
    rw [View.set_slice_whole, Rect.mem_set_unit]
    intro a
    match a with
    | ⟨0, _⟩ => show win0_10.index (pt b p) 0 * 2048 ≤ (i 0 : Nat) ∧ (i 0 : Nat) < win0_10.index (pt b p) 0 * 2048 + 2048; rw [(at10 b p).1]; omega
    | ⟨1, _⟩ => show win0_10.index (pt b p) 1 * 128 ≤ (i 1 : Nat) ∧ (i 1 : Nat) < win0_10.index (pt b p) 1 * 128 + 128; rw [(at10 b p).2]; omega

/-- Where an element of a point's block of the tiles lies. -/
theorem emb11 (b : Fin 4) (p : Fin 3) (s : Fin 2048) (l : Fin 128) :
    (((cfg0.win 11).blk (pt b p)).view.emb (ix2 s l : S2048x128.Idx) : S8192x384.Idx) = ix2 (tok b s) (wlane p l) := by
  funext a
  apply Fin.ext
  match a with
  | ⟨0, _⟩ => show win0_11.index (pt b p) 0 * 2048 + 1 * s.val = 2048 * b.val + s.val; rw [(at11 b p).1]; omega
  | ⟨1, _⟩ => show win0_11.index (pt b p) 1 * 128 + 1 * l.val = 128 * p.val + l.val; rw [(at11 b p).2]; omega

theorem flushed11 (t : Fin cfg0.N) :
    (dats m 0 c).flushed 11 t = ((cfg0.win 11).blk t).view.read (Elt Ideal) (tiles m c) := by
  obtain ⟨b, p, rfl⟩ := pt_onto t
  show (cfg0.win 11).cut (grid0.coords (pt b p)) ((dats m 0 c).after 11 (pt b p)) = _
  rw [after0_11]
  funext j
  rw [View.read_apply]
  obtain ⟨s, l, rfl⟩ : ∃ (s : Fin 2048) (l : Fin 128), j = (ix2 s l : S2048x128.Idx) := ⟨j 0, j 1, ValueIdx.eq_ix2 j⟩
  rw [emb11]
  show (wrote m c b p).2.2.2 (ix2 s l) = _
  exact (tiles_at m c b p s l).symm

theorem final11 : (dats m 0 c).arrAt 11 cfg0.N = tiles m c :=
  (dats m 0 c).arrAt_eq_of_cover 11 _ (fun t _ => flushed11 m c t) fun i => by
    have h0 : (i 0 : Nat) < 8192 := (i 0).isLt
    have h1 : (i 1 : Nat) < 384 := (i 1).isLt
    obtain ⟨b, hb⟩ : ∃ b : Fin 4, b.val = (i 0 : Nat) / 2048 := ⟨⟨(i 0 : Nat) / 2048, by omega⟩, rfl⟩
    obtain ⟨p, hp⟩ : ∃ p : Fin 3, p.val = (i 1 : Nat) / 128 := ⟨⟨(i 1 : Nat) / 128, by omega⟩, rfl⟩
    refine ⟨pt b p, flush0_11 _, ?_⟩
    show i ∈ ((View.whole main_v48_3).slice (win0_11.rect (pt b p))).set
    rw [View.set_slice_whole, Rect.mem_set_unit]
    intro a
    match a with
    | ⟨0, _⟩ => show win0_11.index (pt b p) 0 * 2048 ≤ (i 0 : Nat) ∧ (i 0 : Nat) < win0_11.index (pt b p) 0 * 2048 + 2048; rw [(at11 b p).1]; omega
    | ⟨1, _⟩ => show win0_11.index (pt b p) 1 * 128 ≤ (i 1 : Nat) ∧ (i 1 : Nat) < win0_11.index (pt b p) 1 * 128 + 128; rw [(at11 b p).2]; omega

/-- The tiles added, and the heads' lanes kept. -/
def keep (y : Arr S8192x384) : Arr S8192x6 :=
  extractStridedSlice S8192x6 ![0, 8] (Host.reduceAdd (shapeCast S8192x3x128 y shapeCasts_S8192x384_S8192x3x128) (constant S_ .f32 0x00000000#32 : FVec Ideal S_ .f32) reducesTo_S8192x3x128_S8192x128_d1 h_S_) slices_S8192x128_S8192x6_0_8

theorem keep_at (y : Arr S8192x384) (r : Fin 8192) (j : Fin 6) : keep y (ix2 r j) = ∑ p : Fin 3, y (ix2 r (wlane p ⟨j.val + 8, by omega⟩)) := by
  unfold wlane
  pointwise [keep]
  exact Finset.sum_congr rfl fun p _ => congrArg (fun n => y (ix2 r n)) (Fin.ext (by show p.val * 128 + (8 + j.val) = 128 * p.val + (j.val + 8); omega))

/-- What the host's last lines make of the tiles. -/
theorem tail_gates : Pipeline.afterTail₀ cfgs (dats m) 0 (V0 m) [hostOps1] c main_v51 = keep (tiles m c) := by
  have e : Pipeline.withArrays (cfgs 0).spec c (V0 m c) (fun w => (dats m 0 c).arrAt w (cfgs 0).N) (Proc.devRef .tc main_v48_3) = tiles m c :=
    ((dats m 0 c).withArrays_arrAt sharedIn0 (V0 m c) (A_eq m c) 11).trans (final11 m c)
  unfold Pipeline.afterTail₀
  generalize Pipeline.withArrays (cfgs 0).spec c (V0 m c) (fun w => (dats m 0 c).arrAt w (cfgs 0).N) = W at e
  simp only [List.flatten_cons, List.flatten_nil, List.append_nil]
  after_results_simp
  rw [e]
  rfl

/-- The kept lanes are the reference's gradient of the gates. -/
theorem gates {R : Host.Reals} (H : Holds R (aq m c) (ak m c) (av m c) (ag m c) (au m c)) :
    keep (tiles m c) = val_main_v91 (F := Ideal) (aq m c) (ak m c) (av m c) (au m c) (ag m c) := by
  funext i
  obtain ⟨r, j, rfl⟩ : ∃ (r : Fin 8192) (j : Fin 6), i = (ix2 r j : S8192x6.Idx) := ⟨i 0, i 1, ValueIdx.eq_ix2 i⟩
  obtain ⟨b, s, rfl⟩ : ∃ b s, r = tok b s :=
    ⟨⟨r.val / 2048, by omega⟩, ⟨r.val % 2048, Nat.mod_lt _ (by norm_num)⟩, Fin.ext (by show r.val = 2048 * (r.val / 2048) + r.val % 2048; omega)⟩
  rw [keep_at]
  simp only [tiles_at]
  rw [Finset.sum_congr rfl fun p _ => point_u (stages m c b p H) s (wrote_fills m c b p) H j]
  have hj : j.val / 2 < 3 := by omega
  rw [Finset.sum_eq_single (⟨j.val / 2, hj⟩ : Fin 3)]
  · exact if_pos rfl
  · intro p _ hp
    exact if_neg fun e => hp (Fin.ext e.symm)
  · intro h; exact absurd (Finset.mem_univ _) h

/-- The stated precondition says that every argument is a family of real numbers. -/
theorem holds_of_pre (h : Cert.Pre_FoxIdeal_fox_finite m) : ∃ R, Holds R (aq m c) (ak m c) (av m c) (ag m c) (au m c) :=
  holds_of_real _ _ _ _ _ (fun i => Cert.Reals.real_of_abs_lt (congrFun (h c).1 i)) (fun i => Cert.Reals.real_of_abs_lt (congrFun (h c).2.1 i))
    (fun i => Cert.Reals.real_of_abs_lt (congrFun (h c).2.2.1 i)) (fun i => Cert.Reals.real_of_abs_lt (congrFun (h c).2.2.2.2 i))
    (fun i => Cert.Reals.real_of_abs_lt (congrFun (h c).2.2.2.1 i))

/-- The two programs agree: the kernel's four results are the reference's. -/
theorem agree : Cert.algebraic_FoxIdeal_FoxRefIdeal_pre_fox_finite := by
  intro m g m' g' hpre hargs
  refine ⟨fun c => val_main_v87 (F := Ideal) (aq m c) (ak m c) (av m c) (au m c) (ag m c), fun c => val_main_v88 (F := Ideal) (aq m c) (ak m c) (av m c) (au m c) (ag m c),
    fun c => val_main_v89 (F := Ideal) (aq m c) (ak m c) (au m c) (ag m c), fun c => val_main_v91 (F := Ideal) (aq m c) (ak m c) (av m c) (au m c) (ag m c), ?_, ?_⟩
  · refine (θ_run defs _ _).mono (fun r h c => ?_) (θ_run_and (run_main m g) (frame_any m g))
    obtain ⟨R, H⟩ := holds_of_pre m c hpre
    obtain ⟨h, k, -⟩ := h
    obtain ⟨k0, k1, k2, k3, k4⟩ := k c
    exact ⟨((h c).1 8).trans (final8 m c H), ((h c).1 9).trans (final9 m c H), ((h c).1 10).trans (final10 m c H),
      ((h c).2 main_v51 (Pipeline.mem_restRefs_of main_v51 (by decide) (by decide))).trans ((tail_gates m c).trans (gates m c H)), k0, k1, k2, k3, k4⟩
  · refine (θ_run Cert.FoxRefIdeal.defs _ _).mono (fun r h c => ?_) (Cert.FoxRefIdeal.Value.run m' g')
    obtain ⟨h0, h1, h2, h3, k0, k1, k2, k3, k4⟩ := h c
    obtain ⟨a0, a1, a2, a3, a4⟩ := hargs c
    refine ⟨h0.trans ((Cert.FoxRefIdeal.Read.val_main_v87_eq m' c).trans ?_), h1.trans ((Cert.FoxRefIdeal.Read.val_main_v88_eq m' c).trans ?_),
      h2.trans ((Cert.FoxRefIdeal.Read.val_main_v89_eq m' c).trans ?_), h3.trans ((Cert.FoxRefIdeal.Read.val_main_v91_eq m' c).trans ?_), k0, k1, k2, k3, k4⟩
    · rw [a0, a1, a2, a3, a4]
    · rw [a0, a1, a2, a3, a4]
    · rw [a0, a1, a3, a4]
    · rw [a0, a1, a2, a3, a4]

end Cert.FoxIdeal.Walk

end
-- ==== Proof.NormReal.lean ====
module

public import proofs.«01_k».proof.Proof.Reals

@[expose] public section

noncomputable section

/-!
# The gradient through a normalisation by the root of the mean square

For one row `h` of 1024 numbers, with gain `g`, incoming gradient `d` and a second gradient `x` that joins it, the kernel's element is
`r·(d·g − n·mean(d·n·g)) + x`, with `r` one over the root of `mean(h²) + ε` and `n = h·r`. The reference differentiates the root itself: its
element is `x + d·g·r + h·s + s·h`, with `s` the sum of `h·(d·g)` times `−½·(r/(mean(h²) + ε))`, divided by 1024. These agree over the real
numbers, because the mean of the squares and ε together are above zero, and the square of `r` is one over them.
-/

namespace Cert.NormReal

open Idealize.ShloMosaic

/-- The number of elements in a row. -/
abbrev width : EReal := Ideal.ofBits .f32 0x44800000#32

/-- The small number added to the mean of the squares. -/
abbrev eps : EReal := Ideal.ofBits .f32 0x358637BD#32

/-- Minus one half. -/
abbrev mhalf : EReal := Ideal.ofBits .f32 0xBF000000#32

theorem width_eq : width = ((1024 : ℝ) : EReal) := by
  simp [Ideal.ofBits, Ideal.ieee, -EReal.coe_mul]
  norm_num

theorem mhalf_eq : mhalf = ((-(1 / 2) : ℝ) : EReal) := by
  simp [Ideal.ofBits, Ideal.ieee, -EReal.coe_mul, -EReal.coe_neg]
  norm_num

theorem eps_eq : ∃ e : ℝ, 0 < e ∧ eps = (e : EReal) := by
  refine ⟨_, ?_, by simp [Ideal.ofBits, Ideal.ieee, -EReal.coe_mul]; rfl⟩
  norm_num

/-- The mean of the squares of a row, and the small number. -/
def meanSq (h : Fin 1024 → EReal) : EReal := Ideal.div (∑ k, h k * h k) width + eps

/-- One over its root. -/
def inv (h : Fin 1024 → EReal) : EReal := Ideal.rsqrt (meanSq h)

/-- An element of the gradient, as the kernel takes it. -/
def kernelElt (d h g : Fin 1024 → EReal) (x : EReal) (l : Fin 1024) : EReal :=
  inv h * (d l * g l - h l * inv h * Ideal.div (∑ k, d k * (h k * inv h) * g k) width) + x

/-- What the root's derivative contributes to every element of the row. -/
def rootSlope (d h g : Fin 1024 → EReal) : EReal := Ideal.div ((∑ k, h k * (d k * g k)) * (mhalf * Ideal.div (inv h) (meanSq h))) width

/-- An element of the gradient, as the reference takes it. -/
def refElt (d h g : Fin 1024 → EReal) (x : EReal) (l : Fin 1024) : EReal :=
  x + d l * g l * inv h + h l * rootSlope d h g + rootSlope d h g * h l

/-- Over the real numbers the mean is above zero, and one over its root is a real number whose square is one over the mean. -/
theorem inv_real (h : Fin 1024 → ℝ) : ∃ M r : ℝ, 0 < M ∧ r * r = M⁻¹ ∧ meanSq (fun k => (h k : EReal)) = (M : EReal) ∧ inv (fun k => (h k : EReal)) = (r : EReal) := by
  obtain ⟨e, he, hee⟩ := eps_eq
  have hM : meanSq (fun k => (h k : EReal)) = (((∑ k, h k * h k) / 1024 + e : ℝ) : EReal) := by
    unfold meanSq
    rw [hee, width_eq, EReal.coe_add, ← Reals.div_coe_coe _ _ (by norm_num), Reals.coe_sum]
    simp only [EReal.coe_mul]
  have hp : 0 < (∑ k, h k * h k) / 1024 + e := by
    have : 0 ≤ ∑ k, h k * h k := Finset.sum_nonneg fun k _ => mul_self_nonneg _
    positivity
  refine ⟨_, (Real.sqrt ((∑ k, h k * h k) / 1024 + e))⁻¹, hp, ?_, hM, ?_⟩
  · rw [← mul_inv, Real.mul_self_sqrt hp.le]
  · unfold inv
    rw [hM, Ideal.rsqrt_coe, if_neg (not_lt.mpr hp.le), if_neg hp.ne']

/-- The two forms agree on rows of real numbers. -/
theorem elt_eq (d h g : Fin 1024 → ℝ) (x : ℝ) (l : Fin 1024) :
    kernelElt (fun k => (d k : EReal)) (fun k => (h k : EReal)) (fun k => (g k : EReal)) (x : EReal) l
      = refElt (fun k => (d k : EReal)) (fun k => (h k : EReal)) (fun k => (g k : EReal)) (x : EReal) l := by
  obtain ⟨M, r, hM, hr, eM, er⟩ := inv_real h
  have hk : (∑ k, (d k : EReal) * ((h k : EReal) * (r : EReal)) * (g k : EReal)) = ((r * ∑ k, h k * (d k * g k) : ℝ) : EReal) := by
    rw [Finset.mul_sum, Reals.coe_sum]
    refine Finset.sum_congr rfl fun k _ => ?_
    simp only [← EReal.coe_mul]
    congr 1; ring
  have hs : (∑ k, (h k : EReal) * ((d k : EReal) * (g k : EReal))) = ((∑ k, h k * (d k * g k) : ℝ) : EReal) := by
    rw [Reals.coe_sum]; simp only [EReal.coe_mul]
  unfold kernelElt refElt rootSlope
  have h1024 : (1024 : ℝ) ≠ 0 := by norm_num
  rw [er, eM, hk, hs, width_eq, mhalf_eq, Reals.div_coe_coe _ _ hM.ne']
  simp only [← EReal.coe_mul]
  rw [Reals.div_coe_coe _ _ h1024, Reals.div_coe_coe _ _ h1024]
  simp only [← EReal.coe_mul, ← EReal.coe_add, ← EReal.coe_sub]
  generalize ∑ k, h k * (d k * g k) = S
  have : r / M = r * (r * r) := by rw [hr, div_eq_mul_inv]
  rw [this]
  exact congrArg Real.toEReal (by ring)

end Cert.NormReal

end
-- ==== Proof.Du2Read.lean ====
module

public import proofs.«01_k».proof.Proof.NormReal
public import proofs.«01_k».proof.Proof.Gen.Du2Ideal.Skeleton
public import proofs.«01_k».proof.Proof.Gen.Du2RefIdeal.Read
public import Idealize.ShloMosaic.Lib.MatmulPlain
public import Idealize.ShloMosaic.Lib.ValueIdx
public import Idealize.ShloMosaic.Lib.Pointwise

@[expose] public section

set_option maxRecDepth 16384

noncomputable section

/-!
# The pieces of the gradient through the gated feed-forward's norm, element by element

What the kernel computes on a tile of 256 rows, and what the reference computes on all the rows, each read at one element: the product of the
incoming gradients with the transposed weights, the normalised row, the gradient of the rows and the gradient of the gain.
-/

namespace Cert.Du2Ideal.Walk

open Cert.Du2Ideal Cert.Du2Ideal.Gen
open Idealize.ShloMosaic Idealize.ShloMosaic.TcCoe
open Cert.NormReal

section Tile

variable (x y : Vec Ideal S256x2816 .bf16) (u v : Vec Ideal S2816x1024 .bf16) (h r : Vec Ideal S256x1024 .f32) (g : Vec Ideal S1x1024 .f32)

/-- One over the root of a row's mean square. -/
theorem root_at (a : Fin 256) (b : Fin 1) : k0_pay3 (F := Ideal) h (ix2 a b) = inv fun k => h (ix2 a k) := by
  pointwise [k0_pay3]
  rfl

/-- The normalised tile at an element. -/
theorem unit_at (a : Fin 256) (l : Fin 1024) : k0_pay4 (F := Ideal) h (ix2 a l) = h (ix2 a l) * inv fun k => h (ix2 a k) := by
  pointwise [k0_pay4]
  rw [root_at]

/-- The tile of the gradient at an element. -/
theorem grad_at (a : Fin 256) (l : Fin 1024) :
    k0_pay6 (F := Ideal) x u y v h r g (ix2 a l)
      = kernelElt (fun k => k0_pay2 (F := Ideal) x u y v (ix2 a k)) (fun k => h (ix2 a k)) (fun k => g (ix2 0 k)) (r (ix2 a l)) l := by
  generalize e : k0_pay2 (F := Ideal) x u y v = D
  unfold kernelElt
  pointwise [k0_pay6, k0_pay5]
  simp only [root_at, unit_at, e]

/-- The tile's share of the gain's gradient at an element. -/
theorem gain_at (l : Fin 1024) :
    k0_pay1 (F := Ideal) (k0_pay5 x u y v h) (ix3 0 0 l)
      = ∑ a : Fin 256, k0_pay2 (F := Ideal) x u y v (ix2 a l) * (h (ix2 a l) * inv fun k => h (ix2 a k)) := by
  pointwise [k0_pay1, k0_pay5]
  simp only [unit_at]

end Tile

/-- The two products, added, at an element of the tile. -/
theorem prod_at (x y : Vec Ideal S256x2816 .bf16) (u v : Vec Ideal S2816x1024 .bf16) (a : Fin 256) (l : Fin 1024) :
    k0_pay2 (F := Ideal) x u y v (ix2 a l) = (∑ k : Fin 2816, x (ix2 a k) * u (ix2 k l)) + ∑ k : Fin 2816, y (ix2 a k) * v (ix2 k l) := by
  unfold k0_pay2
  have hd : dot_S256x2816_S2816x1024_S256x1024_1_0_0_1_n_n = DotDims.plain 256 2816 1024 := rfl
  show FloatOps.matmul dot_S256x2816_S2816x1024_S256x1024_1_0_0_1_n_n _ _ _ _ (ix2 a l) + FloatOps.matmul dot_S256x2816_S2816x1024_S256x1024_1_0_0_1_n_n _ _ _ _ (ix2 a l) = _
  rw [hd]
  refine congrArg₂ (· + ·) ((Ideal.matmul_plain_apply _ _ _ _ a l).trans ?_) ((Ideal.matmul_plain_apply _ _ _ _ a l).trans ?_)
  all_goals
    show Ideal.ofBits .f32 0x00000000#32 + _ = _
    rw [Ideal.ofBits_zero_f32, zero_add]
    rfl

section Ref

open Cert.Du2RefIdeal.Read

variable (X Y : FVec Ideal S8192x2816 .bf16) (U V : FVec Ideal S2816x1024 .bf16) (H R : FVec Ideal S8192x1024 .f32) (G : FVec Ideal S1024 .f32)

/-- The reference's product at an element. -/
theorem ref_prod_at (i : Fin 8192) (l : Fin 1024) :
    val_main_v26 (F := Ideal) X Y U V (ix2 i l) = (∑ k : Fin 2816, X (ix2 i k) * U (ix2 k l)) + ∑ k : Fin 2816, Y (ix2 i k) * V (ix2 k l) := by
  rw [val_main_v26_apply, val_main_v24_apply, val_main_v25_apply]
  refine (add_comm _ _).trans (congrArg₂ (· + ·) (Finset.sum_congr rfl fun k _ => ?_) (Finset.sum_congr rfl fun k _ => ?_))
  · rw [val_main_v20_apply]
    exact congrArg₂ (· * ·) (congrArg X (ValueIdx.eq_ix2 (lidx_main_v25 (ix2 i l) k))) (congrArg U (ValueIdx.eq_ix2 (idx_main_v20 (ridx_main_v25 (ix2 i l) k))))
  · rw [val_main_v22_apply]
    exact congrArg₂ (· * ·) (congrArg Y (ValueIdx.eq_ix2 (lidx_main_v24 (ix2 i l) k))) (congrArg V (ValueIdx.eq_ix2 (idx_main_v22 (ridx_main_v24 (ix2 i l) k))))

/-- The mean square of a row, and the small number. -/
theorem ref_mean_at (i : Fin 8192) (b : Fin 1) : val_main_v10 (F := Ideal) H (ix2 i b) = meanSq fun k => H (ix2 i k) := by
  pointwise [val_main_v10, val_main_v9, val_main_v8, val_main_v7, val_main_v6, val_main_v5, val_main_v4, val_main_cst, val_main_cst_0, val_main_cst_1]
  rfl

/-- One over the root of a row's mean square. -/
theorem ref_root_at (i : Fin 8192) (b : Fin 1) : val_main_v11 (F := Ideal) H (ix2 i b) = inv fun k => H (ix2 i k) := by
  rw [val_main_v11_apply]
  exact congrArg Ideal.rsqrt (ref_mean_at H i b)

/-- The reference's gradient of the gain. -/
theorem ref_gain_at (l : Fin 1024) :
    val_main_v32 (F := Ideal) X Y U V H (ix1 l) = ∑ i : Fin 8192, val_main_v26 (F := Ideal) X Y U V (ix2 i l) * (H (ix2 i l) * inv fun k => H (ix2 i k)) := by
  unfold val_main_v32 val_main_v29 val_main_v28 val_main_v27 val_main_v16 val_main_v15
  have e := fun i => ref_root_at H i 0
  generalize val_main_v11 (F := Ideal) H = r at e ⊢
  generalize val_main_v26 (F := Ideal) X Y U V = D
  pointwise [val_main_cst_3, val_main_cst_4]
  simp only [e, Fin.sum_univ_one]
  exact Finset.sum_congr rfl fun i _ => mul_comm _ _

/-- The reference's gradient at an element. -/
theorem ref_grad_at (i : Fin 8192) (l : Fin 1024) :
    val_main_v47 (F := Ideal) X Y U V H R G (ix2 i l)
      = refElt (fun k => val_main_v26 (F := Ideal) X Y U V (ix2 i k)) (fun k => H (ix2 i k)) (fun k => G (ix1 k)) (R (ix2 i l)) l := by
  unfold val_main_v47 val_main_v46 val_main_v45 val_main_v44 val_main_v43 val_main_v42 val_main_v41 val_main_v40 val_main_v39 val_main_v38 val_main_v37 val_main_v36 val_main_v35 val_main_v34 val_main_v33 val_main_v31 val_main_v30 val_main_v17 val_main_v14 val_main_v13 val_main_v12
  generalize val_main_v26 (F := Ideal) X Y U V = D
  unfold refElt rootSlope
  have e := fun i => ref_root_at H i 0
  have f := fun i => ref_mean_at H i 0
  generalize val_main_v11 (F := Ideal) H = r at e ⊢
  generalize val_main_v10 (F := Ideal) H = M at f ⊢
  pointwise [val_main_cst_2, val_main_cst_6, val_main_cst_7, val_main_cst_5]
  simp only [Fin.sum_univ_one, e, f]

end Ref

end Cert.Du2Ideal.Walk

end
-- ==== Proof.Du2Value.lean ====
module

public import proofs.«01_k».proof.Defs
public import proofs.«01_k».proof.Proof.Du2Read
public import proofs.«01_k».proof.Proof.Gen.Du2Ideal.Frame
public import proofs.«01_k».proof.Proof.Gen.Du2RefIdeal.Run
public import proofs.«01_k».proof.Proof.Gen.Pre_du2_finite

@[expose] public section

set_option maxRecDepth 65536

noncomputable section

/-!
# The gradient through the gated feed-forward's norm

The kernel multiplies the two incoming gradients by their weights, adds the products, and takes the sum through the normalisation, 256 rows at a time. Each point of the grid writes its rows of the gradient, and its share of the gain's gradient; the host
adds the 32 shares. The rows are the reference's because every element depends on its own row alone; the shares add up to the reference's sum
over all the rows because the rows are the 32 groups of 256, one after another.
-/

namespace Cert.Du2Ideal.Walk

open Cert.Du2Ideal Cert.Du2Ideal.Gen
open Idealize.ShloMosaic Idealize.ShloMosaic.TcCoe Idealize.SL.Sem
open Idealize.ShloMosaic.Pipeline (Dat)
open Cert.Du2RefIdeal.Read (val_main_v47 val_main_v32 val_main_v26)
open Cert.NormReal

/-- The offsets of a whole block. -/
theorem zeros : (![0, 0] : Fin 2 → Nat) = fun _ => 0 := funext fun a => by fin_cases a <;> rfl
theorem zeros3 : (![0, 0, 0] : Fin 3 → Nat) = fun _ => 0 := funext fun a => by fin_cases a <;> rfl

/-- Every argument is a family of real numbers. -/
structure Finite (X : FVec Ideal S8192x2816 .bf16) (Y : FVec Ideal S8192x2816 .bf16) (U : FVec Ideal S2816x1024 .bf16) (V : FVec Ideal S2816x1024 .bf16) (H : FVec Ideal S8192x1024 .f32) (R : FVec Ideal S8192x1024 .f32) (G : FVec Ideal S1024 .f32) : Prop where
  x : ∀ i, (X i : EReal) = ((EReal.toReal (X i) : ℝ) : EReal)
  y : ∀ i, (Y i : EReal) = ((EReal.toReal (Y i) : ℝ) : EReal)
  u : ∀ i, (U i : EReal) = ((EReal.toReal (U i) : ℝ) : EReal)
  v : ∀ i, (V i : EReal) = ((EReal.toReal (V i) : ℝ) : EReal)
  h : ∀ i, (H i : EReal) = ((EReal.toReal (H i) : ℝ) : EReal)
  r : ∀ i, (R i : EReal) = ((EReal.toReal (R i) : ℝ) : EReal)
  g : ∀ i, (G i : EReal) = ((EReal.toReal (G i) : ℝ) : EReal)

section Rows

variable {X : FVec Ideal S8192x2816 .bf16} {Y : FVec Ideal S8192x2816 .bf16} {U : FVec Ideal S2816x1024 .bf16} {V : FVec Ideal S2816x1024 .bf16} {H : FVec Ideal S8192x1024 .f32} {R : FVec Ideal S8192x1024 .f32} {G : FVec Ideal S1024 .f32}

/-- The stated precondition says this. -/
theorem finite_of_pre (h : (Cert.Pre_du2_finite.fn (F := Ideal) X Y U V H R G).1 = (fun _ => 1#1)
      ∧ (Cert.Pre_du2_finite.fn (F := Ideal) X Y U V H R G).2.1 = (fun _ => 1#1)
      ∧ (Cert.Pre_du2_finite.fn (F := Ideal) X Y U V H R G).2.2.1 = (fun _ => 1#1)
      ∧ (Cert.Pre_du2_finite.fn (F := Ideal) X Y U V H R G).2.2.2.1 = (fun _ => 1#1)
      ∧ (Cert.Pre_du2_finite.fn (F := Ideal) X Y U V H R G).2.2.2.2.1 = (fun _ => 1#1)
      ∧ (Cert.Pre_du2_finite.fn (F := Ideal) X Y U V H R G).2.2.2.2.2.1 = (fun _ => 1#1)
      ∧ (Cert.Pre_du2_finite.fn (F := Ideal) X Y U V H R G).2.2.2.2.2.2 = (fun _ => 1#1)) : Finite X Y U V H R G :=
  ⟨fun i => Reals.real_of_abs_lt (congrFun h.1 i), fun i => Reals.real_of_abs_lt (congrFun h.2.1 i), fun i => Reals.real_of_abs_lt (congrFun h.2.2.1 i), fun i => Reals.real_of_abs_lt (congrFun h.2.2.2.1 i), fun i => Reals.real_of_abs_lt (congrFun h.2.2.2.2.1 i), fun i => Reals.real_of_abs_lt (congrFun h.2.2.2.2.2.1 i), fun i => Reals.real_of_abs_lt (congrFun h.2.2.2.2.2.2 i)⟩

/-- The reference's product at an element is a real number. -/
theorem prod_real (hf : Finite X Y U V H R G) (i : Fin 8192) (l : Fin 1024) :
    ∃ D : ℝ, val_main_v26 (F := Ideal) X Y U V (ix2 i l) = (D : EReal) := by
  refine ⟨
    (∑ k : Fin 2816, EReal.toReal (X (ix2 i k)) * EReal.toReal (U (ix2 k l))) + ∑ k : Fin 2816, EReal.toReal (Y (ix2 i k)) * EReal.toReal (V (ix2 k l)), ?_⟩
  rw [ref_prod_at, EReal.coe_add, Reals.coe_sum, Reals.coe_sum]
  refine congrArg₂ (· + ·) (Finset.sum_congr rfl fun k _ => ?_) (Finset.sum_congr rfl fun k _ => ?_)
  · rw [EReal.coe_mul, ← hf.x, ← hf.u]
  · rw [EReal.coe_mul, ← hf.y, ← hf.v]

/-- So the two forms of the gradient agree at an element. -/
theorem forms (hf : Finite X Y U V H R G) (i : Fin 8192) (l : Fin 1024) :
    kernelElt (fun k => val_main_v26 (F := Ideal) X Y U V (ix2 i k)) (fun k => H (ix2 i k)) (fun k => G (ix1 k)) (R (ix2 i l)) l
      = refElt (fun k => val_main_v26 (F := Ideal) X Y U V (ix2 i k)) (fun k => H (ix2 i k)) (fun k => G (ix1 k)) (R (ix2 i l)) l := by
  choose D hD using fun k => prod_real hf i k
  have hH : (fun k => (H (ix2 i k) : EReal)) = fun k => ((EReal.toReal (H (ix2 i k)) : ℝ) : EReal) := funext fun k => hf.h _
  have hG : (fun k => (G (ix1 k) : EReal)) = fun k => ((EReal.toReal (G (ix1 k)) : ℝ) : EReal) := funext fun k => hf.g _
  rw [show (fun k => val_main_v26 (F := Ideal) X Y U V (ix2 i k)) = fun k => ((D k : ℝ) : EReal) from funext hD, hH, hG, hf.r (ix2 i l)]
  exact elt_eq D _ _ _ l

end Rows

/-- The sum over the rows is the sum over the groups of the sums over their rows. -/
theorem groups (f : Fin 8192 → EReal) : ∑ p : Fin 32, ∑ a : Fin 256, f ⟨256 * p.val + a.val, by omega⟩ = ∑ i : Fin 8192, f i := by
  rw [← Fintype.sum_prod_type']
  refine Fintype.sum_equiv (finProdFinEquiv (m := 32) (n := 256)) _ (fun i : Fin 8192 => f i) fun q => congrArg f (Fin.ext ?_)
  show 256 * q.1.val + q.2.val = q.2.val + 256 * q.1.val
  omega

variable (m : (ℓ : Loc nD τ sig) → Buf (Elt Ideal) ℓ) (c : Dev nD)

/-- The arguments on a device. -/
abbrev aX : FVec Ideal S8192x2816 .bf16 := m ((c : Thread nD τ).loc main_arg0)
abbrev aY : FVec Ideal S8192x2816 .bf16 := m ((c : Thread nD τ).loc main_arg1)
abbrev aU : FVec Ideal S2816x1024 .bf16 := m ((c : Thread nD τ).loc main_arg2)
abbrev aV : FVec Ideal S2816x1024 .bf16 := m ((c : Thread nD τ).loc main_arg3)
abbrev aH : FVec Ideal S8192x1024 .f32 := m ((c : Thread nD τ).loc main_arg4)
abbrev aR : FVec Ideal S8192x1024 .f32 := m ((c : Thread nD τ).loc main_arg5)
abbrev aG : FVec Ideal S1024 .f32 := m ((c : Thread nD τ).loc main_arg6)

/-- The blocks that the windows take at a point. -/
theorem maps : ∀ t : Fin cfg0.N, t.val < 32
    ∧ (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0 ∧ win0_8.index t 2 = 0) :=
  (by decide +kernel : ∀ t : Fin grid0.N, t.val < 32 ∧ (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) ∧ (win0_6.index t 0 = 0 ∧ win0_6.index t 1 = 0) ∧ (win0_7.index t 0 = t.val ∧ win0_7.index t 1 = 0) ∧ (win0_8.index t 0 = t.val ∧ win0_8.index t 1 = 0 ∧ win0_8.index t 2 = 0))

/-- Where a row of a point's group lies. -/
abbrev row (t : Fin cfg0.N) (a : Fin 256) : Fin 8192 := ⟨256 * t.val + a.val, by have := (maps t).1; omega⟩

theorem read0 (t : Fin cfg0.N) (a : Fin 256) (k : Fin 2816) : (iblk m c 0 t : Vec Ideal S256x2816 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 256 + 1 * a.val = 256 * t.val + a.val; rw [(maps t).2.1.1]; omega
  | ⟨1, _⟩ => show win0_0.index t 1 * 2816 + 1 * k.val = k.val; rw [(maps t).2.1.2]; omega

theorem read1 (t : Fin cfg0.N) (a : Fin 256) (k : Fin 2816) : (iblk m c 1 t : Vec Ideal S256x2816 .bf16) (ix2 a k) = aY m c (ix2 (row t a) k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 256 + 1 * a.val = 256 * t.val + a.val; rw [(maps t).2.2.1.1]; omega
  | ⟨1, _⟩ => show win0_1.index t 1 * 2816 + 1 * k.val = k.val; rw [(maps t).2.2.1.2]; omega

theorem read2 (t : Fin cfg0.N) (a : Fin 2816) (k : Fin 1024) : (iblk m c 2 t : Vec Ideal S2816x1024 .bf16) (ix2 a k) = aU m c (ix2 a k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 2816 + 1 * a.val = a.val; rw [(maps t).2.2.2.1.1]; omega
  | ⟨1, _⟩ => show win0_2.index t 1 * 1024 + 1 * k.val = k.val; rw [(maps t).2.2.2.1.2]; omega

theorem read3 (t : Fin cfg0.N) (a : Fin 2816) (k : Fin 1024) : (iblk m c 3 t : Vec Ideal S2816x1024 .bf16) (ix2 a k) = aV m c (ix2 a k) := by
  unfold iblk
  rw [View.read_apply]
  show V m c main_arg3 _ = _
  rw [V_main_arg3]
  show m (c.tc.loc main_arg3) _ = m (c.tc.loc main_arg3) _
  congr 1
  funext b
  apply Fin.ext
  match b with
  | ⟨0, _⟩ => show win0_3.index t 0 * 2816 + 1 * a.val = a.val; rw [(maps t).2.2.2.2.1.1]; omega
  | ⟨1, _⟩ => show win0_3.index t 1 * 1024 + 1 * k.val = k.val; rw [(maps t).2.2.2.2.1.2]; omega

theorem read4 (t : Fin cfg0.N) (a : Fin 256) (k : Fin 1024) : (iblk m c 4 t : Vec Ideal S256x1024 .f32) (ix2 a k) = aH m c (ix2 (row t a) k) := by
  unfold iblk
  rw [View.read_apply]
  show V m c main_arg4 _ = _
  rw [V_main_arg4]
  show m (c.tc.loc main_arg4) _ = m (c.tc.loc main_arg4) _
  congr 1
  funext b
  apply Fin.ext
  match b with
  | ⟨0, _⟩ => show win0_4.index t 0 * 256 + 1 * a.val = 256 * t.val + a.val; rw [(maps t).2.2.2.2.2.1.1]; omega
  | ⟨1, _⟩ => show win0_4.index t 1 * 1024 + 1 * k.val = k.val; rw [(maps t).2.2.2.2.2.1.2]; omega

theorem read5 (t : Fin cfg0.N) (a : Fin 256) (k : Fin 1024) : (iblk m c 5 t : Vec Ideal S256x1024 .f32) (ix2 a k) = aR m c (ix2 (row t a) k) := by
  unfold iblk
  rw [View.read_apply]
  show V m c main_arg5 _ = _
  rw [V_main_arg5]
  show m (c.tc.loc main_arg5) _ = m (c.tc.loc main_arg5) _
  congr 1
  funext b
  apply Fin.ext
  match b with
  | ⟨0, _⟩ => show win0_5.index t 0 * 256 + 1 * a.val = 256 * t.val + a.val; rw [(maps t).2.2.2.2.2.2.1.1]; omega
  | ⟨1, _⟩ => show win0_5.index t 1 * 1024 + 1 * k.val = k.val; rw [(maps t).2.2.2.2.2.2.1.2]; omega

/-- The gain as the host lays it out. -/
theorem V_gain : V m c main_v0 = (broadcastInDim S1x1024 ![1] bcast_S1024_S1x1024_1 (aG m c) : FVec Ideal S1x1024 .f32) := by
  unfold_abbrev_sides
  simp only [List.flatten_cons, List.flatten_nil, List.append_nil]
  after_results_simp

theorem read6 (t : Fin cfg0.N) (k : Fin 1024) : (iblk m c 6 t : Vec Ideal S1x1024 .f32) (ix2 0 k) = aG m c (ix1 k) := by
  unfold iblk
  rw [View.read_apply]
  show V m c main_v0 _ = _
  rw [V_gain]
  have e : (((cfg0.win 6).blk t).view.emb (ix2 0 k : S1x1024.Idx) : S1x1024.Idx) = ix2 0 k := by
    funext b
    apply Fin.ext
    match b with
    | ⟨0, _⟩ => show win0_6.index t 0 * 1 + 1 * 0 = 0; rw [(maps t).2.2.2.2.2.2.2.1.1]
    | ⟨1, _⟩ => show win0_6.index t 1 * 1024 + 1 * k.val = k.val; rw [(maps t).2.2.2.2.2.2.2.1.2]; omega
  show (broadcastInDim S1x1024 ![1] bcast_S1024_S1x1024_1 (aG m c) : FVec Ideal S1x1024 .f32) (((cfg0.win 6).blk t).view.emb (ix2 0 k : S1x1024.Idx) : S1x1024.Idx) = _
  rw [e]
  pointwise

/-- The tile's product is the reference's, at the tile's rows. -/
theorem prod_eq (t : Fin cfg0.N) (a : Fin 256) (l : Fin 1024) :
    k0_pay2 (F := Ideal) (iblk m c 0 t) (iblk m c 2 t) (iblk m c 1 t) (iblk m c 3 t) (ix2 a l) = val_main_v26 (F := Ideal) (aX m c) (aY m c) (aU m c) (aV m c) (ix2 (row t a) l) := by
  rw [prod_at, ref_prod_at]
  refine congrArg₂ (· + ·) (Finset.sum_congr rfl fun k _ => ?_) (Finset.sum_congr rfl fun k _ => ?_)
  · rw [read0, read2]
  · rw [read1, read3]

/-- Each point writes its rows of the reference's gradient. -/
theorem flushed_grad (hf : Finite (aX m c) (aY m c) (aU m c) (aV m c) (aH m c) (aR m c) (aG m c)) (t : Fin cfg0.N) :
    (dats m 0 c).flushed 7 t = ((cfg0.win 7).blk t).view.read (Elt Ideal) (val_main_v47 (F := Ideal) (aX m c) (aY m c) (aU m c) (aV m c) (aH m c) (aR m c) (aG m c)) := by
  show (cfg0.win 7).cut (grid0.coords t) ((dats m 0 c).after 7 t) = _
  rw [after0_7]
  funext j
  rw [View.read_apply]
  obtain ⟨a, l, rfl⟩ : ∃ (a : Fin 256) (l : Fin 1024), j = (ix2 a l : S256x1024.Idx) := ⟨j 0, j 1, ValueIdx.eq_ix2 j⟩
  have e : (((cfg0.win 7).blk t).view.emb (ix2 a l : S256x1024.Idx) : S8192x1024.Idx) = ix2 (row t a) l := by
    funext b
    apply Fin.ext
    match b with
    | ⟨0, _⟩ => show win0_7.index t 0 * 256 + 1 * a.val = 256 * t.val + a.val; rw [(maps t).2.2.2.2.2.2.2.2.1.1]; omega
    | ⟨1, _⟩ => show win0_7.index t 1 * 1024 + 1 * l.val = l.val; rw [(maps t).2.2.2.2.2.2.2.2.1.2]; omega
  rw [e]
  show out0_7 (F := Ideal) (iblk m c 0 t) (iblk m c 1 t) (iblk m c 2 t) (iblk m c 3 t) (iblk m c 4 t) (iblk m c 5 t) (iblk m c 6 t) (ix2 a l) = _
  unfold out0_7
  rw [View.canon_unit_zero zeros]
  simp only [View.ld_unit_zero (S := S256x1024) zeros, View.ld_unit_zero (S := S256x2816) zeros, View.ld_unit_zero (S := S2816x1024) zeros, View.ld_unit_zero (S := S1x1024) zeros]
  refine (grad_at (iblk m c 0 t) (iblk m c 1 t) (iblk m c 2 t) (iblk m c 3 t) (iblk m c 4 t) (iblk m c 5 t) (iblk m c 6 t) a l).trans (Eq.trans ?_ ((forms hf (row t a) l).trans (ref_grad_at (aX m c) (aY m c) (aU m c) (aV m c) (aH m c) (aR m c) (aG m c) (row t a) l).symm))
  simp only [prod_eq, read4, read5, read6]

/-- The shares of the gain's gradient. -/
def shares : FVec Ideal S32x1x1024 .f32 := fun i =>
  ∑ a : Fin 256, val_main_v26 (F := Ideal) (aX m c) (aY m c) (aU m c) (aV m c) (ix2 (⟨256 * (i 0).val + a.val, by have h : (i 0).val < 32 := (i 0).isLt; omega⟩ : Fin 8192) (i 2))
    * (aH m c (ix2 (⟨256 * (i 0).val + a.val, by have h : (i 0).val < 32 := (i 0).isLt; omega⟩ : Fin 8192) (i 2)) * inv fun k => aH m c (ix2 (⟨256 * (i 0).val + a.val, by have h : (i 0).val < 32 := (i 0).isLt; omega⟩ : Fin 8192) k))

/-- Each point writes its share. -/
theorem flushed_share (t : Fin cfg0.N) : (dats m 0 c).flushed 8 t = ((cfg0.win 8).blk t).view.read (Elt Ideal) (shares m c) := by
  show (cfg0.win 8).cut (grid0.coords t) ((dats m 0 c).after 8 t) = _
  rw [after0_8]
  funext j
  rw [View.read_apply]
  obtain ⟨z, z', l, rfl⟩ : ∃ (z z' : Fin 1) (l : Fin 1024), j = (ix3 z z' l : S1x1x1024.Idx) := ⟨j 0, j 1, j 2, ValueIdx.eq_ix3 j⟩
  obtain rfl : z = 0 := Subsingleton.elim _ _
  obtain rfl : z' = 0 := Subsingleton.elim _ _
  have e : (((cfg0.win 8).blk t).view.emb (ix3 0 0 l : S1x1x1024.Idx) : S32x1x1024.Idx) = ix3 (⟨t.val, (maps t).1⟩ : Fin 32) 0 l := by
    funext b
    apply Fin.ext
    match b with
    | ⟨0, _⟩ => show win0_8.index t 0 * 1 + 1 * 0 = t.val; rw [(maps t).2.2.2.2.2.2.2.2.2.1]; omega
    | ⟨1, _⟩ => show win0_8.index t 1 * 1 + 1 * 0 = 0; rw [(maps t).2.2.2.2.2.2.2.2.2.2.1]
    | ⟨2, _⟩ => show win0_8.index t 2 * 1024 + 1 * l.val = l.val; rw [(maps t).2.2.2.2.2.2.2.2.2.2.2]; omega
  rw [e]
  show out0_8 (F := Ideal) (iblk m c 0 t) (iblk m c 1 t) (iblk m c 2 t) (iblk m c 3 t) (iblk m c 4 t) (iblk m c 5 t) (iblk m c 6 t) (ix3 0 0 l) = _
  unfold out0_8
  rw [View.canon_unit_zero zeros3]
  simp only [View.ld_unit_zero (S := S256x1024) zeros, View.ld_unit_zero (S := S256x2816) zeros, View.ld_unit_zero (S := S2816x1024) zeros]
  refine (gain_at (iblk m c 0 t) (iblk m c 1 t) (iblk m c 2 t) (iblk m c 3 t) (iblk m c 4 t) l).trans ?_
  simp only [prod_eq, read4]
  rfl

/-- The gradient is the reference's. -/
theorem final_grad (hf : Finite (aX m c) (aY m c) (aU m c) (aV m c) (aH m c) (aR m c) (aG m c)) : (dats m 0 c).arrAt 7 cfg0.N = val_main_v47 (F := Ideal) (aX m c) (aY m c) (aU m c) (aV m c) (aH m c) (aR m c) (aG m c) :=
  (dats m 0 c).arrAt_eq_of_cover 7 _ (fun t _ => flushed_grad m c hf t) fun i => by
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : (i 0 : Nat) / 256 < 32) N_0.symm⟩, rfl⟩
    refine ⟨t, flush0_7 _, ?_⟩
    show i ∈ ((View.whole main_v1_0).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256; rw [(maps t).2.2.2.2.2.2.2.2.1.1]; omega
    | ⟨1, _⟩ => show win0_7.index t 1 * 1024 ≤ (i 1 : Nat) ∧ (i 1 : Nat) < win0_7.index t 1 * 1024 + 1024; rw [(maps t).2.2.2.2.2.2.2.2.1.2]; omega

/-- The shares are all written. -/
theorem final_share : (dats m 0 c).arrAt 8 cfg0.N = shares m c :=
  (dats m 0 c).arrAt_eq_of_cover 8 _ (fun t _ => flushed_share m c t) fun i => by
    have h0 : (i 0 : Nat) < 32 := (i 0).isLt
    have h1 : (i 1 : Nat) < 1 := (i 1).isLt
    have h2 : (i 2 : Nat) < 1024 := (i 2).isLt
    obtain ⟨t, ht⟩ : ∃ t : Fin cfg0.N, t.val = (i 0 : Nat) := ⟨⟨(i 0 : Nat), lt_of_lt_of_eq h0 N_0.symm⟩, rfl⟩
    refine ⟨t, flush0_8 _, ?_⟩
    show i ∈ ((View.whole main_v1_1).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [(maps t).2.2.2.2.2.2.2.2.2.1]; omega
    | ⟨1, _⟩ => show win0_8.index t 1 * 1 ≤ (i 1 : Nat) ∧ (i 1 : Nat) < win0_8.index t 1 * 1 + 1; rw [(maps t).2.2.2.2.2.2.2.2.2.2.1]; omega
    | ⟨2, _⟩ => show win0_8.index t 2 * 1024 ≤ (i 2 : Nat) ∧ (i 2 : Nat) < win0_8.index t 2 * 1024 + 1024; rw [(maps t).2.2.2.2.2.2.2.2.2.2.2]; omega

/-- The shares added. -/
def added (y : FVec Ideal S32x1x1024 .f32) : FVec Ideal S1024 .f32 := Host.reduceAdd y (constant S_ .f32 0x00000000#32 : FVec Ideal S_ .f32) reducesTo_S32x1x1024_S1024_d0_1 h_S_

theorem added_at (y : FVec Ideal S32x1x1024 .f32) (l : Fin 1024) : added y (ix1 l) = ∑ p : Fin 32, y (ix3 p 0 l) := by
  pointwise [added]
  unfold Ideal.hostReduceAdd
  rw [zero_add]
  refine Finset.sum_filter_eq_sum_of_fiber _ (fun p : Fin 32 => (ix3 p 0 l : S32x1x1024.Idx)) (fun _ _ e => congrFun e 0) (fun i => ⟨fun e => ⟨i 0, ?_⟩, ?_⟩) y
  · funext b
    apply Fin.ext
    match b with
    | ⟨0, _⟩ => rfl
    | ⟨1, _⟩ => show 0 = (i 1 : Nat); have h : (i 1 : Nat) < 1 := (i 1).isLt; omega
    | ⟨2, _⟩ => exact (congrArg Fin.val (congrFun e 0)).symm
  · rintro ⟨p, rfl⟩
    funext b
    apply Fin.ext
    match b with
    | ⟨0, _⟩ => rfl

/-- What the host's last lines make of the shares. -/
theorem tail_gain : Pipeline.afterTail₀ cfgs (dats m) 0 (V0 m) [hostOps1] c main_v2 = added (shares m c) := by
  have e : Pipeline.withArrays (cfgs 0).spec c (V0 m c) (fun w => (dats m 0 c).arrAt w (cfgs 0).N) (Proc.devRef .tc main_v1_1) = shares m c :=
    (Pipeline.withArrays_arr (cfgs 0).spec winFacts0.arr_inj c (V0 m c) _ 8).trans (final_share m c)
  unfold Pipeline.afterTail₀
  generalize Pipeline.withArrays (cfgs 0).spec c (V0 m c) (fun w => (dats m 0 c).arrAt w (cfgs 0).N) = W at e
  simp only [List.flatten_cons, List.flatten_nil, List.append_nil]
  after_results_simp
  rw [e]
  rfl

/-- The added shares are the reference's gradient of the gain. -/
theorem gain : added (shares m c) = val_main_v32 (F := Ideal) (aX m c) (aY m c) (aU m c) (aV m c) (aH m c) := by
  funext i
  obtain ⟨l, rfl⟩ : ∃ l : Fin 1024, i = (ix1 l : S1024.Idx) := ⟨i 0, ValueIdx.eq_ix1 i⟩
  rw [added_at, ref_gain_at]
  exact groups fun i => val_main_v26 (F := Ideal) (aX m c) (aY m c) (aU m c) (aV m c) (ix2 i l) * (aH m c (ix2 i l) * inv fun k => aH m c (ix2 i k))

/-- The two programs agree: the kernel's two results are the reference's. -/
theorem agree : Cert.algebraic_Du2Ideal_Du2RefIdeal_pre_du2_finite := by
  intro m g m' g' hpre hargs
  refine ⟨fun c => val_main_v47 (F := Ideal) (aX m c) (aY m c) (aU m c) (aV m c) (aH m c) (aR m c) (aG m c), fun c => val_main_v32 (F := Ideal) (aX m c) (aY m c) (aU m c) (aV m c) (aH m c), ?_, ?_⟩
  · refine (θ_run defs _ _).mono (fun r h c => ?_) (θ_run_and (run_main m g) (unchanged m g))
    obtain ⟨h, k⟩ := h
    obtain ⟨k0, k1, k2, k3, k4, k5, k6⟩ := k c
    exact ⟨((h c).1 7).trans (final_grad m c (finite_of_pre (hpre c))),
      ((h c).2 main_v2 (Pipeline.mem_restRefs_of main_v2 (by decide) (by decide))).trans ((tail_gain m c).trans (gain m c)), k0, k1, k2, k3, k4, k5, k6⟩
  · refine (θ_run Cert.Du2RefIdeal.defs _ _).mono (fun r h c => ?_) (Cert.Du2RefIdeal.Value.run m' g')
    obtain ⟨h0, h1, k0, k1, k2, k3, k4, k5, k6⟩ := h c
    obtain ⟨a0, a1, a2, a3, a4, a5, a6⟩ := hargs c
    refine ⟨h0.trans ((Cert.Du2RefIdeal.Read.val_main_v47_eq m' c).trans ?_), h1.trans ((Cert.Du2RefIdeal.Read.val_main_v32_eq _ _ _ _ _).trans ?_), k0, k1, k2, k3, k4, k5, k6⟩
    · rw [a0, a1, a2, a3, a4, a5, a6]
    · rw [a0, a1, a2, a3, a4]

end Cert.Du2Ideal.Walk

end
-- ==== Proof.Du1Read.lean ====
module

public import proofs.«01_k».proof.Proof.NormReal
public import proofs.«01_k».proof.Proof.Gen.Du1Ideal.Skeleton
public import proofs.«01_k».proof.Proof.Gen.Du1RefIdeal.Read
public import Idealize.ShloMosaic.Lib.MatmulPlain
public import Idealize.ShloMosaic.Lib.ValueIdx
public import Idealize.ShloMosaic.Lib.Pointwise

@[expose] public section

set_option maxRecDepth 16384

noncomputable section

/-!
# The pieces of the gradient through the mixer's norm, element by element

What the kernel computes on a tile of 512 rows, and what the reference computes on all the rows, each read at one element: the product of the
incoming gradient with the transposed projection, the normalised row, the gradient of the rows and the gradient of the gain.
-/

namespace Cert.Du1Ideal.Walk

open Cert.Du1Ideal Cert.Du1Ideal.Gen
open Idealize.ShloMosaic Idealize.ShloMosaic.TcCoe
open Cert.NormReal

section Tile

variable (x : Vec Ideal S512x3072 .bf16) (u : Vec Ideal S1024x3072 .bf16) (h r : Vec Ideal S512x1024 .f32) (g : Vec Ideal S1x1024 .f32)

/-- One over the root of a row's mean square. -/
theorem root_at (a : Fin 512) (b : Fin 1) : k0_pay3 (F := Ideal) h (ix2 a b) = inv fun k => h (ix2 a k) := by
  pointwise [k0_pay3]
  rfl

/-- The normalised tile at an element. -/
theorem unit_at (a : Fin 512) (l : Fin 1024) : k0_pay4 (F := Ideal) h (ix2 a l) = h (ix2 a l) * inv fun k => h (ix2 a k) := by
  pointwise [k0_pay4]
  rw [root_at]

/-- The tile of the gradient at an element. -/
theorem grad_at (a : Fin 512) (l : Fin 1024) :
    k0_pay6 (F := Ideal) x u h r g (ix2 a l)
      = kernelElt (fun k => k0_pay2 (F := Ideal) x u (ix2 a k)) (fun k => h (ix2 a k)) (fun k => g (ix2 0 k)) (r (ix2 a l)) l := by
  generalize e : k0_pay2 (F := Ideal) x u = D
  unfold kernelElt
  pointwise [k0_pay6, k0_pay5]
  simp only [root_at, unit_at, e]

/-- The tile's share of the gain's gradient at an element. -/
theorem gain_at (l : Fin 1024) :
    k0_pay1 (F := Ideal) (k0_pay7 x u h) (ix3 0 0 l)
      = ∑ a : Fin 512, k0_pay2 (F := Ideal) x u (ix2 a l) * (h (ix2 a l) * inv fun k => h (ix2 a k)) := by
  pointwise [k0_pay1, k0_pay7, k0_pay5]
  simp only [unit_at]

end Tile

/-- The product at an element of the tile. -/
theorem prod_at (x : Vec Ideal S512x3072 .bf16) (u : Vec Ideal S1024x3072 .bf16) (a : Fin 512) (l : Fin 1024) :
    k0_pay2 (F := Ideal) x u (ix2 a l) = ∑ k : Fin 3072, x (ix2 a k) * u (ix2 l k) := by
  unfold k0_pay2
  have hd : dot_S512x3072_S1024x3072_S512x1024_1_1_0_0_n_n = DotDims.transposedRhs 512 3072 1024 := rfl
  show FloatOps.matmul dot_S512x3072_S1024x3072_S512x1024_1_1_0_0_n_n _ _ _ _ (ix2 a l) = _
  rw [hd]
  refine (Ideal.matmul_transposedRhs_apply _ _ _ _ a l).trans ?_
  show Ideal.ofBits .f32 0x00000000#32 + _ = _
  rw [Ideal.ofBits_zero_f32, zero_add]
  rfl

section Ref

open Cert.Du1RefIdeal.Read

variable (X : FVec Ideal S8192x3072 .bf16) (U : FVec Ideal S1024x3072 .bf16) (H R : FVec Ideal S8192x1024 .f32) (G : FVec Ideal S1024 .f32)

/-- The reference's product at an element. -/
theorem ref_prod_at (i : Fin 8192) (l : Fin 1024) :
    val_main_v19 (F := Ideal) X U (ix2 i l) = ∑ k : Fin 3072, X (ix2 i k) * U (ix2 l k) := by
  rw [val_main_v19_apply]
  exact Finset.sum_congr rfl fun k _ => congrArg₂ (· * ·) (congrArg X (ValueIdx.eq_ix2 (lidx_main_v19 (ix2 i l) k))) (congrArg U (ValueIdx.eq_ix2 (ridx_main_v19 (ix2 i l) k)))

/-- The mean square of a row, and the small number. -/
theorem ref_mean_at (i : Fin 8192) (b : Fin 1) : val_main_v8 (F := Ideal) H (ix2 i b) = meanSq fun k => H (ix2 i k) := by
  pointwise [val_main_v8, val_main_v7, val_main_v6, val_main_v5, val_main_v4, val_main_v3, val_main_v2, val_main_cst, val_main_cst_0, val_main_cst_1]
  rfl

/-- One over the root of a row's mean square. -/
theorem ref_root_at (i : Fin 8192) (b : Fin 1) : val_main_v9 (F := Ideal) H (ix2 i b) = inv fun k => H (ix2 i k) := by
  rw [val_main_v9_apply]
  exact congrArg Ideal.rsqrt (ref_mean_at H i b)

/-- The reference's gradient of the gain. -/
theorem ref_gain_at (l : Fin 1024) :
    val_main_v25 (F := Ideal) X U H (ix1 l) = ∑ i : Fin 8192, val_main_v19 (F := Ideal) X U (ix2 i l) * (H (ix2 i l) * inv fun k => H (ix2 i k)) := by
  unfold val_main_v25 val_main_v22 val_main_v21 val_main_v20 val_main_v14 val_main_v13
  have e := fun i => ref_root_at H i 0
  generalize val_main_v9 (F := Ideal) H = r at e ⊢
  generalize val_main_v19 (F := Ideal) X U = D
  pointwise [val_main_cst_3, val_main_cst_4]
  simp only [e, Fin.sum_univ_one]
  exact Finset.sum_congr rfl fun i _ => mul_comm _ _

/-- The reference's gradient at an element. -/
theorem ref_grad_at (i : Fin 8192) (l : Fin 1024) :
    val_main_v40 (F := Ideal) X U H R G (ix2 i l)
      = refElt (fun k => val_main_v19 (F := Ideal) X U (ix2 i k)) (fun k => H (ix2 i k)) (fun k => G (ix1 k)) (R (ix2 i l)) l := by
  unfold val_main_v40 val_main_v39 val_main_v38 val_main_v37 val_main_v36 val_main_v35 val_main_v34 val_main_v33 val_main_v32 val_main_v31 val_main_v30 val_main_v29 val_main_v28 val_main_v27 val_main_v26 val_main_v24 val_main_v23 val_main_v15 val_main_v12 val_main_v11 val_main_v10
  generalize val_main_v19 (F := Ideal) X U = D
  unfold refElt rootSlope
  have e := fun i => ref_root_at H i 0
  have f := fun i => ref_mean_at H i 0
  generalize val_main_v9 (F := Ideal) H = r at e ⊢
  generalize val_main_v8 (F := Ideal) H = M at f ⊢
  pointwise [val_main_cst_2, val_main_cst_5, val_main_cst_6, val_main_cst_7]
  simp only [Fin.sum_univ_one, e, f]

end Ref

end Cert.Du1Ideal.Walk

end
-- ==== Proof.Du1Value.lean ====
module

public import proofs.«01_k».proof.Defs
public import proofs.«01_k».proof.Proof.Du1Read
public import proofs.«01_k».proof.Proof.Gen.Du1Ideal.Frame
public import proofs.«01_k».proof.Proof.Gen.Du1RefIdeal.Run
public import proofs.«01_k».proof.Proof.Gen.Pre_du1_finite

@[expose] public section

set_option maxRecDepth 65536

noncomputable section

/-!
# The gradient through the mixer's norm

The kernel multiplies the incoming gradient by the transposed projection, and takes the product through the normalisation, 512 rows at a time. Each point of the grid writes its rows of the gradient, and its share of the gain's gradient; the host
adds the 16 shares. The rows are the reference's because every element depends on its own row alone; the shares add up to the reference's sum
over all the rows because the rows are the 16 groups of 512, one after another.
-/

namespace Cert.Du1Ideal.Walk

open Cert.Du1Ideal Cert.Du1Ideal.Gen
open Idealize.ShloMosaic Idealize.ShloMosaic.TcCoe Idealize.SL.Sem
open Idealize.ShloMosaic.Pipeline (Dat)
open Cert.Du1RefIdeal.Read (val_main_v40 val_main_v25 val_main_v19)
open Cert.NormReal

/-- The offsets of a whole block. -/
theorem zeros : (![0, 0] : Fin 2 → Nat) = fun _ => 0 := funext fun a => by fin_cases a <;> rfl
theorem zeros3 : (![0, 0, 0] : Fin 3 → Nat) = fun _ => 0 := funext fun a => by fin_cases a <;> rfl

/-- Every argument is a family of real numbers. -/
structure Finite (X : FVec Ideal S8192x3072 .bf16) (U : FVec Ideal S1024x3072 .bf16) (H : FVec Ideal S8192x1024 .f32) (R : FVec Ideal S8192x1024 .f32) (G : FVec Ideal S1024 .f32) : Prop where
  x : ∀ i, (X i : EReal) = ((EReal.toReal (X i) : ℝ) : EReal)
  u : ∀ i, (U i : EReal) = ((EReal.toReal (U i) : ℝ) : EReal)
  h : ∀ i, (H i : EReal) = ((EReal.toReal (H i) : ℝ) : EReal)
  r : ∀ i, (R i : EReal) = ((EReal.toReal (R i) : ℝ) : EReal)
  g : ∀ i, (G i : EReal) = ((EReal.toReal (G i) : ℝ) : EReal)

section Rows

variable {X : FVec Ideal S8192x3072 .bf16} {U : FVec Ideal S1024x3072 .bf16} {H : FVec Ideal S8192x1024 .f32} {R : FVec Ideal S8192x1024 .f32} {G : FVec Ideal S1024 .f32}

/-- The stated precondition says this. -/
theorem finite_of_pre (h : (Cert.Pre_du1_finite.fn (F := Ideal) X U H R G).1 = (fun _ => 1#1)
      ∧ (Cert.Pre_du1_finite.fn (F := Ideal) X U H R G).2.1 = (fun _ => 1#1)
      ∧ (Cert.Pre_du1_finite.fn (F := Ideal) X U H R G).2.2.1 = (fun _ => 1#1)
      ∧ (Cert.Pre_du1_finite.fn (F := Ideal) X U H R G).2.2.2.1 = (fun _ => 1#1)
      ∧ (Cert.Pre_du1_finite.fn (F := Ideal) X U H R G).2.2.2.2 = (fun _ => 1#1)) : Finite X U H R G :=
  ⟨fun i => Reals.real_of_abs_lt (congrFun h.1 i), fun i => Reals.real_of_abs_lt (congrFun h.2.1 i), fun i => Reals.real_of_abs_lt (congrFun h.2.2.1 i), fun i => Reals.real_of_abs_lt (congrFun h.2.2.2.1 i), fun i => Reals.real_of_abs_lt (congrFun h.2.2.2.2 i)⟩

/-- The reference's product at an element is a real number. -/
theorem prod_real (hf : Finite X U H R G) (i : Fin 8192) (l : Fin 1024) :
    ∃ D : ℝ, val_main_v19 (F := Ideal) X U (ix2 i l) = (D : EReal) := by
  refine ⟨
    ∑ k : Fin 3072, EReal.toReal (X (ix2 i k)) * EReal.toReal (U (ix2 l k)), ?_⟩
  rw [ref_prod_at, Reals.coe_sum]
  exact Finset.sum_congr rfl fun k _ => by rw [EReal.coe_mul, ← hf.x, ← hf.u]

/-- So the two forms of the gradient agree at an element. -/
theorem forms (hf : Finite X U H R G) (i : Fin 8192) (l : Fin 1024) :
    kernelElt (fun k => val_main_v19 (F := Ideal) X U (ix2 i k)) (fun k => H (ix2 i k)) (fun k => G (ix1 k)) (R (ix2 i l)) l
      = refElt (fun k => val_main_v19 (F := Ideal) X U (ix2 i k)) (fun k => H (ix2 i k)) (fun k => G (ix1 k)) (R (ix2 i l)) l := by
  choose D hD using fun k => prod_real hf i k
  have hH : (fun k => (H (ix2 i k) : EReal)) = fun k => ((EReal.toReal (H (ix2 i k)) : ℝ) : EReal) := funext fun k => hf.h _
  have hG : (fun k => (G (ix1 k) : EReal)) = fun k => ((EReal.toReal (G (ix1 k)) : ℝ) : EReal) := funext fun k => hf.g _
  rw [show (fun k => val_main_v19 (F := Ideal) X U (ix2 i k)) = fun k => ((D k : ℝ) : EReal) from funext hD, hH, hG, hf.r (ix2 i l)]
  exact elt_eq D _ _ _ l

end Rows

/-- The sum over the rows is the sum over the groups of the sums over their rows. -/
theorem groups (f : Fin 8192 → EReal) : ∑ p : Fin 16, ∑ a : Fin 512, f ⟨512 * p.val + a.val, by omega⟩ = ∑ i : Fin 8192, f i := by
  rw [← Fintype.sum_prod_type']
  refine Fintype.sum_equiv (finProdFinEquiv (m := 16) (n := 512)) _ (fun i : Fin 8192 => f i) fun q => congrArg f (Fin.ext ?_)
  show 512 * q.1.val + q.2.val = q.2.val + 512 * q.1.val
  omega

variable (m : (ℓ : Loc nD τ sig) → Buf (Elt Ideal) ℓ) (c : Dev nD)

/-- The arguments on a device. -/
abbrev aX : FVec Ideal S8192x3072 .bf16 := m ((c : Thread nD τ).loc main_arg0)
abbrev aU : FVec Ideal S1024x3072 .bf16 := m ((c : Thread nD τ).loc main_arg1)
abbrev aH : FVec Ideal S8192x1024 .f32 := m ((c : Thread nD τ).loc main_arg2)
abbrev aR : FVec Ideal S8192x1024 .f32 := m ((c : Thread nD τ).loc main_arg3)
abbrev aG : FVec Ideal S1024 .f32 := m ((c : Thread nD τ).loc main_arg4)

/-- The blocks that the windows take at a point. -/
theorem maps : ∀ t : Fin cfg0.N, t.val < 16
    ∧ (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0 ∧ win0_6.index t 2 = 0) :=
  (by decide +kernel : ∀ t : Fin grid0.N, t.val < 16 ∧ (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0 ∧ win0_6.index t 2 = 0))

/-- Where a row of a point's group lies. -/
abbrev row (t : Fin cfg0.N) (a : Fin 512) : Fin 8192 := ⟨512 * t.val + a.val, by have := (maps t).1; omega⟩

theorem read0 (t : Fin cfg0.N) (a : Fin 512) (k : Fin 3072) : (iblk m c 0 t : Vec Ideal S512x3072 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 512 + 1 * a.val = 512 * t.val + a.val; rw [(maps t).2.1.1]; omega
  | ⟨1, _⟩ => show win0_0.index t 1 * 3072 + 1 * k.val = k.val; rw [(maps t).2.1.2]; omega

theorem read1 (t : Fin cfg0.N) (a : Fin 1024) (k : Fin 3072) : (iblk m c 1 t : Vec Ideal S1024x3072 .bf16) (ix2 a k) = aU m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1024 + 1 * a.val = a.val; rw [(maps t).2.2.1.1]; omega
  | ⟨1, _⟩ => show win0_1.index t 1 * 3072 + 1 * k.val = k.val; rw [(maps t).2.2.1.2]; omega

theorem read2 (t : Fin cfg0.N) (a : Fin 512) (k : Fin 1024) : (iblk m c 2 t : Vec Ideal S512x1024 .f32) (ix2 a k) = aH m c (ix2 (row t a) k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 512 + 1 * a.val = 512 * t.val + a.val; rw [(maps t).2.2.2.1.1]; omega
  | ⟨1, _⟩ => show win0_2.index t 1 * 1024 + 1 * k.val = k.val; rw [(maps t).2.2.2.1.2]; omega

theorem read3 (t : Fin cfg0.N) (a : Fin 512) (k : Fin 1024) : (iblk m c 3 t : Vec Ideal S512x1024 .f32) (ix2 a k) = aR m c (ix2 (row t a) k) := by
  unfold iblk
  rw [View.read_apply]
  show V m c main_arg3 _ = _
  rw [V_main_arg3]
  show m (c.tc.loc main_arg3) _ = m (c.tc.loc main_arg3) _
  congr 1
  funext b
  apply Fin.ext
  match b with
  | ⟨0, _⟩ => show win0_3.index t 0 * 512 + 1 * a.val = 512 * t.val + a.val; rw [(maps t).2.2.2.2.1.1]; omega
  | ⟨1, _⟩ => show win0_3.index t 1 * 1024 + 1 * k.val = k.val; rw [(maps t).2.2.2.2.1.2]; omega

/-- The gain as the host lays it out. -/
theorem V_gain : V m c main_v0 = (broadcastInDim S1x1024 ![1] bcast_S1024_S1x1024_1 (aG m c) : FVec Ideal S1x1024 .f32) := by
  unfold_abbrev_sides
  simp only [List.flatten_cons, List.flatten_nil, List.append_nil]
  after_results_simp

theorem read4 (t : Fin cfg0.N) (k : Fin 1024) : (iblk m c 4 t : Vec Ideal S1x1024 .f32) (ix2 0 k) = aG m c (ix1 k) := by
  unfold iblk
  rw [View.read_apply]
  show V m c main_v0 _ = _
  rw [V_gain]
  have e : (((cfg0.win 4).blk t).view.emb (ix2 0 k : S1x1024.Idx) : S1x1024.Idx) = ix2 0 k := by
    funext b
    apply Fin.ext
    match b with
    | ⟨0, _⟩ => show win0_4.index t 0 * 1 + 1 * 0 = 0; rw [(maps t).2.2.2.2.2.1.1]
    | ⟨1, _⟩ => show win0_4.index t 1 * 1024 + 1 * k.val = k.val; rw [(maps t).2.2.2.2.2.1.2]; omega
  show (broadcastInDim S1x1024 ![1] bcast_S1024_S1x1024_1 (aG m c) : FVec Ideal S1x1024 .f32) (((cfg0.win 4).blk t).view.emb (ix2 0 k : S1x1024.Idx) : S1x1024.Idx) = _
  rw [e]
  pointwise

/-- The tile's product is the reference's, at the tile's rows. -/
theorem prod_eq (t : Fin cfg0.N) (a : Fin 512) (l : Fin 1024) :
    k0_pay2 (F := Ideal) (iblk m c 0 t) (iblk m c 1 t) (ix2 a l) = val_main_v19 (F := Ideal) (aX m c) (aU m c) (ix2 (row t a) l) := by
  rw [prod_at, ref_prod_at]
  exact Finset.sum_congr rfl fun k _ => by rw [read0, read1]

/-- Each point writes its rows of the reference's gradient. -/
theorem flushed_grad (hf : Finite (aX m c) (aU m c) (aH m c) (aR m c) (aG m c)) (t : Fin cfg0.N) :
    (dats m 0 c).flushed 5 t = ((cfg0.win 5).blk t).view.read (Elt Ideal) (val_main_v40 (F := Ideal) (aX m c) (aU m c) (aH m c) (aR m c) (aG m c)) := by
  show (cfg0.win 5).cut (grid0.coords t) ((dats m 0 c).after 5 t) = _
  rw [after0_5]
  funext j
  rw [View.read_apply]
  obtain ⟨a, l, rfl⟩ : ∃ (a : Fin 512) (l : Fin 1024), j = (ix2 a l : S512x1024.Idx) := ⟨j 0, j 1, ValueIdx.eq_ix2 j⟩
  have e : (((cfg0.win 5).blk t).view.emb (ix2 a l : S512x1024.Idx) : S8192x1024.Idx) = ix2 (row t a) l := by
    funext b
    apply Fin.ext
    match b with
    | ⟨0, _⟩ => show win0_5.index t 0 * 512 + 1 * a.val = 512 * t.val + a.val; rw [(maps t).2.2.2.2.2.2.1.1]; omega
    | ⟨1, _⟩ => show win0_5.index t 1 * 1024 + 1 * l.val = l.val; rw [(maps t).2.2.2.2.2.2.1.2]; omega
  rw [e]
  show out0_5 (F := Ideal) (iblk m c 0 t) (iblk m c 1 t) (iblk m c 2 t) (iblk m c 3 t) (iblk m c 4 t) (ix2 a l) = _
  unfold out0_5
  rw [View.canon_unit_zero zeros]
  simp only [View.ld_unit_zero (S := S1024x3072) zeros, View.ld_unit_zero (S := S512x1024) zeros, View.ld_unit_zero (S := S512x3072) zeros, View.ld_unit_zero (S := S1x1024) zeros]
  refine (grad_at (iblk m c 0 t) (iblk m c 1 t) (iblk m c 2 t) (iblk m c 3 t) (iblk m c 4 t) a l).trans (Eq.trans ?_ ((forms hf (row t a) l).trans (ref_grad_at (aX m c) (aU m c) (aH m c) (aR m c) (aG m c) (row t a) l).symm))
  simp only [prod_eq, read2, read3, read4]

/-- The shares of the gain's gradient. -/
def shares : FVec Ideal S16x1x1024 .f32 := fun i =>
  ∑ a : Fin 512, val_main_v19 (F := Ideal) (aX m c) (aU m c) (ix2 (⟨512 * (i 0).val + a.val, by have h : (i 0).val < 16 := (i 0).isLt; omega⟩ : Fin 8192) (i 2))
    * (aH m c (ix2 (⟨512 * (i 0).val + a.val, by have h : (i 0).val < 16 := (i 0).isLt; omega⟩ : Fin 8192) (i 2)) * inv fun k => aH m c (ix2 (⟨512 * (i 0).val + a.val, by have h : (i 0).val < 16 := (i 0).isLt; omega⟩ : Fin 8192) k))

/-- Each point writes its share. -/
theorem flushed_share (t : Fin cfg0.N) : (dats m 0 c).flushed 6 t = ((cfg0.win 6).blk t).view.read (Elt Ideal) (shares m c) := by
  show (cfg0.win 6).cut (grid0.coords t) ((dats m 0 c).after 6 t) = _
  rw [after0_6]
  funext j
  rw [View.read_apply]
  obtain ⟨z, z', l, rfl⟩ : ∃ (z z' : Fin 1) (l : Fin 1024), j = (ix3 z z' l : S1x1x1024.Idx) := ⟨j 0, j 1, j 2, ValueIdx.eq_ix3 j⟩
  obtain rfl : z = 0 := Subsingleton.elim _ _
  obtain rfl : z' = 0 := Subsingleton.elim _ _
  have e : (((cfg0.win 6).blk t).view.emb (ix3 0 0 l : S1x1x1024.Idx) : S16x1x1024.Idx) = ix3 (⟨t.val, (maps t).1⟩ : Fin 16) 0 l := by
    funext b
    apply Fin.ext
    match b with
    | ⟨0, _⟩ => show win0_6.index t 0 * 1 + 1 * 0 = t.val; rw [(maps t).2.2.2.2.2.2.2.1]; omega
    | ⟨1, _⟩ => show win0_6.index t 1 * 1 + 1 * 0 = 0; rw [(maps t).2.2.2.2.2.2.2.2.1]
    | ⟨2, _⟩ => show win0_6.index t 2 * 1024 + 1 * l.val = l.val; rw [(maps t).2.2.2.2.2.2.2.2.2]; omega
  rw [e]
  show out0_6 (F := Ideal) (iblk m c 0 t) (iblk m c 1 t) (iblk m c 2 t) (iblk m c 3 t) (iblk m c 4 t) (ix3 0 0 l) = _
  unfold out0_6
  rw [View.canon_unit_zero zeros3]
  simp only [View.ld_unit_zero (S := S1024x3072) zeros, View.ld_unit_zero (S := S512x1024) zeros, View.ld_unit_zero (S := S512x3072) zeros]
  refine (gain_at (iblk m c 0 t) (iblk m c 1 t) (iblk m c 2 t) l).trans ?_
  simp only [prod_eq, read2]
  rfl

/-- The gradient is the reference's. -/
theorem final_grad (hf : Finite (aX m c) (aU m c) (aH m c) (aR m c) (aG m c)) : (dats m 0 c).arrAt 5 cfg0.N = val_main_v40 (F := Ideal) (aX m c) (aU m c) (aH m c) (aR m c) (aG m c) :=
  (dats m 0 c).arrAt_eq_of_cover 5 _ (fun t _ => flushed_grad m c hf t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega : (i 0 : Nat) / 512 < 16) N_0.symm⟩, rfl⟩
    refine ⟨t, flush0_5 _, ?_⟩
    show i ∈ ((View.whole main_v1_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(maps t).2.2.2.2.2.2.1.1]; omega
    | ⟨1, _⟩ => show win0_5.index t 1 * 1024 ≤ (i 1 : Nat) ∧ (i 1 : Nat) < win0_5.index t 1 * 1024 + 1024; rw [(maps t).2.2.2.2.2.2.1.2]; omega

/-- The shares are all written. -/
theorem final_share : (dats m 0 c).arrAt 6 cfg0.N = shares m c :=
  (dats m 0 c).arrAt_eq_of_cover 6 _ (fun t _ => flushed_share m c t) fun i => by
    have h0 : (i 0 : Nat) < 16 := (i 0).isLt
    have h1 : (i 1 : Nat) < 1 := (i 1).isLt
    have h2 : (i 2 : Nat) < 1024 := (i 2).isLt
    obtain ⟨t, ht⟩ : ∃ t : Fin cfg0.N, t.val = (i 0 : Nat) := ⟨⟨(i 0 : Nat), lt_of_lt_of_eq h0 N_0.symm⟩, rfl⟩
    refine ⟨t, flush0_6 _, ?_⟩
    show i ∈ ((View.whole main_v1_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [(maps t).2.2.2.2.2.2.2.1]; omega
    | ⟨1, _⟩ => show win0_6.index t 1 * 1 ≤ (i 1 : Nat) ∧ (i 1 : Nat) < win0_6.index t 1 * 1 + 1; rw [(maps t).2.2.2.2.2.2.2.2.1]; omega
    | ⟨2, _⟩ => show win0_6.index t 2 * 1024 ≤ (i 2 : Nat) ∧ (i 2 : Nat) < win0_6.index t 2 * 1024 + 1024; rw [(maps t).2.2.2.2.2.2.2.2.2]; omega

/-- The shares added. -/
def added (y : FVec Ideal S16x1x1024 .f32) : FVec Ideal S1024 .f32 := Host.reduceAdd y (constant S_ .f32 0x00000000#32 : FVec Ideal S_ .f32) reducesTo_S16x1x1024_S1024_d0_1 h_S_

theorem added_at (y : FVec Ideal S16x1x1024 .f32) (l : Fin 1024) : added y (ix1 l) = ∑ p : Fin 16, y (ix3 p 0 l) := by
  pointwise [added]
  unfold Ideal.hostReduceAdd
  rw [zero_add]
  refine Finset.sum_filter_eq_sum_of_fiber _ (fun p : Fin 16 => (ix3 p 0 l : S16x1x1024.Idx)) (fun _ _ e => congrFun e 0) (fun i => ⟨fun e => ⟨i 0, ?_⟩, ?_⟩) y
  · funext b
    apply Fin.ext
    match b with
    | ⟨0, _⟩ => rfl
    | ⟨1, _⟩ => show 0 = (i 1 : Nat); have h : (i 1 : Nat) < 1 := (i 1).isLt; omega
    | ⟨2, _⟩ => exact (congrArg Fin.val (congrFun e 0)).symm
  · rintro ⟨p, rfl⟩
    funext b
    apply Fin.ext
    match b with
    | ⟨0, _⟩ => rfl

/-- What the host's last lines make of the shares. -/
theorem tail_gain : Pipeline.afterTail₀ cfgs (dats m) 0 (V0 m) [hostOps1] c main_v2 = added (shares m c) := by
  have e : Pipeline.withArrays (cfgs 0).spec c (V0 m c) (fun w => (dats m 0 c).arrAt w (cfgs 0).N) (Proc.devRef .tc main_v1_1) = shares m c :=
    (Pipeline.withArrays_arr (cfgs 0).spec winFacts0.arr_inj c (V0 m c) _ 6).trans (final_share m c)
  unfold Pipeline.afterTail₀
  generalize Pipeline.withArrays (cfgs 0).spec c (V0 m c) (fun w => (dats m 0 c).arrAt w (cfgs 0).N) = W at e
  simp only [List.flatten_cons, List.flatten_nil, List.append_nil]
  after_results_simp
  rw [e]
  rfl

/-- The added shares are the reference's gradient of the gain. -/
theorem gain : added (shares m c) = val_main_v25 (F := Ideal) (aX m c) (aU m c) (aH m c) := by
  funext i
  obtain ⟨l, rfl⟩ : ∃ l : Fin 1024, i = (ix1 l : S1024.Idx) := ⟨i 0, ValueIdx.eq_ix1 i⟩
  rw [added_at, ref_gain_at]
  exact groups fun i => val_main_v19 (F := Ideal) (aX m c) (aU m c) (ix2 i l) * (aH m c (ix2 i l) * inv fun k => aH m c (ix2 i k))

/-- The two programs agree: the kernel's two results are the reference's. -/
theorem agree : Cert.algebraic_Du1Ideal_Du1RefIdeal_pre_du1_finite := by
  intro m g m' g' hpre hargs
  refine ⟨fun c => val_main_v40 (F := Ideal) (aX m c) (aU m c) (aH m c) (aR m c) (aG m c), fun c => val_main_v25 (F := Ideal) (aX m c) (aU m c) (aH m c), ?_, ?_⟩
  · refine (θ_run defs _ _).mono (fun r h c => ?_) (θ_run_and (run_main m g) (unchanged m g))
    obtain ⟨h, k⟩ := h
    obtain ⟨k0, k1, k2, k3, k4⟩ := k c
    exact ⟨((h c).1 5).trans (final_grad m c (finite_of_pre (hpre c))),
      ((h c).2 main_v2 (Pipeline.mem_restRefs_of main_v2 (by decide) (by decide))).trans ((tail_gain m c).trans (gain m c)), k0, k1, k2, k3, k4⟩
  · refine (θ_run Cert.Du1RefIdeal.defs _ _).mono (fun r h c => ?_) (Cert.Du1RefIdeal.Value.run m' g')
    obtain ⟨h0, h1, k0, k1, k2, k3, k4⟩ := h c
    obtain ⟨a0, a1, a2, a3, a4⟩ := hargs c
    refine ⟨h0.trans ((Cert.Du1RefIdeal.Read.val_main_v40_eq m' c).trans ?_), h1.trans ((Cert.Du1RefIdeal.Read.val_main_v25_eq _ _ _).trans ?_), k0, k1, k2, k3, k4⟩
    · rw [a0, a1, a2, a3, a4]
    · rw [a0, a1, a2]

end Cert.Du1Ideal.Walk

end
-- ==== Proof.DwgValue.lean ====
module

public import proofs.«01_k».proof.Defs
public import proofs.«01_k».proof.Proof.Gen.DwgIdeal.Value
public import proofs.«01_k».proof.Proof.Gen.DwgRefIdeal.Run
public import proofs.«01_k».proof.Proof.Gen.DwgRefIdeal.Read
public import Idealize.ShloMosaic.Lib.Pipeline.ValueKit
public import Idealize.ShloMosaic.Lib.Pipeline.ReadBack

@[expose] public section

set_option maxRecDepth 65536

noncomputable section

/-!
# The gradient of a gate weight of the feed-forward

The kernel makes the product of one array, turned, with another: the gradient is 2 blocks of 1408 rows, and each block is added up
over four groups of 2048 rows in a scratch, which the last group's point writes out. The reference's element is the sum over all 8192 rows.
-/

namespace Cert.DwgIdeal.Walk

open Cert.DwgIdeal Cert.DwgIdeal.Gen
open Idealize.ShloMosaic Idealize.ShloMosaic.TcCoe Idealize.SL.Sem
open Idealize.ShloMosaic.Pipeline (Dat)
open Cert.DwgRefIdeal.Read (val_main_v7)

/-- One group's product at an element. -/
theorem prod_at (x : Vec Ideal S2048x1408 .bf16) (y : Vec Ideal S2048x1024 .bf16) (a : Fin 1408) (b : Fin 1024) :
    k0_pay1 x y (ix2 a b) = ∑ k : Fin 2048, (x (ix2 k a) : EReal) * (y (ix2 k b) : EReal) := by
  pointwise [k0_pay1]

/-- What the first group leaves in the scratch. -/
theorem pay2_eq (x : Vec Ideal S2048x1408 .bf16) (y : Vec Ideal S2048x1024 .bf16) (i : S1408x1024.Idx) :
    (k0_pay2 x y i : EReal) = 0 + k0_pay1 x y i := by
  rw [zero_add]
  unfold k0_pay2
  rw [shapeCast_self]

/-- What a later group leaves in the scratch. -/
theorem pay3_eq (x : Vec Ideal S2048x1408 .bf16) (y : Vec Ideal S2048x1024 .bf16) (s : Vec Ideal S1408x1024 .f32) (i : S1408x1024.Idx) :
    (k0_pay3 x y s i : EReal) = (s i : EReal) + k0_pay1 x y i := by
  unfold k0_pay3
  rw [shapeCast_self]
  rfl

/-- The reference at an element. -/
theorem ref_at (A : FVec Ideal S8192x2816 .bf16) (B : FVec Ideal S8192x1024 .bf16) (i : Fin 2816) (j : Fin 1024) :
    val_main_v7 (F := Ideal) A B (ix2 i j) = ∑ k : Fin 8192, (A (ix2 k i) : EReal) * (B (ix2 k j) : EReal) := by
  rw [Cert.DwgRefIdeal.Read.val_main_v7_apply, Cert.DwgRefIdeal.Read.val_main_v6_apply, Cert.DwgRefIdeal.Read.val_main_v5_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x2816 .bf16 := m ((c : Thread nD τ).loc main_arg0)
abbrev aY : FVec Ideal S8192x1024 .bf16 := m ((c : Thread nD τ).loc main_arg1)

/-- The blocks that the windows take at a point. -/
theorem maps : ∀ t : Fin cfg0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) ∧ t.val / 4 < 2 ∧ 0 < 1 :=
  (by decide +kernel : ∀ t : Fin grid0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) ∧ t.val / 4 < 2 ∧ 0 < 1)

/-- Where a row of a point's group lies, and where the rows and the columns of its block of the gradient lie. -/
abbrev row (t : Fin cfg0.N) (k : Fin 2048) : Fin 8192 := ⟨2048 * (t.val % 4) + k.val, by omega⟩
abbrev left (t : Fin cfg0.N) (a : Fin 1408) : Fin 2816 := ⟨1408 * (t.val / 4) + a.val, by have := (maps t).2.2.2.1; omega⟩
abbrev right (t : Fin cfg0.N) (b : Fin 1024) : Fin 1024 := ⟨1024 * (0) + b.val, by have := (maps t).2.2.2.2; omega⟩

theorem read0 (t : Fin cfg0.N) (k : Fin 2048) (a : Fin 1408) : (iblk m c 0 t : Vec Ideal S2048x1408 .bf16) (ix2 k a) = aX m c (ix2 (row t k) (left t a)) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 2048 + 1 * k.val = 2048 * (t.val % 4) + k.val; rw [(maps t).1.1]; omega
  | ⟨1, _⟩ => show win0_0.index t 1 * 1408 + 1 * a.val = 1408 * (t.val / 4) + a.val; rw [(maps t).1.2]; omega

theorem read1 (t : Fin cfg0.N) (k : Fin 2048) (a : Fin 1024) : (iblk m c 1 t : Vec Ideal S2048x1024 .bf16) (ix2 k a) = aY m c (ix2 (row t k) (right t a)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2048 + 1 * k.val = 2048 * (t.val % 4) + k.val; rw [(maps t).2.1.1]; omega
  | ⟨1, _⟩ => show win0_1.index t 1 * 1024 + 1 * a.val = 1024 * (0) + a.val; rw [(maps t).2.1.2]; omega

/-- A point's share of an element of its block. -/
def share (t : Fin cfg0.N) (i : S1408x1024.Idx) : EReal := k0_pay1 (iblk m c 0 t : Vec Ideal S2048x1408 .bf16) (iblk m c 1 t : Vec Ideal S2048x1024 .bf16) i

theorem share_at (t : Fin cfg0.N) (a : Fin 1408) (b : Fin 1024) :
    share m c t (ix2 a b) = ∑ k : Fin 2048, (aX m c (ix2 (row t k) (left t a)) : EReal) * (aY m c (ix2 (row t k) (right t b)) : EReal) := by
  unfold share
  rw [prod_at]
  exact Finset.sum_congr rfl fun k _ => congrArg₂ (fun x y : EReal => x * y) (read0 m c t k a) (read1 m c t k b)

/-- The scratch after a point. -/
def held (n : Nat) (h : n < cfg0.N) (i : S1408x1024.Idx) : EReal := (outsAt0 m c n h).2 i

/-- The first group's point starts the sum. -/
theorem held_first (t : Fin cfg0.N) (h : t.val % 4 = 0) (i : S1408x1024.Idx) : held m c t.val t.isLt i = 0 + share m c t i := by
  unfold held share
  rw [outsAt0_A m c t h (by omega) (by omega)]
  frame_out
  exact pay2_eq _ _ i

/-- Every later point adds its share. -/
theorem held_next (t : Fin cfg0.N) (h : ¬t.val % 4 = 0) (i : S1408x1024.Idx) :
    held m c t.val t.isLt i = held m c (t.val - 1) (Nat.lt_of_le_of_lt (Nat.sub_le _ _) t.isLt) i + share m c t i := by
  unfold held share
  by_cases h3 : t.val % 4 = 3
  · rw [outsAt0_C m c t h (by omega) h3]
    frame_out
    simp only [read_unread_whole]
    exact pay3_eq _ _ _ i
  · rw [outsAt0_B m c t h (by omega) h3]
    frame_out
    simp only [read_unread_whole]
    exact pay3_eq _ _ _ i

/-- The last group's point writes the scratch out. -/
theorem out_held (t : Fin cfg0.N) (h : t.val % 4 = 3) (i : S1408x1024.Idx) : ((outsAt0 m c t.val t.isLt).1 i : EReal) = held m c t.val t.isLt i := by
  rw [held_next m c t (by omega) i]
  unfold held share
  rw [outsAt0_C m c t (by omega) (by omega) h]
  frame_out
  simp only [read_unread_whole]
  exact pay3_eq _ _ _ i

/-- The block written out is the reference's block. -/
theorem block (t : Fin cfg0.N) (h : t.val % 4 = 3) (a : Fin 1408) (b : Fin 1024) :
    ((outsAt0 m c t.val t.isLt).1 (ix2 a b) : EReal) = val_main_v7 (F := Ideal) (aX m c) (aY m c) (ix2 (left t a) (right t b)) := by
  rw [out_held m c t h, ref_at]
  have key := Pipeline.eq_sum_fin_of_reset_step_apply_of_flush (fun n h => held m c n h) 4 (fun _ => (0 : EReal)) (share m c)
    (held_first m c) (held_next m c) t h (ix2 a b)
  refine key.trans ?_
  rw [zero_add]
  have hP := lt_of_lt_of_eq t.isLt N_0
  refine (Finset.sum_congr rfl fun s _ => share_at m c _ a b).trans ?_
  refine Fin.sum_mul_add_congr (S := 4) (n := 2048) fun s k hl => ?_
  refine congrArg₂ (fun x y : EReal => x * y) (congrArg (aX m c) (congrArg₂ ix2 (Fin.ext ?_) (Fin.ext ?_))) (congrArg (aY m c) (congrArg₂ ix2 (Fin.ext ?_) (Fin.ext ?_)))
  all_goals dsimp only
  all_goals omega

/-- So every point that writes leaves its block of the reference. -/
theorem flushed_block (t : Fin cfg0.N) (h : t.val % 4 = 3) : (dats m 0 c).flushed 2 t = ((cfg0.win 2).blk t).view.read (Elt Ideal) (val_main_v7 (F := Ideal) (aX m c) (aY m c)) := by
  refine Eq.trans (b := ((outsAt0 m c t.val t.isLt).1 : FVec Ideal S1408x1024 .f32)) ?_ ?_
  · show (cfg0.win 2).cut (grid0.coords t) ((dats m 0 c).after 2 t) = _
    rw [after0_2]
    rfl
  · funext i
    obtain ⟨a, b, rfl⟩ : ∃ (a : Fin 1408) (b : Fin 1024), i = (ix2 a b : S1408x1024.Idx) := ⟨i 0, i 1, ValueIdx.eq_ix2 i⟩
    rw [View.read_apply]
    refine (block m c t h a b).trans (congrArg (val_main_v7 (F := Ideal) (aX m c) (aY m c)) ?_)
    funext d
    apply Fin.ext
    match d with
    | ⟨0, _⟩ => show 1408 * (t.val / 4) + a.val = win0_2.index t 0 * 1408 + 1 * a.val; rw [(maps t).2.2.1.1]; omega
    | ⟨1, _⟩ => show 1024 * (0) + b.val = win0_2.index t 1 * 1024 + 1 * b.val; rw [(maps t).2.2.1.2]; omega

/-- The gradient is all written. -/
theorem final : (dats m 0 c).arrAt 2 cfg0.N = val_main_v7 (F := Ideal) (aX m c) (aY m c) :=
  (dats m 0 c).arrAt_eq_of_cover 2 _ (fun t hf => flushed_block m c t ((flush0_2 t).mp hf)) fun i => by
    have h0 : (i 0 : Nat) < 2816 := (i 0).isLt
    have h1 : (i 1 : Nat) < 1024 := (i 1).isLt
    obtain ⟨t, ht⟩ : ∃ t : Fin cfg0.N, t.val = 4 * ((i 0 : Nat) / 1408) + 3 := ⟨⟨4 * ((i 0 : Nat) / 1408) + 3, lt_of_lt_of_eq (by omega) N_0.symm⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + 1408; rw [(maps t).2.2.1.1]; omega
    | ⟨1, _⟩ => show win0_2.index t 1 * 1024 ≤ (i 1 : Nat) ∧ (i 1 : Nat) < win0_2.index t 1 * 1024 + 1024; rw [(maps t).2.2.1.2]; omega

/-- The two programs agree. -/
theorem agree : Cert.algebraic_DwgIdeal_DwgRefIdeal := by
  intro m g m' g' _ hargs
  refine ⟨fun c => val_main_v7 (F := Ideal) (aX m c) (aY m c), ?_, ?_⟩
  · refine (θ_run defs _ _).mono (fun r h c => ?_) (Cert.DwgIdeal.Value.run_blocks m g)
    exact ⟨(h c).1.trans (final m c), (h c).2⟩
  · refine (θ_run Cert.DwgRefIdeal.defs _ _).mono (fun r h c => ?_) (Cert.DwgRefIdeal.Value.run m' g')
    obtain ⟨a0, a1⟩ := hargs c
    refine ⟨(h c).1.trans ((Cert.DwgRefIdeal.Read.val_main_v7_eq _ _).trans ?_), (h c).2⟩
    rw [a0, a1]

end Cert.DwgIdeal.Walk

end
-- ==== Proof.DwdValue.lean ====
module

public import proofs.«01_k».proof.Defs
public import proofs.«01_k».proof.Proof.Gen.DwdIdeal.Value
public import proofs.«01_k».proof.Proof.Gen.DwdRefIdeal.Run
public import proofs.«01_k».proof.Proof.Gen.DwdRefIdeal.Read
public import Idealize.ShloMosaic.Lib.Pipeline.ValueKit
public import Idealize.ShloMosaic.Lib.Pipeline.ReadBack

@[expose] public section

set_option maxRecDepth 65536

noncomputable section

/-!
# The gradient of the weight that leads out of the feed-forward

The kernel makes the product of one array, turned, with another: the gradient is 4 blocks of 1408 rows and 512 columns, and each block is added up
over four groups of 2048 rows in a scratch, which the last group's point writes out. The reference's element is the sum over all 8192 rows.
-/

namespace Cert.DwdIdeal.Walk

open Cert.DwdIdeal Cert.DwdIdeal.Gen
open Idealize.ShloMosaic Idealize.ShloMosaic.TcCoe Idealize.SL.Sem
open Idealize.ShloMosaic.Pipeline (Dat)
open Cert.DwdRefIdeal.Read (val_main_v4)

/-- One group's product at an element. -/
theorem prod_at (x : Vec Ideal S2048x1408 .bf16) (y : Vec Ideal S2048x512 .f32) (a : Fin 1408) (b : Fin 512) :
    k0_pay1 x y (ix2 a b) = ∑ k : Fin 2048, (x (ix2 k a) : EReal) * (y (ix2 k b) : EReal) := by
  pointwise [k0_pay1]

/-- What the first group leaves in the scratch. -/
theorem pay2_eq (x : Vec Ideal S2048x1408 .bf16) (y : Vec Ideal S2048x512 .f32) (i : S1408x512.Idx) :
    (k0_pay2 x y i : EReal) = 0 + k0_pay1 x y i := by
  rw [zero_add]
  unfold k0_pay2
  rw [shapeCast_self]

/-- What a later group leaves in the scratch. -/
theorem pay3_eq (x : Vec Ideal S2048x1408 .bf16) (y : Vec Ideal S2048x512 .f32) (s : Vec Ideal S1408x512 .f32) (i : S1408x512.Idx) :
    (k0_pay3 x y s i : EReal) = (s i : EReal) + k0_pay1 x y i := by
  unfold k0_pay3
  rw [shapeCast_self]
  rfl

/-- The reference at an element. -/
theorem ref_at (A : FVec Ideal S8192x2816 .bf16) (B : FVec Ideal S8192x1024 .f32) (i : Fin 2816) (j : Fin 1024) :
    val_main_v4 (F := Ideal) A B (ix2 i j) = ∑ k : Fin 8192, (A (ix2 k i) : EReal) * (B (ix2 k j) : EReal) := by
  rw [Cert.DwdRefIdeal.Read.val_main_v4_apply, Cert.DwdRefIdeal.Read.val_main_v3_apply]
  refine Finset.sum_congr rfl fun k _ => ?_
  rw [mul_comm]; exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x2816 .bf16 := m ((c : Thread nD τ).loc main_arg0)
abbrev aY : FVec Ideal S8192x1024 .f32 := m ((c : Thread nD τ).loc main_arg1)

/-- The blocks that the windows take at a point. -/
theorem maps : ∀ t : Fin cfg0.N, (win0_0.index t 0 = t.val % 4 ∧ win0_0.index t 1 = t.val / 8) ∧ (win0_1.index t 0 = t.val % 4 ∧ win0_1.index t 1 = t.val / 4 % 2) ∧ (win0_2.index t 0 = t.val / 8 ∧ win0_2.index t 1 = t.val / 4 % 2) ∧ t.val / 8 < 2 ∧ t.val / 4 % 2 < 2 :=
  (by decide +kernel : ∀ t : Fin grid0.N, (win0_0.index t 0 = t.val % 4 ∧ win0_0.index t 1 = t.val / 8) ∧ (win0_1.index t 0 = t.val % 4 ∧ win0_1.index t 1 = t.val / 4 % 2) ∧ (win0_2.index t 0 = t.val / 8 ∧ win0_2.index t 1 = t.val / 4 % 2) ∧ t.val / 8 < 2 ∧ t.val / 4 % 2 < 2)

/-- Where a row of a point's group lies, and where the rows and the columns of its block of the gradient lie. -/
abbrev row (t : Fin cfg0.N) (k : Fin 2048) : Fin 8192 := ⟨2048 * (t.val % 4) + k.val, by omega⟩
abbrev left (t : Fin cfg0.N) (a : Fin 1408) : Fin 2816 := ⟨1408 * (t.val / 8) + a.val, by have := (maps t).2.2.2.1; omega⟩
abbrev right (t : Fin cfg0.N) (b : Fin 512) : Fin 1024 := ⟨512 * (t.val / 4 % 2) + b.val, by have := (maps t).2.2.2.2; omega⟩

theorem read0 (t : Fin cfg0.N) (k : Fin 2048) (a : Fin 1408) : (iblk m c 0 t : Vec Ideal S2048x1408 .bf16) (ix2 k a) = aX m c (ix2 (row t k) (left t a)) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 2048 + 1 * k.val = 2048 * (t.val % 4) + k.val; rw [(maps t).1.1]; omega
  | ⟨1, _⟩ => show win0_0.index t 1 * 1408 + 1 * a.val = 1408 * (t.val / 8) + a.val; rw [(maps t).1.2]; omega

theorem read1 (t : Fin cfg0.N) (k : Fin 2048) (a : Fin 512) : (iblk m c 1 t : Vec Ideal S2048x512 .f32) (ix2 k a) = aY m c (ix2 (row t k) (right t a)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2048 + 1 * k.val = 2048 * (t.val % 4) + k.val; rw [(maps t).2.1.1]; omega
  | ⟨1, _⟩ => show win0_1.index t 1 * 512 + 1 * a.val = 512 * (t.val / 4 % 2) + a.val; rw [(maps t).2.1.2]; omega

/-- A point's share of an element of its block. -/
def share (t : Fin cfg0.N) (i : S1408x512.Idx) : EReal := k0_pay1 (iblk m c 0 t : Vec Ideal S2048x1408 .bf16) (iblk m c 1 t : Vec Ideal S2048x512 .f32) i

theorem share_at (t : Fin cfg0.N) (a : Fin 1408) (b : Fin 512) :
    share m c t (ix2 a b) = ∑ k : Fin 2048, (aX m c (ix2 (row t k) (left t a)) : EReal) * (aY m c (ix2 (row t k) (right t b)) : EReal) := by
  unfold share
  rw [prod_at]
  exact Finset.sum_congr rfl fun k _ => congrArg₂ (fun x y : EReal => x * y) (read0 m c t k a) (read1 m c t k b)

/-- The scratch after a point. -/
def held (n : Nat) (h : n < cfg0.N) (i : S1408x512.Idx) : EReal := (outsAt0 m c n h).2 i

/-- The first group's point starts the sum. -/
theorem held_first (t : Fin cfg0.N) (h : t.val % 4 = 0) (i : S1408x512.Idx) : held m c t.val t.isLt i = 0 + share m c t i := by
  unfold held share
  rw [outsAt0_A m c t h (by omega) (by omega)]
  frame_out
  exact pay2_eq _ _ i

/-- Every later point adds its share. -/
theorem held_next (t : Fin cfg0.N) (h : ¬t.val % 4 = 0) (i : S1408x512.Idx) :
    held m c t.val t.isLt i = held m c (t.val - 1) (Nat.lt_of_le_of_lt (Nat.sub_le _ _) t.isLt) i + share m c t i := by
  unfold held share
  by_cases h3 : t.val % 4 = 3
  · rw [outsAt0_C m c t h (by omega) h3]
    frame_out
    simp only [read_unread_whole]
    exact pay3_eq _ _ _ i
  · rw [outsAt0_B m c t h (by omega) h3]
    frame_out
    simp only [read_unread_whole]
    exact pay3_eq _ _ _ i

/-- The last group's point writes the scratch out. -/
theorem out_held (t : Fin cfg0.N) (h : t.val % 4 = 3) (i : S1408x512.Idx) : ((outsAt0 m c t.val t.isLt).1 i : EReal) = held m c t.val t.isLt i := by
  rw [held_next m c t (by omega) i]
  unfold held share
  rw [outsAt0_C m c t (by omega) (by omega) h]
  frame_out
  simp only [read_unread_whole]
  exact pay3_eq _ _ _ i

/-- The block written out is the reference's block. -/
theorem block (t : Fin cfg0.N) (h : t.val % 4 = 3) (a : Fin 1408) (b : Fin 512) :
    ((outsAt0 m c t.val t.isLt).1 (ix2 a b) : EReal) = val_main_v4 (F := Ideal) (aX m c) (aY m c) (ix2 (left t a) (right t b)) := by
  rw [out_held m c t h, ref_at]
  have key := Pipeline.eq_sum_fin_of_reset_step_apply_of_flush (fun n h => held m c n h) 4 (fun _ => (0 : EReal)) (share m c)
    (held_first m c) (held_next m c) t h (ix2 a b)
  refine key.trans ?_
  rw [zero_add]
  have hP := lt_of_lt_of_eq t.isLt N_0
  refine (Finset.sum_congr rfl fun s _ => share_at m c _ a b).trans ?_
  refine Fin.sum_mul_add_congr (S := 4) (n := 2048) fun s k hl => ?_
  refine congrArg₂ (fun x y : EReal => x * y) (congrArg (aX m c) (congrArg₂ ix2 (Fin.ext ?_) (Fin.ext ?_))) (congrArg (aY m c) (congrArg₂ ix2 (Fin.ext ?_) (Fin.ext ?_)))
  all_goals dsimp only
  all_goals omega

/-- So every point that writes leaves its block of the reference. -/
theorem flushed_block (t : Fin cfg0.N) (h : t.val % 4 = 3) : (dats m 0 c).flushed 2 t = ((cfg0.win 2).blk t).view.read (Elt Ideal) (val_main_v4 (F := Ideal) (aX m c) (aY m c)) := by
  refine Eq.trans (b := ((outsAt0 m c t.val t.isLt).1 : FVec Ideal S1408x512 .f32)) ?_ ?_
  · show (cfg0.win 2).cut (grid0.coords t) ((dats m 0 c).after 2 t) = _
    rw [after0_2]
    rfl
  · funext i
    obtain ⟨a, b, rfl⟩ : ∃ (a : Fin 1408) (b : Fin 512), i = (ix2 a b : S1408x512.Idx) := ⟨i 0, i 1, ValueIdx.eq_ix2 i⟩
    rw [View.read_apply]
    refine (block m c t h a b).trans (congrArg (val_main_v4 (F := Ideal) (aX m c) (aY m c)) ?_)
    funext d
    apply Fin.ext
    match d with
    | ⟨0, _⟩ => show 1408 * (t.val / 8) + a.val = win0_2.index t 0 * 1408 + 1 * a.val; rw [(maps t).2.2.1.1]; omega
    | ⟨1, _⟩ => show 512 * (t.val / 4 % 2) + b.val = win0_2.index t 1 * 512 + 1 * b.val; rw [(maps t).2.2.1.2]; omega

/-- The gradient is all written. -/
theorem final : (dats m 0 c).arrAt 2 cfg0.N = val_main_v4 (F := Ideal) (aX m c) (aY m c) :=
  (dats m 0 c).arrAt_eq_of_cover 2 _ (fun t hf => flushed_block m c t ((flush0_2 t).mp hf)) fun i => by
    have h0 : (i 0 : Nat) < 2816 := (i 0).isLt
    have h1 : (i 1 : Nat) < 1024 := (i 1).isLt
    obtain ⟨t, ht⟩ : ∃ t : Fin cfg0.N, t.val = 8 * ((i 0 : Nat) / 1408) + 4 * ((i 1 : Nat) / 512) + 3 := ⟨⟨8 * ((i 0 : Nat) / 1408) + 4 * ((i 1 : Nat) / 512) + 3, lt_of_lt_of_eq (by omega) N_0.symm⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + 1408; rw [(maps t).2.2.1.1]; omega
    | ⟨1, _⟩ => show win0_2.index t 1 * 512 ≤ (i 1 : Nat) ∧ (i 1 : Nat) < win0_2.index t 1 * 512 + 512; rw [(maps t).2.2.1.2]; omega

/-- The two programs agree. -/
theorem agree : Cert.algebraic_DwdIdeal_DwdRefIdeal := by
  intro m g m' g' _ hargs
  refine ⟨fun c => val_main_v4 (F := Ideal) (aX m c) (aY m c), ?_, ?_⟩
  · refine (θ_run defs _ _).mono (fun r h c => ?_) (Cert.DwdIdeal.Value.run_blocks m g)
    exact ⟨(h c).1.trans (final m c), (h c).2⟩
  · refine (θ_run Cert.DwdRefIdeal.defs _ _).mono (fun r h c => ?_) (Cert.DwdRefIdeal.Value.run m' g')
    obtain ⟨a0, a1⟩ := hargs c
    refine ⟨(h c).1.trans ((Cert.DwdRefIdeal.Read.val_main_v4_eq _ _).trans ?_), (h c).2⟩
    rw [a0, a1]

end Cert.DwdIdeal.Walk

end
-- ==== Proof.DwinValue.lean ====
module

public import proofs.«01_k».proof.Defs
public import proofs.«01_k».proof.Proof.Gen.DwinIdeal.Value
public import proofs.«01_k».proof.Proof.Gen.DwinRefIdeal.Run
public import proofs.«01_k».proof.Proof.Gen.DwinRefIdeal.Read
public import Idealize.ShloMosaic.Lib.Pipeline.ValueKit
public import Idealize.ShloMosaic.Lib.Pipeline.ReadBack

@[expose] public section

set_option maxRecDepth 65536

noncomputable section

/-!
# The gradient of the weight that leads into the mixer

The kernel makes the product of one array, turned, with another: the gradient is 3 blocks of 1024 columns, and each block is added up
over four groups of 2048 rows in a scratch, which the last group's point writes out. The reference's element is the sum over all 8192 rows.
-/

namespace Cert.DwinIdeal.Walk

open Cert.DwinIdeal Cert.DwinIdeal.Gen
open Idealize.ShloMosaic Idealize.ShloMosaic.TcCoe Idealize.SL.Sem
open Idealize.ShloMosaic.Pipeline (Dat)
open Cert.DwinRefIdeal.Read (val_main_v5)

/-- One group's product at an element. -/
theorem prod_at (x : Vec Ideal S2048x1024 .bf16) (y : Vec Ideal S2048x1024 .bf16) (a : Fin 1024) (b : Fin 1024) :
    k0_pay1 x y (ix2 a b) = ∑ k : Fin 2048, (x (ix2 k a) : EReal) * (y (ix2 k b) : EReal) := by
  pointwise [k0_pay1]

/-- What the first group leaves in the scratch. -/
theorem pay2_eq (x : Vec Ideal S2048x1024 .bf16) (y : Vec Ideal S2048x1024 .bf16) (i : S1024x1024.Idx) :
    (k0_pay2 x y i : EReal) = 0 + k0_pay1 x y i := by
  rw [zero_add]
  unfold k0_pay2
  rw [shapeCast_self]

/-- What a later group leaves in the scratch. -/
theorem pay3_eq (x : Vec Ideal S2048x1024 .bf16) (y : Vec Ideal S2048x1024 .bf16) (s : Vec Ideal S1024x1024 .f32) (i : S1024x1024.Idx) :
    (k0_pay3 x y s i : EReal) = (s i : EReal) + k0_pay1 x y i := by
  unfold k0_pay3
  rw [shapeCast_self]
  rfl

/-- The reference at an element. -/
theorem ref_at (A : FVec Ideal S8192x1024 .bf16) (B : FVec Ideal S8192x3072 .bf16) (i : Fin 1024) (j : Fin 3072) :
    val_main_v5 (F := Ideal) A B (ix2 i j) = ∑ k : Fin 8192, (A (ix2 k i) : EReal) * (B (ix2 k j) : EReal) := by
  rw [Cert.DwinRefIdeal.Read.val_main_v5_apply, Cert.DwinRefIdeal.Read.val_main_v4_apply]
  refine Finset.sum_congr rfl fun k _ => ?_
  rw [mul_comm]; exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S8192x3072 .bf16 := m ((c : Thread nD τ).loc main_arg1)

/-- The blocks that the windows take at a point. -/
theorem maps : ∀ t : Fin cfg0.N, (win0_0.index t 0 = t.val % 4 ∧ win0_0.index t 1 = 0) ∧ (win0_1.index t 0 = t.val % 4 ∧ win0_1.index t 1 = t.val / 4) ∧ (win0_2.index t 0 = 0 ∧ win0_2.index t 1 = t.val / 4) ∧ 0 < 1 ∧ t.val / 4 < 3 :=
  (by decide +kernel : ∀ t : Fin grid0.N, (win0_0.index t 0 = t.val % 4 ∧ win0_0.index t 1 = 0) ∧ (win0_1.index t 0 = t.val % 4 ∧ win0_1.index t 1 = t.val / 4) ∧ (win0_2.index t 0 = 0 ∧ win0_2.index t 1 = t.val / 4) ∧ 0 < 1 ∧ t.val / 4 < 3)

/-- Where a row of a point's group lies, and where the rows and the columns of its block of the gradient lie. -/
abbrev row (t : Fin cfg0.N) (k : Fin 2048) : Fin 8192 := ⟨2048 * (t.val % 4) + k.val, by omega⟩
abbrev left (t : Fin cfg0.N) (a : Fin 1024) : Fin 1024 := ⟨1024 * (0) + a.val, by have := (maps t).2.2.2.1; omega⟩
abbrev right (t : Fin cfg0.N) (b : Fin 1024) : Fin 3072 := ⟨1024 * (t.val / 4) + b.val, by have := (maps t).2.2.2.2; omega⟩

theorem read0 (t : Fin cfg0.N) (k : Fin 2048) (a : Fin 1024) : (iblk m c 0 t : Vec Ideal S2048x1024 .bf16) (ix2 k a) = aX m c (ix2 (row t k) (left t a)) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 2048 + 1 * k.val = 2048 * (t.val % 4) + k.val; rw [(maps t).1.1]; omega
  | ⟨1, _⟩ => show win0_0.index t 1 * 1024 + 1 * a.val = 1024 * (0) + a.val; rw [(maps t).1.2]; omega

theorem read1 (t : Fin cfg0.N) (k : Fin 2048) (a : Fin 1024) : (iblk m c 1 t : Vec Ideal S2048x1024 .bf16) (ix2 k a) = aY m c (ix2 (row t k) (right t a)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2048 + 1 * k.val = 2048 * (t.val % 4) + k.val; rw [(maps t).2.1.1]; omega
  | ⟨1, _⟩ => show win0_1.index t 1 * 1024 + 1 * a.val = 1024 * (t.val / 4) + a.val; rw [(maps t).2.1.2]; omega

/-- A point's share of an element of its block. -/
def share (t : Fin cfg0.N) (i : S1024x1024.Idx) : EReal := k0_pay1 (iblk m c 0 t : Vec Ideal S2048x1024 .bf16) (iblk m c 1 t : Vec Ideal S2048x1024 .bf16) i

theorem share_at (t : Fin cfg0.N) (a : Fin 1024) (b : Fin 1024) :
    share m c t (ix2 a b) = ∑ k : Fin 2048, (aX m c (ix2 (row t k) (left t a)) : EReal) * (aY m c (ix2 (row t k) (right t b)) : EReal) := by
  unfold share
  rw [prod_at]
  exact Finset.sum_congr rfl fun k _ => congrArg₂ (fun x y : EReal => x * y) (read0 m c t k a) (read1 m c t k b)

/-- The scratch after a point. -/
def held (n : Nat) (h : n < cfg0.N) (i : S1024x1024.Idx) : EReal := (outsAt0 m c n h).2 i

/-- The first group's point starts the sum. -/
theorem held_first (t : Fin cfg0.N) (h : t.val % 4 = 0) (i : S1024x1024.Idx) : held m c t.val t.isLt i = 0 + share m c t i := by
  unfold held share
  rw [outsAt0_A m c t h (by omega) (by omega)]
  frame_out
  exact pay2_eq _ _ i

/-- Every later point adds its share. -/
theorem held_next (t : Fin cfg0.N) (h : ¬t.val % 4 = 0) (i : S1024x1024.Idx) :
    held m c t.val t.isLt i = held m c (t.val - 1) (Nat.lt_of_le_of_lt (Nat.sub_le _ _) t.isLt) i + share m c t i := by
  unfold held share
  by_cases h3 : t.val % 4 = 3
  · rw [outsAt0_C m c t h (by omega) h3]
    frame_out
    simp only [read_unread_whole]
    exact pay3_eq _ _ _ i
  · rw [outsAt0_B m c t h (by omega) h3]
    frame_out
    simp only [read_unread_whole]
    exact pay3_eq _ _ _ i

/-- The last group's point writes the scratch out. -/
theorem out_held (t : Fin cfg0.N) (h : t.val % 4 = 3) (i : S1024x1024.Idx) : ((outsAt0 m c t.val t.isLt).1 i : EReal) = held m c t.val t.isLt i := by
  rw [held_next m c t (by omega) i]
  unfold held share
  rw [outsAt0_C m c t (by omega) (by omega) h]
  frame_out
  simp only [read_unread_whole]
  exact pay3_eq _ _ _ i

/-- The block written out is the reference's block. -/
theorem block (t : Fin cfg0.N) (h : t.val % 4 = 3) (a : Fin 1024) (b : Fin 1024) :
    ((outsAt0 m c t.val t.isLt).1 (ix2 a b) : EReal) = val_main_v5 (F := Ideal) (aX m c) (aY m c) (ix2 (left t a) (right t b)) := by
  rw [out_held m c t h, ref_at]
  have key := Pipeline.eq_sum_fin_of_reset_step_apply_of_flush (fun n h => held m c n h) 4 (fun _ => (0 : EReal)) (share m c)
    (held_first m c) (held_next m c) t h (ix2 a b)
  refine key.trans ?_
  rw [zero_add]
  have hP := lt_of_lt_of_eq t.isLt N_0
  refine (Finset.sum_congr rfl fun s _ => share_at m c _ a b).trans ?_
  refine Fin.sum_mul_add_congr (S := 4) (n := 2048) fun s k hl => ?_
  refine congrArg₂ (fun x y : EReal => x * y) (congrArg (aX m c) (congrArg₂ ix2 (Fin.ext ?_) (Fin.ext ?_))) (congrArg (aY m c) (congrArg₂ ix2 (Fin.ext ?_) (Fin.ext ?_)))
  all_goals dsimp only
  all_goals omega

/-- So every point that writes leaves its block of the reference. -/
theorem flushed_block (t : Fin cfg0.N) (h : t.val % 4 = 3) : (dats m 0 c).flushed 2 t = ((cfg0.win 2).blk t).view.read (Elt Ideal) (val_main_v5 (F := Ideal) (aX m c) (aY m c)) := by
  refine Eq.trans (b := ((outsAt0 m c t.val t.isLt).1 : FVec Ideal S1024x1024 .f32)) ?_ ?_
  · show (cfg0.win 2).cut (grid0.coords t) ((dats m 0 c).after 2 t) = _
    rw [after0_2]
    rfl
  · funext i
    obtain ⟨a, b, rfl⟩ : ∃ (a : Fin 1024) (b : Fin 1024), i = (ix2 a b : S1024x1024.Idx) := ⟨i 0, i 1, ValueIdx.eq_ix2 i⟩
    rw [View.read_apply]
    refine (block m c t h a b).trans (congrArg (val_main_v5 (F := Ideal) (aX m c) (aY m c)) ?_)
    funext d
    apply Fin.ext
    match d with
    | ⟨0, _⟩ => show 1024 * (0) + a.val = win0_2.index t 0 * 1024 + 1 * a.val; rw [(maps t).2.2.1.1]; omega
    | ⟨1, _⟩ => show 1024 * (t.val / 4) + b.val = win0_2.index t 1 * 1024 + 1 * b.val; rw [(maps t).2.2.1.2]; omega

/-- The gradient is all written. -/
theorem final : (dats m 0 c).arrAt 2 cfg0.N = val_main_v5 (F := Ideal) (aX m c) (aY m c) :=
  (dats m 0 c).arrAt_eq_of_cover 2 _ (fun t hf => flushed_block m c t ((flush0_2 t).mp hf)) fun i => by
    have h0 : (i 0 : Nat) < 1024 := (i 0).isLt
    have h1 : (i 1 : Nat) < 3072 := (i 1).isLt
    obtain ⟨t, ht⟩ : ∃ t : Fin cfg0.N, t.val = 4 * ((i 1 : Nat) / 1024) + 3 := ⟨⟨4 * ((i 1 : Nat) / 1024) + 3, lt_of_lt_of_eq (by omega) N_0.symm⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [(maps t).2.2.1.1]; omega
    | ⟨1, _⟩ => show win0_2.index t 1 * 1024 ≤ (i 1 : Nat) ∧ (i 1 : Nat) < win0_2.index t 1 * 1024 + 1024; rw [(maps t).2.2.1.2]; omega

/-- The two programs agree. -/
theorem agree : Cert.algebraic_DwinIdeal_DwinRefIdeal := by
  intro m g m' g' _ hargs
  refine ⟨fun c => val_main_v5 (F := Ideal) (aX m c) (aY m c), ?_, ?_⟩
  · refine (θ_run defs _ _).mono (fun r h c => ?_) (Cert.DwinIdeal.Value.run_blocks m g)
    exact ⟨(h c).1.trans (final m c), (h c).2⟩
  · refine (θ_run Cert.DwinRefIdeal.defs _ _).mono (fun r h c => ?_) (Cert.DwinRefIdeal.Value.run m' g')
    obtain ⟨a0, a1⟩ := hargs c
    refine ⟨(h c).1.trans ((Cert.DwinRefIdeal.Read.val_main_v5_eq _ _).trans ?_), (h c).2⟩
    rw [a0, a1]

end Cert.DwinIdeal.Walk

end
-- ==== Proof.DwoutValue.lean ====
module

public import proofs.«01_k».proof.Defs
public import proofs.«01_k».proof.Proof.Gen.DwoutIdeal.Value
public import proofs.«01_k».proof.Proof.Gen.DwoutRefIdeal.Run
public import proofs.«01_k».proof.Proof.Gen.DwoutRefIdeal.Read
public import Idealize.ShloMosaic.Lib.Pipeline.ValueKit
public import Idealize.ShloMosaic.Lib.Pipeline.ReadBack

@[expose] public section

set_option maxRecDepth 65536

noncomputable section

/-!
# The gradient of the weight that leads out of the mixer

The kernel makes the product of one array, turned, with another: the gradient is one block, and each block is added up
over four groups of 2048 rows in a scratch, which the last group's point writes out. The reference's element is the sum over all 8192 rows.
-/

namespace Cert.DwoutIdeal.Walk

open Cert.DwoutIdeal Cert.DwoutIdeal.Gen
open Idealize.ShloMosaic Idealize.ShloMosaic.TcCoe Idealize.SL.Sem
open Idealize.ShloMosaic.Pipeline (Dat)
open Cert.DwoutRefIdeal.Read (val_main_v4)

/-- One group's product at an element. -/
theorem prod_at (x : Vec Ideal S2048x1024 .bf16) (y : Vec Ideal S2048x1024 .f32) (a : Fin 1024) (b : Fin 1024) :
    k0_pay1 x y (ix2 a b) = ∑ k : Fin 2048, (x (ix2 k a) : EReal) * (y (ix2 k b) : EReal) := by
  pointwise [k0_pay1]

/-- What the first group leaves in the scratch. -/
theorem pay2_eq (x : Vec Ideal S2048x1024 .bf16) (y : Vec Ideal S2048x1024 .f32) (i : S1024x1024.Idx) :
    (k0_pay2 x y i : EReal) = 0 + k0_pay1 x y i := by
  rw [zero_add]
  unfold k0_pay2
  rw [shapeCast_self]

/-- What a later group leaves in the scratch. -/
theorem pay3_eq (x : Vec Ideal S2048x1024 .bf16) (y : Vec Ideal S2048x1024 .f32) (s : Vec Ideal S1024x1024 .f32) (i : S1024x1024.Idx) :
    (k0_pay3 x y s i : EReal) = (s i : EReal) + k0_pay1 x y i := by
  unfold k0_pay3
  rw [shapeCast_self]
  rfl

/-- The reference at an element. -/
theorem ref_at (A : FVec Ideal S8192x1024 .bf16) (B : FVec Ideal S8192x1024 .f32) (i : Fin 1024) (j : Fin 1024) :
    val_main_v4 (F := Ideal) A B (ix2 i j) = ∑ k : Fin 8192, (A (ix2 k i) : EReal) * (B (ix2 k j) : EReal) := by
  rw [Cert.DwoutRefIdeal.Read.val_main_v4_apply, Cert.DwoutRefIdeal.Read.val_main_v3_apply]
  refine Finset.sum_congr rfl fun k _ => ?_
  rw [mul_comm]; exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S8192x1024 .f32 := m ((c : Thread nD τ).loc main_arg1)

/-- The blocks that the windows take at a point. -/
theorem maps : ∀ t : Fin cfg0.N, (win0_0.index t 0 = t.val % 4 ∧ win0_0.index t 1 = 0) ∧ (win0_1.index t 0 = t.val % 4 ∧ win0_1.index t 1 = 0) ∧ (win0_2.index t 0 = 0 ∧ win0_2.index t 1 = 0) ∧ 0 < 1 ∧ 0 < 1 :=
  (by decide +kernel : ∀ t : Fin grid0.N, (win0_0.index t 0 = t.val % 4 ∧ win0_0.index t 1 = 0) ∧ (win0_1.index t 0 = t.val % 4 ∧ win0_1.index t 1 = 0) ∧ (win0_2.index t 0 = 0 ∧ win0_2.index t 1 = 0) ∧ 0 < 1 ∧ 0 < 1)

/-- Where a row of a point's group lies, and where the rows and the columns of its block of the gradient lie. -/
abbrev row (t : Fin cfg0.N) (k : Fin 2048) : Fin 8192 := ⟨2048 * (t.val % 4) + k.val, by omega⟩
abbrev left (t : Fin cfg0.N) (a : Fin 1024) : Fin 1024 := ⟨1024 * (0) + a.val, by have := (maps t).2.2.2.1; omega⟩
abbrev right (t : Fin cfg0.N) (b : Fin 1024) : Fin 1024 := ⟨1024 * (0) + b.val, by have := (maps t).2.2.2.2; omega⟩

theorem read0 (t : Fin cfg0.N) (k : Fin 2048) (a : Fin 1024) : (iblk m c 0 t : Vec Ideal S2048x1024 .bf16) (ix2 k a) = aX m c (ix2 (row t k) (left t a)) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 2048 + 1 * k.val = 2048 * (t.val % 4) + k.val; rw [(maps t).1.1]; omega
  | ⟨1, _⟩ => show win0_0.index t 1 * 1024 + 1 * a.val = 1024 * (0) + a.val; rw [(maps t).1.2]; omega

theorem read1 (t : Fin cfg0.N) (k : Fin 2048) (a : Fin 1024) : (iblk m c 1 t : Vec Ideal S2048x1024 .f32) (ix2 k a) = aY m c (ix2 (row t k) (right t a)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2048 + 1 * k.val = 2048 * (t.val % 4) + k.val; rw [(maps t).2.1.1]; omega
  | ⟨1, _⟩ => show win0_1.index t 1 * 1024 + 1 * a.val = 1024 * (0) + a.val; rw [(maps t).2.1.2]; omega

/-- A point's share of an element of its block. -/
def share (t : Fin cfg0.N) (i : S1024x1024.Idx) : EReal := k0_pay1 (iblk m c 0 t : Vec Ideal S2048x1024 .bf16) (iblk m c 1 t : Vec Ideal S2048x1024 .f32) i

theorem share_at (t : Fin cfg0.N) (a : Fin 1024) (b : Fin 1024) :
    share m c t (ix2 a b) = ∑ k : Fin 2048, (aX m c (ix2 (row t k) (left t a)) : EReal) * (aY m c (ix2 (row t k) (right t b)) : EReal) := by
  unfold share
  rw [prod_at]
  exact Finset.sum_congr rfl fun k _ => congrArg₂ (fun x y : EReal => x * y) (read0 m c t k a) (read1 m c t k b)

/-- The scratch after a point. -/
def held (n : Nat) (h : n < cfg0.N) (i : S1024x1024.Idx) : EReal := (outsAt0 m c n h).2 i

/-- The first group's point starts the sum. -/
theorem held_first (t : Fin cfg0.N) (h : t.val % 4 = 0) (i : S1024x1024.Idx) : held m c t.val t.isLt i = 0 + share m c t i := by
  unfold held share
  rw [outsAt0_A m c t h (by have := lt_of_lt_of_eq t.isLt N_0; omega) (by omega)]
  frame_out
  exact pay2_eq _ _ i

/-- Every later point adds its share. -/
theorem held_next (t : Fin cfg0.N) (h : ¬t.val % 4 = 0) (i : S1024x1024.Idx) :
    held m c t.val t.isLt i = held m c (t.val - 1) (Nat.lt_of_le_of_lt (Nat.sub_le _ _) t.isLt) i + share m c t i := by
  unfold held share
  by_cases h3 : t.val % 4 = 3
  · rw [outsAt0_C m c t h (by omega) h3]
    frame_out
    simp only [read_unread_whole]
    exact pay3_eq _ _ _ i
  · rw [outsAt0_B m c t h (by omega) h3]
    frame_out
    simp only [read_unread_whole]
    exact pay3_eq _ _ _ i

/-- The last group's point writes the scratch out. -/
theorem out_held (t : Fin cfg0.N) (h : t.val % 4 = 3) (i : S1024x1024.Idx) : ((outsAt0 m c t.val t.isLt).1 i : EReal) = held m c t.val t.isLt i := by
  rw [held_next m c t (by omega) i]
  unfold held share
  rw [outsAt0_C m c t (by omega) (by omega) h]
  frame_out
  simp only [read_unread_whole]
  exact pay3_eq _ _ _ i

/-- The block written out is the reference's block. -/
theorem block (t : Fin cfg0.N) (h : t.val % 4 = 3) (a : Fin 1024) (b : Fin 1024) :
    ((outsAt0 m c t.val t.isLt).1 (ix2 a b) : EReal) = val_main_v4 (F := Ideal) (aX m c) (aY m c) (ix2 (left t a) (right t b)) := by
  rw [out_held m c t h, ref_at]
  have key := Pipeline.eq_sum_fin_of_reset_step_apply_of_flush (fun n h => held m c n h) 4 (fun _ => (0 : EReal)) (share m c)
    (held_first m c) (held_next m c) t h (ix2 a b)
  refine key.trans ?_
  rw [zero_add]
  have hP := lt_of_lt_of_eq t.isLt N_0
  refine (Finset.sum_congr rfl fun s _ => share_at m c _ a b).trans ?_
  refine Fin.sum_mul_add_congr (S := 4) (n := 2048) fun s k hl => ?_
  refine congrArg₂ (fun x y : EReal => x * y) (congrArg (aX m c) (congrArg₂ ix2 (Fin.ext ?_) (Fin.ext ?_))) (congrArg (aY m c) (congrArg₂ ix2 (Fin.ext ?_) (Fin.ext ?_)))
  all_goals dsimp only
  all_goals omega

/-- So every point that writes leaves its block of the reference. -/
theorem flushed_block (t : Fin cfg0.N) (h : t.val % 4 = 3) : (dats m 0 c).flushed 2 t = ((cfg0.win 2).blk t).view.read (Elt Ideal) (val_main_v4 (F := Ideal) (aX m c) (aY m c)) := by
  refine Eq.trans (b := ((outsAt0 m c t.val t.isLt).1 : FVec Ideal S1024x1024 .f32)) ?_ ?_
  · show (cfg0.win 2).cut (grid0.coords t) ((dats m 0 c).after 2 t) = _
    rw [after0_2]
    rfl
  · funext i
    obtain ⟨a, b, rfl⟩ : ∃ (a : Fin 1024) (b : Fin 1024), i = (ix2 a b : S1024x1024.Idx) := ⟨i 0, i 1, ValueIdx.eq_ix2 i⟩
    rw [View.read_apply]
    refine (block m c t h a b).trans (congrArg (val_main_v4 (F := Ideal) (aX m c) (aY m c)) ?_)
    funext d
    apply Fin.ext
    match d with
    | ⟨0, _⟩ => show 1024 * (0) + a.val = win0_2.index t 0 * 1024 + 1 * a.val; rw [(maps t).2.2.1.1]; omega
    | ⟨1, _⟩ => show 1024 * (0) + b.val = win0_2.index t 1 * 1024 + 1 * b.val; rw [(maps t).2.2.1.2]; omega

/-- The gradient is all written. -/
theorem final : (dats m 0 c).arrAt 2 cfg0.N = val_main_v4 (F := Ideal) (aX m c) (aY m c) :=
  (dats m 0 c).arrAt_eq_of_cover 2 _ (fun t hf => flushed_block m c t ((flush0_2 t).mp hf)) fun i => by
    have h0 : (i 0 : Nat) < 1024 := (i 0).isLt
    have h1 : (i 1 : Nat) < 1024 := (i 1).isLt
    obtain ⟨t, ht⟩ : ∃ t : Fin cfg0.N, t.val = 3 := ⟨⟨3, lt_of_lt_of_eq (by omega) N_0.symm⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [(maps t).2.2.1.1]; omega
    | ⟨1, _⟩ => show win0_2.index t 1 * 1024 ≤ (i 1 : Nat) ∧ (i 1 : Nat) < win0_2.index t 1 * 1024 + 1024; rw [(maps t).2.2.1.2]; omega

/-- The two programs agree. -/
theorem agree : Cert.algebraic_DwoutIdeal_DwoutRefIdeal := by
  intro m g m' g' _ hargs
  refine ⟨fun c => val_main_v4 (F := Ideal) (aX m c) (aY m c), ?_, ?_⟩
  · refine (θ_run defs _ _).mono (fun r h c => ?_) (Cert.DwoutIdeal.Value.run_blocks m g)
    exact ⟨(h c).1.trans (final m c), (h c).2⟩
  · refine (θ_run Cert.DwoutRefIdeal.defs _ _).mono (fun r h c => ?_) (Cert.DwoutRefIdeal.Value.run m' g')
    obtain ⟨a0, a1⟩ := hargs c
    refine ⟨(h c).1.trans ((Cert.DwoutRefIdeal.Read.val_main_v4_eq _ _).trans ?_), (h c).2⟩
    rw [a0, a1]

end Cert.DwoutIdeal.Walk

end
-- ==== Proof.DwpgValue.lean ====
module

public import proofs.«01_k».proof.Defs
public import proofs.«01_k».proof.Proof.Gen.DwpgIdeal.Value
public import proofs.«01_k».proof.Proof.Gen.DwpgRefIdeal.Run
public import proofs.«01_k».proof.Proof.Gen.DwpgRefIdeal.Read
public import Idealize.ShloMosaic.Lib.Pipeline.ValueKit
public import Idealize.ShloMosaic.Lib.Pipeline.ReadBack

@[expose] public section

set_option maxRecDepth 65536

noncomputable section

/-!
# The gradient of the weight that gates the mixer's result

The kernel makes the product of one array, turned, with another: the gradient is one block, and each block is added up
over four groups of 2048 rows in a scratch, which the last group's point writes out. The reference's element is the sum over all 8192 rows.
-/

namespace Cert.DwpgIdeal.Walk

open Cert.DwpgIdeal Cert.DwpgIdeal.Gen
open Idealize.ShloMosaic Idealize.ShloMosaic.TcCoe Idealize.SL.Sem
open Idealize.ShloMosaic.Pipeline (Dat)
open Cert.DwpgRefIdeal.Read (val_main_v5)

/-- One group's product at an element. -/
theorem prod_at (x : Vec Ideal S2048x1024 .bf16) (y : Vec Ideal S2048x1024 .bf16) (a : Fin 1024) (b : Fin 1024) :
    k0_pay1 x y (ix2 a b) = ∑ k : Fin 2048, (x (ix2 k a) : EReal) * (y (ix2 k b) : EReal) := by
  pointwise [k0_pay1]

/-- What the first group leaves in the scratch. -/
theorem pay2_eq (x : Vec Ideal S2048x1024 .bf16) (y : Vec Ideal S2048x1024 .bf16) (i : S1024x1024.Idx) :
    (k0_pay2 x y i : EReal) = 0 + k0_pay1 x y i := by
  rw [zero_add]
  unfold k0_pay2
  rw [shapeCast_self]

/-- What a later group leaves in the scratch. -/
theorem pay3_eq (x : Vec Ideal S2048x1024 .bf16) (y : Vec Ideal S2048x1024 .bf16) (s : Vec Ideal S1024x1024 .f32) (i : S1024x1024.Idx) :
    (k0_pay3 x y s i : EReal) = (s i : EReal) + k0_pay1 x y i := by
  unfold k0_pay3
  rw [shapeCast_self]
  rfl

/-- The reference at an element. -/
theorem ref_at (A : FVec Ideal S8192x1024 .bf16) (B : FVec Ideal S8192x1024 .bf16) (i : Fin 1024) (j : Fin 1024) :
    val_main_v5 (F := Ideal) A B (ix2 i j) = ∑ k : Fin 8192, (A (ix2 k i) : EReal) * (B (ix2 k j) : EReal) := by
  rw [Cert.DwpgRefIdeal.Read.val_main_v5_apply, Cert.DwpgRefIdeal.Read.val_main_v4_apply]
  refine Finset.sum_congr rfl fun k _ => ?_
  rw [mul_comm]; exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S8192x1024 .bf16 := m ((c : Thread nD τ).loc main_arg1)

/-- The blocks that the windows take at a point. -/
theorem maps : ∀ t : Fin cfg0.N, (win0_0.index t 0 = t.val % 4 ∧ win0_0.index t 1 = 0) ∧ (win0_1.index t 0 = t.val % 4 ∧ win0_1.index t 1 = 0) ∧ (win0_2.index t 0 = 0 ∧ win0_2.index t 1 = 0) ∧ 0 < 1 ∧ 0 < 1 :=
  (by decide +kernel : ∀ t : Fin grid0.N, (win0_0.index t 0 = t.val % 4 ∧ win0_0.index t 1 = 0) ∧ (win0_1.index t 0 = t.val % 4 ∧ win0_1.index t 1 = 0) ∧ (win0_2.index t 0 = 0 ∧ win0_2.index t 1 = 0) ∧ 0 < 1 ∧ 0 < 1)

/-- Where a row of a point's group lies, and where the rows and the columns of its block of the gradient lie. -/
abbrev row (t : Fin cfg0.N) (k : Fin 2048) : Fin 8192 := ⟨2048 * (t.val % 4) + k.val, by omega⟩
abbrev left (t : Fin cfg0.N) (a : Fin 1024) : Fin 1024 := ⟨1024 * (0) + a.val, by have := (maps t).2.2.2.1; omega⟩
abbrev right (t : Fin cfg0.N) (b : Fin 1024) : Fin 1024 := ⟨1024 * (0) + b.val, by have := (maps t).2.2.2.2; omega⟩

theorem read0 (t : Fin cfg0.N) (k : Fin 2048) (a : Fin 1024) : (iblk m c 0 t : Vec Ideal S2048x1024 .bf16) (ix2 k a) = aX m c (ix2 (row t k) (left t a)) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 2048 + 1 * k.val = 2048 * (t.val % 4) + k.val; rw [(maps t).1.1]; omega
  | ⟨1, _⟩ => show win0_0.index t 1 * 1024 + 1 * a.val = 1024 * (0) + a.val; rw [(maps t).1.2]; omega

theorem read1 (t : Fin cfg0.N) (k : Fin 2048) (a : Fin 1024) : (iblk m c 1 t : Vec Ideal S2048x1024 .bf16) (ix2 k a) = aY m c (ix2 (row t k) (right t a)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2048 + 1 * k.val = 2048 * (t.val % 4) + k.val; rw [(maps t).2.1.1]; omega
  | ⟨1, _⟩ => show win0_1.index t 1 * 1024 + 1 * a.val = 1024 * (0) + a.val; rw [(maps t).2.1.2]; omega

/-- A point's share of an element of its block. -/
def share (t : Fin cfg0.N) (i : S1024x1024.Idx) : EReal := k0_pay1 (iblk m c 0 t : Vec Ideal S2048x1024 .bf16) (iblk m c 1 t : Vec Ideal S2048x1024 .bf16) i

theorem share_at (t : Fin cfg0.N) (a : Fin 1024) (b : Fin 1024) :
    share m c t (ix2 a b) = ∑ k : Fin 2048, (aX m c (ix2 (row t k) (left t a)) : EReal) * (aY m c (ix2 (row t k) (right t b)) : EReal) := by
  unfold share
  rw [prod_at]
  exact Finset.sum_congr rfl fun k _ => congrArg₂ (fun x y : EReal => x * y) (read0 m c t k a) (read1 m c t k b)

/-- The scratch after a point. -/
def held (n : Nat) (h : n < cfg0.N) (i : S1024x1024.Idx) : EReal := (outsAt0 m c n h).2 i

/-- The first group's point starts the sum. -/
theorem held_first (t : Fin cfg0.N) (h : t.val % 4 = 0) (i : S1024x1024.Idx) : held m c t.val t.isLt i = 0 + share m c t i := by
  unfold held share
  rw [outsAt0_A m c t h (by have := lt_of_lt_of_eq t.isLt N_0; omega) (by omega)]
  frame_out
  exact pay2_eq _ _ i

/-- Every later point adds its share. -/
theorem held_next (t : Fin cfg0.N) (h : ¬t.val % 4 = 0) (i : S1024x1024.Idx) :
    held m c t.val t.isLt i = held m c (t.val - 1) (Nat.lt_of_le_of_lt (Nat.sub_le _ _) t.isLt) i + share m c t i := by
  unfold held share
  by_cases h3 : t.val % 4 = 3
  · rw [outsAt0_C m c t h (by omega) h3]
    frame_out
    simp only [read_unread_whole]
    exact pay3_eq _ _ _ i
  · rw [outsAt0_B m c t h (by omega) h3]
    frame_out
    simp only [read_unread_whole]
    exact pay3_eq _ _ _ i

/-- The last group's point writes the scratch out. -/
theorem out_held (t : Fin cfg0.N) (h : t.val % 4 = 3) (i : S1024x1024.Idx) : ((outsAt0 m c t.val t.isLt).1 i : EReal) = held m c t.val t.isLt i := by
  rw [held_next m c t (by omega) i]
  unfold held share
  rw [outsAt0_C m c t (by omega) (by omega) h]
  frame_out
  simp only [read_unread_whole]
  exact pay3_eq _ _ _ i

/-- The block written out is the reference's block. -/
theorem block (t : Fin cfg0.N) (h : t.val % 4 = 3) (a : Fin 1024) (b : Fin 1024) :
    ((outsAt0 m c t.val t.isLt).1 (ix2 a b) : EReal) = val_main_v5 (F := Ideal) (aX m c) (aY m c) (ix2 (left t a) (right t b)) := by
  rw [out_held m c t h, ref_at]
  have key := Pipeline.eq_sum_fin_of_reset_step_apply_of_flush (fun n h => held m c n h) 4 (fun _ => (0 : EReal)) (share m c)
    (held_first m c) (held_next m c) t h (ix2 a b)
  refine key.trans ?_
  rw [zero_add]
  have hP := lt_of_lt_of_eq t.isLt N_0
  refine (Finset.sum_congr rfl fun s _ => share_at m c _ a b).trans ?_
  refine Fin.sum_mul_add_congr (S := 4) (n := 2048) fun s k hl => ?_
  refine congrArg₂ (fun x y : EReal => x * y) (congrArg (aX m c) (congrArg₂ ix2 (Fin.ext ?_) (Fin.ext ?_))) (congrArg (aY m c) (congrArg₂ ix2 (Fin.ext ?_) (Fin.ext ?_)))
  all_goals dsimp only
  all_goals omega

/-- So every point that writes leaves its block of the reference. -/
theorem flushed_block (t : Fin cfg0.N) (h : t.val % 4 = 3) : (dats m 0 c).flushed 2 t = ((cfg0.win 2).blk t).view.read (Elt Ideal) (val_main_v5 (F := Ideal) (aX m c) (aY m c)) := by
  refine Eq.trans (b := ((outsAt0 m c t.val t.isLt).1 : FVec Ideal S1024x1024 .f32)) ?_ ?_
  · show (cfg0.win 2).cut (grid0.coords t) ((dats m 0 c).after 2 t) = _
    rw [after0_2]
    rfl
  · funext i
    obtain ⟨a, b, rfl⟩ : ∃ (a : Fin 1024) (b : Fin 1024), i = (ix2 a b : S1024x1024.Idx) := ⟨i 0, i 1, ValueIdx.eq_ix2 i⟩
    rw [View.read_apply]
    refine (block m c t h a b).trans (congrArg (val_main_v5 (F := Ideal) (aX m c) (aY m c)) ?_)
    funext d
    apply Fin.ext
    match d with
    | ⟨0, _⟩ => show 1024 * (0) + a.val = win0_2.index t 0 * 1024 + 1 * a.val; rw [(maps t).2.2.1.1]; omega
    | ⟨1, _⟩ => show 1024 * (0) + b.val = win0_2.index t 1 * 1024 + 1 * b.val; rw [(maps t).2.2.1.2]; omega

/-- The gradient is all written. -/
theorem final : (dats m 0 c).arrAt 2 cfg0.N = val_main_v5 (F := Ideal) (aX m c) (aY m c) :=
  (dats m 0 c).arrAt_eq_of_cover 2 _ (fun t hf => flushed_block m c t ((flush0_2 t).mp hf)) fun i => by
    have h0 : (i 0 : Nat) < 1024 := (i 0).isLt
    have h1 : (i 1 : Nat) < 1024 := (i 1).isLt
    obtain ⟨t, ht⟩ : ∃ t : Fin cfg0.N, t.val = 3 := ⟨⟨3, lt_of_lt_of_eq (by omega) N_0.symm⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [(maps t).2.2.1.1]; omega
    | ⟨1, _⟩ => show win0_2.index t 1 * 1024 ≤ (i 1 : Nat) ∧ (i 1 : Nat) < win0_2.index t 1 * 1024 + 1024; rw [(maps t).2.2.1.2]; omega

/-- The two programs agree. -/
theorem agree : Cert.algebraic_DwpgIdeal_DwpgRefIdeal := by
  intro m g m' g' _ hargs
  refine ⟨fun c => val_main_v5 (F := Ideal) (aX m c) (aY m c), ?_, ?_⟩
  · refine (θ_run defs _ _).mono (fun r h c => ?_) (Cert.DwpgIdeal.Value.run_blocks m g)
    exact ⟨(h c).1.trans (final m c), (h c).2⟩
  · refine (θ_run Cert.DwpgRefIdeal.defs _ _).mono (fun r h c => ?_) (Cert.DwpgRefIdeal.Value.run m' g')
    obtain ⟨a0, a1⟩ := hargs c
    refine ⟨(h c).1.trans ((Cert.DwpgRefIdeal.Read.val_main_v5_eq _ _).trans ?_), (h c).2⟩
    rw [a0, a1]

end Cert.DwpgIdeal.Walk

end
-- ==== Proof.Du3Read.lean ====
module

public import proofs.«01_k».proof.Proof.NormReal
public import proofs.«01_k».proof.Proof.Gen.Du3Ideal.Skeleton
public import proofs.«01_k».proof.Proof.Gen.Du3RefIdeal.Read
public import Idealize.ShloMosaic.Lib.MatmulPlain
public import Idealize.ShloMosaic.Lib.ValueIdx
public import Idealize.ShloMosaic.Lib.Pointwise

@[expose] public section

set_option maxRecDepth 16384

noncomputable section

/-!
# The pieces of the gradient through the layer's last norm, element by element

What the kernel computes on a tile of 512 rows, and what the reference computes on all the rows, each read at one element: the product of the
incoming gradient with the transposed gate's weight, the normalised row, the gradient of the rows and the gradient of the gain.
-/

namespace Cert.Du3Ideal.Walk

open Cert.Du3Ideal Cert.Du3Ideal.Gen
open Idealize.ShloMosaic Idealize.ShloMosaic.TcCoe
open Cert.NormReal

section Tile

variable (x : Vec Ideal S512x1024 .bf16) (u : Vec Ideal S1024x1024 .bf16) (h r : Vec Ideal S512x1024 .f32) (g : Vec Ideal S1x1024 .f32)

/-- One over the root of a row's mean square. -/
theorem root_at (a : Fin 512) (b : Fin 1) : k0_pay3 (F := Ideal) h (ix2 a b) = inv fun k => h (ix2 a k) := by
  pointwise [k0_pay3]
  rfl

/-- The normalised tile at an element. -/
theorem unit_at (a : Fin 512) (l : Fin 1024) : k0_pay4 (F := Ideal) h (ix2 a l) = h (ix2 a l) * inv fun k => h (ix2 a k) := by
  pointwise [k0_pay4]
  rw [root_at]

/-- The tile of the gradient at an element. -/
theorem grad_at (a : Fin 512) (l : Fin 1024) :
    k0_pay6 (F := Ideal) x u h r g (ix2 a l)
      = kernelElt (fun k => k0_pay2 (F := Ideal) x u (ix2 a k)) (fun k => h (ix2 a k)) (fun k => g (ix2 0 k)) (r (ix2 a l)) l := by
  generalize e : k0_pay2 (F := Ideal) x u = D
  unfold kernelElt
  pointwise [k0_pay6, k0_pay5]
  simp only [root_at, unit_at, e]

/-- The tile's share of the gain's gradient at an element. -/
theorem gain_at (l : Fin 1024) :
    k0_pay1 (F := Ideal) (k0_pay7 x u h) (ix3 0 0 l)
      = ∑ a : Fin 512, k0_pay2 (F := Ideal) x u (ix2 a l) * (h (ix2 a l) * inv fun k => h (ix2 a k)) := by
  pointwise [k0_pay1, k0_pay7, k0_pay5]
  simp only [unit_at]

end Tile

/-- The product at an element of the tile. -/
theorem prod_at (x : Vec Ideal S512x1024 .bf16) (u : Vec Ideal S1024x1024 .bf16) (a : Fin 512) (l : Fin 1024) :
    k0_pay2 (F := Ideal) x u (ix2 a l) = ∑ k : Fin 1024, x (ix2 a k) * u (ix2 l k) := by
  unfold k0_pay2
  have hd : dot_S512x1024_S1024x1024_S512x1024_1_1_0_0_n_n = DotDims.transposedRhs 512 1024 1024 := rfl
  show FloatOps.matmul dot_S512x1024_S1024x1024_S512x1024_1_1_0_0_n_n _ _ _ _ (ix2 a l) = _
  rw [hd]
  refine (Ideal.matmul_transposedRhs_apply _ _ _ _ a l).trans ?_
  show Ideal.ofBits .f32 0x00000000#32 + _ = _
  rw [Ideal.ofBits_zero_f32, zero_add]
  rfl

section Ref

open Cert.Du3RefIdeal.Read

variable (X : FVec Ideal S8192x1024 .bf16) (U : FVec Ideal S1024x1024 .bf16) (H R : FVec Ideal S8192x1024 .f32) (G : FVec Ideal S1024 .f32)

/-- The reference's product at an element. -/
theorem ref_prod_at (i : Fin 8192) (l : Fin 1024) :
    val_main_v19 (F := Ideal) X U (ix2 i l) = ∑ k : Fin 1024, X (ix2 i k) * U (ix2 l k) := by
  rw [val_main_v19_apply]
  exact Finset.sum_congr rfl fun k _ => congrArg₂ (· * ·) (congrArg X (ValueIdx.eq_ix2 (lidx_main_v19 (ix2 i l) k))) (congrArg U (ValueIdx.eq_ix2 (ridx_main_v19 (ix2 i l) k)))

/-- The mean square of a row, and the small number. -/
theorem ref_mean_at (i : Fin 8192) (b : Fin 1) : val_main_v8 (F := Ideal) H (ix2 i b) = meanSq fun k => H (ix2 i k) := by
  pointwise [val_main_v8, val_main_v7, val_main_v6, val_main_v5, val_main_v4, val_main_v3, val_main_v2, val_main_cst, val_main_cst_0, val_main_cst_1]
  rfl

/-- One over the root of a row's mean square. -/
theorem ref_root_at (i : Fin 8192) (b : Fin 1) : val_main_v9 (F := Ideal) H (ix2 i b) = inv fun k => H (ix2 i k) := by
  rw [val_main_v9_apply]
  exact congrArg Ideal.rsqrt (ref_mean_at H i b)

/-- The reference's gradient of the gain. -/
theorem ref_gain_at (l : Fin 1024) :
    val_main_v25 (F := Ideal) X U H (ix1 l) = ∑ i : Fin 8192, val_main_v19 (F := Ideal) X U (ix2 i l) * (H (ix2 i l) * inv fun k => H (ix2 i k)) := by
  unfold val_main_v25 val_main_v22 val_main_v21 val_main_v20 val_main_v14 val_main_v13
  have e := fun i => ref_root_at H i 0
  generalize val_main_v9 (F := Ideal) H = r at e ⊢
  generalize val_main_v19 (F := Ideal) X U = D
  pointwise [val_main_cst_3, val_main_cst_4]
  simp only [e, Fin.sum_univ_one]
  exact Finset.sum_congr rfl fun i _ => mul_comm _ _

/-- The reference's gradient at an element. -/
theorem ref_grad_at (i : Fin 8192) (l : Fin 1024) :
    val_main_v40 (F := Ideal) X U H R G (ix2 i l)
      = refElt (fun k => val_main_v19 (F := Ideal) X U (ix2 i k)) (fun k => H (ix2 i k)) (fun k => G (ix1 k)) (R (ix2 i l)) l := by
  unfold val_main_v40 val_main_v39 val_main_v38 val_main_v37 val_main_v36 val_main_v35 val_main_v34 val_main_v33 val_main_v32 val_main_v31 val_main_v30 val_main_v29 val_main_v28 val_main_v27 val_main_v26 val_main_v24 val_main_v23 val_main_v15 val_main_v12 val_main_v11 val_main_v10
  generalize val_main_v19 (F := Ideal) X U = D
  unfold refElt rootSlope
  have e := fun i => ref_root_at H i 0
  have f := fun i => ref_mean_at H i 0
  generalize val_main_v9 (F := Ideal) H = r at e ⊢
  generalize val_main_v8 (F := Ideal) H = M at f ⊢
  pointwise [val_main_cst_2, val_main_cst_5, val_main_cst_6, val_main_cst_7]
  simp only [Fin.sum_univ_one, e, f]

end Ref

end Cert.Du3Ideal.Walk

end
-- ==== Proof.Du3Value.lean ====
module

public import proofs.«01_k».proof.Defs
public import proofs.«01_k».proof.Proof.Du3Read
public import proofs.«01_k».proof.Proof.Gen.Du3Ideal.Frame
public import proofs.«01_k».proof.Proof.Gen.Du3RefIdeal.Run
public import proofs.«01_k».proof.Proof.Gen.Pre_du3_finite

@[expose] public section

set_option maxRecDepth 65536

noncomputable section

/-!
# The gradient through the layer's last norm

The kernel multiplies the incoming gradient by the transposed gate's weight, and takes the product through the normalisation, 512 rows at a time. Each point of the grid writes its rows of the gradient, and its share of the gain's gradient; the host
adds the 16 shares. The rows are the reference's because every element depends on its own row alone; the shares add up to the reference's sum
over all the rows because the rows are the 16 groups of 512, one after another.
-/

namespace Cert.Du3Ideal.Walk

open Cert.Du3Ideal Cert.Du3Ideal.Gen
open Idealize.ShloMosaic Idealize.ShloMosaic.TcCoe Idealize.SL.Sem
open Idealize.ShloMosaic.Pipeline (Dat)
open Cert.Du3RefIdeal.Read (val_main_v40 val_main_v25 val_main_v19)
open Cert.NormReal

/-- The offsets of a whole block. -/
theorem zeros : (![0, 0] : Fin 2 → Nat) = fun _ => 0 := funext fun a => by fin_cases a <;> rfl
theorem zeros3 : (![0, 0, 0] : Fin 3 → Nat) = fun _ => 0 := funext fun a => by fin_cases a <;> rfl

/-- Every argument is a family of real numbers. -/
structure Finite (X : FVec Ideal S8192x1024 .bf16) (U : FVec Ideal S1024x1024 .bf16) (H : FVec Ideal S8192x1024 .f32) (R : FVec Ideal S8192x1024 .f32) (G : FVec Ideal S1024 .f32) : Prop where
  x : ∀ i, (X i : EReal) = ((EReal.toReal (X i) : ℝ) : EReal)
  u : ∀ i, (U i : EReal) = ((EReal.toReal (U i) : ℝ) : EReal)
  h : ∀ i, (H i : EReal) = ((EReal.toReal (H i) : ℝ) : EReal)
  r : ∀ i, (R i : EReal) = ((EReal.toReal (R i) : ℝ) : EReal)
  g : ∀ i, (G i : EReal) = ((EReal.toReal (G i) : ℝ) : EReal)

section Rows

variable {X : FVec Ideal S8192x1024 .bf16} {U : FVec Ideal S1024x1024 .bf16} {H : FVec Ideal S8192x1024 .f32} {R : FVec Ideal S8192x1024 .f32} {G : FVec Ideal S1024 .f32}

/-- The stated precondition says this. -/
theorem finite_of_pre (h : (Cert.Pre_du3_finite.fn (F := Ideal) X U H R G).1 = (fun _ => 1#1)
      ∧ (Cert.Pre_du3_finite.fn (F := Ideal) X U H R G).2.1 = (fun _ => 1#1)
      ∧ (Cert.Pre_du3_finite.fn (F := Ideal) X U H R G).2.2.1 = (fun _ => 1#1)
      ∧ (Cert.Pre_du3_finite.fn (F := Ideal) X U H R G).2.2.2.1 = (fun _ => 1#1)
      ∧ (Cert.Pre_du3_finite.fn (F := Ideal) X U H R G).2.2.2.2 = (fun _ => 1#1)) : Finite X U H R G :=
  ⟨fun i => Reals.real_of_abs_lt (congrFun h.1 i), fun i => Reals.real_of_abs_lt (congrFun h.2.1 i), fun i => Reals.real_of_abs_lt (congrFun h.2.2.1 i), fun i => Reals.real_of_abs_lt (congrFun h.2.2.2.1 i), fun i => Reals.real_of_abs_lt (congrFun h.2.2.2.2 i)⟩

/-- The reference's product at an element is a real number. -/
theorem prod_real (hf : Finite X U H R G) (i : Fin 8192) (l : Fin 1024) :
    ∃ D : ℝ, val_main_v19 (F := Ideal) X U (ix2 i l) = (D : EReal) := by
  refine ⟨
    ∑ k : Fin 1024, EReal.toReal (X (ix2 i k)) * EReal.toReal (U (ix2 l k)), ?_⟩
  rw [ref_prod_at, Reals.coe_sum]
  exact Finset.sum_congr rfl fun k _ => by rw [EReal.coe_mul, ← hf.x, ← hf.u]

/-- So the two forms of the gradient agree at an element. -/
theorem forms (hf : Finite X U H R G) (i : Fin 8192) (l : Fin 1024) :
    kernelElt (fun k => val_main_v19 (F := Ideal) X U (ix2 i k)) (fun k => H (ix2 i k)) (fun k => G (ix1 k)) (R (ix2 i l)) l
      = refElt (fun k => val_main_v19 (F := Ideal) X U (ix2 i k)) (fun k => H (ix2 i k)) (fun k => G (ix1 k)) (R (ix2 i l)) l := by
  choose D hD using fun k => prod_real hf i k
  have hH : (fun k => (H (ix2 i k) : EReal)) = fun k => ((EReal.toReal (H (ix2 i k)) : ℝ) : EReal) := funext fun k => hf.h _
  have hG : (fun k => (G (ix1 k) : EReal)) = fun k => ((EReal.toReal (G (ix1 k)) : ℝ) : EReal) := funext fun k => hf.g _
  rw [show (fun k => val_main_v19 (F := Ideal) X U (ix2 i k)) = fun k => ((D k : ℝ) : EReal) from funext hD, hH, hG, hf.r (ix2 i l)]
  exact elt_eq D _ _ _ l

end Rows

/-- The sum over the rows is the sum over the groups of the sums over their rows. -/
theorem groups (f : Fin 8192 → EReal) : ∑ p : Fin 16, ∑ a : Fin 512, f ⟨512 * p.val + a.val, by omega⟩ = ∑ i : Fin 8192, f i := by
  rw [← Fintype.sum_prod_type']
  refine Fintype.sum_equiv (finProdFinEquiv (m := 16) (n := 512)) _ (fun i : Fin 8192 => f i) fun q => congrArg f (Fin.ext ?_)
  show 512 * q.1.val + q.2.val = q.2.val + 512 * q.1.val
  omega

variable (m : (ℓ : Loc nD τ sig) → Buf (Elt Ideal) ℓ) (c : Dev nD)

/-- The arguments on a device. -/
abbrev aX : FVec Ideal S8192x1024 .bf16 := m ((c : Thread nD τ).loc main_arg0)
abbrev aU : FVec Ideal S1024x1024 .bf16 := m ((c : Thread nD τ).loc main_arg1)
abbrev aH : FVec Ideal S8192x1024 .f32 := m ((c : Thread nD τ).loc main_arg2)
abbrev aR : FVec Ideal S8192x1024 .f32 := m ((c : Thread nD τ).loc main_arg3)
abbrev aG : FVec Ideal S1024 .f32 := m ((c : Thread nD τ).loc main_arg4)

/-- The blocks that the windows take at a point. -/
theorem maps : ∀ t : Fin cfg0.N, t.val < 16
    ∧ (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0 ∧ win0_6.index t 2 = 0) :=
  (by decide +kernel : ∀ t : Fin grid0.N, t.val < 16 ∧ (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0 ∧ win0_6.index t 2 = 0))

/-- Where a row of a point's group lies. -/
abbrev row (t : Fin cfg0.N) (a : Fin 512) : Fin 8192 := ⟨512 * t.val + a.val, by have := (maps t).1; omega⟩

theorem read0 (t : Fin cfg0.N) (a : Fin 512) (k : Fin 1024) : (iblk m c 0 t : Vec Ideal S512x1024 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 512 + 1 * a.val = 512 * t.val + a.val; rw [(maps t).2.1.1]; omega
  | ⟨1, _⟩ => show win0_0.index t 1 * 1024 + 1 * k.val = k.val; rw [(maps t).2.1.2]; omega

theorem read1 (t : Fin cfg0.N) (a : Fin 1024) (k : Fin 1024) : (iblk m c 1 t : Vec Ideal S1024x1024 .bf16) (ix2 a k) = aU m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1024 + 1 * a.val = a.val; rw [(maps t).2.2.1.1]; omega
  | ⟨1, _⟩ => show win0_1.index t 1 * 1024 + 1 * k.val = k.val; rw [(maps t).2.2.1.2]; omega

theorem read2 (t : Fin cfg0.N) (a : Fin 512) (k : Fin 1024) : (iblk m c 2 t : Vec Ideal S512x1024 .f32) (ix2 a k) = aH m c (ix2 (row t a) k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 512 + 1 * a.val = 512 * t.val + a.val; rw [(maps t).2.2.2.1.1]; omega
  | ⟨1, _⟩ => show win0_2.index t 1 * 1024 + 1 * k.val = k.val; rw [(maps t).2.2.2.1.2]; omega

theorem read3 (t : Fin cfg0.N) (a : Fin 512) (k : Fin 1024) : (iblk m c 3 t : Vec Ideal S512x1024 .f32) (ix2 a k) = aR m c (ix2 (row t a) k) := by
  unfold iblk
  rw [View.read_apply]
  show V m c main_arg3 _ = _
  rw [V_main_arg3]
  show m (c.tc.loc main_arg3) _ = m (c.tc.loc main_arg3) _
  congr 1
  funext b
  apply Fin.ext
  match b with
  | ⟨0, _⟩ => show win0_3.index t 0 * 512 + 1 * a.val = 512 * t.val + a.val; rw [(maps t).2.2.2.2.1.1]; omega
  | ⟨1, _⟩ => show win0_3.index t 1 * 1024 + 1 * k.val = k.val; rw [(maps t).2.2.2.2.1.2]; omega

/-- The gain as the host lays it out. -/
theorem V_gain : V m c main_v0 = (broadcastInDim S1x1024 ![1] bcast_S1024_S1x1024_1 (aG m c) : FVec Ideal S1x1024 .f32) := by
  unfold_abbrev_sides
  simp only [List.flatten_cons, List.flatten_nil, List.append_nil]
  after_results_simp

theorem read4 (t : Fin cfg0.N) (k : Fin 1024) : (iblk m c 4 t : Vec Ideal S1x1024 .f32) (ix2 0 k) = aG m c (ix1 k) := by
  unfold iblk
  rw [View.read_apply]
  show V m c main_v0 _ = _
  rw [V_gain]
  have e : (((cfg0.win 4).blk t).view.emb (ix2 0 k : S1x1024.Idx) : S1x1024.Idx) = ix2 0 k := by
    funext b
    apply Fin.ext
    match b with
    | ⟨0, _⟩ => show win0_4.index t 0 * 1 + 1 * 0 = 0; rw [(maps t).2.2.2.2.2.1.1]
    | ⟨1, _⟩ => show win0_4.index t 1 * 1024 + 1 * k.val = k.val; rw [(maps t).2.2.2.2.2.1.2]; omega
  show (broadcastInDim S1x1024 ![1] bcast_S1024_S1x1024_1 (aG m c) : FVec Ideal S1x1024 .f32) (((cfg0.win 4).blk t).view.emb (ix2 0 k : S1x1024.Idx) : S1x1024.Idx) = _
  rw [e]
  pointwise

/-- The tile's product is the reference's, at the tile's rows. -/
theorem prod_eq (t : Fin cfg0.N) (a : Fin 512) (l : Fin 1024) :
    k0_pay2 (F := Ideal) (iblk m c 0 t) (iblk m c 1 t) (ix2 a l) = val_main_v19 (F := Ideal) (aX m c) (aU m c) (ix2 (row t a) l) := by
  rw [prod_at, ref_prod_at]
  exact Finset.sum_congr rfl fun k _ => by rw [read0, read1]

/-- Each point writes its rows of the reference's gradient. -/
theorem flushed_grad (hf : Finite (aX m c) (aU m c) (aH m c) (aR m c) (aG m c)) (t : Fin cfg0.N) :
    (dats m 0 c).flushed 5 t = ((cfg0.win 5).blk t).view.read (Elt Ideal) (val_main_v40 (F := Ideal) (aX m c) (aU m c) (aH m c) (aR m c) (aG m c)) := by
  show (cfg0.win 5).cut (grid0.coords t) ((dats m 0 c).after 5 t) = _
  rw [after0_5]
  funext j
  rw [View.read_apply]
  obtain ⟨a, l, rfl⟩ : ∃ (a : Fin 512) (l : Fin 1024), j = (ix2 a l : S512x1024.Idx) := ⟨j 0, j 1, ValueIdx.eq_ix2 j⟩
  have e : (((cfg0.win 5).blk t).view.emb (ix2 a l : S512x1024.Idx) : S8192x1024.Idx) = ix2 (row t a) l := by
    funext b
    apply Fin.ext
    match b with
    | ⟨0, _⟩ => show win0_5.index t 0 * 512 + 1 * a.val = 512 * t.val + a.val; rw [(maps t).2.2.2.2.2.2.1.1]; omega
    | ⟨1, _⟩ => show win0_5.index t 1 * 1024 + 1 * l.val = l.val; rw [(maps t).2.2.2.2.2.2.1.2]; omega
  rw [e]
  show out0_5 (F := Ideal) (iblk m c 0 t) (iblk m c 1 t) (iblk m c 2 t) (iblk m c 3 t) (iblk m c 4 t) (ix2 a l) = _
  unfold out0_5
  rw [View.canon_unit_zero zeros]
  simp only [View.ld_unit_zero (S := S1024x1024) zeros, View.ld_unit_zero (S := S512x1024) zeros, View.ld_unit_zero (S := S1x1024) zeros]
  refine (grad_at (iblk m c 0 t) (iblk m c 1 t) (iblk m c 2 t) (iblk m c 3 t) (iblk m c 4 t) a l).trans (Eq.trans ?_ ((forms hf (row t a) l).trans (ref_grad_at (aX m c) (aU m c) (aH m c) (aR m c) (aG m c) (row t a) l).symm))
  simp only [prod_eq, read2, read3, read4]

/-- The shares of the gain's gradient. -/
def shares : FVec Ideal S16x1x1024 .f32 := fun i =>
  ∑ a : Fin 512, val_main_v19 (F := Ideal) (aX m c) (aU m c) (ix2 (⟨512 * (i 0).val + a.val, by have h : (i 0).val < 16 := (i 0).isLt; omega⟩ : Fin 8192) (i 2))
    * (aH m c (ix2 (⟨512 * (i 0).val + a.val, by have h : (i 0).val < 16 := (i 0).isLt; omega⟩ : Fin 8192) (i 2)) * inv fun k => aH m c (ix2 (⟨512 * (i 0).val + a.val, by have h : (i 0).val < 16 := (i 0).isLt; omega⟩ : Fin 8192) k))

/-- Each point writes its share. -/
theorem flushed_share (t : Fin cfg0.N) : (dats m 0 c).flushed 6 t = ((cfg0.win 6).blk t).view.read (Elt Ideal) (shares m c) := by
  show (cfg0.win 6).cut (grid0.coords t) ((dats m 0 c).after 6 t) = _
  rw [after0_6]
  funext j
  rw [View.read_apply]
  obtain ⟨z, z', l, rfl⟩ : ∃ (z z' : Fin 1) (l : Fin 1024), j = (ix3 z z' l : S1x1x1024.Idx) := ⟨j 0, j 1, j 2, ValueIdx.eq_ix3 j⟩
  obtain rfl : z = 0 := Subsingleton.elim _ _
  obtain rfl : z' = 0 := Subsingleton.elim _ _
  have e : (((cfg0.win 6).blk t).view.emb (ix3 0 0 l : S1x1x1024.Idx) : S16x1x1024.Idx) = ix3 (⟨t.val, (maps t).1⟩ : Fin 16) 0 l := by
    funext b
    apply Fin.ext
    match b with
    | ⟨0, _⟩ => show win0_6.index t 0 * 1 + 1 * 0 = t.val; rw [(maps t).2.2.2.2.2.2.2.1]; omega
    | ⟨1, _⟩ => show win0_6.index t 1 * 1 + 1 * 0 = 0; rw [(maps t).2.2.2.2.2.2.2.2.1]
    | ⟨2, _⟩ => show win0_6.index t 2 * 1024 + 1 * l.val = l.val; rw [(maps t).2.2.2.2.2.2.2.2.2]; omega
  rw [e]
  show out0_6 (F := Ideal) (iblk m c 0 t) (iblk m c 1 t) (iblk m c 2 t) (iblk m c 3 t) (iblk m c 4 t) (ix3 0 0 l) = _
  unfold out0_6
  rw [View.canon_unit_zero zeros3]
  simp only [View.ld_unit_zero (S := S1024x1024) zeros, View.ld_unit_zero (S := S512x1024) zeros]
  refine (gain_at (iblk m c 0 t) (iblk m c 1 t) (iblk m c 2 t) l).trans ?_
  simp only [prod_eq, read2]
  rfl

/-- The gradient is the reference's. -/
theorem final_grad (hf : Finite (aX m c) (aU m c) (aH m c) (aR m c) (aG m c)) : (dats m 0 c).arrAt 5 cfg0.N = val_main_v40 (F := Ideal) (aX m c) (aU m c) (aH m c) (aR m c) (aG m c) :=
  (dats m 0 c).arrAt_eq_of_cover 5 _ (fun t _ => flushed_grad m c hf t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega : (i 0 : Nat) / 512 < 16) N_0.symm⟩, rfl⟩
    refine ⟨t, flush0_5 _, ?_⟩
    show i ∈ ((View.whole main_v1_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(maps t).2.2.2.2.2.2.1.1]; omega
    | ⟨1, _⟩ => show win0_5.index t 1 * 1024 ≤ (i 1 : Nat) ∧ (i 1 : Nat) < win0_5.index t 1 * 1024 + 1024; rw [(maps t).2.2.2.2.2.2.1.2]; omega

/-- The shares are all written. -/
theorem final_share : (dats m 0 c).arrAt 6 cfg0.N = shares m c :=
  (dats m 0 c).arrAt_eq_of_cover 6 _ (fun t _ => flushed_share m c t) fun i => by
    have h0 : (i 0 : Nat) < 16 := (i 0).isLt
    have h1 : (i 1 : Nat) < 1 := (i 1).isLt
    have h2 : (i 2 : Nat) < 1024 := (i 2).isLt
    obtain ⟨t, ht⟩ : ∃ t : Fin cfg0.N, t.val = (i 0 : Nat) := ⟨⟨(i 0 : Nat), lt_of_lt_of_eq h0 N_0.symm⟩, rfl⟩
    refine ⟨t, flush0_6 _, ?_⟩
    show i ∈ ((View.whole main_v1_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [(maps t).2.2.2.2.2.2.2.1]; omega
    | ⟨1, _⟩ => show win0_6.index t 1 * 1 ≤ (i 1 : Nat) ∧ (i 1 : Nat) < win0_6.index t 1 * 1 + 1; rw [(maps t).2.2.2.2.2.2.2.2.1]; omega
    | ⟨2, _⟩ => show win0_6.index t 2 * 1024 ≤ (i 2 : Nat) ∧ (i 2 : Nat) < win0_6.index t 2 * 1024 + 1024; rw [(maps t).2.2.2.2.2.2.2.2.2]; omega

/-- The shares added. -/
def added (y : FVec Ideal S16x1x1024 .f32) : FVec Ideal S1024 .f32 := Host.reduceAdd y (constant S_ .f32 0x00000000#32 : FVec Ideal S_ .f32) reducesTo_S16x1x1024_S1024_d0_1 h_S_

theorem added_at (y : FVec Ideal S16x1x1024 .f32) (l : Fin 1024) : added y (ix1 l) = ∑ p : Fin 16, y (ix3 p 0 l) := by
  pointwise [added]
  unfold Ideal.hostReduceAdd
  rw [zero_add]
  refine Finset.sum_filter_eq_sum_of_fiber _ (fun p : Fin 16 => (ix3 p 0 l : S16x1x1024.Idx)) (fun _ _ e => congrFun e 0) (fun i => ⟨fun e => ⟨i 0, ?_⟩, ?_⟩) y
  · funext b
    apply Fin.ext
    match b with
    | ⟨0, _⟩ => rfl
    | ⟨1, _⟩ => show 0 = (i 1 : Nat); have h : (i 1 : Nat) < 1 := (i 1).isLt; omega
    | ⟨2, _⟩ => exact (congrArg Fin.val (congrFun e 0)).symm
  · rintro ⟨p, rfl⟩
    funext b
    apply Fin.ext
    match b with
    | ⟨0, _⟩ => rfl

/-- What the host's last lines make of the shares. -/
theorem tail_gain : Pipeline.afterTail₀ cfgs (dats m) 0 (V0 m) [hostOps1] c main_v2 = added (shares m c) := by
  have e : Pipeline.withArrays (cfgs 0).spec c (V0 m c) (fun w => (dats m 0 c).arrAt w (cfgs 0).N) (Proc.devRef .tc main_v1_1) = shares m c :=
    (Pipeline.withArrays_arr (cfgs 0).spec winFacts0.arr_inj c (V0 m c) _ 6).trans (final_share m c)
  unfold Pipeline.afterTail₀
  generalize Pipeline.withArrays (cfgs 0).spec c (V0 m c) (fun w => (dats m 0 c).arrAt w (cfgs 0).N) = W at e
  simp only [List.flatten_cons, List.flatten_nil, List.append_nil]
  after_results_simp
  rw [e]
  rfl

/-- The added shares are the reference's gradient of the gain. -/
theorem gain : added (shares m c) = val_main_v25 (F := Ideal) (aX m c) (aU m c) (aH m c) := by
  funext i
  obtain ⟨l, rfl⟩ : ∃ l : Fin 1024, i = (ix1 l : S1024.Idx) := ⟨i 0, ValueIdx.eq_ix1 i⟩
  rw [added_at, ref_gain_at]
  exact groups fun i => val_main_v19 (F := Ideal) (aX m c) (aU m c) (ix2 i l) * (aH m c (ix2 i l) * inv fun k => aH m c (ix2 i k))

/-- The two programs agree: the kernel's two results are the reference's. -/
theorem agree : Cert.algebraic_Du3Ideal_Du3RefIdeal_pre_du3_finite := by
  intro m g m' g' hpre hargs
  refine ⟨fun c => val_main_v40 (F := Ideal) (aX m c) (aU m c) (aH m c) (aR m c) (aG m c), fun c => val_main_v25 (F := Ideal) (aX m c) (aU m c) (aH m c), ?_, ?_⟩
  · refine (θ_run defs _ _).mono (fun r h c => ?_) (θ_run_and (run_main m g) (unchanged m g))
    obtain ⟨h, k⟩ := h
    obtain ⟨k0, k1, k2, k3, k4⟩ := k c
    exact ⟨((h c).1 5).trans (final_grad m c (finite_of_pre (hpre c))),
      ((h c).2 main_v2 (Pipeline.mem_restRefs_of main_v2 (by decide) (by decide))).trans ((tail_gain m c).trans (gain m c)), k0, k1, k2, k3, k4⟩
  · refine (θ_run Cert.Du3RefIdeal.defs _ _).mono (fun r h c => ?_) (Cert.Du3RefIdeal.Value.run m' g')
    obtain ⟨h0, h1, k0, k1, k2, k3, k4⟩ := h c
    obtain ⟨a0, a1, a2, a3, a4⟩ := hargs c
    refine ⟨h0.trans ((Cert.Du3RefIdeal.Read.val_main_v40_eq m' c).trans ?_), h1.trans ((Cert.Du3RefIdeal.Read.val_main_v25_eq _ _ _).trans ?_), k0, k1, k2, k3, k4⟩
    · rw [a0, a1, a2, a3, a4]
    · rw [a0, a1, a2]

end Cert.Du3Ideal.Walk

end
-- ==== Proof.DycatValue.lean ====
module

public import proofs.«01_k».proof.Defs
public import proofs.«01_k».proof.Proof.Gen.DycatIdeal.Value
public import proofs.«01_k».proof.Proof.Gen.DycatRefIdeal.Run
public import proofs.«01_k».proof.Proof.Gen.DycatRefIdeal.Read
public import Idealize.ShloMosaic.Lib.Pipeline.ValueKit

@[expose] public section

set_option maxRecDepth 65536

noncomputable section

/-!
# The gradient of the mixer's joined results

The kernel multiplies 1024 rows of the incoming gradient at a time by the transposed weight; the reference multiplies all the rows.
-/

namespace Cert.DycatIdeal.Walk

open Cert.DycatIdeal Cert.DycatIdeal.Gen
open Idealize.ShloMosaic Idealize.ShloMosaic.TcCoe Idealize.SL.Sem
open Idealize.ShloMosaic.Pipeline (Dat)
open Cert.DycatRefIdeal.Read (val_main_v3)

/-- The tile's product at an element. -/
theorem prod_at (x : Vec Ideal S1024x1024 .f32) (y : Vec Ideal S1024x1024 .bf16) (a b : Fin 1024) :
    k0_pay1 x y (ix2 a b) = ∑ k : Fin 1024, (x (ix2 a k) : EReal) * (y (ix2 b k) : EReal) := by
  pointwise [k0_pay1]

/-- The reference at an element. -/
theorem ref_at (A : FVec Ideal S8192x1024 .f32) (B : FVec Ideal S1024x1024 .bf16) (i : Fin 8192) (j : Fin 1024) :
    val_main_v3 (F := Ideal) A B (ix2 i j) = ∑ k : Fin 1024, (A (ix2 i k) : EReal) * (B (ix2 j k) : EReal) := by
  rw [Cert.DycatRefIdeal.Read.val_main_v3_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x1024 .f32 := m ((c : Thread nD τ).loc main_arg0)
abbrev aY : FVec Ideal S1024x1024 .bf16 := m ((c : Thread nD τ).loc main_arg1)

/-- The blocks that the windows take at a point. -/
theorem maps : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (cfg0.win 2).flush t = true :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0) ∧ (cfg0.win 2).flush t = true)

/-- Where a row of a point's group lies. -/
abbrev row (t : Fin cfg0.N) (a : Fin 1024) : Fin 8192 := ⟨1024 * t.val + a.val, by have := lt_of_lt_of_eq t.isLt N_0; omega⟩

theorem read0 (t : Fin cfg0.N) (a k : Fin 1024) : (iblk m c 0 t : Vec Ideal S1024x1024 .f32) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 1024 + 1 * a.val = 1024 * t.val + a.val; rw [(maps t).1.1]; omega
  | ⟨1, _⟩ => show win0_0.index t 1 * 1024 + 1 * k.val = k.val; rw [(maps t).1.2]; omega

theorem read1 (t : Fin cfg0.N) (a k : Fin 1024) : (iblk m c 1 t : Vec Ideal S1024x1024 .bf16) (ix2 a k) = aY m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1024 + 1 * a.val = a.val; rw [(maps t).2.1.1]; omega
  | ⟨1, _⟩ => show win0_1.index t 1 * 1024 + 1 * k.val = k.val; rw [(maps t).2.1.2]; omega

/-- The block written out is the reference's block. -/
theorem block (t : Fin cfg0.N) (a b : Fin 1024) :
    (((dats m 0 c).after 2 t : Vec Ideal S1024x1024 .f32) (ix2 a b) : EReal) = val_main_v3 (F := Ideal) (aX m c) (aY m c) (ix2 (row t a) b) := by
  rw [after0_2]
  frame_out
  rw [ref_at]
  refine (prod_at _ _ a b).trans ?_
  exact Finset.sum_congr rfl fun k _ => congrArg₂ (fun x y : EReal => x * y) (read0 m c t a k) (read1 m c t b k)

/-- So every point leaves its block of the reference. -/
theorem flushed_block (t : Fin cfg0.N) : (dats m 0 c).flushed 2 t = ((cfg0.win 2).blk t).view.read (Elt Ideal) (val_main_v3 (F := Ideal) (aX m c) (aY m c)) := by
  refine Eq.trans (b := ((dats m 0 c).after 2 t : FVec Ideal S1024x1024 .f32)) ?_ ?_
  · show (cfg0.win 2).cut (grid0.coords t) ((dats m 0 c).after 2 t) = _
    rfl
  · funext i
    obtain ⟨a, b, rfl⟩ : ∃ (a b : Fin 1024), i = (ix2 a b : S1024x1024.Idx) := ⟨i 0, i 1, ValueIdx.eq_ix2 i⟩
    rw [View.read_apply]
    refine (block m c t a b).trans (congrArg (val_main_v3 (F := Ideal) (aX m c) (aY m c)) ?_)
    funext d
    apply Fin.ext
    match d with
    | ⟨0, _⟩ => show 1024 * t.val + a.val = win0_2.index t 0 * 1024 + 1 * a.val; rw [(maps t).2.2.1.1]; omega
    | ⟨1, _⟩ => show b.val = win0_2.index t 1 * 1024 + 1 * b.val; rw [(maps t).2.2.1.2]; omega

/-- The gradient is all written. -/
theorem final : (dats m 0 c).arrAt 2 cfg0.N = val_main_v3 (F := Ideal) (aX m c) (aY m c) :=
  (dats m 0 c).arrAt_eq_of_cover 2 _ (fun t _ => flushed_block m c t) fun i => by
    have h0 : (i 0 : Nat) < 8192 := (i 0).isLt
    have h1 : (i 1 : Nat) < 1024 := (i 1).isLt
    obtain ⟨t, ht⟩ : ∃ t : Fin cfg0.N, t.val = (i 0 : Nat) / 1024 := ⟨⟨(i 0 : Nat) / 1024, lt_of_lt_of_eq (by omega) N_0.symm⟩, rfl⟩
    refine ⟨t, (maps t).2.2.2, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [(maps t).2.2.1.1]; omega
    | ⟨1, _⟩ => show win0_2.index t 1 * 1024 ≤ (i 1 : Nat) ∧ (i 1 : Nat) < win0_2.index t 1 * 1024 + 1024; rw [(maps t).2.2.1.2]; omega

/-- The two programs agree. -/
theorem agree : Cert.algebraic_DycatIdeal_DycatRefIdeal := by
  intro m g m' g' _ hargs
  refine ⟨fun c => val_main_v3 (F := Ideal) (aX m c) (aY m c), ?_, ?_⟩
  · refine (θ_run defs _ _).mono (fun r h c => ?_) (Cert.DycatIdeal.Value.run_blocks m g)
    exact ⟨(h c).1.trans (final m c), (h c).2⟩
  · refine (θ_run Cert.DycatRefIdeal.defs _ _).mono (fun r h c => ?_) (Cert.DycatRefIdeal.Value.run m' g')
    obtain ⟨a0, a1⟩ := hargs c
    refine ⟨(h c).1.trans ((Cert.DycatRefIdeal.Read.val_main_v3_eq _ _).trans ?_), (h c).2⟩
    rw [a0, a1]

end Cert.DycatIdeal.Walk

end
-- ==== Proof.GuValue.lean ====
module

public import proofs.«01_k».proof.Defs
public import proofs.«01_k».proof.Proof.Gen.GuIdeal.Value
public import proofs.«01_k».proof.Proof.Gen.GuRefIdeal.Run
public import proofs.«01_k».proof.Proof.Gen.GuRefIdeal.Read
public import Idealize.ShloMosaic.Lib.Pipeline.ValueKit
public import proofs.«01_k».proof.Proof.Reals

@[expose] public section

set_option maxRecDepth 65536

noncomputable section

/-!
# The gated activations of the feed-forward

The kernel multiplies 512 rows at a time by 1408 rows of two weights, turned, and writes the gate, the other product, and their gated
product; the reference does so to the whole arrays.
-/

namespace Cert.GuIdeal.Walk

open Cert.GuIdeal Cert.GuIdeal.Gen
open Idealize.ShloMosaic Idealize.ShloMosaic.TcCoe Idealize.SL.Sem
open Idealize.ShloMosaic.Pipeline (Dat)
open Cert.GuRefIdeal.Read (val_main_v7 val_main_v8 val_main_v11)

/-- The number a gate lets through: the gate times its logistic function, times the other number. -/
def gated (g u : EReal) : EReal := g * Ideal.logistic g * u

/-- A row of the activations times a row of a weight. -/
def dots (x y : Fin 1024 → EReal) : EReal := ∑ k, x k * y k

/-- The tile's gate at an element. -/
theorem gate_at (x : Vec Ideal S512x1024 .bf16) (y : Vec Ideal S1408x1024 .bf16) (a : Fin 512) (b : Fin 1408) :
    k0_pay1 x y (ix2 a b) = dots (fun k => x (ix2 a k)) fun k => y (ix2 b k) := by
  unfold dots
  pointwise [k0_pay1]

/-- The tile's other product at an element. -/
theorem up_at (x : Vec Ideal S512x1024 .bf16) (y : Vec Ideal S1408x1024 .bf16) (a : Fin 512) (b : Fin 1408) :
    k0_pay2 x y (ix2 a b) = dots (fun k => x (ix2 a k)) fun k => y (ix2 b k) := by
  unfold dots
  pointwise [k0_pay2]

/-- The tile's gated product at an element. -/
theorem act_at (x : Vec Ideal S512x1024 .bf16) (y : Vec Ideal S1408x1024 .bf16) (x' : Vec Ideal S512x1024 .bf16) (z : Vec Ideal S1408x1024 .bf16) (i : S512x1408.Idx) :
    (k0_pay5 x y x' z i : EReal) = gated (k0_pay1 x y i) (k0_pay2 x' z i) := rfl

/-- The reference's gate at an element. -/
theorem ref_gate_at (A : FVec Ideal S8192x1024 .bf16) (B : FVec Ideal S2816x1024 .bf16) (i : Fin 8192) (j : Fin 2816) :
    Cert.GuRefIdeal.Read.val_main_v4 (F := Ideal) A B (ix2 i j) = dots (fun k => A (ix2 i k)) fun k => B (ix2 j k) := by
  rw [Cert.GuRefIdeal.Read.val_main_v4_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

/-- The reference's other product at an element. -/
theorem ref_up_at (A : FVec Ideal S8192x1024 .bf16) (B : FVec Ideal S2816x1024 .bf16) (i : Fin 8192) (j : Fin 2816) :
    Cert.GuRefIdeal.Read.val_main_v6 (F := Ideal) A B (ix2 i j) = dots (fun k => A (ix2 i k)) fun k => B (ix2 j k) := by
  rw [Cert.GuRefIdeal.Read.val_main_v6_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

/-- The reference's gated product at an element. -/
theorem ref_act_at (A : FVec Ideal S8192x1024 .bf16) (B C : FVec Ideal S2816x1024 .bf16) (i : S8192x2816.Idx) :
    (val_main_v11 (F := Ideal) A B C i : EReal) = gated (Cert.GuRefIdeal.Read.val_main_v4 (F := Ideal) A B i) (Cert.GuRefIdeal.Read.val_main_v6 (F := Ideal) A C i) := by
  have one : Ideal.ofBits .f32 0x3F800000#32 = 1 := Ideal.ofBits_one_f32
  unfold gated Ideal.logistic
  rw [← one]
  rfl

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S2816x1024 .bf16 := m ((c : Thread nD τ).loc main_arg1)
abbrev aZ : FVec Ideal S2816x1024 .bf16 := m ((c : Thread nD τ).loc main_arg2)

/-- Where the rows of a point's group lie. -/
abbrev row (t : Fin cfg0.N) (a : Fin 512) : Fin 8192 := ⟨512 * (t.val % 16) + a.val, by have := lt_of_lt_of_eq t.isLt N_0; omega⟩

/-- Where the columns of a point's group lie. -/
abbrev col (t : Fin cfg0.N) (a : Fin 1408) : Fin 2816 := ⟨1408 * (t.val / 16) + a.val, by have := lt_of_lt_of_eq t.isLt N_0; omega⟩

theorem map0 : ∀ t : Fin cfg0.N, win0_0.index t 0 = t.val % 16 ∧ win0_0.index t 1 = 0 :=
  (by decide +kernel : ∀ t : Fin grid0.N, win0_0.index t 0 = t.val % 16 ∧ win0_0.index t 1 = 0)

theorem read0 (t : Fin cfg0.N) (a : Fin 512) (k : Fin 1024) : (iblk m c 0 t : Vec Ideal S512x1024 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 512 + 1 * a.val = 512 * (t.val % 16) + a.val; rw [(map0 t).1]; omega
  | ⟨1, _⟩ => show win0_0.index t 1 * 1024 + 1 * k.val = k.val; rw [(map0 t).2]; omega

theorem map1 : ∀ t : Fin cfg0.N, win0_1.index t 0 = t.val / 16 ∧ win0_1.index t 1 = 0 :=
  (by decide +kernel : ∀ t : Fin grid0.N, win0_1.index t 0 = t.val / 16 ∧ win0_1.index t 1 = 0)

theorem read1 (t : Fin cfg0.N) (a : Fin 1408) (k : Fin 1024) : (iblk m c 1 t : Vec Ideal S1408x1024 .bf16) (ix2 a k) = aY m c (ix2 (col t a) k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1408 + 1 * a.val = 1408 * (t.val / 16) + a.val; rw [(map1 t).1]; omega
  | ⟨1, _⟩ => show win0_1.index t 1 * 1024 + 1 * k.val = k.val; rw [(map1 t).2]; omega

theorem map2 : ∀ t : Fin cfg0.N, win0_2.index t 0 = t.val / 16 ∧ win0_2.index t 1 = 0 :=
  (by decide +kernel : ∀ t : Fin grid0.N, win0_2.index t 0 = t.val / 16 ∧ win0_2.index t 1 = 0)

theorem read2 (t : Fin cfg0.N) (a : Fin 1408) (k : Fin 1024) : (iblk m c 2 t : Vec Ideal S1408x1024 .bf16) (ix2 a k) = aZ m c (ix2 (col t a) k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 1408 + 1 * a.val = 1408 * (t.val / 16) + a.val; rw [(map2 t).1]; omega
  | ⟨1, _⟩ => show win0_2.index t 1 * 1024 + 1 * k.val = k.val; rw [(map2 t).2]; omega

/-- A point's gate is the reference's. -/
theorem gate_eq (t : Fin cfg0.N) (a : Fin 512) (b : Fin 1408) :
    k0_pay1 (F := Ideal) (iblk m c 0 t) (iblk m c 1 t) (ix2 a b) = Cert.GuRefIdeal.Read.val_main_v4 (F := Ideal) (aX m c) (aY m c) (ix2 (row t a) (col t b)) := by
  rw [ref_gate_at]
  refine (gate_at _ _ a b).trans ?_
  exact congrArg₂ dots (funext fun k => read0 m c t a k) (funext fun k => read1 m c t b k)

/-- A point's other product is the reference's. -/
theorem up_eq (t : Fin cfg0.N) (a : Fin 512) (b : Fin 1408) :
    k0_pay2 (F := Ideal) (iblk m c 0 t) (iblk m c 2 t) (ix2 a b) = Cert.GuRefIdeal.Read.val_main_v6 (F := Ideal) (aX m c) (aZ m c) (ix2 (row t a) (col t b)) := by
  rw [ref_up_at]
  refine (up_at _ _ a b).trans ?_
  exact congrArg₂ dots (funext fun k => read0 m c t a k) (funext fun k => read2 m c t b k)

theorem map3 : ∀ t : Fin cfg0.N, (win0_3.index t 0 = t.val % 16 ∧ win0_3.index t 1 = t.val / 16) ∧ (cfg0.win 3).flush t = true :=
  (by decide +kernel : ∀ t : Fin grid0.N, (win0_3.index t 0 = t.val % 16 ∧ win0_3.index t 1 = t.val / 16) ∧ (cfg0.win 3).flush t = true)

/-- The gate: a point's block is the reference's. -/
theorem block_gate (t : Fin cfg0.N) (a : Fin 512) (b : Fin 1408) :
    (((dats m 0 c).after 3 t : Vec Ideal S512x1408 .bf16) (ix2 a b) : EReal) = val_main_v7 (F := Ideal) (aX m c) (aY m c) (ix2 (row t a) (col t b)) := by
  rw [after0_3]
  frame_out
  exact gate_eq m c t a b

/-- So every point leaves its block of the reference. -/
theorem flushed_gate (t : Fin cfg0.N) : (dats m 0 c).flushed 3 t = ((cfg0.win 3).blk t).view.read (Elt Ideal) (val_main_v7 (F := Ideal) (aX m c) (aY m c)) := by
  refine Eq.trans (b := ((dats m 0 c).after 3 t : FVec Ideal S512x1408 .bf16)) ?_ ?_
  · show (cfg0.win 3).cut (grid0.coords t) ((dats m 0 c).after 3 t) = _
    rfl
  · funext i
    obtain ⟨a, b, rfl⟩ : ∃ (a : Fin 512) (b : Fin 1408), i = (ix2 a b : S512x1408.Idx) := ⟨i 0, i 1, ValueIdx.eq_ix2 i⟩
    rw [View.read_apply]
    refine (block_gate m c t a b).trans (congrArg (val_main_v7 (F := Ideal) (aX m c) (aY m c)) ?_)
    funext d
    apply Fin.ext
    match d with
    | ⟨0, _⟩ => show 512 * (t.val % 16) + a.val = win0_3.index t 0 * 512 + 1 * a.val; rw [(map3 t).1.1]; omega
    | ⟨1, _⟩ => show 1408 * (t.val / 16) + b.val = win0_3.index t 1 * 1408 + 1 * b.val; rw [(map3 t).1.2]; omega

/-- And all of it is written. -/
theorem final_gate : (dats m 0 c).arrAt 3 cfg0.N = val_main_v7 (F := Ideal) (aX m c) (aY m c) :=
  (dats m 0 c).arrAt_eq_of_cover 3 _ (fun t _ => flushed_gate m c t) fun i => by
    have h0 : (i 0 : Nat) < 8192 := (i 0).isLt
    have h1 : (i 1 : Nat) < 2816 := (i 1).isLt
    obtain ⟨t, ht⟩ : ∃ t : Fin cfg0.N, t.val = 16 * ((i 1 : Nat) / 1408) + (i 0 : Nat) / 512 := ⟨⟨16 * ((i 1 : Nat) / 1408) + (i 0 : Nat) / 512, lt_of_lt_of_eq (by omega) N_0.symm⟩, rfl⟩
    refine ⟨t, (map3 t).2, ?_⟩
    show i ∈ ((View.whole main_v0_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [(map3 t).1.1]; omega
    | ⟨1, _⟩ => show win0_3.index t 1 * 1408 ≤ (i 1 : Nat) ∧ (i 1 : Nat) < win0_3.index t 1 * 1408 + 1408; rw [(map3 t).1.2]; omega

theorem map4 : ∀ t : Fin cfg0.N, (win0_4.index t 0 = t.val % 16 ∧ win0_4.index t 1 = t.val / 16) ∧ (cfg0.win 4).flush t = true :=
  (by decide +kernel : ∀ t : Fin grid0.N, (win0_4.index t 0 = t.val % 16 ∧ win0_4.index t 1 = t.val / 16) ∧ (cfg0.win 4).flush t = true)

/-- The other product: a point's block is the reference's. -/
theorem block_up (t : Fin cfg0.N) (a : Fin 512) (b : Fin 1408) :
    (((dats m 0 c).after 4 t : Vec Ideal S512x1408 .bf16) (ix2 a b) : EReal) = val_main_v8 (F := Ideal) (aX m c) (aZ m c) (ix2 (row t a) (col t b)) := by
  rw [after0_4]
  frame_out
  exact up_eq m c t a b

/-- So every point leaves its block of the reference. -/
theorem flushed_up (t : Fin cfg0.N) : (dats m 0 c).flushed 4 t = ((cfg0.win 4).blk t).view.read (Elt Ideal) (val_main_v8 (F := Ideal) (aX m c) (aZ m c)) := by
  refine Eq.trans (b := ((dats m 0 c).after 4 t : FVec Ideal S512x1408 .bf16)) ?_ ?_
  · show (cfg0.win 4).cut (grid0.coords t) ((dats m 0 c).after 4 t) = _
    rfl
  · funext i
    obtain ⟨a, b, rfl⟩ : ∃ (a : Fin 512) (b : Fin 1408), i = (ix2 a b : S512x1408.Idx) := ⟨i 0, i 1, ValueIdx.eq_ix2 i⟩
    rw [View.read_apply]
    refine (block_up m c t a b).trans (congrArg (val_main_v8 (F := Ideal) (aX m c) (aZ m c)) ?_)
    funext d
    apply Fin.ext
    match d with
    | ⟨0, _⟩ => show 512 * (t.val % 16) + a.val = win0_4.index t 0 * 512 + 1 * a.val; rw [(map4 t).1.1]; omega
    | ⟨1, _⟩ => show 1408 * (t.val / 16) + b.val = win0_4.index t 1 * 1408 + 1 * b.val; rw [(map4 t).1.2]; omega

/-- And all of it is written. -/
theorem final_up : (dats m 0 c).arrAt 4 cfg0.N = val_main_v8 (F := Ideal) (aX m c) (aZ m c) :=
  (dats m 0 c).arrAt_eq_of_cover 4 _ (fun t _ => flushed_up m c t) fun i => by
    have h0 : (i 0 : Nat) < 8192 := (i 0).isLt
    have h1 : (i 1 : Nat) < 2816 := (i 1).isLt
    obtain ⟨t, ht⟩ : ∃ t : Fin cfg0.N, t.val = 16 * ((i 1 : Nat) / 1408) + (i 0 : Nat) / 512 := ⟨⟨16 * ((i 1 : Nat) / 1408) + (i 0 : Nat) / 512, lt_of_lt_of_eq (by omega) N_0.symm⟩, rfl⟩
    refine ⟨t, (map4 t).2, ?_⟩
    show i ∈ ((View.whole main_v0_1).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; rw [(map4 t).1.1]; omega
    | ⟨1, _⟩ => show win0_4.index t 1 * 1408 ≤ (i 1 : Nat) ∧ (i 1 : Nat) < win0_4.index t 1 * 1408 + 1408; rw [(map4 t).1.2]; omega

theorem map5 : ∀ t : Fin cfg0.N, (win0_5.index t 0 = t.val % 16 ∧ win0_5.index t 1 = t.val / 16) ∧ (cfg0.win 5).flush t = true :=
  (by decide +kernel : ∀ t : Fin grid0.N, (win0_5.index t 0 = t.val % 16 ∧ win0_5.index t 1 = t.val / 16) ∧ (cfg0.win 5).flush t = true)

/-- The gated product: a point's block is the reference's. -/
theorem block_act (t : Fin cfg0.N) (a : Fin 512) (b : Fin 1408) :
    (((dats m 0 c).after 5 t : Vec Ideal S512x1408 .bf16) (ix2 a b) : EReal) = val_main_v11 (F := Ideal) (aX m c) (aY m c) (aZ m c) (ix2 (row t a) (col t b)) := by
  rw [after0_5]
  frame_out
  refine (act_at _ _ _ _ (ix2 a b)).trans (Eq.trans ?_ (ref_act_at (aX m c) (aY m c) (aZ m c) (ix2 (row t a) (col t b))).symm)
  exact congrArg₂ gated (gate_eq m c t a b) (up_eq m c t a b)

/-- So every point leaves its block of the reference. -/
theorem flushed_act (t : Fin cfg0.N) : (dats m 0 c).flushed 5 t = ((cfg0.win 5).blk t).view.read (Elt Ideal) (val_main_v11 (F := Ideal) (aX m c) (aY m c) (aZ m c)) := by
  refine Eq.trans (b := ((dats m 0 c).after 5 t : FVec Ideal S512x1408 .bf16)) ?_ ?_
  · show (cfg0.win 5).cut (grid0.coords t) ((dats m 0 c).after 5 t) = _
    rfl
  · funext i
    obtain ⟨a, b, rfl⟩ : ∃ (a : Fin 512) (b : Fin 1408), i = (ix2 a b : S512x1408.Idx) := ⟨i 0, i 1, ValueIdx.eq_ix2 i⟩
    rw [View.read_apply]
    refine (block_act m c t a b).trans (congrArg (val_main_v11 (F := Ideal) (aX m c) (aY m c) (aZ m c)) ?_)
    funext d
    apply Fin.ext
    match d with
    | ⟨0, _⟩ => show 512 * (t.val % 16) + a.val = win0_5.index t 0 * 512 + 1 * a.val; rw [(map5 t).1.1]; omega
    | ⟨1, _⟩ => show 1408 * (t.val / 16) + b.val = win0_5.index t 1 * 1408 + 1 * b.val; rw [(map5 t).1.2]; omega

/-- And all of it is written. -/
theorem final_act : (dats m 0 c).arrAt 5 cfg0.N = val_main_v11 (F := Ideal) (aX m c) (aY m c) (aZ m c) :=
  (dats m 0 c).arrAt_eq_of_cover 5 _ (fun t _ => flushed_act m c t) fun i => by
    have h0 : (i 0 : Nat) < 8192 := (i 0).isLt
    have h1 : (i 1 : Nat) < 2816 := (i 1).isLt
    obtain ⟨t, ht⟩ : ∃ t : Fin cfg0.N, t.val = 16 * ((i 1 : Nat) / 1408) + (i 0 : Nat) / 512 := ⟨⟨16 * ((i 1 : Nat) / 1408) + (i 0 : Nat) / 512, lt_of_lt_of_eq (by omega) N_0.symm⟩, rfl⟩
    refine ⟨t, (map5 t).2, ?_⟩
    show i ∈ ((View.whole main_v0_2).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(map5 t).1.1]; omega
    | ⟨1, _⟩ => show win0_5.index t 1 * 1408 ≤ (i 1 : Nat) ∧ (i 1 : Nat) < win0_5.index t 1 * 1408 + 1408; rw [(map5 t).1.2]; omega

/-- The two programs agree. -/
theorem agree : Cert.algebraic_GuIdeal_GuRefIdeal := by
  intro m g m' g' _ hargs
  refine ⟨fun c => val_main_v7 (F := Ideal) (aX m c) (aY m c), fun c => val_main_v8 (F := Ideal) (aX m c) (aZ m c), fun c => val_main_v11 (F := Ideal) (aX m c) (aY m c) (aZ m c), ?_, ?_⟩
  · refine (θ_run defs _ _).mono (fun r h c => ?_) (Cert.GuIdeal.Value.run_blocks m g)
    exact ⟨(h c).1.trans (final_gate m c), (h c).2.1.trans (final_up m c), (h c).2.2.1.trans (final_act m c), (h c).2.2.2⟩
  · refine (θ_run Cert.GuRefIdeal.defs _ _).mono (fun r h c => ?_) (Cert.GuRefIdeal.Value.run m' g')
    obtain ⟨a0, a1, a2⟩ := hargs c
    refine ⟨(h c).1.trans ((Cert.GuRefIdeal.Read.val_main_v7_eq _ _).trans ?_), (h c).2.1.trans ((Cert.GuRefIdeal.Read.val_main_v8_eq _ _).trans ?_), (h c).2.2.1.trans ((Cert.GuRefIdeal.Read.val_main_v11_eq _ _ _).trans ?_), (h c).2.2.2⟩
    · rw [a0, a1]
    · rw [a0, a2]
    · rw [a0, a1, a2]

end Cert.GuIdeal.Walk

end
-- ==== Proof.DownValue.lean ====
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import proofs.«01_k».proof.Proof.NormReal

@[expose] public section

set_option maxRecDepth 65536

noncomputable section

/-!
# The way out of the feed-forward

The kernel multiplies 512 rows of the gated activations at a time by the whole weight, adds the rows that skip the feed-forward, and
normalises each row by the root of its mean square; the reference does so to all the rows.
-/

namespace Cert.DownIdeal.Walk

open Cert.DownIdeal Cert.DownIdeal.Gen
open Idealize.ShloMosaic Idealize.ShloMosaic.TcCoe Idealize.SL.Sem
open Idealize.ShloMosaic.Pipeline (Dat)
open Cert.DownRefIdeal.Read (val_main_v3 val_main_v17)
open Cert.NormReal (inv)

/-- The tile's new activations at an element. -/
theorem sum_at (x : Vec Ideal S512x2816 .bf16) (y : Vec Ideal S2816x1024 .bf16) (h : Vec Ideal S512x1024 .f32) (a : Fin 512) (b : Fin 1024) :
    k0_pay1 x y h (ix2 a b) = (h (ix2 a b) : EReal) + ∑ k : Fin 2816, (x (ix2 a k) : EReal) * (y (ix2 k b) : EReal) := by
  pointwise [k0_pay1]

/-- The tile's normalised activations at an element. -/
theorem unit_at (x : Vec Ideal S512x2816 .bf16) (y : Vec Ideal S2816x1024 .bf16) (h : Vec Ideal S512x1024 .f32) (g : Vec Ideal S1x1024 .f32) (a : Fin 512) (b : Fin 1024) :
    (k0_pay2 x y h g (ix2 a b) : EReal)
      = (k0_pay1 x y h (ix2 a b) : EReal) * (inv fun k => k0_pay1 x y h (ix2 a k)) * (g (ix2 0 b) : EReal) := by
  unfold k0_pay2
  generalize k0_pay1 (F := Ideal) x y h = D
  pointwise
  rfl

/-- The reference's new activations at an element. -/
theorem ref_sum_at (A : FVec Ideal S8192x2816 .bf16) (B : FVec Ideal S2816x1024 .bf16) (H : FVec Ideal S8192x1024 .f32) (i : Fin 8192) (j : Fin 1024) :
    val_main_v3 (F := Ideal) A B H (ix2 i j) = (H (ix2 i j) : EReal) + ∑ k : Fin 2816, (A (ix2 i k) : EReal) * (B (ix2 k j) : EReal) := by
  rw [Cert.DownRefIdeal.Read.val_main_v3_apply, Cert.DownRefIdeal.Read.val_main_v2_apply]
  refine congrArg (fun z : EReal => (H (ix2 i j) : EReal) + z) (Finset.sum_congr rfl fun k _ => ?_)
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

open Cert.DownRefIdeal.Read in
/-- One over the root of a row's mean square, in the reference. -/
theorem ref_root_at (A : FVec Ideal S8192x2816 .bf16) (B : FVec Ideal S2816x1024 .bf16) (H : FVec Ideal S8192x1024 .f32) (i : Fin 8192) (b : Fin 1) :
    val_main_v11 (F := Ideal) A B H (ix2 i b) = inv fun k => val_main_v3 (F := Ideal) A B H (ix2 i k) := by
  unfold val_main_v11 val_main_v10 val_main_v8 val_main_v6 val_main_v5 val_main_v4
  generalize val_main_v3 (F := Ideal) A B H = D
  pointwise [val_main_v9, val_main_v7, val_main_cst, val_main_cst_0, val_main_cst_1]
  rfl

open Cert.DownRefIdeal.Read in
/-- The reference's normalised activations at an element. -/
theorem ref_unit_at (A : FVec Ideal S8192x2816 .bf16) (B : FVec Ideal S2816x1024 .bf16) (H : FVec Ideal S8192x1024 .f32) (G : FVec Ideal S1024 .f32) (i : Fin 8192) (j : Fin 1024) :
    (val_main_v17 (F := Ideal) A B H G (ix2 i j) : EReal)
      = (val_main_v3 (F := Ideal) A B H (ix2 i j) : EReal) * (inv fun k => val_main_v3 (F := Ideal) A B H (ix2 i k)) * (G (ix1 j) : EReal) := by
  rw [← ref_root_at A B H i 0]
  unfold val_main_v17 val_main_v16 val_main_v13 val_main_v12
  generalize val_main_v11 (F := Ideal) A B H = R
  generalize val_main_v3 (F := Ideal) A B H = D
  pointwise [val_main_v15, val_main_v14]

variable (m : (ℓ : Loc nD τ sig) → Buf (Elt Ideal) ℓ) (c : Dev nD)

/-- The arguments on a device. -/
abbrev aX : FVec Ideal S8192x2816 .bf16 := m ((c : Thread nD τ).loc main_arg0)
abbrev aY : FVec Ideal S2816x1024 .bf16 := m ((c : Thread nD τ).loc main_arg1)
abbrev aH : FVec Ideal S8192x1024 .f32 := m ((c : Thread nD τ).loc main_arg2)
abbrev aG : FVec Ideal S1024 .f32 := m ((c : Thread nD τ).loc main_arg3)

/-- Where the rows of a point's group lie. -/
abbrev row (t : Fin cfg0.N) (a : Fin 512) : Fin 8192 := ⟨512 * (t.val) + a.val, by have := lt_of_lt_of_eq t.isLt N_0; omega⟩

theorem map0 : ∀ t : Fin cfg0.N, win0_0.index t 0 = t.val ∧ win0_0.index t 1 = 0 :=
  (by decide +kernel : ∀ t : Fin grid0.N, win0_0.index t 0 = t.val ∧ win0_0.index t 1 = 0)

theorem read0 (t : Fin cfg0.N) (a : Fin 512) (k : Fin 2816) : (iblk m c 0 t : Vec Ideal S512x2816 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 512 + 1 * a.val = 512 * (t.val) + a.val; rw [(map0 t).1]; omega
  | ⟨1, _⟩ => show win0_0.index t 1 * 2816 + 1 * k.val = k.val; rw [(map0 t).2]; omega

theorem map1 : ∀ t : Fin cfg0.N, win0_1.index t 0 = 0 ∧ win0_1.index t 1 = 0 :=
  (by decide +kernel : ∀ t : Fin grid0.N, win0_1.index t 0 = 0 ∧ win0_1.index t 1 = 0)

theorem read1 (t : Fin cfg0.N) (a : Fin 2816) (k : Fin 1024) : (iblk m c 1 t : Vec Ideal S2816x1024 .bf16) (ix2 a k) = aY m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2816 + 1 * a.val = a.val; rw [(map1 t).1]; omega
  | ⟨1, _⟩ => show win0_1.index t 1 * 1024 + 1 * k.val = k.val; rw [(map1 t).2]; omega

theorem map2 : ∀ t : Fin cfg0.N, win0_2.index t 0 = t.val ∧ win0_2.index t 1 = 0 :=
  (by decide +kernel : ∀ t : Fin grid0.N, win0_2.index t 0 = t.val ∧ win0_2.index t 1 = 0)

theorem read2 (t : Fin cfg0.N) (a : Fin 512) (k : Fin 1024) : (iblk m c 2 t : Vec Ideal S512x1024 .f32) (ix2 a k) = aH m c (ix2 (row t a) k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 512 + 1 * a.val = 512 * (t.val) + a.val; rw [(map2 t).1]; omega
  | ⟨1, _⟩ => show win0_2.index t 1 * 1024 + 1 * k.val = k.val; rw [(map2 t).2]; omega

theorem map3 : ∀ t : Fin cfg0.N, win0_3.index t 0 = 0 ∧ win0_3.index t 1 = 0 :=
  (by decide +kernel : ∀ t : Fin grid0.N, win0_3.index t 0 = 0 ∧ win0_3.index t 1 = 0)

theorem V_gain : V m c main_v0 = (broadcastInDim S1x1024 ![1] bcast_S1024_S1x1024_1 (aG m c) : FVec Ideal S1x1024 .f32) := by
  unfold_abbrev_sides
  simp only [List.flatten_cons, List.flatten_nil, List.append_nil]
  after_results_simp

theorem read3 (t : Fin cfg0.N) (k : Fin 1024) : (iblk m c 3 t : Vec Ideal S1x1024 .f32) (ix2 0 k) = aG m c (ix1 k) := by
  unfold iblk
  rw [View.read_apply]
  show V m c main_v0 _ = _
  rw [V_gain]
  have e : (((cfg0.win 3).blk t).view.emb (ix2 0 k : S1x1024.Idx) : S1x1024.Idx) = ix2 0 k := by
    funext b
    apply Fin.ext
    match b with
    | ⟨0, _⟩ => show win0_3.index t 0 * 1 + 1 * 0 = 0; rw [(map3 t).1]
    | ⟨1, _⟩ => show win0_3.index t 1 * 1024 + 1 * k.val = k.val; rw [(map3 t).2]; omega
  show (broadcastInDim S1x1024 ![1] bcast_S1024_S1x1024_1 (aG m c) : FVec Ideal S1x1024 .f32) (((cfg0.win 3).blk t).view.emb (ix2 0 k : S1x1024.Idx) : S1x1024.Idx) = _
  rw [e]
  pointwise

/-- A point's new activations are the reference's. -/
theorem sum_eq (t : Fin cfg0.N) (a : Fin 512) (b : Fin 1024) :
    k0_pay1 (F := Ideal) (iblk m c 0 t) (iblk m c 1 t) (iblk m c 2 t) (ix2 a b) = val_main_v3 (F := Ideal) (aX m c) (aY m c) (aH m c) (ix2 (row t a) b) := by
  rw [ref_sum_at]
  refine (sum_at _ _ _ a b).trans ?_
  exact congrArg₂ (fun x y : EReal => x + y) (read2 m c t a b) (Finset.sum_congr rfl fun k _ => congrArg₂ (fun x y : EReal => x * y) (read0 m c t a k) (read1 m c t k b))

theorem map4 : ∀ t : Fin cfg0.N, (win0_4.index t 0 = t.val ∧ win0_4.index t 1 = 0) ∧ (cfg0.win 4).flush t = true :=
  (by decide +kernel : ∀ t : Fin grid0.N, (win0_4.index t 0 = t.val ∧ win0_4.index t 1 = 0) ∧ (cfg0.win 4).flush t = true)

/-- The new activations: a point's block is the reference's. -/
theorem block_sum (t : Fin cfg0.N) (a : Fin 512) (b : Fin 1024) :
    (((dats m 0 c).after 4 t : Vec Ideal S512x1024 .f32) (ix2 a b) : EReal) = val_main_v3 (F := Ideal) (aX m c) (aY m c) (aH m c) (ix2 (row t a) b) := by
  rw [after0_4]
  frame_out
  exact sum_eq m c t a b

/-- So every point leaves its block of the reference. -/
theorem flushed_sum (t : Fin cfg0.N) : (dats m 0 c).flushed 4 t = ((cfg0.win 4).blk t).view.read (Elt Ideal) (val_main_v3 (F := Ideal) (aX m c) (aY m c) (aH m c)) := by
  refine Eq.trans (b := ((dats m 0 c).after 4 t : FVec Ideal S512x1024 .f32)) ?_ ?_
  · show (cfg0.win 4).cut (grid0.coords t) ((dats m 0 c).after 4 t) = _
    rfl
  · funext i
    obtain ⟨a, b, rfl⟩ : ∃ (a : Fin 512) (b : Fin 1024), i = (ix2 a b : S512x1024.Idx) := ⟨i 0, i 1, ValueIdx.eq_ix2 i⟩
    rw [View.read_apply]
    refine (block_sum m c t a b).trans (congrArg (val_main_v3 (F := Ideal) (aX m c) (aY m c) (aH m c)) ?_)
    funext d
    apply Fin.ext
    match d with
    | ⟨0, _⟩ => show 512 * (t.val) + a.val = win0_4.index t 0 * 512 + 1 * a.val; rw [(map4 t).1.1]; omega
    | ⟨1, _⟩ => show b.val = win0_4.index t 1 * 1024 + 1 * b.val; rw [(map4 t).1.2]; omega

/-- And all of it is written. -/
theorem final_sum : (dats m 0 c).arrAt 4 cfg0.N = val_main_v3 (F := Ideal) (aX m c) (aY m c) (aH m c) :=
  (dats m 0 c).arrAt_eq_of_cover 4 _ (fun t _ => flushed_sum m c t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, (map4 t).2, ?_⟩
    show i ∈ ((View.whole main_v1_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; rw [(map4 t).1.1]; omega
    | ⟨1, _⟩ => show win0_4.index t 1 * 1024 ≤ (i 1 : Nat) ∧ (i 1 : Nat) < win0_4.index t 1 * 1024 + 1024; rw [(map4 t).1.2]; omega

theorem map5 : ∀ t : Fin cfg0.N, (win0_5.index t 0 = t.val ∧ win0_5.index t 1 = 0) ∧ (cfg0.win 5).flush t = true :=
  (by decide +kernel : ∀ t : Fin grid0.N, (win0_5.index t 0 = t.val ∧ win0_5.index t 1 = 0) ∧ (cfg0.win 5).flush t = true)

/-- The normalised activations: a point's block is the reference's. -/
theorem block_unit (t : Fin cfg0.N) (a : Fin 512) (b : Fin 1024) :
    (((dats m 0 c).after 5 t : Vec Ideal S512x1024 .bf16) (ix2 a b) : EReal) = val_main_v17 (F := Ideal) (aX m c) (aY m c) (aH m c) (aG m c) (ix2 (row t a) b) := by
  rw [after0_5]
  frame_out
  rw [ref_unit_at]
  refine (unit_at _ _ _ _ a b).trans ?_
  exact congrArg₂ (fun x y : EReal => x * y) (congrArg₂ (fun x y : EReal => x * y) (sum_eq m c t a b) (congrArg inv (funext fun k => sum_eq m c t a k))) (read3 m c t b)

/-- So every point leaves its block of the reference. -/
theorem flushed_unit (t : Fin cfg0.N) : (dats m 0 c).flushed 5 t = ((cfg0.win 5).blk t).view.read (Elt Ideal) (val_main_v17 (F := Ideal) (aX m c) (aY m c) (aH m c) (aG m c)) := by
  refine Eq.trans (b := ((dats m 0 c).after 5 t : FVec Ideal S512x1024 .bf16)) ?_ ?_
  · show (cfg0.win 5).cut (grid0.coords t) ((dats m 0 c).after 5 t) = _
    rfl
  · funext i
    obtain ⟨a, b, rfl⟩ : ∃ (a : Fin 512) (b : Fin 1024), i = (ix2 a b : S512x1024.Idx) := ⟨i 0, i 1, ValueIdx.eq_ix2 i⟩
    rw [View.read_apply]
    refine (block_unit m c t a b).trans (congrArg (val_main_v17 (F := Ideal) (aX m c) (aY m c) (aH m c) (aG m c)) ?_)
    funext d
    apply Fin.ext
    match d with
    | ⟨0, _⟩ => show 512 * (t.val) + a.val = win0_5.index t 0 * 512 + 1 * a.val; rw [(map5 t).1.1]; omega
    | ⟨1, _⟩ => show b.val = win0_5.index t 1 * 1024 + 1 * b.val; rw [(map5 t).1.2]; omega

/-- And all of it is written. -/
theorem final_unit : (dats m 0 c).arrAt 5 cfg0.N = val_main_v17 (F := Ideal) (aX m c) (aY m c) (aH m c) (aG m c) :=
  (dats m 0 c).arrAt_eq_of_cover 5 _ (fun t _ => flushed_unit m c t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, (map5 t).2, ?_⟩
    show i ∈ ((View.whole main_v1_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(map5 t).1.1]; omega
    | ⟨1, _⟩ => show win0_5.index t 1 * 1024 ≤ (i 1 : Nat) ∧ (i 1 : Nat) < win0_5.index t 1 * 1024 + 1024; rw [(map5 t).1.2]; omega

/-- The two programs agree. -/
theorem agree : Cert.algebraic_DownIdeal_DownRefIdeal := by
  intro m g m' g' _ hargs
  refine ⟨fun c => val_main_v3 (F := Ideal) (aX m c) (aY m c) (aH m c), fun c => val_main_v17 (F := Ideal) (aX m c) (aY m c) (aH m c) (aG m c), ?_, ?_⟩
  · refine (θ_run defs _ _).mono (fun r h c => ?_) (Cert.DownIdeal.Value.run_blocks m g)
    exact ⟨(h c).1.trans (final_sum m c), (h c).2.1.trans (final_unit m c), (h c).2.2⟩
  · refine (θ_run Cert.DownRefIdeal.defs _ _).mono (fun r h c => ?_) (Cert.DownRefIdeal.Value.run m' g')
    obtain ⟨a0, a1, a2, a3⟩ := hargs c
    refine ⟨(h c).1.trans ((Cert.DownRefIdeal.Read.val_main_v3_eq _ _ _).trans ?_), (h c).2.1.trans ((Cert.DownRefIdeal.Read.val_main_v17_eq _ _ _ _).trans ?_), (h c).2.2⟩
    · rw [a0, a1, a2]
    · rw [a0, a1, a2, a3]

end Cert.DownIdeal.Walk

end
-- ==== Proof.InpValue.lean ====
module

public import proofs.«01_k».proof.Defs
public import proofs.«01_k».proof.Proof.Gen.InpIdeal.Value
public import proofs.«01_k».proof.Proof.Gen.InpRefIdeal.Run
public import proofs.«01_k».proof.Proof.Gen.InpRefIdeal.Read
public import Idealize.ShloMosaic.Lib.Pipeline.ValueKit

@[expose] public section

set_option maxRecDepth 65536

noncomputable section

/-!
# The projection into the mixer

The kernel multiplies 1024 rows of the normalised activations at a time by 1024 columns of the weight; the reference multiplies the whole arrays.
-/

namespace Cert.InpIdeal.Walk

open Cert.InpIdeal Cert.InpIdeal.Gen
open Idealize.ShloMosaic Idealize.ShloMosaic.TcCoe Idealize.SL.Sem
open Idealize.ShloMosaic.Pipeline (Dat)
open Cert.InpRefIdeal.Read (val_main_v2)

/-- The tile's product at an element. -/
theorem prod_at (x : Vec Ideal S1024x1024 .bf16) (y : Vec Ideal S1024x1024 .bf16) (a : Fin 1024) (b : Fin 1024) :
    k0_pay1 x y (ix2 a b) = ∑ k : Fin 1024, (x (ix2 a k) : EReal) * (y (ix2 k b) : EReal) := by
  pointwise [k0_pay1]

/-- The reference at an element. -/
theorem ref_at (A : FVec Ideal S8192x1024 .bf16) (B : FVec Ideal S1024x3072 .bf16) (i : Fin 8192) (j : Fin 3072) :
    val_main_v2 (F := Ideal) A B (ix2 i j) = ∑ k : Fin 1024, (A (ix2 i k) : EReal) * (B (ix2 k j) : EReal) := by
  rw [Cert.InpRefIdeal.Read.val_main_v2_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S1024x3072 .bf16 := m ((c : Thread nD τ).loc main_arg1)

/-- Where the rows of a point's group lie. -/
abbrev row (t : Fin cfg0.N) (a : Fin 1024) : Fin 8192 := ⟨1024 * (t.val % 8) + a.val, by have := lt_of_lt_of_eq t.isLt N_0; omega⟩

/-- Where the columns of a point's group lie. -/
abbrev col (t : Fin cfg0.N) (a : Fin 1024) : Fin 3072 := ⟨1024 * (t.val / 8) + a.val, by have := lt_of_lt_of_eq t.isLt N_0; omega⟩

theorem map0 : ∀ t : Fin cfg0.N, win0_0.index t 0 = t.val % 8 ∧ win0_0.index t 1 = 0 :=
  (by decide +kernel : ∀ t : Fin grid0.N, win0_0.index t 0 = t.val % 8 ∧ win0_0.index t 1 = 0)

theorem read0 (t : Fin cfg0.N) (a : Fin 1024) (k : Fin 1024) : (iblk m c 0 t : Vec Ideal S1024x1024 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 1024 + 1 * a.val = 1024 * (t.val % 8) + a.val; rw [(map0 t).1]; omega
  | ⟨1, _⟩ => show win0_0.index t 1 * 1024 + 1 * k.val = k.val; rw [(map0 t).2]; omega

theorem map1 : ∀ t : Fin cfg0.N, win0_1.index t 0 = 0 ∧ win0_1.index t 1 = t.val / 8 :=
  (by decide +kernel : ∀ t : Fin grid0.N, win0_1.index t 0 = 0 ∧ win0_1.index t 1 = t.val / 8)

theorem read1 (t : Fin cfg0.N) (a : Fin 1024) (k : Fin 1024) : (iblk m c 1 t : Vec Ideal S1024x1024 .bf16) (ix2 a k) = aY m c (ix2 a (col t k)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1024 + 1 * a.val = a.val; rw [(map1 t).1]; omega
  | ⟨1, _⟩ => show win0_1.index t 1 * 1024 + 1 * k.val = 1024 * (t.val / 8) + k.val; rw [(map1 t).2]; omega

theorem map2 : ∀ t : Fin cfg0.N, (win0_2.index t 0 = t.val % 8 ∧ win0_2.index t 1 = t.val / 8) ∧ (cfg0.win 2).flush t = true :=
  (by decide +kernel : ∀ t : Fin grid0.N, (win0_2.index t 0 = t.val % 8 ∧ win0_2.index t 1 = t.val / 8) ∧ (cfg0.win 2).flush t = true)

/-- The product: a point's block is the reference's. -/
theorem block_prod (t : Fin cfg0.N) (a : Fin 1024) (b : Fin 1024) :
    (((dats m 0 c).after 2 t : Vec Ideal S1024x1024 .f32) (ix2 a b) : EReal) = val_main_v2 (F := Ideal) (aX m c) (aY m c) (ix2 (row t a) (col t b)) := by
  rw [after0_2]
  frame_out
  rw [ref_at]
  refine (prod_at _ _ a b).trans ?_
  exact Finset.sum_congr rfl fun k _ => congrArg₂ (fun x y : EReal => x * y) (read0 m c t a k) (read1 m c t k b)

/-- So every point leaves its block of the reference. -/
theorem flushed_prod (t : Fin cfg0.N) : (dats m 0 c).flushed 2 t = ((cfg0.win 2).blk t).view.read (Elt Ideal) (val_main_v2 (F := Ideal) (aX m c) (aY m c)) := by
  refine Eq.trans (b := ((dats m 0 c).after 2 t : FVec Ideal S1024x1024 .f32)) ?_ ?_
  · show (cfg0.win 2).cut (grid0.coords t) ((dats m 0 c).after 2 t) = _
    rfl
  · funext i
    obtain ⟨a, b, rfl⟩ : ∃ (a : Fin 1024) (b : Fin 1024), i = (ix2 a b : S1024x1024.Idx) := ⟨i 0, i 1, ValueIdx.eq_ix2 i⟩
    rw [View.read_apply]
    refine (block_prod m c t a b).trans (congrArg (val_main_v2 (F := Ideal) (aX m c) (aY m c)) ?_)
    funext d
    apply Fin.ext
    match d with
    | ⟨0, _⟩ => show 1024 * (t.val % 8) + a.val = win0_2.index t 0 * 1024 + 1 * a.val; rw [(map2 t).1.1]; omega
    | ⟨1, _⟩ => show 1024 * (t.val / 8) + b.val = win0_2.index t 1 * 1024 + 1 * b.val; rw [(map2 t).1.2]; omega

/-- And all of it is written. -/
theorem final_prod : (dats m 0 c).arrAt 2 cfg0.N = val_main_v2 (F := Ideal) (aX m c) (aY m c) :=
  (dats m 0 c).arrAt_eq_of_cover 2 _ (fun t _ => flushed_prod m c t) fun i => by
    have h0 : (i 0 : Nat) < 8192 := (i 0).isLt
    have h1 : (i 1 : Nat) < 3072 := (i 1).isLt
    obtain ⟨t, ht⟩ : ∃ t : Fin cfg0.N, t.val = 8 * ((i 1 : Nat) / 1024) + (i 0 : Nat) / 1024 := ⟨⟨8 * ((i 1 : Nat) / 1024) + (i 0 : Nat) / 1024, lt_of_lt_of_eq (by omega) N_0.symm⟩, rfl⟩
    refine ⟨t, (map2 t).2, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [(map2 t).1.1]; omega
    | ⟨1, _⟩ => show win0_2.index t 1 * 1024 ≤ (i 1 : Nat) ∧ (i 1 : Nat) < win0_2.index t 1 * 1024 + 1024; rw [(map2 t).1.2]; omega

/-- The two programs agree. -/
theorem agree : Cert.algebraic_InpIdeal_InpRefIdeal := by
  intro m g m' g' _ hargs
  refine ⟨fun c => val_main_v2 (F := Ideal) (aX m c) (aY m c), ?_, ?_⟩
  · refine (θ_run defs _ _).mono (fun r h c => ?_) (Cert.InpIdeal.Value.run_blocks m g)
    exact ⟨(h c).1.trans (final_prod m c), (h c).2⟩
  · refine (θ_run Cert.InpRefIdeal.defs _ _).mono (fun r h c => ?_) (Cert.InpRefIdeal.Value.run m' g')
    obtain ⟨a0, a1⟩ := hargs c
    refine ⟨(h c).1.trans ((Cert.InpRefIdeal.Read.val_main_v2_eq _ _).trans ?_), (h c).2⟩
    rw [a0, a1]

end Cert.InpIdeal.Walk

end
-- ==== Proof.OutValue.lean ====
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import proofs.«01_k».proof.Proof.NormReal

@[expose] public section

set_option maxRecDepth 65536

noncomputable section

/-!
# The way out of the mixer

The kernel multiplies 512 rows of the joined results at a time by the whole weight, adds the rows that skip the mixer, and normalises
each row by the root of its mean square; the reference does so to all the rows.
-/

namespace Cert.OutIdeal.Walk

open Cert.OutIdeal Cert.OutIdeal.Gen
open Idealize.ShloMosaic Idealize.ShloMosaic.TcCoe Idealize.SL.Sem
open Idealize.ShloMosaic.Pipeline (Dat)
open Cert.OutRefIdeal.Read (val_main_v3 val_main_v17)
open Cert.NormReal (inv)

/-- The tile's new activations at an element. -/
theorem sum_at (x : Vec Ideal S512x1024 .bf16) (y : Vec Ideal S1024x1024 .bf16) (h : Vec Ideal S512x1024 .f32) (a : Fin 512) (b : Fin 1024) :
    k0_pay1 x y h (ix2 a b) = (h (ix2 a b) : EReal) + ∑ k : Fin 1024, (x (ix2 a k) : EReal) * (y (ix2 k b) : EReal) := by
  pointwise [k0_pay1]

/-- The tile's normalised activations at an element. -/
theorem unit_at (x : Vec Ideal S512x1024 .bf16) (y : Vec Ideal S1024x1024 .bf16) (h : Vec Ideal S512x1024 .f32) (g : Vec Ideal S1x1024 .f32) (a : Fin 512) (b : Fin 1024) :
    (k0_pay2 x y h g (ix2 a b) : EReal)
      = (k0_pay1 x y h (ix2 a b) : EReal) * (inv fun k => k0_pay1 x y h (ix2 a k)) * (g (ix2 0 b) : EReal) := by
  unfold k0_pay2
  generalize k0_pay1 (F := Ideal) x y h = D
  pointwise
  rfl

/-- The reference's new activations at an element. -/
theorem ref_sum_at (A : FVec Ideal S8192x1024 .bf16) (B : FVec Ideal S1024x1024 .bf16) (H : FVec Ideal S8192x1024 .f32) (i : Fin 8192) (j : Fin 1024) :
    val_main_v3 (F := Ideal) A B H (ix2 i j) = (H (ix2 i j) : EReal) + ∑ k : Fin 1024, (A (ix2 i k) : EReal) * (B (ix2 k j) : EReal) := by
  rw [Cert.OutRefIdeal.Read.val_main_v3_apply, Cert.OutRefIdeal.Read.val_main_v2_apply]
  refine congrArg (fun z : EReal => (H (ix2 i j) : EReal) + z) (Finset.sum_congr rfl fun k _ => ?_)
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

open Cert.OutRefIdeal.Read in
/-- One over the root of a row's mean square, in the reference. -/
theorem ref_root_at (A : FVec Ideal S8192x1024 .bf16) (B : FVec Ideal S1024x1024 .bf16) (H : FVec Ideal S8192x1024 .f32) (i : Fin 8192) (b : Fin 1) :
    val_main_v11 (F := Ideal) A B H (ix2 i b) = inv fun k => val_main_v3 (F := Ideal) A B H (ix2 i k) := by
  unfold val_main_v11 val_main_v10 val_main_v8 val_main_v6 val_main_v5 val_main_v4
  generalize val_main_v3 (F := Ideal) A B H = D
  pointwise [val_main_v9, val_main_v7, val_main_cst, val_main_cst_0, val_main_cst_1]
  rfl

open Cert.OutRefIdeal.Read in
/-- The reference's normalised activations at an element. -/
theorem ref_unit_at (A : FVec Ideal S8192x1024 .bf16) (B : FVec Ideal S1024x1024 .bf16) (H : FVec Ideal S8192x1024 .f32) (G : FVec Ideal S1024 .f32) (i : Fin 8192) (j : Fin 1024) :
    (val_main_v17 (F := Ideal) A B H G (ix2 i j) : EReal)
      = (val_main_v3 (F := Ideal) A B H (ix2 i j) : EReal) * (inv fun k => val_main_v3 (F := Ideal) A B H (ix2 i k)) * (G (ix1 j) : EReal) := by
  rw [← ref_root_at A B H i 0]
  unfold val_main_v17 val_main_v16 val_main_v13 val_main_v12
  generalize val_main_v11 (F := Ideal) A B H = R
  generalize val_main_v3 (F := Ideal) A B H = D
  pointwise [val_main_v15, val_main_v14]

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S1024x1024 .bf16 := m ((c : Thread nD τ).loc main_arg1)
abbrev aH : FVec Ideal S8192x1024 .f32 := m ((c : Thread nD τ).loc main_arg2)
abbrev aG : FVec Ideal S1024 .f32 := m ((c : Thread nD τ).loc main_arg3)

/-- Where the rows of a point's group lie. -/
abbrev row (t : Fin cfg0.N) (a : Fin 512) : Fin 8192 := ⟨512 * (t.val) + a.val, by have := lt_of_lt_of_eq t.isLt N_0; omega⟩

theorem map0 : ∀ t : Fin cfg0.N, win0_0.index t 0 = t.val ∧ win0_0.index t 1 = 0 :=
  (by decide +kernel : ∀ t : Fin grid0.N, win0_0.index t 0 = t.val ∧ win0_0.index t 1 = 0)

theorem read0 (t : Fin cfg0.N) (a : Fin 512) (k : Fin 1024) : (iblk m c 0 t : Vec Ideal S512x1024 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 512 + 1 * a.val = 512 * (t.val) + a.val; rw [(map0 t).1]; omega
  | ⟨1, _⟩ => show win0_0.index t 1 * 1024 + 1 * k.val = k.val; rw [(map0 t).2]; omega

theorem map1 : ∀ t : Fin cfg0.N, win0_1.index t 0 = 0 ∧ win0_1.index t 1 = 0 :=
  (by decide +kernel : ∀ t : Fin grid0.N, win0_1.index t 0 = 0 ∧ win0_1.index t 1 = 0)

theorem read1 (t : Fin cfg0.N) (a : Fin 1024) (k : Fin 1024) : (iblk m c 1 t : Vec Ideal S1024x1024 .bf16) (ix2 a k) = aY m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1024 + 1 * a.val = a.val; rw [(map1 t).1]; omega
  | ⟨1, _⟩ => show win0_1.index t 1 * 1024 + 1 * k.val = k.val; rw [(map1 t).2]; omega

theorem map2 : ∀ t : Fin cfg0.N, win0_2.index t 0 = t.val ∧ win0_2.index t 1 = 0 :=
  (by decide +kernel : ∀ t : Fin grid0.N, win0_2.index t 0 = t.val ∧ win0_2.index t 1 = 0)

theorem read2 (t : Fin cfg0.N) (a : Fin 512) (k : Fin 1024) : (iblk m c 2 t : Vec Ideal S512x1024 .f32) (ix2 a k) = aH m c (ix2 (row t a) k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 512 + 1 * a.val = 512 * (t.val) + a.val; rw [(map2 t).1]; omega
  | ⟨1, _⟩ => show win0_2.index t 1 * 1024 + 1 * k.val = k.val; rw [(map2 t).2]; omega

theorem map3 : ∀ t : Fin cfg0.N, win0_3.index t 0 = 0 ∧ win0_3.index t 1 = 0 :=
  (by decide +kernel : ∀ t : Fin grid0.N, win0_3.index t 0 = 0 ∧ win0_3.index t 1 = 0)

theorem V_gain : V m c main_v0 = (broadcastInDim S1x1024 ![1] bcast_S1024_S1x1024_1 (aG m c) : FVec Ideal S1x1024 .f32) := by
  unfold_abbrev_sides
  simp only [List.flatten_cons, List.flatten_nil, List.append_nil]
  after_results_simp

theorem read3 (t : Fin cfg0.N) (k : Fin 1024) : (iblk m c 3 t : Vec Ideal S1x1024 .f32) (ix2 0 k) = aG m c (ix1 k) := by
  unfold iblk
  rw [View.read_apply]
  show V m c main_v0 _ = _
  rw [V_gain]
  have e : (((cfg0.win 3).blk t).view.emb (ix2 0 k : S1x1024.Idx) : S1x1024.Idx) = ix2 0 k := by
    funext b
    apply Fin.ext
    match b with
    | ⟨0, _⟩ => show win0_3.index t 0 * 1 + 1 * 0 = 0; rw [(map3 t).1]
    | ⟨1, _⟩ => show win0_3.index t 1 * 1024 + 1 * k.val = k.val; rw [(map3 t).2]; omega
  show (broadcastInDim S1x1024 ![1] bcast_S1024_S1x1024_1 (aG m c) : FVec Ideal S1x1024 .f32) (((cfg0.win 3).blk t).view.emb (ix2 0 k : S1x1024.Idx) : S1x1024.Idx) = _
  rw [e]
  pointwise

/-- A point's new activations are the reference's. -/
theorem sum_eq (t : Fin cfg0.N) (a : Fin 512) (b : Fin 1024) :
    k0_pay1 (F := Ideal) (iblk m c 0 t) (iblk m c 1 t) (iblk m c 2 t) (ix2 a b) = val_main_v3 (F := Ideal) (aX m c) (aY m c) (aH m c) (ix2 (row t a) b) := by
  rw [ref_sum_at]
  refine (sum_at _ _ _ a b).trans ?_
  exact congrArg₂ (fun x y : EReal => x + y) (read2 m c t a b) (Finset.sum_congr rfl fun k _ => congrArg₂ (fun x y : EReal => x * y) (read0 m c t a k) (read1 m c t k b))

theorem map4 : ∀ t : Fin cfg0.N, (win0_4.index t 0 = t.val ∧ win0_4.index t 1 = 0) ∧ (cfg0.win 4).flush t = true :=
  (by decide +kernel : ∀ t : Fin grid0.N, (win0_4.index t 0 = t.val ∧ win0_4.index t 1 = 0) ∧ (cfg0.win 4).flush t = true)

/-- The new activations: a point's block is the reference's. -/
theorem block_sum (t : Fin cfg0.N) (a : Fin 512) (b : Fin 1024) :
    (((dats m 0 c).after 4 t : Vec Ideal S512x1024 .f32) (ix2 a b) : EReal) = val_main_v3 (F := Ideal) (aX m c) (aY m c) (aH m c) (ix2 (row t a) b) := by
  rw [after0_4]
  frame_out
  exact sum_eq m c t a b

/-- So every point leaves its block of the reference. -/
theorem flushed_sum (t : Fin cfg0.N) : (dats m 0 c).flushed 4 t = ((cfg0.win 4).blk t).view.read (Elt Ideal) (val_main_v3 (F := Ideal) (aX m c) (aY m c) (aH m c)) := by
  refine Eq.trans (b := ((dats m 0 c).after 4 t : FVec Ideal S512x1024 .f32)) ?_ ?_
  · show (cfg0.win 4).cut (grid0.coords t) ((dats m 0 c).after 4 t) = _
    rfl
  · funext i
    obtain ⟨a, b, rfl⟩ : ∃ (a : Fin 512) (b : Fin 1024), i = (ix2 a b : S512x1024.Idx) := ⟨i 0, i 1, ValueIdx.eq_ix2 i⟩
    rw [View.read_apply]
    refine (block_sum m c t a b).trans (congrArg (val_main_v3 (F := Ideal) (aX m c) (aY m c) (aH m c)) ?_)
    funext d
    apply Fin.ext
    match d with
    | ⟨0, _⟩ => show 512 * (t.val) + a.val = win0_4.index t 0 * 512 + 1 * a.val; rw [(map4 t).1.1]; omega
    | ⟨1, _⟩ => show b.val = win0_4.index t 1 * 1024 + 1 * b.val; rw [(map4 t).1.2]; omega

/-- And all of it is written. -/
theorem final_sum : (dats m 0 c).arrAt 4 cfg0.N = val_main_v3 (F := Ideal) (aX m c) (aY m c) (aH m c) :=
  (dats m 0 c).arrAt_eq_of_cover 4 _ (fun t _ => flushed_sum m c t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, (map4 t).2, ?_⟩
    show i ∈ ((View.whole main_v1_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; rw [(map4 t).1.1]; omega
    | ⟨1, _⟩ => show win0_4.index t 1 * 1024 ≤ (i 1 : Nat) ∧ (i 1 : Nat) < win0_4.index t 1 * 1024 + 1024; rw [(map4 t).1.2]; omega

theorem map5 : ∀ t : Fin cfg0.N, (win0_5.index t 0 = t.val ∧ win0_5.index t 1 = 0) ∧ (cfg0.win 5).flush t = true :=
  (by decide +kernel : ∀ t : Fin grid0.N, (win0_5.index t 0 = t.val ∧ win0_5.index t 1 = 0) ∧ (cfg0.win 5).flush t = true)

/-- The normalised activations: a point's block is the reference's. -/
theorem block_unit (t : Fin cfg0.N) (a : Fin 512) (b : Fin 1024) :
    (((dats m 0 c).after 5 t : Vec Ideal S512x1024 .bf16) (ix2 a b) : EReal) = val_main_v17 (F := Ideal) (aX m c) (aY m c) (aH m c) (aG m c) (ix2 (row t a) b) := by
  rw [after0_5]
  frame_out
  rw [ref_unit_at]
  refine (unit_at _ _ _ _ a b).trans ?_
  exact congrArg₂ (fun x y : EReal => x * y) (congrArg₂ (fun x y : EReal => x * y) (sum_eq m c t a b) (congrArg inv (funext fun k => sum_eq m c t a k))) (read3 m c t b)

/-- So every point leaves its block of the reference. -/
theorem flushed_unit (t : Fin cfg0.N) : (dats m 0 c).flushed 5 t = ((cfg0.win 5).blk t).view.read (Elt Ideal) (val_main_v17 (F := Ideal) (aX m c) (aY m c) (aH m c) (aG m c)) := by
  refine Eq.trans (b := ((dats m 0 c).after 5 t : FVec Ideal S512x1024 .bf16)) ?_ ?_
  · show (cfg0.win 5).cut (grid0.coords t) ((dats m 0 c).after 5 t) = _
    rfl
  · funext i
    obtain ⟨a, b, rfl⟩ : ∃ (a : Fin 512) (b : Fin 1024), i = (ix2 a b : S512x1024.Idx) := ⟨i 0, i 1, ValueIdx.eq_ix2 i⟩
    rw [View.read_apply]
    refine (block_unit m c t a b).trans (congrArg (val_main_v17 (F := Ideal) (aX m c) (aY m c) (aH m c) (aG m c)) ?_)
    funext d
    apply Fin.ext
    match d with
    | ⟨0, _⟩ => show 512 * (t.val) + a.val = win0_5.index t 0 * 512 + 1 * a.val; rw [(map5 t).1.1]; omega
    | ⟨1, _⟩ => show b.val = win0_5.index t 1 * 1024 + 1 * b.val; rw [(map5 t).1.2]; omega

/-- And all of it is written. -/
theorem final_unit : (dats m 0 c).arrAt 5 cfg0.N = val_main_v17 (F := Ideal) (aX m c) (aY m c) (aH m c) (aG m c) :=
  (dats m 0 c).arrAt_eq_of_cover 5 _ (fun t _ => flushed_unit m c t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, (map5 t).2, ?_⟩
    show i ∈ ((View.whole main_v1_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(map5 t).1.1]; omega
    | ⟨1, _⟩ => show win0_5.index t 1 * 1024 ≤ (i 1 : Nat) ∧ (i 1 : Nat) < win0_5.index t 1 * 1024 + 1024; rw [(map5 t).1.2]; omega

/-- The two programs agree. -/
theorem agree : Cert.algebraic_OutIdeal_OutRefIdeal := by
  intro m g m' g' _ hargs
  refine ⟨fun c => val_main_v3 (F := Ideal) (aX m c) (aY m c) (aH m c), fun c => val_main_v17 (F := Ideal) (aX m c) (aY m c) (aH m c) (aG m c), ?_, ?_⟩
  · refine (θ_run defs _ _).mono (fun r h c => ?_) (Cert.OutIdeal.Value.run_blocks m g)
    exact ⟨(h c).1.trans (final_sum m c), (h c).2.1.trans (final_unit m c), (h c).2.2⟩
  · refine (θ_run Cert.OutRefIdeal.defs _ _).mono (fun r h c => ?_) (Cert.OutRefIdeal.Value.run m' g')
    obtain ⟨a0, a1, a2, a3⟩ := hargs c
    refine ⟨(h c).1.trans ((Cert.OutRefIdeal.Read.val_main_v3_eq _ _ _).trans ?_), (h c).2.1.trans ((Cert.OutRefIdeal.Read.val_main_v17_eq _ _ _ _).trans ?_), (h c).2.2⟩
    · rw [a0, a1, a2]
    · rw [a0, a1, a2, a3]

end Cert.OutIdeal.Walk

end
-- ==== Proof.PgValue.lean ====
module

public import proofs.«01_k».proof.Defs
public import proofs.«01_k».proof.Proof.Gen.PgIdeal.Value
public import proofs.«01_k».proof.Proof.Gen.PgRefIdeal.Run
public import proofs.«01_k».proof.Proof.Gen.PgRefIdeal.Read
public import Idealize.ShloMosaic.Lib.Pipeline.ValueKit
public import proofs.«01_k».proof.Proof.Reals

@[expose] public section

set_option maxRecDepth 65536

noncomputable section

/-!
# The gate of the per-layer embedding

The kernel multiplies 512 rows at a time by the whole weight, and adds to the activations the embedding times the logistic function of
the product and a bias; the reference does so to all the rows.
-/

namespace Cert.PgIdeal.Walk

open Cert.PgIdeal Cert.PgIdeal.Gen
open Idealize.ShloMosaic Idealize.ShloMosaic.TcCoe Idealize.SL.Sem
open Idealize.ShloMosaic.Pipeline (Dat)
open Cert.PgRefIdeal.Read (val_main_v2 val_main_v13)

/-- The sum an element of the result is: the activation, and the embedding times the logistic function of the product and the bias. -/
def joined (d b p h : EReal) : EReal := h + Ideal.logistic (d + b) * p

/-- The tile's product at an element. -/
theorem prod_at (x : Vec Ideal S512x1024 .bf16) (y : Vec Ideal S1024x1024 .bf16) (a : Fin 512) (b : Fin 1024) :
    k0_pay1 x y (ix2 a b) = ∑ k : Fin 1024, (x (ix2 a k) : EReal) * (y (ix2 k b) : EReal) := by
  pointwise [k0_pay1]

/-- The tile's new activations at an element. -/
theorem sum_at (x : Vec Ideal S512x1024 .bf16) (y : Vec Ideal S1024x1024 .bf16) (p h : Vec Ideal S512x1024 .f32) (g : Vec Ideal S1x1024 .f32) (a : Fin 512) (b : Fin 1024) :
    k0_pay2 x y p h g (ix2 a b) = joined (k0_pay1 x y (ix2 a b)) (g (ix2 0 b)) (p (ix2 a b)) (h (ix2 a b)) := by
  unfold k0_pay2
  generalize k0_pay1 (F := Ideal) x y = D
  unfold joined
  pointwise

/-- The reference's product at an element. -/
theorem ref_prod_at (A : FVec Ideal S8192x1024 .bf16) (B : FVec Ideal S1024x1024 .bf16) (i : Fin 8192) (j : Fin 1024) :
    val_main_v2 (F := Ideal) A B (ix2 i j) = ∑ k : Fin 1024, (A (ix2 i k) : EReal) * (B (ix2 k j) : EReal) := by
  rw [Cert.PgRefIdeal.Read.val_main_v2_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

/-- The reference's new activations at an element. -/
theorem ref_sum_at (A : FVec Ideal S8192x1024 .bf16) (B : FVec Ideal S1024x1024 .bf16) (Q H : FVec Ideal S8192x1024 .f32) (G : FVec Ideal S1024 .f32) (i : Fin 8192) (j : Fin 1024) :
    val_main_v13 (F := Ideal) A B Q H G (ix2 i j) = joined (val_main_v2 (F := Ideal) A B (ix2 i j)) (G (ix1 j)) (Q (ix2 i j)) (H (ix2 i j)) := by
  have one : Ideal.ofBits .f32 0x3F800000#32 = 1 := Ideal.ofBits_one_f32
  have bias : Cert.PgRefIdeal.Read.val_main_v4 (F := Ideal) G (ix2 i j) = G (ix1 j) := by
    pointwise [Cert.PgRefIdeal.Read.val_main_v4, Cert.PgRefIdeal.Read.val_main_v3]
  unfold joined Ideal.logistic
  rw [← one, ← bias]
  rfl

variable (m : (ℓ : Loc nD τ sig) → Buf (Elt Ideal) ℓ) (c : Dev nD)

/-- The arguments on a device. -/
abbrev aX : FVec Ideal S8192x1024 .bf16 := m ((c : Thread nD τ).loc main_arg0)
abbrev aY : FVec Ideal S1024x1024 .bf16 := m ((c : Thread nD τ).loc main_arg1)
abbrev aP : FVec Ideal S8192x1024 .f32 := m ((c : Thread nD τ).loc main_arg2)
abbrev aH : FVec Ideal S8192x1024 .f32 := m ((c : Thread nD τ).loc main_arg3)
abbrev aG : FVec Ideal S1024 .f32 := m ((c : Thread nD τ).loc main_arg4)

/-- Where the rows of a point's group lie. -/
abbrev row (t : Fin cfg0.N) (a : Fin 512) : Fin 8192 := ⟨512 * (t.val) + a.val, by have := lt_of_lt_of_eq t.isLt N_0; omega⟩

theorem map0 : ∀ t : Fin cfg0.N, win0_0.index t 0 = t.val ∧ win0_0.index t 1 = 0 :=
  (by decide +kernel : ∀ t : Fin grid0.N, win0_0.index t 0 = t.val ∧ win0_0.index t 1 = 0)

theorem read0 (t : Fin cfg0.N) (a : Fin 512) (k : Fin 1024) : (iblk m c 0 t : Vec Ideal S512x1024 .bf16) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 512 + 1 * a.val = 512 * (t.val) + a.val; rw [(map0 t).1]; omega
  | ⟨1, _⟩ => show win0_0.index t 1 * 1024 + 1 * k.val = k.val; rw [(map0 t).2]; omega

theorem map1 : ∀ t : Fin cfg0.N, win0_1.index t 0 = 0 ∧ win0_1.index t 1 = 0 :=
  (by decide +kernel : ∀ t : Fin grid0.N, win0_1.index t 0 = 0 ∧ win0_1.index t 1 = 0)

theorem read1 (t : Fin cfg0.N) (a : Fin 1024) (k : Fin 1024) : (iblk m c 1 t : Vec Ideal S1024x1024 .bf16) (ix2 a k) = aY m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 1024 + 1 * a.val = a.val; rw [(map1 t).1]; omega
  | ⟨1, _⟩ => show win0_1.index t 1 * 1024 + 1 * k.val = k.val; rw [(map1 t).2]; omega

theorem map2 : ∀ t : Fin cfg0.N, win0_2.index t 0 = t.val ∧ win0_2.index t 1 = 0 :=
  (by decide +kernel : ∀ t : Fin grid0.N, win0_2.index t 0 = t.val ∧ win0_2.index t 1 = 0)

theorem read2 (t : Fin cfg0.N) (a : Fin 512) (k : Fin 1024) : (iblk m c 2 t : Vec Ideal S512x1024 .f32) (ix2 a k) = aP m c (ix2 (row t a) k) := by
  unfold iblk
  rw [View.read_apply]
  show V m c main_arg2 _ = _
  rw [V_main_arg2]
  show m (c.tc.loc main_arg2) _ = m (c.tc.loc main_arg2) _
  congr 1
  funext b
  apply Fin.ext
  match b with
  | ⟨0, _⟩ => show win0_2.index t 0 * 512 + 1 * a.val = 512 * (t.val) + a.val; rw [(map2 t).1]; omega
  | ⟨1, _⟩ => show win0_2.index t 1 * 1024 + 1 * k.val = k.val; rw [(map2 t).2]; omega

theorem map3 : ∀ t : Fin cfg0.N, win0_3.index t 0 = t.val ∧ win0_3.index t 1 = 0 :=
  (by decide +kernel : ∀ t : Fin grid0.N, win0_3.index t 0 = t.val ∧ win0_3.index t 1 = 0)

theorem read3 (t : Fin cfg0.N) (a : Fin 512) (k : Fin 1024) : (iblk m c 3 t : Vec Ideal S512x1024 .f32) (ix2 a k) = aH m c (ix2 (row t a) k) := by
  unfold iblk
  rw [View.read_apply]
  show V m c main_arg3 _ = _
  rw [V_main_arg3]
  show m (c.tc.loc main_arg3) _ = m (c.tc.loc main_arg3) _
  congr 1
  funext b
  apply Fin.ext
  match b with
  | ⟨0, _⟩ => show win0_3.index t 0 * 512 + 1 * a.val = 512 * (t.val) + a.val; rw [(map3 t).1]; omega
  | ⟨1, _⟩ => show win0_3.index t 1 * 1024 + 1 * k.val = k.val; rw [(map3 t).2]; omega

theorem map4 : ∀ t : Fin cfg0.N, win0_4.index t 0 = 0 ∧ win0_4.index t 1 = 0 :=
  (by decide +kernel : ∀ t : Fin grid0.N, win0_4.index t 0 = 0 ∧ win0_4.index t 1 = 0)

theorem V_gain : V m c main_v0 = (broadcastInDim S1x1024 ![1] bcast_S1024_S1x1024_1 (aG m c) : FVec Ideal S1x1024 .f32) := by
  unfold_abbrev_sides
  simp only [List.flatten_cons, List.flatten_nil, List.append_nil]
  after_results_simp

theorem read4 (t : Fin cfg0.N) (k : Fin 1024) : (iblk m c 4 t : Vec Ideal S1x1024 .f32) (ix2 0 k) = aG m c (ix1 k) := by
  unfold iblk
  rw [View.read_apply]
  show V m c main_v0 _ = _
  rw [V_gain]
  have e : (((cfg0.win 4).blk t).view.emb (ix2 0 k : S1x1024.Idx) : S1x1024.Idx) = ix2 0 k := by
    funext b
    apply Fin.ext
    match b with
    | ⟨0, _⟩ => show win0_4.index t 0 * 1 + 1 * 0 = 0; rw [(map4 t).1]
    | ⟨1, _⟩ => show win0_4.index t 1 * 1024 + 1 * k.val = k.val; rw [(map4 t).2]; omega
  show (broadcastInDim S1x1024 ![1] bcast_S1024_S1x1024_1 (aG m c) : FVec Ideal S1x1024 .f32) (((cfg0.win 4).blk t).view.emb (ix2 0 k : S1x1024.Idx) : S1x1024.Idx) = _
  rw [e]
  pointwise

/-- A point's product is the reference's. -/
theorem prod_eq (t : Fin cfg0.N) (a : Fin 512) (b : Fin 1024) :
    k0_pay1 (F := Ideal) (iblk m c 0 t) (iblk m c 1 t) (ix2 a b) = val_main_v2 (F := Ideal) (aX m c) (aY m c) (ix2 (row t a) b) := by
  rw [ref_prod_at]
  refine (prod_at _ _ a b).trans ?_
  exact Finset.sum_congr rfl fun k _ => congrArg₂ (fun x y : EReal => x * y) (read0 m c t a k) (read1 m c t k b)

theorem map5 : ∀ t : Fin cfg0.N, (win0_5.index t 0 = t.val ∧ win0_5.index t 1 = 0) ∧ (cfg0.win 5).flush t = true :=
  (by decide +kernel : ∀ t : Fin grid0.N, (win0_5.index t 0 = t.val ∧ win0_5.index t 1 = 0) ∧ (cfg0.win 5).flush t = true)

/-- The new activations: a point's block is the reference's. -/
theorem block_sum (t : Fin cfg0.N) (a : Fin 512) (b : Fin 1024) :
    (((dats m 0 c).after 5 t : Vec Ideal S512x1024 .f32) (ix2 a b) : EReal) = val_main_v13 (F := Ideal) (aX m c) (aY m c) (aP m c) (aH m c) (aG m c) (ix2 (row t a) b) := by
  rw [after0_5]
  frame_out
  refine (sum_at _ _ _ _ _ a b).trans (Eq.trans ?_ (ref_sum_at (aX m c) (aY m c) (aP m c) (aH m c) (aG m c) (row t a) b).symm)
  rw [prod_eq, read2, read3, read4]

/-- So every point leaves its block of the reference. -/
theorem flushed_sum (t : Fin cfg0.N) : (dats m 0 c).flushed 5 t = ((cfg0.win 5).blk t).view.read (Elt Ideal) (val_main_v13 (F := Ideal) (aX m c) (aY m c) (aP m c) (aH m c) (aG m c)) := by
  refine Eq.trans (b := ((dats m 0 c).after 5 t : FVec Ideal S512x1024 .f32)) ?_ ?_
  · show (cfg0.win 5).cut (grid0.coords t) ((dats m 0 c).after 5 t) = _
    rfl
  · funext i
    obtain ⟨a, b, rfl⟩ : ∃ (a : Fin 512) (b : Fin 1024), i = (ix2 a b : S512x1024.Idx) := ⟨i 0, i 1, ValueIdx.eq_ix2 i⟩
    rw [View.read_apply]
    refine (block_sum m c t a b).trans (congrArg (val_main_v13 (F := Ideal) (aX m c) (aY m c) (aP m c) (aH m c) (aG m c)) ?_)
    funext d
    apply Fin.ext
    match d with
    | ⟨0, _⟩ => show 512 * (t.val) + a.val = win0_5.index t 0 * 512 + 1 * a.val; rw [(map5 t).1.1]; omega
    | ⟨1, _⟩ => show b.val = win0_5.index t 1 * 1024 + 1 * b.val; rw [(map5 t).1.2]; omega

/-- And all of it is written. -/
theorem final_sum : (dats m 0 c).arrAt 5 cfg0.N = val_main_v13 (F := Ideal) (aX m c) (aY m c) (aP m c) (aH m c) (aG m c) :=
  (dats m 0 c).arrAt_eq_of_cover 5 _ (fun t _ => flushed_sum m c t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, (map5 t).2, ?_⟩
    show i ∈ ((View.whole main_v1_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(map5 t).1.1]; omega
    | ⟨1, _⟩ => show win0_5.index t 1 * 1024 ≤ (i 1 : Nat) ∧ (i 1 : Nat) < win0_5.index t 1 * 1024 + 1024; rw [(map5 t).1.2]; omega

theorem map6 : ∀ t : Fin cfg0.N, (win0_6.index t 0 = t.val ∧ win0_6.index t 1 = 0) ∧ (cfg0.win 6).flush t = true :=
  (by decide +kernel : ∀ t : Fin grid0.N, (win0_6.index t 0 = t.val ∧ win0_6.index t 1 = 0) ∧ (cfg0.win 6).flush t = true)

/-- The product: a point's block is the reference's. -/
theorem block_prod (t : Fin cfg0.N) (a : Fin 512) (b : Fin 1024) :
    (((dats m 0 c).after 6 t : Vec Ideal S512x1024 .f32) (ix2 a b) : EReal) = val_main_v2 (F := Ideal) (aX m c) (aY m c) (ix2 (row t a) b) := by
  rw [after0_6]
  frame_out
  exact prod_eq m c t a b

/-- So every point leaves its block of the reference. -/
theorem flushed_prod (t : Fin cfg0.N) : (dats m 0 c).flushed 6 t = ((cfg0.win 6).blk t).view.read (Elt Ideal) (val_main_v2 (F := Ideal) (aX m c) (aY m c)) := by
  refine Eq.trans (b := ((dats m 0 c).after 6 t : FVec Ideal S512x1024 .f32)) ?_ ?_
  · show (cfg0.win 6).cut (grid0.coords t) ((dats m 0 c).after 6 t) = _
    rfl
  · funext i
    obtain ⟨a, b, rfl⟩ : ∃ (a : Fin 512) (b : Fin 1024), i = (ix2 a b : S512x1024.Idx) := ⟨i 0, i 1, ValueIdx.eq_ix2 i⟩
    rw [View.read_apply]
    refine (block_prod m c t a b).trans (congrArg (val_main_v2 (F := Ideal) (aX m c) (aY m c)) ?_)
    funext d
    apply Fin.ext
    match d with
    | ⟨0, _⟩ => show 512 * (t.val) + a.val = win0_6.index t 0 * 512 + 1 * a.val; rw [(map6 t).1.1]; omega
    | ⟨1, _⟩ => show b.val = win0_6.index t 1 * 1024 + 1 * b.val; rw [(map6 t).1.2]; omega

/-- And all of it is written. -/
theorem final_prod : (dats m 0 c).arrAt 6 cfg0.N = val_main_v2 (F := Ideal) (aX m c) (aY m c) :=
  (dats m 0 c).arrAt_eq_of_cover 6 _ (fun t _ => flushed_prod m c t) fun i => by
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, (map6 t).2, ?_⟩
    show i ∈ ((View.whole main_v1_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(map6 t).1.1]; omega
    | ⟨1, _⟩ => show win0_6.index t 1 * 1024 ≤ (i 1 : Nat) ∧ (i 1 : Nat) < win0_6.index t 1 * 1024 + 1024; rw [(map6 t).1.2]; omega

/-- The two programs agree. -/
theorem agree : Cert.algebraic_PgIdeal_PgRefIdeal := by
  intro m g m' g' _ hargs
  refine ⟨fun c => val_main_v13 (F := Ideal) (aX m c) (aY m c) (aP m c) (aH m c) (aG m c), fun c => val_main_v2 (F := Ideal) (aX m c) (aY m c), ?_, ?_⟩
  · refine (θ_run defs _ _).mono (fun r h c => ?_) (Cert.PgIdeal.Value.run_blocks m g)
    exact ⟨(h c).1.trans (final_sum m c), (h c).2.1.trans (final_prod m c), (h c).2.2⟩
  · refine (θ_run Cert.PgRefIdeal.defs _ _).mono (fun r h c => ?_) (Cert.PgRefIdeal.Value.run m' g')
    obtain ⟨a0, a1, a2, a3, a4⟩ := hargs c
    refine ⟨(h c).1.trans ((Cert.PgRefIdeal.Read.val_main_v13_eq _ _ _ _ _).trans ?_), (h c).2.1.trans ((Cert.PgRefIdeal.Read.val_main_v2_eq _ _).trans ?_), (h c).2.2⟩
    · rw [a0, a1, a2, a3, a4]
    · rw [a0, a1]

end Cert.PgIdeal.Walk

end
-- ==== Proof.DwppValue.lean ====
module

public import proofs.«01_k».proof.Defs
public import proofs.«01_k».proof.Proof.Gen.DwppIdeal.Value
public import proofs.«01_k».proof.Proof.Gen.DwppRefIdeal.Run
public import proofs.«01_k».proof.Proof.Gen.DwppRefIdeal.Read
public import Idealize.ShloMosaic.Lib.Pipeline.ValueKit
public import Idealize.ShloMosaic.Lib.Pipeline.ReadBack

@[expose] public section

set_option maxRecDepth 65536

noncomputable section

/-!
# The gradient of the weight of the per-layer embedding

The kernel makes the product of one array, turned, with another: the gradient is one block, and each block is added up
over four groups of 2048 rows in a scratch, which the last group's point writes out. The reference's element is the sum over all 8192 rows.
-/

namespace Cert.DwppIdeal.Walk

open Cert.DwppIdeal Cert.DwppIdeal.Gen
open Idealize.ShloMosaic Idealize.ShloMosaic.TcCoe Idealize.SL.Sem
open Idealize.ShloMosaic.Pipeline (Dat)
open Cert.DwppRefIdeal.Read (val_main_v4)

/-- One group's product at an element. -/
theorem prod_at (x : Vec Ideal S2048x256 .f32) (y : Vec Ideal S2048x1024 .bf16) (a : Fin 256) (b : Fin 1024) :
    k0_pay1 x y (ix2 a b) = ∑ k : Fin 2048, (x (ix2 k a) : EReal) * (y (ix2 k b) : EReal) := by
  pointwise [k0_pay1]

/-- What the first group leaves in the scratch. -/
theorem pay2_eq (x : Vec Ideal S2048x256 .f32) (y : Vec Ideal S2048x1024 .bf16) (i : S256x1024.Idx) :
    (k0_pay2 x y i : EReal) = 0 + k0_pay1 x y i := by
  rw [zero_add]
  unfold k0_pay2
  rw [shapeCast_self]

/-- What a later group leaves in the scratch. -/
theorem pay3_eq (x : Vec Ideal S2048x256 .f32) (y : Vec Ideal S2048x1024 .bf16) (s : Vec Ideal S256x1024 .f32) (i : S256x1024.Idx) :
    (k0_pay3 x y s i : EReal) = (s i : EReal) + k0_pay1 x y i := by
  unfold k0_pay3
  rw [shapeCast_self]
  rfl

/-- The reference at an element. -/
theorem ref_at (A : FVec Ideal S8192x256 .f32) (B : FVec Ideal S8192x1024 .bf16) (i : Fin 256) (j : Fin 1024) :
    val_main_v4 (F := Ideal) A B (ix2 i j) = ∑ k : Fin 8192, (A (ix2 k i) : EReal) * (B (ix2 k j) : EReal) := by
  rw [Cert.DwppRefIdeal.Read.val_main_v4_apply, Cert.DwppRefIdeal.Read.val_main_v3_apply]
  refine Finset.sum_congr rfl fun k _ => ?_
  rw [mul_comm]; exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x256 .f32 := m ((c : Thread nD τ).loc main_arg0)
abbrev aY : FVec Ideal S8192x1024 .bf16 := m ((c : Thread nD τ).loc main_arg1)

/-- The blocks that the windows take at a point. -/
theorem maps : ∀ t : Fin cfg0.N, (win0_0.index t 0 = t.val % 4 ∧ win0_0.index t 1 = 0) ∧ (win0_1.index t 0 = t.val % 4 ∧ win0_1.index t 1 = 0) ∧ (win0_2.index t 0 = 0 ∧ win0_2.index t 1 = 0) ∧ 0 < 1 ∧ 0 < 1 :=
  (by decide +kernel : ∀ t : Fin grid0.N, (win0_0.index t 0 = t.val % 4 ∧ win0_0.index t 1 = 0) ∧ (win0_1.index t 0 = t.val % 4 ∧ win0_1.index t 1 = 0) ∧ (win0_2.index t 0 = 0 ∧ win0_2.index t 1 = 0) ∧ 0 < 1 ∧ 0 < 1)

/-- Where a row of a point's group lies, and where the rows and the columns of its block of the gradient lie. -/
abbrev row (t : Fin cfg0.N) (k : Fin 2048) : Fin 8192 := ⟨2048 * (t.val % 4) + k.val, by omega⟩
abbrev left (t : Fin cfg0.N) (a : Fin 256) : Fin 256 := ⟨256 * (0) + a.val, by have := (maps t).2.2.2.1; omega⟩
abbrev right (t : Fin cfg0.N) (b : Fin 1024) : Fin 1024 := ⟨1024 * (0) + b.val, by have := (maps t).2.2.2.2; omega⟩

theorem read0 (t : Fin cfg0.N) (k : Fin 2048) (a : Fin 256) : (iblk m c 0 t : Vec Ideal S2048x256 .f32) (ix2 k a) = aX m c (ix2 (row t k) (left t a)) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 2048 + 1 * k.val = 2048 * (t.val % 4) + k.val; rw [(maps t).1.1]; omega
  | ⟨1, _⟩ => show win0_0.index t 1 * 256 + 1 * a.val = 256 * (0) + a.val; rw [(maps t).1.2]; omega

theorem read1 (t : Fin cfg0.N) (k : Fin 2048) (a : Fin 1024) : (iblk m c 1 t : Vec Ideal S2048x1024 .bf16) (ix2 k a) = aY m c (ix2 (row t k) (right t a)) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 2048 + 1 * k.val = 2048 * (t.val % 4) + k.val; rw [(maps t).2.1.1]; omega
  | ⟨1, _⟩ => show win0_1.index t 1 * 1024 + 1 * a.val = 1024 * (0) + a.val; rw [(maps t).2.1.2]; omega

/-- A point's share of an element of its block. -/
def share (t : Fin cfg0.N) (i : S256x1024.Idx) : EReal := k0_pay1 (iblk m c 0 t : Vec Ideal S2048x256 .f32) (iblk m c 1 t : Vec Ideal S2048x1024 .bf16) i

theorem share_at (t : Fin cfg0.N) (a : Fin 256) (b : Fin 1024) :
    share m c t (ix2 a b) = ∑ k : Fin 2048, (aX m c (ix2 (row t k) (left t a)) : EReal) * (aY m c (ix2 (row t k) (right t b)) : EReal) := by
  unfold share
  rw [prod_at]
  exact Finset.sum_congr rfl fun k _ => congrArg₂ (fun x y : EReal => x * y) (read0 m c t k a) (read1 m c t k b)

/-- The scratch after a point. -/
def held (n : Nat) (h : n < cfg0.N) (i : S256x1024.Idx) : EReal := (outsAt0 m c n h).2 i

/-- The first group's point starts the sum. -/
theorem held_first (t : Fin cfg0.N) (h : t.val % 4 = 0) (i : S256x1024.Idx) : held m c t.val t.isLt i = 0 + share m c t i := by
  unfold held share
  rw [outsAt0_A m c t h (by have := lt_of_lt_of_eq t.isLt N_0; omega) (by omega)]
  frame_out
  exact pay2_eq _ _ i

/-- Every later point adds its share. -/
theorem held_next (t : Fin cfg0.N) (h : ¬t.val % 4 = 0) (i : S256x1024.Idx) :
    held m c t.val t.isLt i = held m c (t.val - 1) (Nat.lt_of_le_of_lt (Nat.sub_le _ _) t.isLt) i + share m c t i := by
  unfold held share
  by_cases h3 : t.val % 4 = 3
  · rw [outsAt0_C m c t h (by omega) h3]
    frame_out
    simp only [read_unread_whole]
    exact pay3_eq _ _ _ i
  · rw [outsAt0_B m c t h (by omega) h3]
    frame_out
    simp only [read_unread_whole]
    exact pay3_eq _ _ _ i

/-- The last group's point writes the scratch out. -/
theorem out_held (t : Fin cfg0.N) (h : t.val % 4 = 3) (i : S256x1024.Idx) : ((outsAt0 m c t.val t.isLt).1 i : EReal) = held m c t.val t.isLt i := by
  rw [held_next m c t (by omega) i]
  unfold held share
  rw [outsAt0_C m c t (by omega) (by omega) h]
  frame_out
  simp only [read_unread_whole]
  exact pay3_eq _ _ _ i

/-- The block written out is the reference's block. -/
theorem block (t : Fin cfg0.N) (h : t.val % 4 = 3) (a : Fin 256) (b : Fin 1024) :
    ((outsAt0 m c t.val t.isLt).1 (ix2 a b) : EReal) = val_main_v4 (F := Ideal) (aX m c) (aY m c) (ix2 (left t a) (right t b)) := by
  rw [out_held m c t h, ref_at]
  have key := Pipeline.eq_sum_fin_of_reset_step_apply_of_flush (fun n h => held m c n h) 4 (fun _ => (0 : EReal)) (share m c)
    (held_first m c) (held_next m c) t h (ix2 a b)
  refine key.trans ?_
  rw [zero_add]
  have hP := lt_of_lt_of_eq t.isLt N_0
  refine (Finset.sum_congr rfl fun s _ => share_at m c _ a b).trans ?_
  refine Fin.sum_mul_add_congr (S := 4) (n := 2048) fun s k hl => ?_
  refine congrArg₂ (fun x y : EReal => x * y) (congrArg (aX m c) (congrArg₂ ix2 (Fin.ext ?_) (Fin.ext ?_))) (congrArg (aY m c) (congrArg₂ ix2 (Fin.ext ?_) (Fin.ext ?_)))
  all_goals dsimp only
  all_goals omega

/-- So every point that writes leaves its block of the reference. -/
theorem flushed_block (t : Fin cfg0.N) (h : t.val % 4 = 3) : (dats m 0 c).flushed 2 t = ((cfg0.win 2).blk t).view.read (Elt Ideal) (val_main_v4 (F := Ideal) (aX m c) (aY m c)) := by
  refine Eq.trans (b := ((outsAt0 m c t.val t.isLt).1 : FVec Ideal S256x1024 .f32)) ?_ ?_
  · show (cfg0.win 2).cut (grid0.coords t) ((dats m 0 c).after 2 t) = _
    rw [after0_2]
    rfl
  · funext i
    obtain ⟨a, b, rfl⟩ : ∃ (a : Fin 256) (b : Fin 1024), i = (ix2 a b : S256x1024.Idx) := ⟨i 0, i 1, ValueIdx.eq_ix2 i⟩
    rw [View.read_apply]
    refine (block m c t h a b).trans (congrArg (val_main_v4 (F := Ideal) (aX m c) (aY m c)) ?_)
    funext d
    apply Fin.ext
    match d with
    | ⟨0, _⟩ => show 256 * (0) + a.val = win0_2.index t 0 * 256 + 1 * a.val; rw [(maps t).2.2.1.1]; omega
    | ⟨1, _⟩ => show 1024 * (0) + b.val = win0_2.index t 1 * 1024 + 1 * b.val; rw [(maps t).2.2.1.2]; omega

/-- The gradient is all written. -/
theorem final : (dats m 0 c).arrAt 2 cfg0.N = val_main_v4 (F := Ideal) (aX m c) (aY m c) :=
  (dats m 0 c).arrAt_eq_of_cover 2 _ (fun t hf => flushed_block m c t ((flush0_2 t).mp hf)) fun i => by
    have h0 : (i 0 : Nat) < 256 := (i 0).isLt
    have h1 : (i 1 : Nat) < 1024 := (i 1).isLt
    obtain ⟨t, ht⟩ : ∃ t : Fin cfg0.N, t.val = 3 := ⟨⟨3, lt_of_lt_of_eq (by omega) N_0.symm⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [(maps t).2.2.1.1]; omega
    | ⟨1, _⟩ => show win0_2.index t 1 * 1024 ≤ (i 1 : Nat) ∧ (i 1 : Nat) < win0_2.index t 1 * 1024 + 1024; rw [(maps t).2.2.1.2]; omega

/-- The two programs agree. -/
theorem agree : Cert.algebraic_DwppIdeal_DwppRefIdeal := by
  intro m g m' g' _ hargs
  refine ⟨fun c => val_main_v4 (F := Ideal) (aX m c) (aY m c), ?_, ?_⟩
  · refine (θ_run defs _ _).mono (fun r h c => ?_) (Cert.DwppIdeal.Value.run_blocks m g)
    exact ⟨(h c).1.trans (final m c), (h c).2⟩
  · refine (θ_run Cert.DwppRefIdeal.defs _ _).mono (fun r h c => ?_) (Cert.DwppRefIdeal.Value.run m' g')
    obtain ⟨a0, a1⟩ := hargs c
    refine ⟨(h c).1.trans ((Cert.DwppRefIdeal.Read.val_main_v4_eq _ _).trans ?_), (h c).2⟩
    rw [a0, a1]

end Cert.DwppIdeal.Walk

end
-- ==== Proof.PpValue.lean ====
module

public import proofs.«01_k».proof.Defs
public import proofs.«01_k».proof.Proof.Gen.PpIdeal.Value
public import proofs.«01_k».proof.Proof.Gen.PpRefIdeal.Run
public import proofs.«01_k».proof.Proof.Gen.PpRefIdeal.Read
public import Idealize.ShloMosaic.Lib.Pipeline.ValueKit

@[expose] public section

set_option maxRecDepth 65536

noncomputable section

/-!
# The projection of the per-layer embedding

The kernel multiplies 1024 rows of the embedding at a time by the weight; the reference multiplies all the rows.
-/

namespace Cert.PpIdeal.Walk

open Cert.PpIdeal Cert.PpIdeal.Gen
open Idealize.ShloMosaic Idealize.ShloMosaic.TcCoe Idealize.SL.Sem
open Idealize.ShloMosaic.Pipeline (Dat)
open Cert.PpRefIdeal.Read (val_main_v1)

/-- The tile's product at an element. -/
theorem prod_at (x : Vec Ideal S1024x256 .f32) (y : Vec Ideal S256x1024 .bf16) (a : Fin 1024) (b : Fin 1024) :
    k0_pay1 x y (ix2 a b) = ∑ k : Fin 256, (x (ix2 a k) : EReal) * (y (ix2 k b) : EReal) := by
  pointwise [k0_pay1]

/-- The reference at an element. -/
theorem ref_at (A : FVec Ideal S8192x256 .f32) (B : FVec Ideal S256x1024 .bf16) (i : Fin 8192) (j : Fin 1024) :
    val_main_v1 (F := Ideal) A B (ix2 i j) = ∑ k : Fin 256, (A (ix2 i k) : EReal) * (B (ix2 k j) : EReal) := by
  rw [Cert.PpRefIdeal.Read.val_main_v1_apply]
  refine Finset.sum_congr rfl fun k _ => ?_
  exact congrArg₂ (fun x y : EReal => x * y)
    (congrArg A (funext fun a => by match a with | ⟨0, _⟩ => rfl | ⟨1, _⟩ => rfl))
    (congrArg B (funext fun a => by match a with | ⟨0, _⟩ => rfl | ⟨1, _⟩ => rfl))

variable (m : (ℓ : Loc nD τ sig) → Buf (Elt Ideal) ℓ) (c : Dev nD)

/-- The arguments on a device. -/
abbrev aX : FVec Ideal S8192x256 .f32 := m ((c : Thread nD τ).loc main_arg0)
abbrev aY : FVec Ideal S256x1024 .bf16 := m ((c : Thread nD τ).loc main_arg1)

/-- Where the rows of a point's group lie. -/
abbrev row (t : Fin cfg0.N) (a : Fin 1024) : Fin 8192 := ⟨1024 * (t.val) + a.val, by have := lt_of_lt_of_eq t.isLt N_0; omega⟩

theorem map0 : ∀ t : Fin cfg0.N, win0_0.index t 0 = t.val ∧ win0_0.index t 1 = 0 :=
  (by decide +kernel : ∀ t : Fin grid0.N, win0_0.index t 0 = t.val ∧ win0_0.index t 1 = 0)

theorem read0 (t : Fin cfg0.N) (a : Fin 1024) (k : Fin 256) : (iblk m c 0 t : Vec Ideal S1024x256 .f32) (ix2 a k) = aX m c (ix2 (row t a) k) := by
  unfold iblk
  rw [View.read_apply]
  show V m c main_arg0 _ = _
  rw [V_main_arg0]
  show m (c.tc.loc main_arg0) _ = m (c.tc.loc main_arg0) _
  congr 1
  funext b
  apply Fin.ext
  match b with
  | ⟨0, _⟩ => show win0_0.index t 0 * 1024 + 1 * a.val = 1024 * (t.val) + a.val; rw [(map0 t).1]; omega
  | ⟨1, _⟩ => show win0_0.index t 1 * 256 + 1 * k.val = k.val; rw [(map0 t).2]; omega

theorem map1 : ∀ t : Fin cfg0.N, win0_1.index t 0 = 0 ∧ win0_1.index t 1 = 0 :=
  (by decide +kernel : ∀ t : Fin grid0.N, win0_1.index t 0 = 0 ∧ win0_1.index t 1 = 0)

theorem read1 (t : Fin cfg0.N) (a : Fin 256) (k : Fin 1024) : (iblk m c 1 t : Vec Ideal S256x1024 .bf16) (ix2 a k) = aY m c (ix2 a k) := by
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t 0 * 256 + 1 * a.val = a.val; rw [(map1 t).1]; omega
  | ⟨1, _⟩ => show win0_1.index t 1 * 1024 + 1 * k.val = k.val; rw [(map1 t).2]; omega

theorem map2 : ∀ t : Fin cfg0.N, (win0_2.index t 0 = t.val ∧ win0_2.index t 1 = 0) ∧ (cfg0.win 2).flush t = true :=
  (by decide +kernel : ∀ t : Fin grid0.N, (win0_2.index t 0 = t.val ∧ win0_2.index t 1 = 0) ∧ (cfg0.win 2).flush t = true)

/-- The product: a point's block is the reference's. -/
theorem block_prod (t : Fin cfg0.N) (a : Fin 1024) (b : Fin 1024) :
    (((dats m 0 c).after 2 t : Vec Ideal S1024x1024 .f32) (ix2 a b) : EReal) = val_main_v1 (F := Ideal) (aX m c) (aY m c) (ix2 (row t a) b) := by
  rw [after0_2]
  frame_out
  rw [ref_at]
  refine (prod_at _ _ a b).trans ?_
  exact Finset.sum_congr rfl fun k _ => congrArg₂ (fun x y : EReal => x * y) (read0 m c t a k) (read1 m c t k b)

/-- So every point leaves its block of the reference. -/
theorem flushed_prod (t : Fin cfg0.N) : (dats m 0 c).flushed 2 t = ((cfg0.win 2).blk t).view.read (Elt Ideal) (val_main_v1 (F := Ideal) (aX m c) (aY m c)) := by
  refine Eq.trans (b := ((dats m 0 c).after 2 t : FVec Ideal S1024x1024 .f32)) ?_ ?_
  · show (cfg0.win 2).cut (grid0.coords t) ((dats m 0 c).after 2 t) = _
    rfl
  · funext i
    obtain ⟨a, b, rfl⟩ : ∃ (a : Fin 1024) (b : Fin 1024), i = (ix2 a b : S1024x1024.Idx) := ⟨i 0, i 1, ValueIdx.eq_ix2 i⟩
    rw [View.read_apply]
    refine (block_prod m c t a b).trans (congrArg (val_main_v1 (F := Ideal) (aX m c) (aY m c)) ?_)
    funext d
    apply Fin.ext
    match d with
    | ⟨0, _⟩ => show 1024 * (t.val) + a.val = win0_2.index t 0 * 1024 + 1 * a.val; rw [(map2 t).1.1]; omega
    | ⟨1, _⟩ => show b.val = win0_2.index t 1 * 1024 + 1 * b.val; rw [(map2 t).1.2]; omega

/-- And all of it is written. -/
theorem final_prod : (dats m 0 c).arrAt 2 cfg0.N = val_main_v1 (F := Ideal) (aX m c) (aY m c) :=
  (dats m 0 c).arrAt_eq_of_cover 2 _ (fun t _ => flushed_prod m c t) fun i => by
    have h0 : (i 0 : Nat) < 8192 := (i 0).isLt
    have h1 : (i 1 : Nat) < 1024 := (i 1).isLt
    obtain ⟨t, ht⟩ : ∃ t : Fin cfg0.N, t.val = (i 0 : Nat) / 1024 := ⟨⟨(i 0 : Nat) / 1024, lt_of_lt_of_eq (by omega) N_0.symm⟩, rfl⟩
    refine ⟨t, (map2 t).2, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [(map2 t).1.1]; omega
    | ⟨1, _⟩ => show win0_2.index t 1 * 1024 ≤ (i 1 : Nat) ∧ (i 1 : Nat) < win0_2.index t 1 * 1024 + 1024; rw [(map2 t).1.2]; omega

/-- The two programs agree. -/
theorem agree : Cert.algebraic_PpIdeal_PpRefIdeal := by
  intro m g m' g' _ hargs
  refine ⟨fun c => val_main_v1 (F := Ideal) (aX m c) (aY m c), ?_, ?_⟩
  · refine (θ_run defs _ _).mono (fun r h c => ?_) (Cert.PpIdeal.Value.run_blocks m g)
    exact ⟨(h c).1.trans (final_prod m c), (h c).2⟩
  · refine (θ_run Cert.PpRefIdeal.defs _ _).mono (fun r h c => ?_) (Cert.PpRefIdeal.Value.run m' g')
    obtain ⟨a0, a1⟩ := hargs c
    refine ⟨(h c).1.trans ((Cert.PpRefIdeal.Read.val_main_v1_eq _ _).trans ?_), (h c).2⟩
    rw [a0, a1]

end Cert.PpIdeal.Walk

end
-- ==== Proof.Shifts.lean ====
module

public import Idealize.ShloMosaic.Lib.Pipeline.Value
public import Idealize.ShloMosaic.Lib.KernelVsHost
public import Idealize.ShloMosaic.Lib.WordCmp
public import Idealize.ShloMosaic.Lib.Pipeline.ValueKit

@[expose] public section

noncomputable section

/-!
# Sequences moved by a few rows

A sequence has 2048 rows. Moved by `d` rows, it is zero where it has no row.
-/

namespace Cert.Shifts

open Idealize.ShloMosaic Idealize.ShloMosaic.TcCoe Idealize.ShloMosaic.WordCmp

/-- A tile of a sequence: all its rows, and 128 columns. -/
abbrev Tile : Shape := ⟨2, ![2048, 128]⟩

/-- What a sequence has `d` rows before a row. -/
def before (d : Nat) (x : Fin 2048 → EReal) (t : Fin 2048) : EReal :=
  if d ≤ t.val then x ⟨t.val - d, Nat.lt_of_le_of_lt (Nat.sub_le _ _) t.isLt⟩ else 0

/-- What a sequence has `d` rows after a row. -/
def after (d : Nat) (x : Fin 2048 → EReal) (t : Fin 2048) : EReal :=
  if h : t.val + d < 2048 then x ⟨t.val + d, h⟩ else 0

theorem before_zero (x : Fin 2048 → EReal) (t : Fin 2048) : before 0 x t = x t := by
  unfold before
  rw [if_pos (Nat.zero_le _)]
  rfl

theorem after_zero (x : Fin 2048 → EReal) (t : Fin 2048) : after 0 x t = x t := by
  unfold after
  rw [dif_pos (show t.val + 0 < 2048 from t.isLt)]
  rfl

theorem pick_ofBool {α : Type} (q : Prop) [Decidable q] (a b : α) : Scalar.select (BitVec.ofBool (decide q)) a b = if q then a else b := by
  by_cases h : q <;> simp [h, Scalar.select]

/-- A tile turned by `n` rows, with zero in the first `n` rows, at an element. -/
theorem before_at (n : Nat) (hn : n < 2048) (x : FVec Ideal Tile .f32) (hi : Tile.Iotas .tc 32 [0]) (hr : Tile.Rotates 0 none) (t : Fin 2048) (l : Fin 128) :
    (select (cmpi .sge (iota .tc Tile 32 [0] hi) (broadcast Tile (BitVec.ofNat 32 n))) (dynamicRotate 0 (BitVec.ofNat 32 n) none x hr)
      (broadcast Tile (Scalar.ofBits .f32 0x00000000#32)) : FVec Ideal Tile .f32) (ix2 t l) = before n (fun s => x (ix2 s l)) t := by
  show Scalar.select (IntOp.cmpi .sge (BitVec.ofNat 32 (0 * 2048 + t.val)) (BitVec.ofNat 32 n)) (dynamicRotate 0 (BitVec.ofNat 32 n) none x hr (ix2 t l)) (Ideal.ofBits .f32 0x00000000#32) = _
  have ht := t.isLt
  rw [zero_mul, zero_add, cmpi_sge_ofNat (by omega) (by omega), pick_ofBool]
  unfold before
  by_cases h : n ≤ t.val
  · rw [if_pos h, if_pos h]
    refine dynamicRotate_apply 0 _ x hr _ _ fun b => ?_
    rw [BitVec.toNat_ofNat, Nat.mod_eq_of_lt (show n < 2 ^ 32 by omega)]
    match b with
    | ⟨0, _⟩ => show t.val - n = (t.val + 2048 - n % 2048) % 2048; omega
    | ⟨1, _⟩ => rfl
  · rw [if_neg h, if_neg h]
    exact Ideal.ofBits_zero_f32

/-- A tile turned by `2048 - n` rows, with zero in the last `n` rows, at an element. -/
theorem after_at (n d : Nat) (hn : n + d = 2048) (hd : 0 < d) (x : FVec Ideal Tile .f32) (hi : Tile.Iotas .tc 32 [0]) (hr : Tile.Rotates 0 none) (t : Fin 2048) (l : Fin 128) :
    (select (cmpi .slt (iota .tc Tile 32 [0] hi) (broadcast Tile (BitVec.ofNat 32 n))) (dynamicRotate 0 (BitVec.ofNat 32 n) none x hr)
      (broadcast Tile (Scalar.ofBits .f32 0x00000000#32)) : FVec Ideal Tile .f32) (ix2 t l) = after d (fun s => x (ix2 s l)) t := by
  show Scalar.select (IntOp.cmpi .slt (BitVec.ofNat 32 (0 * 2048 + t.val)) (BitVec.ofNat 32 n)) (dynamicRotate 0 (BitVec.ofNat 32 n) none x hr (ix2 t l)) (Ideal.ofBits .f32 0x00000000#32) = _
  have ht := t.isLt
  rw [zero_mul, zero_add, cmpi_slt_ofNat (by omega) (by omega), pick_ofBool]
  unfold after
  by_cases h : t.val + d < 2048
  · rw [if_pos (by omega), dif_pos h]
    refine dynamicRotate_apply 0 _ x hr _ _ fun b => ?_
    rw [BitVec.toNat_ofNat, Nat.mod_eq_of_lt (show n < 2 ^ 32 by omega)]
    match b with
    | ⟨0, _⟩ => show t.val + d = (t.val + 2048 - n % 2048) % 2048; omega
    | ⟨1, _⟩ => rfl
  · rw [if_neg (by omega), dif_neg h]
    exact Ideal.ofBits_zero_f32

/-- Three rows of zero before each sequence, at an element. -/
theorem padded_at (z : (⟨3, ![4, 3, 256]⟩ : Shape).Idx → EReal) (hz : ∀ i, z i = 0) (y : (⟨3, ![4, 2048, 256]⟩ : Shape).Idx → EReal)
    (h : Shape.Concatenates [(⟨3, ![4, 3, 256]⟩ : Shape), ⟨3, ![4, 2048, 256]⟩] ⟨3, ![4, 2051, 256]⟩ 1) (q : Fin 4) (k : Nat) (hk : k ≤ 3) (s : Fin 2048) (j : Fin 256) :
    concatenate ⟨3, ![4, 2051, 256]⟩ 1 [⟨_, z⟩, ⟨_, y⟩] h (ix3 q ⟨k + s.val, by omega⟩ j) = before (3 - k) (fun s => y (ix3 q s j)) s := by
  have hs := s.isLt
  unfold before
  by_cases hc : 3 - k ≤ s.val
  · rw [if_pos hc]
    refine concatenate_pair_apply_right 1 z y h _ rfl rfl _ (fun b hb => ?_) ?_
    · match b with
      | ⟨0, _⟩ => rfl
      | ⟨1, _⟩ => exact absurd rfl hb
      | ⟨2, _⟩ => rfl
    · show s.val - (3 - k) + 3 = k + s.val
      omega
  · rw [if_neg hc]
    refine (concatenate_pair_apply_left 1 z y h _ rfl (ix3 q ⟨k + s.val, by omega⟩ j) fun b => ?_).trans (hz _)
    match b with
    | ⟨0, _⟩ => rfl
    | ⟨1, _⟩ => rfl
    | ⟨2, _⟩ => rfl

end Cert.Shifts

end
-- ==== Proof.ConvValue.lean ====
module

public import proofs.«01_k».proof.Defs
public import proofs.«01_k».proof.Proof.Gen.ConvIdeal.Value
public import proofs.«01_k».proof.Proof.Gen.ConvRefIdeal.Run
public import proofs.«01_k».proof.Proof.Gen.ConvRefIdeal.Read
public import proofs.«01_k».proof.Proof.Shifts
public import Idealize.ShloMosaic.Lib.Pipeline.ValueKit

@[expose] public section

set_option maxRecDepth 65536

noncomputable section

/-!
# The convolution before the RG-LRU

The kernel takes one sequence and 128 columns at a time, and turns the tile by one, two and three rows; the reference
puts three rows of zero before each sequence, and takes four slices of it. The sums are the same up to their order.
-/

namespace Cert.ConvIdeal.Walk

open Cert.ConvIdeal Cert.ConvIdeal.Gen
open Idealize.ShloMosaic Idealize.ShloMosaic.TcCoe Idealize.SL.Sem
open Idealize.ShloMosaic.Pipeline (Dat)
open Cert.ConvRefIdeal.Read
open Cert.Shifts

/-- The tile from its moved copies. -/
def core (x : Vec Ideal S2048x128 .f32) (w : Vec Ideal S8x128 .f32) (b : Vec Ideal S1x128 .f32) (x3 x2 x1 : FVec Ideal S2048x128 .f32) : FVec Ideal S2048x128 .f32 :=
  addf (addf (addf (addf (broadcastTo S2048x128 b broadcasts_S1x128_S2048x128)
    (mulf (broadcastTo S2048x128 (extractStridedSlice S1x128 ![3, 0] w slices_S8x128_o3_0_S1x128) broadcasts_S1x128_S2048x128) x))
    (mulf (broadcastTo S2048x128 (extractStridedSlice S1x128 ![0, 0] w slices_S8x128_o0_0_S1x128) broadcasts_S1x128_S2048x128) x3))
    (mulf (broadcastTo S2048x128 (extractStridedSlice S1x128 ![1, 0] w slices_S8x128_o1_0_S1x128) broadcasts_S1x128_S2048x128) x2))
    (mulf (broadcastTo S2048x128 (extractStridedSlice S1x128 ![2, 0] w slices_S8x128_o2_0_S1x128) broadcasts_S1x128_S2048x128) x1)

theorem core_at (x : Vec Ideal S2048x128 .f32) (w : Vec Ideal S8x128 .f32) (b : Vec Ideal S1x128 .f32) (x3 x2 x1 : FVec Ideal S2048x128 .f32) (t : Fin 2048) (l : Fin 128) :
    (core x w b x3 x2 x1 (ix2 t l) : EReal) = ((((b (ix2 (0 : Fin 1) l) : EReal) + (w (ix2 (3 : Fin 8) l) : EReal) * (x (ix2 t l) : EReal))
      + (w (ix2 (0 : Fin 8) l) : EReal) * (x3 (ix2 t l) : EReal)) + (w (ix2 (1 : Fin 8) l) : EReal) * (x2 (ix2 t l) : EReal)) + (w (ix2 (2 : Fin 8) l) : EReal) * (x1 (ix2 t l) : EReal) := by
  pointwise [core]

/-- The sequence of a tile at a column. -/
abbrev lane (x : Vec Ideal S2048x128 .f32) (l : Fin 128) : Fin 2048 → EReal := fun s => x (ix2 s l)

/-- The tile at an element. -/
theorem tile_at (x : Vec Ideal S2048x128 .f32) (w : Vec Ideal S8x128 .f32) (b : Vec Ideal S1x128 .f32) (t : Fin 2048) (l : Fin 128) :
    (k0_pay1 x w b (ix2 t l) : EReal) = ((((b (ix2 (0 : Fin 1) l) : EReal) + (w (ix2 (3 : Fin 8) l) : EReal) * before 0 (lane x l) t)
      + (w (ix2 (0 : Fin 8) l) : EReal) * before 3 (lane x l) t) + (w (ix2 (1 : Fin 8) l) : EReal) * before 2 (lane x l) t) + (w (ix2 (2 : Fin 8) l) : EReal) * before 1 (lane x l) t := by
  refine (core_at x w b _ _ _ t l).trans ?_
  rw [before_zero]
  exact congrArg₂ (fun p q : EReal => p + q) (congrArg₂ (fun p q : EReal => p + q) (congrArg₂ (fun p q : EReal => p + q) rfl
    (congrArg (fun q : EReal => (w (ix2 (0 : Fin 8) l) : EReal) * q) (before_at 3 (by decide) x _ _ t l)))
    (congrArg (fun q : EReal => (w (ix2 (1 : Fin 8) l) : EReal) * q) (before_at 2 (by decide) x _ _ t l)))
    (congrArg (fun q : EReal => (w (ix2 (2 : Fin 8) l) : EReal) * q) (before_at 1 (by decide) x _ _ t l))

/-- The sequence that a row lies in, at a column of the convolution. -/
def seq (A : FVec Ideal S8192x3072 .f32) (i : Fin 8192) (j : Fin 256) : Fin 2048 → EReal :=
  fun s => A (ix2 (⟨2048 * (i.val / 2048) + s.val, by omega⟩ : Fin 8192) (⟨512 + j.val, by omega⟩ : Fin 3072))

/-- A row's place in its sequence. -/
abbrev pos (i : Fin 8192) : Fin 2048 := ⟨i.val % 2048, Nat.mod_lt _ (by decide)⟩

theorem zeros_at (i : Cert.ConvRefIdeal.S4x3x256.Idx) : (val_main_v1 (F := Ideal) i : EReal) = 0 := by
  rw [val_main_v1_apply, val_main_cst_apply]
  exact Ideal.ofBits_zero_f32

theorem row_at (A : FVec Ideal S8192x3072 .f32) (i : Fin 8192) (j : Fin 256) (s : Fin 2048) :
    val_main_v2 (F := Ideal) A (ix3 (⟨i.val / 2048, by omega⟩ : Fin 4) s j) = seq A i j s := by
  rw [val_main_v2_apply, val_main_v0_apply]
  refine congrArg A (funext fun a => Fin.ext ?_)
  match a with
  | ⟨0, _⟩ => show ((i.val / 2048 * 2048 + s.val) * 256 + j.val) / 256 = 2048 * (i.val / 2048) + s.val; omega
  | ⟨1, _⟩ => show 512 + ((i.val / 2048 * 2048 + s.val) * 256 + j.val) % 256 = 512 + j.val; omega

theorem moved3 (A : FVec Ideal S8192x3072 .f32) (i : Fin 8192) (j : Fin 256) :
    (val_main_v6 (F := Ideal) A (ix2 i j) : EReal) = before 3 (seq A i j) (pos i) := by
  rw [val_main_v6_apply, val_main_v5_apply]
  have e : idx_main_v5 (idx_main_v6 (ix2 i j)) = ix3 (⟨i.val / 2048, by omega⟩ : Fin 4) (⟨0 + (pos i).val, by have := (pos i).isLt; omega⟩ : Fin 2051) j := by
    funext a
    apply Fin.ext
    match a with
    | ⟨0, _⟩ => show (i.val * 256 + j.val) / 524288 = i.val / 2048; omega
    | ⟨1, _⟩ => show (i.val * 256 + j.val) / 256 % 2048 = 0 + i.val % 2048; omega
    | ⟨2, _⟩ => show (i.val * 256 + j.val) % 256 = j.val; omega
  rw [e]
  unfold val_main_v3
  refine (padded_at _ zeros_at _ _ _ 0 (by decide) (pos i) j).trans ?_
  exact congrArg (fun x => before 3 x (pos i)) (funext fun s => row_at A i j s)

theorem moved2 (A : FVec Ideal S8192x3072 .f32) (i : Fin 8192) (j : Fin 256) :
    (val_main_v13 (F := Ideal) A (ix2 i j) : EReal) = before 2 (seq A i j) (pos i) := by
  rw [val_main_v13_apply, val_main_v12_apply]
  have e : idx_main_v12 (idx_main_v13 (ix2 i j)) = ix3 (⟨i.val / 2048, by omega⟩ : Fin 4) (⟨1 + (pos i).val, by have := (pos i).isLt; omega⟩ : Fin 2051) j := by
    funext a
    apply Fin.ext
    match a with
    | ⟨0, _⟩ => show (i.val * 256 + j.val) / 524288 = i.val / 2048; omega
    | ⟨1, _⟩ => show 1 + (i.val * 256 + j.val) / 256 % 2048 = 1 + i.val % 2048; omega
    | ⟨2, _⟩ => show (i.val * 256 + j.val) % 256 = j.val; omega
  rw [e]
  unfold val_main_v3
  refine (padded_at _ zeros_at _ _ _ 1 (by decide) (pos i) j).trans ?_
  exact congrArg (fun x => before 2 x (pos i)) (funext fun s => row_at A i j s)

theorem moved1 (A : FVec Ideal S8192x3072 .f32) (i : Fin 8192) (j : Fin 256) :
    (val_main_v19 (F := Ideal) A (ix2 i j) : EReal) = before 1 (seq A i j) (pos i) := by
  rw [val_main_v19_apply, val_main_v18_apply]
  have e : idx_main_v18 (idx_main_v19 (ix2 i j)) = ix3 (⟨i.val / 2048, by omega⟩ : Fin 4) (⟨2 + (pos i).val, by have := (pos i).isLt; omega⟩ : Fin 2051) j := by
    funext a
    apply Fin.ext
    match a with
    | ⟨0, _⟩ => show (i.val * 256 + j.val) / 524288 = i.val / 2048; omega
    | ⟨1, _⟩ => show 2 + (i.val * 256 + j.val) / 256 % 2048 = 2 + i.val % 2048; omega
    | ⟨2, _⟩ => show (i.val * 256 + j.val) % 256 = j.val; omega
  rw [e]
  unfold val_main_v3
  refine (padded_at _ zeros_at _ _ _ 2 (by decide) (pos i) j).trans ?_
  exact congrArg (fun x => before 1 x (pos i)) (funext fun s => row_at A i j s)

theorem moved0 (A : FVec Ideal S8192x3072 .f32) (i : Fin 8192) (j : Fin 256) :
    (val_main_v25 (F := Ideal) A (ix2 i j) : EReal) = before 0 (seq A i j) (pos i) := by
  rw [val_main_v25_apply, val_main_v24_apply]
  have e : idx_main_v24 (idx_main_v25 (ix2 i j)) = ix3 (⟨i.val / 2048, by omega⟩ : Fin 4) (⟨3 + (pos i).val, by have := (pos i).isLt; omega⟩ : Fin 2051) j := by
    funext a
    apply Fin.ext
    match a with
    | ⟨0, _⟩ => show (i.val * 256 + j.val) / 524288 = i.val / 2048; omega
    | ⟨1, _⟩ => show 3 + (i.val * 256 + j.val) / 256 % 2048 = 3 + i.val % 2048; omega
    | ⟨2, _⟩ => show (i.val * 256 + j.val) % 256 = j.val; omega
  rw [e]
  unfold val_main_v3
  refine (padded_at _ zeros_at _ _ _ 3 (by decide) (pos i) j).trans ?_
  exact congrArg (fun x => before 0 x (pos i)) (funext fun s => row_at A i j s)

theorem weight0 (W : FVec Ideal S8x256 .f32) (i : Fin 8192) (j : Fin 256) : (val_main_v7 (F := Ideal) W (ix2 i j) : EReal) = W (ix2 (⟨0, by decide⟩ : Fin 8) j) := by
  rw [val_main_v7_apply, val_main_v4_apply]
  refine congrArg W (funext fun a => Fin.ext ?_)
  match a with
  | ⟨0, _⟩ => rfl
  | ⟨1, _⟩ => rfl

theorem weight1 (W : FVec Ideal S8x256 .f32) (i : Fin 8192) (j : Fin 256) : (val_main_v14 (F := Ideal) W (ix2 i j) : EReal) = W (ix2 (⟨1, by decide⟩ : Fin 8) j) := by
  rw [val_main_v14_apply, val_main_v11_apply]
  refine congrArg W (funext fun a => Fin.ext ?_)
  match a with
  | ⟨0, _⟩ => rfl
  | ⟨1, _⟩ => rfl

theorem weight2 (W : FVec Ideal S8x256 .f32) (i : Fin 8192) (j : Fin 256) : (val_main_v20 (F := Ideal) W (ix2 i j) : EReal) = W (ix2 (⟨2, by decide⟩ : Fin 8) j) := by
  rw [val_main_v20_apply, val_main_v17_apply]
  refine congrArg W (funext fun a => Fin.ext ?_)
  match a with
  | ⟨0, _⟩ => rfl
  | ⟨1, _⟩ => rfl

theorem weight3 (W : FVec Ideal S8x256 .f32) (i : Fin 8192) (j : Fin 256) : (val_main_v26 (F := Ideal) W (ix2 i j) : EReal) = W (ix2 (⟨3, by decide⟩ : Fin 8) j) := by
  rw [val_main_v26_apply, val_main_v23_apply]
  refine congrArg W (funext fun a => Fin.ext ?_)
  match a with
  | ⟨0, _⟩ => rfl
  | ⟨1, _⟩ => rfl

/-- The reference at an element. -/
theorem ref_at (A : FVec Ideal S8192x3072 .f32) (W : FVec Ideal S8x256 .f32) (b : FVec Ideal S1x256 .f32) (i : Fin 8192) (j : Fin 256) :
    (val_main_v28 (F := Ideal) A W b (ix2 i j) : EReal) = ((((b (ix2 (0 : Fin 1) j) : EReal) + (W (ix2 (0 : Fin 8) j) : EReal) * before 3 (seq A i j) (pos i))
      + (W (ix2 (1 : Fin 8) j) : EReal) * before 2 (seq A i j) (pos i)) + (W (ix2 (2 : Fin 8) j) : EReal) * before 1 (seq A i j) (pos i)) + (W (ix2 (3 : Fin 8) j) : EReal) * before 0 (seq A i j) (pos i) := by
  have hb : (val_main_v9 (F := Ideal) b (ix2 i j) : EReal) = b (ix2 (0 : Fin 1) j) := by
    rw [val_main_v9_apply]
    refine congrArg b (funext fun a => Fin.ext ?_)
    match a with
    | ⟨0, _⟩ => rfl
    | ⟨1, _⟩ => rfl
  exact congrArg₂ (fun p q : EReal => p + q) (congrArg₂ (fun p q : EReal => p + q) (congrArg₂ (fun p q : EReal => p + q) (congrArg₂ (fun p q : EReal => p + q) hb
    (congrArg₂ (fun p q : EReal => p * q) (weight0 W i j) (moved3 A i j)))
    (congrArg₂ (fun p q : EReal => p * q) (weight1 W i j) (moved2 A i j)))
    (congrArg₂ (fun p q : EReal => p * q) (weight2 W i j) (moved1 A i j)))
    (congrArg₂ (fun p q : EReal => p * q) (weight3 W i j) (moved0 A i j))

variable (m : (ℓ : Loc nD τ sig) → Buf (Elt Ideal) ℓ) (c : Dev nD)

/-- The arguments on a device. -/
abbrev aX : FVec Ideal S8192x3072 .f32 := m ((c : Thread nD τ).loc main_arg0)
abbrev aW : FVec Ideal S8x256 .f32 := m ((c : Thread nD τ).loc main_arg1)
abbrev aB : FVec Ideal S1x256 .f32 := m ((c : Thread nD τ).loc main_arg2)

/-- Where the rows and the columns of a point's tile lie. -/
abbrev row (t : Fin cfg0.N) (a : Fin 2048) : Fin 8192 := ⟨2048 * (t.val / 2) + a.val, by have := lt_of_lt_of_eq t.isLt N_0; omega⟩
abbrev col (t : Fin cfg0.N) (b : Fin 128) : Fin 256 := ⟨128 * (t.val % 2) + b.val, by omega⟩

theorem map0 : ∀ t : Fin cfg0.N, win0_0.index t 0 = t.val / 2 ∧ win0_0.index t 1 = 4 + t.val % 2 :=
  (by decide +kernel : ∀ t : Fin grid0.N, win0_0.index t 0 = t.val / 2 ∧ win0_0.index t 1 = 4 + t.val % 2)

theorem map1 : ∀ t : Fin cfg0.N, win0_1.index t 0 = 0 ∧ win0_1.index t 1 = t.val % 2 :=
  (by decide +kernel : ∀ t : Fin grid0.N, win0_1.index t 0 = 0 ∧ win0_1.index t 1 = t.val % 2)

theorem map2 : ∀ t : Fin cfg0.N, win0_2.index t 0 = 0 ∧ win0_2.index t 1 = t.val % 2 :=
  (by decide +kernel : ∀ t : Fin grid0.N, win0_2.index t 0 = 0 ∧ win0_2.index t 1 = t.val % 2)

theorem map3 : ∀ t : Fin cfg0.N, (win0_3.index t 0 = t.val / 2 ∧ win0_3.index t 1 = t.val % 2) ∧ (cfg0.win 3).flush t = true :=
  (by decide +kernel : ∀ t : Fin grid0.N, (win0_3.index t 0 = t.val / 2 ∧ win0_3.index t 1 = t.val % 2) ∧ (cfg0.win 3).flush t = true)

theorem read0 (t : Fin cfg0.N) (a : Fin 2048) (b : Fin 128) : (iblk m c 0 t : Vec Ideal S2048x128 .f32) (ix2 a b) = aX m c (ix2 (row t a) (⟨512 + (col t b).val, by have := (col t b).isLt; omega⟩ : Fin 3072)) := by
  unfold iblk
  rw [View.read_apply]
  show V m c main_arg0 _ = _
  rw [V_main_arg0]
  show m (c.tc.loc main_arg0) _ = m (c.tc.loc main_arg0) _
  congr 1
  funext d
  apply Fin.ext
  match d with
  | ⟨0, _⟩ => show win0_0.index t 0 * 2048 + 1 * a.val = 2048 * (t.val / 2) + a.val; rw [(map0 t).1]; omega
  | ⟨1, _⟩ => show win0_0.index t 1 * 128 + 1 * b.val = 512 + (128 * (t.val % 2) + b.val); rw [(map0 t).2]; omega

theorem read1 (t : Fin cfg0.N) (a : Fin 8) (b : Fin 128) : (iblk m c 1 t : Vec Ideal S8x128 .f32) (ix2 a b) = aW m c (ix2 a (col t b)) := by
  unfold iblk
  rw [View.read_apply]
  show V m c main_arg1 _ = _
  rw [V_main_arg1]
  show m (c.tc.loc main_arg1) _ = m (c.tc.loc main_arg1) _
  congr 1
  funext d
  apply Fin.ext
  match d with
  | ⟨0, _⟩ => show win0_1.index t 0 * 8 + 1 * a.val = a.val; rw [(map1 t).1]; omega
  | ⟨1, _⟩ => show win0_1.index t 1 * 128 + 1 * b.val = 128 * (t.val % 2) + b.val; rw [(map1 t).2]; omega

theorem read2 (t : Fin cfg0.N) (a : Fin 1) (b : Fin 128) : (iblk m c 2 t : Vec Ideal S1x128 .f32) (ix2 a b) = aB m c (ix2 a (col t b)) := by
  unfold iblk
  rw [View.read_apply]
  show V m c main_arg2 _ = _
  rw [V_main_arg2]
  show m (c.tc.loc main_arg2) _ = m (c.tc.loc main_arg2) _
  congr 1
  funext d
  apply Fin.ext
  match d with
  | ⟨0, _⟩ => show win0_2.index t 0 * 1 + 1 * a.val = a.val; rw [(map2 t).1]; omega
  | ⟨1, _⟩ => show win0_2.index t 1 * 128 + 1 * b.val = 128 * (t.val % 2) + b.val; rw [(map2 t).2]; omega

theorem lane_at (t : Fin cfg0.N) (a : Fin 2048) (b : Fin 128) : lane (iblk m c 0 t : Vec Ideal S2048x128 .f32) b = seq (aX m c) (row t a) (col t b) := by
  funext s
  refine (read0 m c t s b).trans ?_
  refine congrArg (aX m c) (congrArg (fun r : Fin 8192 => ix2 r _) (Fin.ext ?_))
  show 2048 * (t.val / 2) + s.val = 2048 * ((2048 * (t.val / 2) + a.val) / 2048) + s.val
  omega

theorem pos_at (t : Fin cfg0.N) (a : Fin 2048) : pos (row t a) = a := by
  apply Fin.ext
  show (2048 * (t.val / 2) + a.val) % 2048 = a.val
  omega

/-- A point's tile is the reference's. -/
theorem block_conv (t : Fin cfg0.N) (a : Fin 2048) (b : Fin 128) :
    (((dats m 0 c).after 3 t : Vec Ideal S2048x128 .f32) (ix2 a b) : EReal) = val_main_v28 (F := Ideal) (aX m c) (aW m c) (aB m c) (ix2 (row t a) (col t b)) := by
  rw [after0_3]
  frame_out
  rw [ref_at, pos_at]
  refine (tile_at _ _ _ a b).trans ?_
  rw [lane_at m c t a b, read1, read1, read1, read1, read2]
  ac_rfl

/-- So every point leaves its tile of the reference. -/
theorem flushed_conv (t : Fin cfg0.N) : (dats m 0 c).flushed 3 t = ((cfg0.win 3).blk t).view.read (Elt Ideal) (val_main_v28 (F := Ideal) (aX m c) (aW m c) (aB m c)) := by
  refine Eq.trans (b := ((dats m 0 c).after 3 t : FVec Ideal S2048x128 .f32)) ?_ ?_
  · show (cfg0.win 3).cut (grid0.coords t) ((dats m 0 c).after 3 t) = _
    rfl
  · funext i
    obtain ⟨a, b, rfl⟩ : ∃ (a : Fin 2048) (b : Fin 128), i = (ix2 a b : S2048x128.Idx) := ⟨i 0, i 1, ValueIdx.eq_ix2 i⟩
    rw [View.read_apply]
    refine (block_conv m c t a b).trans (congrArg (val_main_v28 (F := Ideal) (aX m c) (aW m c) (aB m c)) ?_)
    funext d
    apply Fin.ext
    match d with
    | ⟨0, _⟩ => show 2048 * (t.val / 2) + a.val = win0_3.index t 0 * 2048 + 1 * a.val; rw [(map3 t).1.1]; omega
    | ⟨1, _⟩ => show 128 * (t.val % 2) + b.val = win0_3.index t 1 * 128 + 1 * b.val; rw [(map3 t).1.2]; omega

/-- And all of it is written. -/
theorem final_conv : (dats m 0 c).arrAt 3 cfg0.N = val_main_v28 (F := Ideal) (aX m c) (aW m c) (aB m c) :=
  (dats m 0 c).arrAt_eq_of_cover 3 _ (fun t _ => flushed_conv m c t) fun i => by
    have h0 : (i 0 : Nat) < 8192 := (i 0).isLt
    have h1 : (i 1 : Nat) < 256 := (i 1).isLt
    obtain ⟨t, ht⟩ : ∃ t : Fin cfg0.N, t.val = 2 * ((i 0 : Nat) / 2048) + (i 1 : Nat) / 128 := ⟨⟨2 * ((i 0 : Nat) / 2048) + (i 1 : Nat) / 128, lt_of_lt_of_eq (by omega) N_0.symm⟩, rfl⟩
    refine ⟨t, (map3 t).2, ?_⟩
    show i ∈ ((View.whole main_v0).slice (win0_3.rect t)).set
    rw [View.set_slice_whole, Rect.mem_set_unit]
    intro a
    match a with
    | ⟨0, _⟩ => show win0_3.index t 0 * 2048 ≤ (i 0 : Nat) ∧ (i 0 : Nat) < win0_3.index t 0 * 2048 + 2048; rw [(map3 t).1.1]; omega
    | ⟨1, _⟩ => show win0_3.index t 1 * 128 ≤ (i 1 : Nat) ∧ (i 1 : Nat) < win0_3.index t 1 * 128 + 128; rw [(map3 t).1.2]; omega

/-- The two programs agree. -/
theorem agree : Cert.algebraic_ConvIdeal_ConvRefIdeal := by
  intro m g m' g' _ hargs
  refine ⟨fun c => val_main_v28 (F := Ideal) (aX m c) (aW m c) (aB m c), ?_, ?_⟩
  · refine (θ_run defs _ _).mono (fun r h c => ?_) (Cert.ConvIdeal.Value.run_blocks m g)
    exact ⟨(h c).1.trans (final_conv m c), (h c).2⟩
  · refine (θ_run Cert.ConvRefIdeal.defs _ _).mono (fun r h c => ?_) (Cert.ConvRefIdeal.Value.run m' g')
    obtain ⟨a0, a1, a2⟩ := hargs c
    refine ⟨(h c).1.trans ((Cert.ConvRefIdeal.Read.val_main_v28_eq _ _ _).trans ?_), (h c).2⟩
    rw [a0, a1, a2]

end Cert.ConvIdeal.Walk

end
-- ==== Proof.Taps.lean ====
module

public import proofs.«01_k».proof.Proof.Shifts

@[expose] public section

noncomputable section

/-!
# What the gradient of a convolution takes of moved sequences

A row of the weight's gradient takes the sequence as it stood some rows before: row 0 three rows, row 3 none; the rows
from the fifth on take nothing. The gradient of the sequence takes the rows after.
-/

namespace Cert.Shifts

open Idealize.ShloMosaic Idealize.ShloMosaic.TcCoe Idealize.ShloMosaic.WordCmp

/-- What a row of the weight's gradient takes of a sequence. -/
def tap (r : Nat) (x : Fin 2048 → EReal) (t : Fin 2048) : EReal := if r ≤ 3 then before (3 - r) x t else 0

/-- A constant row of an array of words, picked out. -/
theorem pick_row (r : Fin 8) (k : Nat) (hk : k < 8) (a : EReal) :
    (Scalar.select (IntOp.cmpi .eq (BitVec.ofNat 32 (0 * 8 + r.val)) (BitVec.ofNat 32 k)) a (Ideal.ofBits .f32 0x00000000#32) : EReal) = if r.val = k then a else 0 := by
  have hr := r.isLt
  rw [zero_mul, zero_add, cmpi_eq_ofNat (by omega) (by omega), pick_ofBool, Ideal.ofBits_zero_f32]

/-- The rows of the weight's gradient, gathered from sums over the moved sequences, in increasing order of the rows. -/
theorem gather_up (r : Fin 8) {n : Nat} (d : Fin n → EReal) (f : Nat → Fin n → EReal) :
    ((((0 + (if r.val = 0 then ∑ k, d k * f 3 k else 0)) + (if r.val = 1 then ∑ k, d k * f 2 k else 0)) + (if r.val = 2 then ∑ k, d k * f 1 k else 0))
      + (if r.val = 3 then ∑ k, d k * f 0 k else 0) : EReal) = ∑ k, d k * (if r.val ≤ 3 then f (3 - r.val) k else 0) := by
  fin_cases r <;> simp

/-- And in decreasing order. -/
theorem gather_down (r : Fin 8) {n : Nat} (d : Fin n → EReal) (f : Nat → Fin n → EReal) :
    ((((if r.val = 3 then ∑ k, d k * f 0 k else 0) + (if r.val = 2 then ∑ k, d k * f 1 k else 0)) + (if r.val = 1 then ∑ k, d k * f 2 k else 0))
      + (if r.val = 0 then ∑ k, d k * f 3 k else 0) : EReal) = ∑ k, d k * (if r.val ≤ 3 then f (3 - r.val) k else 0) := by
  fin_cases r <;> simp

/-- A multiple of what comes after. -/
theorem after_mul (d : Nat) (w : EReal) (x : Fin 2048 → EReal) (t : Fin 2048) : after d (fun s => w * x s) t = w * after d x t := by
  unfold after
  by_cases h : t.val + d < 2048
  · rw [dif_pos h, dif_pos h]
  · rw [dif_neg h, dif_neg h, mul_zero]

/-- Sequences with rows of zero before and after them, three rows on, at an element. -/
theorem spread_at (k : Nat) (hk : k ≤ 3) (H : Fin 3 → Nat) (y : (⟨3, ![4, 2048, 256]⟩ : Shape).Idx → EReal) {u : Shape} (v : u.Idx → EReal) (hu : 0 < u.numel)
    (hv : ∀ i, v i = 0) (h : (⟨3, ![4, 2048, 256]⟩ : Shape).Pads ![0, k, 0] H ![0, 0, 0] ⟨3, ![4, 2051, 256]⟩) (q : Fin 4) (s : Fin 2048) (j : Fin 256) :
    pad ⟨3, ![4, 2051, 256]⟩ ![0, k, 0] H ![0, 0, 0] y v h hu (ix3 q ⟨3 + s.val, by omega⟩ j) = after (3 - k) (fun s => y (ix3 q s j)) s := by
  have hs := s.isLt
  unfold after
  by_cases hc : s.val + (3 - k) < 2048
  · rw [dif_pos hc]
    refine pad_apply_of_inside _ _ _ y v h hu _ (ix3 q ⟨s.val + (3 - k), hc⟩ j) fun a => ?_
    match a with
    | ⟨0, _⟩ => show q.val = 0 + q.val * (0 + 1); omega
    | ⟨1, _⟩ => show 3 + s.val = k + (s.val + (3 - k)) * (0 + 1); omega
    | ⟨2, _⟩ => show j.val = 0 + j.val * (0 + 1); omega
  · rw [dif_neg hc]
    refine (pad_apply_of_not_inside _ _ _ y v h hu _ (1 : Fin 3) ?_).trans (hv _)
    show ¬(k ≤ 3 + s.val ∧ (3 + s.val - k) % (0 + 1) = 0 ∧ (3 + s.val - k) / (0 + 1) < 2048)
    rw [Nat.zero_add, Nat.div_one]
    omega

/-- One row put among eight rows of zero, at an element. -/
theorem placed_at (k : Nat) (hk : k ≤ 3) (H : Fin 2 → Nat) (y : (⟨2, ![1, 256]⟩ : Shape).Idx → EReal) {u : Shape} (v : u.Idx → EReal) (hu : 0 < u.numel)
    (hv : ∀ i, v i = 0) (h : (⟨2, ![1, 256]⟩ : Shape).Pads ![k, 0] H ![0, 0] ⟨2, ![8, 256]⟩) (r : Fin 8) (j : Fin 256) :
    pad ⟨2, ![8, 256]⟩ ![k, 0] H ![0, 0] y v h hu (ix2 r j) = if r.val = k then y (ix2 (0 : Fin 1) j) else 0 := by
  have hr := r.isLt
  by_cases hc : r.val = k
  · rw [if_pos hc]
    refine pad_apply_of_inside _ _ _ y v h hu _ (ix2 (0 : Fin 1) j) fun a => ?_
    match a with
    | ⟨0, _⟩ => show r.val = k + 0 * (0 + 1); omega
    | ⟨1, _⟩ => show j.val = 0 + j.val * (0 + 1); omega
  · rw [if_neg hc]
    refine (pad_apply_of_not_inside _ _ _ y v h hu _ (0 : Fin 2) ?_).trans (hv _)
    show ¬(k ≤ r.val ∧ (r.val - k) % (0 + 1) = 0 ∧ (r.val - k) / (0 + 1) < 1)
    rw [Nat.zero_add, Nat.div_one]
    omega

end Cert.Shifts

end
-- ==== Proof.DconvValue.lean ====
module

public import proofs.«01_k».proof.Defs
public import proofs.«01_k».proof.Proof.Gen.DconvIdeal.Value
public import proofs.«01_k».proof.Proof.Gen.DconvRefIdeal.Run
public import proofs.«01_k».proof.Proof.Gen.DconvRefIdeal.Read
public import proofs.«01_k».proof.Proof.Shifts
public import Idealize.ShloMosaic.Lib.Pipeline.ValueKit
public import Idealize.ShloMosaic.Lib.Pipeline.ReadBack
public import proofs.«01_k».proof.Proof.Taps

@[expose] public section

set_option maxRecDepth 65536

noncomputable section

/-!
# The gradient of the convolution before the RG-LRU

The kernel takes one sequence and 128 columns at a time. The gradient of its rows comes from the tile turned backwards;
the gradients of the weight and of the bias are added up over the four sequences. The reference is the transpose of four
slices, so it pads each product and adds the four up; its sums run over all 8192 rows.
-/

namespace Cert.DconvIdeal.Walk

open Cert.DconvIdeal Cert.DconvIdeal.Gen
open Idealize.ShloMosaic Idealize.ShloMosaic.TcCoe Idealize.SL.Sem
open Idealize.ShloMosaic.Pipeline (Dat)
open Cert.DconvRefIdeal.Read
open Cert.Shifts

/-! ## The tile's results at an element -/

/-- The gradient of the tile from the moved copies of what comes in. -/
def core (w : Vec Ideal S8x128 .f32) (y y3 y2 y1 : FVec Ideal S2048x128 .f32) : FVec Ideal S2048x128 .bf16 :=
  truncf .bf16 (addf (addf (addf
    (mulf (broadcastTo S2048x128 (extractStridedSlice S1x128 ![3, 0] w slices_S8x128_o3_0_S1x128) broadcasts_S1x128_S2048x128) y)
    (mulf (broadcastTo S2048x128 (extractStridedSlice S1x128 ![0, 0] w slices_S8x128_o0_0_S1x128) broadcasts_S1x128_S2048x128) y3))
    (mulf (broadcastTo S2048x128 (extractStridedSlice S1x128 ![1, 0] w slices_S8x128_o1_0_S1x128) broadcasts_S1x128_S2048x128) y2))
    (mulf (broadcastTo S2048x128 (extractStridedSlice S1x128 ![2, 0] w slices_S8x128_o2_0_S1x128) broadcasts_S1x128_S2048x128) y1)) bitsLt_bf16_f32

theorem core_at (w : Vec Ideal S8x128 .f32) (y y3 y2 y1 : FVec Ideal S2048x128 .f32) (t : Fin 2048) (l : Fin 128) :
    (core w y y3 y2 y1 (ix2 t l) : EReal) = (((w (ix2 (3 : Fin 8) l) : EReal) * (y (ix2 t l) : EReal)
      + (w (ix2 (0 : Fin 8) l) : EReal) * (y3 (ix2 t l) : EReal)) + (w (ix2 (1 : Fin 8) l) : EReal) * (y2 (ix2 t l) : EReal)) + (w (ix2 (2 : Fin 8) l) : EReal) * (y1 (ix2 t l) : EReal) := by
  pointwise [core]

/-- The sequence of a tile at a column. -/
abbrev lane (x : Vec Ideal S2048x128 .f32) (l : Fin 128) : Fin 2048 → EReal := fun s => x (ix2 s l)

theorem tile_at (w : Vec Ideal S8x128 .f32) (y : Vec Ideal S2048x128 .f32) (t : Fin 2048) (l : Fin 128) :
    (k0_pay5 w y (ix2 t l) : EReal) = (((w (ix2 (3 : Fin 8) l) : EReal) * after 0 (lane y l) t
      + (w (ix2 (0 : Fin 8) l) : EReal) * after 3 (lane y l) t) + (w (ix2 (1 : Fin 8) l) : EReal) * after 2 (lane y l) t) + (w (ix2 (2 : Fin 8) l) : EReal) * after 1 (lane y l) t := by
  refine (core_at w y _ _ _ t l).trans ?_
  rw [after_zero]
  exact congrArg₂ (fun p q : EReal => p + q) (congrArg₂ (fun p q : EReal => p + q) (congrArg₂ (fun p q : EReal => p + q) rfl
    (congrArg (fun q : EReal => (w (ix2 (0 : Fin 8) l) : EReal) * q) (after_at 2045 3 rfl (by decide) y _ _ t l)))
    (congrArg (fun q : EReal => (w (ix2 (1 : Fin 8) l) : EReal) * q) (after_at 2046 2 rfl (by decide) y _ _ t l)))
    (congrArg (fun q : EReal => (w (ix2 (2 : Fin 8) l) : EReal) * q) (after_at 2047 1 rfl (by decide) y _ _ t l))

/-- The number of its row at each element. -/
abbrev rows : IVec S8x128 32 := iota .tc S8x128 32 [0] iota_S8x128_d0_w32

/-- The sums of a tile's columns. -/
def cols (z : FVec Ideal S2048x128 .f32) : FVec Ideal S128 .f32 := multiReduction .add [0] S128 z 0x00000000#32 reduces_S2048x128_S128 (.inl rfl) rfl

theorem cols_at (z : FVec Ideal S2048x128 .f32) (l : Fin 128) : (cols z (ix1 l) : EReal) = ∑ t : Fin 2048, (z (ix2 t l) : EReal) := by
  pointwise [cols]

/-- Sums of columns in each of eight rows. -/
def eight (s : FVec Ideal S128 .f32) : FVec Ideal S8x128 .f32 :=
  broadcastTo S8x128 (shapeCast S1x128 (shapeCast S1x128 s shapeCasts_S128_S1x128) shapeCasts_S1x128_S1x128) broadcasts_S1x128_S8x128

theorem eight_at (s : FVec Ideal S128 .f32) (r : Fin 8) (l : Fin 128) : (eight s (ix2 r l) : EReal) = s (ix1 l) := by
  pointwise [eight]

/-- Sums of columns in one of eight rows. -/
def pick (k : Nat) (s : FVec Ideal S128 .f32) : FVec Ideal S8x128 .f32 :=
  select (cmpi .eq rows (broadcast S8x128 (BitVec.ofNat 32 k))) (eight s) (broadcast S8x128 (Scalar.ofBits .f32 0x00000000#32))

theorem pick_at (k : Nat) (hk : k < 8) (s : FVec Ideal S128 .f32) (r : Fin 8) (l : Fin 128) : (pick k s (ix2 r l) : EReal) = if r.val = k then s (ix1 l) else 0 := by
  refine (pick_row r k hk (eight s (ix2 r l))).trans ?_
  rw [eight_at]

/-- A tile moved down. -/
def down (n : Nat) (x : Vec Ideal S2048x128 .f32) : FVec Ideal S2048x128 .f32 :=
  select (cmpi .sge (iota .tc S2048x128 32 [0] iota_S2048x128_d0_w32) (broadcast S2048x128 (BitVec.ofNat 32 n))) (dynamicRotate 0 (BitVec.ofNat 32 n) none x rotates_S2048x128_d0)
    (broadcast S2048x128 (Scalar.ofBits .f32 0x00000000#32))

theorem moved_sum (n : Nat) (hn : n < 2048) (x y : Vec Ideal S2048x128 .f32) (l : Fin 128) :
    (cols (mulf y (down n x)) (ix1 l) : EReal) = ∑ t : Fin 2048, lane y l t * before n (lane x l) t :=
  (cols_at _ l).trans (Finset.sum_congr rfl fun t _ => congrArg (fun q : EReal => lane y l t * q) (before_at n hn x _ _ t l))

theorem still_sum (x y : Vec Ideal S2048x128 .f32) (l : Fin 128) :
    (cols (mulf y x) (ix1 l) : EReal) = ∑ t : Fin 2048, lane y l t * before 0 (lane x l) t :=
  (cols_at _ l).trans (Finset.sum_congr rfl fun t _ => congrArg (fun q : EReal => lane y l t * q) (before_zero (lane x l) t).symm)

/-- One sequence's share of the gradient of the weight. -/
def tileW (x y : Vec Ideal S2048x128 .f32) : FVec Ideal S8x128 .f32 :=
  k0_pay1 x y rows (k0_pay6 x y rows (Scalar.ofBits .f32 0x00000000#32)) (k0_pay7 rows) (k0_pay8 x y)

theorem tileW_at (x y : Vec Ideal S2048x128 .f32) (r : Fin 8) (l : Fin 128) :
    (tileW x y (ix2 r l) : EReal) = ∑ t : Fin 2048, lane y l t * tap r.val (lane x l) t := by
  have e : tileW x y = addf (addf (addf (addf (broadcast S8x128 (Scalar.ofBits .f32 0x00000000#32)) (pick 0 (cols (mulf y (down 3 x))))) (pick 1 (cols (mulf y (down 2 x)))))
    (pick 2 (cols (mulf y (down 1 x))))) (pick 3 (cols (mulf y x))) := rfl
  rw [e]
  refine Eq.trans ?_ (gather_up r (lane y l) (fun d t => before d (lane x l) t))
  rw [← moved_sum 3 (by decide), ← moved_sum 2 (by decide), ← moved_sum 1 (by decide), ← still_sum]
  exact congrArg₂ (fun p q : EReal => p + q) (congrArg₂ (fun p q : EReal => p + q) (congrArg₂ (fun p q : EReal => p + q) (congrArg₂ (fun p q : EReal => p + q) Ideal.ofBits_zero_f32
    (pick_at 0 (by decide) _ r l)) (pick_at 1 (by decide) _ r l)) (pick_at 2 (by decide) _ r l)) (pick_at 3 (by decide) _ r l)

/-- One sequence's share of the gradient of the bias. -/
theorem tileB_at (y : Vec Ideal S2048x128 .f32) (u : Fin 1) (l : Fin 128) : (k0_pay2 y (ix2 u l) : EReal) = ∑ t : Fin 2048, lane y l t := by
  pointwise [k0_pay2]

theorem pay3_eq (x y : Vec Ideal S2048x128 .f32) (s : Vec Ideal S8x128 .f32) (i : S8x128.Idx) :
    (k0_pay3 x y rows (k0_pay6 x y rows (Scalar.ofBits .f32 0x00000000#32)) (k0_pay7 rows) (k0_pay8 x y) s i : EReal) = (s i : EReal) + tileW x y i := by
  unfold k0_pay3
  rw [shapeCast_self]
  rfl

theorem pay4_eq (y : Vec Ideal S2048x128 .f32) (s : Vec Ideal S1x128 .f32) (i : S1x128.Idx) :
    (k0_pay4 y s i : EReal) = (s i : EReal) + k0_pay2 y i := by
  unfold k0_pay4
  rw [shapeCast_self]
  rfl

/-! ## The reference at an element -/

/-- The sequence that a row lies in, at a column of the convolution. -/
def seq (A : FVec Ideal S8192x3072 .f32) (i : Fin 8192) (j : Fin 256) : Fin 2048 → EReal :=
  fun s => A (ix2 (⟨2048 * (i.val / 2048) + s.val, by omega⟩ : Fin 8192) (⟨512 + j.val, by omega⟩ : Fin 3072))

/-- A row's place in its sequence. -/
abbrev pos (i : Fin 8192) : Fin 2048 := ⟨i.val % 2048, Nat.mod_lt _ (by decide)⟩

theorem zeros_at (i : Cert.DconvRefIdeal.S4x3x256.Idx) : (val_main_v1 (F := Ideal) i : EReal) = 0 := by
  rw [val_main_v1_apply, val_main_cst_apply]
  exact Ideal.ofBits_zero_f32

theorem row_at (A : FVec Ideal S8192x3072 .f32) (i : Fin 8192) (j : Fin 256) (s : Fin 2048) :
    val_main_v2 (F := Ideal) A (ix3 (⟨i.val / 2048, by omega⟩ : Fin 4) s j) = seq A i j s := by
  rw [val_main_v2_apply, val_main_v0_apply]
  refine congrArg A (funext fun a => Fin.ext ?_)
  match a with
  | ⟨0, _⟩ => show ((i.val / 2048 * 2048 + s.val) * 256 + j.val) / 256 = 2048 * (i.val / 2048) + s.val; omega
  | ⟨1, _⟩ => show 512 + ((i.val / 2048 * 2048 + s.val) * 256 + j.val) % 256 = 512 + j.val; omega

theorem moved3 (A : FVec Ideal S8192x3072 .f32) (i : Fin 8192) (j : Fin 256) :
    (val_main_v7 (F := Ideal) A (ix2 i j) : EReal) = before 3 (seq A i j) (pos i) := by
  rw [val_main_v7_apply, val_main_v6_apply]
  have e : idx_main_v6 (idx_main_v7 (ix2 i j)) = ix3 (⟨i.val / 2048, by omega⟩ : Fin 4) (⟨0 + (pos i).val, by have := (pos i).isLt; omega⟩ : Fin 2051) j := by
    funext a
    apply Fin.ext
    match a with
    | ⟨0, _⟩ => show (i.val * 256 + j.val) / 524288 = i.val / 2048; omega
    | ⟨1, _⟩ => show (i.val * 256 + j.val) / 256 % 2048 = 0 + i.val % 2048; omega
    | ⟨2, _⟩ => show (i.val * 256 + j.val) % 256 = j.val; omega
  rw [e]
  unfold val_main_v3
  refine (padded_at _ zeros_at _ _ _ 0 (by decide) (pos i) j).trans ?_
  exact congrArg (fun x => before 3 x (pos i)) (funext fun s => row_at A i j s)

theorem moved2 (A : FVec Ideal S8192x3072 .f32) (i : Fin 8192) (j : Fin 256) :
    (val_main_v14 (F := Ideal) A (ix2 i j) : EReal) = before 2 (seq A i j) (pos i) := by
  rw [val_main_v14_apply, val_main_v13_apply]
  have e : idx_main_v13 (idx_main_v14 (ix2 i j)) = ix3 (⟨i.val / 2048, by omega⟩ : Fin 4) (⟨1 + (pos i).val, by have := (pos i).isLt; omega⟩ : Fin 2051) j := by
    funext a
    apply Fin.ext
    match a with
    | ⟨0, _⟩ => show (i.val * 256 + j.val) / 524288 = i.val / 2048; omega
    | ⟨1, _⟩ => show 1 + (i.val * 256 + j.val) / 256 % 2048 = 1 + i.val % 2048; omega
    | ⟨2, _⟩ => show (i.val * 256 + j.val) % 256 = j.val; omega
  rw [e]
  unfold val_main_v3
  refine (padded_at _ zeros_at _ _ _ 1 (by decide) (pos i) j).trans ?_
  exact congrArg (fun x => before 2 x (pos i)) (funext fun s => row_at A i j s)

theorem moved1 (A : FVec Ideal S8192x3072 .f32) (i : Fin 8192) (j : Fin 256) :
    (val_main_v20 (F := Ideal) A (ix2 i j) : EReal) = before 1 (seq A i j) (pos i) := by
  rw [val_main_v20_apply, val_main_v19_apply]
  have e : idx_main_v19 (idx_main_v20 (ix2 i j)) = ix3 (⟨i.val / 2048, by omega⟩ : Fin 4) (⟨2 + (pos i).val, by have := (pos i).isLt; omega⟩ : Fin 2051) j := by
    funext a
    apply Fin.ext
    match a with
    | ⟨0, _⟩ => show (i.val * 256 + j.val) / 524288 = i.val / 2048; omega
    | ⟨1, _⟩ => show 2 + (i.val * 256 + j.val) / 256 % 2048 = 2 + i.val % 2048; omega
    | ⟨2, _⟩ => show (i.val * 256 + j.val) % 256 = j.val; omega
  rw [e]
  unfold val_main_v3
  refine (padded_at _ zeros_at _ _ _ 2 (by decide) (pos i) j).trans ?_
  exact congrArg (fun x => before 1 x (pos i)) (funext fun s => row_at A i j s)

theorem moved0 (A : FVec Ideal S8192x3072 .f32) (i : Fin 8192) (j : Fin 256) :
    (val_main_v26 (F := Ideal) A (ix2 i j) : EReal) = before 0 (seq A i j) (pos i) := by
  rw [val_main_v26_apply, val_main_v25_apply]
  have e : idx_main_v25 (idx_main_v26 (ix2 i j)) = ix3 (⟨i.val / 2048, by omega⟩ : Fin 4) (⟨3 + (pos i).val, by have := (pos i).isLt; omega⟩ : Fin 2051) j := by
    funext a
    apply Fin.ext
    match a with
    | ⟨0, _⟩ => show (i.val * 256 + j.val) / 524288 = i.val / 2048; omega
    | ⟨1, _⟩ => show 3 + (i.val * 256 + j.val) / 256 % 2048 = 3 + i.val % 2048; omega
    | ⟨2, _⟩ => show (i.val * 256 + j.val) % 256 = j.val; omega
  rw [e]
  unfold val_main_v3
  refine (padded_at _ zeros_at _ _ _ 3 (by decide) (pos i) j).trans ?_
  exact congrArg (fun x => before 0 x (pos i)) (funext fun s => row_at A i j s)

/-- The sequence of the incoming gradient that a row lies in, at a column. -/
def gseq (D : FVec Ideal S8192x256 .f32) (i : Fin 8192) (j : Fin 256) : Fin 2048 → EReal :=
  fun s => D (ix2 (⟨2048 * (i.val / 2048) + s.val, by omega⟩ : Fin 8192) j)

theorem same30 (D : FVec Ideal S8192x256 .f32) (i : Fin 8192) (j : Fin 256) : (val_main_v30 (F := Ideal) D (ix2 i j) : EReal) = D (ix2 i j) := by
  rw [val_main_v30_apply]
  refine congrArg D (funext fun a => Fin.ext ?_)
  match a with
  | ⟨0, _⟩ => show (i.val * 256 + j.val) / 256 = i.val; omega
  | ⟨1, _⟩ => show (i.val * 256 + j.val) % 256 = j.val; omega

theorem same31 (D : FVec Ideal S8192x256 .f32) (i : Fin 8192) (j : Fin 256) : (val_main_v31 (F := Ideal) D (ix2 i j) : EReal) = D (ix2 i j) := by
  rw [val_main_v31_apply]
  refine congrArg D (funext fun a => Fin.ext ?_)
  match a with
  | ⟨0, _⟩ => show (i.val * 256 + j.val) / 256 = i.val; omega
  | ⟨1, _⟩ => show (i.val * 256 + j.val) % 256 = j.val; omega

theorem weight0 (W : FVec Ideal S8x256 .f32) (i : Fin 8192) (j : Fin 256) : (val_main_v62 (F := Ideal) W (ix2 i j) : EReal) = W (ix2 (⟨0, by decide⟩ : Fin 8) j) := by
  rw [val_main_v62_apply, val_main_v5_apply]
  refine congrArg W (funext fun a => Fin.ext ?_)
  match a with
  | ⟨0, _⟩ => rfl
  | ⟨1, _⟩ => rfl

theorem weight1 (W : FVec Ideal S8x256 .f32) (i : Fin 8192) (j : Fin 256) : (val_main_v50 (F := Ideal) W (ix2 i j) : EReal) = W (ix2 (⟨1, by decide⟩ : Fin 8) j) := by
  rw [val_main_v50_apply, val_main_v12_apply]
  refine congrArg W (funext fun a => Fin.ext ?_)
  match a with
  | ⟨0, _⟩ => rfl
  | ⟨1, _⟩ => rfl

theorem weight2 (W : FVec Ideal S8x256 .f32) (i : Fin 8192) (j : Fin 256) : (val_main_v40 (F := Ideal) W (ix2 i j) : EReal) = W (ix2 (⟨2, by decide⟩ : Fin 8) j) := by
  rw [val_main_v40_apply, val_main_v18_apply]
  refine congrArg W (funext fun a => Fin.ext ?_)
  match a with
  | ⟨0, _⟩ => rfl
  | ⟨1, _⟩ => rfl

theorem weight3 (W : FVec Ideal S8x256 .f32) (i : Fin 8192) (j : Fin 256) : (val_main_v32 (F := Ideal) W (ix2 i j) : EReal) = W (ix2 (⟨3, by decide⟩ : Fin 8) j) := by
  rw [val_main_v32_apply, val_main_v24_apply]
  refine congrArg W (funext fun a => Fin.ext ?_)
  match a with
  | ⟨0, _⟩ => rfl
  | ⟨1, _⟩ => rfl

theorem grad0 (W : FVec Ideal S8x256 .f32) (D : FVec Ideal S8192x256 .f32) (i : Fin 8192) (j : Fin 256) (s : Fin 2048) :
    (val_main_v67 (F := Ideal) W D (ix3 (⟨i.val / 2048, by omega⟩ : Fin 4) s j) : EReal) = (W (ix2 (⟨0, by decide⟩ : Fin 8) j) : EReal) * gseq D i j s := by
  rw [val_main_v67_apply]
  have e : idx_main_v67 (ix3 (⟨i.val / 2048, by omega⟩ : Fin 4) s j) = ix2 (⟨2048 * (i.val / 2048) + s.val, by omega⟩ : Fin 8192) j := by
    funext a
    apply Fin.ext
    match a with
    | ⟨0, _⟩ => show ((i.val / 2048 * 2048 + s.val) * 256 + j.val) / 256 = 2048 * (i.val / 2048) + s.val; omega
    | ⟨1, _⟩ => show ((i.val / 2048 * 2048 + s.val) * 256 + j.val) % 256 = j.val; omega
  rw [e, val_main_v63_apply]
  exact congrArg₂ (fun p q : EReal => p * q) (weight0 W _ j) (same30 D _ j)

theorem grad1 (W : FVec Ideal S8x256 .f32) (D : FVec Ideal S8192x256 .f32) (i : Fin 8192) (j : Fin 256) (s : Fin 2048) :
    (val_main_v55 (F := Ideal) W D (ix3 (⟨i.val / 2048, by omega⟩ : Fin 4) s j) : EReal) = (W (ix2 (⟨1, by decide⟩ : Fin 8) j) : EReal) * gseq D i j s := by
  rw [val_main_v55_apply]
  have e : idx_main_v55 (ix3 (⟨i.val / 2048, by omega⟩ : Fin 4) s j) = ix2 (⟨2048 * (i.val / 2048) + s.val, by omega⟩ : Fin 8192) j := by
    funext a
    apply Fin.ext
    match a with
    | ⟨0, _⟩ => show ((i.val / 2048 * 2048 + s.val) * 256 + j.val) / 256 = 2048 * (i.val / 2048) + s.val; omega
    | ⟨1, _⟩ => show ((i.val / 2048 * 2048 + s.val) * 256 + j.val) % 256 = j.val; omega
  rw [e, val_main_v51_apply]
  exact congrArg₂ (fun p q : EReal => p * q) (weight1 W _ j) (same30 D _ j)

theorem grad2 (W : FVec Ideal S8x256 .f32) (D : FVec Ideal S8192x256 .f32) (i : Fin 8192) (j : Fin 256) (s : Fin 2048) :
    (val_main_v45 (F := Ideal) W D (ix3 (⟨i.val / 2048, by omega⟩ : Fin 4) s j) : EReal) = (W (ix2 (⟨2, by decide⟩ : Fin 8) j) : EReal) * gseq D i j s := by
  rw [val_main_v45_apply]
  have e : idx_main_v45 (ix3 (⟨i.val / 2048, by omega⟩ : Fin 4) s j) = ix2 (⟨2048 * (i.val / 2048) + s.val, by omega⟩ : Fin 8192) j := by
    funext a
    apply Fin.ext
    match a with
    | ⟨0, _⟩ => show ((i.val / 2048 * 2048 + s.val) * 256 + j.val) / 256 = 2048 * (i.val / 2048) + s.val; omega
    | ⟨1, _⟩ => show ((i.val / 2048 * 2048 + s.val) * 256 + j.val) % 256 = j.val; omega
  rw [e, val_main_v41_apply]
  exact congrArg₂ (fun p q : EReal => p * q) (weight2 W _ j) (same30 D _ j)

theorem grad3 (W : FVec Ideal S8x256 .f32) (D : FVec Ideal S8192x256 .f32) (i : Fin 8192) (j : Fin 256) (s : Fin 2048) :
    (val_main_v37 (F := Ideal) W D (ix3 (⟨i.val / 2048, by omega⟩ : Fin 4) s j) : EReal) = (W (ix2 (⟨3, by decide⟩ : Fin 8) j) : EReal) * gseq D i j s := by
  rw [val_main_v37_apply]
  have e : idx_main_v37 (ix3 (⟨i.val / 2048, by omega⟩ : Fin 4) s j) = ix2 (⟨2048 * (i.val / 2048) + s.val, by omega⟩ : Fin 8192) j := by
    funext a
    apply Fin.ext
    match a with
    | ⟨0, _⟩ => show ((i.val / 2048 * 2048 + s.val) * 256 + j.val) / 256 = 2048 * (i.val / 2048) + s.val; omega
    | ⟨1, _⟩ => show ((i.val / 2048 * 2048 + s.val) * 256 + j.val) % 256 = j.val; omega
  rw [e, val_main_v33_apply]
  exact congrArg₂ (fun p q : EReal => p * q) (weight3 W _ j) (same31 D _ j)

theorem spread0 (W : FVec Ideal S8x256 .f32) (D : FVec Ideal S8192x256 .f32) (i : Fin 8192) (j : Fin 256) :
    (val_main_v68 (F := Ideal) W D (ix3 (⟨i.val / 2048, by omega⟩ : Fin 4) (⟨3 + (pos i).val, by have := (pos i).isLt; omega⟩ : Fin 2051) j) : EReal) = (W (ix2 (⟨0, by decide⟩ : Fin 8) j) : EReal) * after 3 (gseq D i j) (pos i) := by
  unfold val_main_v68
  refine (spread_at 0 (by decide) _ _ _ _ (fun _ => Ideal.ofBits_zero_f32) _ _ (pos i) j).trans ?_
  rw [← after_mul]
  exact congrArg (fun x => after 3 x (pos i)) (funext fun s => grad0 W D i j s)

theorem spread1 (W : FVec Ideal S8x256 .f32) (D : FVec Ideal S8192x256 .f32) (i : Fin 8192) (j : Fin 256) :
    (val_main_v56 (F := Ideal) W D (ix3 (⟨i.val / 2048, by omega⟩ : Fin 4) (⟨3 + (pos i).val, by have := (pos i).isLt; omega⟩ : Fin 2051) j) : EReal) = (W (ix2 (⟨1, by decide⟩ : Fin 8) j) : EReal) * after 2 (gseq D i j) (pos i) := by
  unfold val_main_v56
  refine (spread_at 1 (by decide) _ _ _ _ (fun _ => Ideal.ofBits_zero_f32) _ _ (pos i) j).trans ?_
  rw [← after_mul]
  exact congrArg (fun x => after 2 x (pos i)) (funext fun s => grad1 W D i j s)

theorem spread2 (W : FVec Ideal S8x256 .f32) (D : FVec Ideal S8192x256 .f32) (i : Fin 8192) (j : Fin 256) :
    (val_main_v46 (F := Ideal) W D (ix3 (⟨i.val / 2048, by omega⟩ : Fin 4) (⟨3 + (pos i).val, by have := (pos i).isLt; omega⟩ : Fin 2051) j) : EReal) = (W (ix2 (⟨2, by decide⟩ : Fin 8) j) : EReal) * after 1 (gseq D i j) (pos i) := by
  unfold val_main_v46
  refine (spread_at 2 (by decide) _ _ _ _ (fun _ => Ideal.ofBits_zero_f32) _ _ (pos i) j).trans ?_
  rw [← after_mul]
  exact congrArg (fun x => after 1 x (pos i)) (funext fun s => grad2 W D i j s)

theorem spread3 (W : FVec Ideal S8x256 .f32) (D : FVec Ideal S8192x256 .f32) (i : Fin 8192) (j : Fin 256) :
    (val_main_v38 (F := Ideal) W D (ix3 (⟨i.val / 2048, by omega⟩ : Fin 4) (⟨3 + (pos i).val, by have := (pos i).isLt; omega⟩ : Fin 2051) j) : EReal) = (W (ix2 (⟨3, by decide⟩ : Fin 8) j) : EReal) * after 0 (gseq D i j) (pos i) := by
  unfold val_main_v38
  refine (spread_at 3 (by decide) _ _ _ _ (fun _ => Ideal.ofBits_zero_f32) _ _ (pos i) j).trans ?_
  rw [← after_mul]
  exact congrArg (fun x => after 0 x (pos i)) (funext fun s => grad3 W D i j s)

/-- The gradient of the rows. -/
theorem ref_rows (W : FVec Ideal S8x256 .f32) (D : FVec Ideal S8192x256 .f32) (i : Fin 8192) (j : Fin 256) :
    (val_main_v75 (F := Ideal) W D (ix2 i j) : EReal) = (((W (ix2 (3 : Fin 8) j) : EReal) * after 0 (gseq D i j) (pos i)
      + (W (ix2 (2 : Fin 8) j) : EReal) * after 1 (gseq D i j) (pos i)) + (W (ix2 (1 : Fin 8) j) : EReal) * after 2 (gseq D i j) (pos i)) + (W (ix2 (0 : Fin 8) j) : EReal) * after 3 (gseq D i j) (pos i) := by
  refine Eq.trans (b := (val_main_v74 (F := Ideal) W D (ix2 i j) : EReal)) rfl ?_
  rw [val_main_v74_apply, val_main_v73_apply]
  have e : idx_main_v73 (idx_main_v74 (ix2 i j)) = ix3 (⟨i.val / 2048, by omega⟩ : Fin 4) (⟨3 + (pos i).val, by have := (pos i).isLt; omega⟩ : Fin 2051) j := by
    funext a
    apply Fin.ext
    match a with
    | ⟨0, _⟩ => show (i.val * 256 + j.val) / 524288 = i.val / 2048; omega
    | ⟨1, _⟩ => show 3 + (i.val * 256 + j.val) / 256 % 2048 = 3 + i.val % 2048; omega
    | ⟨2, _⟩ => show (i.val * 256 + j.val) % 256 = j.val; omega
  rw [e, val_main_v69_apply, val_main_v57_apply, val_main_v47_apply]
  exact congrArg₂ (fun p q : EReal => p + q) (congrArg₂ (fun p q : EReal => p + q) (congrArg₂ (fun p q : EReal => p + q) (spread3 W D i j) (spread2 W D i j)) (spread1 W D i j)) (spread0 W D i j)

theorem total0 (A : FVec Ideal S8192x3072 .f32) (D : FVec Ideal S8192x256 .f32) (j : Fin 256) :
    (val_main_v66 (F := Ideal) A D (ix2 (0 : Fin 1) j) : EReal) = ∑ i : Fin 8192, (D (ix2 i j) : EReal) * before 3 (seq A i j) (pos i) := by
  rw [val_main_v66_apply, val_main_v65_apply]
  refine (congrArg₂ (fun p q : EReal => p + q) Ideal.ofBits_zero_f32 (Finset.sum_congr rfl fun i _ => ?_)).trans (zero_add _)
  have e : idx_main_v65 (idx_main_v66 (ix2 (0 : Fin 1) j)) i = ix2 i j := by
    funext a
    apply Fin.ext
    match a with
    | ⟨0, _⟩ => rfl
    | ⟨1, _⟩ => show 0 * 256 + j.val = j.val; omega
  rw [e, val_main_v64_apply]
  exact congrArg₂ (fun p q : EReal => p * q) (same30 D i j) (moved3 A i j)

theorem total1 (A : FVec Ideal S8192x3072 .f32) (D : FVec Ideal S8192x256 .f32) (j : Fin 256) :
    (val_main_v54 (F := Ideal) A D (ix2 (0 : Fin 1) j) : EReal) = ∑ i : Fin 8192, (D (ix2 i j) : EReal) * before 2 (seq A i j) (pos i) := by
  rw [val_main_v54_apply, val_main_v53_apply]
  refine (congrArg₂ (fun p q : EReal => p + q) Ideal.ofBits_zero_f32 (Finset.sum_congr rfl fun i _ => ?_)).trans (zero_add _)
  have e : idx_main_v53 (idx_main_v54 (ix2 (0 : Fin 1) j)) i = ix2 i j := by
    funext a
    apply Fin.ext
    match a with
    | ⟨0, _⟩ => rfl
    | ⟨1, _⟩ => show 0 * 256 + j.val = j.val; omega
  rw [e, val_main_v52_apply]
  exact congrArg₂ (fun p q : EReal => p * q) (same30 D i j) (moved2 A i j)

theorem total2 (A : FVec Ideal S8192x3072 .f32) (D : FVec Ideal S8192x256 .f32) (j : Fin 256) :
    (val_main_v44 (F := Ideal) A D (ix2 (0 : Fin 1) j) : EReal) = ∑ i : Fin 8192, (D (ix2 i j) : EReal) * before 1 (seq A i j) (pos i) := by
  rw [val_main_v44_apply, val_main_v43_apply]
  refine (congrArg₂ (fun p q : EReal => p + q) Ideal.ofBits_zero_f32 (Finset.sum_congr rfl fun i _ => ?_)).trans (zero_add _)
  have e : idx_main_v43 (idx_main_v44 (ix2 (0 : Fin 1) j)) i = ix2 i j := by
    funext a
    apply Fin.ext
    match a with
    | ⟨0, _⟩ => rfl
    | ⟨1, _⟩ => show 0 * 256 + j.val = j.val; omega
  rw [e, val_main_v42_apply]
  exact congrArg₂ (fun p q : EReal => p * q) (same30 D i j) (moved1 A i j)

theorem total3 (A : FVec Ideal S8192x3072 .f32) (D : FVec Ideal S8192x256 .f32) (j : Fin 256) :
    (val_main_v36 (F := Ideal) A D (ix2 (0 : Fin 1) j) : EReal) = ∑ i : Fin 8192, (D (ix2 i j) : EReal) * before 0 (seq A i j) (pos i) := by
  rw [val_main_v36_apply, val_main_v35_apply]
  refine (congrArg₂ (fun p q : EReal => p + q) Ideal.ofBits_zero_f32 (Finset.sum_congr rfl fun i _ => ?_)).trans (zero_add _)
  have e : idx_main_v35 (idx_main_v36 (ix2 (0 : Fin 1) j)) i = ix2 i j := by
    funext a
    apply Fin.ext
    match a with
    | ⟨0, _⟩ => rfl
    | ⟨1, _⟩ => show 0 * 256 + j.val = j.val; omega
  rw [e, val_main_v34_apply]
  exact congrArg₂ (fun p q : EReal => p * q) (same31 D i j) (moved0 A i j)

/-- The gradient of the weight. -/
theorem ref_weight (A : FVec Ideal S8192x3072 .f32) (D : FVec Ideal S8192x256 .f32) (r : Fin 8) (j : Fin 256) :
    (val_main_v71 (F := Ideal) A D (ix2 r j) : EReal) = ∑ i : Fin 8192, (D (ix2 i j) : EReal) * tap r.val (seq A i j) (pos i) := by
  refine Eq.trans ?_ (gather_down r (fun i : Fin 8192 => (D (ix2 i j) : EReal)) (fun d i => before d (seq A i j) (pos i)))
  rw [← total0, ← total1, ← total2, ← total3, val_main_v71_apply, val_main_v59_apply, val_main_v49_apply]
  unfold val_main_v39 val_main_v48 val_main_v58 val_main_v70
  exact congrArg₂ (fun p q : EReal => p + q) (congrArg₂ (fun p q : EReal => p + q) (congrArg₂ (fun p q : EReal => p + q)
    (placed_at 3 (by decide) _ _ _ _ (fun _ => Ideal.ofBits_zero_f32) _ r j) (placed_at 2 (by decide) _ _ _ _ (fun _ => Ideal.ofBits_zero_f32) _ r j))
    (placed_at 1 (by decide) _ _ _ _ (fun _ => Ideal.ofBits_zero_f32) _ r j)) (placed_at 0 (by decide) _ _ _ _ (fun _ => Ideal.ofBits_zero_f32) _ r j)

/-- The gradient of the bias. -/
theorem ref_bias (D : FVec Ideal S8192x256 .f32) (u : Fin 1) (j : Fin 256) :
    (val_main_v61 (F := Ideal) D (ix2 u j) : EReal) = ∑ i : Fin 8192, (D (ix2 i j) : EReal) := by
  rw [val_main_v61_apply, val_main_v60_apply]
  refine (congrArg₂ (fun p q : EReal => p + q) Ideal.ofBits_zero_f32 (Finset.sum_congr rfl fun i _ => ?_)).trans (zero_add _)
  have e : idx_main_v60 (idx_main_v61 (ix2 u j)) i = ix2 i j := by
    funext a
    apply Fin.ext
    match a with
    | ⟨0, _⟩ => rfl
    | ⟨1, _⟩ => show u.val * 256 + j.val = j.val; omega
  rw [e]
  exact same30 D i j

/-! ## The launch -/

variable (m : (ℓ : Loc nD τ sig) → Buf (Elt Ideal) ℓ) (c : Dev nD)

/-- The arguments on a device. -/
abbrev aX : FVec Ideal S8192x3072 .f32 := m ((c : Thread nD τ).loc main_arg0)
abbrev aW : FVec Ideal S8x256 .f32 := m ((c : Thread nD τ).loc main_arg1)
abbrev aD : FVec Ideal S8192x256 .f32 := m ((c : Thread nD τ).loc main_arg3)

/-- Where the rows and the columns of a point's tile lie. -/
abbrev row (t : Fin cfg0.N) (a : Fin 2048) : Fin 8192 := ⟨2048 * (t.val % 4) + a.val, by omega⟩
abbrev col (t : Fin cfg0.N) (b : Fin 128) : Fin 256 := ⟨128 * (t.val / 4) + b.val, by have := lt_of_lt_of_eq t.isLt N_0; omega⟩

theorem map0 : ∀ t : Fin cfg0.N, win0_0.index t 0 = t.val % 4 ∧ win0_0.index t 1 = 4 + t.val / 4 :=
  (by decide +kernel : ∀ t : Fin grid0.N, win0_0.index t 0 = t.val % 4 ∧ win0_0.index t 1 = 4 + t.val / 4)

theorem map1 : ∀ t : Fin cfg0.N, win0_1.index t 0 = 0 ∧ win0_1.index t 1 = t.val / 4 :=
  (by decide +kernel : ∀ t : Fin grid0.N, win0_1.index t 0 = 0 ∧ win0_1.index t 1 = t.val / 4)

theorem map3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)

theorem map4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)

theorem map5 : ∀ t : Fin cfg0.N, win0_5.index t 0 = 0 ∧ win0_5.index t 1 = t.val / 4 :=
  (by decide +kernel : ∀ t : Fin grid0.N, win0_5.index t 0 = 0 ∧ win0_5.index t 1 = t.val / 4)

theorem map6 : ∀ t : Fin cfg0.N, win0_6.index t 0 = 0 ∧ win0_6.index t 1 = t.val / 4 :=
  (by decide +kernel : ∀ t : Fin grid0.N, win0_6.index t 0 = 0 ∧ win0_6.index t 1 = t.val / 4)

theorem read0 (t : Fin cfg0.N) (a : Fin 2048) (b : Fin 128) : (iblk m c 0 t : Vec Ideal S2048x128 .f32) (ix2 a b) = aX m c (ix2 (row t a) (⟨512 + (col t b).val, by have := (col t b).isLt; omega⟩ : Fin 3072)) := by
  unfold iblk
  rw [View.read_apply]
  show V m c main_arg0 _ = _
  rw [V_main_arg0]
  show m (c.tc.loc main_arg0) _ = m (c.tc.loc main_arg0) _
  congr 1
  funext d
  apply Fin.ext
  match d with
  | ⟨0, _⟩ => show win0_0.index t 0 * 2048 + 1 * a.val = 2048 * (t.val % 4) + a.val; rw [(map0 t).1]; omega
  | ⟨1, _⟩ => show win0_0.index t 1 * 128 + 1 * b.val = 512 + (128 * (t.val / 4) + b.val); rw [(map0 t).2]; omega

theorem read1 (t : Fin cfg0.N) (a : Fin 8) (b : Fin 128) : (iblk m c 1 t : Vec Ideal S8x128 .f32) (ix2 a b) = aW m c (ix2 a (col t b)) := by
  unfold iblk
  rw [View.read_apply]
  show V m c main_arg1 _ = _
  rw [V_main_arg1]
  show m (c.tc.loc main_arg1) _ = m (c.tc.loc main_arg1) _
  congr 1
  funext d
  apply Fin.ext
  match d with
  | ⟨0, _⟩ => show win0_1.index t 0 * 8 + 1 * a.val = a.val; rw [(map1 t).1]; omega
  | ⟨1, _⟩ => show win0_1.index t 1 * 128 + 1 * b.val = 128 * (t.val / 4) + b.val; rw [(map1 t).2]; omega

theorem read3 (t : Fin cfg0.N) (a : Fin 2048) (b : Fin 128) : (iblk m c 3 t : Vec Ideal S2048x128 .f32) (ix2 a b) = aD m c (ix2 (row t a) (col t b)) := by
  unfold iblk
  rw [View.read_apply]
  show V m c main_arg3 _ = _
  rw [V_main_arg3]
  show m (c.tc.loc main_arg3) _ = m (c.tc.loc main_arg3) _
  congr 1
  funext d
  apply Fin.ext
  match d with
  | ⟨0, _⟩ => show win0_3.index t 0 * 2048 + 1 * a.val = 2048 * (t.val % 4) + a.val; rw [(map3 t).1]; omega
  | ⟨1, _⟩ => show win0_3.index t 1 * 128 + 1 * b.val = 128 * (t.val / 4) + b.val; rw [(map3 t).2]; omega

/-- A point's blocks of the rows, of the weight and of the incoming gradient. -/
abbrev bX (t : Fin cfg0.N) : Vec Ideal S2048x128 .f32 := iblk m c 0 t
abbrev bW (t : Fin cfg0.N) : Vec Ideal S8x128 .f32 := iblk m c 1 t
abbrev bD (t : Fin cfg0.N) : Vec Ideal S2048x128 .f32 := iblk m c 3 t

theorem lane_X (t : Fin cfg0.N) (a : Fin 2048) (b : Fin 128) : lane (bX m c t) b = seq (aX m c) (row t a) (col t b) := by
  funext s
  refine (read0 m c t s b).trans ?_
  refine congrArg (aX m c) (congrArg (fun r : Fin 8192 => ix2 r _) (Fin.ext ?_))
  show 2048 * (t.val % 4) + s.val = 2048 * ((2048 * (t.val % 4) + a.val) / 2048) + s.val
  omega

theorem lane_D (t : Fin cfg0.N) (a : Fin 2048) (b : Fin 128) : lane (bD m c t) b = gseq (aD m c) (row t a) (col t b) := by
  funext s
  refine (read3 m c t s b).trans ?_
  refine congrArg (aD m c) (congrArg (fun r : Fin 8192 => ix2 r _) (Fin.ext ?_))
  show 2048 * (t.val % 4) + s.val = 2048 * ((2048 * (t.val % 4) + a.val) / 2048) + s.val
  omega

theorem pos_at (t : Fin cfg0.N) (a : Fin 2048) : pos (row t a) = a := by
  apply Fin.ext
  show (2048 * (t.val % 4) + a.val) % 2048 = a.val
  omega

/-! ## The gradient of the rows -/

theorem out_rows (t : Fin cfg0.N) (i : S2048x128.Idx) : ((outsAt0 m c t.val t.isLt).1 i : EReal) = k0_pay5 (bW m c t) (bD m c t) i := by
  by_cases h : t.val % 4 = 0
  · rw [outsAt0_A m c t h (by omega)]
    frame_out
  · rw [outsAt0_B m c t h (by omega)]
    frame_out

theorem block_rows (t : Fin cfg0.N) (a : Fin 2048) (b : Fin 128) :
    ((outsAt0 m c t.val t.isLt).1 (ix2 a b) : EReal) = val_main_v75 (F := Ideal) (aW m c) (aD m c) (ix2 (row t a) (col t b)) := by
  rw [out_rows m c t, ref_rows, pos_at]
  refine (tile_at _ _ a b).trans ?_
  rw [lane_D m c t a b]
  unfold bW
  rw [read1, read1, read1, read1]
  ac_rfl

theorem flushed_rows (t : Fin cfg0.N) : (dats m 0 c).flushed 4 t = ((cfg0.win 4).blk t).view.read (Elt Ideal) (val_main_v75 (F := Ideal) (aW m c) (aD m c)) := by
  refine Eq.trans (b := ((outsAt0 m c t.val t.isLt).1 : FVec Ideal S2048x128 .bf16)) ?_ ?_
  · show (cfg0.win 4).cut (grid0.coords t) ((dats m 0 c).after 4 t) = _
    rw [after0_4]
    rfl
  · funext i
    obtain ⟨a, b, rfl⟩ : ∃ (a : Fin 2048) (b : Fin 128), i = (ix2 a b : S2048x128.Idx) := ⟨i 0, i 1, ValueIdx.eq_ix2 i⟩
    rw [View.read_apply]
    refine (block_rows m c t a b).trans (congrArg (val_main_v75 (F := Ideal) (aW m c) (aD m c)) ?_)
    funext d
    apply Fin.ext
    match d with
    | ⟨0, _⟩ => show 2048 * (t.val % 4) + a.val = win0_4.index t 0 * 2048 + 1 * a.val; rw [(map4 t).1]; omega
    | ⟨1, _⟩ => show 128 * (t.val / 4) + b.val = win0_4.index t 1 * 128 + 1 * b.val; rw [(map4 t).2]; omega

theorem final_rows : (dats m 0 c).arrAt 4 cfg0.N = val_main_v75 (F := Ideal) (aW m c) (aD m c) :=
  (dats m 0 c).arrAt_eq_of_cover 4 _ (fun t _ => flushed_rows m c t) fun i => by
    have h0 : (i 0 : Nat) < 8192 := (i 0).isLt
    have h1 : (i 1 : Nat) < 256 := (i 1).isLt
    obtain ⟨t, ht⟩ : ∃ t : Fin cfg0.N, t.val = 4 * ((i 1 : Nat) / 128) + (i 0 : Nat) / 2048 := ⟨⟨4 * ((i 1 : Nat) / 128) + (i 0 : Nat) / 2048, lt_of_lt_of_eq (by omega) N_0.symm⟩, rfl⟩
    refine ⟨t, flush0_4 t, ?_⟩
    show i ∈ ((View.whole main_v0_0).slice (win0_4.rect t)).set
    rw [View.set_slice_whole, Rect.mem_set_unit]
    intro a
    match a with
    | ⟨0, _⟩ => show win0_4.index t 0 * 2048 ≤ (i 0 : Nat) ∧ (i 0 : Nat) < win0_4.index t 0 * 2048 + 2048; rw [(map4 t).1]; omega
    | ⟨1, _⟩ => show win0_4.index t 1 * 128 ≤ (i 1 : Nat) ∧ (i 1 : Nat) < win0_4.index t 1 * 128 + 128; rw [(map4 t).2]; omega

/-! ## The gradient of the weight -/

/-- A point's share of an element. -/
def share_weight (t : Fin cfg0.N) (i : S8x128.Idx) : EReal := tileW (bX m c t) (bD m c t) i

theorem share_weight_at (t : Fin cfg0.N) (r : Fin 8) (b : Fin 128) :
    share_weight m c t (ix2 r b) = ∑ k : Fin 2048, (aD m c (ix2 (row t k) (col t b)) : EReal) * tap r.val (seq (aX m c) (row t k) (col t b)) (pos (row t k)) := by
  unfold share_weight
  rw [tileW_at]
  refine Finset.sum_congr rfl fun k _ => ?_
  rw [lane_X m c t k b, pos_at]
  exact congrArg (fun q : EReal => q * tap r.val (seq (aX m c) (row t k) (col t b)) k) (read3 m c t k b)

/-- The block after a point. -/
def held_weight (n : Nat) (h : n < cfg0.N) (i : S8x128.Idx) : EReal := (outsAt0 m c n h).2.1 i

/-- The first sequence's point starts the sum. -/
theorem held_weight_first (t : Fin cfg0.N) (h : t.val % 4 = 0) (i : S8x128.Idx) : held_weight m c t.val t.isLt i = 0 + share_weight m c t i := by
  rw [zero_add]
  unfold held_weight share_weight
  rw [outsAt0_A m c t h (by omega)]
  frame_out
  rfl

/-- Every later point adds its share. -/
theorem held_weight_next (t : Fin cfg0.N) (h : ¬t.val % 4 = 0) (i : S8x128.Idx) :
    held_weight m c t.val t.isLt i = held_weight m c (t.val - 1) (Nat.lt_of_le_of_lt (Nat.sub_le _ _) t.isLt) i + share_weight m c t i := by
  unfold held_weight share_weight
  rw [outsAt0_B m c t h (by omega)]
  frame_out
  exact pay3_eq _ _ _ i

theorem block_weight (t : Fin cfg0.N) (h : t.val % 4 = 3) (r : Fin 8) (b : Fin 128) :
    ((outsAt0 m c t.val t.isLt).2.1 (ix2 r b) : EReal) = val_main_v71 (F := Ideal) (aX m c) (aD m c) (ix2 r (col t b)) := by
  rw [ref_weight]
  have key := Pipeline.eq_sum_fin_of_reset_step_apply_of_flush (fun n h => held_weight m c n h) 4 (fun _ => (0 : EReal)) (share_weight m c)
    (held_weight_first m c) (held_weight_next m c) t h (ix2 r b)
  refine Eq.trans (b := held_weight m c t.val t.isLt (ix2 r b)) rfl (key.trans ?_)
  rw [zero_add]
  have hP := lt_of_lt_of_eq t.isLt N_0
  refine (Finset.sum_congr rfl fun s _ => share_weight_at m c _ r b).trans ?_
  refine Fin.sum_mul_add_congr (S := 4) (n := 2048) fun s k hl => ?_
  refine congrArg₂ (fun (i : Fin 8192) (j : Fin 256) => (aD m c (ix2 i j) : EReal) * tap r.val (seq (aX m c) i j) (pos i)) (Fin.ext ?_) (Fin.ext ?_)
  all_goals dsimp only
  all_goals omega

theorem flushed_weight (t : Fin cfg0.N) (h : t.val % 4 = 3) : (dats m 0 c).flushed 5 t = ((cfg0.win 5).blk t).view.read (Elt Ideal) (val_main_v71 (F := Ideal) (aX m c) (aD m c)) := by
  refine Eq.trans (b := ((outsAt0 m c t.val t.isLt).2.1 : FVec Ideal S8x128 .f32)) ?_ ?_
  · show (cfg0.win 5).cut (grid0.coords t) ((dats m 0 c).after 5 t) = _
    rw [after0_5]
    rfl
  · funext i
    obtain ⟨a, b, rfl⟩ : ∃ (a : Fin 8) (b : Fin 128), i = (ix2 a b : S8x128.Idx) := ⟨i 0, i 1, ValueIdx.eq_ix2 i⟩
    rw [View.read_apply]
    refine (block_weight m c t h a b).trans (congrArg (val_main_v71 (F := Ideal) (aX m c) (aD m c)) ?_)
    funext d
    apply Fin.ext
    match d with
    | ⟨0, _⟩ => show a.val = win0_5.index t 0 * 8 + 1 * a.val; rw [(map5 t).1]; omega
    | ⟨1, _⟩ => show 128 * (t.val / 4) + b.val = win0_5.index t 1 * 128 + 1 * b.val; rw [(map5 t).2]; omega

theorem final_weight : (dats m 0 c).arrAt 5 cfg0.N = val_main_v71 (F := Ideal) (aX m c) (aD m c) :=
  (dats m 0 c).arrAt_eq_of_cover 5 _ (fun t hf => flushed_weight m c t ((flush0_5 t).mp hf)) fun i => by
    have h0 : (i 0 : Nat) < 8 := (i 0).isLt
    have h1 : (i 1 : Nat) < 256 := (i 1).isLt
    obtain ⟨t, ht⟩ : ∃ t : Fin cfg0.N, t.val = 4 * ((i 1 : Nat) / 128) + 3 := ⟨⟨4 * ((i 1 : Nat) / 128) + 3, lt_of_lt_of_eq (by omega) N_0.symm⟩, rfl⟩
    refine ⟨t, (flush0_5 t).mpr (by omega), ?_⟩
    show i ∈ ((View.whole main_v0_1).slice (win0_5.rect t)).set
    rw [View.set_slice_whole, Rect.mem_set_unit]
    intro a
    match a with
    | ⟨0, _⟩ => show win0_5.index t 0 * 8 ≤ (i 0 : Nat) ∧ (i 0 : Nat) < win0_5.index t 0 * 8 + 8; rw [(map5 t).1]; omega
    | ⟨1, _⟩ => show win0_5.index t 1 * 128 ≤ (i 1 : Nat) ∧ (i 1 : Nat) < win0_5.index t 1 * 128 + 128; rw [(map5 t).2]; omega

/-! ## The gradient of the bias -/

/-- A point's share of an element. -/
def share_bias (t : Fin cfg0.N) (i : S1x128.Idx) : EReal := k0_pay2 (bD m c t) i

theorem share_bias_at (t : Fin cfg0.N) (r : Fin 1) (b : Fin 128) :
    share_bias m c t (ix2 r b) = ∑ k : Fin 2048, (aD m c (ix2 (row t k) (col t b)) : EReal) := by
  unfold share_bias
  rw [tileB_at]
  exact Finset.sum_congr rfl fun k _ => read3 m c t k b

/-- The block after a point. -/
def held_bias (n : Nat) (h : n < cfg0.N) (i : S1x128.Idx) : EReal := (outsAt0 m c n h).2.2 i

/-- The first sequence's point starts the sum. -/
theorem held_bias_first (t : Fin cfg0.N) (h : t.val % 4 = 0) (i : S1x128.Idx) : held_bias m c t.val t.isLt i = 0 + share_bias m c t i := by
  rw [zero_add]
  unfold held_bias share_bias
  rw [outsAt0_A m c t h (by omega)]
  frame_out

/-- Every later point adds its share. -/
theorem held_bias_next (t : Fin cfg0.N) (h : ¬t.val % 4 = 0) (i : S1x128.Idx) :
    held_bias m c t.val t.isLt i = held_bias m c (t.val - 1) (Nat.lt_of_le_of_lt (Nat.sub_le _ _) t.isLt) i + share_bias m c t i := by
  unfold held_bias share_bias
  rw [outsAt0_B m c t h (by omega)]
  frame_out
  exact pay4_eq _ _ i

theorem block_bias (t : Fin cfg0.N) (h : t.val % 4 = 3) (r : Fin 1) (b : Fin 128) :
    ((outsAt0 m c t.val t.isLt).2.2 (ix2 r b) : EReal) = val_main_v61 (F := Ideal) (aD m c) (ix2 r (col t b)) := by
  rw [ref_bias]
  have key := Pipeline.eq_sum_fin_of_reset_step_apply_of_flush (fun n h => held_bias m c n h) 4 (fun _ => (0 : EReal)) (share_bias m c)
    (held_bias_first m c) (held_bias_next m c) t h (ix2 r b)
  refine Eq.trans (b := held_bias m c t.val t.isLt (ix2 r b)) rfl (key.trans ?_)
  rw [zero_add]
  have hP := lt_of_lt_of_eq t.isLt N_0
  refine (Finset.sum_congr rfl fun s _ => share_bias_at m c _ r b).trans ?_
  refine Fin.sum_mul_add_congr (S := 4) (n := 2048) fun s k hl => ?_
  refine congrArg₂ (fun (i : Fin 8192) (j : Fin 256) => (aD m c (ix2 i j) : EReal)) (Fin.ext ?_) (Fin.ext ?_)
  all_goals dsimp only
  all_goals omega

theorem flushed_bias (t : Fin cfg0.N) (h : t.val % 4 = 3) : (dats m 0 c).flushed 6 t = ((cfg0.win 6).blk t).view.read (Elt Ideal) (val_main_v61 (F := Ideal) (aD m c)) := by
  refine Eq.trans (b := ((outsAt0 m c t.val t.isLt).2.2 : FVec Ideal S1x128 .f32)) ?_ ?_
  · show (cfg0.win 6).cut (grid0.coords t) ((dats m 0 c).after 6 t) = _
    rw [after0_6]
    rfl
  · funext i
    obtain ⟨a, b, rfl⟩ : ∃ (a : Fin 1) (b : Fin 128), i = (ix2 a b : S1x128.Idx) := ⟨i 0, i 1, ValueIdx.eq_ix2 i⟩
    rw [View.read_apply]
    refine (block_bias m c t h a b).trans (congrArg (val_main_v61 (F := Ideal) (aD m c)) ?_)
    funext d
    apply Fin.ext
    match d with
    | ⟨0, _⟩ => show a.val = win0_6.index t 0 * 1 + 1 * a.val; rw [(map6 t).1]; omega
    | ⟨1, _⟩ => show 128 * (t.val / 4) + b.val = win0_6.index t 1 * 128 + 1 * b.val; rw [(map6 t).2]; omega

theorem final_bias : (dats m 0 c).arrAt 6 cfg0.N = val_main_v61 (F := Ideal) (aD m c) :=
  (dats m 0 c).arrAt_eq_of_cover 6 _ (fun t hf => flushed_bias m c t ((flush0_6 t).mp hf)) fun i => by
    have h0 : (i 0 : Nat) < 1 := (i 0).isLt
    have h1 : (i 1 : Nat) < 256 := (i 1).isLt
    obtain ⟨t, ht⟩ : ∃ t : Fin cfg0.N, t.val = 4 * ((i 1 : Nat) / 128) + 3 := ⟨⟨4 * ((i 1 : Nat) / 128) + 3, lt_of_lt_of_eq (by omega) N_0.symm⟩, rfl⟩
    refine ⟨t, (flush0_6 t).mpr (by omega), ?_⟩
    show i ∈ ((View.whole main_v0_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [(map6 t).1]; omega
    | ⟨1, _⟩ => show win0_6.index t 1 * 128 ≤ (i 1 : Nat) ∧ (i 1 : Nat) < win0_6.index t 1 * 128 + 128; rw [(map6 t).2]; omega

/-- The two programs agree. -/
theorem agree : Cert.algebraic_DconvIdeal_DconvRefIdeal := by
  intro m g m' g' _ hargs
  refine ⟨fun c => val_main_v75 (F := Ideal) (aW m c) (aD m c), fun c => val_main_v71 (F := Ideal) (aX m c) (aD m c), fun c => val_main_v61 (F := Ideal) (aD m c), ?_, ?_⟩
  · refine (θ_run defs _ _).mono (fun r h c => ?_) (Cert.DconvIdeal.Value.run_blocks m g)
    obtain ⟨h4, h5, h6, hk⟩ := h c
    exact ⟨h4.trans (final_rows m c), h5.trans (final_weight m c), h6.trans (final_bias m c), hk⟩
  · refine (θ_run Cert.DconvRefIdeal.defs _ _).mono (fun r h c => ?_) (Cert.DconvRefIdeal.Value.run m' g')
    obtain ⟨h4, h5, h6, hk⟩ := h c
    obtain ⟨a0, a1, a2, a3⟩ := hargs c
    refine ⟨h4.trans ((val_main_v75_eq _ _).trans ?_), h5.trans ((val_main_v71_eq _ _).trans ?_), h6.trans ((val_main_v61_eq _).trans ?_), hk⟩
    · rw [a1, a3]
    · rw [a0, a3]
    · rw [a3]

end Cert.DconvIdeal.Walk

end
-- ==== Proof.lean ====
module

public import proofs.«01_k».proof.Defs
public import proofs.«01_k».proof.Proof.Frames
public import proofs.«01_k».proof.Proof.RefFrames
public import proofs.«01_k».proof.Proof.DactValue
public import proofs.«01_k».proof.Proof.FoxRun
public import proofs.«01_k».proof.Proof.FoxValue
public import proofs.«01_k».proof.Proof.Du2Value
public import proofs.«01_k».proof.Proof.Du1Value
public import proofs.«01_k».proof.Proof.DwgValue
public import proofs.«01_k».proof.Proof.DwdValue
public import proofs.«01_k».proof.Proof.DwinValue
public import proofs.«01_k».proof.Proof.DwoutValue
public import proofs.«01_k».proof.Proof.DwpgValue
public import proofs.«01_k».proof.Proof.Du3Value
public import proofs.«01_k».proof.Proof.DycatValue
public import proofs.«01_k».proof.Proof.GuValue
public import proofs.«01_k».proof.Proof.DownValue
public import proofs.«01_k».proof.Proof.InpValue
public import proofs.«01_k».proof.Proof.OutValue
public import proofs.«01_k».proof.Proof.PgValue
public import proofs.«01_k».proof.Proof.DwppValue
public import proofs.«01_k».proof.Proof.PpValue
public import proofs.«01_k».proof.Proof.ConvValue
public import proofs.«01_k».proof.Proof.DconvValue
public import proofs.«01_k».proof.Proof.Gen.Fox
public import proofs.«01_k».proof.Proof.Gen.Dact
public import proofs.«01_k».proof.Proof.Gen.Dact.Frame
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.Gen.Pre_fox_finite
public import proofs.«01_k».proof.Proof.Gen.Pre_ffn_finite
public import proofs.«01_k».proof.Proof.Gen.Du2
public import proofs.«01_k».proof.Proof.Gen.Du2.Frame
public import proofs.«01_k».proof.Proof.Gen.Du2Ideal.Frame
public import proofs.«01_k».proof.Proof.Gen.Du2RefIdeal
public import proofs.«01_k».proof.Proof.Gen.Du2RefIdeal.Run
public import proofs.«01_k».proof.Proof.Gen.Du2RefIdeal.Read
public import proofs.«01_k».proof.Proof.Gen.Pre_du2_finite
public import proofs.«01_k».proof.Proof.Gen.Du1
public import proofs.«01_k».proof.Proof.Gen.Du1.Frame
public import proofs.«01_k».proof.Proof.Gen.Du1Ideal.Frame
public import proofs.«01_k».proof.Proof.Gen.Du1RefIdeal
public import proofs.«01_k».proof.Proof.Gen.Du1RefIdeal.Run
public import proofs.«01_k».proof.Proof.Gen.Du1RefIdeal.Read
public import proofs.«01_k».proof.Proof.Gen.Pre_du1_finite
public import proofs.«01_k».proof.Proof.Gen.Dwg
public import proofs.«01_k».proof.Proof.Gen.Dwg.Frame
public import proofs.«01_k».proof.Proof.Gen.DwgIdeal.Value
public import proofs.«01_k».proof.Proof.Gen.DwgRefIdeal
public import proofs.«01_k».proof.Proof.Gen.DwgRefIdeal.Run
public import proofs.«01_k».proof.Proof.Gen.DwgRefIdeal.Read
public import proofs.«01_k».proof.Proof.Gen.Dwd
public import proofs.«01_k».proof.Proof.Gen.Dwd.Frame
public import proofs.«01_k».proof.Proof.Gen.DwdIdeal.Value
public import proofs.«01_k».proof.Proof.Gen.DwdRefIdeal
public import proofs.«01_k».proof.Proof.Gen.DwdRefIdeal.Run
public import proofs.«01_k».proof.Proof.Gen.DwdRefIdeal.Read
public import proofs.«01_k».proof.Proof.Gen.Dwin
public import proofs.«01_k».proof.Proof.Gen.Dwin.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Gen.Dwout
public import proofs.«01_k».proof.Proof.Gen.Dwout.Frame
public import proofs.«01_k».proof.Proof.Gen.DwoutIdeal.Value
public import proofs.«01_k».proof.Proof.Gen.DwoutRefIdeal
public import proofs.«01_k».proof.Proof.Gen.DwoutRefIdeal.Run
public import proofs.«01_k».proof.Proof.Gen.DwoutRefIdeal.Read
public import proofs.«01_k».proof.Proof.Gen.Dwpg
public import proofs.«01_k».proof.Proof.Gen.Dwpg.Frame
public import proofs.«01_k».proof.Proof.Gen.DwpgIdeal.Value
public import proofs.«01_k».proof.Proof.Gen.DwpgRefIdeal
public import proofs.«01_k».proof.Proof.Gen.DwpgRefIdeal.Run
public import proofs.«01_k».proof.Proof.Gen.DwpgRefIdeal.Read
public import proofs.«01_k».proof.Proof.Gen.Du3
public import proofs.«01_k».proof.Proof.Gen.Du3.Frame
public import proofs.«01_k».proof.Proof.Gen.Du3Ideal.Frame
public import proofs.«01_k».proof.Proof.Gen.Du3RefIdeal
public import proofs.«01_k».proof.Proof.Gen.Du3RefIdeal.Run
public import proofs.«01_k».proof.Proof.Gen.Du3RefIdeal.Read
public import proofs.«01_k».proof.Proof.Gen.Pre_du3_finite
public import proofs.«01_k».proof.Proof.Gen.Dycat
public import proofs.«01_k».proof.Proof.Gen.Dycat.Frame
public import proofs.«01_k».proof.Proof.Gen.DycatIdeal.Value
public import proofs.«01_k».proof.Proof.Gen.DycatRefIdeal
public import proofs.«01_k».proof.Proof.Gen.DycatRefIdeal.Run
public import proofs.«01_k».proof.Proof.Gen.DycatRefIdeal.Read
public import proofs.«01_k».proof.Proof.Gen.Gu
public import proofs.«01_k».proof.Proof.Gen.Gu.Frame
public import proofs.«01_k».proof.Proof.Gen.GuIdeal.Value
public import proofs.«01_k».proof.Proof.Gen.GuRefIdeal
public import proofs.«01_k».proof.Proof.Gen.GuRefIdeal.Run
public import proofs.«01_k».proof.Proof.Gen.GuRefIdeal.Read
public import proofs.«01_k».proof.Proof.Gen.Down
public import proofs.«01_k».proof.Proof.Gen.Down.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Inp
public import proofs.«01_k».proof.Proof.Gen.Inp.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.Gen.Out
public import proofs.«01_k».proof.Proof.Gen.Out.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Pg
public import proofs.«01_k».proof.Proof.Gen.Pg.Frame
public import proofs.«01_k».proof.Proof.Gen.PgIdeal.Value
public import proofs.«01_k».proof.Proof.Gen.PgRefIdeal
public import proofs.«01_k».proof.Proof.Gen.PgRefIdeal.Run
public import proofs.«01_k».proof.Proof.Gen.PgRefIdeal.Read
public import proofs.«01_k».proof.Proof.Gen.Dwpp
public import proofs.«01_k».proof.Proof.Gen.Dwpp.Frame
public import proofs.«01_k».proof.Proof.Gen.DwppIdeal.Value
public import proofs.«01_k».proof.Proof.Gen.DwppRefIdeal
public import proofs.«01_k».proof.Proof.Gen.DwppRefIdeal.Run
public import proofs.«01_k».proof.Proof.Gen.DwppRefIdeal.Read
public import proofs.«01_k».proof.Proof.Gen.Pp
public import proofs.«01_k».proof.Proof.Gen.Pp.Frame
public import proofs.«01_k».proof.Proof.Gen.PpIdeal.Value
public import proofs.«01_k».proof.Proof.Gen.PpRefIdeal
public import proofs.«01_k».proof.Proof.Gen.PpRefIdeal.Run
public import proofs.«01_k».proof.Proof.Gen.PpRefIdeal.Read
public import proofs.«01_k».proof.Proof.Gen.Conv
public import proofs.«01_k».proof.Proof.Gen.Conv.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Dconv
public import proofs.«01_k».proof.Proof.Gen.Dconv.Frame
public import proofs.«01_k».proof.Proof.Gen.DconvIdeal.Value
public import proofs.«01_k».proof.Proof.Gen.DconvRefIdeal
public import proofs.«01_k».proof.Proof.Gen.DconvRefIdeal.Run
public import proofs.«01_k».proof.Proof.Gen.DconvRefIdeal.Read
public import Idealize.ShloMosaic.Adequacy
public import Idealize.ShloMosaic.Init

@[expose] public section

noncomputable section

namespace Cert.Proof

open Idealize.ShloMosaic Idealize.SL.Sem

theorem claim : Cert.Claim := ⟨Cert.Fox.Gen.facts, Cert.FoxIdeal.Gen.facts, Cert.FoxRefIdeal.Gen.facts, Cert.Dact.Gen.facts, Cert.DactIdeal.Gen.facts, Cert.DactRefIdeal.Gen.facts, Cert.Du2.Gen.facts, Cert.Du2Ideal.Gen.facts, Cert.Du2RefIdeal.Gen.facts, Cert.Du1.Gen.facts, Cert.Du1Ideal.Gen.facts, Cert.Du1RefIdeal.Gen.facts, Cert.Dwg.Gen.facts, Cert.DwgIdeal.Gen.facts, Cert.DwgRefIdeal.Gen.facts, Cert.Dwd.Gen.facts, Cert.DwdIdeal.Gen.facts, Cert.DwdRefIdeal.Gen.facts, Cert.Dwin.Gen.facts, Cert.DwinIdeal.Gen.facts, Cert.DwinRefIdeal.Gen.facts, Cert.Dwout.Gen.facts, Cert.DwoutIdeal.Gen.facts, Cert.DwoutRefIdeal.Gen.facts, Cert.Dwpg.Gen.facts, Cert.DwpgIdeal.Gen.facts, Cert.DwpgRefIdeal.Gen.facts, Cert.Du3.Gen.facts, Cert.Du3Ideal.Gen.facts, Cert.Du3RefIdeal.Gen.facts, Cert.Dycat.Gen.facts, Cert.DycatIdeal.Gen.facts, Cert.DycatRefIdeal.Gen.facts, Cert.Gu.Gen.facts, Cert.GuIdeal.Gen.facts, Cert.GuRefIdeal.Gen.facts, Cert.Down.Gen.facts, Cert.DownIdeal.Gen.facts, Cert.DownRefIdeal.Gen.facts, Cert.Inp.Gen.facts, Cert.InpIdeal.Gen.facts, Cert.InpRefIdeal.Gen.facts, Cert.Out.Gen.facts, Cert.OutIdeal.Gen.facts, Cert.OutRefIdeal.Gen.facts, Cert.Pg.Gen.facts, Cert.PgIdeal.Gen.facts, Cert.PgRefIdeal.Gen.facts, Cert.Dwpp.Gen.facts, Cert.DwppIdeal.Gen.facts, Cert.DwppRefIdeal.Gen.facts, Cert.Pp.Gen.facts, Cert.PpIdeal.Gen.facts, Cert.PpRefIdeal.Gen.facts, Cert.Conv.Gen.facts, Cert.ConvIdeal.Gen.facts, Cert.ConvRefIdeal.Gen.facts, Cert.Dconv.Gen.facts, Cert.DconvIdeal.Gen.facts, Cert.DconvRefIdeal.Gen.facts, Cert.Pre_fox_finite.Gen.facts, Cert.Pre_ffn_finite.Gen.facts, Cert.Pre_du2_finite.Gen.facts, Cert.Pre_du1_finite.Gen.facts, Cert.Pre_du3_finite.Gen.facts,
  frame_fox,
  fun m ρ _ => Cert.FoxIdeal.Walk.frame_any m ρ,
  fun m ρ _ => Cert.FoxIdeal.Walk.frame_any m ρ,
  fun m ρ _ => frame_foxRef m ρ,
  fun m ρ _ => frame_foxRef m ρ,
  fun m ρ _ => Cert.Dact.Gen.frame m ρ,
  fun m ρ _ => Cert.DactIdeal.Gen.frame m ρ,
  fun m ρ _ => Cert.DactIdeal.Gen.frame m ρ,
  fun m ρ _ => frame_dactRef m ρ,
  fun m ρ _ => frame_dactRef m ρ,
  fun m ρ _ => Cert.Du2.Gen.frame m ρ,
  fun m ρ _ => Cert.Du2Ideal.Gen.frame m ρ,
  fun m ρ _ => Cert.Du2Ideal.Gen.frame m ρ,
  fun m ρ _ => frame_du2Ref m ρ,
  fun m ρ _ => frame_du2Ref m ρ,
  fun m ρ _ => Cert.Du1.Gen.frame m ρ,
  fun m ρ _ => Cert.Du1Ideal.Gen.frame m ρ,
  fun m ρ _ => Cert.Du1Ideal.Gen.frame m ρ,
  fun m ρ _ => frame_du1Ref m ρ,
  fun m ρ _ => frame_du1Ref m ρ,
  fun m ρ _ => Cert.Dwg.Gen.frame m ρ,
  fun m ρ _ => Cert.DwgIdeal.Gen.frame m ρ,
  fun m ρ _ => frame_dwgRef m ρ,
  fun m ρ _ => Cert.Dwd.Gen.frame m ρ,
  fun m ρ _ => Cert.DwdIdeal.Gen.frame m ρ,
  fun m ρ _ => frame_dwdRef m ρ,
  fun m ρ _ => Cert.Dwin.Gen.frame m ρ,
  fun m ρ _ => Cert.DwinIdeal.Gen.frame m ρ,
  fun m ρ _ => frame_dwinRef m ρ,
  fun m ρ _ => Cert.Dwout.Gen.frame m ρ,
  fun m ρ _ => Cert.DwoutIdeal.Gen.frame m ρ,
  fun m ρ _ => frame_dwoutRef m ρ,
  fun m ρ _ => Cert.Dwpg.Gen.frame m ρ,
  fun m ρ _ => Cert.DwpgIdeal.Gen.frame m ρ,
  fun m ρ _ => frame_dwpgRef m ρ,
  fun m ρ _ => Cert.Du3.Gen.frame m ρ,
  fun m ρ _ => Cert.Du3Ideal.Gen.frame m ρ,
  fun m ρ _ => Cert.Du3Ideal.Gen.frame m ρ,
  fun m ρ _ => frame_du3Ref m ρ,
  fun m ρ _ => frame_du3Ref m ρ,
  fun m ρ _ => Cert.Dycat.Gen.frame m ρ,
  fun m ρ _ => Cert.DycatIdeal.Gen.frame m ρ,
  fun m ρ _ => frame_dycatRef m ρ,
  fun m ρ _ => Cert.Gu.Gen.frame m ρ,
  fun m ρ _ => Cert.GuIdeal.Gen.frame m ρ,
  fun m ρ _ => frame_guRef m ρ,
  fun m ρ _ => Cert.Down.Gen.frame m ρ,
  fun m ρ _ => Cert.DownIdeal.Gen.frame m ρ,
  fun m ρ _ => frame_downRef m ρ,
  fun m ρ _ => Cert.Inp.Gen.frame m ρ,
  fun m ρ _ => Cert.InpIdeal.Gen.frame m ρ,
  fun m ρ _ => frame_inpRef m ρ,
  fun m ρ _ => Cert.Out.Gen.frame m ρ,
  fun m ρ _ => Cert.OutIdeal.Gen.frame m ρ,
  fun m ρ _ => frame_outRef m ρ,
  fun m ρ _ => Cert.Pg.Gen.frame m ρ,
  fun m ρ _ => Cert.PgIdeal.Gen.frame m ρ,
  fun m ρ _ => frame_pgRef m ρ,
  fun m ρ _ => Cert.Dwpp.Gen.frame m ρ,
  fun m ρ _ => Cert.DwppIdeal.Gen.frame m ρ,
  fun m ρ _ => frame_dwppRef m ρ,
  fun m ρ _ => Cert.Pp.Gen.frame m ρ,
  fun m ρ _ => Cert.PpIdeal.Gen.frame m ρ,
  fun m ρ _ => frame_ppRef m ρ,
  fun m ρ _ => Cert.Conv.Gen.frame m ρ,
  fun m ρ _ => Cert.ConvIdeal.Gen.frame m ρ,
  fun m ρ _ => frame_convRef m ρ,
  fun m ρ _ => Cert.Dconv.Gen.frame m ρ,
  fun m ρ _ => Cert.DconvIdeal.Gen.frame m ρ,
  fun m ρ _ => frame_dconvRef m ρ,
  trivial, Cert.FoxIdeal.Walk.agree, trivial, Cert.DactIdeal.Walk.agree, trivial, Cert.Du2Ideal.Walk.agree, trivial, Cert.Du1Ideal.Walk.agree, trivial, Cert.DwgIdeal.Walk.agree, trivial, Cert.DwdIdeal.Walk.agree, trivial, Cert.DwinIdeal.Walk.agree, trivial, Cert.DwoutIdeal.Walk.agree, trivial, Cert.DwpgIdeal.Walk.agree, trivial, Cert.Du3Ideal.Walk.agree, trivial, Cert.DycatIdeal.Walk.agree, trivial, Cert.GuIdeal.Walk.agree, trivial, Cert.DownIdeal.Walk.agree, trivial, Cert.InpIdeal.Walk.agree, trivial, Cert.OutIdeal.Walk.agree, trivial, Cert.PgIdeal.Walk.agree, trivial, Cert.DwppIdeal.Walk.agree, trivial, Cert.PpIdeal.Walk.agree, trivial, Cert.ConvIdeal.Walk.agree, trivial, Cert.DconvIdeal.Walk.agree⟩

end Cert.Proof

end
